-- ==== Defs.lean ====
def Pre_Kernel [hPre_index_in_range : Cert.Pre_index_in_range.Facts] (m : (ℓ : Loc Cert.Kernel.nD Cert.Kernel.τ Cert.Kernel.sig) → Buf (Elt Bits) ℓ) : Prop :=
  ∀ c : Dev Cert.Kernel.nD,
    (Cert.Pre_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_range [hPre_index_in_range : Cert.Pre_index_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_index_in_range : Cert.Pre_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_index_in_range [hReferenceIdeal : Cert.ReferenceIdeal.Facts] [hPre_index_in_range : Cert.Pre_index_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_index_in_range : Cert.Pre_index_in_range.Facts),
    quiescent_Kernel (hKernel := hKernel) (hPre_index_in_range := hPre_index_in_range)
    ∧ quiescent_KernelIdeal (hKernelIdeal := hKernelIdeal) (hPre_index_in_range := hPre_index_in_range)
    ∧ quiescent_ReferenceIdeal (hReferenceIdeal := hReferenceIdeal)
    ∧ quiescent_ReferenceIdeal_pre_index_in_range (hReferenceIdeal := hReferenceIdeal) (hPre_index_in_range := hPre_index_in_range)
    ∧ preserves_Kernel_KernelIdeal
    ∧ algebraic_KernelIdeal_ReferenceIdeal (hKernelIdeal := hKernelIdeal) (hReferenceIdeal := hReferenceIdeal) (hPre_index_in_range := hPre_index_in_range)
-- ==== Pre_index_in_range.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x512 .f32) (main_arg1 : IVec S100000 32) (main_arg2 : FVec F S512x256 .f32) (main_arg3 : FVec F S256 .f32) (main_arg4 : FVec F S256x128 .f32) (main_arg5 : FVec F S128 .f32) (main_arg6 : FVec F S128x1 .f32) (main_arg7 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S50x1x2000 : Shape := ⟨3, ![50, 1, 2000]⟩
abbrev S1x256 : Shape := ⟨2, ![1, 256]⟩
abbrev S1x128 : Shape := ⟨2, ![1, 128]⟩
abbrev S1x1 : Shape := ⟨2, ![1, 1]⟩
abbrev S50000x512 : Shape := ⟨2, ![50000, 512]⟩
abbrev S2000x512 : Shape := ⟨2, ![2000, 512]⟩
abbrev S1x1x2000 : Shape := ⟨3, ![1, 1, 2000]⟩
abbrev S2000x256 : Shape := ⟨2, ![2000, 256]⟩
abbrev S2000x128 : Shape := ⟨2, ![2000, 128]⟩
abbrev S2000 : Shape := ⟨1, ![2000]⟩
abbrev S2000x1 : Shape := ⟨2, ![2000, 1]⟩
abbrev S1x2000 : Shape := ⟨2, ![1, 2000]⟩
abbrev S256x2000 : Shape := ⟨2, ![256, 2000]⟩
abbrev S16x256x512 : Shape := ⟨3, ![16, 256, 512]⟩
abbrev S112x256 : Shape := ⟨2, ![112, 256]⟩
abbrev S256x256 : Shape := ⟨2, ![256, 256]⟩
abbrev S_ : Shape := ⟨0, ![]⟩
abbrev S16 : Shape := ⟨1, ![16]⟩
abbrev S1x16 : Shape := ⟨2, ![1, 16]⟩
abbrev S112 : Shape := ⟨1, ![112]⟩
abbrev S8x256 : Shape := ⟨2, ![8, 256]⟩
abbrev S8 : Shape := ⟨1, ![8]⟩
abbrev S1x256x256 : Shape := ⟨3, ![1, 256, 256]⟩
abbrev S256x512 : Shape := ⟨2, ![256, 512]⟩
abbrev S1x256x512 : Shape := ⟨3, ![1, 256, 512]⟩
abbrev S256x1 : Shape := ⟨2, ![256, 1]⟩

abbrev nBuf : Table → Nat
  | .hbm => 25
  | .local .tc .vmem => 33
  | .local .scVector .vmem => 10
  | _ => 0

abbrev bufTy : (tb : Table) → Fin (nBuf tb) → BufTy
  | .hbm, ⟨0, _⟩ => ⟨S100000x512, .f32⟩
  | .hbm, ⟨1, _⟩ => ⟨S100000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50x1x2000, .i32⟩
  | .hbm, ⟨9, _⟩ => ⟨S1x256, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S50000x512, .f32⟩
  | .hbm, ⟨14, _⟩ => ⟨S256x128, .f32⟩
  | .hbm, ⟨15, _⟩ => ⟨S16x256x512, .f32⟩
  | .hbm, ⟨16, _⟩ => ⟨S50x1x2000, .i32⟩
  | .hbm, ⟨17, _⟩ => ⟨S1x256, .f32⟩
  | .hbm, ⟨18, _⟩ => ⟨S1x128, .f32⟩
  | .hbm, ⟨19, _⟩ => ⟨S1x128, .f32⟩
  | .hbm, ⟨20, _⟩ => ⟨S1x1, .f32⟩
  | .hbm, ⟨21, _⟩ => ⟨S50000x512, .f32⟩
  | .hbm, ⟨22, _⟩ => ⟨S256x128, .f32⟩
  | .hbm, ⟨23, _⟩ => ⟨S16x256x512, .f32⟩
  | .hbm, ⟨24, _⟩ => ⟨S256x512, .f32⟩
  | .local .tc .vmem, ⟨0, _⟩ => ⟨S2000x512, .f32⟩
  | .local .tc .vmem, ⟨1, _⟩ => ⟨S2000x512, .f32⟩
  | .local .tc .vmem, ⟨2, _⟩ => ⟨S1x1x2000, .i32⟩
  | .local .tc .vmem, ⟨3, _⟩ => ⟨S1x1x2000, .i32⟩
  | .local .tc .vmem, ⟨4, _⟩ => ⟨S512x256, .f32⟩
  | .local .tc .vmem, ⟨5, _⟩ => ⟨S1x256, .f32⟩
  | .local .tc .vmem, ⟨6, _⟩ => ⟨S256x128, .f32⟩
  | .local .tc .vmem, ⟨7, _⟩ => ⟨S1x128, .f32⟩
  | .local .tc .vmem, ⟨8, _⟩ => ⟨S1x128, .f32⟩
  | .local .tc .vmem, ⟨9, _⟩ => ⟨S1x1, .f32⟩
  | .local .tc .vmem, ⟨10, _⟩ => ⟨S2000x512, .f32⟩
  | .local .tc .vmem, ⟨11, _⟩ => ⟨S2000x512, .f32⟩
  | .local .tc .vmem, ⟨12, _⟩ => ⟨S256x128, .f32⟩
  | .local .tc .vmem, ⟨13, _⟩ => ⟨S2000x512, .f32⟩
  | .local .tc .vmem, ⟨14, _⟩ => ⟨S2000x512, .f32⟩
  | .local .tc .vmem, ⟨15, _⟩ => ⟨S1x1x2000, .i32⟩
  | .local .tc .vmem, ⟨16, _⟩ => ⟨S1x1x2000, .i32⟩
  | .local .tc .vmem, ⟨17, _⟩ => ⟨S512x256, .f32⟩
  | .local .tc .vmem, ⟨18, _⟩ => ⟨S1x256, .f32⟩
  | .local .tc .vmem, ⟨19, _⟩ => ⟨S256x128, .f32⟩
  | .local .tc .vmem, ⟨20, _⟩ => ⟨S1x128, .f32⟩
  | .local .tc .vmem, ⟨21, _⟩ => ⟨S1x128, .f32⟩
  | .local .tc .vmem, ⟨22, _⟩ => ⟨S1x1, .f32⟩
  | .local .tc .vmem, ⟨23, _⟩ => ⟨S2000x512, .f32⟩
  | .local .tc .vmem, ⟨24, _⟩ => ⟨S2000x512, .f32⟩
  | .local .tc .vmem, ⟨25, _⟩ => ⟨S256x128, .f32⟩
  | .local .tc .vmem, ⟨26, _⟩ => ⟨S1x256x512, .f32⟩
  | .local .tc .vmem, ⟨27, _⟩ => ⟨S1x256x512, .f32⟩
  | .local .tc .vmem, ⟨28, _⟩ => ⟨S1x256x512, .f32⟩
  | .local .tc .vmem, ⟨29, _⟩ => ⟨S1x256x512, .f32⟩
  | .local .tc .vmem, ⟨30, _⟩ => ⟨S256x128, .f32⟩
  | .local .tc .vmem, ⟨31, _⟩ => ⟨S256x128, .f32⟩
  | .local .tc .vmem, ⟨32, _⟩ => ⟨S256x512, .f32⟩
  | .local .scVector .vmem, ⟨0, _⟩ => ⟨S112x256, .f32⟩
  | .local .scVector .vmem, ⟨1, _⟩ => ⟨S112x256, .f32⟩
  | .local .scVector .vmem, ⟨2, _⟩ => ⟨S128, .i32⟩
  | .local .scVector .vmem, ⟨3, _⟩ => ⟨S128, .i32⟩
  | .local .scVector .vmem, ⟨4, _⟩ => ⟨S256x256, .f32⟩
  | .local .scVector .vmem, ⟨5, _⟩ => ⟨S112x256, .f32⟩
  | .local .scVector .vmem, ⟨6, _⟩ => ⟨S112x256, .f32⟩
  | .local .scVector .vmem, ⟨7, _⟩ => ⟨S128, .i32⟩
  | .local .scVector .vmem, ⟨8, _⟩ => ⟨S128, .i32⟩
  | .local .scVector .vmem, ⟨9, _⟩ => ⟨S256x256, .f32⟩
  | _, _ => ⟨S100000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTables nBuf rfl bufTy 4 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev main_v5_0_scv : Ref sig .scVector := ⟨.hbm, 13, rfl⟩
abbrev main_arg1_scv : Ref sig .scVector := ⟨.hbm, 1, rfl⟩
abbrev main_v6_scv : Ref sig .scVector := ⟨.hbm, 15, rfl⟩
abbrev main_v12_0_scv : Ref sig .scVector := ⟨.hbm, 21, rfl⟩
abbrev main_v13_scv : Ref sig .scVector := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc2_stg9_0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc3_scratch3 : Ref sig .scVector := ⟨.vmem, 8, rfl⟩
abbrev cc3_scratch4 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33
abbrev cc2_sem9_0 : DmaSem sig := 34
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![2, 16], ![false, false]⟩

@[reducible] def k1_t1_loop : Scf.Loop 32 :=
  let c0_i32_2 : BitVec 32 := 0#32
  let c4096_i32 : BitVec 32 := 4096#32
  let v6 : BitVec 32 := Scalar.addi c0_i32_2 c4096_i32
  let c1_i32 : BitVec 32 := 1#32
  ⟨c0_i32_2, v6, c1_i32⟩
def k1_off1 (k1_t1 : Fin k1_t1_loop.trips) : Fin 2 → Nat :=
  let c0_i32_2 : BitVec 32 := 0#32
  let c1_i32 : BitVec 32 := 1#32
  let arg14 : BitVec 32 := Scf.iv c0_i32_2 c1_i32 k1_t1
  let c0_i32_26 : BitVec 32 := 0#32
  let v44 : BitVec 1 := Scalar.cmpi .sgt arg14 c0_i32_26
  let v45 : BitVec 32 := Scalar.extui v44
  let c0_i32_27 : BitVec 32 := 0#32
  let v46 : BitVec 1 := Scalar.cmpi .slt arg14 c0_i32_27
  let v47 : BitVec 32 := Scalar.extui v46
  let v48 : BitVec 32 := Scalar.subi v45 v47
  let c16_i32 : BitVec 32 := 16#32
  let c0_i32_28 : BitVec 32 := 0#32
  let v49 : BitVec 1 := Scalar.cmpi .sgt c16_i32 c0_i32_28
  let v50 : BitVec 32 := Scalar.extui v49
  let c0_i32_29 : BitVec 32 := 0#32
  let v51 : BitVec 1 := Scalar.cmpi .slt c16_i32 c0_i32_29
  let v52 : BitVec 32 := Scalar.extui v51
  let v53 : BitVec 32 := Scalar.subi v50 v52
  let v54 : BitVec 1 := Scalar.cmpi .ne v48 v53
  let v55 : BitVec 32 := Scalar.remsi arg14 c16_i32
  let c0_i32_30 : BitVec 32 := 0#32
  let v56 : BitVec 1 := Scalar.cmpi .ne v55 c0_i32_30
  let v57 : BitVec 1 := Scalar.andi v54 v56
  let v43 : BitVec 32 := Scalar.divsi arg14 c16_i32
  let c1_i32_31 : BitVec 32 := 1#32
  let v58 : BitVec 32 := Scalar.subi v43 c1_i32_31
  let v59 : BitVec 32 := Scalar.select v57 v58 v43
  let v71 : Index := Scalar.indexCast v59
  let c16_i32_32 : BitVec 32 := 16#32
  let c0_i32_33 : BitVec 32 := 0#32
  let v60 : BitVec 1 := Scalar.cmpi .eq c16_i32_32 c0_i32_33
  let c1_i32_34 : BitVec 32 := 1#32
  let v61 : BitVec 32 := Scalar.select v60 c1_i32_34 c16_i32_32
  let v62 : BitVec 32 := Scalar.remsi arg14 v61
  let c0_i32_36 : BitVec 32 := 0#32
  let v64 : BitVec 1 := Scalar.cmpi .slt v62 c0_i32_36
  let c0_i32_37 : BitVec 32 := 0#32
  let v65 : BitVec 1 := Scalar.cmpi .slt v61 c0_i32_37
  let v66 : BitVec 1 := Scalar.xori v64 v65
  let c0_i32_35 : BitVec 32 := 0#32
  let v63 : BitVec 1 := Scalar.cmpi .ne v62 c0_i32_35
  let v67 : BitVec 1 := Scalar.andi v66 v63
  let v68 : BitVec 32 := Scalar.addi v62 v61
  let v69 : BitVec 32 := Scalar.select v67 v68 v62
  let c16_i32_38 : BitVec 32 := 16#32
  let v70 : BitVec 32 := Scalar.muli v69 c16_i32_38
  let v72 : Index := Scalar.indexCast v70
  ![v71.toNat, v72.toNat]
def k1_cond1 (i : grid1.Coords) : BitVec 1 :=
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c0_i32_4 : BitVec 32 := 0#32
  let v8 : BitVec 1 := Scalar.cmpi .sgt v2 c0_i32_4
  let v9 : BitVec 32 := Scalar.extui v8
  let c0_i32_5 : BitVec 32 := 0#32
  let v10 : BitVec 1 := Scalar.cmpi .ne v9 c0_i32_5
  v10

def k1_off2 (i : grid1.Coords) : Fin 2 → Nat :=
  let arg1 : BitVec 32 := BitVec.ofNat 32 (i 1).val
  let c3136_i32 : BitVec 32 := 3136#32
  let v0 : BitVec 32 := Scalar.muli arg1 c3136_i32
  let c0_i32_25 : BitVec 32 := 0#32
  let v42 : BitVec 32 := Scalar.addi v0 c0_i32_25
  let arg0 : BitVec 32 := BitVec.ofNat 32 (i 0).val
  let c256_i32 : BitVec 32 := 256#32
  let v5 : BitVec 32 := Scalar.muli arg0 c256_i32
  ![v42.toNat, v5.toNat]
def k1_off3 (i : grid1.Coords) : Fin 1 → Nat :=
  let c0_i32_26 : BitVec 32 := 0#32
  let arg1 : BitVec 32 := BitVec.ofNat 32 (i 1).val
  let c3136_i32 : BitVec 32 := 3136#32
  let v0 : BitVec 32 := Scalar.muli arg1 c3136_i32
  let c0_i32_25 : BitVec 32 := 0#32
  let v42 : BitVec 32 := Scalar.addi v0 c0_i32_25
  let v45 : BitVec 32 := Scalar.addi c0_i32_26 v42
  ![v45.toNat]
def k1_cond2 (i : grid1.Coords) : BitVec 1 :=
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_6 : BitVec 32 := 1#32
  let v11 : BitVec 1 := Scalar.cmpi .sgt v2 c1_i32_6
  let v12 : BitVec 32 := Scalar.extui v11
  let c0_i32_7 : BitVec 32 := 0#32
  let v13 : BitVec 1 := Scalar.cmpi .ne v12 c0_i32_7
  v13

def k1_off4 (i : grid1.Coords) : Fin 2 → Nat :=
  let arg1 : BitVec 32 := BitVec.ofNat 32 (i 1).val
  let c3136_i32 : BitVec 32 := 3136#32
  let v0 : BitVec 32 := Scalar.muli arg1 c3136_i32
  let c112_i32 : BitVec 32 := 112#32
  let v42 : BitVec 32 := Scalar.addi v0 c112_i32
  let arg0 : BitVec 32 := BitVec.ofNat 32 (i 0).val
  let c256_i32 : BitVec 32 := 256#32
  let v5 : BitVec 32 := Scalar.muli arg0 c256_i32
  ![v42.toNat, v5.toNat]
def k1_off5 (i : grid1.Coords) : Fin 1 → Nat :=
  let c0_i32_25 : BitVec 32 := 0#32
  let arg1 : BitVec 32 := BitVec.ofNat 32 (i 1).val
  let c3136_i32 : BitVec 32 := 3136#32
  let v0 : BitVec 32 := Scalar.muli arg1 c3136_i32
  let c112_i32 : BitVec 32 := 112#32
  let v42 : BitVec 32 := Scalar.addi v0 c112_i32
  let v45 : BitVec 32 := Scalar.addi c0_i32_25 v42
  ![v45.toNat]
@[reducible] def k1_t2_loop (i : grid1.Coords) : Scf.Loop 32 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_18 : BitVec 32 := 1#32
  ⟨c0_i32_16, v36, c1_i32_18⟩
def k1_cond3 (i : grid1.Coords) (k1_t2 : Fin (k1_t2_loop i).trips) : BitVec 1 :=
  let c0_i32_16 : BitVec 32 := 0#32
  let c1_i32_18 : BitVec 32 := 1#32
  let arg14 : BitVec 32 := Scf.iv c0_i32_16 c1_i32_18 k1_t2
  let c2_i32_25 : BitVec 32 := 2#32
  let v42 : BitVec 32 := Scalar.muli arg14 c2_i32_25
  let c0_i32_26 : BitVec 32 := 0#32
  let v43 : BitVec 32 := Scalar.addi v42 c0_i32_26
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v44 : BitVec 1 := Scalar.cmpi .slt v43 v2
  let v45 : BitVec 32 := Scalar.extui v44
  let c0_i32_27 : BitVec 32 := 0#32
  let v46 : BitVec 1 := Scalar.cmpi .ne v45 c0_i32_27
  v46

def k1_off6 (i : grid1.Coords) (k1_t2 : Fin (k1_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k1_off7 (i : grid1.Coords) (k1_t2 : Fin (k1_t2_loop i).trips) : Fin 1 → Nat :=
  let c0_i32_31 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let v56 : BitVec 32 := Scalar.addi c0_i32_31 v53
  ![v56.toNat]

def k1_chk1 (i : grid1.Coords) (k1_t2 : Fin (k1_t2_loop i).trips) (v61 : IVec S16 32) : Prop :=
  (∀ (k1_h3 : k1_cond3 i k1_t2 = 1#1), ∀ a x, ((![v61] : Fin 1 → IVec S16 32) a x).toNat < S128.size a)
theorem k1_idx1_inb : ∀ (i : grid1.Coords) (k1_t2 : Fin (k1_t2_loop i).trips) (v61 : IVec S16 32) (k1_hw1 : k1_chk1 i k1_t2 v61), ∀ (k1_h3 : k1_cond3 i k1_t2 = 1#1), ∀ a x, ((![v61] : Fin 1 → IVec S16 32) a x).toNat < S128.size a := fun i k1_t2 v61 k1_hw1 k1_h3 => k1_hw1 k1_h3
@[reducible] def k1_t3_loop : Scf.Loop 32 :=
  let c0_i32_35 : BitVec 32 := 0#32
  let c7_i32 : BitVec 32 := 7#32
  let v69 : BitVec 32 := Scalar.addi c0_i32_35 c7_i32
  let c1_i32_36 : BitVec 32 := 1#32
  ⟨c0_i32_35, v69, c1_i32_36⟩
def k1_off8 (k1_t3 : Fin k1_t3_loop.trips) : Fin 1 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v156 : Index := Scalar.indexCast v155
  ![v156.toNat]
def k1_off9 (k1_t3 : Fin k1_t3_loop.trips) (c0_i32_61 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v176 : BitVec 32 := Scalar.addi v155 c0_i32_61
  let v177 : Index := Scalar.indexCast v176
  let c0_62 : Index := 0#32
  ![v177.toNat, 0]
def k1_off10 (k1_t3 : Fin k1_t3_loop.trips) (c0_i32_63 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v180 : BitVec 32 := Scalar.addi v155 c0_i32_63
  let v181 : Index := Scalar.indexCast v180
  let c16_64 : Index := 16#32
  ![v181.toNat, 16]
def k1_off11 (k1_t3 : Fin k1_t3_loop.trips) (c0_i32_65 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v184 : BitVec 32 := Scalar.addi v155 c0_i32_65
  let v185 : Index := Scalar.indexCast v184
  let c32_66 : Index := 32#32
  ![v185.toNat, 32]
def k1_off12 (k1_t3 : Fin k1_t3_loop.trips) (c0_i32_67 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v188 : BitVec 32 := Scalar.addi v155 c0_i32_67
  let v189 : Index := Scalar.indexCast v188
  let c48_68 : Index := 48#32
  ![v189.toNat, 48]
def k1_off13 (k1_t3 : Fin k1_t3_loop.trips) (c0_i32_69 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v192 : BitVec 32 := Scalar.addi v155 c0_i32_69
  let v193 : Index := Scalar.indexCast v192
  let c64_70 : Index := 64#32
  ![v193.toNat, 64]
def k1_off14 (k1_t3 : Fin k1_t3_loop.trips) (c0_i32_71 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v196 : BitVec 32 := Scalar.addi v155 c0_i32_71
  let v197 : Index := Scalar.indexCast v196
  let c80_72 : Index := 80#32
  ![v197.toNat, 80]
def k1_off15 (k1_t3 : Fin k1_t3_loop.trips) (c0_i32_73 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v200 : BitVec 32 := Scalar.addi v155 c0_i32_73
  let v201 : Index := Scalar.indexCast v200
  let c96_74 : Index := 96#32
  ![v201.toNat, 96]
def k1_off16 (k1_t3 : Fin k1_t3_loop.trips) (c0_i32_75 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v204 : BitVec 32 := Scalar.addi v155 c0_i32_75
  let v205 : Index := Scalar.indexCast v204
  let c112_76 : Index := 112#32
  ![v205.toNat, 112]
def k1_off17 (k1_t3 : Fin k1_t3_loop.trips) (c0_i32_77 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v208 : BitVec 32 := Scalar.addi v155 c0_i32_77
  let v209 : Index := Scalar.indexCast v208
  let c128_78 : Index := 128#32
  ![v209.toNat, 128]
def k1_off18 (k1_t3 : Fin k1_t3_loop.trips) (c0_i32_79 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v212 : BitVec 32 := Scalar.addi v155 c0_i32_79
  let v213 : Index := Scalar.indexCast v212
  let c144_80 : Index := 144#32
  ![v213.toNat, 144]
def k1_off19 (k1_t3 : Fin k1_t3_loop.trips) (c0_i32_81 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v216 : BitVec 32 := Scalar.addi v155 c0_i32_81
  let v217 : Index := Scalar.indexCast v216
  let c160_82 : Index := 160#32
  ![v217.toNat, 160]
def k1_off20 (k1_t3 : Fin k1_t3_loop.trips) (c0_i32_83 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v220 : BitVec 32 := Scalar.addi v155 c0_i32_83
  let v221 : Index := Scalar.indexCast v220
  let c176_84 : Index := 176#32
  ![v221.toNat, 176]
def k1_off21 (k1_t3 : Fin k1_t3_loop.trips) (c0_i32_85 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v224 : BitVec 32 := Scalar.addi v155 c0_i32_85
  let v225 : Index := Scalar.indexCast v224
  let c192_86 : Index := 192#32
  ![v225.toNat, 192]
def k1_off22 (k1_t3 : Fin k1_t3_loop.trips) (c0_i32_87 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v228 : BitVec 32 := Scalar.addi v155 c0_i32_87
  let v229 : Index := Scalar.indexCast v228
  let c208_88 : Index := 208#32
  ![v229.toNat, 208]
def k1_off23 (k1_t3 : Fin k1_t3_loop.trips) (c0_i32_89 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v232 : BitVec 32 := Scalar.addi v155 c0_i32_89
  let v233 : Index := Scalar.indexCast v232
  let c224_90 : Index := 224#32
  ![v233.toNat, 224]
def k1_off24 (k1_t3 : Fin k1_t3_loop.trips) (c0_i32_91 : BitVec 32) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let v236 : BitVec 32 := Scalar.addi v155 c0_i32_91
  let v237 : Index := Scalar.indexCast v236
  let c240_92 : Index := 240#32
  ![v237.toNat, 240]
@[reducible] def k1_t4_loop (k1_t3 : Fin k1_t3_loop.trips) : Scf.Loop 32 :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_63 : BitVec 32 := 1#32
  ⟨v155, v181, c1_i32_63⟩
def k1_cond4 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_60 : BitVec 32 := 0#32
  let v174 : BitVec 1 := Scalar.cmpi .ne v173 c0_i32_60
  v174

def k1_chk2 (i : grid1.Coords) (k1_t2 : Fin (k1_t2_loop i).trips) (arg16 : BitVec 32) (v163 : BitVec 32) (v170 : BitVec 32) (v184 : IVec S16 32) : Prop :=
  (∀ (k1_h3 : k1_cond3 i k1_t2 = 1#1), ∀ (k1_h4 : ¬(k1_cond4 arg16 v163 v170 = 1#1)), ∀ a x, ((![v184] : Fin 1 → IVec S16 32) a x).toNat < S128.size a)
theorem k1_idx2_inb : ∀ (i : grid1.Coords) (k1_t2 : Fin (k1_t2_loop i).trips) (arg16 : BitVec 32) (v163 : BitVec 32) (v170 : BitVec 32) (v184 : IVec S16 32) (k1_hw2 : k1_chk2 i k1_t2 arg16 v163 v170 v184), ∀ (k1_h3 : k1_cond3 i k1_t2 = 1#1), ∀ (k1_h4 : ¬(k1_cond4 arg16 v163 v170 = 1#1)), ∀ a x, ((![v184] : Fin 1 → IVec S16 32) a x).toNat < S128.size a := fun i k1_t2 arg16 v163 v170 v184 k1_hw2 k1_h3 k1_h4 => k1_hw2 k1_h3 k1_h4
def k1_off25 (arg34 : BitVec 32) : Fin 2 → Nat :=
  let v244 : Index := Scalar.indexCast arg34
  let c0_84 : Index := 0#32
  ![v244.toNat, 0]
def k1_cond5 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off26 (arg34 : BitVec 32) : Fin 2 → Nat :=
  let v249 : Index := Scalar.indexCast arg34
  let c16_86 : Index := 16#32
  ![v249.toNat, 16]
def k1_off27 (arg34 : BitVec 32) : Fin 2 → Nat :=
  let v254 : Index := Scalar.indexCast arg34
  let c32_88 : Index := 32#32
  ![v254.toNat, 32]
def k1_off28 (arg34 : BitVec 32) : Fin 2 → Nat :=
  let v259 : Index := Scalar.indexCast arg34
  let c48_90 : Index := 48#32
  ![v259.toNat, 48]
def k1_off29 (arg34 : BitVec 32) : Fin 2 → Nat :=
  let v264 : Index := Scalar.indexCast arg34
  let c64_92 : Index := 64#32
  ![v264.toNat, 64]
def k1_off30 (arg34 : BitVec 32) : Fin 2 → Nat :=
  let v269 : Index := Scalar.indexCast arg34
  let c80_94 : Index := 80#32
  ![v269.toNat, 80]
def k1_off31 (arg34 : BitVec 32) : Fin 2 → Nat :=
  let v274 : Index := Scalar.indexCast arg34
  let c96_96 : Index := 96#32
  ![v274.toNat, 96]
def k1_off32 (arg34 : BitVec 32) : Fin 2 → Nat :=
  let v279 : Index := Scalar.indexCast arg34
  let c112_98 : Index := 112#32
  ![v279.toNat, 112]
def k1_off33 (arg34 : BitVec 32) : Fin 2 → Nat :=
  let v284 : Index := Scalar.indexCast arg34
  let c128_100 : Index := 128#32
  ![v284.toNat, 128]
def k1_off34 (arg34 : BitVec 32) : Fin 2 → Nat :=
  let v289 : Index := Scalar.indexCast arg34
  let c144_102 : Index := 144#32
  ![v289.toNat, 144]
def k1_off35 (arg34 : BitVec 32) : Fin 2 → Nat :=
  let v294 : Index := Scalar.indexCast arg34
  let c160_104 : Index := 160#32
  ![v294.toNat, 160]
def k1_off36 (arg34 : BitVec 32) : Fin 2 → Nat :=
  let v299 : Index := Scalar.indexCast arg34
  let c176_106 : Index := 176#32
  ![v299.toNat, 176]
def k1_off37 (arg34 : BitVec 32) : Fin 2 → Nat :=
  let v304 : Index := Scalar.indexCast arg34
  let c192_108 : Index := 192#32
  ![v304.toNat, 192]
def k1_off38 (arg34 : BitVec 32) : Fin 2 → Nat :=
  let v309 : Index := Scalar.indexCast arg34
  let c208_110 : Index := 208#32
  ![v309.toNat, 208]
def k1_off39 (arg34 : BitVec 32) : Fin 2 → Nat :=
  let v314 : Index := Scalar.indexCast arg34
  let c224_112 : Index := 224#32
  ![v314.toNat, 224]
def k1_off40 (arg34 : BitVec 32) : Fin 2 → Nat :=
  let v319 : Index := Scalar.indexCast arg34
  let c240_114 : Index := 240#32
  ![v319.toNat, 240]

def k1_chk3 (i : grid1.Coords) (k1_t2 : Fin (k1_t2_loop i).trips) (arg16 : BitVec 32) (v163 : BitVec 32) (v170 : BitVec 32) (arg34 : BitVec 32) (v191 : BitVec 32) : Prop :=
  (∀ (k1_h3 : k1_cond3 i k1_t2 = 1#1), ∀ (k1_h4 : ¬(k1_cond4 arg16 v163 v170 = 1#1)), ∀ (k1_h5 : k1_cond5 arg34 v191 = 1#1), ∀ a, (k1_off25 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off26 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off27 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off28 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off29 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off30 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off31 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off32 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off33 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off34 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off35 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off36 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off37 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off38 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off39 arg34) a + S1x16.size a ≤ S256x256.size a) ∧
  (∀ (k1_h3 : k1_cond3 i k1_t2 = 1#1), ∀ (k1_h4 : ¬(k1_cond4 arg16 v163 v170 = 1#1)), ∀ (k1_h5 : k1_cond5 arg34 v191 = 1#1), ∀ a, (k1_off40 arg34) a + S1x16.size a ≤ S256x256.size a)
theorem k1_off25_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off25 arg34) a + S1x16.size a ≤ S256x256.size a := fun i k1_t2 arg16 v163 v170 arg34 v191 k1_hw3 k1_h3 k1_h4 k1_h5 => k1_hw3.1 k1_h3 k1_h4 k1_h5
theorem k1_off26_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off26 arg34) a + S1x16.size a ≤ S256x256.size a := fun i k1_t2 arg16 v163 v170 arg34 v191 k1_hw3 k1_h3 k1_h4 k1_h5 => k1_hw3.2.1 k1_h3 k1_h4 k1_h5
theorem k1_off27_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off27 arg34) a + S1x16.size a ≤ S256x256.size a := fun i k1_t2 arg16 v163 v170 arg34 v191 k1_hw3 k1_h3 k1_h4 k1_h5 => k1_hw3.2.2.1 k1_h3 k1_h4 k1_h5
theorem k1_off28_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off28 arg34) a + S1x16.size a ≤ S256x256.size a := fun i k1_t2 arg16 v163 v170 arg34 v191 k1_hw3 k1_h3 k1_h4 k1_h5 => k1_hw3.2.2.2.1 k1_h3 k1_h4 k1_h5
theorem k1_off29_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off29 arg34) a + S1x16.size a ≤ S256x256.size a := fun i k1_t2 arg16 v163 v170 arg34 v191 k1_hw3 k1_h3 k1_h4 k1_h5 => k1_hw3.2.2.2.2.1 k1_h3 k1_h4 k1_h5
theorem k1_off30_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off30 arg34) a + S1x16.size a ≤ S256x256.size a := fun i k1_t2 arg16 v163 v170 arg34 v191 k1_hw3 k1_h3 k1_h4 k1_h5 => k1_hw3.2.2.2.2.2.1 k1_h3 k1_h4 k1_h5
theorem k1_off31_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off31 arg34) a + S1x16.size a ≤ S256x256.size a := fun i k1_t2 arg16 v163 v170 arg34 v191 k1_hw3 k1_h3 k1_h4 k1_h5 => k1_hw3.2.2.2.2.2.2.1 k1_h3 k1_h4 k1_h5
theorem k1_off32_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off32 arg34) a + S1x16.size a ≤ S256x256.size a := fun i k1_t2 arg16 v163 v170 arg34 v191 k1_hw3 k1_h3 k1_h4 k1_h5 => k1_hw3.2.2.2.2.2.2.2.1 k1_h3 k1_h4 k1_h5
theorem k1_off33_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off33 arg34) a + S1x16.size a ≤ S256x256.size a := fun i k1_t2 arg16 v163 v170 arg34 v191 k1_hw3 k1_h3 k1_h4 k1_h5 => k1_hw3.2.2.2.2.2.2.2.2.1 k1_h3 k1_h4 k1_h5
theorem k1_off34_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off34 arg34) a + S1x16.size a ≤ S256x256.size a := fun i k1_t2 arg16 v163 v170 arg34 v191 k1_hw3 k1_h3 k1_h4 k1_h5 => k1_hw3.2.2.2.2.2.2.2.2.2.1 k1_h3 k1_h4 k1_h5
theorem k1_off35_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off35 arg34) a + S1x16.size a ≤ S256x256.size a := fun i k1_t2 arg16 v163 v170 arg34 v191 k1_hw3 k1_h3 k1_h4 k1_h5 => k1_hw3.2.2.2.2.2.2.2.2.2.2.1 k1_h3 k1_h4 k1_h5
theorem k1_off36_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off36 arg34) a + S1x16.size a ≤ S256x256.size a := fun i k1_t2 arg16 v163 v170 arg34 v191 k1_hw3 k1_h3 k1_h4 k1_h5 => k1_hw3.2.2.2.2.2.2.2.2.2.2.2.1 k1_h3 k1_h4 k1_h5
theorem k1_off37_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off37 arg34) a + S1x16.size a ≤ S256x256.size a := fun i k1_t2 arg16 v163 v170 arg34 v191 k1_hw3 k1_h3 k1_h4 k1_h5 => k1_hw3.2.2.2.2.2.2.2.2.2.2.2.2.1 k1_h3 k1_h4 k1_h5
theorem k1_off38_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off38 arg34) a + S1x16.size a ≤ S256x256.size a := fun i k1_t2 arg16 v163 v170 arg34 v191 k1_hw3 k1_h3 k1_h4 k1_h5 => k1_hw3.2.2.2.2.2.2.2.2.2.2.2.2.2.1 k1_h3 k1_h4 k1_h5
theorem k1_off39_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off39 arg34) a + S1x16.size a ≤ S256x256.size a := fun i k1_t2 arg16 v163 v170 arg34 v191 k1_hw3 k1_h3 k1_h4 k1_h5 => k1_hw3.2.2.2.2.2.2.2.2.2.2.2.2.2.2.1 k1_h3 k1_h4 k1_h5
theorem k1_off40_inb : ∀ (i : grid1.Coords) (k1_t2 : Fin (k1_t2_loop i).trips) (arg16 : BitVec 32) (v163 : BitVec 32) (v170 : BitVec 32) (arg34 : BitVec 32) (v191 : BitVec 32) (k1_hw3 : k1_chk3 i k1_t2 arg16 v163 v170 arg34 v191), ∀ (k1_h3 : k1_cond3 i k1_t2 = 1#1), ∀ (k1_h4 : ¬(k1_cond4 arg16 v163 v170 = 1#1)), ∀ (k1_h5 : k1_cond5 arg34 v191 = 1#1), ∀ a, (k1_off40 arg34) a + S1x16.size a ≤ S256x256.size a := fun i k1_t2 arg16 v163 v170 arg34 v191 k1_hw3 k1_h3 k1_h4 k1_h5 => k1_hw3.2.2.2.2.2.2.2.2.2.2.2.2.2.2.2 k1_h3 k1_h4 k1_h5

def k1_off41 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v196 : Index := Scalar.indexCast arg33
  let c0_68 : Index := 0#32
  ![v196.toNat, 0]
def k1_off42 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v199 : Index := Scalar.indexCast arg33
  let c16_69 : Index := 16#32
  ![v199.toNat, 16]
def k1_off43 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v202 : Index := Scalar.indexCast arg33
  let c32_70 : Index := 32#32
  ![v202.toNat, 32]
def k1_off44 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v205 : Index := Scalar.indexCast arg33
  let c48_71 : Index := 48#32
  ![v205.toNat, 48]
def k1_off45 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v208 : Index := Scalar.indexCast arg33
  let c64_72 : Index := 64#32
  ![v208.toNat, 64]
def k1_off46 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v211 : Index := Scalar.indexCast arg33
  let c80_73 : Index := 80#32
  ![v211.toNat, 80]
def k1_off47 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v214 : Index := Scalar.indexCast arg33
  let c96_74 : Index := 96#32
  ![v214.toNat, 96]
def k1_off48 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v217 : Index := Scalar.indexCast arg33
  let c112_75 : Index := 112#32
  ![v217.toNat, 112]
def k1_off49 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v220 : Index := Scalar.indexCast arg33
  let c128_76 : Index := 128#32
  ![v220.toNat, 128]
def k1_off50 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v223 : Index := Scalar.indexCast arg33
  let c144_77 : Index := 144#32
  ![v223.toNat, 144]
def k1_off51 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v226 : Index := Scalar.indexCast arg33
  let c160_78 : Index := 160#32
  ![v226.toNat, 160]
def k1_off52 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v229 : Index := Scalar.indexCast arg33
  let c176_79 : Index := 176#32
  ![v229.toNat, 176]
def k1_off53 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v232 : Index := Scalar.indexCast arg33
  let c192_80 : Index := 192#32
  ![v232.toNat, 192]
def k1_off54 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v235 : Index := Scalar.indexCast arg33
  let c208_81 : Index := 208#32
  ![v235.toNat, 208]
def k1_off55 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v238 : Index := Scalar.indexCast arg33
  let c224_82 : Index := 224#32
  ![v238.toNat, 224]
def k1_off56 (k1_t3 : Fin k1_t3_loop.trips) (k1_t4 : Fin (k1_t4_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c1_i32_63 : BitVec 32 := 1#32
  let arg33 : BitVec 32 := Scf.iv v155 c1_i32_63 k1_t4
  let v241 : Index := Scalar.indexCast arg33
  let c240_83 : Index := 240#32
  ![v241.toNat, 240]
@[reducible] def k1_t5_loop (k1_t3 : Fin k1_t3_loop.trips) : Scf.Loop 32 :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let v178 : BitVec 32 := Scalar.addi v155 v177
  let c1_i32_64 : BitVec 32 := 1#32
  ⟨v181, v178, c1_i32_64⟩

def k1_chk4 (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (v184 : IVec S16 32) : Prop :=
  (∀ (k1_h3 : k1_cond3 i k1_t2 = 1#1), ∀ (k1_h4 : ¬(k1_cond4 arg16 v163 v170 = 1#1)), ∀ a x, ((![v184] : Fin 1 → IVec S16 32) a x).toNat < S128.size a)
theorem k1_idx3_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (v184 : IVec S16 32) (k1_hw4 : k1_chk4 i k1_t2 k1_t3 arg16 v163 v170 k1_t5 v184), ∀ (k1_h3 : k1_cond3 i k1_t2 = 1#1), ∀ (k1_h4 : ¬(k1_cond4 arg16 v163 v170 = 1#1)), ∀ a x, ((![v184] : Fin 1 → IVec S16 32) a x).toNat < S128.size a := fun i k1_t2 k1_t3 arg16 v163 v170 k1_t5 v184 k1_hw4 k1_h3 k1_h4 => k1_hw4 k1_h3 k1_h4
def k1_off57 (arg34 : BitVec 32) : Fin 2 → Nat :=
  let v244 : Index := Scalar.indexCast arg34
  let c0_84 : Index := 0#32
  ![v244.toNat, 0]
def k1_cond6 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off58 (arg34 : BitVec 32) : Fin 2 → Nat :=
  let v249 : Index := Scalar.indexCast arg34
  let c16_86 : Index := 16#32
  ![v249.toNat, 16]
def k1_off59 (arg34 : BitVec 32) : Fin 2 → Nat :=
  let v254 : Index := Scalar.indexCast arg34
  let c32_88 : Index := 32#32
  ![v254.toNat, 32]
def k1_off60 (arg34 : BitVec 32) : Fin 2 → Nat :=
  let v259 : Index := Scalar.indexCast arg34
  let c48_90 : Index := 48#32
  ![v259.toNat, 48]
def k1_off61 (arg34 : BitVec 32) : Fin 2 → Nat :=
  let v264 : Index := Scalar.indexCast arg34
  let c64_92 : Index := 64#32
  ![v264.toNat, 64]
def k1_off62 (arg34 : BitVec 32) : Fin 2 → Nat :=
  let v269 : Index := Scalar.indexCast arg34
  let c80_94 : Index := 80#32
  ![v269.toNat, 80]
def k1_off63 (arg34 : BitVec 32) : Fin 2 → Nat :=
  let v274 : Index := Scalar.indexCast arg34
  let c96_96 : Index := 96#32
  ![v274.toNat, 96]
def k1_off64 (arg34 : BitVec 32) : Fin 2 → Nat :=
  let v279 : Index := Scalar.indexCast arg34
  let c112_98 : Index := 112#32
  ![v279.toNat, 112]
def k1_off65 (arg34 : BitVec 32) : Fin 2 → Nat :=
  let v284 : Index := Scalar.indexCast arg34
  let c128_100 : Index := 128#32
  ![v284.toNat, 128]
def k1_off66 (arg34 : BitVec 32) : Fin 2 → Nat :=
  let v289 : Index := Scalar.indexCast arg34
  let c144_102 : Index := 144#32
  ![v289.toNat, 144]
def k1_off67 (arg34 : BitVec 32) : Fin 2 → Nat :=
  let v294 : Index := Scalar.indexCast arg34
  let c160_104 : Index := 160#32
  ![v294.toNat, 160]
def k1_off68 (arg34 : BitVec 32) : Fin 2 → Nat :=
  let v299 : Index := Scalar.indexCast arg34
  let c176_106 : Index := 176#32
  ![v299.toNat, 176]
def k1_off69 (arg34 : BitVec 32) : Fin 2 → Nat :=
  let v304 : Index := Scalar.indexCast arg34
  let c192_108 : Index := 192#32
  ![v304.toNat, 192]
def k1_off70 (arg34 : BitVec 32) : Fin 2 → Nat :=
  let v309 : Index := Scalar.indexCast arg34
  let c208_110 : Index := 208#32
  ![v309.toNat, 208]
def k1_off71 (arg34 : BitVec 32) : Fin 2 → Nat :=
  let v314 : Index := Scalar.indexCast arg34
  let c224_112 : Index := 224#32
  ![v314.toNat, 224]
def k1_off72 (arg34 : BitVec 32) : Fin 2 → Nat :=
  let v319 : Index := Scalar.indexCast arg34
  let c240_114 : Index := 240#32
  ![v319.toNat, 240]

def k1_chk5 (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) : Prop :=
  (∀ (k1_h3 : k1_cond3 i k1_t2 = 1#1), ∀ (k1_h4 : ¬(k1_cond4 arg16 v163 v170 = 1#1)), ∀ (k1_h6 : k1_cond6 arg34 v191 = 1#1), ∀ a, (k1_off57 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off58 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off59 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off60 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off61 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off62 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off63 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off64 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off65 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off66 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off67 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off68 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off69 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off70 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off71 arg34) a + S1x16.size a ≤ S256x256.size a) ∧
  (∀ (k1_h3 : k1_cond3 i k1_t2 = 1#1), ∀ (k1_h4 : ¬(k1_cond4 arg16 v163 v170 = 1#1)), ∀ (k1_h6 : k1_cond6 arg34 v191 = 1#1), ∀ a, (k1_off72 arg34) a + S1x16.size a ≤ S256x256.size a)
theorem k1_off57_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off57 arg34) a + S1x16.size a ≤ S256x256.size a := fun i k1_t2 k1_t3 arg16 v163 v170 k1_t5 arg34 v191 k1_hw5 k1_h3 k1_h4 k1_h6 => k1_hw5.1 k1_h3 k1_h4 k1_h6
theorem k1_off58_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off58 arg34) a + S1x16.size a ≤ S256x256.size a := fun i k1_t2 k1_t3 arg16 v163 v170 k1_t5 arg34 v191 k1_hw5 k1_h3 k1_h4 k1_h6 => k1_hw5.2.1 k1_h3 k1_h4 k1_h6
theorem k1_off59_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off59 arg34) a + S1x16.size a ≤ S256x256.size a := fun i k1_t2 k1_t3 arg16 v163 v170 k1_t5 arg34 v191 k1_hw5 k1_h3 k1_h4 k1_h6 => k1_hw5.2.2.1 k1_h3 k1_h4 k1_h6
theorem k1_off60_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off60 arg34) a + S1x16.size a ≤ S256x256.size a := fun i k1_t2 k1_t3 arg16 v163 v170 k1_t5 arg34 v191 k1_hw5 k1_h3 k1_h4 k1_h6 => k1_hw5.2.2.2.1 k1_h3 k1_h4 k1_h6
theorem k1_off61_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off61 arg34) a + S1x16.size a ≤ S256x256.size a := fun i k1_t2 k1_t3 arg16 v163 v170 k1_t5 arg34 v191 k1_hw5 k1_h3 k1_h4 k1_h6 => k1_hw5.2.2.2.2.1 k1_h3 k1_h4 k1_h6
theorem k1_off62_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off62 arg34) a + S1x16.size a ≤ S256x256.size a := fun i k1_t2 k1_t3 arg16 v163 v170 k1_t5 arg34 v191 k1_hw5 k1_h3 k1_h4 k1_h6 => k1_hw5.2.2.2.2.2.1 k1_h3 k1_h4 k1_h6
theorem k1_off63_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off63 arg34) a + S1x16.size a ≤ S256x256.size a := fun i k1_t2 k1_t3 arg16 v163 v170 k1_t5 arg34 v191 k1_hw5 k1_h3 k1_h4 k1_h6 => k1_hw5.2.2.2.2.2.2.1 k1_h3 k1_h4 k1_h6
theorem k1_off64_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off64 arg34) a + S1x16.size a ≤ S256x256.size a := fun i k1_t2 k1_t3 arg16 v163 v170 k1_t5 arg34 v191 k1_hw5 k1_h3 k1_h4 k1_h6 => k1_hw5.2.2.2.2.2.2.2.1 k1_h3 k1_h4 k1_h6
theorem k1_off65_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off65 arg34) a + S1x16.size a ≤ S256x256.size a := fun i k1_t2 k1_t3 arg16 v163 v170 k1_t5 arg34 v191 k1_hw5 k1_h3 k1_h4 k1_h6 => k1_hw5.2.2.2.2.2.2.2.2.1 k1_h3 k1_h4 k1_h6
theorem k1_off66_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off66 arg34) a + S1x16.size a ≤ S256x256.size a := fun i k1_t2 k1_t3 arg16 v163 v170 k1_t5 arg34 v191 k1_hw5 k1_h3 k1_h4 k1_h6 => k1_hw5.2.2.2.2.2.2.2.2.2.1 k1_h3 k1_h4 k1_h6
theorem k1_off67_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off67 arg34) a + S1x16.size a ≤ S256x256.size a := fun i k1_t2 k1_t3 arg16 v163 v170 k1_t5 arg34 v191 k1_hw5 k1_h3 k1_h4 k1_h6 => k1_hw5.2.2.2.2.2.2.2.2.2.2.1 k1_h3 k1_h4 k1_h6
theorem k1_off68_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off68 arg34) a + S1x16.size a ≤ S256x256.size a := fun i k1_t2 k1_t3 arg16 v163 v170 k1_t5 arg34 v191 k1_hw5 k1_h3 k1_h4 k1_h6 => k1_hw5.2.2.2.2.2.2.2.2.2.2.2.1 k1_h3 k1_h4 k1_h6
theorem k1_off69_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off69 arg34) a + S1x16.size a ≤ S256x256.size a := fun i k1_t2 k1_t3 arg16 v163 v170 k1_t5 arg34 v191 k1_hw5 k1_h3 k1_h4 k1_h6 => k1_hw5.2.2.2.2.2.2.2.2.2.2.2.2.1 k1_h3 k1_h4 k1_h6
theorem k1_off70_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off70 arg34) a + S1x16.size a ≤ S256x256.size a := fun i k1_t2 k1_t3 arg16 v163 v170 k1_t5 arg34 v191 k1_hw5 k1_h3 k1_h4 k1_h6 => k1_hw5.2.2.2.2.2.2.2.2.2.2.2.2.2.1 k1_h3 k1_h4 k1_h6
theorem k1_off71_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off71 arg34) a + S1x16.size a ≤ S256x256.size a := fun i k1_t2 k1_t3 arg16 v163 v170 k1_t5 arg34 v191 k1_hw5 k1_h3 k1_h4 k1_h6 => k1_hw5.2.2.2.2.2.2.2.2.2.2.2.2.2.2.1 k1_h3 k1_h4 k1_h6
theorem k1_off72_inb : ∀ (i : grid1.Coords) (k1_t2 : Fin (k1_t2_loop i).trips) (k1_t3 : Fin k1_t3_loop.trips) (arg16 : BitVec 32) (v163 : BitVec 32) (v170 : BitVec 32) (k1_t5 : Fin (k1_t5_loop k1_t3).trips) (arg34 : BitVec 32) (v191 : BitVec 32) (k1_hw5 : k1_chk5 i k1_t2 k1_t3 arg16 v163 v170 k1_t5 arg34 v191), ∀ (k1_h3 : k1_cond3 i k1_t2 = 1#1), ∀ (k1_h4 : ¬(k1_cond4 arg16 v163 v170 = 1#1)), ∀ (k1_h6 : k1_cond6 arg34 v191 = 1#1), ∀ a, (k1_off72 arg34) a + S1x16.size a ≤ S256x256.size a := fun i k1_t2 k1_t3 arg16 v163 v170 k1_t5 arg34 v191 k1_hw5 k1_h3 k1_h4 k1_h6 => k1_hw5.2.2.2.2.2.2.2.2.2.2.2.2.2.2.2 k1_h3 k1_h4 k1_h6

def k1_off73 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v196 : Index := Scalar.indexCast arg33
  let c0_68 : Index := 0#32
  ![v196.toNat, 0]
def k1_off74 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v199 : Index := Scalar.indexCast arg33
  let c16_69 : Index := 16#32
  ![v199.toNat, 16]
def k1_off75 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v202 : Index := Scalar.indexCast arg33
  let c32_70 : Index := 32#32
  ![v202.toNat, 32]
def k1_off76 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v205 : Index := Scalar.indexCast arg33
  let c48_71 : Index := 48#32
  ![v205.toNat, 48]
def k1_off77 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v208 : Index := Scalar.indexCast arg33
  let c64_72 : Index := 64#32
  ![v208.toNat, 64]
def k1_off78 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v211 : Index := Scalar.indexCast arg33
  let c80_73 : Index := 80#32
  ![v211.toNat, 80]
def k1_off79 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v214 : Index := Scalar.indexCast arg33
  let c96_74 : Index := 96#32
  ![v214.toNat, 96]
def k1_off80 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v217 : Index := Scalar.indexCast arg33
  let c112_75 : Index := 112#32
  ![v217.toNat, 112]
def k1_off81 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v220 : Index := Scalar.indexCast arg33
  let c128_76 : Index := 128#32
  ![v220.toNat, 128]
def k1_off82 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v223 : Index := Scalar.indexCast arg33
  let c144_77 : Index := 144#32
  ![v223.toNat, 144]
def k1_off83 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v226 : Index := Scalar.indexCast arg33
  let c160_78 : Index := 160#32
  ![v226.toNat, 160]
def k1_off84 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v229 : Index := Scalar.indexCast arg33
  let c176_79 : Index := 176#32
  ![v229.toNat, 176]
def k1_off85 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v232 : Index := Scalar.indexCast arg33
  let c192_80 : Index := 192#32
  ![v232.toNat, 192]
def k1_off86 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v235 : Index := Scalar.indexCast arg33
  let c208_81 : Index := 208#32
  ![v235.toNat, 208]
def k1_off87 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v238 : Index := Scalar.indexCast arg33
  let c224_82 : Index := 224#32
  ![v238.toNat, 224]
def k1_off88 (k1_t3 : Fin k1_t3_loop.trips) (k1_t5 : Fin (k1_t5_loop k1_t3).trips) : Fin 2 → Nat :=
  let c0_i32_35 : BitVec 32 := 0#32
  let c1_i32_36 : BitVec 32 := 1#32
  let arg15 : BitVec 32 := Scf.iv c0_i32_35 c1_i32_36 k1_t3
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t5
  let v241 : Index := Scalar.indexCast arg33
  let c240_83 : Index := 240#32
  ![v241.toNat, 240]
def k1_off89 (v70_0 : BitVec 32) : Fin 2 → Nat :=
  let v71 : Index := Scalar.indexCast v70_0
  let c0 : Index := 0#32
  ![v71.toNat, 0]

def k1_off90 (v70_0 : BitVec 32) : Fin 2 → Nat :=
  let v76 : Index := Scalar.indexCast v70_0
  let c16 : Index := 16#32
  ![v76.toNat, 16]
def k1_off91 (v70_0 : BitVec 32) : Fin 2 → Nat :=
  let v81 : Index := Scalar.indexCast v70_0
  let c32 : Index := 32#32
  ![v81.toNat, 32]
def k1_off92 (v70_0 : BitVec 32) : Fin 2 → Nat :=
  let v86 : Index := Scalar.indexCast v70_0
  let c48 : Index := 48#32
  ![v86.toNat, 48]
def k1_off93 (v70_0 : BitVec 32) : Fin 2 → Nat :=
  let v91 : Index := Scalar.indexCast v70_0
  let c64 : Index := 64#32
  ![v91.toNat, 64]
def k1_off94 (v70_0 : BitVec 32) : Fin 2 → Nat :=
  let v96 : Index := Scalar.indexCast v70_0
  let c80 : Index := 80#32
  ![v96.toNat, 80]
def k1_off95 (v70_0 : BitVec 32) : Fin 2 → Nat :=
  let v101 : Index := Scalar.indexCast v70_0
  let c96 : Index := 96#32
  ![v101.toNat, 96]
def k1_off96 (v70_0 : BitVec 32) : Fin 2 → Nat :=
  let v106 : Index := Scalar.indexCast v70_0
  let c112 : Index := 112#32
  ![v106.toNat, 112]
def k1_off97 (v70_0 : BitVec 32) : Fin 2 → Nat :=
  let v111 : Index := Scalar.indexCast v70_0
  let c128 : Index := 128#32
  ![v111.toNat, 128]
def k1_off98 (v70_0 : BitVec 32) : Fin 2 → Nat :=
  let v116 : Index := Scalar.indexCast v70_0
  let c144 : Index := 144#32
  ![v116.toNat, 144]
def k1_off99 (v70_0 : BitVec 32) : Fin 2 → Nat :=
  let v121 : Index := Scalar.indexCast v70_0
  let c160 : Index := 160#32
  ![v121.toNat, 160]
def k1_off100 (v70_0 : BitVec 32) : Fin 2 → Nat :=
  let v126 : Index := Scalar.indexCast v70_0
  let c176 : Index := 176#32
  ![v126.toNat, 176]
def k1_off101 (v70_0 : BitVec 32) : Fin 2 → Nat :=
  let v131 : Index := Scalar.indexCast v70_0
  let c192 : Index := 192#32
  ![v131.toNat, 192]
def k1_off102 (v70_0 : BitVec 32) : Fin 2 → Nat :=
  let v136 : Index := Scalar.indexCast v70_0
  let c208 : Index := 208#32
  ![v136.toNat, 208]
def k1_off103 (v70_0 : BitVec 32) : Fin 2 → Nat :=
  let v141 : Index := Scalar.indexCast v70_0
  let c224 : Index := 224#32
  ![v141.toNat, 224]
def k1_off104 (v70_0 : BitVec 32) : Fin 2 → Nat :=
  let v146 : Index := Scalar.indexCast v70_0
  let c240 : Index := 240#32
  ![v146.toNat, 240]

def k1_chk6 (i : grid1.Coords) (k1_t2 : Fin (k1_t2_loop i).trips) (v70_0 : BitVec 32) : Prop :=
  (∀ (k1_h3 : k1_cond3 i k1_t2 = 1#1), ∀ a, (k1_off89 v70_0) a + S1x16.size a ≤ S256x256.size a) ∧
  (∀ (k1_h3 : k1_cond3 i k1_t2 = 1#1), ∀ a, (k1_off90 v70_0) a + S1x16.size a ≤ S256x256.size a) ∧
  (∀ (k1_h3 : k1_cond3 i k1_t2 = 1#1), ∀ a, (k1_off91 v70_0) a + S1x16.size a ≤ S256x256.size a) ∧
  (∀ (k1_h3 : k1_cond3 i k1_t2 = 1#1), ∀ a, (k1_off92 v70_0) a + S1x16.size a ≤ S256x256.size a) ∧
  (∀ (k1_h3 : k1_cond3 i k1_t2 = 1#1), ∀ a, (k1_off93 v70_0) a + S1x16.size a ≤ S256x256.size a) ∧
  (∀ (k1_h3 : k1_cond3 i k1_t2 = 1#1), ∀ a, (k1_off94 v70_0) a + S1x16.size a ≤ S256x256.size a) ∧
  (∀ (k1_h3 : k1_cond3 i k1_t2 = 1#1), ∀ a, (k1_off95 v70_0) a + S1x16.size a ≤ S256x256.size a) ∧
  (∀ (k1_h3 : k1_cond3 i k1_t2 = 1#1), ∀ a, (k1_off96 v70_0) a + S1x16.size a ≤ S256x256.size a) ∧
  (∀ (k1_h3 : k1_cond3 i k1_t2 = 1#1), ∀ a, (k1_off97 v70_0) a + S1x16.size a ≤ S256x256.size a) ∧
  (∀ (k1_h3 : k1_cond3 i k1_t2 = 1#1), ∀ a, (k1_off98 v70_0) a + S1x16.size a ≤ S256x256.size a) ∧
  (∀ (k1_h3 : k1_cond3 i k1_t2 = 1#1), ∀ a, (k1_off99 v70_0) a + S1x16.size a ≤ S256x256.size a) ∧
  (∀ (k1_h3 : k1_cond3 i k1_t2 = 1#1), ∀ a, (k1_off100 v70_0) a + S1x16.size a ≤ S256x256.size a) ∧
  (∀ (k1_h3 : k1_cond3 i k1_t2 = 1#1), ∀ a, (k1_off101 v70_0) a + S1x16.size a ≤ S256x256.size a) ∧
  (∀ (k1_h3 : k1_cond3 i k1_t2 = 1#1), ∀ a, (k1_off102 v70_0) a + S1x16.size a ≤ S256x256.size a) ∧
  (∀ (k1_h3 : k1_cond3 i k1_t2 = 1#1), ∀ a, (k1_off103 v70_0) a + S1x16.size a ≤ S256x256.size a) ∧
  (∀ (k1_h3 : k1_cond3 i k1_t2 = 1#1), ∀ a, (k1_off104 v70_0) a + S1x16.size a ≤ S256x256.size a)
theorem k1_off89_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off89 v70_0) a + S1x16.size a ≤ S256x256.size a := fun i k1_t2 v70_0 k1_hw6 k1_h3 => k1_hw6.1 k1_h3
theorem k1_off90_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off90 v70_0) a + S1x16.size a ≤ S256x256.size a := fun i k1_t2 v70_0 k1_hw6 k1_h3 => k1_hw6.2.1 k1_h3
theorem k1_off91_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off91 v70_0) a + S1x16.size a ≤ S256x256.size a := fun i k1_t2 v70_0 k1_hw6 k1_h3 => k1_hw6.2.2.1 k1_h3
theorem k1_off92_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off92 v70_0) a + S1x16.size a ≤ S256x256.size a := fun i k1_t2 v70_0 k1_hw6 k1_h3 => k1_hw6.2.2.2.1 k1_h3
theorem k1_off93_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off93 v70_0) a + S1x16.size a ≤ S256x256.size a := fun i k1_t2 v70_0 k1_hw6 k1_h3 => k1_hw6.2.2.2.2.1 k1_h3
theorem k1_off94_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off94 v70_0) a + S1x16.size a ≤ S256x256.size a := fun i k1_t2 v70_0 k1_hw6 k1_h3 => k1_hw6.2.2.2.2.2.1 k1_h3
theorem k1_off95_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off95 v70_0) a + S1x16.size a ≤ S256x256.size a := fun i k1_t2 v70_0 k1_hw6 k1_h3 => k1_hw6.2.2.2.2.2.2.1 k1_h3
theorem k1_off96_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off96 v70_0) a + S1x16.size a ≤ S256x256.size a := fun i k1_t2 v70_0 k1_hw6 k1_h3 => k1_hw6.2.2.2.2.2.2.2.1 k1_h3
theorem k1_off97_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off97 v70_0) a + S1x16.size a ≤ S256x256.size a := fun i k1_t2 v70_0 k1_hw6 k1_h3 => k1_hw6.2.2.2.2.2.2.2.2.1 k1_h3
theorem k1_off98_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off98 v70_0) a + S1x16.size a ≤ S256x256.size a := fun i k1_t2 v70_0 k1_hw6 k1_h3 => k1_hw6.2.2.2.2.2.2.2.2.2.1 k1_h3
theorem k1_off99_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off99 v70_0) a + S1x16.size a ≤ S256x256.size a := fun i k1_t2 v70_0 k1_hw6 k1_h3 => k1_hw6.2.2.2.2.2.2.2.2.2.2.1 k1_h3
theorem k1_off100_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off100 v70_0) a + S1x16.size a ≤ S256x256.size a := fun i k1_t2 v70_0 k1_hw6 k1_h3 => k1_hw6.2.2.2.2.2.2.2.2.2.2.2.1 k1_h3
theorem k1_off101_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off101 v70_0) a + S1x16.size a ≤ S256x256.size a := fun i k1_t2 v70_0 k1_hw6 k1_h3 => k1_hw6.2.2.2.2.2.2.2.2.2.2.2.2.1 k1_h3
theorem k1_off102_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off102 v70_0) a + S1x16.size a ≤ S256x256.size a := fun i k1_t2 v70_0 k1_hw6 k1_h3 => k1_hw6.2.2.2.2.2.2.2.2.2.2.2.2.2.1 k1_h3
theorem k1_off103_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off103 v70_0) a + S1x16.size a ≤ S256x256.size a := fun i k1_t2 v70_0 k1_hw6 k1_h3 => k1_hw6.2.2.2.2.2.2.2.2.2.2.2.2.2.2.1 k1_h3
theorem k1_off104_inb : ∀ (i : grid1.Coords) (k1_t2 : Fin (k1_t2_loop i).trips) (v70_0 : BitVec 32) (k1_hw6 : k1_chk6 i k1_t2 v70_0), ∀ (k1_h3 : k1_cond3 i k1_t2 = 1#1), ∀ a, (k1_off104 v70_0) a + S1x16.size a ≤ S256x256.size a := fun i k1_t2 v70_0 k1_hw6 k1_h3 => k1_hw6.2.2.2.2.2.2.2.2.2.2.2.2.2.2.2 k1_h3

def k1_cond7 (i : grid1.Coords) (k1_t2 : Fin (k1_t2_loop i).trips) : BitVec 1 :=
  let c0_i32_16 : BitVec 32 := 0#32
  let c1_i32_18 : BitVec 32 := 1#32
  let arg14 : BitVec 32 := Scf.iv c0_i32_16 c1_i32_18 k1_t2
  let c2_i32_25 : BitVec 32 := 2#32
  let v42 : BitVec 32 := Scalar.muli arg14 c2_i32_25
  let c0_i32_26 : BitVec 32 := 0#32
  let v43 : BitVec 32 := Scalar.addi v42 c0_i32_26
  let c2_i32_54 : BitVec 32 := 2#32
  let v151 : BitVec 32 := Scalar.addi v43 c2_i32_54
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v152 : BitVec 1 := Scalar.cmpi .slt v151 v2
  let v153 : BitVec 32 := Scalar.extui v152
  let c0_i32_55 : BitVec 32 := 0#32
  let v154 : BitVec 1 := Scalar.cmpi .ne v153 c0_i32_55
  v154

def k1_off105 (i : grid1.Coords) (k1_t2 : Fin (k1_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_25 : BitVec 32 := 2#32
  let v42 : BitVec 32 := Scalar.muli arg14 c2_i32_25
  let c0_i32_26 : BitVec 32 := 0#32
  let v43 : BitVec 32 := Scalar.addi v42 c0_i32_26
  let c2_i32_56 : BitVec 32 := 2#32
  let v155 : BitVec 32 := Scalar.addi v43 c2_i32_56
  let c112_i32_57 : BitVec 32 := 112#32
  let v156 : BitVec 32 := Scalar.muli v155 c112_i32_57
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k1_off106 (i : grid1.Coords) (k1_t2 : Fin (k1_t2_loop i).trips) : Fin 1 → Nat :=
  let c0_i32_58 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_25 : BitVec 32 := 2#32
  let v42 : BitVec 32 := Scalar.muli arg14 c2_i32_25
  let c0_i32_26 : BitVec 32 := 0#32
  let v43 : BitVec 32 := Scalar.addi v42 c0_i32_26
  let c2_i32_56 : BitVec 32 := 2#32
  let v155 : BitVec 32 := Scalar.addi v43 c2_i32_56
  let c112_i32_57 : BitVec 32 := 112#32
  let v156 : BitVec 32 := Scalar.muli v155 c112_i32_57
  let v157 : BitVec 32 := Scalar.addi v0 v156
  let v160 : BitVec 32 := Scalar.addi c0_i32_58 v157
  ![v160.toNat]
def k1_cond8 (i : grid1.Coords) (k1_t2 : Fin (k1_t2_loop i).trips) : BitVec 1 :=
  let c0_i32_16 : BitVec 32 := 0#32
  let c1_i32_18 : BitVec 32 := 1#32
  let arg14 : BitVec 32 := Scf.iv c0_i32_16 c1_i32_18 k1_t2
  let c2_i32_28 : BitVec 32 := 2#32
  let v47 : BitVec 32 := Scalar.muli arg14 c2_i32_28
  let c1_i32_29 : BitVec 32 := 1#32
  let v48 : BitVec 32 := Scalar.addi v47 c1_i32_29
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v49 : BitVec 1 := Scalar.cmpi .slt v48 v2
  let v50 : BitVec 32 := Scalar.extui v49
  let c0_i32_30 : BitVec 32 := 0#32
  let v51 : BitVec 1 := Scalar.cmpi .ne v50 c0_i32_30
  v51

def k1_off107 (i : grid1.Coords) (k1_t2 : Fin (k1_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k1_off108 (i : grid1.Coords) (k1_t2 : Fin (k1_t2_loop i).trips) : Fin 1 → Nat :=
  let c0_i32_31 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let v56 : BitVec 32 := Scalar.addi c0_i32_31 v53
  ![v56.toNat]

def k1_chk7 (i : grid1.Coords) (k1_t2 : Fin (k1_t2_loop i).trips) (v61 : IVec S16 32) : Prop :=
  (∀ (k1_h8 : k1_cond8 i k1_t2 = 1#1), ∀ a x, ((![v61] : Fin 1 → IVec S16 32) a x).toNat < S128.size a)
theorem k1_idx4_inb : ∀ (i : grid1.Coords) (k1_t2 : Fin (k1_t2_loop i).trips) (v61 : IVec S16 32) (k1_hw7 : k1_chk7 i k1_t2 v61), ∀ (k1_h8 : k1_cond8 i k1_t2 = 1#1), ∀ a x, ((![v61] : Fin 1 → IVec S16 32) a x).toNat < S128.size a := fun i k1_t2 v61 k1_hw7 k1_h8 => k1_hw7 k1_h8
@[reducible] def k1_t6_loop : Scf.Loop 32 :=
  let c0_i32_35 : BitVec 32 := 0#32
  let c7_i32 : BitVec 32 := 7#32
  let v69 : BitVec 32 := Scalar.addi c0_i32_35 c7_i32
  let c1_i32_36 : BitVec 32 := 1#32
  ⟨c0_i32_35, v69, c1_i32_36⟩
def k1_off109 (k1_t6 : Fin k1_t6_loop.trips) : Fin 1 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v156 : Index := Scalar.indexCast v155
  ![v156.toNat]
def k1_off110 (k1_t6 : Fin k1_t6_loop.trips) (c0_i32_61 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v176 : BitVec 32 := Scalar.addi v155 c0_i32_61
  let v177 : Index := Scalar.indexCast v176
  let c0_62 : Index := 0#32
  ![v177.toNat, 0]
def k1_off111 (k1_t6 : Fin k1_t6_loop.trips) (c0_i32_63 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v180 : BitVec 32 := Scalar.addi v155 c0_i32_63
  let v181 : Index := Scalar.indexCast v180
  let c16_64 : Index := 16#32
  ![v181.toNat, 16]
def k1_off112 (k1_t6 : Fin k1_t6_loop.trips) (c0_i32_65 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v184 : BitVec 32 := Scalar.addi v155 c0_i32_65
  let v185 : Index := Scalar.indexCast v184
  let c32_66 : Index := 32#32
  ![v185.toNat, 32]
def k1_off113 (k1_t6 : Fin k1_t6_loop.trips) (c0_i32_67 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v188 : BitVec 32 := Scalar.addi v155 c0_i32_67
  let v189 : Index := Scalar.indexCast v188
  let c48_68 : Index := 48#32
  ![v189.toNat, 48]
def k1_off114 (k1_t6 : Fin k1_t6_loop.trips) (c0_i32_69 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v192 : BitVec 32 := Scalar.addi v155 c0_i32_69
  let v193 : Index := Scalar.indexCast v192
  let c64_70 : Index := 64#32
  ![v193.toNat, 64]
def k1_off115 (k1_t6 : Fin k1_t6_loop.trips) (c0_i32_71 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v196 : BitVec 32 := Scalar.addi v155 c0_i32_71
  let v197 : Index := Scalar.indexCast v196
  let c80_72 : Index := 80#32
  ![v197.toNat, 80]
def k1_off116 (k1_t6 : Fin k1_t6_loop.trips) (c0_i32_73 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v200 : BitVec 32 := Scalar.addi v155 c0_i32_73
  let v201 : Index := Scalar.indexCast v200
  let c96_74 : Index := 96#32
  ![v201.toNat, 96]
def k1_off117 (k1_t6 : Fin k1_t6_loop.trips) (c0_i32_75 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v204 : BitVec 32 := Scalar.addi v155 c0_i32_75
  let v205 : Index := Scalar.indexCast v204
  let c112_76 : Index := 112#32
  ![v205.toNat, 112]
def k1_off118 (k1_t6 : Fin k1_t6_loop.trips) (c0_i32_77 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v208 : BitVec 32 := Scalar.addi v155 c0_i32_77
  let v209 : Index := Scalar.indexCast v208
  let c128_78 : Index := 128#32
  ![v209.toNat, 128]
def k1_off119 (k1_t6 : Fin k1_t6_loop.trips) (c0_i32_79 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v212 : BitVec 32 := Scalar.addi v155 c0_i32_79
  let v213 : Index := Scalar.indexCast v212
  let c144_80 : Index := 144#32
  ![v213.toNat, 144]
def k1_off120 (k1_t6 : Fin k1_t6_loop.trips) (c0_i32_81 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v216 : BitVec 32 := Scalar.addi v155 c0_i32_81
  let v217 : Index := Scalar.indexCast v216
  let c160_82 : Index := 160#32
  ![v217.toNat, 160]
def k1_off121 (k1_t6 : Fin k1_t6_loop.trips) (c0_i32_83 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v220 : BitVec 32 := Scalar.addi v155 c0_i32_83
  let v221 : Index := Scalar.indexCast v220
  let c176_84 : Index := 176#32
  ![v221.toNat, 176]
def k1_off122 (k1_t6 : Fin k1_t6_loop.trips) (c0_i32_85 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v224 : BitVec 32 := Scalar.addi v155 c0_i32_85
  let v225 : Index := Scalar.indexCast v224
  let c192_86 : Index := 192#32
  ![v225.toNat, 192]
def k1_off123 (k1_t6 : Fin k1_t6_loop.trips) (c0_i32_87 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v228 : BitVec 32 := Scalar.addi v155 c0_i32_87
  let v229 : Index := Scalar.indexCast v228
  let c208_88 : Index := 208#32
  ![v229.toNat, 208]
def k1_off124 (k1_t6 : Fin k1_t6_loop.trips) (c0_i32_89 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v232 : BitVec 32 := Scalar.addi v155 c0_i32_89
  let v233 : Index := Scalar.indexCast v232
  let c224_90 : Index := 224#32
  ![v233.toNat, 224]
def k1_off125 (k1_t6 : Fin k1_t6_loop.trips) (c0_i32_91 : BitVec 32) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let v236 : BitVec 32 := Scalar.addi v155 c0_i32_91
  let v237 : Index := Scalar.indexCast v236
  let c240_92 : Index := 240#32
  ![v237.toNat, 240]
@[reducible] def k1_t7_loop (k1_t6 : Fin k1_t6_loop.trips) : Scf.Loop 32 :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_63 : BitVec 32 := 1#32
  ⟨v155, v181, c1_i32_63⟩
def k1_cond9 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_60 : BitVec 32 := 0#32
  let v174 : BitVec 1 := Scalar.cmpi .ne v173 c0_i32_60
  v174

def k1_chk8 (i : grid1.Coords) (k1_t2 : Fin (k1_t2_loop i).trips) (arg16 : BitVec 32) (v163 : BitVec 32) (v170 : BitVec 32) (v184 : IVec S16 32) : Prop :=
  (∀ (k1_h8 : k1_cond8 i k1_t2 = 1#1), ∀ (k1_h9 : ¬(k1_cond9 arg16 v163 v170 = 1#1)), ∀ a x, ((![v184] : Fin 1 → IVec S16 32) a x).toNat < S128.size a)
theorem k1_idx5_inb : ∀ (i : grid1.Coords) (k1_t2 : Fin (k1_t2_loop i).trips) (arg16 : BitVec 32) (v163 : BitVec 32) (v170 : BitVec 32) (v184 : IVec S16 32) (k1_hw8 : k1_chk8 i k1_t2 arg16 v163 v170 v184), ∀ (k1_h8 : k1_cond8 i k1_t2 = 1#1), ∀ (k1_h9 : ¬(k1_cond9 arg16 v163 v170 = 1#1)), ∀ a x, ((![v184] : Fin 1 → IVec S16 32) a x).toNat < S128.size a := fun i k1_t2 arg16 v163 v170 v184 k1_hw8 k1_h8 k1_h9 => k1_hw8 k1_h8 k1_h9
def k1_off126 (arg34 : BitVec 32) : Fin 2 → Nat :=
  let v244 : Index := Scalar.indexCast arg34
  let c0_84 : Index := 0#32
  ![v244.toNat, 0]
def k1_cond10 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off127 (arg34 : BitVec 32) : Fin 2 → Nat :=
  let v249 : Index := Scalar.indexCast arg34
  let c16_86 : Index := 16#32
  ![v249.toNat, 16]
def k1_off128 (arg34 : BitVec 32) : Fin 2 → Nat :=
  let v254 : Index := Scalar.indexCast arg34
  let c32_88 : Index := 32#32
  ![v254.toNat, 32]
def k1_off129 (arg34 : BitVec 32) : Fin 2 → Nat :=
  let v259 : Index := Scalar.indexCast arg34
  let c48_90 : Index := 48#32
  ![v259.toNat, 48]
def k1_off130 (arg34 : BitVec 32) : Fin 2 → Nat :=
  let v264 : Index := Scalar.indexCast arg34
  let c64_92 : Index := 64#32
  ![v264.toNat, 64]
def k1_off131 (arg34 : BitVec 32) : Fin 2 → Nat :=
  let v269 : Index := Scalar.indexCast arg34
  let c80_94 : Index := 80#32
  ![v269.toNat, 80]
def k1_off132 (arg34 : BitVec 32) : Fin 2 → Nat :=
  let v274 : Index := Scalar.indexCast arg34
  let c96_96 : Index := 96#32
  ![v274.toNat, 96]
def k1_off133 (arg34 : BitVec 32) : Fin 2 → Nat :=
  let v279 : Index := Scalar.indexCast arg34
  let c112_98 : Index := 112#32
  ![v279.toNat, 112]
def k1_off134 (arg34 : BitVec 32) : Fin 2 → Nat :=
  let v284 : Index := Scalar.indexCast arg34
  let c128_100 : Index := 128#32
  ![v284.toNat, 128]
def k1_off135 (arg34 : BitVec 32) : Fin 2 → Nat :=
  let v289 : Index := Scalar.indexCast arg34
  let c144_102 : Index := 144#32
  ![v289.toNat, 144]
def k1_off136 (arg34 : BitVec 32) : Fin 2 → Nat :=
  let v294 : Index := Scalar.indexCast arg34
  let c160_104 : Index := 160#32
  ![v294.toNat, 160]
def k1_off137 (arg34 : BitVec 32) : Fin 2 → Nat :=
  let v299 : Index := Scalar.indexCast arg34
  let c176_106 : Index := 176#32
  ![v299.toNat, 176]
def k1_off138 (arg34 : BitVec 32) : Fin 2 → Nat :=
  let v304 : Index := Scalar.indexCast arg34
  let c192_108 : Index := 192#32
  ![v304.toNat, 192]
def k1_off139 (arg34 : BitVec 32) : Fin 2 → Nat :=
  let v309 : Index := Scalar.indexCast arg34
  let c208_110 : Index := 208#32
  ![v309.toNat, 208]
def k1_off140 (arg34 : BitVec 32) : Fin 2 → Nat :=
  let v314 : Index := Scalar.indexCast arg34
  let c224_112 : Index := 224#32
  ![v314.toNat, 224]
def k1_off141 (arg34 : BitVec 32) : Fin 2 → Nat :=
  let v319 : Index := Scalar.indexCast arg34
  let c240_114 : Index := 240#32
  ![v319.toNat, 240]

def k1_chk9 (i : grid1.Coords) (k1_t2 : Fin (k1_t2_loop i).trips) (arg16 : BitVec 32) (v163 : BitVec 32) (v170 : BitVec 32) (arg34 : BitVec 32) (v191 : BitVec 32) : Prop :=
  (∀ (k1_h8 : k1_cond8 i k1_t2 = 1#1), ∀ (k1_h9 : ¬(k1_cond9 arg16 v163 v170 = 1#1)), ∀ (k1_h10 : k1_cond10 arg34 v191 = 1#1), ∀ a, (k1_off126 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off127 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off128 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off129 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off130 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off131 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off132 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off133 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off134 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off135 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off136 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off137 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off138 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off139 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off140 arg34) a + S1x16.size a ≤ S256x256.size a) ∧
  (∀ (k1_h8 : k1_cond8 i k1_t2 = 1#1), ∀ (k1_h9 : ¬(k1_cond9 arg16 v163 v170 = 1#1)), ∀ (k1_h10 : k1_cond10 arg34 v191 = 1#1), ∀ a, (k1_off141 arg34) a + S1x16.size a ≤ S256x256.size a)
theorem k1_off126_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off126 arg34) a + S1x16.size a ≤ S256x256.size a := fun i k1_t2 arg16 v163 v170 arg34 v191 k1_hw9 k1_h8 k1_h9 k1_h10 => k1_hw9.1 k1_h8 k1_h9 k1_h10
theorem k1_off127_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off127 arg34) a + S1x16.size a ≤ S256x256.size a := fun i k1_t2 arg16 v163 v170 arg34 v191 k1_hw9 k1_h8 k1_h9 k1_h10 => k1_hw9.2.1 k1_h8 k1_h9 k1_h10
theorem k1_off128_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off128 arg34) a + S1x16.size a ≤ S256x256.size a := fun i k1_t2 arg16 v163 v170 arg34 v191 k1_hw9 k1_h8 k1_h9 k1_h10 => k1_hw9.2.2.1 k1_h8 k1_h9 k1_h10
theorem k1_off129_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off129 arg34) a + S1x16.size a ≤ S256x256.size a := fun i k1_t2 arg16 v163 v170 arg34 v191 k1_hw9 k1_h8 k1_h9 k1_h10 => k1_hw9.2.2.2.1 k1_h8 k1_h9 k1_h10
theorem k1_off130_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off130 arg34) a + S1x16.size a ≤ S256x256.size a := fun i k1_t2 arg16 v163 v170 arg34 v191 k1_hw9 k1_h8 k1_h9 k1_h10 => k1_hw9.2.2.2.2.1 k1_h8 k1_h9 k1_h10
theorem k1_off131_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off131 arg34) a + S1x16.size a ≤ S256x256.size a := fun i k1_t2 arg16 v163 v170 arg34 v191 k1_hw9 k1_h8 k1_h9 k1_h10 => k1_hw9.2.2.2.2.2.1 k1_h8 k1_h9 k1_h10
theorem k1_off132_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off132 arg34) a + S1x16.size a ≤ S256x256.size a := fun i k1_t2 arg16 v163 v170 arg34 v191 k1_hw9 k1_h8 k1_h9 k1_h10 => k1_hw9.2.2.2.2.2.2.1 k1_h8 k1_h9 k1_h10
theorem k1_off133_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off133 arg34) a + S1x16.size a ≤ S256x256.size a := fun i k1_t2 arg16 v163 v170 arg34 v191 k1_hw9 k1_h8 k1_h9 k1_h10 => k1_hw9.2.2.2.2.2.2.2.1 k1_h8 k1_h9 k1_h10
theorem k1_off134_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off134 arg34) a + S1x16.size a ≤ S256x256.size a := fun i k1_t2 arg16 v163 v170 arg34 v191 k1_hw9 k1_h8 k1_h9 k1_h10 => k1_hw9.2.2.2.2.2.2.2.2.1 k1_h8 k1_h9 k1_h10
theorem k1_off135_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off135 arg34) a + S1x16.size a ≤ S256x256.size a := fun i k1_t2 arg16 v163 v170 arg34 v191 k1_hw9 k1_h8 k1_h9 k1_h10 => k1_hw9.2.2.2.2.2.2.2.2.2.1 k1_h8 k1_h9 k1_h10
theorem k1_off136_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off136 arg34) a + S1x16.size a ≤ S256x256.size a := fun i k1_t2 arg16 v163 v170 arg34 v191 k1_hw9 k1_h8 k1_h9 k1_h10 => k1_hw9.2.2.2.2.2.2.2.2.2.2.1 k1_h8 k1_h9 k1_h10
theorem k1_off137_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off137 arg34) a + S1x16.size a ≤ S256x256.size a := fun i k1_t2 arg16 v163 v170 arg34 v191 k1_hw9 k1_h8 k1_h9 k1_h10 => k1_hw9.2.2.2.2.2.2.2.2.2.2.2.1 k1_h8 k1_h9 k1_h10
theorem k1_off138_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off138 arg34) a + S1x16.size a ≤ S256x256.size a := fun i k1_t2 arg16 v163 v170 arg34 v191 k1_hw9 k1_h8 k1_h9 k1_h10 => k1_hw9.2.2.2.2.2.2.2.2.2.2.2.2.1 k1_h8 k1_h9 k1_h10
theorem k1_off139_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off139 arg34) a + S1x16.size a ≤ S256x256.size a := fun i k1_t2 arg16 v163 v170 arg34 v191 k1_hw9 k1_h8 k1_h9 k1_h10 => k1_hw9.2.2.2.2.2.2.2.2.2.2.2.2.2.1 k1_h8 k1_h9 k1_h10
theorem k1_off140_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off140 arg34) a + S1x16.size a ≤ S256x256.size a := fun i k1_t2 arg16 v163 v170 arg34 v191 k1_hw9 k1_h8 k1_h9 k1_h10 => k1_hw9.2.2.2.2.2.2.2.2.2.2.2.2.2.2.1 k1_h8 k1_h9 k1_h10
theorem k1_off141_inb : ∀ (i : grid1.Coords) (k1_t2 : Fin (k1_t2_loop i).trips) (arg16 : BitVec 32) (v163 : BitVec 32) (v170 : BitVec 32) (arg34 : BitVec 32) (v191 : BitVec 32) (k1_hw9 : k1_chk9 i k1_t2 arg16 v163 v170 arg34 v191), ∀ (k1_h8 : k1_cond8 i k1_t2 = 1#1), ∀ (k1_h9 : ¬(k1_cond9 arg16 v163 v170 = 1#1)), ∀ (k1_h10 : k1_cond10 arg34 v191 = 1#1), ∀ a, (k1_off141 arg34) a + S1x16.size a ≤ S256x256.size a := fun i k1_t2 arg16 v163 v170 arg34 v191 k1_hw9 k1_h8 k1_h9 k1_h10 => k1_hw9.2.2.2.2.2.2.2.2.2.2.2.2.2.2.2 k1_h8 k1_h9 k1_h10

def k1_off142 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v196 : Index := Scalar.indexCast arg33
  let c0_68 : Index := 0#32
  ![v196.toNat, 0]
def k1_off143 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v199 : Index := Scalar.indexCast arg33
  let c16_69 : Index := 16#32
  ![v199.toNat, 16]
def k1_off144 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v202 : Index := Scalar.indexCast arg33
  let c32_70 : Index := 32#32
  ![v202.toNat, 32]
def k1_off145 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v205 : Index := Scalar.indexCast arg33
  let c48_71 : Index := 48#32
  ![v205.toNat, 48]
def k1_off146 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v208 : Index := Scalar.indexCast arg33
  let c64_72 : Index := 64#32
  ![v208.toNat, 64]
def k1_off147 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v211 : Index := Scalar.indexCast arg33
  let c80_73 : Index := 80#32
  ![v211.toNat, 80]
def k1_off148 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v214 : Index := Scalar.indexCast arg33
  let c96_74 : Index := 96#32
  ![v214.toNat, 96]
def k1_off149 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v217 : Index := Scalar.indexCast arg33
  let c112_75 : Index := 112#32
  ![v217.toNat, 112]
def k1_off150 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v220 : Index := Scalar.indexCast arg33
  let c128_76 : Index := 128#32
  ![v220.toNat, 128]
def k1_off151 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v223 : Index := Scalar.indexCast arg33
  let c144_77 : Index := 144#32
  ![v223.toNat, 144]
def k1_off152 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v226 : Index := Scalar.indexCast arg33
  let c160_78 : Index := 160#32
  ![v226.toNat, 160]
def k1_off153 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v229 : Index := Scalar.indexCast arg33
  let c176_79 : Index := 176#32
  ![v229.toNat, 176]
def k1_off154 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v232 : Index := Scalar.indexCast arg33
  let c192_80 : Index := 192#32
  ![v232.toNat, 192]
def k1_off155 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v235 : Index := Scalar.indexCast arg33
  let c208_81 : Index := 208#32
  ![v235.toNat, 208]
def k1_off156 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v238 : Index := Scalar.indexCast arg33
  let c224_82 : Index := 224#32
  ![v238.toNat, 224]
def k1_off157 (k1_t6 : Fin k1_t6_loop.trips) (k1_t7 : Fin (k1_t7_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c1_i32_63 : BitVec 32 := 1#32
  let arg33 : BitVec 32 := Scf.iv v155 c1_i32_63 k1_t7
  let v241 : Index := Scalar.indexCast arg33
  let c240_83 : Index := 240#32
  ![v241.toNat, 240]
@[reducible] def k1_t8_loop (k1_t6 : Fin k1_t6_loop.trips) : Scf.Loop 32 :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let v178 : BitVec 32 := Scalar.addi v155 v177
  let c1_i32_64 : BitVec 32 := 1#32
  ⟨v181, v178, c1_i32_64⟩

def k1_chk10 (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (v184 : IVec S16 32) : Prop :=
  (∀ (k1_h8 : k1_cond8 i k1_t2 = 1#1), ∀ (k1_h9 : ¬(k1_cond9 arg16 v163 v170 = 1#1)), ∀ a x, ((![v184] : Fin 1 → IVec S16 32) a x).toNat < S128.size a)
theorem k1_idx6_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (v184 : IVec S16 32) (k1_hw10 : k1_chk10 i k1_t2 k1_t6 arg16 v163 v170 k1_t8 v184), ∀ (k1_h8 : k1_cond8 i k1_t2 = 1#1), ∀ (k1_h9 : ¬(k1_cond9 arg16 v163 v170 = 1#1)), ∀ a x, ((![v184] : Fin 1 → IVec S16 32) a x).toNat < S128.size a := fun i k1_t2 k1_t6 arg16 v163 v170 k1_t8 v184 k1_hw10 k1_h8 k1_h9 => k1_hw10 k1_h8 k1_h9
def k1_off158 (arg34 : BitVec 32) : Fin 2 → Nat :=
  let v244 : Index := Scalar.indexCast arg34
  let c0_84 : Index := 0#32
  ![v244.toNat, 0]
def k1_cond11 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off159 (arg34 : BitVec 32) : Fin 2 → Nat :=
  let v249 : Index := Scalar.indexCast arg34
  let c16_86 : Index := 16#32
  ![v249.toNat, 16]
def k1_off160 (arg34 : BitVec 32) : Fin 2 → Nat :=
  let v254 : Index := Scalar.indexCast arg34
  let c32_88 : Index := 32#32
  ![v254.toNat, 32]
def k1_off161 (arg34 : BitVec 32) : Fin 2 → Nat :=
  let v259 : Index := Scalar.indexCast arg34
  let c48_90 : Index := 48#32
  ![v259.toNat, 48]
def k1_off162 (arg34 : BitVec 32) : Fin 2 → Nat :=
  let v264 : Index := Scalar.indexCast arg34
  let c64_92 : Index := 64#32
  ![v264.toNat, 64]
def k1_off163 (arg34 : BitVec 32) : Fin 2 → Nat :=
  let v269 : Index := Scalar.indexCast arg34
  let c80_94 : Index := 80#32
  ![v269.toNat, 80]
def k1_off164 (arg34 : BitVec 32) : Fin 2 → Nat :=
  let v274 : Index := Scalar.indexCast arg34
  let c96_96 : Index := 96#32
  ![v274.toNat, 96]
def k1_off165 (arg34 : BitVec 32) : Fin 2 → Nat :=
  let v279 : Index := Scalar.indexCast arg34
  let c112_98 : Index := 112#32
  ![v279.toNat, 112]
def k1_off166 (arg34 : BitVec 32) : Fin 2 → Nat :=
  let v284 : Index := Scalar.indexCast arg34
  let c128_100 : Index := 128#32
  ![v284.toNat, 128]
def k1_off167 (arg34 : BitVec 32) : Fin 2 → Nat :=
  let v289 : Index := Scalar.indexCast arg34
  let c144_102 : Index := 144#32
  ![v289.toNat, 144]
def k1_off168 (arg34 : BitVec 32) : Fin 2 → Nat :=
  let v294 : Index := Scalar.indexCast arg34
  let c160_104 : Index := 160#32
  ![v294.toNat, 160]
def k1_off169 (arg34 : BitVec 32) : Fin 2 → Nat :=
  let v299 : Index := Scalar.indexCast arg34
  let c176_106 : Index := 176#32
  ![v299.toNat, 176]
def k1_off170 (arg34 : BitVec 32) : Fin 2 → Nat :=
  let v304 : Index := Scalar.indexCast arg34
  let c192_108 : Index := 192#32
  ![v304.toNat, 192]
def k1_off171 (arg34 : BitVec 32) : Fin 2 → Nat :=
  let v309 : Index := Scalar.indexCast arg34
  let c208_110 : Index := 208#32
  ![v309.toNat, 208]
def k1_off172 (arg34 : BitVec 32) : Fin 2 → Nat :=
  let v314 : Index := Scalar.indexCast arg34
  let c224_112 : Index := 224#32
  ![v314.toNat, 224]
def k1_off173 (arg34 : BitVec 32) : Fin 2 → Nat :=
  let v319 : Index := Scalar.indexCast arg34
  let c240_114 : Index := 240#32
  ![v319.toNat, 240]

def k1_chk11 (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) : Prop :=
  (∀ (k1_h8 : k1_cond8 i k1_t2 = 1#1), ∀ (k1_h9 : ¬(k1_cond9 arg16 v163 v170 = 1#1)), ∀ (k1_h11 : k1_cond11 arg34 v191 = 1#1), ∀ a, (k1_off158 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off159 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off160 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off161 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off162 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off163 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off164 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off165 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off166 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off167 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off168 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off169 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off170 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off171 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off172 arg34) a + S1x16.size a ≤ S256x256.size a) ∧
  (∀ (k1_h8 : k1_cond8 i k1_t2 = 1#1), ∀ (k1_h9 : ¬(k1_cond9 arg16 v163 v170 = 1#1)), ∀ (k1_h11 : k1_cond11 arg34 v191 = 1#1), ∀ a, (k1_off173 arg34) a + S1x16.size a ≤ S256x256.size a)
theorem k1_off158_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off158 arg34) a + S1x16.size a ≤ S256x256.size a := fun i k1_t2 k1_t6 arg16 v163 v170 k1_t8 arg34 v191 k1_hw11 k1_h8 k1_h9 k1_h11 => k1_hw11.1 k1_h8 k1_h9 k1_h11
theorem k1_off159_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off159 arg34) a + S1x16.size a ≤ S256x256.size a := fun i k1_t2 k1_t6 arg16 v163 v170 k1_t8 arg34 v191 k1_hw11 k1_h8 k1_h9 k1_h11 => k1_hw11.2.1 k1_h8 k1_h9 k1_h11
theorem k1_off160_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off160 arg34) a + S1x16.size a ≤ S256x256.size a := fun i k1_t2 k1_t6 arg16 v163 v170 k1_t8 arg34 v191 k1_hw11 k1_h8 k1_h9 k1_h11 => k1_hw11.2.2.1 k1_h8 k1_h9 k1_h11
theorem k1_off161_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off161 arg34) a + S1x16.size a ≤ S256x256.size a := fun i k1_t2 k1_t6 arg16 v163 v170 k1_t8 arg34 v191 k1_hw11 k1_h8 k1_h9 k1_h11 => k1_hw11.2.2.2.1 k1_h8 k1_h9 k1_h11
theorem k1_off162_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off162 arg34) a + S1x16.size a ≤ S256x256.size a := fun i k1_t2 k1_t6 arg16 v163 v170 k1_t8 arg34 v191 k1_hw11 k1_h8 k1_h9 k1_h11 => k1_hw11.2.2.2.2.1 k1_h8 k1_h9 k1_h11
theorem k1_off163_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off163 arg34) a + S1x16.size a ≤ S256x256.size a := fun i k1_t2 k1_t6 arg16 v163 v170 k1_t8 arg34 v191 k1_hw11 k1_h8 k1_h9 k1_h11 => k1_hw11.2.2.2.2.2.1 k1_h8 k1_h9 k1_h11
theorem k1_off164_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off164 arg34) a + S1x16.size a ≤ S256x256.size a := fun i k1_t2 k1_t6 arg16 v163 v170 k1_t8 arg34 v191 k1_hw11 k1_h8 k1_h9 k1_h11 => k1_hw11.2.2.2.2.2.2.1 k1_h8 k1_h9 k1_h11
theorem k1_off165_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off165 arg34) a + S1x16.size a ≤ S256x256.size a := fun i k1_t2 k1_t6 arg16 v163 v170 k1_t8 arg34 v191 k1_hw11 k1_h8 k1_h9 k1_h11 => k1_hw11.2.2.2.2.2.2.2.1 k1_h8 k1_h9 k1_h11
theorem k1_off166_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off166 arg34) a + S1x16.size a ≤ S256x256.size a := fun i k1_t2 k1_t6 arg16 v163 v170 k1_t8 arg34 v191 k1_hw11 k1_h8 k1_h9 k1_h11 => k1_hw11.2.2.2.2.2.2.2.2.1 k1_h8 k1_h9 k1_h11
theorem k1_off167_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off167 arg34) a + S1x16.size a ≤ S256x256.size a := fun i k1_t2 k1_t6 arg16 v163 v170 k1_t8 arg34 v191 k1_hw11 k1_h8 k1_h9 k1_h11 => k1_hw11.2.2.2.2.2.2.2.2.2.1 k1_h8 k1_h9 k1_h11
theorem k1_off168_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off168 arg34) a + S1x16.size a ≤ S256x256.size a := fun i k1_t2 k1_t6 arg16 v163 v170 k1_t8 arg34 v191 k1_hw11 k1_h8 k1_h9 k1_h11 => k1_hw11.2.2.2.2.2.2.2.2.2.2.1 k1_h8 k1_h9 k1_h11
theorem k1_off169_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off169 arg34) a + S1x16.size a ≤ S256x256.size a := fun i k1_t2 k1_t6 arg16 v163 v170 k1_t8 arg34 v191 k1_hw11 k1_h8 k1_h9 k1_h11 => k1_hw11.2.2.2.2.2.2.2.2.2.2.2.1 k1_h8 k1_h9 k1_h11
theorem k1_off170_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off170 arg34) a + S1x16.size a ≤ S256x256.size a := fun i k1_t2 k1_t6 arg16 v163 v170 k1_t8 arg34 v191 k1_hw11 k1_h8 k1_h9 k1_h11 => k1_hw11.2.2.2.2.2.2.2.2.2.2.2.2.1 k1_h8 k1_h9 k1_h11
theorem k1_off171_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off171 arg34) a + S1x16.size a ≤ S256x256.size a := fun i k1_t2 k1_t6 arg16 v163 v170 k1_t8 arg34 v191 k1_hw11 k1_h8 k1_h9 k1_h11 => k1_hw11.2.2.2.2.2.2.2.2.2.2.2.2.2.1 k1_h8 k1_h9 k1_h11
theorem k1_off172_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off172 arg34) a + S1x16.size a ≤ S256x256.size a := fun i k1_t2 k1_t6 arg16 v163 v170 k1_t8 arg34 v191 k1_hw11 k1_h8 k1_h9 k1_h11 => k1_hw11.2.2.2.2.2.2.2.2.2.2.2.2.2.2.1 k1_h8 k1_h9 k1_h11
theorem k1_off173_inb : ∀ (i : grid1.Coords) (k1_t2 : Fin (k1_t2_loop i).trips) (k1_t6 : Fin k1_t6_loop.trips) (arg16 : BitVec 32) (v163 : BitVec 32) (v170 : BitVec 32) (k1_t8 : Fin (k1_t8_loop k1_t6).trips) (arg34 : BitVec 32) (v191 : BitVec 32) (k1_hw11 : k1_chk11 i k1_t2 k1_t6 arg16 v163 v170 k1_t8 arg34 v191), ∀ (k1_h8 : k1_cond8 i k1_t2 = 1#1), ∀ (k1_h9 : ¬(k1_cond9 arg16 v163 v170 = 1#1)), ∀ (k1_h11 : k1_cond11 arg34 v191 = 1#1), ∀ a, (k1_off173 arg34) a + S1x16.size a ≤ S256x256.size a := fun i k1_t2 k1_t6 arg16 v163 v170 k1_t8 arg34 v191 k1_hw11 k1_h8 k1_h9 k1_h11 => k1_hw11.2.2.2.2.2.2.2.2.2.2.2.2.2.2.2 k1_h8 k1_h9 k1_h11

def k1_off174 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v196 : Index := Scalar.indexCast arg33
  let c0_68 : Index := 0#32
  ![v196.toNat, 0]
def k1_off175 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v199 : Index := Scalar.indexCast arg33
  let c16_69 : Index := 16#32
  ![v199.toNat, 16]
def k1_off176 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v202 : Index := Scalar.indexCast arg33
  let c32_70 : Index := 32#32
  ![v202.toNat, 32]
def k1_off177 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v205 : Index := Scalar.indexCast arg33
  let c48_71 : Index := 48#32
  ![v205.toNat, 48]
def k1_off178 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v208 : Index := Scalar.indexCast arg33
  let c64_72 : Index := 64#32
  ![v208.toNat, 64]
def k1_off179 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v211 : Index := Scalar.indexCast arg33
  let c80_73 : Index := 80#32
  ![v211.toNat, 80]
def k1_off180 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v214 : Index := Scalar.indexCast arg33
  let c96_74 : Index := 96#32
  ![v214.toNat, 96]
def k1_off181 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v217 : Index := Scalar.indexCast arg33
  let c112_75 : Index := 112#32
  ![v217.toNat, 112]
def k1_off182 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v220 : Index := Scalar.indexCast arg33
  let c128_76 : Index := 128#32
  ![v220.toNat, 128]
def k1_off183 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v223 : Index := Scalar.indexCast arg33
  let c144_77 : Index := 144#32
  ![v223.toNat, 144]
def k1_off184 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v226 : Index := Scalar.indexCast arg33
  let c160_78 : Index := 160#32
  ![v226.toNat, 160]
def k1_off185 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v229 : Index := Scalar.indexCast arg33
  let c176_79 : Index := 176#32
  ![v229.toNat, 176]
def k1_off186 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v232 : Index := Scalar.indexCast arg33
  let c192_80 : Index := 192#32
  ![v232.toNat, 192]
def k1_off187 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v235 : Index := Scalar.indexCast arg33
  let c208_81 : Index := 208#32
  ![v235.toNat, 208]
def k1_off188 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v238 : Index := Scalar.indexCast arg33
  let c224_82 : Index := 224#32
  ![v238.toNat, 224]
def k1_off189 (k1_t6 : Fin k1_t6_loop.trips) (k1_t8 : Fin (k1_t8_loop k1_t6).trips) : Fin 2 → Nat :=
  let c0_i32_35 : BitVec 32 := 0#32
  let c1_i32_36 : BitVec 32 := 1#32
  let arg15 : BitVec 32 := Scf.iv c0_i32_35 c1_i32_36 k1_t6
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t8
  let v241 : Index := Scalar.indexCast arg33
  let c240_83 : Index := 240#32
  ![v241.toNat, 240]
def k1_off190 (v70_0 : BitVec 32) : Fin 2 → Nat :=
  let v71 : Index := Scalar.indexCast v70_0
  let c0 : Index := 0#32
  ![v71.toNat, 0]

def k1_off191 (v70_0 : BitVec 32) : Fin 2 → Nat :=
  let v76 : Index := Scalar.indexCast v70_0
  let c16 : Index := 16#32
  ![v76.toNat, 16]
def k1_off192 (v70_0 : BitVec 32) : Fin 2 → Nat :=
  let v81 : Index := Scalar.indexCast v70_0
  let c32 : Index := 32#32
  ![v81.toNat, 32]
def k1_off193 (v70_0 : BitVec 32) : Fin 2 → Nat :=
  let v86 : Index := Scalar.indexCast v70_0
  let c48 : Index := 48#32
  ![v86.toNat, 48]
def k1_off194 (v70_0 : BitVec 32) : Fin 2 → Nat :=
  let v91 : Index := Scalar.indexCast v70_0
  let c64 : Index := 64#32
  ![v91.toNat, 64]
def k1_off195 (v70_0 : BitVec 32) : Fin 2 → Nat :=
  let v96 : Index := Scalar.indexCast v70_0
  let c80 : Index := 80#32
  ![v96.toNat, 80]
def k1_off196 (v70_0 : BitVec 32) : Fin 2 → Nat :=
  let v101 : Index := Scalar.indexCast v70_0
  let c96 : Index := 96#32
  ![v101.toNat, 96]
def k1_off197 (v70_0 : BitVec 32) : Fin 2 → Nat :=
  let v106 : Index := Scalar.indexCast v70_0
  let c112 : Index := 112#32
  ![v106.toNat, 112]
def k1_off198 (v70_0 : BitVec 32) : Fin 2 → Nat :=
  let v111 : Index := Scalar.indexCast v70_0
  let c128 : Index := 128#32
  ![v111.toNat, 128]
def k1_off199 (v70_0 : BitVec 32) : Fin 2 → Nat :=
  let v116 : Index := Scalar.indexCast v70_0
  let c144 : Index := 144#32
  ![v116.toNat, 144]
def k1_off200 (v70_0 : BitVec 32) : Fin 2 → Nat :=
  let v121 : Index := Scalar.indexCast v70_0
  let c160 : Index := 160#32
  ![v121.toNat, 160]
def k1_off201 (v70_0 : BitVec 32) : Fin 2 → Nat :=
  let v126 : Index := Scalar.indexCast v70_0
  let c176 : Index := 176#32
  ![v126.toNat, 176]
def k1_off202 (v70_0 : BitVec 32) : Fin 2 → Nat :=
  let v131 : Index := Scalar.indexCast v70_0
  let c192 : Index := 192#32
  ![v131.toNat, 192]
def k1_off203 (v70_0 : BitVec 32) : Fin 2 → Nat :=
  let v136 : Index := Scalar.indexCast v70_0
  let c208 : Index := 208#32
  ![v136.toNat, 208]
def k1_off204 (v70_0 : BitVec 32) : Fin 2 → Nat :=
  let v141 : Index := Scalar.indexCast v70_0
  let c224 : Index := 224#32
  ![v141.toNat, 224]
def k1_off205 (v70_0 : BitVec 32) : Fin 2 → Nat :=
  let v146 : Index := Scalar.indexCast v70_0
  let c240 : Index := 240#32
  ![v146.toNat, 240]

def k1_chk12 (i : grid1.Coords) (k1_t2 : Fin (k1_t2_loop i).trips) (v70_0 : BitVec 32) : Prop :=
  (∀ (k1_h8 : k1_cond8 i k1_t2 = 1#1), ∀ a, (k1_off190 v70_0) a + S1x16.size a ≤ S256x256.size a) ∧
  (∀ (k1_h8 : k1_cond8 i k1_t2 = 1#1), ∀ a, (k1_off191 v70_0) a + S1x16.size a ≤ S256x256.size a) ∧
  (∀ (k1_h8 : k1_cond8 i k1_t2 = 1#1), ∀ a, (k1_off192 v70_0) a + S1x16.size a ≤ S256x256.size a) ∧
  (∀ (k1_h8 : k1_cond8 i k1_t2 = 1#1), ∀ a, (k1_off193 v70_0) a + S1x16.size a ≤ S256x256.size a) ∧
  (∀ (k1_h8 : k1_cond8 i k1_t2 = 1#1), ∀ a, (k1_off194 v70_0) a + S1x16.size a ≤ S256x256.size a) ∧
  (∀ (k1_h8 : k1_cond8 i k1_t2 = 1#1), ∀ a, (k1_off195 v70_0) a + S1x16.size a ≤ S256x256.size a) ∧
  (∀ (k1_h8 : k1_cond8 i k1_t2 = 1#1), ∀ a, (k1_off196 v70_0) a + S1x16.size a ≤ S256x256.size a) ∧
  (∀ (k1_h8 : k1_cond8 i k1_t2 = 1#1), ∀ a, (k1_off197 v70_0) a + S1x16.size a ≤ S256x256.size a) ∧
  (∀ (k1_h8 : k1_cond8 i k1_t2 = 1#1), ∀ a, (k1_off198 v70_0) a + S1x16.size a ≤ S256x256.size a) ∧
  (∀ (k1_h8 : k1_cond8 i k1_t2 = 1#1), ∀ a, (k1_off199 v70_0) a + S1x16.size a ≤ S256x256.size a) ∧
  (∀ (k1_h8 : k1_cond8 i k1_t2 = 1#1), ∀ a, (k1_off200 v70_0) a + S1x16.size a ≤ S256x256.size a) ∧
  (∀ (k1_h8 : k1_cond8 i k1_t2 = 1#1), ∀ a, (k1_off201 v70_0) a + S1x16.size a ≤ S256x256.size a) ∧
  (∀ (k1_h8 : k1_cond8 i k1_t2 = 1#1), ∀ a, (k1_off202 v70_0) a + S1x16.size a ≤ S256x256.size a) ∧
  (∀ (k1_h8 : k1_cond8 i k1_t2 = 1#1), ∀ a, (k1_off203 v70_0) a + S1x16.size a ≤ S256x256.size a) ∧
  (∀ (k1_h8 : k1_cond8 i k1_t2 = 1#1), ∀ a, (k1_off204 v70_0) a + S1x16.size a ≤ S256x256.size a) ∧
  (∀ (k1_h8 : k1_cond8 i k1_t2 = 1#1), ∀ a, (k1_off205 v70_0) a + S1x16.size a ≤ S256x256.size a)
theorem k1_off190_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off190 v70_0) a + S1x16.size a ≤ S256x256.size a := fun i k1_t2 v70_0 k1_hw12 k1_h8 => k1_hw12.1 k1_h8
theorem k1_off191_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off191 v70_0) a + S1x16.size a ≤ S256x256.size a := fun i k1_t2 v70_0 k1_hw12 k1_h8 => k1_hw12.2.1 k1_h8
theorem k1_off192_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off192 v70_0) a + S1x16.size a ≤ S256x256.size a := fun i k1_t2 v70_0 k1_hw12 k1_h8 => k1_hw12.2.2.1 k1_h8
theorem k1_off193_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off193 v70_0) a + S1x16.size a ≤ S256x256.size a := fun i k1_t2 v70_0 k1_hw12 k1_h8 => k1_hw12.2.2.2.1 k1_h8
theorem k1_off194_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off194 v70_0) a + S1x16.size a ≤ S256x256.size a := fun i k1_t2 v70_0 k1_hw12 k1_h8 => k1_hw12.2.2.2.2.1 k1_h8
theorem k1_off195_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off195 v70_0) a + S1x16.size a ≤ S256x256.size a := fun i k1_t2 v70_0 k1_hw12 k1_h8 => k1_hw12.2.2.2.2.2.1 k1_h8
theorem k1_off196_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off196 v70_0) a + S1x16.size a ≤ S256x256.size a := fun i k1_t2 v70_0 k1_hw12 k1_h8 => k1_hw12.2.2.2.2.2.2.1 k1_h8
theorem k1_off197_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off197 v70_0) a + S1x16.size a ≤ S256x256.size a := fun i k1_t2 v70_0 k1_hw12 k1_h8 => k1_hw12.2.2.2.2.2.2.2.1 k1_h8
theorem k1_off198_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off198 v70_0) a + S1x16.size a ≤ S256x256.size a := fun i k1_t2 v70_0 k1_hw12 k1_h8 => k1_hw12.2.2.2.2.2.2.2.2.1 k1_h8
theorem k1_off199_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off199 v70_0) a + S1x16.size a ≤ S256x256.size a := fun i k1_t2 v70_0 k1_hw12 k1_h8 => k1_hw12.2.2.2.2.2.2.2.2.2.1 k1_h8
theorem k1_off200_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off200 v70_0) a + S1x16.size a ≤ S256x256.size a := fun i k1_t2 v70_0 k1_hw12 k1_h8 => k1_hw12.2.2.2.2.2.2.2.2.2.2.1 k1_h8
theorem k1_off201_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off201 v70_0) a + S1x16.size a ≤ S256x256.size a := fun i k1_t2 v70_0 k1_hw12 k1_h8 => k1_hw12.2.2.2.2.2.2.2.2.2.2.2.1 k1_h8
theorem k1_off202_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off202 v70_0) a + S1x16.size a ≤ S256x256.size a := fun i k1_t2 v70_0 k1_hw12 k1_h8 => k1_hw12.2.2.2.2.2.2.2.2.2.2.2.2.1 k1_h8
theorem k1_off203_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off203 v70_0) a + S1x16.size a ≤ S256x256.size a := fun i k1_t2 v70_0 k1_hw12 k1_h8 => k1_hw12.2.2.2.2.2.2.2.2.2.2.2.2.2.1 k1_h8
theorem k1_off204_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off204 v70_0) a + S1x16.size a ≤ S256x256.size a := fun i k1_t2 v70_0 k1_hw12 k1_h8 => k1_hw12.2.2.2.2.2.2.2.2.2.2.2.2.2.2.1 k1_h8
theorem k1_off205_inb : ∀ (i : grid1.Coords) (k1_t2 : Fin (k1_t2_loop i).trips) (v70_0 : BitVec 32) (k1_hw12 : k1_chk12 i k1_t2 v70_0), ∀ (k1_h8 : k1_cond8 i k1_t2 = 1#1), ∀ a, (k1_off205 v70_0) a + S1x16.size a ≤ S256x256.size a := fun i k1_t2 v70_0 k1_hw12 k1_h8 => k1_hw12.2.2.2.2.2.2.2.2.2.2.2.2.2.2.2 k1_h8

def k1_cond12 (i : grid1.Coords) (k1_t2 : Fin (k1_t2_loop i).trips) : BitVec 1 :=
  let c0_i32_16 : BitVec 32 := 0#32
  let c1_i32_18 : BitVec 32 := 1#32
  let arg14 : BitVec 32 := Scf.iv c0_i32_16 c1_i32_18 k1_t2
  let c2_i32_28 : BitVec 32 := 2#32
  let v47 : BitVec 32 := Scalar.muli arg14 c2_i32_28
  let c1_i32_29 : BitVec 32 := 1#32
  let v48 : BitVec 32 := Scalar.addi v47 c1_i32_29
  let c2_i32_54 : BitVec 32 := 2#32
  let v151 : BitVec 32 := Scalar.addi v48 c2_i32_54
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v152 : BitVec 1 := Scalar.cmpi .slt v151 v2
  let v153 : BitVec 32 := Scalar.extui v152
  let c0_i32_55 : BitVec 32 := 0#32
  let v154 : BitVec 1 := Scalar.cmpi .ne v153 c0_i32_55
  v154

def k1_off206 (i : grid1.Coords) (k1_t2 : Fin (k1_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_28 : BitVec 32 := 2#32
  let v47 : BitVec 32 := Scalar.muli arg14 c2_i32_28
  let c1_i32_29 : BitVec 32 := 1#32
  let v48 : BitVec 32 := Scalar.addi v47 c1_i32_29
  let c2_i32_56 : BitVec 32 := 2#32
  let v155 : BitVec 32 := Scalar.addi v48 c2_i32_56
  let c112_i32_57 : BitVec 32 := 112#32
  let v156 : BitVec 32 := Scalar.muli v155 c112_i32_57
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k1_off207 (i : grid1.Coords) (k1_t2 : Fin (k1_t2_loop i).trips) : Fin 1 → Nat :=
  let c0_i32_58 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k1_t2
  let c2_i32_28 : BitVec 32 := 2#32
  let v47 : BitVec 32 := Scalar.muli arg14 c2_i32_28
  let c1_i32_29 : BitVec 32 := 1#32
  let v48 : BitVec 32 := Scalar.addi v47 c1_i32_29
  let c2_i32_56 : BitVec 32 := 2#32
  let v155 : BitVec 32 := Scalar.addi v48 c2_i32_56
  let c112_i32_57 : BitVec 32 := 112#32
  let v156 : BitVec 32 := Scalar.muli v155 c112_i32_57
  let v157 : BitVec 32 := Scalar.addi v0 v156
  let v160 : BitVec 32 := Scalar.addi c0_i32_58 v157
  ![v160.toNat]
@[reducible] def k1_t9_loop (i : grid1.Coords) : Scf.Loop 32 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let v33 : BitVec 32 := Scalar.addi c0_i32_16 v32
  let c1_i32_19 : BitVec 32 := 1#32
  ⟨v36, v33, c1_i32_19⟩
def k1_cond13 (i : grid1.Coords) (k1_t9 : Fin (k1_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_25 : BitVec 32 := 2#32
  let v42 : BitVec 32 := Scalar.muli arg14 c2_i32_25
  let c0_i32_26 : BitVec 32 := 0#32
  let v43 : BitVec 32 := Scalar.addi v42 c0_i32_26
  let v44 : BitVec 1 := Scalar.cmpi .slt v43 v2
  let v45 : BitVec 32 := Scalar.extui v44
  let c0_i32_27 : BitVec 32 := 0#32
  let v46 : BitVec 1 := Scalar.cmpi .ne v45 c0_i32_27
  v46

def k1_off208 (i : grid1.Coords) (k1_t9 : Fin (k1_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k1_off209 (i : grid1.Coords) (k1_t9 : Fin (k1_t9_loop i).trips) : Fin 1 → Nat :=
  let c0_i32_31 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let v56 : BitVec 32 := Scalar.addi c0_i32_31 v53
  ![v56.toNat]

def k1_chk13 (i : grid1.Coords) (k1_t9 : Fin (k1_t9_loop i).trips) (v61 : IVec S16 32) : Prop :=
  (∀ (k1_h13 : k1_cond13 i k1_t9 = 1#1), ∀ a x, ((![v61] : Fin 1 → IVec S16 32) a x).toNat < S128.size a)
theorem k1_idx7_inb : ∀ (i : grid1.Coords) (k1_t9 : Fin (k1_t9_loop i).trips) (v61 : IVec S16 32) (k1_hw13 : k1_chk13 i k1_t9 v61), ∀ (k1_h13 : k1_cond13 i k1_t9 = 1#1), ∀ a x, ((![v61] : Fin 1 → IVec S16 32) a x).toNat < S128.size a := fun i k1_t9 v61 k1_hw13 k1_h13 => k1_hw13 k1_h13
@[reducible] def k1_t10_loop : Scf.Loop 32 :=
  let c0_i32_35 : BitVec 32 := 0#32
  let c7_i32 : BitVec 32 := 7#32
  let v69 : BitVec 32 := Scalar.addi c0_i32_35 c7_i32
  let c1_i32_36 : BitVec 32 := 1#32
  ⟨c0_i32_35, v69, c1_i32_36⟩
def k1_off210 (k1_t10 : Fin k1_t10_loop.trips) : Fin 1 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v156 : Index := Scalar.indexCast v155
  ![v156.toNat]
def k1_off211 (k1_t10 : Fin k1_t10_loop.trips) (c0_i32_61 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v176 : BitVec 32 := Scalar.addi v155 c0_i32_61
  let v177 : Index := Scalar.indexCast v176
  let c0_62 : Index := 0#32
  ![v177.toNat, 0]
def k1_off212 (k1_t10 : Fin k1_t10_loop.trips) (c0_i32_63 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v180 : BitVec 32 := Scalar.addi v155 c0_i32_63
  let v181 : Index := Scalar.indexCast v180
  let c16_64 : Index := 16#32
  ![v181.toNat, 16]
def k1_off213 (k1_t10 : Fin k1_t10_loop.trips) (c0_i32_65 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v184 : BitVec 32 := Scalar.addi v155 c0_i32_65
  let v185 : Index := Scalar.indexCast v184
  let c32_66 : Index := 32#32
  ![v185.toNat, 32]
def k1_off214 (k1_t10 : Fin k1_t10_loop.trips) (c0_i32_67 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v188 : BitVec 32 := Scalar.addi v155 c0_i32_67
  let v189 : Index := Scalar.indexCast v188
  let c48_68 : Index := 48#32
  ![v189.toNat, 48]
def k1_off215 (k1_t10 : Fin k1_t10_loop.trips) (c0_i32_69 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v192 : BitVec 32 := Scalar.addi v155 c0_i32_69
  let v193 : Index := Scalar.indexCast v192
  let c64_70 : Index := 64#32
  ![v193.toNat, 64]
def k1_off216 (k1_t10 : Fin k1_t10_loop.trips) (c0_i32_71 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v196 : BitVec 32 := Scalar.addi v155 c0_i32_71
  let v197 : Index := Scalar.indexCast v196
  let c80_72 : Index := 80#32
  ![v197.toNat, 80]
def k1_off217 (k1_t10 : Fin k1_t10_loop.trips) (c0_i32_73 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v200 : BitVec 32 := Scalar.addi v155 c0_i32_73
  let v201 : Index := Scalar.indexCast v200
  let c96_74 : Index := 96#32
  ![v201.toNat, 96]
def k1_off218 (k1_t10 : Fin k1_t10_loop.trips) (c0_i32_75 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v204 : BitVec 32 := Scalar.addi v155 c0_i32_75
  let v205 : Index := Scalar.indexCast v204
  let c112_76 : Index := 112#32
  ![v205.toNat, 112]
def k1_off219 (k1_t10 : Fin k1_t10_loop.trips) (c0_i32_77 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v208 : BitVec 32 := Scalar.addi v155 c0_i32_77
  let v209 : Index := Scalar.indexCast v208
  let c128_78 : Index := 128#32
  ![v209.toNat, 128]
def k1_off220 (k1_t10 : Fin k1_t10_loop.trips) (c0_i32_79 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v212 : BitVec 32 := Scalar.addi v155 c0_i32_79
  let v213 : Index := Scalar.indexCast v212
  let c144_80 : Index := 144#32
  ![v213.toNat, 144]
def k1_off221 (k1_t10 : Fin k1_t10_loop.trips) (c0_i32_81 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v216 : BitVec 32 := Scalar.addi v155 c0_i32_81
  let v217 : Index := Scalar.indexCast v216
  let c160_82 : Index := 160#32
  ![v217.toNat, 160]
def k1_off222 (k1_t10 : Fin k1_t10_loop.trips) (c0_i32_83 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v220 : BitVec 32 := Scalar.addi v155 c0_i32_83
  let v221 : Index := Scalar.indexCast v220
  let c176_84 : Index := 176#32
  ![v221.toNat, 176]
def k1_off223 (k1_t10 : Fin k1_t10_loop.trips) (c0_i32_85 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v224 : BitVec 32 := Scalar.addi v155 c0_i32_85
  let v225 : Index := Scalar.indexCast v224
  let c192_86 : Index := 192#32
  ![v225.toNat, 192]
def k1_off224 (k1_t10 : Fin k1_t10_loop.trips) (c0_i32_87 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v228 : BitVec 32 := Scalar.addi v155 c0_i32_87
  let v229 : Index := Scalar.indexCast v228
  let c208_88 : Index := 208#32
  ![v229.toNat, 208]
def k1_off225 (k1_t10 : Fin k1_t10_loop.trips) (c0_i32_89 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v232 : BitVec 32 := Scalar.addi v155 c0_i32_89
  let v233 : Index := Scalar.indexCast v232
  let c224_90 : Index := 224#32
  ![v233.toNat, 224]
def k1_off226 (k1_t10 : Fin k1_t10_loop.trips) (c0_i32_91 : BitVec 32) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let v236 : BitVec 32 := Scalar.addi v155 c0_i32_91
  let v237 : Index := Scalar.indexCast v236
  let c240_92 : Index := 240#32
  ![v237.toNat, 240]
@[reducible] def k1_t11_loop (k1_t10 : Fin k1_t10_loop.trips) : Scf.Loop 32 :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_63 : BitVec 32 := 1#32
  ⟨v155, v181, c1_i32_63⟩
def k1_cond14 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_60 : BitVec 32 := 0#32
  let v174 : BitVec 1 := Scalar.cmpi .ne v173 c0_i32_60
  v174

def k1_chk14 (i : grid1.Coords) (k1_t9 : Fin (k1_t9_loop i).trips) (arg16 : BitVec 32) (v163 : BitVec 32) (v170 : BitVec 32) (v184 : IVec S16 32) : Prop :=
  (∀ (k1_h13 : k1_cond13 i k1_t9 = 1#1), ∀ (k1_h14 : ¬(k1_cond14 arg16 v163 v170 = 1#1)), ∀ a x, ((![v184] : Fin 1 → IVec S16 32) a x).toNat < S128.size a)
theorem k1_idx8_inb : ∀ (i : grid1.Coords) (k1_t9 : Fin (k1_t9_loop i).trips) (arg16 : BitVec 32) (v163 : BitVec 32) (v170 : BitVec 32) (v184 : IVec S16 32) (k1_hw14 : k1_chk14 i k1_t9 arg16 v163 v170 v184), ∀ (k1_h13 : k1_cond13 i k1_t9 = 1#1), ∀ (k1_h14 : ¬(k1_cond14 arg16 v163 v170 = 1#1)), ∀ a x, ((![v184] : Fin 1 → IVec S16 32) a x).toNat < S128.size a := fun i k1_t9 arg16 v163 v170 v184 k1_hw14 k1_h13 k1_h14 => k1_hw14 k1_h13 k1_h14
def k1_off227 (arg34 : BitVec 32) : Fin 2 → Nat :=
  let v244 : Index := Scalar.indexCast arg34
  let c0_84 : Index := 0#32
  ![v244.toNat, 0]
def k1_cond15 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off228 (arg34 : BitVec 32) : Fin 2 → Nat :=
  let v249 : Index := Scalar.indexCast arg34
  let c16_86 : Index := 16#32
  ![v249.toNat, 16]
def k1_off229 (arg34 : BitVec 32) : Fin 2 → Nat :=
  let v254 : Index := Scalar.indexCast arg34
  let c32_88 : Index := 32#32
  ![v254.toNat, 32]
def k1_off230 (arg34 : BitVec 32) : Fin 2 → Nat :=
  let v259 : Index := Scalar.indexCast arg34
  let c48_90 : Index := 48#32
  ![v259.toNat, 48]
def k1_off231 (arg34 : BitVec 32) : Fin 2 → Nat :=
  let v264 : Index := Scalar.indexCast arg34
  let c64_92 : Index := 64#32
  ![v264.toNat, 64]
def k1_off232 (arg34 : BitVec 32) : Fin 2 → Nat :=
  let v269 : Index := Scalar.indexCast arg34
  let c80_94 : Index := 80#32
  ![v269.toNat, 80]
def k1_off233 (arg34 : BitVec 32) : Fin 2 → Nat :=
  let v274 : Index := Scalar.indexCast arg34
  let c96_96 : Index := 96#32
  ![v274.toNat, 96]
def k1_off234 (arg34 : BitVec 32) : Fin 2 → Nat :=
  let v279 : Index := Scalar.indexCast arg34
  let c112_98 : Index := 112#32
  ![v279.toNat, 112]
def k1_off235 (arg34 : BitVec 32) : Fin 2 → Nat :=
  let v284 : Index := Scalar.indexCast arg34
  let c128_100 : Index := 128#32
  ![v284.toNat, 128]
def k1_off236 (arg34 : BitVec 32) : Fin 2 → Nat :=
  let v289 : Index := Scalar.indexCast arg34
  let c144_102 : Index := 144#32
  ![v289.toNat, 144]
def k1_off237 (arg34 : BitVec 32) : Fin 2 → Nat :=
  let v294 : Index := Scalar.indexCast arg34
  let c160_104 : Index := 160#32
  ![v294.toNat, 160]
def k1_off238 (arg34 : BitVec 32) : Fin 2 → Nat :=
  let v299 : Index := Scalar.indexCast arg34
  let c176_106 : Index := 176#32
  ![v299.toNat, 176]
def k1_off239 (arg34 : BitVec 32) : Fin 2 → Nat :=
  let v304 : Index := Scalar.indexCast arg34
  let c192_108 : Index := 192#32
  ![v304.toNat, 192]
def k1_off240 (arg34 : BitVec 32) : Fin 2 → Nat :=
  let v309 : Index := Scalar.indexCast arg34
  let c208_110 : Index := 208#32
  ![v309.toNat, 208]
def k1_off241 (arg34 : BitVec 32) : Fin 2 → Nat :=
  let v314 : Index := Scalar.indexCast arg34
  let c224_112 : Index := 224#32
  ![v314.toNat, 224]
def k1_off242 (arg34 : BitVec 32) : Fin 2 → Nat :=
  let v319 : Index := Scalar.indexCast arg34
  let c240_114 : Index := 240#32
  ![v319.toNat, 240]

def k1_chk15 (i : grid1.Coords) (k1_t9 : Fin (k1_t9_loop i).trips) (arg16 : BitVec 32) (v163 : BitVec 32) (v170 : BitVec 32) (arg34 : BitVec 32) (v191 : BitVec 32) : Prop :=
  (∀ (k1_h13 : k1_cond13 i k1_t9 = 1#1), ∀ (k1_h14 : ¬(k1_cond14 arg16 v163 v170 = 1#1)), ∀ (k1_h15 : k1_cond15 arg34 v191 = 1#1), ∀ a, (k1_off227 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off228 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off229 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off230 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off231 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off232 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off233 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off234 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off235 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off236 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off237 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off238 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off239 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off240 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off241 arg34) a + S1x16.size a ≤ S256x256.size a) ∧
  (∀ (k1_h13 : k1_cond13 i k1_t9 = 1#1), ∀ (k1_h14 : ¬(k1_cond14 arg16 v163 v170 = 1#1)), ∀ (k1_h15 : k1_cond15 arg34 v191 = 1#1), ∀ a, (k1_off242 arg34) a + S1x16.size a ≤ S256x256.size a)
theorem k1_off227_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off227 arg34) a + S1x16.size a ≤ S256x256.size a := fun i k1_t9 arg16 v163 v170 arg34 v191 k1_hw15 k1_h13 k1_h14 k1_h15 => k1_hw15.1 k1_h13 k1_h14 k1_h15
theorem k1_off228_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off228 arg34) a + S1x16.size a ≤ S256x256.size a := fun i k1_t9 arg16 v163 v170 arg34 v191 k1_hw15 k1_h13 k1_h14 k1_h15 => k1_hw15.2.1 k1_h13 k1_h14 k1_h15
theorem k1_off229_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off229 arg34) a + S1x16.size a ≤ S256x256.size a := fun i k1_t9 arg16 v163 v170 arg34 v191 k1_hw15 k1_h13 k1_h14 k1_h15 => k1_hw15.2.2.1 k1_h13 k1_h14 k1_h15
theorem k1_off230_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off230 arg34) a + S1x16.size a ≤ S256x256.size a := fun i k1_t9 arg16 v163 v170 arg34 v191 k1_hw15 k1_h13 k1_h14 k1_h15 => k1_hw15.2.2.2.1 k1_h13 k1_h14 k1_h15
theorem k1_off231_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off231 arg34) a + S1x16.size a ≤ S256x256.size a := fun i k1_t9 arg16 v163 v170 arg34 v191 k1_hw15 k1_h13 k1_h14 k1_h15 => k1_hw15.2.2.2.2.1 k1_h13 k1_h14 k1_h15
theorem k1_off232_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off232 arg34) a + S1x16.size a ≤ S256x256.size a := fun i k1_t9 arg16 v163 v170 arg34 v191 k1_hw15 k1_h13 k1_h14 k1_h15 => k1_hw15.2.2.2.2.2.1 k1_h13 k1_h14 k1_h15
theorem k1_off233_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off233 arg34) a + S1x16.size a ≤ S256x256.size a := fun i k1_t9 arg16 v163 v170 arg34 v191 k1_hw15 k1_h13 k1_h14 k1_h15 => k1_hw15.2.2.2.2.2.2.1 k1_h13 k1_h14 k1_h15
theorem k1_off234_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off234 arg34) a + S1x16.size a ≤ S256x256.size a := fun i k1_t9 arg16 v163 v170 arg34 v191 k1_hw15 k1_h13 k1_h14 k1_h15 => k1_hw15.2.2.2.2.2.2.2.1 k1_h13 k1_h14 k1_h15
theorem k1_off235_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off235 arg34) a + S1x16.size a ≤ S256x256.size a := fun i k1_t9 arg16 v163 v170 arg34 v191 k1_hw15 k1_h13 k1_h14 k1_h15 => k1_hw15.2.2.2.2.2.2.2.2.1 k1_h13 k1_h14 k1_h15
theorem k1_off236_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off236 arg34) a + S1x16.size a ≤ S256x256.size a := fun i k1_t9 arg16 v163 v170 arg34 v191 k1_hw15 k1_h13 k1_h14 k1_h15 => k1_hw15.2.2.2.2.2.2.2.2.2.1 k1_h13 k1_h14 k1_h15
theorem k1_off237_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off237 arg34) a + S1x16.size a ≤ S256x256.size a := fun i k1_t9 arg16 v163 v170 arg34 v191 k1_hw15 k1_h13 k1_h14 k1_h15 => k1_hw15.2.2.2.2.2.2.2.2.2.2.1 k1_h13 k1_h14 k1_h15
theorem k1_off238_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off238 arg34) a + S1x16.size a ≤ S256x256.size a := fun i k1_t9 arg16 v163 v170 arg34 v191 k1_hw15 k1_h13 k1_h14 k1_h15 => k1_hw15.2.2.2.2.2.2.2.2.2.2.2.1 k1_h13 k1_h14 k1_h15
theorem k1_off239_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off239 arg34) a + S1x16.size a ≤ S256x256.size a := fun i k1_t9 arg16 v163 v170 arg34 v191 k1_hw15 k1_h13 k1_h14 k1_h15 => k1_hw15.2.2.2.2.2.2.2.2.2.2.2.2.1 k1_h13 k1_h14 k1_h15
theorem k1_off240_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off240 arg34) a + S1x16.size a ≤ S256x256.size a := fun i k1_t9 arg16 v163 v170 arg34 v191 k1_hw15 k1_h13 k1_h14 k1_h15 => k1_hw15.2.2.2.2.2.2.2.2.2.2.2.2.2.1 k1_h13 k1_h14 k1_h15
theorem k1_off241_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off241 arg34) a + S1x16.size a ≤ S256x256.size a := fun i k1_t9 arg16 v163 v170 arg34 v191 k1_hw15 k1_h13 k1_h14 k1_h15 => k1_hw15.2.2.2.2.2.2.2.2.2.2.2.2.2.2.1 k1_h13 k1_h14 k1_h15
theorem k1_off242_inb : ∀ (i : grid1.Coords) (k1_t9 : Fin (k1_t9_loop i).trips) (arg16 : BitVec 32) (v163 : BitVec 32) (v170 : BitVec 32) (arg34 : BitVec 32) (v191 : BitVec 32) (k1_hw15 : k1_chk15 i k1_t9 arg16 v163 v170 arg34 v191), ∀ (k1_h13 : k1_cond13 i k1_t9 = 1#1), ∀ (k1_h14 : ¬(k1_cond14 arg16 v163 v170 = 1#1)), ∀ (k1_h15 : k1_cond15 arg34 v191 = 1#1), ∀ a, (k1_off242 arg34) a + S1x16.size a ≤ S256x256.size a := fun i k1_t9 arg16 v163 v170 arg34 v191 k1_hw15 k1_h13 k1_h14 k1_h15 => k1_hw15.2.2.2.2.2.2.2.2.2.2.2.2.2.2.2 k1_h13 k1_h14 k1_h15

def k1_off243 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v196 : Index := Scalar.indexCast arg33
  let c0_68 : Index := 0#32
  ![v196.toNat, 0]
def k1_off244 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v199 : Index := Scalar.indexCast arg33
  let c16_69 : Index := 16#32
  ![v199.toNat, 16]
def k1_off245 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v202 : Index := Scalar.indexCast arg33
  let c32_70 : Index := 32#32
  ![v202.toNat, 32]
def k1_off246 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v205 : Index := Scalar.indexCast arg33
  let c48_71 : Index := 48#32
  ![v205.toNat, 48]
def k1_off247 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v208 : Index := Scalar.indexCast arg33
  let c64_72 : Index := 64#32
  ![v208.toNat, 64]
def k1_off248 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v211 : Index := Scalar.indexCast arg33
  let c80_73 : Index := 80#32
  ![v211.toNat, 80]
def k1_off249 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v214 : Index := Scalar.indexCast arg33
  let c96_74 : Index := 96#32
  ![v214.toNat, 96]
def k1_off250 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v217 : Index := Scalar.indexCast arg33
  let c112_75 : Index := 112#32
  ![v217.toNat, 112]
def k1_off251 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v220 : Index := Scalar.indexCast arg33
  let c128_76 : Index := 128#32
  ![v220.toNat, 128]
def k1_off252 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v223 : Index := Scalar.indexCast arg33
  let c144_77 : Index := 144#32
  ![v223.toNat, 144]
def k1_off253 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v226 : Index := Scalar.indexCast arg33
  let c160_78 : Index := 160#32
  ![v226.toNat, 160]
def k1_off254 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v229 : Index := Scalar.indexCast arg33
  let c176_79 : Index := 176#32
  ![v229.toNat, 176]
def k1_off255 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v232 : Index := Scalar.indexCast arg33
  let c192_80 : Index := 192#32
  ![v232.toNat, 192]
def k1_off256 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v235 : Index := Scalar.indexCast arg33
  let c208_81 : Index := 208#32
  ![v235.toNat, 208]
def k1_off257 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v238 : Index := Scalar.indexCast arg33
  let c224_82 : Index := 224#32
  ![v238.toNat, 224]
def k1_off258 (k1_t10 : Fin k1_t10_loop.trips) (k1_t11 : Fin (k1_t11_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c1_i32_63 : BitVec 32 := 1#32
  let arg33 : BitVec 32 := Scf.iv v155 c1_i32_63 k1_t11
  let v241 : Index := Scalar.indexCast arg33
  let c240_83 : Index := 240#32
  ![v241.toNat, 240]
@[reducible] def k1_t12_loop (k1_t10 : Fin k1_t10_loop.trips) : Scf.Loop 32 :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let v178 : BitVec 32 := Scalar.addi v155 v177
  let c1_i32_64 : BitVec 32 := 1#32
  ⟨v181, v178, c1_i32_64⟩

def k1_chk16 (i : grid1.Coords) (k1_t9 : Fin (k1_t9_loop i).trips) (arg16 : BitVec 32) (v163 : BitVec 32) (v170 : BitVec 32) (v184 : IVec S16 32) : Prop :=
  (∀ (k1_h13 : k1_cond13 i k1_t9 = 1#1), ∀ (k1_h14 : ¬(k1_cond14 arg16 v163 v170 = 1#1)), ∀ a x, ((![v184] : Fin 1 → IVec S16 32) a x).toNat < S128.size a)
theorem k1_idx9_inb : ∀ (i : grid1.Coords) (k1_t9 : Fin (k1_t9_loop i).trips) (arg16 : BitVec 32) (v163 : BitVec 32) (v170 : BitVec 32) (v184 : IVec S16 32) (k1_hw16 : k1_chk16 i k1_t9 arg16 v163 v170 v184), ∀ (k1_h13 : k1_cond13 i k1_t9 = 1#1), ∀ (k1_h14 : ¬(k1_cond14 arg16 v163 v170 = 1#1)), ∀ a x, ((![v184] : Fin 1 → IVec S16 32) a x).toNat < S128.size a := fun i k1_t9 arg16 v163 v170 v184 k1_hw16 k1_h13 k1_h14 => k1_hw16 k1_h13 k1_h14
def k1_off259 (arg34 : BitVec 32) : Fin 2 → Nat :=
  let v244 : Index := Scalar.indexCast arg34
  let c0_84 : Index := 0#32
  ![v244.toNat, 0]
def k1_cond16 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off260 (arg34 : BitVec 32) : Fin 2 → Nat :=
  let v249 : Index := Scalar.indexCast arg34
  let c16_86 : Index := 16#32
  ![v249.toNat, 16]
def k1_off261 (arg34 : BitVec 32) : Fin 2 → Nat :=
  let v254 : Index := Scalar.indexCast arg34
  let c32_88 : Index := 32#32
  ![v254.toNat, 32]
def k1_off262 (arg34 : BitVec 32) : Fin 2 → Nat :=
  let v259 : Index := Scalar.indexCast arg34
  let c48_90 : Index := 48#32
  ![v259.toNat, 48]
def k1_off263 (arg34 : BitVec 32) : Fin 2 → Nat :=
  let v264 : Index := Scalar.indexCast arg34
  let c64_92 : Index := 64#32
  ![v264.toNat, 64]
def k1_off264 (arg34 : BitVec 32) : Fin 2 → Nat :=
  let v269 : Index := Scalar.indexCast arg34
  let c80_94 : Index := 80#32
  ![v269.toNat, 80]
def k1_off265 (arg34 : BitVec 32) : Fin 2 → Nat :=
  let v274 : Index := Scalar.indexCast arg34
  let c96_96 : Index := 96#32
  ![v274.toNat, 96]
def k1_off266 (arg34 : BitVec 32) : Fin 2 → Nat :=
  let v279 : Index := Scalar.indexCast arg34
  let c112_98 : Index := 112#32
  ![v279.toNat, 112]
def k1_off267 (arg34 : BitVec 32) : Fin 2 → Nat :=
  let v284 : Index := Scalar.indexCast arg34
  let c128_100 : Index := 128#32
  ![v284.toNat, 128]
def k1_off268 (arg34 : BitVec 32) : Fin 2 → Nat :=
  let v289 : Index := Scalar.indexCast arg34
  let c144_102 : Index := 144#32
  ![v289.toNat, 144]
def k1_off269 (arg34 : BitVec 32) : Fin 2 → Nat :=
  let v294 : Index := Scalar.indexCast arg34
  let c160_104 : Index := 160#32
  ![v294.toNat, 160]
def k1_off270 (arg34 : BitVec 32) : Fin 2 → Nat :=
  let v299 : Index := Scalar.indexCast arg34
  let c176_106 : Index := 176#32
  ![v299.toNat, 176]
def k1_off271 (arg34 : BitVec 32) : Fin 2 → Nat :=
  let v304 : Index := Scalar.indexCast arg34
  let c192_108 : Index := 192#32
  ![v304.toNat, 192]
def k1_off272 (arg34 : BitVec 32) : Fin 2 → Nat :=
  let v309 : Index := Scalar.indexCast arg34
  let c208_110 : Index := 208#32
  ![v309.toNat, 208]
def k1_off273 (arg34 : BitVec 32) : Fin 2 → Nat :=
  let v314 : Index := Scalar.indexCast arg34
  let c224_112 : Index := 224#32
  ![v314.toNat, 224]
def k1_off274 (arg34 : BitVec 32) : Fin 2 → Nat :=
  let v319 : Index := Scalar.indexCast arg34
  let c240_114 : Index := 240#32
  ![v319.toNat, 240]

def k1_chk17 (i : grid1.Coords) (k1_t9 : Fin (k1_t9_loop i).trips) (arg16 : BitVec 32) (v163 : BitVec 32) (v170 : BitVec 32) (arg34 : BitVec 32) (v191 : BitVec 32) : Prop :=
  (∀ (k1_h13 : k1_cond13 i k1_t9 = 1#1), ∀ (k1_h14 : ¬(k1_cond14 arg16 v163 v170 = 1#1)), ∀ (k1_h16 : k1_cond16 arg34 v191 = 1#1), ∀ a, (k1_off259 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off260 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off261 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off262 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off263 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off264 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off265 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off266 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off267 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off268 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off269 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off270 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off271 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off272 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off273 arg34) a + S1x16.size a ≤ S256x256.size a) ∧
  (∀ (k1_h13 : k1_cond13 i k1_t9 = 1#1), ∀ (k1_h14 : ¬(k1_cond14 arg16 v163 v170 = 1#1)), ∀ (k1_h16 : k1_cond16 arg34 v191 = 1#1), ∀ a, (k1_off274 arg34) a + S1x16.size a ≤ S256x256.size a)
theorem k1_off259_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off259 arg34) a + S1x16.size a ≤ S256x256.size a := fun i k1_t9 arg16 v163 v170 arg34 v191 k1_hw17 k1_h13 k1_h14 k1_h16 => k1_hw17.1 k1_h13 k1_h14 k1_h16
theorem k1_off260_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off260 arg34) a + S1x16.size a ≤ S256x256.size a := fun i k1_t9 arg16 v163 v170 arg34 v191 k1_hw17 k1_h13 k1_h14 k1_h16 => k1_hw17.2.1 k1_h13 k1_h14 k1_h16
theorem k1_off261_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off261 arg34) a + S1x16.size a ≤ S256x256.size a := fun i k1_t9 arg16 v163 v170 arg34 v191 k1_hw17 k1_h13 k1_h14 k1_h16 => k1_hw17.2.2.1 k1_h13 k1_h14 k1_h16
theorem k1_off262_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off262 arg34) a + S1x16.size a ≤ S256x256.size a := fun i k1_t9 arg16 v163 v170 arg34 v191 k1_hw17 k1_h13 k1_h14 k1_h16 => k1_hw17.2.2.2.1 k1_h13 k1_h14 k1_h16
theorem k1_off263_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off263 arg34) a + S1x16.size a ≤ S256x256.size a := fun i k1_t9 arg16 v163 v170 arg34 v191 k1_hw17 k1_h13 k1_h14 k1_h16 => k1_hw17.2.2.2.2.1 k1_h13 k1_h14 k1_h16
theorem k1_off264_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off264 arg34) a + S1x16.size a ≤ S256x256.size a := fun i k1_t9 arg16 v163 v170 arg34 v191 k1_hw17 k1_h13 k1_h14 k1_h16 => k1_hw17.2.2.2.2.2.1 k1_h13 k1_h14 k1_h16
theorem k1_off265_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off265 arg34) a + S1x16.size a ≤ S256x256.size a := fun i k1_t9 arg16 v163 v170 arg34 v191 k1_hw17 k1_h13 k1_h14 k1_h16 => k1_hw17.2.2.2.2.2.2.1 k1_h13 k1_h14 k1_h16
theorem k1_off266_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off266 arg34) a + S1x16.size a ≤ S256x256.size a := fun i k1_t9 arg16 v163 v170 arg34 v191 k1_hw17 k1_h13 k1_h14 k1_h16 => k1_hw17.2.2.2.2.2.2.2.1 k1_h13 k1_h14 k1_h16
theorem k1_off267_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off267 arg34) a + S1x16.size a ≤ S256x256.size a := fun i k1_t9 arg16 v163 v170 arg34 v191 k1_hw17 k1_h13 k1_h14 k1_h16 => k1_hw17.2.2.2.2.2.2.2.2.1 k1_h13 k1_h14 k1_h16
theorem k1_off268_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off268 arg34) a + S1x16.size a ≤ S256x256.size a := fun i k1_t9 arg16 v163 v170 arg34 v191 k1_hw17 k1_h13 k1_h14 k1_h16 => k1_hw17.2.2.2.2.2.2.2.2.2.1 k1_h13 k1_h14 k1_h16
theorem k1_off269_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off269 arg34) a + S1x16.size a ≤ S256x256.size a := fun i k1_t9 arg16 v163 v170 arg34 v191 k1_hw17 k1_h13 k1_h14 k1_h16 => k1_hw17.2.2.2.2.2.2.2.2.2.2.1 k1_h13 k1_h14 k1_h16
theorem k1_off270_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off270 arg34) a + S1x16.size a ≤ S256x256.size a := fun i k1_t9 arg16 v163 v170 arg34 v191 k1_hw17 k1_h13 k1_h14 k1_h16 => k1_hw17.2.2.2.2.2.2.2.2.2.2.2.1 k1_h13 k1_h14 k1_h16
theorem k1_off271_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off271 arg34) a + S1x16.size a ≤ S256x256.size a := fun i k1_t9 arg16 v163 v170 arg34 v191 k1_hw17 k1_h13 k1_h14 k1_h16 => k1_hw17.2.2.2.2.2.2.2.2.2.2.2.2.1 k1_h13 k1_h14 k1_h16
theorem k1_off272_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off272 arg34) a + S1x16.size a ≤ S256x256.size a := fun i k1_t9 arg16 v163 v170 arg34 v191 k1_hw17 k1_h13 k1_h14 k1_h16 => k1_hw17.2.2.2.2.2.2.2.2.2.2.2.2.2.1 k1_h13 k1_h14 k1_h16
theorem k1_off273_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off273 arg34) a + S1x16.size a ≤ S256x256.size a := fun i k1_t9 arg16 v163 v170 arg34 v191 k1_hw17 k1_h13 k1_h14 k1_h16 => k1_hw17.2.2.2.2.2.2.2.2.2.2.2.2.2.2.1 k1_h13 k1_h14 k1_h16
theorem k1_off274_inb : ∀ (i : grid1.Coords) (k1_t9 : Fin (k1_t9_loop i).trips) (arg16 : BitVec 32) (v163 : BitVec 32) (v170 : BitVec 32) (arg34 : BitVec 32) (v191 : BitVec 32) (k1_hw17 : k1_chk17 i k1_t9 arg16 v163 v170 arg34 v191), ∀ (k1_h13 : k1_cond13 i k1_t9 = 1#1), ∀ (k1_h14 : ¬(k1_cond14 arg16 v163 v170 = 1#1)), ∀ (k1_h16 : k1_cond16 arg34 v191 = 1#1), ∀ a, (k1_off274 arg34) a + S1x16.size a ≤ S256x256.size a := fun i k1_t9 arg16 v163 v170 arg34 v191 k1_hw17 k1_h13 k1_h14 k1_h16 => k1_hw17.2.2.2.2.2.2.2.2.2.2.2.2.2.2.2 k1_h13 k1_h14 k1_h16

def k1_off275 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v196 : Index := Scalar.indexCast arg33
  let c0_68 : Index := 0#32
  ![v196.toNat, 0]
def k1_off276 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v199 : Index := Scalar.indexCast arg33
  let c16_69 : Index := 16#32
  ![v199.toNat, 16]
def k1_off277 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v202 : Index := Scalar.indexCast arg33
  let c32_70 : Index := 32#32
  ![v202.toNat, 32]
def k1_off278 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v205 : Index := Scalar.indexCast arg33
  let c48_71 : Index := 48#32
  ![v205.toNat, 48]
def k1_off279 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v208 : Index := Scalar.indexCast arg33
  let c64_72 : Index := 64#32
  ![v208.toNat, 64]
def k1_off280 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v211 : Index := Scalar.indexCast arg33
  let c80_73 : Index := 80#32
  ![v211.toNat, 80]
def k1_off281 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v214 : Index := Scalar.indexCast arg33
  let c96_74 : Index := 96#32
  ![v214.toNat, 96]
def k1_off282 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v217 : Index := Scalar.indexCast arg33
  let c112_75 : Index := 112#32
  ![v217.toNat, 112]
def k1_off283 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v220 : Index := Scalar.indexCast arg33
  let c128_76 : Index := 128#32
  ![v220.toNat, 128]
def k1_off284 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v223 : Index := Scalar.indexCast arg33
  let c144_77 : Index := 144#32
  ![v223.toNat, 144]
def k1_off285 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v226 : Index := Scalar.indexCast arg33
  let c160_78 : Index := 160#32
  ![v226.toNat, 160]
def k1_off286 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v229 : Index := Scalar.indexCast arg33
  let c176_79 : Index := 176#32
  ![v229.toNat, 176]
def k1_off287 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v232 : Index := Scalar.indexCast arg33
  let c192_80 : Index := 192#32
  ![v232.toNat, 192]
def k1_off288 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v235 : Index := Scalar.indexCast arg33
  let c208_81 : Index := 208#32
  ![v235.toNat, 208]
def k1_off289 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v238 : Index := Scalar.indexCast arg33
  let c224_82 : Index := 224#32
  ![v238.toNat, 224]
def k1_off290 (k1_t10 : Fin k1_t10_loop.trips) (k1_t12 : Fin (k1_t12_loop k1_t10).trips) : Fin 2 → Nat :=
  let c0_i32_35 : BitVec 32 := 0#32
  let c1_i32_36 : BitVec 32 := 1#32
  let arg15 : BitVec 32 := Scf.iv c0_i32_35 c1_i32_36 k1_t10
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t12
  let v241 : Index := Scalar.indexCast arg33
  let c240_83 : Index := 240#32
  ![v241.toNat, 240]
def k1_off291 (v70_0 : BitVec 32) : Fin 2 → Nat :=
  let v71 : Index := Scalar.indexCast v70_0
  let c0 : Index := 0#32
  ![v71.toNat, 0]

def k1_off292 (v70_0 : BitVec 32) : Fin 2 → Nat :=
  let v76 : Index := Scalar.indexCast v70_0
  let c16 : Index := 16#32
  ![v76.toNat, 16]
def k1_off293 (v70_0 : BitVec 32) : Fin 2 → Nat :=
  let v81 : Index := Scalar.indexCast v70_0
  let c32 : Index := 32#32
  ![v81.toNat, 32]
def k1_off294 (v70_0 : BitVec 32) : Fin 2 → Nat :=
  let v86 : Index := Scalar.indexCast v70_0
  let c48 : Index := 48#32
  ![v86.toNat, 48]
def k1_off295 (v70_0 : BitVec 32) : Fin 2 → Nat :=
  let v91 : Index := Scalar.indexCast v70_0
  let c64 : Index := 64#32
  ![v91.toNat, 64]
def k1_off296 (v70_0 : BitVec 32) : Fin 2 → Nat :=
  let v96 : Index := Scalar.indexCast v70_0
  let c80 : Index := 80#32
  ![v96.toNat, 80]
def k1_off297 (v70_0 : BitVec 32) : Fin 2 → Nat :=
  let v101 : Index := Scalar.indexCast v70_0
  let c96 : Index := 96#32
  ![v101.toNat, 96]
def k1_off298 (v70_0 : BitVec 32) : Fin 2 → Nat :=
  let v106 : Index := Scalar.indexCast v70_0
  let c112 : Index := 112#32
  ![v106.toNat, 112]
def k1_off299 (v70_0 : BitVec 32) : Fin 2 → Nat :=
  let v111 : Index := Scalar.indexCast v70_0
  let c128 : Index := 128#32
  ![v111.toNat, 128]
def k1_off300 (v70_0 : BitVec 32) : Fin 2 → Nat :=
  let v116 : Index := Scalar.indexCast v70_0
  let c144 : Index := 144#32
  ![v116.toNat, 144]
def k1_off301 (v70_0 : BitVec 32) : Fin 2 → Nat :=
  let v121 : Index := Scalar.indexCast v70_0
  let c160 : Index := 160#32
  ![v121.toNat, 160]
def k1_off302 (v70_0 : BitVec 32) : Fin 2 → Nat :=
  let v126 : Index := Scalar.indexCast v70_0
  let c176 : Index := 176#32
  ![v126.toNat, 176]
def k1_off303 (v70_0 : BitVec 32) : Fin 2 → Nat :=
  let v131 : Index := Scalar.indexCast v70_0
  let c192 : Index := 192#32
  ![v131.toNat, 192]
def k1_off304 (v70_0 : BitVec 32) : Fin 2 → Nat :=
  let v136 : Index := Scalar.indexCast v70_0
  let c208 : Index := 208#32
  ![v136.toNat, 208]
def k1_off305 (v70_0 : BitVec 32) : Fin 2 → Nat :=
  let v141 : Index := Scalar.indexCast v70_0
  let c224 : Index := 224#32
  ![v141.toNat, 224]
def k1_off306 (v70_0 : BitVec 32) : Fin 2 → Nat :=
  let v146 : Index := Scalar.indexCast v70_0
  let c240 : Index := 240#32
  ![v146.toNat, 240]

def k1_chk18 (i : grid1.Coords) (k1_t9 : Fin (k1_t9_loop i).trips) (v70_0 : BitVec 32) : Prop :=
  (∀ (k1_h13 : k1_cond13 i k1_t9 = 1#1), ∀ a, (k1_off291 v70_0) a + S1x16.size a ≤ S256x256.size a) ∧
  (∀ (k1_h13 : k1_cond13 i k1_t9 = 1#1), ∀ a, (k1_off292 v70_0) a + S1x16.size a ≤ S256x256.size a) ∧
  (∀ (k1_h13 : k1_cond13 i k1_t9 = 1#1), ∀ a, (k1_off293 v70_0) a + S1x16.size a ≤ S256x256.size a) ∧
  (∀ (k1_h13 : k1_cond13 i k1_t9 = 1#1), ∀ a, (k1_off294 v70_0) a + S1x16.size a ≤ S256x256.size a) ∧
  (∀ (k1_h13 : k1_cond13 i k1_t9 = 1#1), ∀ a, (k1_off295 v70_0) a + S1x16.size a ≤ S256x256.size a) ∧
  (∀ (k1_h13 : k1_cond13 i k1_t9 = 1#1), ∀ a, (k1_off296 v70_0) a + S1x16.size a ≤ S256x256.size a) ∧
  (∀ (k1_h13 : k1_cond13 i k1_t9 = 1#1), ∀ a, (k1_off297 v70_0) a + S1x16.size a ≤ S256x256.size a) ∧
  (∀ (k1_h13 : k1_cond13 i k1_t9 = 1#1), ∀ a, (k1_off298 v70_0) a + S1x16.size a ≤ S256x256.size a) ∧
  (∀ (k1_h13 : k1_cond13 i k1_t9 = 1#1), ∀ a, (k1_off299 v70_0) a + S1x16.size a ≤ S256x256.size a) ∧
  (∀ (k1_h13 : k1_cond13 i k1_t9 = 1#1), ∀ a, (k1_off300 v70_0) a + S1x16.size a ≤ S256x256.size a) ∧
  (∀ (k1_h13 : k1_cond13 i k1_t9 = 1#1), ∀ a, (k1_off301 v70_0) a + S1x16.size a ≤ S256x256.size a) ∧
  (∀ (k1_h13 : k1_cond13 i k1_t9 = 1#1), ∀ a, (k1_off302 v70_0) a + S1x16.size a ≤ S256x256.size a) ∧
  (∀ (k1_h13 : k1_cond13 i k1_t9 = 1#1), ∀ a, (k1_off303 v70_0) a + S1x16.size a ≤ S256x256.size a) ∧
  (∀ (k1_h13 : k1_cond13 i k1_t9 = 1#1), ∀ a, (k1_off304 v70_0) a + S1x16.size a ≤ S256x256.size a) ∧
  (∀ (k1_h13 : k1_cond13 i k1_t9 = 1#1), ∀ a, (k1_off305 v70_0) a + S1x16.size a ≤ S256x256.size a) ∧
  (∀ (k1_h13 : k1_cond13 i k1_t9 = 1#1), ∀ a, (k1_off306 v70_0) a + S1x16.size a ≤ S256x256.size a)
theorem k1_off291_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off291 v70_0) a + S1x16.size a ≤ S256x256.size a := fun i k1_t9 v70_0 k1_hw18 k1_h13 => k1_hw18.1 k1_h13
theorem k1_off292_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off292 v70_0) a + S1x16.size a ≤ S256x256.size a := fun i k1_t9 v70_0 k1_hw18 k1_h13 => k1_hw18.2.1 k1_h13
theorem k1_off293_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off293 v70_0) a + S1x16.size a ≤ S256x256.size a := fun i k1_t9 v70_0 k1_hw18 k1_h13 => k1_hw18.2.2.1 k1_h13
theorem k1_off294_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off294 v70_0) a + S1x16.size a ≤ S256x256.size a := fun i k1_t9 v70_0 k1_hw18 k1_h13 => k1_hw18.2.2.2.1 k1_h13
theorem k1_off295_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off295 v70_0) a + S1x16.size a ≤ S256x256.size a := fun i k1_t9 v70_0 k1_hw18 k1_h13 => k1_hw18.2.2.2.2.1 k1_h13
theorem k1_off296_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off296 v70_0) a + S1x16.size a ≤ S256x256.size a := fun i k1_t9 v70_0 k1_hw18 k1_h13 => k1_hw18.2.2.2.2.2.1 k1_h13
theorem k1_off297_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off297 v70_0) a + S1x16.size a ≤ S256x256.size a := fun i k1_t9 v70_0 k1_hw18 k1_h13 => k1_hw18.2.2.2.2.2.2.1 k1_h13
theorem k1_off298_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off298 v70_0) a + S1x16.size a ≤ S256x256.size a := fun i k1_t9 v70_0 k1_hw18 k1_h13 => k1_hw18.2.2.2.2.2.2.2.1 k1_h13
theorem k1_off299_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off299 v70_0) a + S1x16.size a ≤ S256x256.size a := fun i k1_t9 v70_0 k1_hw18 k1_h13 => k1_hw18.2.2.2.2.2.2.2.2.1 k1_h13
theorem k1_off300_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off300 v70_0) a + S1x16.size a ≤ S256x256.size a := fun i k1_t9 v70_0 k1_hw18 k1_h13 => k1_hw18.2.2.2.2.2.2.2.2.2.1 k1_h13
theorem k1_off301_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off301 v70_0) a + S1x16.size a ≤ S256x256.size a := fun i k1_t9 v70_0 k1_hw18 k1_h13 => k1_hw18.2.2.2.2.2.2.2.2.2.2.1 k1_h13
theorem k1_off302_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off302 v70_0) a + S1x16.size a ≤ S256x256.size a := fun i k1_t9 v70_0 k1_hw18 k1_h13 => k1_hw18.2.2.2.2.2.2.2.2.2.2.2.1 k1_h13
theorem k1_off303_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off303 v70_0) a + S1x16.size a ≤ S256x256.size a := fun i k1_t9 v70_0 k1_hw18 k1_h13 => k1_hw18.2.2.2.2.2.2.2.2.2.2.2.2.1 k1_h13
theorem k1_off304_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off304 v70_0) a + S1x16.size a ≤ S256x256.size a := fun i k1_t9 v70_0 k1_hw18 k1_h13 => k1_hw18.2.2.2.2.2.2.2.2.2.2.2.2.2.1 k1_h13
theorem k1_off305_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off305 v70_0) a + S1x16.size a ≤ S256x256.size a := fun i k1_t9 v70_0 k1_hw18 k1_h13 => k1_hw18.2.2.2.2.2.2.2.2.2.2.2.2.2.2.1 k1_h13
theorem k1_off306_inb : ∀ (i : grid1.Coords) (k1_t9 : Fin (k1_t9_loop i).trips) (v70_0 : BitVec 32) (k1_hw18 : k1_chk18 i k1_t9 v70_0), ∀ (k1_h13 : k1_cond13 i k1_t9 = 1#1), ∀ a, (k1_off306 v70_0) a + S1x16.size a ≤ S256x256.size a := fun i k1_t9 v70_0 k1_hw18 k1_h13 => k1_hw18.2.2.2.2.2.2.2.2.2.2.2.2.2.2.2 k1_h13

def k1_cond17 (i : grid1.Coords) (k1_t9 : Fin (k1_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_25 : BitVec 32 := 2#32
  let v42 : BitVec 32 := Scalar.muli arg14 c2_i32_25
  let c0_i32_26 : BitVec 32 := 0#32
  let v43 : BitVec 32 := Scalar.addi v42 c0_i32_26
  let c2_i32_54 : BitVec 32 := 2#32
  let v151 : BitVec 32 := Scalar.addi v43 c2_i32_54
  let v152 : BitVec 1 := Scalar.cmpi .slt v151 v2
  let v153 : BitVec 32 := Scalar.extui v152
  let c0_i32_55 : BitVec 32 := 0#32
  let v154 : BitVec 1 := Scalar.cmpi .ne v153 c0_i32_55
  v154

def k1_off307 (i : grid1.Coords) (k1_t9 : Fin (k1_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_25 : BitVec 32 := 2#32
  let v42 : BitVec 32 := Scalar.muli arg14 c2_i32_25
  let c0_i32_26 : BitVec 32 := 0#32
  let v43 : BitVec 32 := Scalar.addi v42 c0_i32_26
  let c2_i32_56 : BitVec 32 := 2#32
  let v155 : BitVec 32 := Scalar.addi v43 c2_i32_56
  let c112_i32_57 : BitVec 32 := 112#32
  let v156 : BitVec 32 := Scalar.muli v155 c112_i32_57
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k1_off308 (i : grid1.Coords) (k1_t9 : Fin (k1_t9_loop i).trips) : Fin 1 → Nat :=
  let c0_i32_58 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_25 : BitVec 32 := 2#32
  let v42 : BitVec 32 := Scalar.muli arg14 c2_i32_25
  let c0_i32_26 : BitVec 32 := 0#32
  let v43 : BitVec 32 := Scalar.addi v42 c0_i32_26
  let c2_i32_56 : BitVec 32 := 2#32
  let v155 : BitVec 32 := Scalar.addi v43 c2_i32_56
  let c112_i32_57 : BitVec 32 := 112#32
  let v156 : BitVec 32 := Scalar.muli v155 c112_i32_57
  let v157 : BitVec 32 := Scalar.addi v0 v156
  let v160 : BitVec 32 := Scalar.addi c0_i32_58 v157
  ![v160.toNat]
def k1_cond18 (i : grid1.Coords) (k1_t9 : Fin (k1_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_28 : BitVec 32 := 2#32
  let v47 : BitVec 32 := Scalar.muli arg14 c2_i32_28
  let c1_i32_29 : BitVec 32 := 1#32
  let v48 : BitVec 32 := Scalar.addi v47 c1_i32_29
  let v49 : BitVec 1 := Scalar.cmpi .slt v48 v2
  let v50 : BitVec 32 := Scalar.extui v49
  let c0_i32_30 : BitVec 32 := 0#32
  let v51 : BitVec 1 := Scalar.cmpi .ne v50 c0_i32_30
  v51

def k1_off309 (i : grid1.Coords) (k1_t9 : Fin (k1_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k1_off310 (i : grid1.Coords) (k1_t9 : Fin (k1_t9_loop i).trips) : Fin 1 → Nat :=
  let c0_i32_31 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let v56 : BitVec 32 := Scalar.addi c0_i32_31 v53
  ![v56.toNat]

def k1_chk19 (i : grid1.Coords) (k1_t9 : Fin (k1_t9_loop i).trips) (v61 : IVec S16 32) : Prop :=
  (∀ (k1_h18 : k1_cond18 i k1_t9 = 1#1), ∀ a x, ((![v61] : Fin 1 → IVec S16 32) a x).toNat < S128.size a)
theorem k1_idx10_inb : ∀ (i : grid1.Coords) (k1_t9 : Fin (k1_t9_loop i).trips) (v61 : IVec S16 32) (k1_hw19 : k1_chk19 i k1_t9 v61), ∀ (k1_h18 : k1_cond18 i k1_t9 = 1#1), ∀ a x, ((![v61] : Fin 1 → IVec S16 32) a x).toNat < S128.size a := fun i k1_t9 v61 k1_hw19 k1_h18 => k1_hw19 k1_h18
@[reducible] def k1_t13_loop : Scf.Loop 32 :=
  let c0_i32_35 : BitVec 32 := 0#32
  let c7_i32 : BitVec 32 := 7#32
  let v69 : BitVec 32 := Scalar.addi c0_i32_35 c7_i32
  let c1_i32_36 : BitVec 32 := 1#32
  ⟨c0_i32_35, v69, c1_i32_36⟩
def k1_off311 (k1_t13 : Fin k1_t13_loop.trips) : Fin 1 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v156 : Index := Scalar.indexCast v155
  ![v156.toNat]
def k1_off312 (k1_t13 : Fin k1_t13_loop.trips) (c0_i32_61 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v176 : BitVec 32 := Scalar.addi v155 c0_i32_61
  let v177 : Index := Scalar.indexCast v176
  let c0_62 : Index := 0#32
  ![v177.toNat, 0]
def k1_off313 (k1_t13 : Fin k1_t13_loop.trips) (c0_i32_63 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v180 : BitVec 32 := Scalar.addi v155 c0_i32_63
  let v181 : Index := Scalar.indexCast v180
  let c16_64 : Index := 16#32
  ![v181.toNat, 16]
def k1_off314 (k1_t13 : Fin k1_t13_loop.trips) (c0_i32_65 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v184 : BitVec 32 := Scalar.addi v155 c0_i32_65
  let v185 : Index := Scalar.indexCast v184
  let c32_66 : Index := 32#32
  ![v185.toNat, 32]
def k1_off315 (k1_t13 : Fin k1_t13_loop.trips) (c0_i32_67 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v188 : BitVec 32 := Scalar.addi v155 c0_i32_67
  let v189 : Index := Scalar.indexCast v188
  let c48_68 : Index := 48#32
  ![v189.toNat, 48]
def k1_off316 (k1_t13 : Fin k1_t13_loop.trips) (c0_i32_69 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v192 : BitVec 32 := Scalar.addi v155 c0_i32_69
  let v193 : Index := Scalar.indexCast v192
  let c64_70 : Index := 64#32
  ![v193.toNat, 64]
def k1_off317 (k1_t13 : Fin k1_t13_loop.trips) (c0_i32_71 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v196 : BitVec 32 := Scalar.addi v155 c0_i32_71
  let v197 : Index := Scalar.indexCast v196
  let c80_72 : Index := 80#32
  ![v197.toNat, 80]
def k1_off318 (k1_t13 : Fin k1_t13_loop.trips) (c0_i32_73 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v200 : BitVec 32 := Scalar.addi v155 c0_i32_73
  let v201 : Index := Scalar.indexCast v200
  let c96_74 : Index := 96#32
  ![v201.toNat, 96]
def k1_off319 (k1_t13 : Fin k1_t13_loop.trips) (c0_i32_75 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v204 : BitVec 32 := Scalar.addi v155 c0_i32_75
  let v205 : Index := Scalar.indexCast v204
  let c112_76 : Index := 112#32
  ![v205.toNat, 112]
def k1_off320 (k1_t13 : Fin k1_t13_loop.trips) (c0_i32_77 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v208 : BitVec 32 := Scalar.addi v155 c0_i32_77
  let v209 : Index := Scalar.indexCast v208
  let c128_78 : Index := 128#32
  ![v209.toNat, 128]
def k1_off321 (k1_t13 : Fin k1_t13_loop.trips) (c0_i32_79 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v212 : BitVec 32 := Scalar.addi v155 c0_i32_79
  let v213 : Index := Scalar.indexCast v212
  let c144_80 : Index := 144#32
  ![v213.toNat, 144]
def k1_off322 (k1_t13 : Fin k1_t13_loop.trips) (c0_i32_81 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v216 : BitVec 32 := Scalar.addi v155 c0_i32_81
  let v217 : Index := Scalar.indexCast v216
  let c160_82 : Index := 160#32
  ![v217.toNat, 160]
def k1_off323 (k1_t13 : Fin k1_t13_loop.trips) (c0_i32_83 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v220 : BitVec 32 := Scalar.addi v155 c0_i32_83
  let v221 : Index := Scalar.indexCast v220
  let c176_84 : Index := 176#32
  ![v221.toNat, 176]
def k1_off324 (k1_t13 : Fin k1_t13_loop.trips) (c0_i32_85 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v224 : BitVec 32 := Scalar.addi v155 c0_i32_85
  let v225 : Index := Scalar.indexCast v224
  let c192_86 : Index := 192#32
  ![v225.toNat, 192]
def k1_off325 (k1_t13 : Fin k1_t13_loop.trips) (c0_i32_87 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v228 : BitVec 32 := Scalar.addi v155 c0_i32_87
  let v229 : Index := Scalar.indexCast v228
  let c208_88 : Index := 208#32
  ![v229.toNat, 208]
def k1_off326 (k1_t13 : Fin k1_t13_loop.trips) (c0_i32_89 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v232 : BitVec 32 := Scalar.addi v155 c0_i32_89
  let v233 : Index := Scalar.indexCast v232
  let c224_90 : Index := 224#32
  ![v233.toNat, 224]
def k1_off327 (k1_t13 : Fin k1_t13_loop.trips) (c0_i32_91 : BitVec 32) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let v236 : BitVec 32 := Scalar.addi v155 c0_i32_91
  let v237 : Index := Scalar.indexCast v236
  let c240_92 : Index := 240#32
  ![v237.toNat, 240]
@[reducible] def k1_t14_loop (k1_t13 : Fin k1_t13_loop.trips) : Scf.Loop 32 :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_63 : BitVec 32 := 1#32
  ⟨v155, v181, c1_i32_63⟩
def k1_cond19 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_60 : BitVec 32 := 0#32
  let v174 : BitVec 1 := Scalar.cmpi .ne v173 c0_i32_60
  v174

def k1_chk20 (i : grid1.Coords) (k1_t9 : Fin (k1_t9_loop i).trips) (arg16 : BitVec 32) (v163 : BitVec 32) (v170 : BitVec 32) (v184 : IVec S16 32) : Prop :=
  (∀ (k1_h18 : k1_cond18 i k1_t9 = 1#1), ∀ (k1_h19 : ¬(k1_cond19 arg16 v163 v170 = 1#1)), ∀ a x, ((![v184] : Fin 1 → IVec S16 32) a x).toNat < S128.size a)
theorem k1_idx11_inb : ∀ (i : grid1.Coords) (k1_t9 : Fin (k1_t9_loop i).trips) (arg16 : BitVec 32) (v163 : BitVec 32) (v170 : BitVec 32) (v184 : IVec S16 32) (k1_hw20 : k1_chk20 i k1_t9 arg16 v163 v170 v184), ∀ (k1_h18 : k1_cond18 i k1_t9 = 1#1), ∀ (k1_h19 : ¬(k1_cond19 arg16 v163 v170 = 1#1)), ∀ a x, ((![v184] : Fin 1 → IVec S16 32) a x).toNat < S128.size a := fun i k1_t9 arg16 v163 v170 v184 k1_hw20 k1_h18 k1_h19 => k1_hw20 k1_h18 k1_h19
def k1_off328 (arg34 : BitVec 32) : Fin 2 → Nat :=
  let v244 : Index := Scalar.indexCast arg34
  let c0_84 : Index := 0#32
  ![v244.toNat, 0]
def k1_cond20 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off329 (arg34 : BitVec 32) : Fin 2 → Nat :=
  let v249 : Index := Scalar.indexCast arg34
  let c16_86 : Index := 16#32
  ![v249.toNat, 16]
def k1_off330 (arg34 : BitVec 32) : Fin 2 → Nat :=
  let v254 : Index := Scalar.indexCast arg34
  let c32_88 : Index := 32#32
  ![v254.toNat, 32]
def k1_off331 (arg34 : BitVec 32) : Fin 2 → Nat :=
  let v259 : Index := Scalar.indexCast arg34
  let c48_90 : Index := 48#32
  ![v259.toNat, 48]
def k1_off332 (arg34 : BitVec 32) : Fin 2 → Nat :=
  let v264 : Index := Scalar.indexCast arg34
  let c64_92 : Index := 64#32
  ![v264.toNat, 64]
def k1_off333 (arg34 : BitVec 32) : Fin 2 → Nat :=
  let v269 : Index := Scalar.indexCast arg34
  let c80_94 : Index := 80#32
  ![v269.toNat, 80]
def k1_off334 (arg34 : BitVec 32) : Fin 2 → Nat :=
  let v274 : Index := Scalar.indexCast arg34
  let c96_96 : Index := 96#32
  ![v274.toNat, 96]
def k1_off335 (arg34 : BitVec 32) : Fin 2 → Nat :=
  let v279 : Index := Scalar.indexCast arg34
  let c112_98 : Index := 112#32
  ![v279.toNat, 112]
def k1_off336 (arg34 : BitVec 32) : Fin 2 → Nat :=
  let v284 : Index := Scalar.indexCast arg34
  let c128_100 : Index := 128#32
  ![v284.toNat, 128]
def k1_off337 (arg34 : BitVec 32) : Fin 2 → Nat :=
  let v289 : Index := Scalar.indexCast arg34
  let c144_102 : Index := 144#32
  ![v289.toNat, 144]
def k1_off338 (arg34 : BitVec 32) : Fin 2 → Nat :=
  let v294 : Index := Scalar.indexCast arg34
  let c160_104 : Index := 160#32
  ![v294.toNat, 160]
def k1_off339 (arg34 : BitVec 32) : Fin 2 → Nat :=
  let v299 : Index := Scalar.indexCast arg34
  let c176_106 : Index := 176#32
  ![v299.toNat, 176]
def k1_off340 (arg34 : BitVec 32) : Fin 2 → Nat :=
  let v304 : Index := Scalar.indexCast arg34
  let c192_108 : Index := 192#32
  ![v304.toNat, 192]
def k1_off341 (arg34 : BitVec 32) : Fin 2 → Nat :=
  let v309 : Index := Scalar.indexCast arg34
  let c208_110 : Index := 208#32
  ![v309.toNat, 208]
def k1_off342 (arg34 : BitVec 32) : Fin 2 → Nat :=
  let v314 : Index := Scalar.indexCast arg34
  let c224_112 : Index := 224#32
  ![v314.toNat, 224]
def k1_off343 (arg34 : BitVec 32) : Fin 2 → Nat :=
  let v319 : Index := Scalar.indexCast arg34
  let c240_114 : Index := 240#32
  ![v319.toNat, 240]

def k1_chk21 (i : grid1.Coords) (k1_t9 : Fin (k1_t9_loop i).trips) (arg16 : BitVec 32) (v163 : BitVec 32) (v170 : BitVec 32) (arg34 : BitVec 32) (v191 : BitVec 32) : Prop :=
  (∀ (k1_h18 : k1_cond18 i k1_t9 = 1#1), ∀ (k1_h19 : ¬(k1_cond19 arg16 v163 v170 = 1#1)), ∀ (k1_h20 : k1_cond20 arg34 v191 = 1#1), ∀ a, (k1_off328 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off329 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off330 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off331 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off332 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off333 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off334 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off335 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off336 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off337 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off338 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off339 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off340 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off341 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off342 arg34) a + S1x16.size a ≤ S256x256.size a) ∧
  (∀ (k1_h18 : k1_cond18 i k1_t9 = 1#1), ∀ (k1_h19 : ¬(k1_cond19 arg16 v163 v170 = 1#1)), ∀ (k1_h20 : k1_cond20 arg34 v191 = 1#1), ∀ a, (k1_off343 arg34) a + S1x16.size a ≤ S256x256.size a)
theorem k1_off328_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off328 arg34) a + S1x16.size a ≤ S256x256.size a := fun i k1_t9 arg16 v163 v170 arg34 v191 k1_hw21 k1_h18 k1_h19 k1_h20 => k1_hw21.1 k1_h18 k1_h19 k1_h20
theorem k1_off329_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off329 arg34) a + S1x16.size a ≤ S256x256.size a := fun i k1_t9 arg16 v163 v170 arg34 v191 k1_hw21 k1_h18 k1_h19 k1_h20 => k1_hw21.2.1 k1_h18 k1_h19 k1_h20
theorem k1_off330_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off330 arg34) a + S1x16.size a ≤ S256x256.size a := fun i k1_t9 arg16 v163 v170 arg34 v191 k1_hw21 k1_h18 k1_h19 k1_h20 => k1_hw21.2.2.1 k1_h18 k1_h19 k1_h20
theorem k1_off331_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off331 arg34) a + S1x16.size a ≤ S256x256.size a := fun i k1_t9 arg16 v163 v170 arg34 v191 k1_hw21 k1_h18 k1_h19 k1_h20 => k1_hw21.2.2.2.1 k1_h18 k1_h19 k1_h20
theorem k1_off332_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off332 arg34) a + S1x16.size a ≤ S256x256.size a := fun i k1_t9 arg16 v163 v170 arg34 v191 k1_hw21 k1_h18 k1_h19 k1_h20 => k1_hw21.2.2.2.2.1 k1_h18 k1_h19 k1_h20
theorem k1_off333_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off333 arg34) a + S1x16.size a ≤ S256x256.size a := fun i k1_t9 arg16 v163 v170 arg34 v191 k1_hw21 k1_h18 k1_h19 k1_h20 => k1_hw21.2.2.2.2.2.1 k1_h18 k1_h19 k1_h20
theorem k1_off334_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off334 arg34) a + S1x16.size a ≤ S256x256.size a := fun i k1_t9 arg16 v163 v170 arg34 v191 k1_hw21 k1_h18 k1_h19 k1_h20 => k1_hw21.2.2.2.2.2.2.1 k1_h18 k1_h19 k1_h20
theorem k1_off335_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off335 arg34) a + S1x16.size a ≤ S256x256.size a := fun i k1_t9 arg16 v163 v170 arg34 v191 k1_hw21 k1_h18 k1_h19 k1_h20 => k1_hw21.2.2.2.2.2.2.2.1 k1_h18 k1_h19 k1_h20
theorem k1_off336_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off336 arg34) a + S1x16.size a ≤ S256x256.size a := fun i k1_t9 arg16 v163 v170 arg34 v191 k1_hw21 k1_h18 k1_h19 k1_h20 => k1_hw21.2.2.2.2.2.2.2.2.1 k1_h18 k1_h19 k1_h20
theorem k1_off337_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off337 arg34) a + S1x16.size a ≤ S256x256.size a := fun i k1_t9 arg16 v163 v170 arg34 v191 k1_hw21 k1_h18 k1_h19 k1_h20 => k1_hw21.2.2.2.2.2.2.2.2.2.1 k1_h18 k1_h19 k1_h20
theorem k1_off338_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off338 arg34) a + S1x16.size a ≤ S256x256.size a := fun i k1_t9 arg16 v163 v170 arg34 v191 k1_hw21 k1_h18 k1_h19 k1_h20 => k1_hw21.2.2.2.2.2.2.2.2.2.2.1 k1_h18 k1_h19 k1_h20
theorem k1_off339_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off339 arg34) a + S1x16.size a ≤ S256x256.size a := fun i k1_t9 arg16 v163 v170 arg34 v191 k1_hw21 k1_h18 k1_h19 k1_h20 => k1_hw21.2.2.2.2.2.2.2.2.2.2.2.1 k1_h18 k1_h19 k1_h20
theorem k1_off340_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off340 arg34) a + S1x16.size a ≤ S256x256.size a := fun i k1_t9 arg16 v163 v170 arg34 v191 k1_hw21 k1_h18 k1_h19 k1_h20 => k1_hw21.2.2.2.2.2.2.2.2.2.2.2.2.1 k1_h18 k1_h19 k1_h20
theorem k1_off341_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off341 arg34) a + S1x16.size a ≤ S256x256.size a := fun i k1_t9 arg16 v163 v170 arg34 v191 k1_hw21 k1_h18 k1_h19 k1_h20 => k1_hw21.2.2.2.2.2.2.2.2.2.2.2.2.2.1 k1_h18 k1_h19 k1_h20
theorem k1_off342_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off342 arg34) a + S1x16.size a ≤ S256x256.size a := fun i k1_t9 arg16 v163 v170 arg34 v191 k1_hw21 k1_h18 k1_h19 k1_h20 => k1_hw21.2.2.2.2.2.2.2.2.2.2.2.2.2.2.1 k1_h18 k1_h19 k1_h20
theorem k1_off343_inb : ∀ (i : grid1.Coords) (k1_t9 : Fin (k1_t9_loop i).trips) (arg16 : BitVec 32) (v163 : BitVec 32) (v170 : BitVec 32) (arg34 : BitVec 32) (v191 : BitVec 32) (k1_hw21 : k1_chk21 i k1_t9 arg16 v163 v170 arg34 v191), ∀ (k1_h18 : k1_cond18 i k1_t9 = 1#1), ∀ (k1_h19 : ¬(k1_cond19 arg16 v163 v170 = 1#1)), ∀ (k1_h20 : k1_cond20 arg34 v191 = 1#1), ∀ a, (k1_off343 arg34) a + S1x16.size a ≤ S256x256.size a := fun i k1_t9 arg16 v163 v170 arg34 v191 k1_hw21 k1_h18 k1_h19 k1_h20 => k1_hw21.2.2.2.2.2.2.2.2.2.2.2.2.2.2.2 k1_h18 k1_h19 k1_h20

def k1_off344 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v196 : Index := Scalar.indexCast arg33
  let c0_68 : Index := 0#32
  ![v196.toNat, 0]
def k1_off345 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v199 : Index := Scalar.indexCast arg33
  let c16_69 : Index := 16#32
  ![v199.toNat, 16]
def k1_off346 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v202 : Index := Scalar.indexCast arg33
  let c32_70 : Index := 32#32
  ![v202.toNat, 32]
def k1_off347 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v205 : Index := Scalar.indexCast arg33
  let c48_71 : Index := 48#32
  ![v205.toNat, 48]
def k1_off348 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v208 : Index := Scalar.indexCast arg33
  let c64_72 : Index := 64#32
  ![v208.toNat, 64]
def k1_off349 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v211 : Index := Scalar.indexCast arg33
  let c80_73 : Index := 80#32
  ![v211.toNat, 80]
def k1_off350 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v214 : Index := Scalar.indexCast arg33
  let c96_74 : Index := 96#32
  ![v214.toNat, 96]
def k1_off351 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v217 : Index := Scalar.indexCast arg33
  let c112_75 : Index := 112#32
  ![v217.toNat, 112]
def k1_off352 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v220 : Index := Scalar.indexCast arg33
  let c128_76 : Index := 128#32
  ![v220.toNat, 128]
def k1_off353 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v223 : Index := Scalar.indexCast arg33
  let c144_77 : Index := 144#32
  ![v223.toNat, 144]
def k1_off354 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v226 : Index := Scalar.indexCast arg33
  let c160_78 : Index := 160#32
  ![v226.toNat, 160]
def k1_off355 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v229 : Index := Scalar.indexCast arg33
  let c176_79 : Index := 176#32
  ![v229.toNat, 176]
def k1_off356 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v232 : Index := Scalar.indexCast arg33
  let c192_80 : Index := 192#32
  ![v232.toNat, 192]
def k1_off357 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v235 : Index := Scalar.indexCast arg33
  let c208_81 : Index := 208#32
  ![v235.toNat, 208]
def k1_off358 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v238 : Index := Scalar.indexCast arg33
  let c224_82 : Index := 224#32
  ![v238.toNat, 224]
def k1_off359 (k1_t13 : Fin k1_t13_loop.trips) (k1_t14 : Fin (k1_t14_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c1_i32_63 : BitVec 32 := 1#32
  let arg33 : BitVec 32 := Scf.iv v155 c1_i32_63 k1_t14
  let v241 : Index := Scalar.indexCast arg33
  let c240_83 : Index := 240#32
  ![v241.toNat, 240]
@[reducible] def k1_t15_loop (k1_t13 : Fin k1_t13_loop.trips) : Scf.Loop 32 :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let v178 : BitVec 32 := Scalar.addi v155 v177
  let c1_i32_64 : BitVec 32 := 1#32
  ⟨v181, v178, c1_i32_64⟩

def k1_chk22 (i : grid1.Coords) (k1_t9 : Fin (k1_t9_loop i).trips) (arg16 : BitVec 32) (v163 : BitVec 32) (v170 : BitVec 32) (v184 : IVec S16 32) : Prop :=
  (∀ (k1_h18 : k1_cond18 i k1_t9 = 1#1), ∀ (k1_h19 : ¬(k1_cond19 arg16 v163 v170 = 1#1)), ∀ a x, ((![v184] : Fin 1 → IVec S16 32) a x).toNat < S128.size a)
theorem k1_idx12_inb : ∀ (i : grid1.Coords) (k1_t9 : Fin (k1_t9_loop i).trips) (arg16 : BitVec 32) (v163 : BitVec 32) (v170 : BitVec 32) (v184 : IVec S16 32) (k1_hw22 : k1_chk22 i k1_t9 arg16 v163 v170 v184), ∀ (k1_h18 : k1_cond18 i k1_t9 = 1#1), ∀ (k1_h19 : ¬(k1_cond19 arg16 v163 v170 = 1#1)), ∀ a x, ((![v184] : Fin 1 → IVec S16 32) a x).toNat < S128.size a := fun i k1_t9 arg16 v163 v170 v184 k1_hw22 k1_h18 k1_h19 => k1_hw22 k1_h18 k1_h19
def k1_off360 (arg34 : BitVec 32) : Fin 2 → Nat :=
  let v244 : Index := Scalar.indexCast arg34
  let c0_84 : Index := 0#32
  ![v244.toNat, 0]
def k1_cond21 (arg34 : BitVec 32) (v191 : BitVec 32) : BitVec 1 :=
  let v192 : BitVec 1 := Scalar.cmpi .ne v191 arg34
  let v193 : BitVec 32 := Scalar.extui v192
  let c0_i32_67 : BitVec 32 := 0#32
  let v194 : BitVec 1 := Scalar.cmpi .ne v193 c0_i32_67
  v194

def k1_off361 (arg34 : BitVec 32) : Fin 2 → Nat :=
  let v249 : Index := Scalar.indexCast arg34
  let c16_86 : Index := 16#32
  ![v249.toNat, 16]
def k1_off362 (arg34 : BitVec 32) : Fin 2 → Nat :=
  let v254 : Index := Scalar.indexCast arg34
  let c32_88 : Index := 32#32
  ![v254.toNat, 32]
def k1_off363 (arg34 : BitVec 32) : Fin 2 → Nat :=
  let v259 : Index := Scalar.indexCast arg34
  let c48_90 : Index := 48#32
  ![v259.toNat, 48]
def k1_off364 (arg34 : BitVec 32) : Fin 2 → Nat :=
  let v264 : Index := Scalar.indexCast arg34
  let c64_92 : Index := 64#32
  ![v264.toNat, 64]
def k1_off365 (arg34 : BitVec 32) : Fin 2 → Nat :=
  let v269 : Index := Scalar.indexCast arg34
  let c80_94 : Index := 80#32
  ![v269.toNat, 80]
def k1_off366 (arg34 : BitVec 32) : Fin 2 → Nat :=
  let v274 : Index := Scalar.indexCast arg34
  let c96_96 : Index := 96#32
  ![v274.toNat, 96]
def k1_off367 (arg34 : BitVec 32) : Fin 2 → Nat :=
  let v279 : Index := Scalar.indexCast arg34
  let c112_98 : Index := 112#32
  ![v279.toNat, 112]
def k1_off368 (arg34 : BitVec 32) : Fin 2 → Nat :=
  let v284 : Index := Scalar.indexCast arg34
  let c128_100 : Index := 128#32
  ![v284.toNat, 128]
def k1_off369 (arg34 : BitVec 32) : Fin 2 → Nat :=
  let v289 : Index := Scalar.indexCast arg34
  let c144_102 : Index := 144#32
  ![v289.toNat, 144]
def k1_off370 (arg34 : BitVec 32) : Fin 2 → Nat :=
  let v294 : Index := Scalar.indexCast arg34
  let c160_104 : Index := 160#32
  ![v294.toNat, 160]
def k1_off371 (arg34 : BitVec 32) : Fin 2 → Nat :=
  let v299 : Index := Scalar.indexCast arg34
  let c176_106 : Index := 176#32
  ![v299.toNat, 176]
def k1_off372 (arg34 : BitVec 32) : Fin 2 → Nat :=
  let v304 : Index := Scalar.indexCast arg34
  let c192_108 : Index := 192#32
  ![v304.toNat, 192]
def k1_off373 (arg34 : BitVec 32) : Fin 2 → Nat :=
  let v309 : Index := Scalar.indexCast arg34
  let c208_110 : Index := 208#32
  ![v309.toNat, 208]
def k1_off374 (arg34 : BitVec 32) : Fin 2 → Nat :=
  let v314 : Index := Scalar.indexCast arg34
  let c224_112 : Index := 224#32
  ![v314.toNat, 224]
def k1_off375 (arg34 : BitVec 32) : Fin 2 → Nat :=
  let v319 : Index := Scalar.indexCast arg34
  let c240_114 : Index := 240#32
  ![v319.toNat, 240]

def k1_chk23 (i : grid1.Coords) (k1_t9 : Fin (k1_t9_loop i).trips) (arg16 : BitVec 32) (v163 : BitVec 32) (v170 : BitVec 32) (arg34 : BitVec 32) (v191 : BitVec 32) : Prop :=
  (∀ (k1_h18 : k1_cond18 i k1_t9 = 1#1), ∀ (k1_h19 : ¬(k1_cond19 arg16 v163 v170 = 1#1)), ∀ (k1_h21 : k1_cond21 arg34 v191 = 1#1), ∀ a, (k1_off360 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off361 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off362 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off363 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off364 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off365 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off366 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off367 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off368 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off369 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off370 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off371 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off372 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off373 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off374 arg34) a + S1x16.size a ≤ S256x256.size a) ∧
  (∀ (k1_h18 : k1_cond18 i k1_t9 = 1#1), ∀ (k1_h19 : ¬(k1_cond19 arg16 v163 v170 = 1#1)), ∀ (k1_h21 : k1_cond21 arg34 v191 = 1#1), ∀ a, (k1_off375 arg34) a + S1x16.size a ≤ S256x256.size a)
theorem k1_off360_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off360 arg34) a + S1x16.size a ≤ S256x256.size a := fun i k1_t9 arg16 v163 v170 arg34 v191 k1_hw23 k1_h18 k1_h19 k1_h21 => k1_hw23.1 k1_h18 k1_h19 k1_h21
theorem k1_off361_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off361 arg34) a + S1x16.size a ≤ S256x256.size a := fun i k1_t9 arg16 v163 v170 arg34 v191 k1_hw23 k1_h18 k1_h19 k1_h21 => k1_hw23.2.1 k1_h18 k1_h19 k1_h21
theorem k1_off362_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off362 arg34) a + S1x16.size a ≤ S256x256.size a := fun i k1_t9 arg16 v163 v170 arg34 v191 k1_hw23 k1_h18 k1_h19 k1_h21 => k1_hw23.2.2.1 k1_h18 k1_h19 k1_h21
theorem k1_off363_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off363 arg34) a + S1x16.size a ≤ S256x256.size a := fun i k1_t9 arg16 v163 v170 arg34 v191 k1_hw23 k1_h18 k1_h19 k1_h21 => k1_hw23.2.2.2.1 k1_h18 k1_h19 k1_h21
theorem k1_off364_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off364 arg34) a + S1x16.size a ≤ S256x256.size a := fun i k1_t9 arg16 v163 v170 arg34 v191 k1_hw23 k1_h18 k1_h19 k1_h21 => k1_hw23.2.2.2.2.1 k1_h18 k1_h19 k1_h21
theorem k1_off365_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off365 arg34) a + S1x16.size a ≤ S256x256.size a := fun i k1_t9 arg16 v163 v170 arg34 v191 k1_hw23 k1_h18 k1_h19 k1_h21 => k1_hw23.2.2.2.2.2.1 k1_h18 k1_h19 k1_h21
theorem k1_off366_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off366 arg34) a + S1x16.size a ≤ S256x256.size a := fun i k1_t9 arg16 v163 v170 arg34 v191 k1_hw23 k1_h18 k1_h19 k1_h21 => k1_hw23.2.2.2.2.2.2.1 k1_h18 k1_h19 k1_h21
theorem k1_off367_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off367 arg34) a + S1x16.size a ≤ S256x256.size a := fun i k1_t9 arg16 v163 v170 arg34 v191 k1_hw23 k1_h18 k1_h19 k1_h21 => k1_hw23.2.2.2.2.2.2.2.1 k1_h18 k1_h19 k1_h21
theorem k1_off368_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off368 arg34) a + S1x16.size a ≤ S256x256.size a := fun i k1_t9 arg16 v163 v170 arg34 v191 k1_hw23 k1_h18 k1_h19 k1_h21 => k1_hw23.2.2.2.2.2.2.2.2.1 k1_h18 k1_h19 k1_h21
theorem k1_off369_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off369 arg34) a + S1x16.size a ≤ S256x256.size a := fun i k1_t9 arg16 v163 v170 arg34 v191 k1_hw23 k1_h18 k1_h19 k1_h21 => k1_hw23.2.2.2.2.2.2.2.2.2.1 k1_h18 k1_h19 k1_h21
theorem k1_off370_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off370 arg34) a + S1x16.size a ≤ S256x256.size a := fun i k1_t9 arg16 v163 v170 arg34 v191 k1_hw23 k1_h18 k1_h19 k1_h21 => k1_hw23.2.2.2.2.2.2.2.2.2.2.1 k1_h18 k1_h19 k1_h21
theorem k1_off371_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off371 arg34) a + S1x16.size a ≤ S256x256.size a := fun i k1_t9 arg16 v163 v170 arg34 v191 k1_hw23 k1_h18 k1_h19 k1_h21 => k1_hw23.2.2.2.2.2.2.2.2.2.2.2.1 k1_h18 k1_h19 k1_h21
theorem k1_off372_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off372 arg34) a + S1x16.size a ≤ S256x256.size a := fun i k1_t9 arg16 v163 v170 arg34 v191 k1_hw23 k1_h18 k1_h19 k1_h21 => k1_hw23.2.2.2.2.2.2.2.2.2.2.2.2.1 k1_h18 k1_h19 k1_h21
theorem k1_off373_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off373 arg34) a + S1x16.size a ≤ S256x256.size a := fun i k1_t9 arg16 v163 v170 arg34 v191 k1_hw23 k1_h18 k1_h19 k1_h21 => k1_hw23.2.2.2.2.2.2.2.2.2.2.2.2.2.1 k1_h18 k1_h19 k1_h21
theorem k1_off374_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off374 arg34) a + S1x16.size a ≤ S256x256.size a := fun i k1_t9 arg16 v163 v170 arg34 v191 k1_hw23 k1_h18 k1_h19 k1_h21 => k1_hw23.2.2.2.2.2.2.2.2.2.2.2.2.2.2.1 k1_h18 k1_h19 k1_h21
theorem k1_off375_inb : ∀ (i : grid1.Coords) (k1_t9 : Fin (k1_t9_loop i).trips) (arg16 : BitVec 32) (v163 : BitVec 32) (v170 : BitVec 32) (arg34 : BitVec 32) (v191 : BitVec 32) (k1_hw23 : k1_chk23 i k1_t9 arg16 v163 v170 arg34 v191), ∀ (k1_h18 : k1_cond18 i k1_t9 = 1#1), ∀ (k1_h19 : ¬(k1_cond19 arg16 v163 v170 = 1#1)), ∀ (k1_h21 : k1_cond21 arg34 v191 = 1#1), ∀ a, (k1_off375 arg34) a + S1x16.size a ≤ S256x256.size a := fun i k1_t9 arg16 v163 v170 arg34 v191 k1_hw23 k1_h18 k1_h19 k1_h21 => k1_hw23.2.2.2.2.2.2.2.2.2.2.2.2.2.2.2 k1_h18 k1_h19 k1_h21

def k1_off376 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v196 : Index := Scalar.indexCast arg33
  let c0_68 : Index := 0#32
  ![v196.toNat, 0]
def k1_off377 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v199 : Index := Scalar.indexCast arg33
  let c16_69 : Index := 16#32
  ![v199.toNat, 16]
def k1_off378 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v202 : Index := Scalar.indexCast arg33
  let c32_70 : Index := 32#32
  ![v202.toNat, 32]
def k1_off379 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v205 : Index := Scalar.indexCast arg33
  let c48_71 : Index := 48#32
  ![v205.toNat, 48]
def k1_off380 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v208 : Index := Scalar.indexCast arg33
  let c64_72 : Index := 64#32
  ![v208.toNat, 64]
def k1_off381 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v211 : Index := Scalar.indexCast arg33
  let c80_73 : Index := 80#32
  ![v211.toNat, 80]
def k1_off382 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v214 : Index := Scalar.indexCast arg33
  let c96_74 : Index := 96#32
  ![v214.toNat, 96]
def k1_off383 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v217 : Index := Scalar.indexCast arg33
  let c112_75 : Index := 112#32
  ![v217.toNat, 112]
def k1_off384 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v220 : Index := Scalar.indexCast arg33
  let c128_76 : Index := 128#32
  ![v220.toNat, 128]
def k1_off385 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v223 : Index := Scalar.indexCast arg33
  let c144_77 : Index := 144#32
  ![v223.toNat, 144]
def k1_off386 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v226 : Index := Scalar.indexCast arg33
  let c160_78 : Index := 160#32
  ![v226.toNat, 160]
def k1_off387 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v229 : Index := Scalar.indexCast arg33
  let c176_79 : Index := 176#32
  ![v229.toNat, 176]
def k1_off388 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v232 : Index := Scalar.indexCast arg33
  let c192_80 : Index := 192#32
  ![v232.toNat, 192]
def k1_off389 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v235 : Index := Scalar.indexCast arg33
  let c208_81 : Index := 208#32
  ![v235.toNat, 208]
def k1_off390 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v238 : Index := Scalar.indexCast arg33
  let c224_82 : Index := 224#32
  ![v238.toNat, 224]
def k1_off391 (k1_t13 : Fin k1_t13_loop.trips) (k1_t15 : Fin (k1_t15_loop k1_t13).trips) : Fin 2 → Nat :=
  let c0_i32_35 : BitVec 32 := 0#32
  let c1_i32_36 : BitVec 32 := 1#32
  let arg15 : BitVec 32 := Scf.iv c0_i32_35 c1_i32_36 k1_t13
  let c16_i32 : BitVec 32 := 16#32
  let v155 : BitVec 32 := Scalar.muli arg15 c16_i32
  let c16_i32_61 : BitVec 32 := 16#32
  let v176 : BitVec 32 := Scalar.addi v155 c16_i32_61
  let v177 : BitVec 32 := Scalar.subi v176 v155
  let c1_i32_62 : BitVec 32 := 1#32
  let v179 : BitVec 32 := Scalar.divsi v177 c1_i32_62
  let v180 : BitVec 32 := Scalar.muli v179 c1_i32_62
  let v181 : BitVec 32 := Scalar.addi v155 v180
  let c1_i32_64 : BitVec 32 := 1#32
  let arg33 : BitVec 32 := Scf.iv v181 c1_i32_64 k1_t15
  let v241 : Index := Scalar.indexCast arg33
  let c240_83 : Index := 240#32
  ![v241.toNat, 240]
def k1_off392 (v70_0 : BitVec 32) : Fin 2 → Nat :=
  let v71 : Index := Scalar.indexCast v70_0
  let c0 : Index := 0#32
  ![v71.toNat, 0]

def k1_off393 (v70_0 : BitVec 32) : Fin 2 → Nat :=
  let v76 : Index := Scalar.indexCast v70_0
  let c16 : Index := 16#32
  ![v76.toNat, 16]
def k1_off394 (v70_0 : BitVec 32) : Fin 2 → Nat :=
  let v81 : Index := Scalar.indexCast v70_0
  let c32 : Index := 32#32
  ![v81.toNat, 32]
def k1_off395 (v70_0 : BitVec 32) : Fin 2 → Nat :=
  let v86 : Index := Scalar.indexCast v70_0
  let c48 : Index := 48#32
  ![v86.toNat, 48]
def k1_off396 (v70_0 : BitVec 32) : Fin 2 → Nat :=
  let v91 : Index := Scalar.indexCast v70_0
  let c64 : Index := 64#32
  ![v91.toNat, 64]
def k1_off397 (v70_0 : BitVec 32) : Fin 2 → Nat :=
  let v96 : Index := Scalar.indexCast v70_0
  let c80 : Index := 80#32
  ![v96.toNat, 80]
def k1_off398 (v70_0 : BitVec 32) : Fin 2 → Nat :=
  let v101 : Index := Scalar.indexCast v70_0
  let c96 : Index := 96#32
  ![v101.toNat, 96]
def k1_off399 (v70_0 : BitVec 32) : Fin 2 → Nat :=
  let v106 : Index := Scalar.indexCast v70_0
  let c112 : Index := 112#32
  ![v106.toNat, 112]
def k1_off400 (v70_0 : BitVec 32) : Fin 2 → Nat :=
  let v111 : Index := Scalar.indexCast v70_0
  let c128 : Index := 128#32
  ![v111.toNat, 128]
def k1_off401 (v70_0 : BitVec 32) : Fin 2 → Nat :=
  let v116 : Index := Scalar.indexCast v70_0
  let c144 : Index := 144#32
  ![v116.toNat, 144]
def k1_off402 (v70_0 : BitVec 32) : Fin 2 → Nat :=
  let v121 : Index := Scalar.indexCast v70_0
  let c160 : Index := 160#32
  ![v121.toNat, 160]
def k1_off403 (v70_0 : BitVec 32) : Fin 2 → Nat :=
  let v126 : Index := Scalar.indexCast v70_0
  let c176 : Index := 176#32
  ![v126.toNat, 176]
def k1_off404 (v70_0 : BitVec 32) : Fin 2 → Nat :=
  let v131 : Index := Scalar.indexCast v70_0
  let c192 : Index := 192#32
  ![v131.toNat, 192]
def k1_off405 (v70_0 : BitVec 32) : Fin 2 → Nat :=
  let v136 : Index := Scalar.indexCast v70_0
  let c208 : Index := 208#32
  ![v136.toNat, 208]
def k1_off406 (v70_0 : BitVec 32) : Fin 2 → Nat :=
  let v141 : Index := Scalar.indexCast v70_0
  let c224 : Index := 224#32
  ![v141.toNat, 224]
def k1_off407 (v70_0 : BitVec 32) : Fin 2 → Nat :=
  let v146 : Index := Scalar.indexCast v70_0
  let c240 : Index := 240#32
  ![v146.toNat, 240]

def k1_chk24 (i : grid1.Coords) (k1_t9 : Fin (k1_t9_loop i).trips) (v70_0 : BitVec 32) : Prop :=
  (∀ (k1_h18 : k1_cond18 i k1_t9 = 1#1), ∀ a, (k1_off392 v70_0) a + S1x16.size a ≤ S256x256.size a) ∧
  (∀ (k1_h18 : k1_cond18 i k1_t9 = 1#1), ∀ a, (k1_off393 v70_0) a + S1x16.size a ≤ S256x256.size a) ∧
  (∀ (k1_h18 : k1_cond18 i k1_t9 = 1#1), ∀ a, (k1_off394 v70_0) a + S1x16.size a ≤ S256x256.size a) ∧
  (∀ (k1_h18 : k1_cond18 i k1_t9 = 1#1), ∀ a, (k1_off395 v70_0) a + S1x16.size a ≤ S256x256.size a) ∧
  (∀ (k1_h18 : k1_cond18 i k1_t9 = 1#1), ∀ a, (k1_off396 v70_0) a + S1x16.size a ≤ S256x256.size a) ∧
  (∀ (k1_h18 : k1_cond18 i k1_t9 = 1#1), ∀ a, (k1_off397 v70_0) a + S1x16.size a ≤ S256x256.size a) ∧
  (∀ (k1_h18 : k1_cond18 i k1_t9 = 1#1), ∀ a, (k1_off398 v70_0) a + S1x16.size a ≤ S256x256.size a) ∧
  (∀ (k1_h18 : k1_cond18 i k1_t9 = 1#1), ∀ a, (k1_off399 v70_0) a + S1x16.size a ≤ S256x256.size a) ∧
  (∀ (k1_h18 : k1_cond18 i k1_t9 = 1#1), ∀ a, (k1_off400 v70_0) a + S1x16.size a ≤ S256x256.size a) ∧
  (∀ (k1_h18 : k1_cond18 i k1_t9 = 1#1), ∀ a, (k1_off401 v70_0) a + S1x16.size a ≤ S256x256.size a) ∧
  (∀ (k1_h18 : k1_cond18 i k1_t9 = 1#1), ∀ a, (k1_off402 v70_0) a + S1x16.size a ≤ S256x256.size a) ∧
  (∀ (k1_h18 : k1_cond18 i k1_t9 = 1#1), ∀ a, (k1_off403 v70_0) a + S1x16.size a ≤ S256x256.size a) ∧
  (∀ (k1_h18 : k1_cond18 i k1_t9 = 1#1), ∀ a, (k1_off404 v70_0) a + S1x16.size a ≤ S256x256.size a) ∧
  (∀ (k1_h18 : k1_cond18 i k1_t9 = 1#1), ∀ a, (k1_off405 v70_0) a + S1x16.size a ≤ S256x256.size a) ∧
  (∀ (k1_h18 : k1_cond18 i k1_t9 = 1#1), ∀ a, (k1_off406 v70_0) a + S1x16.size a ≤ S256x256.size a) ∧
  (∀ (k1_h18 : k1_cond18 i k1_t9 = 1#1), ∀ a, (k1_off407 v70_0) a + S1x16.size a ≤ S256x256.size a)
theorem k1_off392_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off392 v70_0) a + S1x16.size a ≤ S256x256.size a := fun i k1_t9 v70_0 k1_hw24 k1_h18 => k1_hw24.1 k1_h18
theorem k1_off393_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off393 v70_0) a + S1x16.size a ≤ S256x256.size a := fun i k1_t9 v70_0 k1_hw24 k1_h18 => k1_hw24.2.1 k1_h18
theorem k1_off394_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off394 v70_0) a + S1x16.size a ≤ S256x256.size a := fun i k1_t9 v70_0 k1_hw24 k1_h18 => k1_hw24.2.2.1 k1_h18
theorem k1_off395_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off395 v70_0) a + S1x16.size a ≤ S256x256.size a := fun i k1_t9 v70_0 k1_hw24 k1_h18 => k1_hw24.2.2.2.1 k1_h18
theorem k1_off396_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off396 v70_0) a + S1x16.size a ≤ S256x256.size a := fun i k1_t9 v70_0 k1_hw24 k1_h18 => k1_hw24.2.2.2.2.1 k1_h18
theorem k1_off397_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off397 v70_0) a + S1x16.size a ≤ S256x256.size a := fun i k1_t9 v70_0 k1_hw24 k1_h18 => k1_hw24.2.2.2.2.2.1 k1_h18
theorem k1_off398_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off398 v70_0) a + S1x16.size a ≤ S256x256.size a := fun i k1_t9 v70_0 k1_hw24 k1_h18 => k1_hw24.2.2.2.2.2.2.1 k1_h18
theorem k1_off399_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off399 v70_0) a + S1x16.size a ≤ S256x256.size a := fun i k1_t9 v70_0 k1_hw24 k1_h18 => k1_hw24.2.2.2.2.2.2.2.1 k1_h18
theorem k1_off400_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off400 v70_0) a + S1x16.size a ≤ S256x256.size a := fun i k1_t9 v70_0 k1_hw24 k1_h18 => k1_hw24.2.2.2.2.2.2.2.2.1 k1_h18
theorem k1_off401_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off401 v70_0) a + S1x16.size a ≤ S256x256.size a := fun i k1_t9 v70_0 k1_hw24 k1_h18 => k1_hw24.2.2.2.2.2.2.2.2.2.1 k1_h18
theorem k1_off402_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off402 v70_0) a + S1x16.size a ≤ S256x256.size a := fun i k1_t9 v70_0 k1_hw24 k1_h18 => k1_hw24.2.2.2.2.2.2.2.2.2.2.1 k1_h18
theorem k1_off403_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off403 v70_0) a + S1x16.size a ≤ S256x256.size a := fun i k1_t9 v70_0 k1_hw24 k1_h18 => k1_hw24.2.2.2.2.2.2.2.2.2.2.2.1 k1_h18
theorem k1_off404_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off404 v70_0) a + S1x16.size a ≤ S256x256.size a := fun i k1_t9 v70_0 k1_hw24 k1_h18 => k1_hw24.2.2.2.2.2.2.2.2.2.2.2.2.1 k1_h18
theorem k1_off405_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off405 v70_0) a + S1x16.size a ≤ S256x256.size a := fun i k1_t9 v70_0 k1_hw24 k1_h18 => k1_hw24.2.2.2.2.2.2.2.2.2.2.2.2.2.1 k1_h18
theorem k1_off406_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off406 v70_0) a + S1x16.size a ≤ S256x256.size a := fun i k1_t9 v70_0 k1_hw24 k1_h18 => k1_hw24.2.2.2.2.2.2.2.2.2.2.2.2.2.2.1 k1_h18
theorem k1_off407_inb : ∀ (i : grid1.Coords) (k1_t9 : Fin (k1_t9_loop i).trips) (v70_0 : BitVec 32) (k1_hw24 : k1_chk24 i k1_t9 v70_0), ∀ (k1_h18 : k1_cond18 i k1_t9 = 1#1), ∀ a, (k1_off407 v70_0) a + S1x16.size a ≤ S256x256.size a := fun i k1_t9 v70_0 k1_hw24 k1_h18 => k1_hw24.2.2.2.2.2.2.2.2.2.2.2.2.2.2.2 k1_h18

def k1_cond22 (i : grid1.Coords) (k1_t9 : Fin (k1_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_28 : BitVec 32 := 2#32
  let v47 : BitVec 32 := Scalar.muli arg14 c2_i32_28
  let c1_i32_29 : BitVec 32 := 1#32
  let v48 : BitVec 32 := Scalar.addi v47 c1_i32_29
  let c2_i32_54 : BitVec 32 := 2#32
  let v151 : BitVec 32 := Scalar.addi v48 c2_i32_54
  let v152 : BitVec 1 := Scalar.cmpi .slt v151 v2
  let v153 : BitVec 32 := Scalar.extui v152
  let c0_i32_55 : BitVec 32 := 0#32
  let v154 : BitVec 1 := Scalar.cmpi .ne v153 c0_i32_55
  v154

def k1_off408 (i : grid1.Coords) (k1_t9 : Fin (k1_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_28 : BitVec 32 := 2#32
  let v47 : BitVec 32 := Scalar.muli arg14 c2_i32_28
  let c1_i32_29 : BitVec 32 := 1#32
  let v48 : BitVec 32 := Scalar.addi v47 c1_i32_29
  let c2_i32_56 : BitVec 32 := 2#32
  let v155 : BitVec 32 := Scalar.addi v48 c2_i32_56
  let c112_i32_57 : BitVec 32 := 112#32
  let v156 : BitVec 32 := Scalar.muli v155 c112_i32_57
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k1_off409 (i : grid1.Coords) (k1_t9 : Fin (k1_t9_loop i).trips) : Fin 1 → Nat :=
  let c0_i32_58 : BitVec 32 := 0#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k1_t9
  let c2_i32_28 : BitVec 32 := 2#32
  let v47 : BitVec 32 := Scalar.muli arg14 c2_i32_28
  let c1_i32_29 : BitVec 32 := 1#32
  let v48 : BitVec 32 := Scalar.addi v47 c1_i32_29
  let c2_i32_56 : BitVec 32 := 2#32
  let v155 : BitVec 32 := Scalar.addi v48 c2_i32_56
  let c112_i32_57 : BitVec 32 := 112#32
  let v156 : BitVec 32 := Scalar.muli v155 c112_i32_57
  let v157 : BitVec 32 := Scalar.addi v0 v156
  let v160 : BitVec 32 := Scalar.addi c0_i32_58 v157
  ![v160.toNat]
@[reducible] def k1_t16_loop (i : grid1.Coords) : Scf.Loop 32 :=
  let c0_i32_21 : BitVec 32 := 0#32
  let arg1 : BitVec 32 := BitVec.ofNat 32 (i 1).val
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_23 : BitVec 32 := 1#32
  ⟨c0_i32_21, v41, c1_i32_23⟩
def k1_off410 (i : grid1.Coords) (k1_t16 : Fin (k1_t16_loop i).trips) : Fin 2 → Nat :=
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c1_i32_23 : BitVec 32 := 1#32
  let arg14 : BitVec 32 := Scf.iv c0_i32_21 c1_i32_23 k1_t16
  let c8_i32 : BitVec 32 := 8#32
  let v44 : BitVec 32 := Scalar.muli arg14 c8_i32
  let v45 : BitVec 32 := Scalar.addi v43 v44
  let arg0 : BitVec 32 := BitVec.ofNat 32 (i 0).val
  let c256_i32 : BitVec 32 := 256#32
  let v5 : BitVec 32 := Scalar.muli arg0 c256_i32
  ![v45.toNat, v5.toNat]
def k1_off411 (i : grid1.Coords) (k1_t16 : Fin (k1_t16_loop i).trips) : Fin 1 → Nat :=
  let c0_i32_25 : BitVec 32 := 0#32
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c1_i32_23 : BitVec 32 := 1#32
  let arg14 : BitVec 32 := Scf.iv c0_i32_21 c1_i32_23 k1_t16
  let c8_i32 : BitVec 32 := 8#32
  let v44 : BitVec 32 := Scalar.muli arg14 c8_i32
  let v45 : BitVec 32 := Scalar.addi v43 v44
  let v46 : BitVec 32 := Scalar.addi c0_i32_25 v45
  ![v46.toNat]

def k1_chk25 (i : grid1.Coords) (k1_t16 : Fin (k1_t16_loop i).trips) (v47 : IVec S16 32) : Prop :=
  (∀ a x, ((![v47] : Fin 1 → IVec S16 32) a x).toNat < S128.size a)
theorem k1_idx13_inb : ∀ (i : grid1.Coords) (k1_t16 : Fin (k1_t16_loop i).trips) (v47 : IVec S16 32) (k1_hw25 : k1_chk25 i k1_t16 v47), ∀ a x, ((![v47] : Fin 1 → IVec S16 32) a x).toNat < S128.size a := fun i k1_t16 v47 k1_hw25 => k1_hw25
@[reducible] def k1_t17_loop : Scf.Loop 32 :=
  let c0_i32_27 : BitVec 32 := 0#32
  let c8_i32_28 : BitVec 32 := 8#32
  let v55 : BitVec 32 := Scalar.addi c0_i32_27 c8_i32_28
  let c1_i32_29 : BitVec 32 := 1#32
  ⟨c0_i32_27, v55, c1_i32_29⟩

def k1_chk26 (i : grid1.Coords) (k1_t16 : Fin (k1_t16_loop i).trips) (v137 : IVec S16 32) : Prop :=
  (∀ a x, ((![v137] : Fin 1 → IVec S16 32) a x).toNat < S128.size a)
theorem k1_idx14_inb : ∀ (i : grid1.Coords) (k1_t16 : Fin (k1_t16_loop i).trips) (v137 : IVec S16 32) (k1_hw26 : k1_chk26 i k1_t16 v137), ∀ a x, ((![v137] : Fin 1 → IVec S16 32) a x).toNat < S128.size a := fun i k1_t16 v137 k1_hw26 => k1_hw26
def k1_off412 (arg16 : BitVec 32) : Fin 2 → Nat :=
  let v197 : Index := Scalar.indexCast arg16
  let c0_66 : Index := 0#32
  ![v197.toNat, 0]
def k1_cond23 (arg16 : BitVec 32) (v144 : BitVec 32) : BitVec 1 :=
  let v145 : BitVec 1 := Scalar.cmpi .ne v144 arg16
  let v146 : BitVec 32 := Scalar.extui v145
  let c0_i32_49 : BitVec 32 := 0#32
  let v147 : BitVec 1 := Scalar.cmpi .ne v146 c0_i32_49
  v147

def k1_off413 (arg16 : BitVec 32) : Fin 2 → Nat :=
  let v202 : Index := Scalar.indexCast arg16
  let c16_68 : Index := 16#32
  ![v202.toNat, 16]
def k1_off414 (arg16 : BitVec 32) : Fin 2 → Nat :=
  let v207 : Index := Scalar.indexCast arg16
  let c32_70 : Index := 32#32
  ![v207.toNat, 32]
def k1_off415 (arg16 : BitVec 32) : Fin 2 → Nat :=
  let v212 : Index := Scalar.indexCast arg16
  let c48_72 : Index := 48#32
  ![v212.toNat, 48]
def k1_off416 (arg16 : BitVec 32) : Fin 2 → Nat :=
  let v217 : Index := Scalar.indexCast arg16
  let c64_74 : Index := 64#32
  ![v217.toNat, 64]
def k1_off417 (arg16 : BitVec 32) : Fin 2 → Nat :=
  let v222 : Index := Scalar.indexCast arg16
  let c80_76 : Index := 80#32
  ![v222.toNat, 80]
def k1_off418 (arg16 : BitVec 32) : Fin 2 → Nat :=
  let v227 : Index := Scalar.indexCast arg16
  let c96_78 : Index := 96#32
  ![v227.toNat, 96]
def k1_off419 (arg16 : BitVec 32) : Fin 2 → Nat :=
  let v232 : Index := Scalar.indexCast arg16
  let c112_80 : Index := 112#32
  ![v232.toNat, 112]
def k1_off420 (arg16 : BitVec 32) : Fin 2 → Nat :=
  let v237 : Index := Scalar.indexCast arg16
  let c128_82 : Index := 128#32
  ![v237.toNat, 128]
def k1_off421 (arg16 : BitVec 32) : Fin 2 → Nat :=
  let v242 : Index := Scalar.indexCast arg16
  let c144_84 : Index := 144#32
  ![v242.toNat, 144]
def k1_off422 (arg16 : BitVec 32) : Fin 2 → Nat :=
  let v247 : Index := Scalar.indexCast arg16
  let c160_86 : Index := 160#32
  ![v247.toNat, 160]
def k1_off423 (arg16 : BitVec 32) : Fin 2 → Nat :=
  let v252 : Index := Scalar.indexCast arg16
  let c176_88 : Index := 176#32
  ![v252.toNat, 176]
def k1_off424 (arg16 : BitVec 32) : Fin 2 → Nat :=
  let v257 : Index := Scalar.indexCast arg16
  let c192_90 : Index := 192#32
  ![v257.toNat, 192]
def k1_off425 (arg16 : BitVec 32) : Fin 2 → Nat :=
  let v262 : Index := Scalar.indexCast arg16
  let c208_92 : Index := 208#32
  ![v262.toNat, 208]
def k1_off426 (arg16 : BitVec 32) : Fin 2 → Nat :=
  let v267 : Index := Scalar.indexCast arg16
  let c224_94 : Index := 224#32
  ![v267.toNat, 224]
def k1_off427 (arg16 : BitVec 32) : Fin 2 → Nat :=
  let v272 : Index := Scalar.indexCast arg16
  let c240_96 : Index := 240#32
  ![v272.toNat, 240]

def k1_chk27 (i : grid1.Coords) (k1_t16 : Fin (k1_t16_loop i).trips) (arg16 : BitVec 32) (v144 : BitVec 32) : Prop :=
  (∀ (k1_h23 : k1_cond23 arg16 v144 = 1#1), ∀ a, (k1_off412 arg16) a + S1x16.size a ≤ S256x256.size a) ∧
  (∀ (k1_h23 : k1_cond23 arg16 v144 = 1#1), ∀ a, (k1_off413 arg16) a + S1x16.size a ≤ S256x256.size a) ∧
  (∀ (k1_h23 : k1_cond23 arg16 v144 = 1#1), ∀ a, (k1_off414 arg16) a + S1x16.size a ≤ S256x256.size a) ∧
  (∀ (k1_h23 : k1_cond23 arg16 v144 = 1#1), ∀ a, (k1_off415 arg16) a + S1x16.size a ≤ S256x256.size a) ∧
  (∀ (k1_h23 : k1_cond23 arg16 v144 = 1#1), ∀ a, (k1_off416 arg16) a + S1x16.size a ≤ S256x256.size a) ∧
  (∀ (k1_h23 : k1_cond23 arg16 v144 = 1#1), ∀ a, (k1_off417 arg16) a + S1x16.size a ≤ S256x256.size a) ∧
  (∀ (k1_h23 : k1_cond23 arg16 v144 = 1#1), ∀ a, (k1_off418 arg16) a + S1x16.size a ≤ S256x256.size a) ∧
  (∀ (k1_h23 : k1_cond23 arg16 v144 = 1#1), ∀ a, (k1_off419 arg16) a + S1x16.size a ≤ S256x256.size a) ∧
  (∀ (k1_h23 : k1_cond23 arg16 v144 = 1#1), ∀ a, (k1_off420 arg16) a + S1x16.size a ≤ S256x256.size a) ∧
  (∀ (k1_h23 : k1_cond23 arg16 v144 = 1#1), ∀ a, (k1_off421 arg16) a + S1x16.size a ≤ S256x256.size a) ∧
  (∀ (k1_h23 : k1_cond23 arg16 v144 = 1#1), ∀ a, (k1_off422 arg16) a + S1x16.size a ≤ S256x256.size a) ∧
  (∀ (k1_h23 : k1_cond23 arg16 v144 = 1#1), ∀ a, (k1_off423 arg16) a + S1x16.size a ≤ S256x256.size a) ∧
  (∀ (k1_h23 : k1_cond23 arg16 v144 = 1#1), ∀ a, (k1_off424 arg16) a + S1x16.size a ≤ S256x256.size a) ∧
  (∀ (k1_h23 : k1_cond23 arg16 v144 = 1#1), ∀ a, (k1_off425 arg16) a + S1x16.size a ≤ S256x256.size a) ∧
  (∀ (k1_h23 : k1_cond23 arg16 v144 = 1#1), ∀ a, (k1_off426 arg16) a + S1x16.size a ≤ S256x256.size a) ∧
  (∀ (k1_h23 : k1_cond23 arg16 v144 = 1#1), ∀ a, (k1_off427 arg16) a + S1x16.size a ≤ S256x256.size a)
theorem k1_off412_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off412 arg16) a + S1x16.size a ≤ S256x256.size a := fun i k1_t16 arg16 v144 k1_hw27 k1_h23 => k1_hw27.1 k1_h23
theorem k1_off413_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off413 arg16) a + S1x16.size a ≤ S256x256.size a := fun i k1_t16 arg16 v144 k1_hw27 k1_h23 => k1_hw27.2.1 k1_h23
theorem k1_off414_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off414 arg16) a + S1x16.size a ≤ S256x256.size a := fun i k1_t16 arg16 v144 k1_hw27 k1_h23 => k1_hw27.2.2.1 k1_h23
theorem k1_off415_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off415 arg16) a + S1x16.size a ≤ S256x256.size a := fun i k1_t16 arg16 v144 k1_hw27 k1_h23 => k1_hw27.2.2.2.1 k1_h23
theorem k1_off416_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off416 arg16) a + S1x16.size a ≤ S256x256.size a := fun i k1_t16 arg16 v144 k1_hw27 k1_h23 => k1_hw27.2.2.2.2.1 k1_h23
theorem k1_off417_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off417 arg16) a + S1x16.size a ≤ S256x256.size a := fun i k1_t16 arg16 v144 k1_hw27 k1_h23 => k1_hw27.2.2.2.2.2.1 k1_h23
theorem k1_off418_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off418 arg16) a + S1x16.size a ≤ S256x256.size a := fun i k1_t16 arg16 v144 k1_hw27 k1_h23 => k1_hw27.2.2.2.2.2.2.1 k1_h23
theorem k1_off419_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off419 arg16) a + S1x16.size a ≤ S256x256.size a := fun i k1_t16 arg16 v144 k1_hw27 k1_h23 => k1_hw27.2.2.2.2.2.2.2.1 k1_h23
theorem k1_off420_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off420 arg16) a + S1x16.size a ≤ S256x256.size a := fun i k1_t16 arg16 v144 k1_hw27 k1_h23 => k1_hw27.2.2.2.2.2.2.2.2.1 k1_h23
theorem k1_off421_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off421 arg16) a + S1x16.size a ≤ S256x256.size a := fun i k1_t16 arg16 v144 k1_hw27 k1_h23 => k1_hw27.2.2.2.2.2.2.2.2.2.1 k1_h23
theorem k1_off422_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off422 arg16) a + S1x16.size a ≤ S256x256.size a := fun i k1_t16 arg16 v144 k1_hw27 k1_h23 => k1_hw27.2.2.2.2.2.2.2.2.2.2.1 k1_h23
theorem k1_off423_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off423 arg16) a + S1x16.size a ≤ S256x256.size a := fun i k1_t16 arg16 v144 k1_hw27 k1_h23 => k1_hw27.2.2.2.2.2.2.2.2.2.2.2.1 k1_h23
theorem k1_off424_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off424 arg16) a + S1x16.size a ≤ S256x256.size a := fun i k1_t16 arg16 v144 k1_hw27 k1_h23 => k1_hw27.2.2.2.2.2.2.2.2.2.2.2.2.1 k1_h23
theorem k1_off425_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off425 arg16) a + S1x16.size a ≤ S256x256.size a := fun i k1_t16 arg16 v144 k1_hw27 k1_h23 => k1_hw27.2.2.2.2.2.2.2.2.2.2.2.2.2.1 k1_h23
theorem k1_off426_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off426 arg16) a + S1x16.size a ≤ S256x256.size a := fun i k1_t16 arg16 v144 k1_hw27 k1_h23 => k1_hw27.2.2.2.2.2.2.2.2.2.2.2.2.2.2.1 k1_h23
theorem k1_off427_inb : ∀ (i : grid1.Coords) (k1_t16 : Fin (k1_t16_loop i).trips) (arg16 : BitVec 32) (v144 : BitVec 32) (k1_hw27 : k1_chk27 i k1_t16 arg16 v144), ∀ (k1_h23 : k1_cond23 arg16 v144 = 1#1), ∀ a, (k1_off427 arg16) a + S1x16.size a ≤ S256x256.size a := fun i k1_t16 arg16 v144 k1_hw27 k1_h23 => k1_hw27.2.2.2.2.2.2.2.2.2.2.2.2.2.2.2 k1_h23

def k1_off428 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v149 : Index := Scalar.indexCast arg15
  let c0_50 : Index := 0#32
  ![v149.toNat, 0]
def k1_off429 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v152 : Index := Scalar.indexCast arg15
  let c16_51 : Index := 16#32
  ![v152.toNat, 16]
def k1_off430 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v155 : Index := Scalar.indexCast arg15
  let c32_52 : Index := 32#32
  ![v155.toNat, 32]
def k1_off431 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v158 : Index := Scalar.indexCast arg15
  let c48_53 : Index := 48#32
  ![v158.toNat, 48]
def k1_off432 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v161 : Index := Scalar.indexCast arg15
  let c64_54 : Index := 64#32
  ![v161.toNat, 64]
def k1_off433 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v164 : Index := Scalar.indexCast arg15
  let c80_55 : Index := 80#32
  ![v164.toNat, 80]
def k1_off434 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v167 : Index := Scalar.indexCast arg15
  let c96_56 : Index := 96#32
  ![v167.toNat, 96]
def k1_off435 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v170 : Index := Scalar.indexCast arg15
  let c112_57 : Index := 112#32
  ![v170.toNat, 112]
def k1_off436 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v173 : Index := Scalar.indexCast arg15
  let c128_58 : Index := 128#32
  ![v173.toNat, 128]
def k1_off437 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v176 : Index := Scalar.indexCast arg15
  let c144_59 : Index := 144#32
  ![v176.toNat, 144]
def k1_off438 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v179 : Index := Scalar.indexCast arg15
  let c160_60 : Index := 160#32
  ![v179.toNat, 160]
def k1_off439 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v182 : Index := Scalar.indexCast arg15
  let c176_61 : Index := 176#32
  ![v182.toNat, 176]
def k1_off440 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v185 : Index := Scalar.indexCast arg15
  let c192_62 : Index := 192#32
  ![v185.toNat, 192]
def k1_off441 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v188 : Index := Scalar.indexCast arg15
  let c208_63 : Index := 208#32
  ![v188.toNat, 208]
def k1_off442 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v191 : Index := Scalar.indexCast arg15
  let c224_64 : Index := 224#32
  ![v191.toNat, 224]
def k1_off443 (k1_t17 : Fin k1_t17_loop.trips) : Fin 2 → Nat :=
  let c0_i32_27 : BitVec 32 := 0#32
  let c1_i32_29 : BitVec 32 := 1#32
  let arg15 : BitVec 32 := Scf.iv c0_i32_27 c1_i32_29 k1_t17
  let v194 : Index := Scalar.indexCast arg15
  let c240_65 : Index := 240#32
  ![v194.toNat, 240]
def k1_off444 (v56_0 : BitVec 32) : Fin 2 → Nat :=
  let v57 : Index := Scalar.indexCast v56_0
  let c0 : Index := 0#32
  ![v57.toNat, 0]

def k1_off445 (v56_0 : BitVec 32) : Fin 2 → Nat :=
  let v62 : Index := Scalar.indexCast v56_0
  let c16 : Index := 16#32
  ![v62.toNat, 16]
def k1_off446 (v56_0 : BitVec 32) : Fin 2 → Nat :=
  let v67 : Index := Scalar.indexCast v56_0
  let c32 : Index := 32#32
  ![v67.toNat, 32]
def k1_off447 (v56_0 : BitVec 32) : Fin 2 → Nat :=
  let v72 : Index := Scalar.indexCast v56_0
  let c48 : Index := 48#32
  ![v72.toNat, 48]
def k1_off448 (v56_0 : BitVec 32) : Fin 2 → Nat :=
  let v77 : Index := Scalar.indexCast v56_0
  let c64 : Index := 64#32
  ![v77.toNat, 64]
def k1_off449 (v56_0 : BitVec 32) : Fin 2 → Nat :=
  let v82 : Index := Scalar.indexCast v56_0
  let c80 : Index := 80#32
  ![v82.toNat, 80]
def k1_off450 (v56_0 : BitVec 32) : Fin 2 → Nat :=
  let v87 : Index := Scalar.indexCast v56_0
  let c96 : Index := 96#32
  ![v87.toNat, 96]
def k1_off451 (v56_0 : BitVec 32) : Fin 2 → Nat :=
  let v92 : Index := Scalar.indexCast v56_0
  let c112 : Index := 112#32
  ![v92.toNat, 112]
def k1_off452 (v56_0 : BitVec 32) : Fin 2 → Nat :=
  let v97 : Index := Scalar.indexCast v56_0
  let c128 : Index := 128#32
  ![v97.toNat, 128]
def k1_off453 (v56_0 : BitVec 32) : Fin 2 → Nat :=
  let v102 : Index := Scalar.indexCast v56_0
  let c144 : Index := 144#32
  ![v102.toNat, 144]
def k1_off454 (v56_0 : BitVec 32) : Fin 2 → Nat :=
  let v107 : Index := Scalar.indexCast v56_0
  let c160 : Index := 160#32
  ![v107.toNat, 160]
def k1_off455 (v56_0 : BitVec 32) : Fin 2 → Nat :=
  let v112 : Index := Scalar.indexCast v56_0
  let c176 : Index := 176#32
  ![v112.toNat, 176]
def k1_off456 (v56_0 : BitVec 32) : Fin 2 → Nat :=
  let v117 : Index := Scalar.indexCast v56_0
  let c192 : Index := 192#32
  ![v117.toNat, 192]
def k1_off457 (v56_0 : BitVec 32) : Fin 2 → Nat :=
  let v122 : Index := Scalar.indexCast v56_0
  let c208 : Index := 208#32
  ![v122.toNat, 208]
def k1_off458 (v56_0 : BitVec 32) : Fin 2 → Nat :=
  let v127 : Index := Scalar.indexCast v56_0
  let c224 : Index := 224#32
  ![v127.toNat, 224]
def k1_off459 (v56_0 : BitVec 32) : Fin 2 → Nat :=
  let v132 : Index := Scalar.indexCast v56_0
  let c240 : Index := 240#32
  ![v132.toNat, 240]

def k1_chk28 (i : grid1.Coords) (k1_t16 : Fin (k1_t16_loop i).trips) (v56_0 : BitVec 32) : Prop :=
  (∀ a, (k1_off444 v56_0) a + S1x16.size a ≤ S256x256.size a) ∧
  (∀ a, (k1_off445 v56_0) a + S1x16.size a ≤ S256x256.size a) ∧
  (∀ a, (k1_off446 v56_0) a + S1x16.size a ≤ S256x256.size a) ∧
  (∀ a, (k1_off447 v56_0) a + S1x16.size a ≤ S256x256.size a) ∧
  (∀ a, (k1_off448 v56_0) a + S1x16.size a ≤ S256x256.size a) ∧
  (∀ a, (k1_off449 v56_0) a + S1x16.size a ≤ S256x256.size a) ∧
  (∀ a, (k1_off450 v56_0) a + S1x16.size a ≤ S256x256.size a) ∧
  (∀ a, (k1_off451 v56_0) a + S1x16.size a ≤ S256x256.size a) ∧
  (∀ a, (k1_off452 v56_0) a + S1x16.size a ≤ S256x256.size a) ∧
  (∀ a, (k1_off453 v56_0) a + S1x16.size a ≤ S256x256.size a) ∧
  (∀ a, (k1_off454 v56_0) a + S1x16.size a ≤ S256x256.size a) ∧
  (∀ a, (k1_off455 v56_0) a + S1x16.size a ≤ S256x256.size a) ∧
  (∀ a, (k1_off456 v56_0) a + S1x16.size a ≤ S256x256.size a) ∧
  (∀ a, (k1_off457 v56_0) a + S1x16.size a ≤ S256x256.size a) ∧
  (∀ a, (k1_off458 v56_0) a + S1x16.size a ≤ S256x256.size a) ∧
  (∀ a, (k1_off459 v56_0) a + S1x16.size a ≤ S256x256.size a)
theorem k1_off444_inb : ∀ (i : grid1.Coords) (k1_t16 : Fin (k1_t16_loop i).trips) (v56_0 : BitVec 32) (k1_hw28 : k1_chk28 i k1_t16 v56_0), ∀ a, (k1_off444 v56_0) a + S1x16.size a ≤ S256x256.size a := fun i k1_t16 v56_0 k1_hw28 => k1_hw28.1
theorem k1_off445_inb : ∀ (i : grid1.Coords) (k1_t16 : Fin (k1_t16_loop i).trips) (v56_0 : BitVec 32) (k1_hw28 : k1_chk28 i k1_t16 v56_0), ∀ a, (k1_off445 v56_0) a + S1x16.size a ≤ S256x256.size a := fun i k1_t16 v56_0 k1_hw28 => k1_hw28.2.1
theorem k1_off446_inb : ∀ (i : grid1.Coords) (k1_t16 : Fin (k1_t16_loop i).trips) (v56_0 : BitVec 32) (k1_hw28 : k1_chk28 i k1_t16 v56_0), ∀ a, (k1_off446 v56_0) a + S1x16.size a ≤ S256x256.size a := fun i k1_t16 v56_0 k1_hw28 => k1_hw28.2.2.1
theorem k1_off447_inb : ∀ (i : grid1.Coords) (k1_t16 : Fin (k1_t16_loop i).trips) (v56_0 : BitVec 32) (k1_hw28 : k1_chk28 i k1_t16 v56_0), ∀ a, (k1_off447 v56_0) a + S1x16.size a ≤ S256x256.size a := fun i k1_t16 v56_0 k1_hw28 => k1_hw28.2.2.2.1
theorem k1_off448_inb : ∀ (i : grid1.Coords) (k1_t16 : Fin (k1_t16_loop i).trips) (v56_0 : BitVec 32) (k1_hw28 : k1_chk28 i k1_t16 v56_0), ∀ a, (k1_off448 v56_0) a + S1x16.size a ≤ S256x256.size a := fun i k1_t16 v56_0 k1_hw28 => k1_hw28.2.2.2.2.1
theorem k1_off449_inb : ∀ (i : grid1.Coords) (k1_t16 : Fin (k1_t16_loop i).trips) (v56_0 : BitVec 32) (k1_hw28 : k1_chk28 i k1_t16 v56_0), ∀ a, (k1_off449 v56_0) a + S1x16.size a ≤ S256x256.size a := fun i k1_t16 v56_0 k1_hw28 => k1_hw28.2.2.2.2.2.1
theorem k1_off450_inb : ∀ (i : grid1.Coords) (k1_t16 : Fin (k1_t16_loop i).trips) (v56_0 : BitVec 32) (k1_hw28 : k1_chk28 i k1_t16 v56_0), ∀ a, (k1_off450 v56_0) a + S1x16.size a ≤ S256x256.size a := fun i k1_t16 v56_0 k1_hw28 => k1_hw28.2.2.2.2.2.2.1
theorem k1_off451_inb : ∀ (i : grid1.Coords) (k1_t16 : Fin (k1_t16_loop i).trips) (v56_0 : BitVec 32) (k1_hw28 : k1_chk28 i k1_t16 v56_0), ∀ a, (k1_off451 v56_0) a + S1x16.size a ≤ S256x256.size a := fun i k1_t16 v56_0 k1_hw28 => k1_hw28.2.2.2.2.2.2.2.1
theorem k1_off452_inb : ∀ (i : grid1.Coords) (k1_t16 : Fin (k1_t16_loop i).trips) (v56_0 : BitVec 32) (k1_hw28 : k1_chk28 i k1_t16 v56_0), ∀ a, (k1_off452 v56_0) a + S1x16.size a ≤ S256x256.size a := fun i k1_t16 v56_0 k1_hw28 => k1_hw28.2.2.2.2.2.2.2.2.1
theorem k1_off453_inb : ∀ (i : grid1.Coords) (k1_t16 : Fin (k1_t16_loop i).trips) (v56_0 : BitVec 32) (k1_hw28 : k1_chk28 i k1_t16 v56_0), ∀ a, (k1_off453 v56_0) a + S1x16.size a ≤ S256x256.size a := fun i k1_t16 v56_0 k1_hw28 => k1_hw28.2.2.2.2.2.2.2.2.2.1
theorem k1_off454_inb : ∀ (i : grid1.Coords) (k1_t16 : Fin (k1_t16_loop i).trips) (v56_0 : BitVec 32) (k1_hw28 : k1_chk28 i k1_t16 v56_0), ∀ a, (k1_off454 v56_0) a + S1x16.size a ≤ S256x256.size a := fun i k1_t16 v56_0 k1_hw28 => k1_hw28.2.2.2.2.2.2.2.2.2.2.1
theorem k1_off455_inb : ∀ (i : grid1.Coords) (k1_t16 : Fin (k1_t16_loop i).trips) (v56_0 : BitVec 32) (k1_hw28 : k1_chk28 i k1_t16 v56_0), ∀ a, (k1_off455 v56_0) a + S1x16.size a ≤ S256x256.size a := fun i k1_t16 v56_0 k1_hw28 => k1_hw28.2.2.2.2.2.2.2.2.2.2.2.1
theorem k1_off456_inb : ∀ (i : grid1.Coords) (k1_t16 : Fin (k1_t16_loop i).trips) (v56_0 : BitVec 32) (k1_hw28 : k1_chk28 i k1_t16 v56_0), ∀ a, (k1_off456 v56_0) a + S1x16.size a ≤ S256x256.size a := fun i k1_t16 v56_0 k1_hw28 => k1_hw28.2.2.2.2.2.2.2.2.2.2.2.2.1
theorem k1_off457_inb : ∀ (i : grid1.Coords) (k1_t16 : Fin (k1_t16_loop i).trips) (v56_0 : BitVec 32) (k1_hw28 : k1_chk28 i k1_t16 v56_0), ∀ a, (k1_off457 v56_0) a + S1x16.size a ≤ S256x256.size a := fun i k1_t16 v56_0 k1_hw28 => k1_hw28.2.2.2.2.2.2.2.2.2.2.2.2.2.1
theorem k1_off458_inb : ∀ (i : grid1.Coords) (k1_t16 : Fin (k1_t16_loop i).trips) (v56_0 : BitVec 32) (k1_hw28 : k1_chk28 i k1_t16 v56_0), ∀ a, (k1_off458 v56_0) a + S1x16.size a ≤ S256x256.size a := fun i k1_t16 v56_0 k1_hw28 => k1_hw28.2.2.2.2.2.2.2.2.2.2.2.2.2.2.1
theorem k1_off459_inb : ∀ (i : grid1.Coords) (k1_t16 : Fin (k1_t16_loop i).trips) (v56_0 : BitVec 32) (k1_hw28 : k1_chk28 i k1_t16 v56_0), ∀ a, (k1_off459 v56_0) a + S1x16.size a ≤ S256x256.size a := fun i k1_t16 v56_0 k1_hw28 => k1_hw28.2.2.2.2.2.2.2.2.2.2.2.2.2.2.2

@[reducible] def k1_t18_loop (i : grid1.Coords) : Scf.Loop 32 :=
  let c0_i32_21 : BitVec 32 := 0#32
  let arg1 : BitVec 32 := BitVec.ofNat 32 (i 1).val
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let v38 : BitVec 32 := Scalar.addi c0_i32_21 v37
  let c1_i32_24 : BitVec 32 := 1#32
  ⟨v41, v38, c1_i32_24⟩
def k1_off460 (i : grid1.Coords) (k1_t18 : Fin (k1_t18_loop i).trips) : Fin 2 → Nat :=
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg14 : BitVec 32 := Scf.iv v41 c1_i32_24 k1_t18
  let c8_i32 : BitVec 32 := 8#32
  let v44 : BitVec 32 := Scalar.muli arg14 c8_i32
  let v45 : BitVec 32 := Scalar.addi v43 v44
  let arg0 : BitVec 32 := BitVec.ofNat 32 (i 0).val
  let c256_i32 : BitVec 32 := 256#32
  let v5 : BitVec 32 := Scalar.muli arg0 c256_i32
  ![v45.toNat, v5.toNat]
def k1_off461 (i : grid1.Coords) (k1_t18 : Fin (k1_t18_loop i).trips) : Fin 1 → Nat :=
  let c0_i32_25 : BitVec 32 := 0#32
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg14 : BitVec 32 := Scf.iv v41 c1_i32_24 k1_t18
  let c8_i32 : BitVec 32 := 8#32
  let v44 : BitVec 32 := Scalar.muli arg14 c8_i32
  let v45 : BitVec 32 := Scalar.addi v43 v44
  let v46 : BitVec 32 := Scalar.addi c0_i32_25 v45
  ![v46.toNat]

def k1_chk29 (i : grid1.Coords) (k1_t18 : Fin (k1_t18_loop i).trips) (v47 : IVec S16 32) : Prop :=
  (∀ a x, ((![v47] : Fin 1 → IVec S16 32) a x).toNat < S128.size a)
theorem k1_idx15_inb : ∀ (i : grid1.Coords) (k1_t18 : Fin (k1_t18_loop i).trips) (v47 : IVec S16 32) (k1_hw29 : k1_chk29 i k1_t18 v47), ∀ a x, ((![v47] : Fin 1 → IVec S16 32) a x).toNat < S128.size a := fun i k1_t18 v47 k1_hw29 => k1_hw29
@[reducible] def k1_t19_loop : Scf.Loop 32 :=
  let c0_i32_27 : BitVec 32 := 0#32
  let c8_i32_28 : BitVec 32 := 8#32
  let v55 : BitVec 32 := Scalar.addi c0_i32_27 c8_i32_28
  let c1_i32_29 : BitVec 32 := 1#32
  ⟨c0_i32_27, v55, c1_i32_29⟩

def k1_chk30 (i : grid1.Coords) (k1_t18 : Fin (k1_t18_loop i).trips) (v137 : IVec S16 32) : Prop :=
  (∀ a x, ((![v137] : Fin 1 → IVec S16 32) a x).toNat < S128.size a)
theorem k1_idx16_inb : ∀ (i : grid1.Coords) (k1_t18 : Fin (k1_t18_loop i).trips) (v137 : IVec S16 32) (k1_hw30 : k1_chk30 i k1_t18 v137), ∀ a x, ((![v137] : Fin 1 → IVec S16 32) a x).toNat < S128.size a := fun i k1_t18 v137 k1_hw30 => k1_hw30
def k1_off462 (arg16 : BitVec 32) : Fin 2 → Nat :=
  let v197 : Index := Scalar.indexCast arg16
  let c0_66 : Index := 0#32
  ![v197.toNat, 0]
def k1_cond24 (arg16 : BitVec 32) (v144 : BitVec 32) : BitVec 1 :=
  let v145 : BitVec 1 := Scalar.cmpi .ne v144 arg16
  let v146 : BitVec 32 := Scalar.extui v145
  let c0_i32_49 : BitVec 32 := 0#32
  let v147 : BitVec 1 := Scalar.cmpi .ne v146 c0_i32_49
  v147

def k1_off463 (arg16 : BitVec 32) : Fin 2 → Nat :=
  let v202 : Index := Scalar.indexCast arg16
  let c16_68 : Index := 16#32
  ![v202.toNat, 16]
def k1_off464 (arg16 : BitVec 32) : Fin 2 → Nat :=
  let v207 : Index := Scalar.indexCast arg16
  let c32_70 : Index := 32#32
  ![v207.toNat, 32]
def k1_off465 (arg16 : BitVec 32) : Fin 2 → Nat :=
  let v212 : Index := Scalar.indexCast arg16
  let c48_72 : Index := 48#32
  ![v212.toNat, 48]
def k1_off466 (arg16 : BitVec 32) : Fin 2 → Nat :=
  let v217 : Index := Scalar.indexCast arg16
  let c64_74 : Index := 64#32
  ![v217.toNat, 64]
def k1_off467 (arg16 : BitVec 32) : Fin 2 → Nat :=
  let v222 : Index := Scalar.indexCast arg16
  let c80_76 : Index := 80#32
  ![v222.toNat, 80]
def k1_off468 (arg16 : BitVec 32) : Fin 2 → Nat :=
  let v227 : Index := Scalar.indexCast arg16
  let c96_78 : Index := 96#32
  ![v227.toNat, 96]
def k1_off469 (arg16 : BitVec 32) : Fin 2 → Nat :=
  let v232 : Index := Scalar.indexCast arg16
  let c112_80 : Index := 112#32
  ![v232.toNat, 112]
def k1_off470 (arg16 : BitVec 32) : Fin 2 → Nat :=
  let v237 : Index := Scalar.indexCast arg16
  let c128_82 : Index := 128#32
  ![v237.toNat, 128]
def k1_off471 (arg16 : BitVec 32) : Fin 2 → Nat :=
  let v242 : Index := Scalar.indexCast arg16
  let c144_84 : Index := 144#32
  ![v242.toNat, 144]
def k1_off472 (arg16 : BitVec 32) : Fin 2 → Nat :=
  let v247 : Index := Scalar.indexCast arg16
  let c160_86 : Index := 160#32
  ![v247.toNat, 160]
def k1_off473 (arg16 : BitVec 32) : Fin 2 → Nat :=
  let v252 : Index := Scalar.indexCast arg16
  let c176_88 : Index := 176#32
  ![v252.toNat, 176]
def k1_off474 (arg16 : BitVec 32) : Fin 2 → Nat :=
  let v257 : Index := Scalar.indexCast arg16
  let c192_90 : Index := 192#32
  ![v257.toNat, 192]
def k1_off475 (arg16 : BitVec 32) : Fin 2 → Nat :=
  let v262 : Index := Scalar.indexCast arg16
  let c208_92 : Index := 208#32
  ![v262.toNat, 208]
def k1_off476 (arg16 : BitVec 32) : Fin 2 → Nat :=
  let v267 : Index := Scalar.indexCast arg16
  let c224_94 : Index := 224#32
  ![v267.toNat, 224]
def k1_off477 (arg16 : BitVec 32) : Fin 2 → Nat :=
  let v272 : Index := Scalar.indexCast arg16
  let c240_96 : Index := 240#32
  ![v272.toNat, 240]

def k1_chk31 (i : grid1.Coords) (k1_t18 : Fin (k1_t18_loop i).trips) (arg16 : BitVec 32) (v144 : BitVec 32) : Prop :=
  (∀ (k1_h24 : k1_cond24 arg16 v144 = 1#1), ∀ a, (k1_off462 arg16) a + S1x16.size a ≤ S256x256.size a) ∧
  (∀ (k1_h24 : k1_cond24 arg16 v144 = 1#1), ∀ a, (k1_off463 arg16) a + S1x16.size a ≤ S256x256.size a) ∧
  (∀ (k1_h24 : k1_cond24 arg16 v144 = 1#1), ∀ a, (k1_off464 arg16) a + S1x16.size a ≤ S256x256.size a) ∧
  (∀ (k1_h24 : k1_cond24 arg16 v144 = 1#1), ∀ a, (k1_off465 arg16) a + S1x16.size a ≤ S256x256.size a) ∧
  (∀ (k1_h24 : k1_cond24 arg16 v144 = 1#1), ∀ a, (k1_off466 arg16) a + S1x16.size a ≤ S256x256.size a) ∧
  (∀ (k1_h24 : k1_cond24 arg16 v144 = 1#1), ∀ a, (k1_off467 arg16) a + S1x16.size a ≤ S256x256.size a) ∧
  (∀ (k1_h24 : k1_cond24 arg16 v144 = 1#1), ∀ a, (k1_off468 arg16) a + S1x16.size a ≤ S256x256.size a) ∧
  (∀ (k1_h24 : k1_cond24 arg16 v144 = 1#1), ∀ a, (k1_off469 arg16) a + S1x16.size a ≤ S256x256.size a) ∧
  (∀ (k1_h24 : k1_cond24 arg16 v144 = 1#1), ∀ a, (k1_off470 arg16) a + S1x16.size a ≤ S256x256.size a) ∧
  (∀ (k1_h24 : k1_cond24 arg16 v144 = 1#1), ∀ a, (k1_off471 arg16) a + S1x16.size a ≤ S256x256.size a) ∧
  (∀ (k1_h24 : k1_cond24 arg16 v144 = 1#1), ∀ a, (k1_off472 arg16) a + S1x16.size a ≤ S256x256.size a) ∧
  (∀ (k1_h24 : k1_cond24 arg16 v144 = 1#1), ∀ a, (k1_off473 arg16) a + S1x16.size a ≤ S256x256.size a) ∧
  (∀ (k1_h24 : k1_cond24 arg16 v144 = 1#1), ∀ a, (k1_off474 arg16) a + S1x16.size a ≤ S256x256.size a) ∧
  (∀ (k1_h24 : k1_cond24 arg16 v144 = 1#1), ∀ a, (k1_off475 arg16) a + S1x16.size a ≤ S256x256.size a) ∧
  (∀ (k1_h24 : k1_cond24 arg16 v144 = 1#1), ∀ a, (k1_off476 arg16) a + S1x16.size a ≤ S256x256.size a) ∧
  (∀ (k1_h24 : k1_cond24 arg16 v144 = 1#1), ∀ a, (k1_off477 arg16) a + S1x16.size a ≤ S256x256.size a)
theorem k1_off462_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off462 arg16) a + S1x16.size a ≤ S256x256.size a := fun i k1_t18 arg16 v144 k1_hw31 k1_h24 => k1_hw31.1 k1_h24
theorem k1_off463_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off463 arg16) a + S1x16.size a ≤ S256x256.size a := fun i k1_t18 arg16 v144 k1_hw31 k1_h24 => k1_hw31.2.1 k1_h24
theorem k1_off464_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off464 arg16) a + S1x16.size a ≤ S256x256.size a := fun i k1_t18 arg16 v144 k1_hw31 k1_h24 => k1_hw31.2.2.1 k1_h24
theorem k1_off465_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off465 arg16) a + S1x16.size a ≤ S256x256.size a := fun i k1_t18 arg16 v144 k1_hw31 k1_h24 => k1_hw31.2.2.2.1 k1_h24
theorem k1_off466_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off466 arg16) a + S1x16.size a ≤ S256x256.size a := fun i k1_t18 arg16 v144 k1_hw31 k1_h24 => k1_hw31.2.2.2.2.1 k1_h24
theorem k1_off467_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off467 arg16) a + S1x16.size a ≤ S256x256.size a := fun i k1_t18 arg16 v144 k1_hw31 k1_h24 => k1_hw31.2.2.2.2.2.1 k1_h24
theorem k1_off468_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off468 arg16) a + S1x16.size a ≤ S256x256.size a := fun i k1_t18 arg16 v144 k1_hw31 k1_h24 => k1_hw31.2.2.2.2.2.2.1 k1_h24
theorem k1_off469_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off469 arg16) a + S1x16.size a ≤ S256x256.size a := fun i k1_t18 arg16 v144 k1_hw31 k1_h24 => k1_hw31.2.2.2.2.2.2.2.1 k1_h24
theorem k1_off470_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off470 arg16) a + S1x16.size a ≤ S256x256.size a := fun i k1_t18 arg16 v144 k1_hw31 k1_h24 => k1_hw31.2.2.2.2.2.2.2.2.1 k1_h24
theorem k1_off471_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off471 arg16) a + S1x16.size a ≤ S256x256.size a := fun i k1_t18 arg16 v144 k1_hw31 k1_h24 => k1_hw31.2.2.2.2.2.2.2.2.2.1 k1_h24
theorem k1_off472_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off472 arg16) a + S1x16.size a ≤ S256x256.size a := fun i k1_t18 arg16 v144 k1_hw31 k1_h24 => k1_hw31.2.2.2.2.2.2.2.2.2.2.1 k1_h24
theorem k1_off473_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off473 arg16) a + S1x16.size a ≤ S256x256.size a := fun i k1_t18 arg16 v144 k1_hw31 k1_h24 => k1_hw31.2.2.2.2.2.2.2.2.2.2.2.1 k1_h24
theorem k1_off474_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off474 arg16) a + S1x16.size a ≤ S256x256.size a := fun i k1_t18 arg16 v144 k1_hw31 k1_h24 => k1_hw31.2.2.2.2.2.2.2.2.2.2.2.2.1 k1_h24
theorem k1_off475_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off475 arg16) a + S1x16.size a ≤ S256x256.size a := fun i k1_t18 arg16 v144 k1_hw31 k1_h24 => k1_hw31.2.2.2.2.2.2.2.2.2.2.2.2.2.1 k1_h24
theorem k1_off476_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off476 arg16) a + S1x16.size a ≤ S256x256.size a := fun i k1_t18 arg16 v144 k1_hw31 k1_h24 => k1_hw31.2.2.2.2.2.2.2.2.2.2.2.2.2.2.1 k1_h24
theorem k1_off477_inb : ∀ (i : grid1.Coords) (k1_t18 : Fin (k1_t18_loop i).trips) (arg16 : BitVec 32) (v144 : BitVec 32) (k1_hw31 : k1_chk31 i k1_t18 arg16 v144), ∀ (k1_h24 : k1_cond24 arg16 v144 = 1#1), ∀ a, (k1_off477 arg16) a + S1x16.size a ≤ S256x256.size a := fun i k1_t18 arg16 v144 k1_hw31 k1_h24 => k1_hw31.2.2.2.2.2.2.2.2.2.2.2.2.2.2.2 k1_h24

def k1_off478 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v149 : Index := Scalar.indexCast arg15
  let c0_50 : Index := 0#32
  ![v149.toNat, 0]
def k1_off479 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v152 : Index := Scalar.indexCast arg15
  let c16_51 : Index := 16#32
  ![v152.toNat, 16]
def k1_off480 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v155 : Index := Scalar.indexCast arg15
  let c32_52 : Index := 32#32
  ![v155.toNat, 32]
def k1_off481 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v158 : Index := Scalar.indexCast arg15
  let c48_53 : Index := 48#32
  ![v158.toNat, 48]
def k1_off482 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v161 : Index := Scalar.indexCast arg15
  let c64_54 : Index := 64#32
  ![v161.toNat, 64]
def k1_off483 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v164 : Index := Scalar.indexCast arg15
  let c80_55 : Index := 80#32
  ![v164.toNat, 80]
def k1_off484 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v167 : Index := Scalar.indexCast arg15
  let c96_56 : Index := 96#32
  ![v167.toNat, 96]
def k1_off485 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v170 : Index := Scalar.indexCast arg15
  let c112_57 : Index := 112#32
  ![v170.toNat, 112]
def k1_off486 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v173 : Index := Scalar.indexCast arg15
  let c128_58 : Index := 128#32
  ![v173.toNat, 128]
def k1_off487 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v176 : Index := Scalar.indexCast arg15
  let c144_59 : Index := 144#32
  ![v176.toNat, 144]
def k1_off488 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v179 : Index := Scalar.indexCast arg15
  let c160_60 : Index := 160#32
  ![v179.toNat, 160]
def k1_off489 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v182 : Index := Scalar.indexCast arg15
  let c176_61 : Index := 176#32
  ![v182.toNat, 176]
def k1_off490 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v185 : Index := Scalar.indexCast arg15
  let c192_62 : Index := 192#32
  ![v185.toNat, 192]
def k1_off491 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v188 : Index := Scalar.indexCast arg15
  let c208_63 : Index := 208#32
  ![v188.toNat, 208]
def k1_off492 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v191 : Index := Scalar.indexCast arg15
  let c224_64 : Index := 224#32
  ![v191.toNat, 224]
def k1_off493 (k1_t19 : Fin k1_t19_loop.trips) : Fin 2 → Nat :=
  let c0_i32_27 : BitVec 32 := 0#32
  let c1_i32_29 : BitVec 32 := 1#32
  let arg15 : BitVec 32 := Scf.iv c0_i32_27 c1_i32_29 k1_t19
  let v194 : Index := Scalar.indexCast arg15
  let c240_65 : Index := 240#32
  ![v194.toNat, 240]
def k1_off494 (v56_0 : BitVec 32) : Fin 2 → Nat :=
  let v57 : Index := Scalar.indexCast v56_0
  let c0 : Index := 0#32
  ![v57.toNat, 0]

def k1_off495 (v56_0 : BitVec 32) : Fin 2 → Nat :=
  let v62 : Index := Scalar.indexCast v56_0
  let c16 : Index := 16#32
  ![v62.toNat, 16]
def k1_off496 (v56_0 : BitVec 32) : Fin 2 → Nat :=
  let v67 : Index := Scalar.indexCast v56_0
  let c32 : Index := 32#32
  ![v67.toNat, 32]
def k1_off497 (v56_0 : BitVec 32) : Fin 2 → Nat :=
  let v72 : Index := Scalar.indexCast v56_0
  let c48 : Index := 48#32
  ![v72.toNat, 48]
def k1_off498 (v56_0 : BitVec 32) : Fin 2 → Nat :=
  let v77 : Index := Scalar.indexCast v56_0
  let c64 : Index := 64#32
  ![v77.toNat, 64]
def k1_off499 (v56_0 : BitVec 32) : Fin 2 → Nat :=
  let v82 : Index := Scalar.indexCast v56_0
  let c80 : Index := 80#32
  ![v82.toNat, 80]
def k1_off500 (v56_0 : BitVec 32) : Fin 2 → Nat :=
  let v87 : Index := Scalar.indexCast v56_0
  let c96 : Index := 96#32
  ![v87.toNat, 96]
def k1_off501 (v56_0 : BitVec 32) : Fin 2 → Nat :=
  let v92 : Index := Scalar.indexCast v56_0
  let c112 : Index := 112#32
  ![v92.toNat, 112]
def k1_off502 (v56_0 : BitVec 32) : Fin 2 → Nat :=
  let v97 : Index := Scalar.indexCast v56_0
  let c128 : Index := 128#32
  ![v97.toNat, 128]
def k1_off503 (v56_0 : BitVec 32) : Fin 2 → Nat :=
  let v102 : Index := Scalar.indexCast v56_0
  let c144 : Index := 144#32
  ![v102.toNat, 144]
def k1_off504 (v56_0 : BitVec 32) : Fin 2 → Nat :=
  let v107 : Index := Scalar.indexCast v56_0
  let c160 : Index := 160#32
  ![v107.toNat, 160]
def k1_off505 (v56_0 : BitVec 32) : Fin 2 → Nat :=
  let v112 : Index := Scalar.indexCast v56_0
  let c176 : Index := 176#32
  ![v112.toNat, 176]
def k1_off506 (v56_0 : BitVec 32) : Fin 2 → Nat :=
  let v117 : Index := Scalar.indexCast v56_0
  let c192 : Index := 192#32
  ![v117.toNat, 192]
def k1_off507 (v56_0 : BitVec 32) : Fin 2 → Nat :=
  let v122 : Index := Scalar.indexCast v56_0
  let c208 : Index := 208#32
  ![v122.toNat, 208]
def k1_off508 (v56_0 : BitVec 32) : Fin 2 → Nat :=
  let v127 : Index := Scalar.indexCast v56_0
  let c224 : Index := 224#32
  ![v127.toNat, 224]
def k1_off509 (v56_0 : BitVec 32) : Fin 2 → Nat :=
  let v132 : Index := Scalar.indexCast v56_0
  let c240 : Index := 240#32
  ![v132.toNat, 240]

def k1_chk32 (i : grid1.Coords) (k1_t18 : Fin (k1_t18_loop i).trips) (v56_0 : BitVec 32) : Prop :=
  (∀ a, (k1_off494 v56_0) a + S1x16.size a ≤ S256x256.size a) ∧
  (∀ a, (k1_off495 v56_0) a + S1x16.size a ≤ S256x256.size a) ∧
  (∀ a, (k1_off496 v56_0) a + S1x16.size a ≤ S256x256.size a) ∧
  (∀ a, (k1_off497 v56_0) a + S1x16.size a ≤ S256x256.size a) ∧
  (∀ a, (k1_off498 v56_0) a + S1x16.size a ≤ S256x256.size a) ∧
  (∀ a, (k1_off499 v56_0) a + S1x16.size a ≤ S256x256.size a) ∧
  (∀ a, (k1_off500 v56_0) a + S1x16.size a ≤ S256x256.size a) ∧
  (∀ a, (k1_off501 v56_0) a + S1x16.size a ≤ S256x256.size a) ∧
  (∀ a, (k1_off502 v56_0) a + S1x16.size a ≤ S256x256.size a) ∧
  (∀ a, (k1_off503 v56_0) a + S1x16.size a ≤ S256x256.size a) ∧
  (∀ a, (k1_off504 v56_0) a + S1x16.size a ≤ S256x256.size a) ∧
  (∀ a, (k1_off505 v56_0) a + S1x16.size a ≤ S256x256.size a) ∧
  (∀ a, (k1_off506 v56_0) a + S1x16.size a ≤ S256x256.size a) ∧
  (∀ a, (k1_off507 v56_0) a + S1x16.size a ≤ S256x256.size a) ∧
  (∀ a, (k1_off508 v56_0) a + S1x16.size a ≤ S256x256.size a) ∧
  (∀ a, (k1_off509 v56_0) a + S1x16.size a ≤ S256x256.size a)
theorem k1_off494_inb : ∀ (i : grid1.Coords) (k1_t18 : Fin (k1_t18_loop i).trips) (v56_0 : BitVec 32) (k1_hw32 : k1_chk32 i k1_t18 v56_0), ∀ a, (k1_off494 v56_0) a + S1x16.size a ≤ S256x256.size a := fun i k1_t18 v56_0 k1_hw32 => k1_hw32.1
theorem k1_off495_inb : ∀ (i : grid1.Coords) (k1_t18 : Fin (k1_t18_loop i).trips) (v56_0 : BitVec 32) (k1_hw32 : k1_chk32 i k1_t18 v56_0), ∀ a, (k1_off495 v56_0) a + S1x16.size a ≤ S256x256.size a := fun i k1_t18 v56_0 k1_hw32 => k1_hw32.2.1
theorem k1_off496_inb : ∀ (i : grid1.Coords) (k1_t18 : Fin (k1_t18_loop i).trips) (v56_0 : BitVec 32) (k1_hw32 : k1_chk32 i k1_t18 v56_0), ∀ a, (k1_off496 v56_0) a + S1x16.size a ≤ S256x256.size a := fun i k1_t18 v56_0 k1_hw32 => k1_hw32.2.2.1
theorem k1_off497_inb : ∀ (i : grid1.Coords) (k1_t18 : Fin (k1_t18_loop i).trips) (v56_0 : BitVec 32) (k1_hw32 : k1_chk32 i k1_t18 v56_0), ∀ a, (k1_off497 v56_0) a + S1x16.size a ≤ S256x256.size a := fun i k1_t18 v56_0 k1_hw32 => k1_hw32.2.2.2.1
theorem k1_off498_inb : ∀ (i : grid1.Coords) (k1_t18 : Fin (k1_t18_loop i).trips) (v56_0 : BitVec 32) (k1_hw32 : k1_chk32 i k1_t18 v56_0), ∀ a, (k1_off498 v56_0) a + S1x16.size a ≤ S256x256.size a := fun i k1_t18 v56_0 k1_hw32 => k1_hw32.2.2.2.2.1
theorem k1_off499_inb : ∀ (i : grid1.Coords) (k1_t18 : Fin (k1_t18_loop i).trips) (v56_0 : BitVec 32) (k1_hw32 : k1_chk32 i k1_t18 v56_0), ∀ a, (k1_off499 v56_0) a + S1x16.size a ≤ S256x256.size a := fun i k1_t18 v56_0 k1_hw32 => k1_hw32.2.2.2.2.2.1
theorem k1_off500_inb : ∀ (i : grid1.Coords) (k1_t18 : Fin (k1_t18_loop i).trips) (v56_0 : BitVec 32) (k1_hw32 : k1_chk32 i k1_t18 v56_0), ∀ a, (k1_off500 v56_0) a + S1x16.size a ≤ S256x256.size a := fun i k1_t18 v56_0 k1_hw32 => k1_hw32.2.2.2.2.2.2.1
theorem k1_off501_inb : ∀ (i : grid1.Coords) (k1_t18 : Fin (k1_t18_loop i).trips) (v56_0 : BitVec 32) (k1_hw32 : k1_chk32 i k1_t18 v56_0), ∀ a, (k1_off501 v56_0) a + S1x16.size a ≤ S256x256.size a := fun i k1_t18 v56_0 k1_hw32 => k1_hw32.2.2.2.2.2.2.2.1
theorem k1_off502_inb : ∀ (i : grid1.Coords) (k1_t18 : Fin (k1_t18_loop i).trips) (v56_0 : BitVec 32) (k1_hw32 : k1_chk32 i k1_t18 v56_0), ∀ a, (k1_off502 v56_0) a + S1x16.size a ≤ S256x256.size a := fun i k1_t18 v56_0 k1_hw32 => k1_hw32.2.2.2.2.2.2.2.2.1
theorem k1_off503_inb : ∀ (i : grid1.Coords) (k1_t18 : Fin (k1_t18_loop i).trips) (v56_0 : BitVec 32) (k1_hw32 : k1_chk32 i k1_t18 v56_0), ∀ a, (k1_off503 v56_0) a + S1x16.size a ≤ S256x256.size a := fun i k1_t18 v56_0 k1_hw32 => k1_hw32.2.2.2.2.2.2.2.2.2.1
theorem k1_off504_inb : ∀ (i : grid1.Coords) (k1_t18 : Fin (k1_t18_loop i).trips) (v56_0 : BitVec 32) (k1_hw32 : k1_chk32 i k1_t18 v56_0), ∀ a, (k1_off504 v56_0) a + S1x16.size a ≤ S256x256.size a := fun i k1_t18 v56_0 k1_hw32 => k1_hw32.2.2.2.2.2.2.2.2.2.2.1
theorem k1_off505_inb : ∀ (i : grid1.Coords) (k1_t18 : Fin (k1_t18_loop i).trips) (v56_0 : BitVec 32) (k1_hw32 : k1_chk32 i k1_t18 v56_0), ∀ a, (k1_off505 v56_0) a + S1x16.size a ≤ S256x256.size a := fun i k1_t18 v56_0 k1_hw32 => k1_hw32.2.2.2.2.2.2.2.2.2.2.2.1
theorem k1_off506_inb : ∀ (i : grid1.Coords) (k1_t18 : Fin (k1_t18_loop i).trips) (v56_0 : BitVec 32) (k1_hw32 : k1_chk32 i k1_t18 v56_0), ∀ a, (k1_off506 v56_0) a + S1x16.size a ≤ S256x256.size a := fun i k1_t18 v56_0 k1_hw32 => k1_hw32.2.2.2.2.2.2.2.2.2.2.2.2.1
theorem k1_off507_inb : ∀ (i : grid1.Coords) (k1_t18 : Fin (k1_t18_loop i).trips) (v56_0 : BitVec 32) (k1_hw32 : k1_chk32 i k1_t18 v56_0), ∀ a, (k1_off507 v56_0) a + S1x16.size a ≤ S256x256.size a := fun i k1_t18 v56_0 k1_hw32 => k1_hw32.2.2.2.2.2.2.2.2.2.2.2.2.2.1
theorem k1_off508_inb : ∀ (i : grid1.Coords) (k1_t18 : Fin (k1_t18_loop i).trips) (v56_0 : BitVec 32) (k1_hw32 : k1_chk32 i k1_t18 v56_0), ∀ a, (k1_off508 v56_0) a + S1x16.size a ≤ S256x256.size a := fun i k1_t18 v56_0 k1_hw32 => k1_hw32.2.2.2.2.2.2.2.2.2.2.2.2.2.2.1
theorem k1_off509_inb : ∀ (i : grid1.Coords) (k1_t18 : Fin (k1_t18_loop i).trips) (v56_0 : BitVec 32) (k1_hw32 : k1_chk32 i k1_t18 v56_0), ∀ a, (k1_off509 v56_0) a + S1x16.size a ≤ S256x256.size a := fun i k1_t18 v56_0 k1_hw32 => k1_hw32.2.2.2.2.2.2.2.2.2.2.2.2.2.2.2

def k1_off510 (i : grid1.Coords) : Fin 3 → Nat :=
  let arg1 : BitVec 32 := BitVec.ofNat 32 (i 1).val
  let c0_i32_25_r4 : BitVec 32 := 0#32
  let arg0 : BitVec 32 := BitVec.ofNat 32 (i 0).val
  let c256_i32 : BitVec 32 := 256#32
  let v5 : BitVec 32 := Scalar.muli arg0 c256_i32
  ![arg1.toNat, 0, v5.toNat]
abbrev grid2 : Pipeline.Grid := ⟨1, ![25], ![false]⟩

def cc2_transform_0 (i : grid2.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc2_transform_1 (i : grid2.Coords) : Fin 3 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨2, ![2, 16], ![false, false]⟩

@[reducible] def k3_t1_loop : Scf.Loop 32 :=
  let c0_i32_2 : BitVec 32 := 0#32
  let c4096_i32 : BitVec 32 := 4096#32
  let v6 : BitVec 32 := Scalar.addi c0_i32_2 c4096_i32
  let c1_i32 : BitVec 32 := 1#32
  ⟨c0_i32_2, v6, c1_i32⟩
def k3_off1 (k3_t1 : Fin k3_t1_loop.trips) : Fin 2 → Nat :=
  let c0_i32_2 : BitVec 32 := 0#32
  let c1_i32 : BitVec 32 := 1#32
  let arg14 : BitVec 32 := Scf.iv c0_i32_2 c1_i32 k3_t1
  let c0_i32_26 : BitVec 32 := 0#32
  let v44 : BitVec 1 := Scalar.cmpi .sgt arg14 c0_i32_26
  let v45 : BitVec 32 := Scalar.extui v44
  let c0_i32_27 : BitVec 32 := 0#32
  let v46 : BitVec 1 := Scalar.cmpi .slt arg14 c0_i32_27
  let v47 : BitVec 32 := Scalar.extui v46
  let v48 : BitVec 32 := Scalar.subi v45 v47
  let c16_i32 : BitVec 32 := 16#32
  let c0_i32_28 : BitVec 32 := 0#32
  let v49 : BitVec 1 := Scalar.cmpi .sgt c16_i32 c0_i32_28
  let v50 : BitVec 32 := Scalar.extui v49
  let c0_i32_29 : BitVec 32 := 0#32
  let v51 : BitVec 1 := Scalar.cmpi .slt c16_i32 c0_i32_29
  let v52 : BitVec 32 := Scalar.extui v51
  let v53 : BitVec 32 := Scalar.subi v50 v52
  let v54 : BitVec 1 := Scalar.cmpi .ne v48 v53
  let v55 : BitVec 32 := Scalar.remsi arg14 c16_i32
  let c0_i32_30 : BitVec 32 := 0#32
  let v56 : BitVec 1 := Scalar.cmpi .ne v55 c0_i32_30
  let v57 : BitVec 1 := Scalar.andi v54 v56
  let v43 : BitVec 32 := Scalar.divsi arg14 c16_i32
  let c1_i32_31 : BitVec 32 := 1#32
  let v58 : BitVec 32 := Scalar.subi v43 c1_i32_31
  let v59 : BitVec 32 := Scalar.select v57 v58 v43
  let v71 : Index := Scalar.indexCast v59
  let c16_i32_32 : BitVec 32 := 16#32
  let c0_i32_33 : BitVec 32 := 0#32
  let v60 : BitVec 1 := Scalar.cmpi .eq c16_i32_32 c0_i32_33
  let c1_i32_34 : BitVec 32 := 1#32
  let v61 : BitVec 32 := Scalar.select v60 c1_i32_34 c16_i32_32
  let v62 : BitVec 32 := Scalar.remsi arg14 v61
  let c0_i32_36 : BitVec 32 := 0#32
  let v64 : BitVec 1 := Scalar.cmpi .slt v62 c0_i32_36
  let c0_i32_37 : BitVec 32 := 0#32
  let v65 : BitVec 1 := Scalar.cmpi .slt v61 c0_i32_37
  let v66 : BitVec 1 := Scalar.xori v64 v65
  let c0_i32_35 : BitVec 32 := 0#32
  let v63 : BitVec 1 := Scalar.cmpi .ne v62 c0_i32_35
  let v67 : BitVec 1 := Scalar.andi v66 v63
  let v68 : BitVec 32 := Scalar.addi v62 v61
  let v69 : BitVec 32 := Scalar.select v67 v68 v62
  let c16_i32_38 : BitVec 32 := 16#32
  let v70 : BitVec 32 := Scalar.muli v69 c16_i32_38
  let v72 : Index := Scalar.indexCast v70
  ![v71.toNat, v72.toNat]
def k3_cond1 (i : grid3.Coords) : BitVec 1 :=
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c0_i32_4 : BitVec 32 := 0#32
  let v8 : BitVec 1 := Scalar.cmpi .sgt v2 c0_i32_4
  let v9 : BitVec 32 := Scalar.extui v8
  let c0_i32_5 : BitVec 32 := 0#32
  let v10 : BitVec 1 := Scalar.cmpi .ne v9 c0_i32_5
  v10

def k3_off2 (i : grid3.Coords) : Fin 2 → Nat :=
  let arg1 : BitVec 32 := BitVec.ofNat 32 (i 1).val
  let c3136_i32 : BitVec 32 := 3136#32
  let v0 : BitVec 32 := Scalar.muli arg1 c3136_i32
  let c0_i32_25 : BitVec 32 := 0#32
  let v42 : BitVec 32 := Scalar.addi v0 c0_i32_25
  let arg0 : BitVec 32 := BitVec.ofNat 32 (i 0).val
  let c256_i32 : BitVec 32 := 256#32
  let v5 : BitVec 32 := Scalar.muli arg0 c256_i32
  ![v42.toNat, v5.toNat]
def k3_off3 (i : grid3.Coords) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c0_i32_25 : BitVec 32 := 0#32
  let v42 : BitVec 32 := Scalar.addi v0 c0_i32_25
  let v45 : BitVec 32 := Scalar.addi c50000_i32 v42
  ![v45.toNat]
def k3_cond2 (i : grid3.Coords) : BitVec 1 :=
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_6 : BitVec 32 := 1#32
  let v11 : BitVec 1 := Scalar.cmpi .sgt v2 c1_i32_6
  let v12 : BitVec 32 := Scalar.extui v11
  let c0_i32_7 : BitVec 32 := 0#32
  let v13 : BitVec 1 := Scalar.cmpi .ne v12 c0_i32_7
  v13

def k3_off4 (i : grid3.Coords) : Fin 2 → Nat :=
  let arg1 : BitVec 32 := BitVec.ofNat 32 (i 1).val
  let c3136_i32 : BitVec 32 := 3136#32
  let v0 : BitVec 32 := Scalar.muli arg1 c3136_i32
  let c112_i32 : BitVec 32 := 112#32
  let v42 : BitVec 32 := Scalar.addi v0 c112_i32
  let arg0 : BitVec 32 := BitVec.ofNat 32 (i 0).val
  let c256_i32 : BitVec 32 := 256#32
  let v5 : BitVec 32 := Scalar.muli arg0 c256_i32
  ![v42.toNat, v5.toNat]
def k3_off5 (i : grid3.Coords) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c112_i32 : BitVec 32 := 112#32
  let v42 : BitVec 32 := Scalar.addi v0 c112_i32
  let v45 : BitVec 32 := Scalar.addi c50000_i32 v42
  ![v45.toNat]
@[reducible] def k3_t2_loop (i : grid3.Coords) : Scf.Loop 32 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_18 : BitVec 32 := 1#32
  ⟨c0_i32_16, v36, c1_i32_18⟩
def k3_cond3 (i : grid3.Coords) (k3_t2 : Fin (k3_t2_loop i).trips) : BitVec 1 :=
  let c0_i32_16 : BitVec 32 := 0#32
  let c1_i32_18 : BitVec 32 := 1#32
  let arg14 : BitVec 32 := Scf.iv c0_i32_16 c1_i32_18 k3_t2
  let c2_i32_25 : BitVec 32 := 2#32
  let v42 : BitVec 32 := Scalar.muli arg14 c2_i32_25
  let c0_i32_26 : BitVec 32 := 0#32
  let v43 : BitVec 32 := Scalar.addi v42 c0_i32_26
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v44 : BitVec 1 := Scalar.cmpi .slt v43 v2
  let v45 : BitVec 32 := Scalar.extui v44
  let c0_i32_27 : BitVec 32 := 0#32
  let v46 : BitVec 1 := Scalar.cmpi .ne v45 c0_i32_27
  v46

def k3_off6 (i : grid3.Coords) (k3_t2 : Fin (k3_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k3_off7 (i : grid3.Coords) (k3_t2 : Fin (k3_t2_loop i).trips) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let v56 : BitVec 32 := Scalar.addi c50000_i32 v53
  ![v56.toNat]

def k3_chk1 (i : grid3.Coords) (k3_t2 : Fin (k3_t2_loop i).trips) (v61 : IVec S16 32) : Prop :=
  (∀ (k3_h3 : k3_cond3 i k3_t2 = 1#1), ∀ a x, ((![v61] : Fin 1 → IVec S16 32) a x).toNat < S128.size a)
theorem k3_idx1_inb : ∀ (i : grid3.Coords) (k3_t2 : Fin (k3_t2_loop i).trips) (v61 : IVec S16 32) (k3_hw1 : k3_chk1 i k3_t2 v61), ∀ (k3_h3 : k3_cond3 i k3_t2 = 1#1), ∀ a x, ((![v61] : Fin 1 → IVec S16 32) a x).toNat < S128.size a := fun i k3_t2 v61 k3_hw1 k3_h3 => k3_hw1 k3_h3
@[reducible] def k3_t3_loop : Scf.Loop 32 :=
  let c0_i32_34 : BitVec 32 := 0#32
  let c7_i32 : BitVec 32 := 7#32
  let v69 : BitVec 32 := Scalar.addi c0_i32_34 c7_i32
  let c1_i32_35 : BitVec 32 := 1#32
  ⟨c0_i32_34, v69, c1_i32_35⟩
def k3_off8 (k3_t3 : Fin k3_t3_loop.trips) : Fin 1 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v156 : Index := Scalar.indexCast v155
  ![v156.toNat]
def k3_off9 (k3_t3 : Fin k3_t3_loop.trips) (c0_i32_60 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v176 : BitVec 32 := Scalar.addi v155 c0_i32_60
  let v177 : Index := Scalar.indexCast v176
  let c0_61 : Index := 0#32
  ![v177.toNat, 0]
def k3_off10 (k3_t3 : Fin k3_t3_loop.trips) (c0_i32_62 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v180 : BitVec 32 := Scalar.addi v155 c0_i32_62
  let v181 : Index := Scalar.indexCast v180
  let c16_63 : Index := 16#32
  ![v181.toNat, 16]
def k3_off11 (k3_t3 : Fin k3_t3_loop.trips) (c0_i32_64 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v184 : BitVec 32 := Scalar.addi v155 c0_i32_64
  let v185 : Index := Scalar.indexCast v184
  let c32_65 : Index := 32#32
  ![v185.toNat, 32]
def k3_off12 (k3_t3 : Fin k3_t3_loop.trips) (c0_i32_66 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v188 : BitVec 32 := Scalar.addi v155 c0_i32_66
  let v189 : Index := Scalar.indexCast v188
  let c48_67 : Index := 48#32
  ![v189.toNat, 48]
def k3_off13 (k3_t3 : Fin k3_t3_loop.trips) (c0_i32_68 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v192 : BitVec 32 := Scalar.addi v155 c0_i32_68
  let v193 : Index := Scalar.indexCast v192
  let c64_69 : Index := 64#32
  ![v193.toNat, 64]
def k3_off14 (k3_t3 : Fin k3_t3_loop.trips) (c0_i32_70 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v196 : BitVec 32 := Scalar.addi v155 c0_i32_70
  let v197 : Index := Scalar.indexCast v196
  let c80_71 : Index := 80#32
  ![v197.toNat, 80]
def k3_off15 (k3_t3 : Fin k3_t3_loop.trips) (c0_i32_72 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v200 : BitVec 32 := Scalar.addi v155 c0_i32_72
  let v201 : Index := Scalar.indexCast v200
  let c96_73 : Index := 96#32
  ![v201.toNat, 96]
def k3_off16 (k3_t3 : Fin k3_t3_loop.trips) (c0_i32_74 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v204 : BitVec 32 := Scalar.addi v155 c0_i32_74
  let v205 : Index := Scalar.indexCast v204
  let c112_75 : Index := 112#32
  ![v205.toNat, 112]
def k3_off17 (k3_t3 : Fin k3_t3_loop.trips) (c0_i32_76 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v208 : BitVec 32 := Scalar.addi v155 c0_i32_76
  let v209 : Index := Scalar.indexCast v208
  let c128_77 : Index := 128#32
  ![v209.toNat, 128]
def k3_off18 (k3_t3 : Fin k3_t3_loop.trips) (c0_i32_78 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v212 : BitVec 32 := Scalar.addi v155 c0_i32_78
  let v213 : Index := Scalar.indexCast v212
  let c144_79 : Index := 144#32
  ![v213.toNat, 144]
def k3_off19 (k3_t3 : Fin k3_t3_loop.trips) (c0_i32_80 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v216 : BitVec 32 := Scalar.addi v155 c0_i32_80
  let v217 : Index := Scalar.indexCast v216
  let c160_81 : Index := 160#32
  ![v217.toNat, 160]
def k3_off20 (k3_t3 : Fin k3_t3_loop.trips) (c0_i32_82 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v220 : BitVec 32 := Scalar.addi v155 c0_i32_82
  let v221 : Index := Scalar.indexCast v220
  let c176_83 : Index := 176#32
  ![v221.toNat, 176]
def k3_off21 (k3_t3 : Fin k3_t3_loop.trips) (c0_i32_84 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v224 : BitVec 32 := Scalar.addi v155 c0_i32_84
  let v225 : Index := Scalar.indexCast v224
  let c192_85 : Index := 192#32
  ![v225.toNat, 192]
def k3_off22 (k3_t3 : Fin k3_t3_loop.trips) (c0_i32_86 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v228 : BitVec 32 := Scalar.addi v155 c0_i32_86
  let v229 : Index := Scalar.indexCast v228
  let c208_87 : Index := 208#32
  ![v229.toNat, 208]
def k3_off23 (k3_t3 : Fin k3_t3_loop.trips) (c0_i32_88 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v232 : BitVec 32 := Scalar.addi v155 c0_i32_88
  let v233 : Index := Scalar.indexCast v232
  let c224_89 : Index := 224#32
  ![v233.toNat, 224]
def k3_off24 (k3_t3 : Fin k3_t3_loop.trips) (c0_i32_90 : BitVec 32) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let v236 : BitVec 32 := Scalar.addi v155 c0_i32_90
  let v237 : Index := Scalar.indexCast v236
  let c240_91 : Index := 240#32
  ![v237.toNat, 240]
@[reducible] def k3_t4_loop (k3_t3 : Fin k3_t3_loop.trips) : Scf.Loop 32 :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_62 : BitVec 32 := 1#32
  ⟨v155, v181, c1_i32_62⟩
def k3_cond4 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_59 : BitVec 32 := 0#32
  let v174 : BitVec 1 := Scalar.cmpi .ne v173 c0_i32_59
  v174

def k3_chk2 (i : grid3.Coords) (k3_t2 : Fin (k3_t2_loop i).trips) (arg16 : BitVec 32) (v163 : BitVec 32) (v170 : BitVec 32) (v184 : IVec S16 32) : Prop :=
  (∀ (k3_h3 : k3_cond3 i k3_t2 = 1#1), ∀ (k3_h4 : ¬(k3_cond4 arg16 v163 v170 = 1#1)), ∀ a x, ((![v184] : Fin 1 → IVec S16 32) a x).toNat < S128.size a)
theorem k3_idx2_inb : ∀ (i : grid3.Coords) (k3_t2 : Fin (k3_t2_loop i).trips) (arg16 : BitVec 32) (v163 : BitVec 32) (v170 : BitVec 32) (v184 : IVec S16 32) (k3_hw2 : k3_chk2 i k3_t2 arg16 v163 v170 v184), ∀ (k3_h3 : k3_cond3 i k3_t2 = 1#1), ∀ (k3_h4 : ¬(k3_cond4 arg16 v163 v170 = 1#1)), ∀ a x, ((![v184] : Fin 1 → IVec S16 32) a x).toNat < S128.size a := fun i k3_t2 arg16 v163 v170 v184 k3_hw2 k3_h3 k3_h4 => k3_hw2 k3_h3 k3_h4
def k3_off25 (arg34 : BitVec 32) : Fin 2 → Nat :=
  let v244 : Index := Scalar.indexCast arg34
  let c0_83 : Index := 0#32
  ![v244.toNat, 0]
def k3_cond5 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off26 (arg34 : BitVec 32) : Fin 2 → Nat :=
  let v249 : Index := Scalar.indexCast arg34
  let c16_85 : Index := 16#32
  ![v249.toNat, 16]
def k3_off27 (arg34 : BitVec 32) : Fin 2 → Nat :=
  let v254 : Index := Scalar.indexCast arg34
  let c32_87 : Index := 32#32
  ![v254.toNat, 32]
def k3_off28 (arg34 : BitVec 32) : Fin 2 → Nat :=
  let v259 : Index := Scalar.indexCast arg34
  let c48_89 : Index := 48#32
  ![v259.toNat, 48]
def k3_off29 (arg34 : BitVec 32) : Fin 2 → Nat :=
  let v264 : Index := Scalar.indexCast arg34
  let c64_91 : Index := 64#32
  ![v264.toNat, 64]
def k3_off30 (arg34 : BitVec 32) : Fin 2 → Nat :=
  let v269 : Index := Scalar.indexCast arg34
  let c80_93 : Index := 80#32
  ![v269.toNat, 80]
def k3_off31 (arg34 : BitVec 32) : Fin 2 → Nat :=
  let v274 : Index := Scalar.indexCast arg34
  let c96_95 : Index := 96#32
  ![v274.toNat, 96]
def k3_off32 (arg34 : BitVec 32) : Fin 2 → Nat :=
  let v279 : Index := Scalar.indexCast arg34
  let c112_97 : Index := 112#32
  ![v279.toNat, 112]
def k3_off33 (arg34 : BitVec 32) : Fin 2 → Nat :=
  let v284 : Index := Scalar.indexCast arg34
  let c128_99 : Index := 128#32
  ![v284.toNat, 128]
def k3_off34 (arg34 : BitVec 32) : Fin 2 → Nat :=
  let v289 : Index := Scalar.indexCast arg34
  let c144_101 : Index := 144#32
  ![v289.toNat, 144]
def k3_off35 (arg34 : BitVec 32) : Fin 2 → Nat :=
  let v294 : Index := Scalar.indexCast arg34
  let c160_103 : Index := 160#32
  ![v294.toNat, 160]
def k3_off36 (arg34 : BitVec 32) : Fin 2 → Nat :=
  let v299 : Index := Scalar.indexCast arg34
  let c176_105 : Index := 176#32
  ![v299.toNat, 176]
def k3_off37 (arg34 : BitVec 32) : Fin 2 → Nat :=
  let v304 : Index := Scalar.indexCast arg34
  let c192_107 : Index := 192#32
  ![v304.toNat, 192]
def k3_off38 (arg34 : BitVec 32) : Fin 2 → Nat :=
  let v309 : Index := Scalar.indexCast arg34
  let c208_109 : Index := 208#32
  ![v309.toNat, 208]
def k3_off39 (arg34 : BitVec 32) : Fin 2 → Nat :=
  let v314 : Index := Scalar.indexCast arg34
  let c224_111 : Index := 224#32
  ![v314.toNat, 224]
def k3_off40 (arg34 : BitVec 32) : Fin 2 → Nat :=
  let v319 : Index := Scalar.indexCast arg34
  let c240_113 : Index := 240#32
  ![v319.toNat, 240]

def k3_chk3 (i : grid3.Coords) (k3_t2 : Fin (k3_t2_loop i).trips) (arg16 : BitVec 32) (v163 : BitVec 32) (v170 : BitVec 32) (arg34 : BitVec 32) (v191 : BitVec 32) : Prop :=
  (∀ (k3_h3 : k3_cond3 i k3_t2 = 1#1), ∀ (k3_h4 : ¬(k3_cond4 arg16 v163 v170 = 1#1)), ∀ (k3_h5 : k3_cond5 arg34 v191 = 1#1), ∀ a, (k3_off25 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off26 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off27 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off28 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off29 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off30 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off31 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off32 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off33 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off34 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off35 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off36 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off37 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off38 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off39 arg34) a + S1x16.size a ≤ S256x256.size a) ∧
  (∀ (k3_h3 : k3_cond3 i k3_t2 = 1#1), ∀ (k3_h4 : ¬(k3_cond4 arg16 v163 v170 = 1#1)), ∀ (k3_h5 : k3_cond5 arg34 v191 = 1#1), ∀ a, (k3_off40 arg34) a + S1x16.size a ≤ S256x256.size a)
theorem k3_off25_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off25 arg34) a + S1x16.size a ≤ S256x256.size a := fun i k3_t2 arg16 v163 v170 arg34 v191 k3_hw3 k3_h3 k3_h4 k3_h5 => k3_hw3.1 k3_h3 k3_h4 k3_h5
theorem k3_off26_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off26 arg34) a + S1x16.size a ≤ S256x256.size a := fun i k3_t2 arg16 v163 v170 arg34 v191 k3_hw3 k3_h3 k3_h4 k3_h5 => k3_hw3.2.1 k3_h3 k3_h4 k3_h5
theorem k3_off27_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off27 arg34) a + S1x16.size a ≤ S256x256.size a := fun i k3_t2 arg16 v163 v170 arg34 v191 k3_hw3 k3_h3 k3_h4 k3_h5 => k3_hw3.2.2.1 k3_h3 k3_h4 k3_h5
theorem k3_off28_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off28 arg34) a + S1x16.size a ≤ S256x256.size a := fun i k3_t2 arg16 v163 v170 arg34 v191 k3_hw3 k3_h3 k3_h4 k3_h5 => k3_hw3.2.2.2.1 k3_h3 k3_h4 k3_h5
theorem k3_off29_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off29 arg34) a + S1x16.size a ≤ S256x256.size a := fun i k3_t2 arg16 v163 v170 arg34 v191 k3_hw3 k3_h3 k3_h4 k3_h5 => k3_hw3.2.2.2.2.1 k3_h3 k3_h4 k3_h5
theorem k3_off30_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off30 arg34) a + S1x16.size a ≤ S256x256.size a := fun i k3_t2 arg16 v163 v170 arg34 v191 k3_hw3 k3_h3 k3_h4 k3_h5 => k3_hw3.2.2.2.2.2.1 k3_h3 k3_h4 k3_h5
theorem k3_off31_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off31 arg34) a + S1x16.size a ≤ S256x256.size a := fun i k3_t2 arg16 v163 v170 arg34 v191 k3_hw3 k3_h3 k3_h4 k3_h5 => k3_hw3.2.2.2.2.2.2.1 k3_h3 k3_h4 k3_h5
theorem k3_off32_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off32 arg34) a + S1x16.size a ≤ S256x256.size a := fun i k3_t2 arg16 v163 v170 arg34 v191 k3_hw3 k3_h3 k3_h4 k3_h5 => k3_hw3.2.2.2.2.2.2.2.1 k3_h3 k3_h4 k3_h5
theorem k3_off33_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off33 arg34) a + S1x16.size a ≤ S256x256.size a := fun i k3_t2 arg16 v163 v170 arg34 v191 k3_hw3 k3_h3 k3_h4 k3_h5 => k3_hw3.2.2.2.2.2.2.2.2.1 k3_h3 k3_h4 k3_h5
theorem k3_off34_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off34 arg34) a + S1x16.size a ≤ S256x256.size a := fun i k3_t2 arg16 v163 v170 arg34 v191 k3_hw3 k3_h3 k3_h4 k3_h5 => k3_hw3.2.2.2.2.2.2.2.2.2.1 k3_h3 k3_h4 k3_h5
theorem k3_off35_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off35 arg34) a + S1x16.size a ≤ S256x256.size a := fun i k3_t2 arg16 v163 v170 arg34 v191 k3_hw3 k3_h3 k3_h4 k3_h5 => k3_hw3.2.2.2.2.2.2.2.2.2.2.1 k3_h3 k3_h4 k3_h5
theorem k3_off36_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off36 arg34) a + S1x16.size a ≤ S256x256.size a := fun i k3_t2 arg16 v163 v170 arg34 v191 k3_hw3 k3_h3 k3_h4 k3_h5 => k3_hw3.2.2.2.2.2.2.2.2.2.2.2.1 k3_h3 k3_h4 k3_h5
theorem k3_off37_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off37 arg34) a + S1x16.size a ≤ S256x256.size a := fun i k3_t2 arg16 v163 v170 arg34 v191 k3_hw3 k3_h3 k3_h4 k3_h5 => k3_hw3.2.2.2.2.2.2.2.2.2.2.2.2.1 k3_h3 k3_h4 k3_h5
theorem k3_off38_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off38 arg34) a + S1x16.size a ≤ S256x256.size a := fun i k3_t2 arg16 v163 v170 arg34 v191 k3_hw3 k3_h3 k3_h4 k3_h5 => k3_hw3.2.2.2.2.2.2.2.2.2.2.2.2.2.1 k3_h3 k3_h4 k3_h5
theorem k3_off39_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off39 arg34) a + S1x16.size a ≤ S256x256.size a := fun i k3_t2 arg16 v163 v170 arg34 v191 k3_hw3 k3_h3 k3_h4 k3_h5 => k3_hw3.2.2.2.2.2.2.2.2.2.2.2.2.2.2.1 k3_h3 k3_h4 k3_h5
theorem k3_off40_inb : ∀ (i : grid3.Coords) (k3_t2 : Fin (k3_t2_loop i).trips) (arg16 : BitVec 32) (v163 : BitVec 32) (v170 : BitVec 32) (arg34 : BitVec 32) (v191 : BitVec 32) (k3_hw3 : k3_chk3 i k3_t2 arg16 v163 v170 arg34 v191), ∀ (k3_h3 : k3_cond3 i k3_t2 = 1#1), ∀ (k3_h4 : ¬(k3_cond4 arg16 v163 v170 = 1#1)), ∀ (k3_h5 : k3_cond5 arg34 v191 = 1#1), ∀ a, (k3_off40 arg34) a + S1x16.size a ≤ S256x256.size a := fun i k3_t2 arg16 v163 v170 arg34 v191 k3_hw3 k3_h3 k3_h4 k3_h5 => k3_hw3.2.2.2.2.2.2.2.2.2.2.2.2.2.2.2 k3_h3 k3_h4 k3_h5

def k3_off41 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v196 : Index := Scalar.indexCast arg33
  let c0_67 : Index := 0#32
  ![v196.toNat, 0]
def k3_off42 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v199 : Index := Scalar.indexCast arg33
  let c16_68 : Index := 16#32
  ![v199.toNat, 16]
def k3_off43 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v202 : Index := Scalar.indexCast arg33
  let c32_69 : Index := 32#32
  ![v202.toNat, 32]
def k3_off44 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v205 : Index := Scalar.indexCast arg33
  let c48_70 : Index := 48#32
  ![v205.toNat, 48]
def k3_off45 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v208 : Index := Scalar.indexCast arg33
  let c64_71 : Index := 64#32
  ![v208.toNat, 64]
def k3_off46 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v211 : Index := Scalar.indexCast arg33
  let c80_72 : Index := 80#32
  ![v211.toNat, 80]
def k3_off47 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v214 : Index := Scalar.indexCast arg33
  let c96_73 : Index := 96#32
  ![v214.toNat, 96]
def k3_off48 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v217 : Index := Scalar.indexCast arg33
  let c112_74 : Index := 112#32
  ![v217.toNat, 112]
def k3_off49 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v220 : Index := Scalar.indexCast arg33
  let c128_75 : Index := 128#32
  ![v220.toNat, 128]
def k3_off50 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v223 : Index := Scalar.indexCast arg33
  let c144_76 : Index := 144#32
  ![v223.toNat, 144]
def k3_off51 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v226 : Index := Scalar.indexCast arg33
  let c160_77 : Index := 160#32
  ![v226.toNat, 160]
def k3_off52 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v229 : Index := Scalar.indexCast arg33
  let c176_78 : Index := 176#32
  ![v229.toNat, 176]
def k3_off53 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v232 : Index := Scalar.indexCast arg33
  let c192_79 : Index := 192#32
  ![v232.toNat, 192]
def k3_off54 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v235 : Index := Scalar.indexCast arg33
  let c208_80 : Index := 208#32
  ![v235.toNat, 208]
def k3_off55 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v238 : Index := Scalar.indexCast arg33
  let c224_81 : Index := 224#32
  ![v238.toNat, 224]
def k3_off56 (k3_t3 : Fin k3_t3_loop.trips) (k3_t4 : Fin (k3_t4_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c1_i32_62 : BitVec 32 := 1#32
  let arg33 : BitVec 32 := Scf.iv v155 c1_i32_62 k3_t4
  let v241 : Index := Scalar.indexCast arg33
  let c240_82 : Index := 240#32
  ![v241.toNat, 240]
@[reducible] def k3_t5_loop (k3_t3 : Fin k3_t3_loop.trips) : Scf.Loop 32 :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let v178 : BitVec 32 := Scalar.addi v155 v177
  let c1_i32_63 : BitVec 32 := 1#32
  ⟨v181, v178, c1_i32_63⟩

def k3_chk4 (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (v184 : IVec S16 32) : Prop :=
  (∀ (k3_h3 : k3_cond3 i k3_t2 = 1#1), ∀ (k3_h4 : ¬(k3_cond4 arg16 v163 v170 = 1#1)), ∀ a x, ((![v184] : Fin 1 → IVec S16 32) a x).toNat < S128.size a)
theorem k3_idx3_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (v184 : IVec S16 32) (k3_hw4 : k3_chk4 i k3_t2 k3_t3 arg16 v163 v170 k3_t5 v184), ∀ (k3_h3 : k3_cond3 i k3_t2 = 1#1), ∀ (k3_h4 : ¬(k3_cond4 arg16 v163 v170 = 1#1)), ∀ a x, ((![v184] : Fin 1 → IVec S16 32) a x).toNat < S128.size a := fun i k3_t2 k3_t3 arg16 v163 v170 k3_t5 v184 k3_hw4 k3_h3 k3_h4 => k3_hw4 k3_h3 k3_h4
def k3_off57 (arg34 : BitVec 32) : Fin 2 → Nat :=
  let v244 : Index := Scalar.indexCast arg34
  let c0_83 : Index := 0#32
  ![v244.toNat, 0]
def k3_cond6 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off58 (arg34 : BitVec 32) : Fin 2 → Nat :=
  let v249 : Index := Scalar.indexCast arg34
  let c16_85 : Index := 16#32
  ![v249.toNat, 16]
def k3_off59 (arg34 : BitVec 32) : Fin 2 → Nat :=
  let v254 : Index := Scalar.indexCast arg34
  let c32_87 : Index := 32#32
  ![v254.toNat, 32]
def k3_off60 (arg34 : BitVec 32) : Fin 2 → Nat :=
  let v259 : Index := Scalar.indexCast arg34
  let c48_89 : Index := 48#32
  ![v259.toNat, 48]
def k3_off61 (arg34 : BitVec 32) : Fin 2 → Nat :=
  let v264 : Index := Scalar.indexCast arg34
  let c64_91 : Index := 64#32
  ![v264.toNat, 64]
def k3_off62 (arg34 : BitVec 32) : Fin 2 → Nat :=
  let v269 : Index := Scalar.indexCast arg34
  let c80_93 : Index := 80#32
  ![v269.toNat, 80]
def k3_off63 (arg34 : BitVec 32) : Fin 2 → Nat :=
  let v274 : Index := Scalar.indexCast arg34
  let c96_95 : Index := 96#32
  ![v274.toNat, 96]
def k3_off64 (arg34 : BitVec 32) : Fin 2 → Nat :=
  let v279 : Index := Scalar.indexCast arg34
  let c112_97 : Index := 112#32
  ![v279.toNat, 112]
def k3_off65 (arg34 : BitVec 32) : Fin 2 → Nat :=
  let v284 : Index := Scalar.indexCast arg34
  let c128_99 : Index := 128#32
  ![v284.toNat, 128]
def k3_off66 (arg34 : BitVec 32) : Fin 2 → Nat :=
  let v289 : Index := Scalar.indexCast arg34
  let c144_101 : Index := 144#32
  ![v289.toNat, 144]
def k3_off67 (arg34 : BitVec 32) : Fin 2 → Nat :=
  let v294 : Index := Scalar.indexCast arg34
  let c160_103 : Index := 160#32
  ![v294.toNat, 160]
def k3_off68 (arg34 : BitVec 32) : Fin 2 → Nat :=
  let v299 : Index := Scalar.indexCast arg34
  let c176_105 : Index := 176#32
  ![v299.toNat, 176]
def k3_off69 (arg34 : BitVec 32) : Fin 2 → Nat :=
  let v304 : Index := Scalar.indexCast arg34
  let c192_107 : Index := 192#32
  ![v304.toNat, 192]
def k3_off70 (arg34 : BitVec 32) : Fin 2 → Nat :=
  let v309 : Index := Scalar.indexCast arg34
  let c208_109 : Index := 208#32
  ![v309.toNat, 208]
def k3_off71 (arg34 : BitVec 32) : Fin 2 → Nat :=
  let v314 : Index := Scalar.indexCast arg34
  let c224_111 : Index := 224#32
  ![v314.toNat, 224]
def k3_off72 (arg34 : BitVec 32) : Fin 2 → Nat :=
  let v319 : Index := Scalar.indexCast arg34
  let c240_113 : Index := 240#32
  ![v319.toNat, 240]

def k3_chk5 (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) : Prop :=
  (∀ (k3_h3 : k3_cond3 i k3_t2 = 1#1), ∀ (k3_h4 : ¬(k3_cond4 arg16 v163 v170 = 1#1)), ∀ (k3_h6 : k3_cond6 arg34 v191 = 1#1), ∀ a, (k3_off57 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off58 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off59 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off60 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off61 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off62 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off63 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off64 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off65 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off66 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off67 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off68 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off69 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off70 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off71 arg34) a + S1x16.size a ≤ S256x256.size a) ∧
  (∀ (k3_h3 : k3_cond3 i k3_t2 = 1#1), ∀ (k3_h4 : ¬(k3_cond4 arg16 v163 v170 = 1#1)), ∀ (k3_h6 : k3_cond6 arg34 v191 = 1#1), ∀ a, (k3_off72 arg34) a + S1x16.size a ≤ S256x256.size a)
theorem k3_off57_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off57 arg34) a + S1x16.size a ≤ S256x256.size a := fun i k3_t2 k3_t3 arg16 v163 v170 k3_t5 arg34 v191 k3_hw5 k3_h3 k3_h4 k3_h6 => k3_hw5.1 k3_h3 k3_h4 k3_h6
theorem k3_off58_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off58 arg34) a + S1x16.size a ≤ S256x256.size a := fun i k3_t2 k3_t3 arg16 v163 v170 k3_t5 arg34 v191 k3_hw5 k3_h3 k3_h4 k3_h6 => k3_hw5.2.1 k3_h3 k3_h4 k3_h6
theorem k3_off59_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off59 arg34) a + S1x16.size a ≤ S256x256.size a := fun i k3_t2 k3_t3 arg16 v163 v170 k3_t5 arg34 v191 k3_hw5 k3_h3 k3_h4 k3_h6 => k3_hw5.2.2.1 k3_h3 k3_h4 k3_h6
theorem k3_off60_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off60 arg34) a + S1x16.size a ≤ S256x256.size a := fun i k3_t2 k3_t3 arg16 v163 v170 k3_t5 arg34 v191 k3_hw5 k3_h3 k3_h4 k3_h6 => k3_hw5.2.2.2.1 k3_h3 k3_h4 k3_h6
theorem k3_off61_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off61 arg34) a + S1x16.size a ≤ S256x256.size a := fun i k3_t2 k3_t3 arg16 v163 v170 k3_t5 arg34 v191 k3_hw5 k3_h3 k3_h4 k3_h6 => k3_hw5.2.2.2.2.1 k3_h3 k3_h4 k3_h6
theorem k3_off62_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off62 arg34) a + S1x16.size a ≤ S256x256.size a := fun i k3_t2 k3_t3 arg16 v163 v170 k3_t5 arg34 v191 k3_hw5 k3_h3 k3_h4 k3_h6 => k3_hw5.2.2.2.2.2.1 k3_h3 k3_h4 k3_h6
theorem k3_off63_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off63 arg34) a + S1x16.size a ≤ S256x256.size a := fun i k3_t2 k3_t3 arg16 v163 v170 k3_t5 arg34 v191 k3_hw5 k3_h3 k3_h4 k3_h6 => k3_hw5.2.2.2.2.2.2.1 k3_h3 k3_h4 k3_h6
theorem k3_off64_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off64 arg34) a + S1x16.size a ≤ S256x256.size a := fun i k3_t2 k3_t3 arg16 v163 v170 k3_t5 arg34 v191 k3_hw5 k3_h3 k3_h4 k3_h6 => k3_hw5.2.2.2.2.2.2.2.1 k3_h3 k3_h4 k3_h6
theorem k3_off65_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off65 arg34) a + S1x16.size a ≤ S256x256.size a := fun i k3_t2 k3_t3 arg16 v163 v170 k3_t5 arg34 v191 k3_hw5 k3_h3 k3_h4 k3_h6 => k3_hw5.2.2.2.2.2.2.2.2.1 k3_h3 k3_h4 k3_h6
theorem k3_off66_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off66 arg34) a + S1x16.size a ≤ S256x256.size a := fun i k3_t2 k3_t3 arg16 v163 v170 k3_t5 arg34 v191 k3_hw5 k3_h3 k3_h4 k3_h6 => k3_hw5.2.2.2.2.2.2.2.2.2.1 k3_h3 k3_h4 k3_h6
theorem k3_off67_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off67 arg34) a + S1x16.size a ≤ S256x256.size a := fun i k3_t2 k3_t3 arg16 v163 v170 k3_t5 arg34 v191 k3_hw5 k3_h3 k3_h4 k3_h6 => k3_hw5.2.2.2.2.2.2.2.2.2.2.1 k3_h3 k3_h4 k3_h6
theorem k3_off68_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off68 arg34) a + S1x16.size a ≤ S256x256.size a := fun i k3_t2 k3_t3 arg16 v163 v170 k3_t5 arg34 v191 k3_hw5 k3_h3 k3_h4 k3_h6 => k3_hw5.2.2.2.2.2.2.2.2.2.2.2.1 k3_h3 k3_h4 k3_h6
theorem k3_off69_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off69 arg34) a + S1x16.size a ≤ S256x256.size a := fun i k3_t2 k3_t3 arg16 v163 v170 k3_t5 arg34 v191 k3_hw5 k3_h3 k3_h4 k3_h6 => k3_hw5.2.2.2.2.2.2.2.2.2.2.2.2.1 k3_h3 k3_h4 k3_h6
theorem k3_off70_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off70 arg34) a + S1x16.size a ≤ S256x256.size a := fun i k3_t2 k3_t3 arg16 v163 v170 k3_t5 arg34 v191 k3_hw5 k3_h3 k3_h4 k3_h6 => k3_hw5.2.2.2.2.2.2.2.2.2.2.2.2.2.1 k3_h3 k3_h4 k3_h6
theorem k3_off71_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off71 arg34) a + S1x16.size a ≤ S256x256.size a := fun i k3_t2 k3_t3 arg16 v163 v170 k3_t5 arg34 v191 k3_hw5 k3_h3 k3_h4 k3_h6 => k3_hw5.2.2.2.2.2.2.2.2.2.2.2.2.2.2.1 k3_h3 k3_h4 k3_h6
theorem k3_off72_inb : ∀ (i : grid3.Coords) (k3_t2 : Fin (k3_t2_loop i).trips) (k3_t3 : Fin k3_t3_loop.trips) (arg16 : BitVec 32) (v163 : BitVec 32) (v170 : BitVec 32) (k3_t5 : Fin (k3_t5_loop k3_t3).trips) (arg34 : BitVec 32) (v191 : BitVec 32) (k3_hw5 : k3_chk5 i k3_t2 k3_t3 arg16 v163 v170 k3_t5 arg34 v191), ∀ (k3_h3 : k3_cond3 i k3_t2 = 1#1), ∀ (k3_h4 : ¬(k3_cond4 arg16 v163 v170 = 1#1)), ∀ (k3_h6 : k3_cond6 arg34 v191 = 1#1), ∀ a, (k3_off72 arg34) a + S1x16.size a ≤ S256x256.size a := fun i k3_t2 k3_t3 arg16 v163 v170 k3_t5 arg34 v191 k3_hw5 k3_h3 k3_h4 k3_h6 => k3_hw5.2.2.2.2.2.2.2.2.2.2.2.2.2.2.2 k3_h3 k3_h4 k3_h6

def k3_off73 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v196 : Index := Scalar.indexCast arg33
  let c0_67 : Index := 0#32
  ![v196.toNat, 0]
def k3_off74 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v199 : Index := Scalar.indexCast arg33
  let c16_68 : Index := 16#32
  ![v199.toNat, 16]
def k3_off75 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v202 : Index := Scalar.indexCast arg33
  let c32_69 : Index := 32#32
  ![v202.toNat, 32]
def k3_off76 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v205 : Index := Scalar.indexCast arg33
  let c48_70 : Index := 48#32
  ![v205.toNat, 48]
def k3_off77 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v208 : Index := Scalar.indexCast arg33
  let c64_71 : Index := 64#32
  ![v208.toNat, 64]
def k3_off78 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v211 : Index := Scalar.indexCast arg33
  let c80_72 : Index := 80#32
  ![v211.toNat, 80]
def k3_off79 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v214 : Index := Scalar.indexCast arg33
  let c96_73 : Index := 96#32
  ![v214.toNat, 96]
def k3_off80 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v217 : Index := Scalar.indexCast arg33
  let c112_74 : Index := 112#32
  ![v217.toNat, 112]
def k3_off81 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v220 : Index := Scalar.indexCast arg33
  let c128_75 : Index := 128#32
  ![v220.toNat, 128]
def k3_off82 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v223 : Index := Scalar.indexCast arg33
  let c144_76 : Index := 144#32
  ![v223.toNat, 144]
def k3_off83 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v226 : Index := Scalar.indexCast arg33
  let c160_77 : Index := 160#32
  ![v226.toNat, 160]
def k3_off84 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v229 : Index := Scalar.indexCast arg33
  let c176_78 : Index := 176#32
  ![v229.toNat, 176]
def k3_off85 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v232 : Index := Scalar.indexCast arg33
  let c192_79 : Index := 192#32
  ![v232.toNat, 192]
def k3_off86 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v235 : Index := Scalar.indexCast arg33
  let c208_80 : Index := 208#32
  ![v235.toNat, 208]
def k3_off87 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v238 : Index := Scalar.indexCast arg33
  let c224_81 : Index := 224#32
  ![v238.toNat, 224]
def k3_off88 (k3_t3 : Fin k3_t3_loop.trips) (k3_t5 : Fin (k3_t5_loop k3_t3).trips) : Fin 2 → Nat :=
  let c0_i32_34 : BitVec 32 := 0#32
  let c1_i32_35 : BitVec 32 := 1#32
  let arg15 : BitVec 32 := Scf.iv c0_i32_34 c1_i32_35 k3_t3
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t5
  let v241 : Index := Scalar.indexCast arg33
  let c240_82 : Index := 240#32
  ![v241.toNat, 240]
def k3_off89 (v70_0 : BitVec 32) : Fin 2 → Nat :=
  let v71 : Index := Scalar.indexCast v70_0
  let c0 : Index := 0#32
  ![v71.toNat, 0]

def k3_off90 (v70_0 : BitVec 32) : Fin 2 → Nat :=
  let v76 : Index := Scalar.indexCast v70_0
  let c16 : Index := 16#32
  ![v76.toNat, 16]
def k3_off91 (v70_0 : BitVec 32) : Fin 2 → Nat :=
  let v81 : Index := Scalar.indexCast v70_0
  let c32 : Index := 32#32
  ![v81.toNat, 32]
def k3_off92 (v70_0 : BitVec 32) : Fin 2 → Nat :=
  let v86 : Index := Scalar.indexCast v70_0
  let c48 : Index := 48#32
  ![v86.toNat, 48]
def k3_off93 (v70_0 : BitVec 32) : Fin 2 → Nat :=
  let v91 : Index := Scalar.indexCast v70_0
  let c64 : Index := 64#32
  ![v91.toNat, 64]
def k3_off94 (v70_0 : BitVec 32) : Fin 2 → Nat :=
  let v96 : Index := Scalar.indexCast v70_0
  let c80 : Index := 80#32
  ![v96.toNat, 80]
def k3_off95 (v70_0 : BitVec 32) : Fin 2 → Nat :=
  let v101 : Index := Scalar.indexCast v70_0
  let c96 : Index := 96#32
  ![v101.toNat, 96]
def k3_off96 (v70_0 : BitVec 32) : Fin 2 → Nat :=
  let v106 : Index := Scalar.indexCast v70_0
  let c112 : Index := 112#32
  ![v106.toNat, 112]
def k3_off97 (v70_0 : BitVec 32) : Fin 2 → Nat :=
  let v111 : Index := Scalar.indexCast v70_0
  let c128 : Index := 128#32
  ![v111.toNat, 128]
def k3_off98 (v70_0 : BitVec 32) : Fin 2 → Nat :=
  let v116 : Index := Scalar.indexCast v70_0
  let c144 : Index := 144#32
  ![v116.toNat, 144]
def k3_off99 (v70_0 : BitVec 32) : Fin 2 → Nat :=
  let v121 : Index := Scalar.indexCast v70_0
  let c160 : Index := 160#32
  ![v121.toNat, 160]
def k3_off100 (v70_0 : BitVec 32) : Fin 2 → Nat :=
  let v126 : Index := Scalar.indexCast v70_0
  let c176 : Index := 176#32
  ![v126.toNat, 176]
def k3_off101 (v70_0 : BitVec 32) : Fin 2 → Nat :=
  let v131 : Index := Scalar.indexCast v70_0
  let c192 : Index := 192#32
  ![v131.toNat, 192]
def k3_off102 (v70_0 : BitVec 32) : Fin 2 → Nat :=
  let v136 : Index := Scalar.indexCast v70_0
  let c208 : Index := 208#32
  ![v136.toNat, 208]
def k3_off103 (v70_0 : BitVec 32) : Fin 2 → Nat :=
  let v141 : Index := Scalar.indexCast v70_0
  let c224 : Index := 224#32
  ![v141.toNat, 224]
def k3_off104 (v70_0 : BitVec 32) : Fin 2 → Nat :=
  let v146 : Index := Scalar.indexCast v70_0
  let c240 : Index := 240#32
  ![v146.toNat, 240]

def k3_chk6 (i : grid3.Coords) (k3_t2 : Fin (k3_t2_loop i).trips) (v70_0 : BitVec 32) : Prop :=
  (∀ (k3_h3 : k3_cond3 i k3_t2 = 1#1), ∀ a, (k3_off89 v70_0) a + S1x16.size a ≤ S256x256.size a) ∧
  (∀ (k3_h3 : k3_cond3 i k3_t2 = 1#1), ∀ a, (k3_off90 v70_0) a + S1x16.size a ≤ S256x256.size a) ∧
  (∀ (k3_h3 : k3_cond3 i k3_t2 = 1#1), ∀ a, (k3_off91 v70_0) a + S1x16.size a ≤ S256x256.size a) ∧
  (∀ (k3_h3 : k3_cond3 i k3_t2 = 1#1), ∀ a, (k3_off92 v70_0) a + S1x16.size a ≤ S256x256.size a) ∧
  (∀ (k3_h3 : k3_cond3 i k3_t2 = 1#1), ∀ a, (k3_off93 v70_0) a + S1x16.size a ≤ S256x256.size a) ∧
  (∀ (k3_h3 : k3_cond3 i k3_t2 = 1#1), ∀ a, (k3_off94 v70_0) a + S1x16.size a ≤ S256x256.size a) ∧
  (∀ (k3_h3 : k3_cond3 i k3_t2 = 1#1), ∀ a, (k3_off95 v70_0) a + S1x16.size a ≤ S256x256.size a) ∧
  (∀ (k3_h3 : k3_cond3 i k3_t2 = 1#1), ∀ a, (k3_off96 v70_0) a + S1x16.size a ≤ S256x256.size a) ∧
  (∀ (k3_h3 : k3_cond3 i k3_t2 = 1#1), ∀ a, (k3_off97 v70_0) a + S1x16.size a ≤ S256x256.size a) ∧
  (∀ (k3_h3 : k3_cond3 i k3_t2 = 1#1), ∀ a, (k3_off98 v70_0) a + S1x16.size a ≤ S256x256.size a) ∧
  (∀ (k3_h3 : k3_cond3 i k3_t2 = 1#1), ∀ a, (k3_off99 v70_0) a + S1x16.size a ≤ S256x256.size a) ∧
  (∀ (k3_h3 : k3_cond3 i k3_t2 = 1#1), ∀ a, (k3_off100 v70_0) a + S1x16.size a ≤ S256x256.size a) ∧
  (∀ (k3_h3 : k3_cond3 i k3_t2 = 1#1), ∀ a, (k3_off101 v70_0) a + S1x16.size a ≤ S256x256.size a) ∧
  (∀ (k3_h3 : k3_cond3 i k3_t2 = 1#1), ∀ a, (k3_off102 v70_0) a + S1x16.size a ≤ S256x256.size a) ∧
  (∀ (k3_h3 : k3_cond3 i k3_t2 = 1#1), ∀ a, (k3_off103 v70_0) a + S1x16.size a ≤ S256x256.size a) ∧
  (∀ (k3_h3 : k3_cond3 i k3_t2 = 1#1), ∀ a, (k3_off104 v70_0) a + S1x16.size a ≤ S256x256.size a)
theorem k3_off89_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off89 v70_0) a + S1x16.size a ≤ S256x256.size a := fun i k3_t2 v70_0 k3_hw6 k3_h3 => k3_hw6.1 k3_h3
theorem k3_off90_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off90 v70_0) a + S1x16.size a ≤ S256x256.size a := fun i k3_t2 v70_0 k3_hw6 k3_h3 => k3_hw6.2.1 k3_h3
theorem k3_off91_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off91 v70_0) a + S1x16.size a ≤ S256x256.size a := fun i k3_t2 v70_0 k3_hw6 k3_h3 => k3_hw6.2.2.1 k3_h3
theorem k3_off92_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off92 v70_0) a + S1x16.size a ≤ S256x256.size a := fun i k3_t2 v70_0 k3_hw6 k3_h3 => k3_hw6.2.2.2.1 k3_h3
theorem k3_off93_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off93 v70_0) a + S1x16.size a ≤ S256x256.size a := fun i k3_t2 v70_0 k3_hw6 k3_h3 => k3_hw6.2.2.2.2.1 k3_h3
theorem k3_off94_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off94 v70_0) a + S1x16.size a ≤ S256x256.size a := fun i k3_t2 v70_0 k3_hw6 k3_h3 => k3_hw6.2.2.2.2.2.1 k3_h3
theorem k3_off95_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off95 v70_0) a + S1x16.size a ≤ S256x256.size a := fun i k3_t2 v70_0 k3_hw6 k3_h3 => k3_hw6.2.2.2.2.2.2.1 k3_h3
theorem k3_off96_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off96 v70_0) a + S1x16.size a ≤ S256x256.size a := fun i k3_t2 v70_0 k3_hw6 k3_h3 => k3_hw6.2.2.2.2.2.2.2.1 k3_h3
theorem k3_off97_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off97 v70_0) a + S1x16.size a ≤ S256x256.size a := fun i k3_t2 v70_0 k3_hw6 k3_h3 => k3_hw6.2.2.2.2.2.2.2.2.1 k3_h3
theorem k3_off98_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off98 v70_0) a + S1x16.size a ≤ S256x256.size a := fun i k3_t2 v70_0 k3_hw6 k3_h3 => k3_hw6.2.2.2.2.2.2.2.2.2.1 k3_h3
theorem k3_off99_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off99 v70_0) a + S1x16.size a ≤ S256x256.size a := fun i k3_t2 v70_0 k3_hw6 k3_h3 => k3_hw6.2.2.2.2.2.2.2.2.2.2.1 k3_h3
theorem k3_off100_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off100 v70_0) a + S1x16.size a ≤ S256x256.size a := fun i k3_t2 v70_0 k3_hw6 k3_h3 => k3_hw6.2.2.2.2.2.2.2.2.2.2.2.1 k3_h3
theorem k3_off101_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off101 v70_0) a + S1x16.size a ≤ S256x256.size a := fun i k3_t2 v70_0 k3_hw6 k3_h3 => k3_hw6.2.2.2.2.2.2.2.2.2.2.2.2.1 k3_h3
theorem k3_off102_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off102 v70_0) a + S1x16.size a ≤ S256x256.size a := fun i k3_t2 v70_0 k3_hw6 k3_h3 => k3_hw6.2.2.2.2.2.2.2.2.2.2.2.2.2.1 k3_h3
theorem k3_off103_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off103 v70_0) a + S1x16.size a ≤ S256x256.size a := fun i k3_t2 v70_0 k3_hw6 k3_h3 => k3_hw6.2.2.2.2.2.2.2.2.2.2.2.2.2.2.1 k3_h3
theorem k3_off104_inb : ∀ (i : grid3.Coords) (k3_t2 : Fin (k3_t2_loop i).trips) (v70_0 : BitVec 32) (k3_hw6 : k3_chk6 i k3_t2 v70_0), ∀ (k3_h3 : k3_cond3 i k3_t2 = 1#1), ∀ a, (k3_off104 v70_0) a + S1x16.size a ≤ S256x256.size a := fun i k3_t2 v70_0 k3_hw6 k3_h3 => k3_hw6.2.2.2.2.2.2.2.2.2.2.2.2.2.2.2 k3_h3

def k3_cond7 (i : grid3.Coords) (k3_t2 : Fin (k3_t2_loop i).trips) : BitVec 1 :=
  let c0_i32_16 : BitVec 32 := 0#32
  let c1_i32_18 : BitVec 32 := 1#32
  let arg14 : BitVec 32 := Scf.iv c0_i32_16 c1_i32_18 k3_t2
  let c2_i32_25 : BitVec 32 := 2#32
  let v42 : BitVec 32 := Scalar.muli arg14 c2_i32_25
  let c0_i32_26 : BitVec 32 := 0#32
  let v43 : BitVec 32 := Scalar.addi v42 c0_i32_26
  let c2_i32_53 : BitVec 32 := 2#32
  let v151 : BitVec 32 := Scalar.addi v43 c2_i32_53
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v152 : BitVec 1 := Scalar.cmpi .slt v151 v2
  let v153 : BitVec 32 := Scalar.extui v152
  let c0_i32_54 : BitVec 32 := 0#32
  let v154 : BitVec 1 := Scalar.cmpi .ne v153 c0_i32_54
  v154

def k3_off105 (i : grid3.Coords) (k3_t2 : Fin (k3_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_25 : BitVec 32 := 2#32
  let v42 : BitVec 32 := Scalar.muli arg14 c2_i32_25
  let c0_i32_26 : BitVec 32 := 0#32
  let v43 : BitVec 32 := Scalar.addi v42 c0_i32_26
  let c2_i32_55 : BitVec 32 := 2#32
  let v155 : BitVec 32 := Scalar.addi v43 c2_i32_55
  let c112_i32_56 : BitVec 32 := 112#32
  let v156 : BitVec 32 := Scalar.muli v155 c112_i32_56
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k3_off106 (i : grid3.Coords) (k3_t2 : Fin (k3_t2_loop i).trips) : Fin 1 → Nat :=
  let c50000_i32_57 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_25 : BitVec 32 := 2#32
  let v42 : BitVec 32 := Scalar.muli arg14 c2_i32_25
  let c0_i32_26 : BitVec 32 := 0#32
  let v43 : BitVec 32 := Scalar.addi v42 c0_i32_26
  let c2_i32_55 : BitVec 32 := 2#32
  let v155 : BitVec 32 := Scalar.addi v43 c2_i32_55
  let c112_i32_56 : BitVec 32 := 112#32
  let v156 : BitVec 32 := Scalar.muli v155 c112_i32_56
  let v157 : BitVec 32 := Scalar.addi v0 v156
  let v160 : BitVec 32 := Scalar.addi c50000_i32_57 v157
  ![v160.toNat]
def k3_cond8 (i : grid3.Coords) (k3_t2 : Fin (k3_t2_loop i).trips) : BitVec 1 :=
  let c0_i32_16 : BitVec 32 := 0#32
  let c1_i32_18 : BitVec 32 := 1#32
  let arg14 : BitVec 32 := Scf.iv c0_i32_16 c1_i32_18 k3_t2
  let c2_i32_28 : BitVec 32 := 2#32
  let v47 : BitVec 32 := Scalar.muli arg14 c2_i32_28
  let c1_i32_29 : BitVec 32 := 1#32
  let v48 : BitVec 32 := Scalar.addi v47 c1_i32_29
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v49 : BitVec 1 := Scalar.cmpi .slt v48 v2
  let v50 : BitVec 32 := Scalar.extui v49
  let c0_i32_30 : BitVec 32 := 0#32
  let v51 : BitVec 1 := Scalar.cmpi .ne v50 c0_i32_30
  v51

def k3_off107 (i : grid3.Coords) (k3_t2 : Fin (k3_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k3_off108 (i : grid3.Coords) (k3_t2 : Fin (k3_t2_loop i).trips) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let v56 : BitVec 32 := Scalar.addi c50000_i32 v53
  ![v56.toNat]

def k3_chk7 (i : grid3.Coords) (k3_t2 : Fin (k3_t2_loop i).trips) (v61 : IVec S16 32) : Prop :=
  (∀ (k3_h8 : k3_cond8 i k3_t2 = 1#1), ∀ a x, ((![v61] : Fin 1 → IVec S16 32) a x).toNat < S128.size a)
theorem k3_idx4_inb : ∀ (i : grid3.Coords) (k3_t2 : Fin (k3_t2_loop i).trips) (v61 : IVec S16 32) (k3_hw7 : k3_chk7 i k3_t2 v61), ∀ (k3_h8 : k3_cond8 i k3_t2 = 1#1), ∀ a x, ((![v61] : Fin 1 → IVec S16 32) a x).toNat < S128.size a := fun i k3_t2 v61 k3_hw7 k3_h8 => k3_hw7 k3_h8
@[reducible] def k3_t6_loop : Scf.Loop 32 :=
  let c0_i32_34 : BitVec 32 := 0#32
  let c7_i32 : BitVec 32 := 7#32
  let v69 : BitVec 32 := Scalar.addi c0_i32_34 c7_i32
  let c1_i32_35 : BitVec 32 := 1#32
  ⟨c0_i32_34, v69, c1_i32_35⟩
def k3_off109 (k3_t6 : Fin k3_t6_loop.trips) : Fin 1 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v156 : Index := Scalar.indexCast v155
  ![v156.toNat]
def k3_off110 (k3_t6 : Fin k3_t6_loop.trips) (c0_i32_60 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v176 : BitVec 32 := Scalar.addi v155 c0_i32_60
  let v177 : Index := Scalar.indexCast v176
  let c0_61 : Index := 0#32
  ![v177.toNat, 0]
def k3_off111 (k3_t6 : Fin k3_t6_loop.trips) (c0_i32_62 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v180 : BitVec 32 := Scalar.addi v155 c0_i32_62
  let v181 : Index := Scalar.indexCast v180
  let c16_63 : Index := 16#32
  ![v181.toNat, 16]
def k3_off112 (k3_t6 : Fin k3_t6_loop.trips) (c0_i32_64 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v184 : BitVec 32 := Scalar.addi v155 c0_i32_64
  let v185 : Index := Scalar.indexCast v184
  let c32_65 : Index := 32#32
  ![v185.toNat, 32]
def k3_off113 (k3_t6 : Fin k3_t6_loop.trips) (c0_i32_66 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v188 : BitVec 32 := Scalar.addi v155 c0_i32_66
  let v189 : Index := Scalar.indexCast v188
  let c48_67 : Index := 48#32
  ![v189.toNat, 48]
def k3_off114 (k3_t6 : Fin k3_t6_loop.trips) (c0_i32_68 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v192 : BitVec 32 := Scalar.addi v155 c0_i32_68
  let v193 : Index := Scalar.indexCast v192
  let c64_69 : Index := 64#32
  ![v193.toNat, 64]
def k3_off115 (k3_t6 : Fin k3_t6_loop.trips) (c0_i32_70 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v196 : BitVec 32 := Scalar.addi v155 c0_i32_70
  let v197 : Index := Scalar.indexCast v196
  let c80_71 : Index := 80#32
  ![v197.toNat, 80]
def k3_off116 (k3_t6 : Fin k3_t6_loop.trips) (c0_i32_72 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v200 : BitVec 32 := Scalar.addi v155 c0_i32_72
  let v201 : Index := Scalar.indexCast v200
  let c96_73 : Index := 96#32
  ![v201.toNat, 96]
def k3_off117 (k3_t6 : Fin k3_t6_loop.trips) (c0_i32_74 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v204 : BitVec 32 := Scalar.addi v155 c0_i32_74
  let v205 : Index := Scalar.indexCast v204
  let c112_75 : Index := 112#32
  ![v205.toNat, 112]
def k3_off118 (k3_t6 : Fin k3_t6_loop.trips) (c0_i32_76 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v208 : BitVec 32 := Scalar.addi v155 c0_i32_76
  let v209 : Index := Scalar.indexCast v208
  let c128_77 : Index := 128#32
  ![v209.toNat, 128]
def k3_off119 (k3_t6 : Fin k3_t6_loop.trips) (c0_i32_78 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v212 : BitVec 32 := Scalar.addi v155 c0_i32_78
  let v213 : Index := Scalar.indexCast v212
  let c144_79 : Index := 144#32
  ![v213.toNat, 144]
def k3_off120 (k3_t6 : Fin k3_t6_loop.trips) (c0_i32_80 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v216 : BitVec 32 := Scalar.addi v155 c0_i32_80
  let v217 : Index := Scalar.indexCast v216
  let c160_81 : Index := 160#32
  ![v217.toNat, 160]
def k3_off121 (k3_t6 : Fin k3_t6_loop.trips) (c0_i32_82 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v220 : BitVec 32 := Scalar.addi v155 c0_i32_82
  let v221 : Index := Scalar.indexCast v220
  let c176_83 : Index := 176#32
  ![v221.toNat, 176]
def k3_off122 (k3_t6 : Fin k3_t6_loop.trips) (c0_i32_84 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v224 : BitVec 32 := Scalar.addi v155 c0_i32_84
  let v225 : Index := Scalar.indexCast v224
  let c192_85 : Index := 192#32
  ![v225.toNat, 192]
def k3_off123 (k3_t6 : Fin k3_t6_loop.trips) (c0_i32_86 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v228 : BitVec 32 := Scalar.addi v155 c0_i32_86
  let v229 : Index := Scalar.indexCast v228
  let c208_87 : Index := 208#32
  ![v229.toNat, 208]
def k3_off124 (k3_t6 : Fin k3_t6_loop.trips) (c0_i32_88 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v232 : BitVec 32 := Scalar.addi v155 c0_i32_88
  let v233 : Index := Scalar.indexCast v232
  let c224_89 : Index := 224#32
  ![v233.toNat, 224]
def k3_off125 (k3_t6 : Fin k3_t6_loop.trips) (c0_i32_90 : BitVec 32) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let v236 : BitVec 32 := Scalar.addi v155 c0_i32_90
  let v237 : Index := Scalar.indexCast v236
  let c240_91 : Index := 240#32
  ![v237.toNat, 240]
@[reducible] def k3_t7_loop (k3_t6 : Fin k3_t6_loop.trips) : Scf.Loop 32 :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_62 : BitVec 32 := 1#32
  ⟨v155, v181, c1_i32_62⟩
def k3_cond9 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_59 : BitVec 32 := 0#32
  let v174 : BitVec 1 := Scalar.cmpi .ne v173 c0_i32_59
  v174

def k3_chk8 (i : grid3.Coords) (k3_t2 : Fin (k3_t2_loop i).trips) (arg16 : BitVec 32) (v163 : BitVec 32) (v170 : BitVec 32) (v184 : IVec S16 32) : Prop :=
  (∀ (k3_h8 : k3_cond8 i k3_t2 = 1#1), ∀ (k3_h9 : ¬(k3_cond9 arg16 v163 v170 = 1#1)), ∀ a x, ((![v184] : Fin 1 → IVec S16 32) a x).toNat < S128.size a)
theorem k3_idx5_inb : ∀ (i : grid3.Coords) (k3_t2 : Fin (k3_t2_loop i).trips) (arg16 : BitVec 32) (v163 : BitVec 32) (v170 : BitVec 32) (v184 : IVec S16 32) (k3_hw8 : k3_chk8 i k3_t2 arg16 v163 v170 v184), ∀ (k3_h8 : k3_cond8 i k3_t2 = 1#1), ∀ (k3_h9 : ¬(k3_cond9 arg16 v163 v170 = 1#1)), ∀ a x, ((![v184] : Fin 1 → IVec S16 32) a x).toNat < S128.size a := fun i k3_t2 arg16 v163 v170 v184 k3_hw8 k3_h8 k3_h9 => k3_hw8 k3_h8 k3_h9
def k3_off126 (arg34 : BitVec 32) : Fin 2 → Nat :=
  let v244 : Index := Scalar.indexCast arg34
  let c0_83 : Index := 0#32
  ![v244.toNat, 0]
def k3_cond10 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off127 (arg34 : BitVec 32) : Fin 2 → Nat :=
  let v249 : Index := Scalar.indexCast arg34
  let c16_85 : Index := 16#32
  ![v249.toNat, 16]
def k3_off128 (arg34 : BitVec 32) : Fin 2 → Nat :=
  let v254 : Index := Scalar.indexCast arg34
  let c32_87 : Index := 32#32
  ![v254.toNat, 32]
def k3_off129 (arg34 : BitVec 32) : Fin 2 → Nat :=
  let v259 : Index := Scalar.indexCast arg34
  let c48_89 : Index := 48#32
  ![v259.toNat, 48]
def k3_off130 (arg34 : BitVec 32) : Fin 2 → Nat :=
  let v264 : Index := Scalar.indexCast arg34
  let c64_91 : Index := 64#32
  ![v264.toNat, 64]
def k3_off131 (arg34 : BitVec 32) : Fin 2 → Nat :=
  let v269 : Index := Scalar.indexCast arg34
  let c80_93 : Index := 80#32
  ![v269.toNat, 80]
def k3_off132 (arg34 : BitVec 32) : Fin 2 → Nat :=
  let v274 : Index := Scalar.indexCast arg34
  let c96_95 : Index := 96#32
  ![v274.toNat, 96]
def k3_off133 (arg34 : BitVec 32) : Fin 2 → Nat :=
  let v279 : Index := Scalar.indexCast arg34
  let c112_97 : Index := 112#32
  ![v279.toNat, 112]
def k3_off134 (arg34 : BitVec 32) : Fin 2 → Nat :=
  let v284 : Index := Scalar.indexCast arg34
  let c128_99 : Index := 128#32
  ![v284.toNat, 128]
def k3_off135 (arg34 : BitVec 32) : Fin 2 → Nat :=
  let v289 : Index := Scalar.indexCast arg34
  let c144_101 : Index := 144#32
  ![v289.toNat, 144]
def k3_off136 (arg34 : BitVec 32) : Fin 2 → Nat :=
  let v294 : Index := Scalar.indexCast arg34
  let c160_103 : Index := 160#32
  ![v294.toNat, 160]
def k3_off137 (arg34 : BitVec 32) : Fin 2 → Nat :=
  let v299 : Index := Scalar.indexCast arg34
  let c176_105 : Index := 176#32
  ![v299.toNat, 176]
def k3_off138 (arg34 : BitVec 32) : Fin 2 → Nat :=
  let v304 : Index := Scalar.indexCast arg34
  let c192_107 : Index := 192#32
  ![v304.toNat, 192]
def k3_off139 (arg34 : BitVec 32) : Fin 2 → Nat :=
  let v309 : Index := Scalar.indexCast arg34
  let c208_109 : Index := 208#32
  ![v309.toNat, 208]
def k3_off140 (arg34 : BitVec 32) : Fin 2 → Nat :=
  let v314 : Index := Scalar.indexCast arg34
  let c224_111 : Index := 224#32
  ![v314.toNat, 224]
def k3_off141 (arg34 : BitVec 32) : Fin 2 → Nat :=
  let v319 : Index := Scalar.indexCast arg34
  let c240_113 : Index := 240#32
  ![v319.toNat, 240]

def k3_chk9 (i : grid3.Coords) (k3_t2 : Fin (k3_t2_loop i).trips) (arg16 : BitVec 32) (v163 : BitVec 32) (v170 : BitVec 32) (arg34 : BitVec 32) (v191 : BitVec 32) : Prop :=
  (∀ (k3_h8 : k3_cond8 i k3_t2 = 1#1), ∀ (k3_h9 : ¬(k3_cond9 arg16 v163 v170 = 1#1)), ∀ (k3_h10 : k3_cond10 arg34 v191 = 1#1), ∀ a, (k3_off126 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off127 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off128 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off129 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off130 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off131 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off132 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off133 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off134 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off135 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off136 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off137 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off138 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off139 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off140 arg34) a + S1x16.size a ≤ S256x256.size a) ∧
  (∀ (k3_h8 : k3_cond8 i k3_t2 = 1#1), ∀ (k3_h9 : ¬(k3_cond9 arg16 v163 v170 = 1#1)), ∀ (k3_h10 : k3_cond10 arg34 v191 = 1#1), ∀ a, (k3_off141 arg34) a + S1x16.size a ≤ S256x256.size a)
theorem k3_off126_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off126 arg34) a + S1x16.size a ≤ S256x256.size a := fun i k3_t2 arg16 v163 v170 arg34 v191 k3_hw9 k3_h8 k3_h9 k3_h10 => k3_hw9.1 k3_h8 k3_h9 k3_h10
theorem k3_off127_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off127 arg34) a + S1x16.size a ≤ S256x256.size a := fun i k3_t2 arg16 v163 v170 arg34 v191 k3_hw9 k3_h8 k3_h9 k3_h10 => k3_hw9.2.1 k3_h8 k3_h9 k3_h10
theorem k3_off128_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off128 arg34) a + S1x16.size a ≤ S256x256.size a := fun i k3_t2 arg16 v163 v170 arg34 v191 k3_hw9 k3_h8 k3_h9 k3_h10 => k3_hw9.2.2.1 k3_h8 k3_h9 k3_h10
theorem k3_off129_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off129 arg34) a + S1x16.size a ≤ S256x256.size a := fun i k3_t2 arg16 v163 v170 arg34 v191 k3_hw9 k3_h8 k3_h9 k3_h10 => k3_hw9.2.2.2.1 k3_h8 k3_h9 k3_h10
theorem k3_off130_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off130 arg34) a + S1x16.size a ≤ S256x256.size a := fun i k3_t2 arg16 v163 v170 arg34 v191 k3_hw9 k3_h8 k3_h9 k3_h10 => k3_hw9.2.2.2.2.1 k3_h8 k3_h9 k3_h10
theorem k3_off131_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off131 arg34) a + S1x16.size a ≤ S256x256.size a := fun i k3_t2 arg16 v163 v170 arg34 v191 k3_hw9 k3_h8 k3_h9 k3_h10 => k3_hw9.2.2.2.2.2.1 k3_h8 k3_h9 k3_h10
theorem k3_off132_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off132 arg34) a + S1x16.size a ≤ S256x256.size a := fun i k3_t2 arg16 v163 v170 arg34 v191 k3_hw9 k3_h8 k3_h9 k3_h10 => k3_hw9.2.2.2.2.2.2.1 k3_h8 k3_h9 k3_h10
theorem k3_off133_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off133 arg34) a + S1x16.size a ≤ S256x256.size a := fun i k3_t2 arg16 v163 v170 arg34 v191 k3_hw9 k3_h8 k3_h9 k3_h10 => k3_hw9.2.2.2.2.2.2.2.1 k3_h8 k3_h9 k3_h10
theorem k3_off134_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off134 arg34) a + S1x16.size a ≤ S256x256.size a := fun i k3_t2 arg16 v163 v170 arg34 v191 k3_hw9 k3_h8 k3_h9 k3_h10 => k3_hw9.2.2.2.2.2.2.2.2.1 k3_h8 k3_h9 k3_h10
theorem k3_off135_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off135 arg34) a + S1x16.size a ≤ S256x256.size a := fun i k3_t2 arg16 v163 v170 arg34 v191 k3_hw9 k3_h8 k3_h9 k3_h10 => k3_hw9.2.2.2.2.2.2.2.2.2.1 k3_h8 k3_h9 k3_h10
theorem k3_off136_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off136 arg34) a + S1x16.size a ≤ S256x256.size a := fun i k3_t2 arg16 v163 v170 arg34 v191 k3_hw9 k3_h8 k3_h9 k3_h10 => k3_hw9.2.2.2.2.2.2.2.2.2.2.1 k3_h8 k3_h9 k3_h10
theorem k3_off137_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off137 arg34) a + S1x16.size a ≤ S256x256.size a := fun i k3_t2 arg16 v163 v170 arg34 v191 k3_hw9 k3_h8 k3_h9 k3_h10 => k3_hw9.2.2.2.2.2.2.2.2.2.2.2.1 k3_h8 k3_h9 k3_h10
theorem k3_off138_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off138 arg34) a + S1x16.size a ≤ S256x256.size a := fun i k3_t2 arg16 v163 v170 arg34 v191 k3_hw9 k3_h8 k3_h9 k3_h10 => k3_hw9.2.2.2.2.2.2.2.2.2.2.2.2.1 k3_h8 k3_h9 k3_h10
theorem k3_off139_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off139 arg34) a + S1x16.size a ≤ S256x256.size a := fun i k3_t2 arg16 v163 v170 arg34 v191 k3_hw9 k3_h8 k3_h9 k3_h10 => k3_hw9.2.2.2.2.2.2.2.2.2.2.2.2.2.1 k3_h8 k3_h9 k3_h10
theorem k3_off140_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off140 arg34) a + S1x16.size a ≤ S256x256.size a := fun i k3_t2 arg16 v163 v170 arg34 v191 k3_hw9 k3_h8 k3_h9 k3_h10 => k3_hw9.2.2.2.2.2.2.2.2.2.2.2.2.2.2.1 k3_h8 k3_h9 k3_h10
theorem k3_off141_inb : ∀ (i : grid3.Coords) (k3_t2 : Fin (k3_t2_loop i).trips) (arg16 : BitVec 32) (v163 : BitVec 32) (v170 : BitVec 32) (arg34 : BitVec 32) (v191 : BitVec 32) (k3_hw9 : k3_chk9 i k3_t2 arg16 v163 v170 arg34 v191), ∀ (k3_h8 : k3_cond8 i k3_t2 = 1#1), ∀ (k3_h9 : ¬(k3_cond9 arg16 v163 v170 = 1#1)), ∀ (k3_h10 : k3_cond10 arg34 v191 = 1#1), ∀ a, (k3_off141 arg34) a + S1x16.size a ≤ S256x256.size a := fun i k3_t2 arg16 v163 v170 arg34 v191 k3_hw9 k3_h8 k3_h9 k3_h10 => k3_hw9.2.2.2.2.2.2.2.2.2.2.2.2.2.2.2 k3_h8 k3_h9 k3_h10

def k3_off142 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v196 : Index := Scalar.indexCast arg33
  let c0_67 : Index := 0#32
  ![v196.toNat, 0]
def k3_off143 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v199 : Index := Scalar.indexCast arg33
  let c16_68 : Index := 16#32
  ![v199.toNat, 16]
def k3_off144 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v202 : Index := Scalar.indexCast arg33
  let c32_69 : Index := 32#32
  ![v202.toNat, 32]
def k3_off145 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v205 : Index := Scalar.indexCast arg33
  let c48_70 : Index := 48#32
  ![v205.toNat, 48]
def k3_off146 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v208 : Index := Scalar.indexCast arg33
  let c64_71 : Index := 64#32
  ![v208.toNat, 64]
def k3_off147 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v211 : Index := Scalar.indexCast arg33
  let c80_72 : Index := 80#32
  ![v211.toNat, 80]
def k3_off148 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v214 : Index := Scalar.indexCast arg33
  let c96_73 : Index := 96#32
  ![v214.toNat, 96]
def k3_off149 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v217 : Index := Scalar.indexCast arg33
  let c112_74 : Index := 112#32
  ![v217.toNat, 112]
def k3_off150 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v220 : Index := Scalar.indexCast arg33
  let c128_75 : Index := 128#32
  ![v220.toNat, 128]
def k3_off151 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v223 : Index := Scalar.indexCast arg33
  let c144_76 : Index := 144#32
  ![v223.toNat, 144]
def k3_off152 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v226 : Index := Scalar.indexCast arg33
  let c160_77 : Index := 160#32
  ![v226.toNat, 160]
def k3_off153 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v229 : Index := Scalar.indexCast arg33
  let c176_78 : Index := 176#32
  ![v229.toNat, 176]
def k3_off154 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v232 : Index := Scalar.indexCast arg33
  let c192_79 : Index := 192#32
  ![v232.toNat, 192]
def k3_off155 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v235 : Index := Scalar.indexCast arg33
  let c208_80 : Index := 208#32
  ![v235.toNat, 208]
def k3_off156 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v238 : Index := Scalar.indexCast arg33
  let c224_81 : Index := 224#32
  ![v238.toNat, 224]
def k3_off157 (k3_t6 : Fin k3_t6_loop.trips) (k3_t7 : Fin (k3_t7_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c1_i32_62 : BitVec 32 := 1#32
  let arg33 : BitVec 32 := Scf.iv v155 c1_i32_62 k3_t7
  let v241 : Index := Scalar.indexCast arg33
  let c240_82 : Index := 240#32
  ![v241.toNat, 240]
@[reducible] def k3_t8_loop (k3_t6 : Fin k3_t6_loop.trips) : Scf.Loop 32 :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let v178 : BitVec 32 := Scalar.addi v155 v177
  let c1_i32_63 : BitVec 32 := 1#32
  ⟨v181, v178, c1_i32_63⟩

def k3_chk10 (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (v184 : IVec S16 32) : Prop :=
  (∀ (k3_h8 : k3_cond8 i k3_t2 = 1#1), ∀ (k3_h9 : ¬(k3_cond9 arg16 v163 v170 = 1#1)), ∀ a x, ((![v184] : Fin 1 → IVec S16 32) a x).toNat < S128.size a)
theorem k3_idx6_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (v184 : IVec S16 32) (k3_hw10 : k3_chk10 i k3_t2 k3_t6 arg16 v163 v170 k3_t8 v184), ∀ (k3_h8 : k3_cond8 i k3_t2 = 1#1), ∀ (k3_h9 : ¬(k3_cond9 arg16 v163 v170 = 1#1)), ∀ a x, ((![v184] : Fin 1 → IVec S16 32) a x).toNat < S128.size a := fun i k3_t2 k3_t6 arg16 v163 v170 k3_t8 v184 k3_hw10 k3_h8 k3_h9 => k3_hw10 k3_h8 k3_h9
def k3_off158 (arg34 : BitVec 32) : Fin 2 → Nat :=
  let v244 : Index := Scalar.indexCast arg34
  let c0_83 : Index := 0#32
  ![v244.toNat, 0]
def k3_cond11 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off159 (arg34 : BitVec 32) : Fin 2 → Nat :=
  let v249 : Index := Scalar.indexCast arg34
  let c16_85 : Index := 16#32
  ![v249.toNat, 16]
def k3_off160 (arg34 : BitVec 32) : Fin 2 → Nat :=
  let v254 : Index := Scalar.indexCast arg34
  let c32_87 : Index := 32#32
  ![v254.toNat, 32]
def k3_off161 (arg34 : BitVec 32) : Fin 2 → Nat :=
  let v259 : Index := Scalar.indexCast arg34
  let c48_89 : Index := 48#32
  ![v259.toNat, 48]
def k3_off162 (arg34 : BitVec 32) : Fin 2 → Nat :=
  let v264 : Index := Scalar.indexCast arg34
  let c64_91 : Index := 64#32
  ![v264.toNat, 64]
def k3_off163 (arg34 : BitVec 32) : Fin 2 → Nat :=
  let v269 : Index := Scalar.indexCast arg34
  let c80_93 : Index := 80#32
  ![v269.toNat, 80]
def k3_off164 (arg34 : BitVec 32) : Fin 2 → Nat :=
  let v274 : Index := Scalar.indexCast arg34
  let c96_95 : Index := 96#32
  ![v274.toNat, 96]
def k3_off165 (arg34 : BitVec 32) : Fin 2 → Nat :=
  let v279 : Index := Scalar.indexCast arg34
  let c112_97 : Index := 112#32
  ![v279.toNat, 112]
def k3_off166 (arg34 : BitVec 32) : Fin 2 → Nat :=
  let v284 : Index := Scalar.indexCast arg34
  let c128_99 : Index := 128#32
  ![v284.toNat, 128]
def k3_off167 (arg34 : BitVec 32) : Fin 2 → Nat :=
  let v289 : Index := Scalar.indexCast arg34
  let c144_101 : Index := 144#32
  ![v289.toNat, 144]
def k3_off168 (arg34 : BitVec 32) : Fin 2 → Nat :=
  let v294 : Index := Scalar.indexCast arg34
  let c160_103 : Index := 160#32
  ![v294.toNat, 160]
def k3_off169 (arg34 : BitVec 32) : Fin 2 → Nat :=
  let v299 : Index := Scalar.indexCast arg34
  let c176_105 : Index := 176#32
  ![v299.toNat, 176]
def k3_off170 (arg34 : BitVec 32) : Fin 2 → Nat :=
  let v304 : Index := Scalar.indexCast arg34
  let c192_107 : Index := 192#32
  ![v304.toNat, 192]
def k3_off171 (arg34 : BitVec 32) : Fin 2 → Nat :=
  let v309 : Index := Scalar.indexCast arg34
  let c208_109 : Index := 208#32
  ![v309.toNat, 208]
def k3_off172 (arg34 : BitVec 32) : Fin 2 → Nat :=
  let v314 : Index := Scalar.indexCast arg34
  let c224_111 : Index := 224#32
  ![v314.toNat, 224]
def k3_off173 (arg34 : BitVec 32) : Fin 2 → Nat :=
  let v319 : Index := Scalar.indexCast arg34
  let c240_113 : Index := 240#32
  ![v319.toNat, 240]

def k3_chk11 (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) : Prop :=
  (∀ (k3_h8 : k3_cond8 i k3_t2 = 1#1), ∀ (k3_h9 : ¬(k3_cond9 arg16 v163 v170 = 1#1)), ∀ (k3_h11 : k3_cond11 arg34 v191 = 1#1), ∀ a, (k3_off158 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off159 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off160 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off161 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off162 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off163 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off164 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off165 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off166 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off167 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off168 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off169 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off170 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off171 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off172 arg34) a + S1x16.size a ≤ S256x256.size a) ∧
  (∀ (k3_h8 : k3_cond8 i k3_t2 = 1#1), ∀ (k3_h9 : ¬(k3_cond9 arg16 v163 v170 = 1#1)), ∀ (k3_h11 : k3_cond11 arg34 v191 = 1#1), ∀ a, (k3_off173 arg34) a + S1x16.size a ≤ S256x256.size a)
theorem k3_off158_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off158 arg34) a + S1x16.size a ≤ S256x256.size a := fun i k3_t2 k3_t6 arg16 v163 v170 k3_t8 arg34 v191 k3_hw11 k3_h8 k3_h9 k3_h11 => k3_hw11.1 k3_h8 k3_h9 k3_h11
theorem k3_off159_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off159 arg34) a + S1x16.size a ≤ S256x256.size a := fun i k3_t2 k3_t6 arg16 v163 v170 k3_t8 arg34 v191 k3_hw11 k3_h8 k3_h9 k3_h11 => k3_hw11.2.1 k3_h8 k3_h9 k3_h11
theorem k3_off160_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off160 arg34) a + S1x16.size a ≤ S256x256.size a := fun i k3_t2 k3_t6 arg16 v163 v170 k3_t8 arg34 v191 k3_hw11 k3_h8 k3_h9 k3_h11 => k3_hw11.2.2.1 k3_h8 k3_h9 k3_h11
theorem k3_off161_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off161 arg34) a + S1x16.size a ≤ S256x256.size a := fun i k3_t2 k3_t6 arg16 v163 v170 k3_t8 arg34 v191 k3_hw11 k3_h8 k3_h9 k3_h11 => k3_hw11.2.2.2.1 k3_h8 k3_h9 k3_h11
theorem k3_off162_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off162 arg34) a + S1x16.size a ≤ S256x256.size a := fun i k3_t2 k3_t6 arg16 v163 v170 k3_t8 arg34 v191 k3_hw11 k3_h8 k3_h9 k3_h11 => k3_hw11.2.2.2.2.1 k3_h8 k3_h9 k3_h11
theorem k3_off163_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off163 arg34) a + S1x16.size a ≤ S256x256.size a := fun i k3_t2 k3_t6 arg16 v163 v170 k3_t8 arg34 v191 k3_hw11 k3_h8 k3_h9 k3_h11 => k3_hw11.2.2.2.2.2.1 k3_h8 k3_h9 k3_h11
theorem k3_off164_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off164 arg34) a + S1x16.size a ≤ S256x256.size a := fun i k3_t2 k3_t6 arg16 v163 v170 k3_t8 arg34 v191 k3_hw11 k3_h8 k3_h9 k3_h11 => k3_hw11.2.2.2.2.2.2.1 k3_h8 k3_h9 k3_h11
theorem k3_off165_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off165 arg34) a + S1x16.size a ≤ S256x256.size a := fun i k3_t2 k3_t6 arg16 v163 v170 k3_t8 arg34 v191 k3_hw11 k3_h8 k3_h9 k3_h11 => k3_hw11.2.2.2.2.2.2.2.1 k3_h8 k3_h9 k3_h11
theorem k3_off166_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off166 arg34) a + S1x16.size a ≤ S256x256.size a := fun i k3_t2 k3_t6 arg16 v163 v170 k3_t8 arg34 v191 k3_hw11 k3_h8 k3_h9 k3_h11 => k3_hw11.2.2.2.2.2.2.2.2.1 k3_h8 k3_h9 k3_h11
theorem k3_off167_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off167 arg34) a + S1x16.size a ≤ S256x256.size a := fun i k3_t2 k3_t6 arg16 v163 v170 k3_t8 arg34 v191 k3_hw11 k3_h8 k3_h9 k3_h11 => k3_hw11.2.2.2.2.2.2.2.2.2.1 k3_h8 k3_h9 k3_h11
theorem k3_off168_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off168 arg34) a + S1x16.size a ≤ S256x256.size a := fun i k3_t2 k3_t6 arg16 v163 v170 k3_t8 arg34 v191 k3_hw11 k3_h8 k3_h9 k3_h11 => k3_hw11.2.2.2.2.2.2.2.2.2.2.1 k3_h8 k3_h9 k3_h11
theorem k3_off169_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off169 arg34) a + S1x16.size a ≤ S256x256.size a := fun i k3_t2 k3_t6 arg16 v163 v170 k3_t8 arg34 v191 k3_hw11 k3_h8 k3_h9 k3_h11 => k3_hw11.2.2.2.2.2.2.2.2.2.2.2.1 k3_h8 k3_h9 k3_h11
theorem k3_off170_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off170 arg34) a + S1x16.size a ≤ S256x256.size a := fun i k3_t2 k3_t6 arg16 v163 v170 k3_t8 arg34 v191 k3_hw11 k3_h8 k3_h9 k3_h11 => k3_hw11.2.2.2.2.2.2.2.2.2.2.2.2.1 k3_h8 k3_h9 k3_h11
theorem k3_off171_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off171 arg34) a + S1x16.size a ≤ S256x256.size a := fun i k3_t2 k3_t6 arg16 v163 v170 k3_t8 arg34 v191 k3_hw11 k3_h8 k3_h9 k3_h11 => k3_hw11.2.2.2.2.2.2.2.2.2.2.2.2.2.1 k3_h8 k3_h9 k3_h11
theorem k3_off172_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off172 arg34) a + S1x16.size a ≤ S256x256.size a := fun i k3_t2 k3_t6 arg16 v163 v170 k3_t8 arg34 v191 k3_hw11 k3_h8 k3_h9 k3_h11 => k3_hw11.2.2.2.2.2.2.2.2.2.2.2.2.2.2.1 k3_h8 k3_h9 k3_h11
theorem k3_off173_inb : ∀ (i : grid3.Coords) (k3_t2 : Fin (k3_t2_loop i).trips) (k3_t6 : Fin k3_t6_loop.trips) (arg16 : BitVec 32) (v163 : BitVec 32) (v170 : BitVec 32) (k3_t8 : Fin (k3_t8_loop k3_t6).trips) (arg34 : BitVec 32) (v191 : BitVec 32) (k3_hw11 : k3_chk11 i k3_t2 k3_t6 arg16 v163 v170 k3_t8 arg34 v191), ∀ (k3_h8 : k3_cond8 i k3_t2 = 1#1), ∀ (k3_h9 : ¬(k3_cond9 arg16 v163 v170 = 1#1)), ∀ (k3_h11 : k3_cond11 arg34 v191 = 1#1), ∀ a, (k3_off173 arg34) a + S1x16.size a ≤ S256x256.size a := fun i k3_t2 k3_t6 arg16 v163 v170 k3_t8 arg34 v191 k3_hw11 k3_h8 k3_h9 k3_h11 => k3_hw11.2.2.2.2.2.2.2.2.2.2.2.2.2.2.2 k3_h8 k3_h9 k3_h11

def k3_off174 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v196 : Index := Scalar.indexCast arg33
  let c0_67 : Index := 0#32
  ![v196.toNat, 0]
def k3_off175 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v199 : Index := Scalar.indexCast arg33
  let c16_68 : Index := 16#32
  ![v199.toNat, 16]
def k3_off176 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v202 : Index := Scalar.indexCast arg33
  let c32_69 : Index := 32#32
  ![v202.toNat, 32]
def k3_off177 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v205 : Index := Scalar.indexCast arg33
  let c48_70 : Index := 48#32
  ![v205.toNat, 48]
def k3_off178 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v208 : Index := Scalar.indexCast arg33
  let c64_71 : Index := 64#32
  ![v208.toNat, 64]
def k3_off179 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v211 : Index := Scalar.indexCast arg33
  let c80_72 : Index := 80#32
  ![v211.toNat, 80]
def k3_off180 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v214 : Index := Scalar.indexCast arg33
  let c96_73 : Index := 96#32
  ![v214.toNat, 96]
def k3_off181 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v217 : Index := Scalar.indexCast arg33
  let c112_74 : Index := 112#32
  ![v217.toNat, 112]
def k3_off182 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v220 : Index := Scalar.indexCast arg33
  let c128_75 : Index := 128#32
  ![v220.toNat, 128]
def k3_off183 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v223 : Index := Scalar.indexCast arg33
  let c144_76 : Index := 144#32
  ![v223.toNat, 144]
def k3_off184 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v226 : Index := Scalar.indexCast arg33
  let c160_77 : Index := 160#32
  ![v226.toNat, 160]
def k3_off185 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v229 : Index := Scalar.indexCast arg33
  let c176_78 : Index := 176#32
  ![v229.toNat, 176]
def k3_off186 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v232 : Index := Scalar.indexCast arg33
  let c192_79 : Index := 192#32
  ![v232.toNat, 192]
def k3_off187 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v235 : Index := Scalar.indexCast arg33
  let c208_80 : Index := 208#32
  ![v235.toNat, 208]
def k3_off188 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v238 : Index := Scalar.indexCast arg33
  let c224_81 : Index := 224#32
  ![v238.toNat, 224]
def k3_off189 (k3_t6 : Fin k3_t6_loop.trips) (k3_t8 : Fin (k3_t8_loop k3_t6).trips) : Fin 2 → Nat :=
  let c0_i32_34 : BitVec 32 := 0#32
  let c1_i32_35 : BitVec 32 := 1#32
  let arg15 : BitVec 32 := Scf.iv c0_i32_34 c1_i32_35 k3_t6
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t8
  let v241 : Index := Scalar.indexCast arg33
  let c240_82 : Index := 240#32
  ![v241.toNat, 240]
def k3_off190 (v70_0 : BitVec 32) : Fin 2 → Nat :=
  let v71 : Index := Scalar.indexCast v70_0
  let c0 : Index := 0#32
  ![v71.toNat, 0]

def k3_off191 (v70_0 : BitVec 32) : Fin 2 → Nat :=
  let v76 : Index := Scalar.indexCast v70_0
  let c16 : Index := 16#32
  ![v76.toNat, 16]
def k3_off192 (v70_0 : BitVec 32) : Fin 2 → Nat :=
  let v81 : Index := Scalar.indexCast v70_0
  let c32 : Index := 32#32
  ![v81.toNat, 32]
def k3_off193 (v70_0 : BitVec 32) : Fin 2 → Nat :=
  let v86 : Index := Scalar.indexCast v70_0
  let c48 : Index := 48#32
  ![v86.toNat, 48]
def k3_off194 (v70_0 : BitVec 32) : Fin 2 → Nat :=
  let v91 : Index := Scalar.indexCast v70_0
  let c64 : Index := 64#32
  ![v91.toNat, 64]
def k3_off195 (v70_0 : BitVec 32) : Fin 2 → Nat :=
  let v96 : Index := Scalar.indexCast v70_0
  let c80 : Index := 80#32
  ![v96.toNat, 80]
def k3_off196 (v70_0 : BitVec 32) : Fin 2 → Nat :=
  let v101 : Index := Scalar.indexCast v70_0
  let c96 : Index := 96#32
  ![v101.toNat, 96]
def k3_off197 (v70_0 : BitVec 32) : Fin 2 → Nat :=
  let v106 : Index := Scalar.indexCast v70_0
  let c112 : Index := 112#32
  ![v106.toNat, 112]
def k3_off198 (v70_0 : BitVec 32) : Fin 2 → Nat :=
  let v111 : Index := Scalar.indexCast v70_0
  let c128 : Index := 128#32
  ![v111.toNat, 128]
def k3_off199 (v70_0 : BitVec 32) : Fin 2 → Nat :=
  let v116 : Index := Scalar.indexCast v70_0
  let c144 : Index := 144#32
  ![v116.toNat, 144]
def k3_off200 (v70_0 : BitVec 32) : Fin 2 → Nat :=
  let v121 : Index := Scalar.indexCast v70_0
  let c160 : Index := 160#32
  ![v121.toNat, 160]
def k3_off201 (v70_0 : BitVec 32) : Fin 2 → Nat :=
  let v126 : Index := Scalar.indexCast v70_0
  let c176 : Index := 176#32
  ![v126.toNat, 176]
def k3_off202 (v70_0 : BitVec 32) : Fin 2 → Nat :=
  let v131 : Index := Scalar.indexCast v70_0
  let c192 : Index := 192#32
  ![v131.toNat, 192]
def k3_off203 (v70_0 : BitVec 32) : Fin 2 → Nat :=
  let v136 : Index := Scalar.indexCast v70_0
  let c208 : Index := 208#32
  ![v136.toNat, 208]
def k3_off204 (v70_0 : BitVec 32) : Fin 2 → Nat :=
  let v141 : Index := Scalar.indexCast v70_0
  let c224 : Index := 224#32
  ![v141.toNat, 224]
def k3_off205 (v70_0 : BitVec 32) : Fin 2 → Nat :=
  let v146 : Index := Scalar.indexCast v70_0
  let c240 : Index := 240#32
  ![v146.toNat, 240]

def k3_chk12 (i : grid3.Coords) (k3_t2 : Fin (k3_t2_loop i).trips) (v70_0 : BitVec 32) : Prop :=
  (∀ (k3_h8 : k3_cond8 i k3_t2 = 1#1), ∀ a, (k3_off190 v70_0) a + S1x16.size a ≤ S256x256.size a) ∧
  (∀ (k3_h8 : k3_cond8 i k3_t2 = 1#1), ∀ a, (k3_off191 v70_0) a + S1x16.size a ≤ S256x256.size a) ∧
  (∀ (k3_h8 : k3_cond8 i k3_t2 = 1#1), ∀ a, (k3_off192 v70_0) a + S1x16.size a ≤ S256x256.size a) ∧
  (∀ (k3_h8 : k3_cond8 i k3_t2 = 1#1), ∀ a, (k3_off193 v70_0) a + S1x16.size a ≤ S256x256.size a) ∧
  (∀ (k3_h8 : k3_cond8 i k3_t2 = 1#1), ∀ a, (k3_off194 v70_0) a + S1x16.size a ≤ S256x256.size a) ∧
  (∀ (k3_h8 : k3_cond8 i k3_t2 = 1#1), ∀ a, (k3_off195 v70_0) a + S1x16.size a ≤ S256x256.size a) ∧
  (∀ (k3_h8 : k3_cond8 i k3_t2 = 1#1), ∀ a, (k3_off196 v70_0) a + S1x16.size a ≤ S256x256.size a) ∧
  (∀ (k3_h8 : k3_cond8 i k3_t2 = 1#1), ∀ a, (k3_off197 v70_0) a + S1x16.size a ≤ S256x256.size a) ∧
  (∀ (k3_h8 : k3_cond8 i k3_t2 = 1#1), ∀ a, (k3_off198 v70_0) a + S1x16.size a ≤ S256x256.size a) ∧
  (∀ (k3_h8 : k3_cond8 i k3_t2 = 1#1), ∀ a, (k3_off199 v70_0) a + S1x16.size a ≤ S256x256.size a) ∧
  (∀ (k3_h8 : k3_cond8 i k3_t2 = 1#1), ∀ a, (k3_off200 v70_0) a + S1x16.size a ≤ S256x256.size a) ∧
  (∀ (k3_h8 : k3_cond8 i k3_t2 = 1#1), ∀ a, (k3_off201 v70_0) a + S1x16.size a ≤ S256x256.size a) ∧
  (∀ (k3_h8 : k3_cond8 i k3_t2 = 1#1), ∀ a, (k3_off202 v70_0) a + S1x16.size a ≤ S256x256.size a) ∧
  (∀ (k3_h8 : k3_cond8 i k3_t2 = 1#1), ∀ a, (k3_off203 v70_0) a + S1x16.size a ≤ S256x256.size a) ∧
  (∀ (k3_h8 : k3_cond8 i k3_t2 = 1#1), ∀ a, (k3_off204 v70_0) a + S1x16.size a ≤ S256x256.size a) ∧
  (∀ (k3_h8 : k3_cond8 i k3_t2 = 1#1), ∀ a, (k3_off205 v70_0) a + S1x16.size a ≤ S256x256.size a)
theorem k3_off190_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off190 v70_0) a + S1x16.size a ≤ S256x256.size a := fun i k3_t2 v70_0 k3_hw12 k3_h8 => k3_hw12.1 k3_h8
theorem k3_off191_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off191 v70_0) a + S1x16.size a ≤ S256x256.size a := fun i k3_t2 v70_0 k3_hw12 k3_h8 => k3_hw12.2.1 k3_h8
theorem k3_off192_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off192 v70_0) a + S1x16.size a ≤ S256x256.size a := fun i k3_t2 v70_0 k3_hw12 k3_h8 => k3_hw12.2.2.1 k3_h8
theorem k3_off193_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off193 v70_0) a + S1x16.size a ≤ S256x256.size a := fun i k3_t2 v70_0 k3_hw12 k3_h8 => k3_hw12.2.2.2.1 k3_h8
theorem k3_off194_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off194 v70_0) a + S1x16.size a ≤ S256x256.size a := fun i k3_t2 v70_0 k3_hw12 k3_h8 => k3_hw12.2.2.2.2.1 k3_h8
theorem k3_off195_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off195 v70_0) a + S1x16.size a ≤ S256x256.size a := fun i k3_t2 v70_0 k3_hw12 k3_h8 => k3_hw12.2.2.2.2.2.1 k3_h8
theorem k3_off196_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off196 v70_0) a + S1x16.size a ≤ S256x256.size a := fun i k3_t2 v70_0 k3_hw12 k3_h8 => k3_hw12.2.2.2.2.2.2.1 k3_h8
theorem k3_off197_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off197 v70_0) a + S1x16.size a ≤ S256x256.size a := fun i k3_t2 v70_0 k3_hw12 k3_h8 => k3_hw12.2.2.2.2.2.2.2.1 k3_h8
theorem k3_off198_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off198 v70_0) a + S1x16.size a ≤ S256x256.size a := fun i k3_t2 v70_0 k3_hw12 k3_h8 => k3_hw12.2.2.2.2.2.2.2.2.1 k3_h8
theorem k3_off199_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off199 v70_0) a + S1x16.size a ≤ S256x256.size a := fun i k3_t2 v70_0 k3_hw12 k3_h8 => k3_hw12.2.2.2.2.2.2.2.2.2.1 k3_h8
theorem k3_off200_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off200 v70_0) a + S1x16.size a ≤ S256x256.size a := fun i k3_t2 v70_0 k3_hw12 k3_h8 => k3_hw12.2.2.2.2.2.2.2.2.2.2.1 k3_h8
theorem k3_off201_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off201 v70_0) a + S1x16.size a ≤ S256x256.size a := fun i k3_t2 v70_0 k3_hw12 k3_h8 => k3_hw12.2.2.2.2.2.2.2.2.2.2.2.1 k3_h8
theorem k3_off202_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off202 v70_0) a + S1x16.size a ≤ S256x256.size a := fun i k3_t2 v70_0 k3_hw12 k3_h8 => k3_hw12.2.2.2.2.2.2.2.2.2.2.2.2.1 k3_h8
theorem k3_off203_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off203 v70_0) a + S1x16.size a ≤ S256x256.size a := fun i k3_t2 v70_0 k3_hw12 k3_h8 => k3_hw12.2.2.2.2.2.2.2.2.2.2.2.2.2.1 k3_h8
theorem k3_off204_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off204 v70_0) a + S1x16.size a ≤ S256x256.size a := fun i k3_t2 v70_0 k3_hw12 k3_h8 => k3_hw12.2.2.2.2.2.2.2.2.2.2.2.2.2.2.1 k3_h8
theorem k3_off205_inb : ∀ (i : grid3.Coords) (k3_t2 : Fin (k3_t2_loop i).trips) (v70_0 : BitVec 32) (k3_hw12 : k3_chk12 i k3_t2 v70_0), ∀ (k3_h8 : k3_cond8 i k3_t2 = 1#1), ∀ a, (k3_off205 v70_0) a + S1x16.size a ≤ S256x256.size a := fun i k3_t2 v70_0 k3_hw12 k3_h8 => k3_hw12.2.2.2.2.2.2.2.2.2.2.2.2.2.2.2 k3_h8

def k3_cond12 (i : grid3.Coords) (k3_t2 : Fin (k3_t2_loop i).trips) : BitVec 1 :=
  let c0_i32_16 : BitVec 32 := 0#32
  let c1_i32_18 : BitVec 32 := 1#32
  let arg14 : BitVec 32 := Scf.iv c0_i32_16 c1_i32_18 k3_t2
  let c2_i32_28 : BitVec 32 := 2#32
  let v47 : BitVec 32 := Scalar.muli arg14 c2_i32_28
  let c1_i32_29 : BitVec 32 := 1#32
  let v48 : BitVec 32 := Scalar.addi v47 c1_i32_29
  let c2_i32_53 : BitVec 32 := 2#32
  let v151 : BitVec 32 := Scalar.addi v48 c2_i32_53
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let v152 : BitVec 1 := Scalar.cmpi .slt v151 v2
  let v153 : BitVec 32 := Scalar.extui v152
  let c0_i32_54 : BitVec 32 := 0#32
  let v154 : BitVec 1 := Scalar.cmpi .ne v153 c0_i32_54
  v154

def k3_off206 (i : grid3.Coords) (k3_t2 : Fin (k3_t2_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_28 : BitVec 32 := 2#32
  let v47 : BitVec 32 := Scalar.muli arg14 c2_i32_28
  let c1_i32_29 : BitVec 32 := 1#32
  let v48 : BitVec 32 := Scalar.addi v47 c1_i32_29
  let c2_i32_55 : BitVec 32 := 2#32
  let v155 : BitVec 32 := Scalar.addi v48 c2_i32_55
  let c112_i32_56 : BitVec 32 := 112#32
  let v156 : BitVec 32 := Scalar.muli v155 c112_i32_56
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k3_off207 (i : grid3.Coords) (k3_t2 : Fin (k3_t2_loop i).trips) : Fin 1 → Nat :=
  let c50000_i32_57 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c1_i32_18 : BitVec 32 := 1#32
  let arg14 : BitVec 32 := Scf.iv c0_i32_16 c1_i32_18 k3_t2
  let c2_i32_28 : BitVec 32 := 2#32
  let v47 : BitVec 32 := Scalar.muli arg14 c2_i32_28
  let c1_i32_29 : BitVec 32 := 1#32
  let v48 : BitVec 32 := Scalar.addi v47 c1_i32_29
  let c2_i32_55 : BitVec 32 := 2#32
  let v155 : BitVec 32 := Scalar.addi v48 c2_i32_55
  let c112_i32_56 : BitVec 32 := 112#32
  let v156 : BitVec 32 := Scalar.muli v155 c112_i32_56
  let v157 : BitVec 32 := Scalar.addi v0 v156
  let v160 : BitVec 32 := Scalar.addi c50000_i32_57 v157
  ![v160.toNat]
@[reducible] def k3_t9_loop (i : grid3.Coords) : Scf.Loop 32 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let v33 : BitVec 32 := Scalar.addi c0_i32_16 v32
  let c1_i32_19 : BitVec 32 := 1#32
  ⟨v36, v33, c1_i32_19⟩
def k3_cond13 (i : grid3.Coords) (k3_t9 : Fin (k3_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_25 : BitVec 32 := 2#32
  let v42 : BitVec 32 := Scalar.muli arg14 c2_i32_25
  let c0_i32_26 : BitVec 32 := 0#32
  let v43 : BitVec 32 := Scalar.addi v42 c0_i32_26
  let v44 : BitVec 1 := Scalar.cmpi .slt v43 v2
  let v45 : BitVec 32 := Scalar.extui v44
  let c0_i32_27 : BitVec 32 := 0#32
  let v46 : BitVec 1 := Scalar.cmpi .ne v45 c0_i32_27
  v46

def k3_off208 (i : grid3.Coords) (k3_t9 : Fin (k3_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k3_off209 (i : grid3.Coords) (k3_t9 : Fin (k3_t9_loop i).trips) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_25 : BitVec 32 := 2#32
  let v42 : BitVec 32 := Scalar.muli arg14 c2_i32_25
  let c0_i32_26 : BitVec 32 := 0#32
  let v43 : BitVec 32 := Scalar.addi v42 c0_i32_26
  let c112_i32 : BitVec 32 := 112#32
  let v52 : BitVec 32 := Scalar.muli v43 c112_i32
  let v53 : BitVec 32 := Scalar.addi v0 v52
  let v56 : BitVec 32 := Scalar.addi c50000_i32 v53
  ![v56.toNat]

def k3_chk13 (i : grid3.Coords) (k3_t9 : Fin (k3_t9_loop i).trips) (v61 : IVec S16 32) : Prop :=
  (∀ (k3_h13 : k3_cond13 i k3_t9 = 1#1), ∀ a x, ((![v61] : Fin 1 → IVec S16 32) a x).toNat < S128.size a)
theorem k3_idx7_inb : ∀ (i : grid3.Coords) (k3_t9 : Fin (k3_t9_loop i).trips) (v61 : IVec S16 32) (k3_hw13 : k3_chk13 i k3_t9 v61), ∀ (k3_h13 : k3_cond13 i k3_t9 = 1#1), ∀ a x, ((![v61] : Fin 1 → IVec S16 32) a x).toNat < S128.size a := fun i k3_t9 v61 k3_hw13 k3_h13 => k3_hw13 k3_h13
@[reducible] def k3_t10_loop : Scf.Loop 32 :=
  let c0_i32_34 : BitVec 32 := 0#32
  let c7_i32 : BitVec 32 := 7#32
  let v69 : BitVec 32 := Scalar.addi c0_i32_34 c7_i32
  let c1_i32_35 : BitVec 32 := 1#32
  ⟨c0_i32_34, v69, c1_i32_35⟩
def k3_off210 (k3_t10 : Fin k3_t10_loop.trips) : Fin 1 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v156 : Index := Scalar.indexCast v155
  ![v156.toNat]
def k3_off211 (k3_t10 : Fin k3_t10_loop.trips) (c0_i32_60 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v176 : BitVec 32 := Scalar.addi v155 c0_i32_60
  let v177 : Index := Scalar.indexCast v176
  let c0_61 : Index := 0#32
  ![v177.toNat, 0]
def k3_off212 (k3_t10 : Fin k3_t10_loop.trips) (c0_i32_62 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v180 : BitVec 32 := Scalar.addi v155 c0_i32_62
  let v181 : Index := Scalar.indexCast v180
  let c16_63 : Index := 16#32
  ![v181.toNat, 16]
def k3_off213 (k3_t10 : Fin k3_t10_loop.trips) (c0_i32_64 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v184 : BitVec 32 := Scalar.addi v155 c0_i32_64
  let v185 : Index := Scalar.indexCast v184
  let c32_65 : Index := 32#32
  ![v185.toNat, 32]
def k3_off214 (k3_t10 : Fin k3_t10_loop.trips) (c0_i32_66 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v188 : BitVec 32 := Scalar.addi v155 c0_i32_66
  let v189 : Index := Scalar.indexCast v188
  let c48_67 : Index := 48#32
  ![v189.toNat, 48]
def k3_off215 (k3_t10 : Fin k3_t10_loop.trips) (c0_i32_68 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v192 : BitVec 32 := Scalar.addi v155 c0_i32_68
  let v193 : Index := Scalar.indexCast v192
  let c64_69 : Index := 64#32
  ![v193.toNat, 64]
def k3_off216 (k3_t10 : Fin k3_t10_loop.trips) (c0_i32_70 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v196 : BitVec 32 := Scalar.addi v155 c0_i32_70
  let v197 : Index := Scalar.indexCast v196
  let c80_71 : Index := 80#32
  ![v197.toNat, 80]
def k3_off217 (k3_t10 : Fin k3_t10_loop.trips) (c0_i32_72 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v200 : BitVec 32 := Scalar.addi v155 c0_i32_72
  let v201 : Index := Scalar.indexCast v200
  let c96_73 : Index := 96#32
  ![v201.toNat, 96]
def k3_off218 (k3_t10 : Fin k3_t10_loop.trips) (c0_i32_74 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v204 : BitVec 32 := Scalar.addi v155 c0_i32_74
  let v205 : Index := Scalar.indexCast v204
  let c112_75 : Index := 112#32
  ![v205.toNat, 112]
def k3_off219 (k3_t10 : Fin k3_t10_loop.trips) (c0_i32_76 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v208 : BitVec 32 := Scalar.addi v155 c0_i32_76
  let v209 : Index := Scalar.indexCast v208
  let c128_77 : Index := 128#32
  ![v209.toNat, 128]
def k3_off220 (k3_t10 : Fin k3_t10_loop.trips) (c0_i32_78 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v212 : BitVec 32 := Scalar.addi v155 c0_i32_78
  let v213 : Index := Scalar.indexCast v212
  let c144_79 : Index := 144#32
  ![v213.toNat, 144]
def k3_off221 (k3_t10 : Fin k3_t10_loop.trips) (c0_i32_80 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v216 : BitVec 32 := Scalar.addi v155 c0_i32_80
  let v217 : Index := Scalar.indexCast v216
  let c160_81 : Index := 160#32
  ![v217.toNat, 160]
def k3_off222 (k3_t10 : Fin k3_t10_loop.trips) (c0_i32_82 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v220 : BitVec 32 := Scalar.addi v155 c0_i32_82
  let v221 : Index := Scalar.indexCast v220
  let c176_83 : Index := 176#32
  ![v221.toNat, 176]
def k3_off223 (k3_t10 : Fin k3_t10_loop.trips) (c0_i32_84 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v224 : BitVec 32 := Scalar.addi v155 c0_i32_84
  let v225 : Index := Scalar.indexCast v224
  let c192_85 : Index := 192#32
  ![v225.toNat, 192]
def k3_off224 (k3_t10 : Fin k3_t10_loop.trips) (c0_i32_86 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v228 : BitVec 32 := Scalar.addi v155 c0_i32_86
  let v229 : Index := Scalar.indexCast v228
  let c208_87 : Index := 208#32
  ![v229.toNat, 208]
def k3_off225 (k3_t10 : Fin k3_t10_loop.trips) (c0_i32_88 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v232 : BitVec 32 := Scalar.addi v155 c0_i32_88
  let v233 : Index := Scalar.indexCast v232
  let c224_89 : Index := 224#32
  ![v233.toNat, 224]
def k3_off226 (k3_t10 : Fin k3_t10_loop.trips) (c0_i32_90 : BitVec 32) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let v236 : BitVec 32 := Scalar.addi v155 c0_i32_90
  let v237 : Index := Scalar.indexCast v236
  let c240_91 : Index := 240#32
  ![v237.toNat, 240]
@[reducible] def k3_t11_loop (k3_t10 : Fin k3_t10_loop.trips) : Scf.Loop 32 :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_62 : BitVec 32 := 1#32
  ⟨v155, v181, c1_i32_62⟩
def k3_cond14 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_59 : BitVec 32 := 0#32
  let v174 : BitVec 1 := Scalar.cmpi .ne v173 c0_i32_59
  v174

def k3_chk14 (i : grid3.Coords) (k3_t9 : Fin (k3_t9_loop i).trips) (arg16 : BitVec 32) (v163 : BitVec 32) (v170 : BitVec 32) (v184 : IVec S16 32) : Prop :=
  (∀ (k3_h13 : k3_cond13 i k3_t9 = 1#1), ∀ (k3_h14 : ¬(k3_cond14 arg16 v163 v170 = 1#1)), ∀ a x, ((![v184] : Fin 1 → IVec S16 32) a x).toNat < S128.size a)
theorem k3_idx8_inb : ∀ (i : grid3.Coords) (k3_t9 : Fin (k3_t9_loop i).trips) (arg16 : BitVec 32) (v163 : BitVec 32) (v170 : BitVec 32) (v184 : IVec S16 32) (k3_hw14 : k3_chk14 i k3_t9 arg16 v163 v170 v184), ∀ (k3_h13 : k3_cond13 i k3_t9 = 1#1), ∀ (k3_h14 : ¬(k3_cond14 arg16 v163 v170 = 1#1)), ∀ a x, ((![v184] : Fin 1 → IVec S16 32) a x).toNat < S128.size a := fun i k3_t9 arg16 v163 v170 v184 k3_hw14 k3_h13 k3_h14 => k3_hw14 k3_h13 k3_h14
def k3_off227 (arg34 : BitVec 32) : Fin 2 → Nat :=
  let v244 : Index := Scalar.indexCast arg34
  let c0_83 : Index := 0#32
  ![v244.toNat, 0]
def k3_cond15 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off228 (arg34 : BitVec 32) : Fin 2 → Nat :=
  let v249 : Index := Scalar.indexCast arg34
  let c16_85 : Index := 16#32
  ![v249.toNat, 16]
def k3_off229 (arg34 : BitVec 32) : Fin 2 → Nat :=
  let v254 : Index := Scalar.indexCast arg34
  let c32_87 : Index := 32#32
  ![v254.toNat, 32]
def k3_off230 (arg34 : BitVec 32) : Fin 2 → Nat :=
  let v259 : Index := Scalar.indexCast arg34
  let c48_89 : Index := 48#32
  ![v259.toNat, 48]
def k3_off231 (arg34 : BitVec 32) : Fin 2 → Nat :=
  let v264 : Index := Scalar.indexCast arg34
  let c64_91 : Index := 64#32
  ![v264.toNat, 64]
def k3_off232 (arg34 : BitVec 32) : Fin 2 → Nat :=
  let v269 : Index := Scalar.indexCast arg34
  let c80_93 : Index := 80#32
  ![v269.toNat, 80]
def k3_off233 (arg34 : BitVec 32) : Fin 2 → Nat :=
  let v274 : Index := Scalar.indexCast arg34
  let c96_95 : Index := 96#32
  ![v274.toNat, 96]
def k3_off234 (arg34 : BitVec 32) : Fin 2 → Nat :=
  let v279 : Index := Scalar.indexCast arg34
  let c112_97 : Index := 112#32
  ![v279.toNat, 112]
def k3_off235 (arg34 : BitVec 32) : Fin 2 → Nat :=
  let v284 : Index := Scalar.indexCast arg34
  let c128_99 : Index := 128#32
  ![v284.toNat, 128]
def k3_off236 (arg34 : BitVec 32) : Fin 2 → Nat :=
  let v289 : Index := Scalar.indexCast arg34
  let c144_101 : Index := 144#32
  ![v289.toNat, 144]
def k3_off237 (arg34 : BitVec 32) : Fin 2 → Nat :=
  let v294 : Index := Scalar.indexCast arg34
  let c160_103 : Index := 160#32
  ![v294.toNat, 160]
def k3_off238 (arg34 : BitVec 32) : Fin 2 → Nat :=
  let v299 : Index := Scalar.indexCast arg34
  let c176_105 : Index := 176#32
  ![v299.toNat, 176]
def k3_off239 (arg34 : BitVec 32) : Fin 2 → Nat :=
  let v304 : Index := Scalar.indexCast arg34
  let c192_107 : Index := 192#32
  ![v304.toNat, 192]
def k3_off240 (arg34 : BitVec 32) : Fin 2 → Nat :=
  let v309 : Index := Scalar.indexCast arg34
  let c208_109 : Index := 208#32
  ![v309.toNat, 208]
def k3_off241 (arg34 : BitVec 32) : Fin 2 → Nat :=
  let v314 : Index := Scalar.indexCast arg34
  let c224_111 : Index := 224#32
  ![v314.toNat, 224]
def k3_off242 (arg34 : BitVec 32) : Fin 2 → Nat :=
  let v319 : Index := Scalar.indexCast arg34
  let c240_113 : Index := 240#32
  ![v319.toNat, 240]

def k3_chk15 (i : grid3.Coords) (k3_t9 : Fin (k3_t9_loop i).trips) (arg16 : BitVec 32) (v163 : BitVec 32) (v170 : BitVec 32) (arg34 : BitVec 32) (v191 : BitVec 32) : Prop :=
  (∀ (k3_h13 : k3_cond13 i k3_t9 = 1#1), ∀ (k3_h14 : ¬(k3_cond14 arg16 v163 v170 = 1#1)), ∀ (k3_h15 : k3_cond15 arg34 v191 = 1#1), ∀ a, (k3_off227 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off228 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off229 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off230 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off231 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off232 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off233 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off234 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off235 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off236 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off237 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off238 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off239 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off240 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off241 arg34) a + S1x16.size a ≤ S256x256.size a) ∧
  (∀ (k3_h13 : k3_cond13 i k3_t9 = 1#1), ∀ (k3_h14 : ¬(k3_cond14 arg16 v163 v170 = 1#1)), ∀ (k3_h15 : k3_cond15 arg34 v191 = 1#1), ∀ a, (k3_off242 arg34) a + S1x16.size a ≤ S256x256.size a)
theorem k3_off227_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off227 arg34) a + S1x16.size a ≤ S256x256.size a := fun i k3_t9 arg16 v163 v170 arg34 v191 k3_hw15 k3_h13 k3_h14 k3_h15 => k3_hw15.1 k3_h13 k3_h14 k3_h15
theorem k3_off228_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off228 arg34) a + S1x16.size a ≤ S256x256.size a := fun i k3_t9 arg16 v163 v170 arg34 v191 k3_hw15 k3_h13 k3_h14 k3_h15 => k3_hw15.2.1 k3_h13 k3_h14 k3_h15
theorem k3_off229_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off229 arg34) a + S1x16.size a ≤ S256x256.size a := fun i k3_t9 arg16 v163 v170 arg34 v191 k3_hw15 k3_h13 k3_h14 k3_h15 => k3_hw15.2.2.1 k3_h13 k3_h14 k3_h15
theorem k3_off230_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off230 arg34) a + S1x16.size a ≤ S256x256.size a := fun i k3_t9 arg16 v163 v170 arg34 v191 k3_hw15 k3_h13 k3_h14 k3_h15 => k3_hw15.2.2.2.1 k3_h13 k3_h14 k3_h15
theorem k3_off231_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off231 arg34) a + S1x16.size a ≤ S256x256.size a := fun i k3_t9 arg16 v163 v170 arg34 v191 k3_hw15 k3_h13 k3_h14 k3_h15 => k3_hw15.2.2.2.2.1 k3_h13 k3_h14 k3_h15
theorem k3_off232_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off232 arg34) a + S1x16.size a ≤ S256x256.size a := fun i k3_t9 arg16 v163 v170 arg34 v191 k3_hw15 k3_h13 k3_h14 k3_h15 => k3_hw15.2.2.2.2.2.1 k3_h13 k3_h14 k3_h15
theorem k3_off233_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off233 arg34) a + S1x16.size a ≤ S256x256.size a := fun i k3_t9 arg16 v163 v170 arg34 v191 k3_hw15 k3_h13 k3_h14 k3_h15 => k3_hw15.2.2.2.2.2.2.1 k3_h13 k3_h14 k3_h15
theorem k3_off234_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off234 arg34) a + S1x16.size a ≤ S256x256.size a := fun i k3_t9 arg16 v163 v170 arg34 v191 k3_hw15 k3_h13 k3_h14 k3_h15 => k3_hw15.2.2.2.2.2.2.2.1 k3_h13 k3_h14 k3_h15
theorem k3_off235_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off235 arg34) a + S1x16.size a ≤ S256x256.size a := fun i k3_t9 arg16 v163 v170 arg34 v191 k3_hw15 k3_h13 k3_h14 k3_h15 => k3_hw15.2.2.2.2.2.2.2.2.1 k3_h13 k3_h14 k3_h15
theorem k3_off236_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off236 arg34) a + S1x16.size a ≤ S256x256.size a := fun i k3_t9 arg16 v163 v170 arg34 v191 k3_hw15 k3_h13 k3_h14 k3_h15 => k3_hw15.2.2.2.2.2.2.2.2.2.1 k3_h13 k3_h14 k3_h15
theorem k3_off237_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off237 arg34) a + S1x16.size a ≤ S256x256.size a := fun i k3_t9 arg16 v163 v170 arg34 v191 k3_hw15 k3_h13 k3_h14 k3_h15 => k3_hw15.2.2.2.2.2.2.2.2.2.2.1 k3_h13 k3_h14 k3_h15
theorem k3_off238_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off238 arg34) a + S1x16.size a ≤ S256x256.size a := fun i k3_t9 arg16 v163 v170 arg34 v191 k3_hw15 k3_h13 k3_h14 k3_h15 => k3_hw15.2.2.2.2.2.2.2.2.2.2.2.1 k3_h13 k3_h14 k3_h15
theorem k3_off239_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off239 arg34) a + S1x16.size a ≤ S256x256.size a := fun i k3_t9 arg16 v163 v170 arg34 v191 k3_hw15 k3_h13 k3_h14 k3_h15 => k3_hw15.2.2.2.2.2.2.2.2.2.2.2.2.1 k3_h13 k3_h14 k3_h15
theorem k3_off240_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off240 arg34) a + S1x16.size a ≤ S256x256.size a := fun i k3_t9 arg16 v163 v170 arg34 v191 k3_hw15 k3_h13 k3_h14 k3_h15 => k3_hw15.2.2.2.2.2.2.2.2.2.2.2.2.2.1 k3_h13 k3_h14 k3_h15
theorem k3_off241_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off241 arg34) a + S1x16.size a ≤ S256x256.size a := fun i k3_t9 arg16 v163 v170 arg34 v191 k3_hw15 k3_h13 k3_h14 k3_h15 => k3_hw15.2.2.2.2.2.2.2.2.2.2.2.2.2.2.1 k3_h13 k3_h14 k3_h15
theorem k3_off242_inb : ∀ (i : grid3.Coords) (k3_t9 : Fin (k3_t9_loop i).trips) (arg16 : BitVec 32) (v163 : BitVec 32) (v170 : BitVec 32) (arg34 : BitVec 32) (v191 : BitVec 32) (k3_hw15 : k3_chk15 i k3_t9 arg16 v163 v170 arg34 v191), ∀ (k3_h13 : k3_cond13 i k3_t9 = 1#1), ∀ (k3_h14 : ¬(k3_cond14 arg16 v163 v170 = 1#1)), ∀ (k3_h15 : k3_cond15 arg34 v191 = 1#1), ∀ a, (k3_off242 arg34) a + S1x16.size a ≤ S256x256.size a := fun i k3_t9 arg16 v163 v170 arg34 v191 k3_hw15 k3_h13 k3_h14 k3_h15 => k3_hw15.2.2.2.2.2.2.2.2.2.2.2.2.2.2.2 k3_h13 k3_h14 k3_h15

def k3_off243 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v196 : Index := Scalar.indexCast arg33
  let c0_67 : Index := 0#32
  ![v196.toNat, 0]
def k3_off244 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v199 : Index := Scalar.indexCast arg33
  let c16_68 : Index := 16#32
  ![v199.toNat, 16]
def k3_off245 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v202 : Index := Scalar.indexCast arg33
  let c32_69 : Index := 32#32
  ![v202.toNat, 32]
def k3_off246 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v205 : Index := Scalar.indexCast arg33
  let c48_70 : Index := 48#32
  ![v205.toNat, 48]
def k3_off247 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v208 : Index := Scalar.indexCast arg33
  let c64_71 : Index := 64#32
  ![v208.toNat, 64]
def k3_off248 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v211 : Index := Scalar.indexCast arg33
  let c80_72 : Index := 80#32
  ![v211.toNat, 80]
def k3_off249 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v214 : Index := Scalar.indexCast arg33
  let c96_73 : Index := 96#32
  ![v214.toNat, 96]
def k3_off250 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v217 : Index := Scalar.indexCast arg33
  let c112_74 : Index := 112#32
  ![v217.toNat, 112]
def k3_off251 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v220 : Index := Scalar.indexCast arg33
  let c128_75 : Index := 128#32
  ![v220.toNat, 128]
def k3_off252 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v223 : Index := Scalar.indexCast arg33
  let c144_76 : Index := 144#32
  ![v223.toNat, 144]
def k3_off253 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v226 : Index := Scalar.indexCast arg33
  let c160_77 : Index := 160#32
  ![v226.toNat, 160]
def k3_off254 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v229 : Index := Scalar.indexCast arg33
  let c176_78 : Index := 176#32
  ![v229.toNat, 176]
def k3_off255 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v232 : Index := Scalar.indexCast arg33
  let c192_79 : Index := 192#32
  ![v232.toNat, 192]
def k3_off256 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v235 : Index := Scalar.indexCast arg33
  let c208_80 : Index := 208#32
  ![v235.toNat, 208]
def k3_off257 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v238 : Index := Scalar.indexCast arg33
  let c224_81 : Index := 224#32
  ![v238.toNat, 224]
def k3_off258 (k3_t10 : Fin k3_t10_loop.trips) (k3_t11 : Fin (k3_t11_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c1_i32_62 : BitVec 32 := 1#32
  let arg33 : BitVec 32 := Scf.iv v155 c1_i32_62 k3_t11
  let v241 : Index := Scalar.indexCast arg33
  let c240_82 : Index := 240#32
  ![v241.toNat, 240]
@[reducible] def k3_t12_loop (k3_t10 : Fin k3_t10_loop.trips) : Scf.Loop 32 :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let v178 : BitVec 32 := Scalar.addi v155 v177
  let c1_i32_63 : BitVec 32 := 1#32
  ⟨v181, v178, c1_i32_63⟩

def k3_chk16 (i : grid3.Coords) (k3_t9 : Fin (k3_t9_loop i).trips) (arg16 : BitVec 32) (v163 : BitVec 32) (v170 : BitVec 32) (v184 : IVec S16 32) : Prop :=
  (∀ (k3_h13 : k3_cond13 i k3_t9 = 1#1), ∀ (k3_h14 : ¬(k3_cond14 arg16 v163 v170 = 1#1)), ∀ a x, ((![v184] : Fin 1 → IVec S16 32) a x).toNat < S128.size a)
theorem k3_idx9_inb : ∀ (i : grid3.Coords) (k3_t9 : Fin (k3_t9_loop i).trips) (arg16 : BitVec 32) (v163 : BitVec 32) (v170 : BitVec 32) (v184 : IVec S16 32) (k3_hw16 : k3_chk16 i k3_t9 arg16 v163 v170 v184), ∀ (k3_h13 : k3_cond13 i k3_t9 = 1#1), ∀ (k3_h14 : ¬(k3_cond14 arg16 v163 v170 = 1#1)), ∀ a x, ((![v184] : Fin 1 → IVec S16 32) a x).toNat < S128.size a := fun i k3_t9 arg16 v163 v170 v184 k3_hw16 k3_h13 k3_h14 => k3_hw16 k3_h13 k3_h14
def k3_off259 (arg34 : BitVec 32) : Fin 2 → Nat :=
  let v244 : Index := Scalar.indexCast arg34
  let c0_83 : Index := 0#32
  ![v244.toNat, 0]
def k3_cond16 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off260 (arg34 : BitVec 32) : Fin 2 → Nat :=
  let v249 : Index := Scalar.indexCast arg34
  let c16_85 : Index := 16#32
  ![v249.toNat, 16]
def k3_off261 (arg34 : BitVec 32) : Fin 2 → Nat :=
  let v254 : Index := Scalar.indexCast arg34
  let c32_87 : Index := 32#32
  ![v254.toNat, 32]
def k3_off262 (arg34 : BitVec 32) : Fin 2 → Nat :=
  let v259 : Index := Scalar.indexCast arg34
  let c48_89 : Index := 48#32
  ![v259.toNat, 48]
def k3_off263 (arg34 : BitVec 32) : Fin 2 → Nat :=
  let v264 : Index := Scalar.indexCast arg34
  let c64_91 : Index := 64#32
  ![v264.toNat, 64]
def k3_off264 (arg34 : BitVec 32) : Fin 2 → Nat :=
  let v269 : Index := Scalar.indexCast arg34
  let c80_93 : Index := 80#32
  ![v269.toNat, 80]
def k3_off265 (arg34 : BitVec 32) : Fin 2 → Nat :=
  let v274 : Index := Scalar.indexCast arg34
  let c96_95 : Index := 96#32
  ![v274.toNat, 96]
def k3_off266 (arg34 : BitVec 32) : Fin 2 → Nat :=
  let v279 : Index := Scalar.indexCast arg34
  let c112_97 : Index := 112#32
  ![v279.toNat, 112]
def k3_off267 (arg34 : BitVec 32) : Fin 2 → Nat :=
  let v284 : Index := Scalar.indexCast arg34
  let c128_99 : Index := 128#32
  ![v284.toNat, 128]
def k3_off268 (arg34 : BitVec 32) : Fin 2 → Nat :=
  let v289 : Index := Scalar.indexCast arg34
  let c144_101 : Index := 144#32
  ![v289.toNat, 144]
def k3_off269 (arg34 : BitVec 32) : Fin 2 → Nat :=
  let v294 : Index := Scalar.indexCast arg34
  let c160_103 : Index := 160#32
  ![v294.toNat, 160]
def k3_off270 (arg34 : BitVec 32) : Fin 2 → Nat :=
  let v299 : Index := Scalar.indexCast arg34
  let c176_105 : Index := 176#32
  ![v299.toNat, 176]
def k3_off271 (arg34 : BitVec 32) : Fin 2 → Nat :=
  let v304 : Index := Scalar.indexCast arg34
  let c192_107 : Index := 192#32
  ![v304.toNat, 192]
def k3_off272 (arg34 : BitVec 32) : Fin 2 → Nat :=
  let v309 : Index := Scalar.indexCast arg34
  let c208_109 : Index := 208#32
  ![v309.toNat, 208]
def k3_off273 (arg34 : BitVec 32) : Fin 2 → Nat :=
  let v314 : Index := Scalar.indexCast arg34
  let c224_111 : Index := 224#32
  ![v314.toNat, 224]
def k3_off274 (arg34 : BitVec 32) : Fin 2 → Nat :=
  let v319 : Index := Scalar.indexCast arg34
  let c240_113 : Index := 240#32
  ![v319.toNat, 240]

def k3_chk17 (i : grid3.Coords) (k3_t9 : Fin (k3_t9_loop i).trips) (arg16 : BitVec 32) (v163 : BitVec 32) (v170 : BitVec 32) (arg34 : BitVec 32) (v191 : BitVec 32) : Prop :=
  (∀ (k3_h13 : k3_cond13 i k3_t9 = 1#1), ∀ (k3_h14 : ¬(k3_cond14 arg16 v163 v170 = 1#1)), ∀ (k3_h16 : k3_cond16 arg34 v191 = 1#1), ∀ a, (k3_off259 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off260 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off261 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off262 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off263 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off264 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off265 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off266 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off267 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off268 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off269 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off270 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off271 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off272 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off273 arg34) a + S1x16.size a ≤ S256x256.size a) ∧
  (∀ (k3_h13 : k3_cond13 i k3_t9 = 1#1), ∀ (k3_h14 : ¬(k3_cond14 arg16 v163 v170 = 1#1)), ∀ (k3_h16 : k3_cond16 arg34 v191 = 1#1), ∀ a, (k3_off274 arg34) a + S1x16.size a ≤ S256x256.size a)
theorem k3_off259_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off259 arg34) a + S1x16.size a ≤ S256x256.size a := fun i k3_t9 arg16 v163 v170 arg34 v191 k3_hw17 k3_h13 k3_h14 k3_h16 => k3_hw17.1 k3_h13 k3_h14 k3_h16
theorem k3_off260_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off260 arg34) a + S1x16.size a ≤ S256x256.size a := fun i k3_t9 arg16 v163 v170 arg34 v191 k3_hw17 k3_h13 k3_h14 k3_h16 => k3_hw17.2.1 k3_h13 k3_h14 k3_h16
theorem k3_off261_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off261 arg34) a + S1x16.size a ≤ S256x256.size a := fun i k3_t9 arg16 v163 v170 arg34 v191 k3_hw17 k3_h13 k3_h14 k3_h16 => k3_hw17.2.2.1 k3_h13 k3_h14 k3_h16
theorem k3_off262_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off262 arg34) a + S1x16.size a ≤ S256x256.size a := fun i k3_t9 arg16 v163 v170 arg34 v191 k3_hw17 k3_h13 k3_h14 k3_h16 => k3_hw17.2.2.2.1 k3_h13 k3_h14 k3_h16
theorem k3_off263_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off263 arg34) a + S1x16.size a ≤ S256x256.size a := fun i k3_t9 arg16 v163 v170 arg34 v191 k3_hw17 k3_h13 k3_h14 k3_h16 => k3_hw17.2.2.2.2.1 k3_h13 k3_h14 k3_h16
theorem k3_off264_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off264 arg34) a + S1x16.size a ≤ S256x256.size a := fun i k3_t9 arg16 v163 v170 arg34 v191 k3_hw17 k3_h13 k3_h14 k3_h16 => k3_hw17.2.2.2.2.2.1 k3_h13 k3_h14 k3_h16
theorem k3_off265_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off265 arg34) a + S1x16.size a ≤ S256x256.size a := fun i k3_t9 arg16 v163 v170 arg34 v191 k3_hw17 k3_h13 k3_h14 k3_h16 => k3_hw17.2.2.2.2.2.2.1 k3_h13 k3_h14 k3_h16
theorem k3_off266_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off266 arg34) a + S1x16.size a ≤ S256x256.size a := fun i k3_t9 arg16 v163 v170 arg34 v191 k3_hw17 k3_h13 k3_h14 k3_h16 => k3_hw17.2.2.2.2.2.2.2.1 k3_h13 k3_h14 k3_h16
theorem k3_off267_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off267 arg34) a + S1x16.size a ≤ S256x256.size a := fun i k3_t9 arg16 v163 v170 arg34 v191 k3_hw17 k3_h13 k3_h14 k3_h16 => k3_hw17.2.2.2.2.2.2.2.2.1 k3_h13 k3_h14 k3_h16
theorem k3_off268_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off268 arg34) a + S1x16.size a ≤ S256x256.size a := fun i k3_t9 arg16 v163 v170 arg34 v191 k3_hw17 k3_h13 k3_h14 k3_h16 => k3_hw17.2.2.2.2.2.2.2.2.2.1 k3_h13 k3_h14 k3_h16
theorem k3_off269_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off269 arg34) a + S1x16.size a ≤ S256x256.size a := fun i k3_t9 arg16 v163 v170 arg34 v191 k3_hw17 k3_h13 k3_h14 k3_h16 => k3_hw17.2.2.2.2.2.2.2.2.2.2.1 k3_h13 k3_h14 k3_h16
theorem k3_off270_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off270 arg34) a + S1x16.size a ≤ S256x256.size a := fun i k3_t9 arg16 v163 v170 arg34 v191 k3_hw17 k3_h13 k3_h14 k3_h16 => k3_hw17.2.2.2.2.2.2.2.2.2.2.2.1 k3_h13 k3_h14 k3_h16
theorem k3_off271_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off271 arg34) a + S1x16.size a ≤ S256x256.size a := fun i k3_t9 arg16 v163 v170 arg34 v191 k3_hw17 k3_h13 k3_h14 k3_h16 => k3_hw17.2.2.2.2.2.2.2.2.2.2.2.2.1 k3_h13 k3_h14 k3_h16
theorem k3_off272_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off272 arg34) a + S1x16.size a ≤ S256x256.size a := fun i k3_t9 arg16 v163 v170 arg34 v191 k3_hw17 k3_h13 k3_h14 k3_h16 => k3_hw17.2.2.2.2.2.2.2.2.2.2.2.2.2.1 k3_h13 k3_h14 k3_h16
theorem k3_off273_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off273 arg34) a + S1x16.size a ≤ S256x256.size a := fun i k3_t9 arg16 v163 v170 arg34 v191 k3_hw17 k3_h13 k3_h14 k3_h16 => k3_hw17.2.2.2.2.2.2.2.2.2.2.2.2.2.2.1 k3_h13 k3_h14 k3_h16
theorem k3_off274_inb : ∀ (i : grid3.Coords) (k3_t9 : Fin (k3_t9_loop i).trips) (arg16 : BitVec 32) (v163 : BitVec 32) (v170 : BitVec 32) (arg34 : BitVec 32) (v191 : BitVec 32) (k3_hw17 : k3_chk17 i k3_t9 arg16 v163 v170 arg34 v191), ∀ (k3_h13 : k3_cond13 i k3_t9 = 1#1), ∀ (k3_h14 : ¬(k3_cond14 arg16 v163 v170 = 1#1)), ∀ (k3_h16 : k3_cond16 arg34 v191 = 1#1), ∀ a, (k3_off274 arg34) a + S1x16.size a ≤ S256x256.size a := fun i k3_t9 arg16 v163 v170 arg34 v191 k3_hw17 k3_h13 k3_h14 k3_h16 => k3_hw17.2.2.2.2.2.2.2.2.2.2.2.2.2.2.2 k3_h13 k3_h14 k3_h16

def k3_off275 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v196 : Index := Scalar.indexCast arg33
  let c0_67 : Index := 0#32
  ![v196.toNat, 0]
def k3_off276 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v199 : Index := Scalar.indexCast arg33
  let c16_68 : Index := 16#32
  ![v199.toNat, 16]
def k3_off277 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v202 : Index := Scalar.indexCast arg33
  let c32_69 : Index := 32#32
  ![v202.toNat, 32]
def k3_off278 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v205 : Index := Scalar.indexCast arg33
  let c48_70 : Index := 48#32
  ![v205.toNat, 48]
def k3_off279 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v208 : Index := Scalar.indexCast arg33
  let c64_71 : Index := 64#32
  ![v208.toNat, 64]
def k3_off280 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v211 : Index := Scalar.indexCast arg33
  let c80_72 : Index := 80#32
  ![v211.toNat, 80]
def k3_off281 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v214 : Index := Scalar.indexCast arg33
  let c96_73 : Index := 96#32
  ![v214.toNat, 96]
def k3_off282 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v217 : Index := Scalar.indexCast arg33
  let c112_74 : Index := 112#32
  ![v217.toNat, 112]
def k3_off283 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v220 : Index := Scalar.indexCast arg33
  let c128_75 : Index := 128#32
  ![v220.toNat, 128]
def k3_off284 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v223 : Index := Scalar.indexCast arg33
  let c144_76 : Index := 144#32
  ![v223.toNat, 144]
def k3_off285 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v226 : Index := Scalar.indexCast arg33
  let c160_77 : Index := 160#32
  ![v226.toNat, 160]
def k3_off286 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v229 : Index := Scalar.indexCast arg33
  let c176_78 : Index := 176#32
  ![v229.toNat, 176]
def k3_off287 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v232 : Index := Scalar.indexCast arg33
  let c192_79 : Index := 192#32
  ![v232.toNat, 192]
def k3_off288 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v235 : Index := Scalar.indexCast arg33
  let c208_80 : Index := 208#32
  ![v235.toNat, 208]
def k3_off289 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v238 : Index := Scalar.indexCast arg33
  let c224_81 : Index := 224#32
  ![v238.toNat, 224]
def k3_off290 (k3_t10 : Fin k3_t10_loop.trips) (k3_t12 : Fin (k3_t12_loop k3_t10).trips) : Fin 2 → Nat :=
  let c0_i32_34 : BitVec 32 := 0#32
  let c1_i32_35 : BitVec 32 := 1#32
  let arg15 : BitVec 32 := Scf.iv c0_i32_34 c1_i32_35 k3_t10
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t12
  let v241 : Index := Scalar.indexCast arg33
  let c240_82 : Index := 240#32
  ![v241.toNat, 240]
def k3_off291 (v70_0 : BitVec 32) : Fin 2 → Nat :=
  let v71 : Index := Scalar.indexCast v70_0
  let c0 : Index := 0#32
  ![v71.toNat, 0]

def k3_off292 (v70_0 : BitVec 32) : Fin 2 → Nat :=
  let v76 : Index := Scalar.indexCast v70_0
  let c16 : Index := 16#32
  ![v76.toNat, 16]
def k3_off293 (v70_0 : BitVec 32) : Fin 2 → Nat :=
  let v81 : Index := Scalar.indexCast v70_0
  let c32 : Index := 32#32
  ![v81.toNat, 32]
def k3_off294 (v70_0 : BitVec 32) : Fin 2 → Nat :=
  let v86 : Index := Scalar.indexCast v70_0
  let c48 : Index := 48#32
  ![v86.toNat, 48]
def k3_off295 (v70_0 : BitVec 32) : Fin 2 → Nat :=
  let v91 : Index := Scalar.indexCast v70_0
  let c64 : Index := 64#32
  ![v91.toNat, 64]
def k3_off296 (v70_0 : BitVec 32) : Fin 2 → Nat :=
  let v96 : Index := Scalar.indexCast v70_0
  let c80 : Index := 80#32
  ![v96.toNat, 80]
def k3_off297 (v70_0 : BitVec 32) : Fin 2 → Nat :=
  let v101 : Index := Scalar.indexCast v70_0
  let c96 : Index := 96#32
  ![v101.toNat, 96]
def k3_off298 (v70_0 : BitVec 32) : Fin 2 → Nat :=
  let v106 : Index := Scalar.indexCast v70_0
  let c112 : Index := 112#32
  ![v106.toNat, 112]
def k3_off299 (v70_0 : BitVec 32) : Fin 2 → Nat :=
  let v111 : Index := Scalar.indexCast v70_0
  let c128 : Index := 128#32
  ![v111.toNat, 128]
def k3_off300 (v70_0 : BitVec 32) : Fin 2 → Nat :=
  let v116 : Index := Scalar.indexCast v70_0
  let c144 : Index := 144#32
  ![v116.toNat, 144]
def k3_off301 (v70_0 : BitVec 32) : Fin 2 → Nat :=
  let v121 : Index := Scalar.indexCast v70_0
  let c160 : Index := 160#32
  ![v121.toNat, 160]
def k3_off302 (v70_0 : BitVec 32) : Fin 2 → Nat :=
  let v126 : Index := Scalar.indexCast v70_0
  let c176 : Index := 176#32
  ![v126.toNat, 176]
def k3_off303 (v70_0 : BitVec 32) : Fin 2 → Nat :=
  let v131 : Index := Scalar.indexCast v70_0
  let c192 : Index := 192#32
  ![v131.toNat, 192]
def k3_off304 (v70_0 : BitVec 32) : Fin 2 → Nat :=
  let v136 : Index := Scalar.indexCast v70_0
  let c208 : Index := 208#32
  ![v136.toNat, 208]
def k3_off305 (v70_0 : BitVec 32) : Fin 2 → Nat :=
  let v141 : Index := Scalar.indexCast v70_0
  let c224 : Index := 224#32
  ![v141.toNat, 224]
def k3_off306 (v70_0 : BitVec 32) : Fin 2 → Nat :=
  let v146 : Index := Scalar.indexCast v70_0
  let c240 : Index := 240#32
  ![v146.toNat, 240]

def k3_chk18 (i : grid3.Coords) (k3_t9 : Fin (k3_t9_loop i).trips) (v70_0 : BitVec 32) : Prop :=
  (∀ (k3_h13 : k3_cond13 i k3_t9 = 1#1), ∀ a, (k3_off291 v70_0) a + S1x16.size a ≤ S256x256.size a) ∧
  (∀ (k3_h13 : k3_cond13 i k3_t9 = 1#1), ∀ a, (k3_off292 v70_0) a + S1x16.size a ≤ S256x256.size a) ∧
  (∀ (k3_h13 : k3_cond13 i k3_t9 = 1#1), ∀ a, (k3_off293 v70_0) a + S1x16.size a ≤ S256x256.size a) ∧
  (∀ (k3_h13 : k3_cond13 i k3_t9 = 1#1), ∀ a, (k3_off294 v70_0) a + S1x16.size a ≤ S256x256.size a) ∧
  (∀ (k3_h13 : k3_cond13 i k3_t9 = 1#1), ∀ a, (k3_off295 v70_0) a + S1x16.size a ≤ S256x256.size a) ∧
  (∀ (k3_h13 : k3_cond13 i k3_t9 = 1#1), ∀ a, (k3_off296 v70_0) a + S1x16.size a ≤ S256x256.size a) ∧
  (∀ (k3_h13 : k3_cond13 i k3_t9 = 1#1), ∀ a, (k3_off297 v70_0) a + S1x16.size a ≤ S256x256.size a) ∧
  (∀ (k3_h13 : k3_cond13 i k3_t9 = 1#1), ∀ a, (k3_off298 v70_0) a + S1x16.size a ≤ S256x256.size a) ∧
  (∀ (k3_h13 : k3_cond13 i k3_t9 = 1#1), ∀ a, (k3_off299 v70_0) a + S1x16.size a ≤ S256x256.size a) ∧
  (∀ (k3_h13 : k3_cond13 i k3_t9 = 1#1), ∀ a, (k3_off300 v70_0) a + S1x16.size a ≤ S256x256.size a) ∧
  (∀ (k3_h13 : k3_cond13 i k3_t9 = 1#1), ∀ a, (k3_off301 v70_0) a + S1x16.size a ≤ S256x256.size a) ∧
  (∀ (k3_h13 : k3_cond13 i k3_t9 = 1#1), ∀ a, (k3_off302 v70_0) a + S1x16.size a ≤ S256x256.size a) ∧
  (∀ (k3_h13 : k3_cond13 i k3_t9 = 1#1), ∀ a, (k3_off303 v70_0) a + S1x16.size a ≤ S256x256.size a) ∧
  (∀ (k3_h13 : k3_cond13 i k3_t9 = 1#1), ∀ a, (k3_off304 v70_0) a + S1x16.size a ≤ S256x256.size a) ∧
  (∀ (k3_h13 : k3_cond13 i k3_t9 = 1#1), ∀ a, (k3_off305 v70_0) a + S1x16.size a ≤ S256x256.size a) ∧
  (∀ (k3_h13 : k3_cond13 i k3_t9 = 1#1), ∀ a, (k3_off306 v70_0) a + S1x16.size a ≤ S256x256.size a)
theorem k3_off291_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off291 v70_0) a + S1x16.size a ≤ S256x256.size a := fun i k3_t9 v70_0 k3_hw18 k3_h13 => k3_hw18.1 k3_h13
theorem k3_off292_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off292 v70_0) a + S1x16.size a ≤ S256x256.size a := fun i k3_t9 v70_0 k3_hw18 k3_h13 => k3_hw18.2.1 k3_h13
theorem k3_off293_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off293 v70_0) a + S1x16.size a ≤ S256x256.size a := fun i k3_t9 v70_0 k3_hw18 k3_h13 => k3_hw18.2.2.1 k3_h13
theorem k3_off294_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off294 v70_0) a + S1x16.size a ≤ S256x256.size a := fun i k3_t9 v70_0 k3_hw18 k3_h13 => k3_hw18.2.2.2.1 k3_h13
theorem k3_off295_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off295 v70_0) a + S1x16.size a ≤ S256x256.size a := fun i k3_t9 v70_0 k3_hw18 k3_h13 => k3_hw18.2.2.2.2.1 k3_h13
theorem k3_off296_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off296 v70_0) a + S1x16.size a ≤ S256x256.size a := fun i k3_t9 v70_0 k3_hw18 k3_h13 => k3_hw18.2.2.2.2.2.1 k3_h13
theorem k3_off297_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off297 v70_0) a + S1x16.size a ≤ S256x256.size a := fun i k3_t9 v70_0 k3_hw18 k3_h13 => k3_hw18.2.2.2.2.2.2.1 k3_h13
theorem k3_off298_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off298 v70_0) a + S1x16.size a ≤ S256x256.size a := fun i k3_t9 v70_0 k3_hw18 k3_h13 => k3_hw18.2.2.2.2.2.2.2.1 k3_h13
theorem k3_off299_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off299 v70_0) a + S1x16.size a ≤ S256x256.size a := fun i k3_t9 v70_0 k3_hw18 k3_h13 => k3_hw18.2.2.2.2.2.2.2.2.1 k3_h13
theorem k3_off300_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off300 v70_0) a + S1x16.size a ≤ S256x256.size a := fun i k3_t9 v70_0 k3_hw18 k3_h13 => k3_hw18.2.2.2.2.2.2.2.2.2.1 k3_h13
theorem k3_off301_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off301 v70_0) a + S1x16.size a ≤ S256x256.size a := fun i k3_t9 v70_0 k3_hw18 k3_h13 => k3_hw18.2.2.2.2.2.2.2.2.2.2.1 k3_h13
theorem k3_off302_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off302 v70_0) a + S1x16.size a ≤ S256x256.size a := fun i k3_t9 v70_0 k3_hw18 k3_h13 => k3_hw18.2.2.2.2.2.2.2.2.2.2.2.1 k3_h13
theorem k3_off303_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off303 v70_0) a + S1x16.size a ≤ S256x256.size a := fun i k3_t9 v70_0 k3_hw18 k3_h13 => k3_hw18.2.2.2.2.2.2.2.2.2.2.2.2.1 k3_h13
theorem k3_off304_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off304 v70_0) a + S1x16.size a ≤ S256x256.size a := fun i k3_t9 v70_0 k3_hw18 k3_h13 => k3_hw18.2.2.2.2.2.2.2.2.2.2.2.2.2.1 k3_h13
theorem k3_off305_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off305 v70_0) a + S1x16.size a ≤ S256x256.size a := fun i k3_t9 v70_0 k3_hw18 k3_h13 => k3_hw18.2.2.2.2.2.2.2.2.2.2.2.2.2.2.1 k3_h13
theorem k3_off306_inb : ∀ (i : grid3.Coords) (k3_t9 : Fin (k3_t9_loop i).trips) (v70_0 : BitVec 32) (k3_hw18 : k3_chk18 i k3_t9 v70_0), ∀ (k3_h13 : k3_cond13 i k3_t9 = 1#1), ∀ a, (k3_off306 v70_0) a + S1x16.size a ≤ S256x256.size a := fun i k3_t9 v70_0 k3_hw18 k3_h13 => k3_hw18.2.2.2.2.2.2.2.2.2.2.2.2.2.2.2 k3_h13

def k3_cond17 (i : grid3.Coords) (k3_t9 : Fin (k3_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_25 : BitVec 32 := 2#32
  let v42 : BitVec 32 := Scalar.muli arg14 c2_i32_25
  let c0_i32_26 : BitVec 32 := 0#32
  let v43 : BitVec 32 := Scalar.addi v42 c0_i32_26
  let c2_i32_53 : BitVec 32 := 2#32
  let v151 : BitVec 32 := Scalar.addi v43 c2_i32_53
  let v152 : BitVec 1 := Scalar.cmpi .slt v151 v2
  let v153 : BitVec 32 := Scalar.extui v152
  let c0_i32_54 : BitVec 32 := 0#32
  let v154 : BitVec 1 := Scalar.cmpi .ne v153 c0_i32_54
  v154

def k3_off307 (i : grid3.Coords) (k3_t9 : Fin (k3_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_25 : BitVec 32 := 2#32
  let v42 : BitVec 32 := Scalar.muli arg14 c2_i32_25
  let c0_i32_26 : BitVec 32 := 0#32
  let v43 : BitVec 32 := Scalar.addi v42 c0_i32_26
  let c2_i32_55 : BitVec 32 := 2#32
  let v155 : BitVec 32 := Scalar.addi v43 c2_i32_55
  let c112_i32_56 : BitVec 32 := 112#32
  let v156 : BitVec 32 := Scalar.muli v155 c112_i32_56
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k3_off308 (i : grid3.Coords) (k3_t9 : Fin (k3_t9_loop i).trips) : Fin 1 → Nat :=
  let c50000_i32_57 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_25 : BitVec 32 := 2#32
  let v42 : BitVec 32 := Scalar.muli arg14 c2_i32_25
  let c0_i32_26 : BitVec 32 := 0#32
  let v43 : BitVec 32 := Scalar.addi v42 c0_i32_26
  let c2_i32_55 : BitVec 32 := 2#32
  let v155 : BitVec 32 := Scalar.addi v43 c2_i32_55
  let c112_i32_56 : BitVec 32 := 112#32
  let v156 : BitVec 32 := Scalar.muli v155 c112_i32_56
  let v157 : BitVec 32 := Scalar.addi v0 v156
  let v160 : BitVec 32 := Scalar.addi c50000_i32_57 v157
  ![v160.toNat]
def k3_cond18 (i : grid3.Coords) (k3_t9 : Fin (k3_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_28 : BitVec 32 := 2#32
  let v47 : BitVec 32 := Scalar.muli arg14 c2_i32_28
  let c1_i32_29 : BitVec 32 := 1#32
  let v48 : BitVec 32 := Scalar.addi v47 c1_i32_29
  let v49 : BitVec 1 := Scalar.cmpi .slt v48 v2
  let v50 : BitVec 32 := Scalar.extui v49
  let c0_i32_30 : BitVec 32 := 0#32
  let v51 : BitVec 1 := Scalar.cmpi .ne v50 c0_i32_30
  v51

def k3_off309 (i : grid3.Coords) (k3_t9 : Fin (k3_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let arg0 : BitVec 32 := BitVec.ofNat 32 (i 0).val
  let c256_i32 : BitVec 32 := 256#32
  let v5 : BitVec 32 := Scalar.muli arg0 c256_i32
  ![v53.toNat, v5.toNat]
def k3_off310 (i : grid3.Coords) (k3_t9 : Fin (k3_t9_loop i).trips) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_28 : BitVec 32 := 2#32
  let v47 : BitVec 32 := Scalar.muli arg14 c2_i32_28
  let c1_i32_29 : BitVec 32 := 1#32
  let v48 : BitVec 32 := Scalar.addi v47 c1_i32_29
  let c112_i32 : BitVec 32 := 112#32
  let v52 : BitVec 32 := Scalar.muli v48 c112_i32
  let v53 : BitVec 32 := Scalar.addi v0 v52
  let v56 : BitVec 32 := Scalar.addi c50000_i32 v53
  ![v56.toNat]

def k3_chk19 (i : grid3.Coords) (k3_t9 : Fin (k3_t9_loop i).trips) (v61 : IVec S16 32) : Prop :=
  (∀ (k3_h18 : k3_cond18 i k3_t9 = 1#1), ∀ a x, ((![v61] : Fin 1 → IVec S16 32) a x).toNat < S128.size a)
theorem k3_idx10_inb : ∀ (i : grid3.Coords) (k3_t9 : Fin (k3_t9_loop i).trips) (v61 : IVec S16 32) (k3_hw19 : k3_chk19 i k3_t9 v61), ∀ (k3_h18 : k3_cond18 i k3_t9 = 1#1), ∀ a x, ((![v61] : Fin 1 → IVec S16 32) a x).toNat < S128.size a := fun i k3_t9 v61 k3_hw19 k3_h18 => k3_hw19 k3_h18
@[reducible] def k3_t13_loop : Scf.Loop 32 :=
  let c0_i32_34 : BitVec 32 := 0#32
  let c7_i32 : BitVec 32 := 7#32
  let v69 : BitVec 32 := Scalar.addi c0_i32_34 c7_i32
  let c1_i32_35 : BitVec 32 := 1#32
  ⟨c0_i32_34, v69, c1_i32_35⟩
def k3_off311 (k3_t13 : Fin k3_t13_loop.trips) : Fin 1 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v156 : Index := Scalar.indexCast v155
  ![v156.toNat]
def k3_off312 (k3_t13 : Fin k3_t13_loop.trips) (c0_i32_60 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v176 : BitVec 32 := Scalar.addi v155 c0_i32_60
  let v177 : Index := Scalar.indexCast v176
  let c0_61 : Index := 0#32
  ![v177.toNat, 0]
def k3_off313 (k3_t13 : Fin k3_t13_loop.trips) (c0_i32_62 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v180 : BitVec 32 := Scalar.addi v155 c0_i32_62
  let v181 : Index := Scalar.indexCast v180
  let c16_63 : Index := 16#32
  ![v181.toNat, 16]
def k3_off314 (k3_t13 : Fin k3_t13_loop.trips) (c0_i32_64 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v184 : BitVec 32 := Scalar.addi v155 c0_i32_64
  let v185 : Index := Scalar.indexCast v184
  let c32_65 : Index := 32#32
  ![v185.toNat, 32]
def k3_off315 (k3_t13 : Fin k3_t13_loop.trips) (c0_i32_66 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v188 : BitVec 32 := Scalar.addi v155 c0_i32_66
  let v189 : Index := Scalar.indexCast v188
  let c48_67 : Index := 48#32
  ![v189.toNat, 48]
def k3_off316 (k3_t13 : Fin k3_t13_loop.trips) (c0_i32_68 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v192 : BitVec 32 := Scalar.addi v155 c0_i32_68
  let v193 : Index := Scalar.indexCast v192
  let c64_69 : Index := 64#32
  ![v193.toNat, 64]
def k3_off317 (k3_t13 : Fin k3_t13_loop.trips) (c0_i32_70 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v196 : BitVec 32 := Scalar.addi v155 c0_i32_70
  let v197 : Index := Scalar.indexCast v196
  let c80_71 : Index := 80#32
  ![v197.toNat, 80]
def k3_off318 (k3_t13 : Fin k3_t13_loop.trips) (c0_i32_72 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v200 : BitVec 32 := Scalar.addi v155 c0_i32_72
  let v201 : Index := Scalar.indexCast v200
  let c96_73 : Index := 96#32
  ![v201.toNat, 96]
def k3_off319 (k3_t13 : Fin k3_t13_loop.trips) (c0_i32_74 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v204 : BitVec 32 := Scalar.addi v155 c0_i32_74
  let v205 : Index := Scalar.indexCast v204
  let c112_75 : Index := 112#32
  ![v205.toNat, 112]
def k3_off320 (k3_t13 : Fin k3_t13_loop.trips) (c0_i32_76 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v208 : BitVec 32 := Scalar.addi v155 c0_i32_76
  let v209 : Index := Scalar.indexCast v208
  let c128_77 : Index := 128#32
  ![v209.toNat, 128]
def k3_off321 (k3_t13 : Fin k3_t13_loop.trips) (c0_i32_78 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v212 : BitVec 32 := Scalar.addi v155 c0_i32_78
  let v213 : Index := Scalar.indexCast v212
  let c144_79 : Index := 144#32
  ![v213.toNat, 144]
def k3_off322 (k3_t13 : Fin k3_t13_loop.trips) (c0_i32_80 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v216 : BitVec 32 := Scalar.addi v155 c0_i32_80
  let v217 : Index := Scalar.indexCast v216
  let c160_81 : Index := 160#32
  ![v217.toNat, 160]
def k3_off323 (k3_t13 : Fin k3_t13_loop.trips) (c0_i32_82 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v220 : BitVec 32 := Scalar.addi v155 c0_i32_82
  let v221 : Index := Scalar.indexCast v220
  let c176_83 : Index := 176#32
  ![v221.toNat, 176]
def k3_off324 (k3_t13 : Fin k3_t13_loop.trips) (c0_i32_84 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v224 : BitVec 32 := Scalar.addi v155 c0_i32_84
  let v225 : Index := Scalar.indexCast v224
  let c192_85 : Index := 192#32
  ![v225.toNat, 192]
def k3_off325 (k3_t13 : Fin k3_t13_loop.trips) (c0_i32_86 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v228 : BitVec 32 := Scalar.addi v155 c0_i32_86
  let v229 : Index := Scalar.indexCast v228
  let c208_87 : Index := 208#32
  ![v229.toNat, 208]
def k3_off326 (k3_t13 : Fin k3_t13_loop.trips) (c0_i32_88 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v232 : BitVec 32 := Scalar.addi v155 c0_i32_88
  let v233 : Index := Scalar.indexCast v232
  let c224_89 : Index := 224#32
  ![v233.toNat, 224]
def k3_off327 (k3_t13 : Fin k3_t13_loop.trips) (c0_i32_90 : BitVec 32) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let v236 : BitVec 32 := Scalar.addi v155 c0_i32_90
  let v237 : Index := Scalar.indexCast v236
  let c240_91 : Index := 240#32
  ![v237.toNat, 240]
@[reducible] def k3_t14_loop (k3_t13 : Fin k3_t13_loop.trips) : Scf.Loop 32 :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_62 : BitVec 32 := 1#32
  ⟨v155, v181, c1_i32_62⟩
def k3_cond19 (arg16 : BitVec 32) (v163 : BitVec 32) (v170 : BitVec 32) : BitVec 1 :=
  let v164 : BitVec 1 := Scalar.cmpi .eq v163 arg16
  let v171 : BitVec 1 := Scalar.cmpi .eq v170 arg16
  let v172 : BitVec 1 := Scalar.andi v164 v171
  let v173 : BitVec 32 := Scalar.extui v172
  let c0_i32_59 : BitVec 32 := 0#32
  let v174 : BitVec 1 := Scalar.cmpi .ne v173 c0_i32_59
  v174

def k3_chk20 (i : grid3.Coords) (k3_t9 : Fin (k3_t9_loop i).trips) (arg16 : BitVec 32) (v163 : BitVec 32) (v170 : BitVec 32) (v184 : IVec S16 32) : Prop :=
  (∀ (k3_h18 : k3_cond18 i k3_t9 = 1#1), ∀ (k3_h19 : ¬(k3_cond19 arg16 v163 v170 = 1#1)), ∀ a x, ((![v184] : Fin 1 → IVec S16 32) a x).toNat < S128.size a)
theorem k3_idx11_inb : ∀ (i : grid3.Coords) (k3_t9 : Fin (k3_t9_loop i).trips) (arg16 : BitVec 32) (v163 : BitVec 32) (v170 : BitVec 32) (v184 : IVec S16 32) (k3_hw20 : k3_chk20 i k3_t9 arg16 v163 v170 v184), ∀ (k3_h18 : k3_cond18 i k3_t9 = 1#1), ∀ (k3_h19 : ¬(k3_cond19 arg16 v163 v170 = 1#1)), ∀ a x, ((![v184] : Fin 1 → IVec S16 32) a x).toNat < S128.size a := fun i k3_t9 arg16 v163 v170 v184 k3_hw20 k3_h18 k3_h19 => k3_hw20 k3_h18 k3_h19
def k3_off328 (arg34 : BitVec 32) : Fin 2 → Nat :=
  let v244 : Index := Scalar.indexCast arg34
  let c0_83 : Index := 0#32
  ![v244.toNat, 0]
def k3_cond20 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off329 (arg34 : BitVec 32) : Fin 2 → Nat :=
  let v249 : Index := Scalar.indexCast arg34
  let c16_85 : Index := 16#32
  ![v249.toNat, 16]
def k3_off330 (arg34 : BitVec 32) : Fin 2 → Nat :=
  let v254 : Index := Scalar.indexCast arg34
  let c32_87 : Index := 32#32
  ![v254.toNat, 32]
def k3_off331 (arg34 : BitVec 32) : Fin 2 → Nat :=
  let v259 : Index := Scalar.indexCast arg34
  let c48_89 : Index := 48#32
  ![v259.toNat, 48]
def k3_off332 (arg34 : BitVec 32) : Fin 2 → Nat :=
  let v264 : Index := Scalar.indexCast arg34
  let c64_91 : Index := 64#32
  ![v264.toNat, 64]
def k3_off333 (arg34 : BitVec 32) : Fin 2 → Nat :=
  let v269 : Index := Scalar.indexCast arg34
  let c80_93 : Index := 80#32
  ![v269.toNat, 80]
def k3_off334 (arg34 : BitVec 32) : Fin 2 → Nat :=
  let v274 : Index := Scalar.indexCast arg34
  let c96_95 : Index := 96#32
  ![v274.toNat, 96]
def k3_off335 (arg34 : BitVec 32) : Fin 2 → Nat :=
  let v279 : Index := Scalar.indexCast arg34
  let c112_97 : Index := 112#32
  ![v279.toNat, 112]
def k3_off336 (arg34 : BitVec 32) : Fin 2 → Nat :=
  let v284 : Index := Scalar.indexCast arg34
  let c128_99 : Index := 128#32
  ![v284.toNat, 128]
def k3_off337 (arg34 : BitVec 32) : Fin 2 → Nat :=
  let v289 : Index := Scalar.indexCast arg34
  let c144_101 : Index := 144#32
  ![v289.toNat, 144]
def k3_off338 (arg34 : BitVec 32) : Fin 2 → Nat :=
  let v294 : Index := Scalar.indexCast arg34
  let c160_103 : Index := 160#32
  ![v294.toNat, 160]
def k3_off339 (arg34 : BitVec 32) : Fin 2 → Nat :=
  let v299 : Index := Scalar.indexCast arg34
  let c176_105 : Index := 176#32
  ![v299.toNat, 176]
def k3_off340 (arg34 : BitVec 32) : Fin 2 → Nat :=
  let v304 : Index := Scalar.indexCast arg34
  let c192_107 : Index := 192#32
  ![v304.toNat, 192]
def k3_off341 (arg34 : BitVec 32) : Fin 2 → Nat :=
  let v309 : Index := Scalar.indexCast arg34
  let c208_109 : Index := 208#32
  ![v309.toNat, 208]
def k3_off342 (arg34 : BitVec 32) : Fin 2 → Nat :=
  let v314 : Index := Scalar.indexCast arg34
  let c224_111 : Index := 224#32
  ![v314.toNat, 224]
def k3_off343 (arg34 : BitVec 32) : Fin 2 → Nat :=
  let v319 : Index := Scalar.indexCast arg34
  let c240_113 : Index := 240#32
  ![v319.toNat, 240]

def k3_chk21 (i : grid3.Coords) (k3_t9 : Fin (k3_t9_loop i).trips) (arg16 : BitVec 32) (v163 : BitVec 32) (v170 : BitVec 32) (arg34 : BitVec 32) (v191 : BitVec 32) : Prop :=
  (∀ (k3_h18 : k3_cond18 i k3_t9 = 1#1), ∀ (k3_h19 : ¬(k3_cond19 arg16 v163 v170 = 1#1)), ∀ (k3_h20 : k3_cond20 arg34 v191 = 1#1), ∀ a, (k3_off328 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off329 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off330 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off331 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off332 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off333 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off334 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off335 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off336 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off337 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off338 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off339 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off340 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off341 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off342 arg34) a + S1x16.size a ≤ S256x256.size a) ∧
  (∀ (k3_h18 : k3_cond18 i k3_t9 = 1#1), ∀ (k3_h19 : ¬(k3_cond19 arg16 v163 v170 = 1#1)), ∀ (k3_h20 : k3_cond20 arg34 v191 = 1#1), ∀ a, (k3_off343 arg34) a + S1x16.size a ≤ S256x256.size a)
theorem k3_off328_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off328 arg34) a + S1x16.size a ≤ S256x256.size a := fun i k3_t9 arg16 v163 v170 arg34 v191 k3_hw21 k3_h18 k3_h19 k3_h20 => k3_hw21.1 k3_h18 k3_h19 k3_h20
theorem k3_off329_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off329 arg34) a + S1x16.size a ≤ S256x256.size a := fun i k3_t9 arg16 v163 v170 arg34 v191 k3_hw21 k3_h18 k3_h19 k3_h20 => k3_hw21.2.1 k3_h18 k3_h19 k3_h20
theorem k3_off330_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off330 arg34) a + S1x16.size a ≤ S256x256.size a := fun i k3_t9 arg16 v163 v170 arg34 v191 k3_hw21 k3_h18 k3_h19 k3_h20 => k3_hw21.2.2.1 k3_h18 k3_h19 k3_h20
theorem k3_off331_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off331 arg34) a + S1x16.size a ≤ S256x256.size a := fun i k3_t9 arg16 v163 v170 arg34 v191 k3_hw21 k3_h18 k3_h19 k3_h20 => k3_hw21.2.2.2.1 k3_h18 k3_h19 k3_h20
theorem k3_off332_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off332 arg34) a + S1x16.size a ≤ S256x256.size a := fun i k3_t9 arg16 v163 v170 arg34 v191 k3_hw21 k3_h18 k3_h19 k3_h20 => k3_hw21.2.2.2.2.1 k3_h18 k3_h19 k3_h20
theorem k3_off333_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off333 arg34) a + S1x16.size a ≤ S256x256.size a := fun i k3_t9 arg16 v163 v170 arg34 v191 k3_hw21 k3_h18 k3_h19 k3_h20 => k3_hw21.2.2.2.2.2.1 k3_h18 k3_h19 k3_h20
theorem k3_off334_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off334 arg34) a + S1x16.size a ≤ S256x256.size a := fun i k3_t9 arg16 v163 v170 arg34 v191 k3_hw21 k3_h18 k3_h19 k3_h20 => k3_hw21.2.2.2.2.2.2.1 k3_h18 k3_h19 k3_h20
theorem k3_off335_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off335 arg34) a + S1x16.size a ≤ S256x256.size a := fun i k3_t9 arg16 v163 v170 arg34 v191 k3_hw21 k3_h18 k3_h19 k3_h20 => k3_hw21.2.2.2.2.2.2.2.1 k3_h18 k3_h19 k3_h20
theorem k3_off336_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off336 arg34) a + S1x16.size a ≤ S256x256.size a := fun i k3_t9 arg16 v163 v170 arg34 v191 k3_hw21 k3_h18 k3_h19 k3_h20 => k3_hw21.2.2.2.2.2.2.2.2.1 k3_h18 k3_h19 k3_h20
theorem k3_off337_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off337 arg34) a + S1x16.size a ≤ S256x256.size a := fun i k3_t9 arg16 v163 v170 arg34 v191 k3_hw21 k3_h18 k3_h19 k3_h20 => k3_hw21.2.2.2.2.2.2.2.2.2.1 k3_h18 k3_h19 k3_h20
theorem k3_off338_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off338 arg34) a + S1x16.size a ≤ S256x256.size a := fun i k3_t9 arg16 v163 v170 arg34 v191 k3_hw21 k3_h18 k3_h19 k3_h20 => k3_hw21.2.2.2.2.2.2.2.2.2.2.1 k3_h18 k3_h19 k3_h20
theorem k3_off339_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off339 arg34) a + S1x16.size a ≤ S256x256.size a := fun i k3_t9 arg16 v163 v170 arg34 v191 k3_hw21 k3_h18 k3_h19 k3_h20 => k3_hw21.2.2.2.2.2.2.2.2.2.2.2.1 k3_h18 k3_h19 k3_h20
theorem k3_off340_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off340 arg34) a + S1x16.size a ≤ S256x256.size a := fun i k3_t9 arg16 v163 v170 arg34 v191 k3_hw21 k3_h18 k3_h19 k3_h20 => k3_hw21.2.2.2.2.2.2.2.2.2.2.2.2.1 k3_h18 k3_h19 k3_h20
theorem k3_off341_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off341 arg34) a + S1x16.size a ≤ S256x256.size a := fun i k3_t9 arg16 v163 v170 arg34 v191 k3_hw21 k3_h18 k3_h19 k3_h20 => k3_hw21.2.2.2.2.2.2.2.2.2.2.2.2.2.1 k3_h18 k3_h19 k3_h20
theorem k3_off342_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off342 arg34) a + S1x16.size a ≤ S256x256.size a := fun i k3_t9 arg16 v163 v170 arg34 v191 k3_hw21 k3_h18 k3_h19 k3_h20 => k3_hw21.2.2.2.2.2.2.2.2.2.2.2.2.2.2.1 k3_h18 k3_h19 k3_h20
theorem k3_off343_inb : ∀ (i : grid3.Coords) (k3_t9 : Fin (k3_t9_loop i).trips) (arg16 : BitVec 32) (v163 : BitVec 32) (v170 : BitVec 32) (arg34 : BitVec 32) (v191 : BitVec 32) (k3_hw21 : k3_chk21 i k3_t9 arg16 v163 v170 arg34 v191), ∀ (k3_h18 : k3_cond18 i k3_t9 = 1#1), ∀ (k3_h19 : ¬(k3_cond19 arg16 v163 v170 = 1#1)), ∀ (k3_h20 : k3_cond20 arg34 v191 = 1#1), ∀ a, (k3_off343 arg34) a + S1x16.size a ≤ S256x256.size a := fun i k3_t9 arg16 v163 v170 arg34 v191 k3_hw21 k3_h18 k3_h19 k3_h20 => k3_hw21.2.2.2.2.2.2.2.2.2.2.2.2.2.2.2 k3_h18 k3_h19 k3_h20

def k3_off344 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v196 : Index := Scalar.indexCast arg33
  let c0_67 : Index := 0#32
  ![v196.toNat, 0]
def k3_off345 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v199 : Index := Scalar.indexCast arg33
  let c16_68 : Index := 16#32
  ![v199.toNat, 16]
def k3_off346 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v202 : Index := Scalar.indexCast arg33
  let c32_69 : Index := 32#32
  ![v202.toNat, 32]
def k3_off347 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v205 : Index := Scalar.indexCast arg33
  let c48_70 : Index := 48#32
  ![v205.toNat, 48]
def k3_off348 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v208 : Index := Scalar.indexCast arg33
  let c64_71 : Index := 64#32
  ![v208.toNat, 64]
def k3_off349 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v211 : Index := Scalar.indexCast arg33
  let c80_72 : Index := 80#32
  ![v211.toNat, 80]
def k3_off350 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v214 : Index := Scalar.indexCast arg33
  let c96_73 : Index := 96#32
  ![v214.toNat, 96]
def k3_off351 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v217 : Index := Scalar.indexCast arg33
  let c112_74 : Index := 112#32
  ![v217.toNat, 112]
def k3_off352 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v220 : Index := Scalar.indexCast arg33
  let c128_75 : Index := 128#32
  ![v220.toNat, 128]
def k3_off353 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v223 : Index := Scalar.indexCast arg33
  let c144_76 : Index := 144#32
  ![v223.toNat, 144]
def k3_off354 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v226 : Index := Scalar.indexCast arg33
  let c160_77 : Index := 160#32
  ![v226.toNat, 160]
def k3_off355 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v229 : Index := Scalar.indexCast arg33
  let c176_78 : Index := 176#32
  ![v229.toNat, 176]
def k3_off356 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v232 : Index := Scalar.indexCast arg33
  let c192_79 : Index := 192#32
  ![v232.toNat, 192]
def k3_off357 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v235 : Index := Scalar.indexCast arg33
  let c208_80 : Index := 208#32
  ![v235.toNat, 208]
def k3_off358 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v238 : Index := Scalar.indexCast arg33
  let c224_81 : Index := 224#32
  ![v238.toNat, 224]
def k3_off359 (k3_t13 : Fin k3_t13_loop.trips) (k3_t14 : Fin (k3_t14_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c1_i32_62 : BitVec 32 := 1#32
  let arg33 : BitVec 32 := Scf.iv v155 c1_i32_62 k3_t14
  let v241 : Index := Scalar.indexCast arg33
  let c240_82 : Index := 240#32
  ![v241.toNat, 240]
@[reducible] def k3_t15_loop (k3_t13 : Fin k3_t13_loop.trips) : Scf.Loop 32 :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let v178 : BitVec 32 := Scalar.addi v155 v177
  let c1_i32_63 : BitVec 32 := 1#32
  ⟨v181, v178, c1_i32_63⟩

def k3_chk22 (i : grid3.Coords) (k3_t9 : Fin (k3_t9_loop i).trips) (arg16 : BitVec 32) (v163 : BitVec 32) (v170 : BitVec 32) (v184 : IVec S16 32) : Prop :=
  (∀ (k3_h18 : k3_cond18 i k3_t9 = 1#1), ∀ (k3_h19 : ¬(k3_cond19 arg16 v163 v170 = 1#1)), ∀ a x, ((![v184] : Fin 1 → IVec S16 32) a x).toNat < S128.size a)
theorem k3_idx12_inb : ∀ (i : grid3.Coords) (k3_t9 : Fin (k3_t9_loop i).trips) (arg16 : BitVec 32) (v163 : BitVec 32) (v170 : BitVec 32) (v184 : IVec S16 32) (k3_hw22 : k3_chk22 i k3_t9 arg16 v163 v170 v184), ∀ (k3_h18 : k3_cond18 i k3_t9 = 1#1), ∀ (k3_h19 : ¬(k3_cond19 arg16 v163 v170 = 1#1)), ∀ a x, ((![v184] : Fin 1 → IVec S16 32) a x).toNat < S128.size a := fun i k3_t9 arg16 v163 v170 v184 k3_hw22 k3_h18 k3_h19 => k3_hw22 k3_h18 k3_h19
def k3_off360 (arg34 : BitVec 32) : Fin 2 → Nat :=
  let v244 : Index := Scalar.indexCast arg34
  let c0_83 : Index := 0#32
  ![v244.toNat, 0]
def k3_cond21 (arg34 : BitVec 32) (v191 : BitVec 32) : BitVec 1 :=
  let v192 : BitVec 1 := Scalar.cmpi .ne v191 arg34
  let v193 : BitVec 32 := Scalar.extui v192
  let c0_i32_66 : BitVec 32 := 0#32
  let v194 : BitVec 1 := Scalar.cmpi .ne v193 c0_i32_66
  v194

def k3_off361 (arg34 : BitVec 32) : Fin 2 → Nat :=
  let v249 : Index := Scalar.indexCast arg34
  let c16_85 : Index := 16#32
  ![v249.toNat, 16]
def k3_off362 (arg34 : BitVec 32) : Fin 2 → Nat :=
  let v254 : Index := Scalar.indexCast arg34
  let c32_87 : Index := 32#32
  ![v254.toNat, 32]
def k3_off363 (arg34 : BitVec 32) : Fin 2 → Nat :=
  let v259 : Index := Scalar.indexCast arg34
  let c48_89 : Index := 48#32
  ![v259.toNat, 48]
def k3_off364 (arg34 : BitVec 32) : Fin 2 → Nat :=
  let v264 : Index := Scalar.indexCast arg34
  let c64_91 : Index := 64#32
  ![v264.toNat, 64]
def k3_off365 (arg34 : BitVec 32) : Fin 2 → Nat :=
  let v269 : Index := Scalar.indexCast arg34
  let c80_93 : Index := 80#32
  ![v269.toNat, 80]
def k3_off366 (arg34 : BitVec 32) : Fin 2 → Nat :=
  let v274 : Index := Scalar.indexCast arg34
  let c96_95 : Index := 96#32
  ![v274.toNat, 96]
def k3_off367 (arg34 : BitVec 32) : Fin 2 → Nat :=
  let v279 : Index := Scalar.indexCast arg34
  let c112_97 : Index := 112#32
  ![v279.toNat, 112]
def k3_off368 (arg34 : BitVec 32) : Fin 2 → Nat :=
  let v284 : Index := Scalar.indexCast arg34
  let c128_99 : Index := 128#32
  ![v284.toNat, 128]
def k3_off369 (arg34 : BitVec 32) : Fin 2 → Nat :=
  let v289 : Index := Scalar.indexCast arg34
  let c144_101 : Index := 144#32
  ![v289.toNat, 144]
def k3_off370 (arg34 : BitVec 32) : Fin 2 → Nat :=
  let v294 : Index := Scalar.indexCast arg34
  let c160_103 : Index := 160#32
  ![v294.toNat, 160]
def k3_off371 (arg34 : BitVec 32) : Fin 2 → Nat :=
  let v299 : Index := Scalar.indexCast arg34
  let c176_105 : Index := 176#32
  ![v299.toNat, 176]
def k3_off372 (arg34 : BitVec 32) : Fin 2 → Nat :=
  let v304 : Index := Scalar.indexCast arg34
  let c192_107 : Index := 192#32
  ![v304.toNat, 192]
def k3_off373 (arg34 : BitVec 32) : Fin 2 → Nat :=
  let v309 : Index := Scalar.indexCast arg34
  let c208_109 : Index := 208#32
  ![v309.toNat, 208]
def k3_off374 (arg34 : BitVec 32) : Fin 2 → Nat :=
  let v314 : Index := Scalar.indexCast arg34
  let c224_111 : Index := 224#32
  ![v314.toNat, 224]
def k3_off375 (arg34 : BitVec 32) : Fin 2 → Nat :=
  let v319 : Index := Scalar.indexCast arg34
  let c240_113 : Index := 240#32
  ![v319.toNat, 240]

def k3_chk23 (i : grid3.Coords) (k3_t9 : Fin (k3_t9_loop i).trips) (arg16 : BitVec 32) (v163 : BitVec 32) (v170 : BitVec 32) (arg34 : BitVec 32) (v191 : BitVec 32) : Prop :=
  (∀ (k3_h18 : k3_cond18 i k3_t9 = 1#1), ∀ (k3_h19 : ¬(k3_cond19 arg16 v163 v170 = 1#1)), ∀ (k3_h21 : k3_cond21 arg34 v191 = 1#1), ∀ a, (k3_off360 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off361 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off362 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off363 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off364 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off365 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off366 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off367 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off368 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off369 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off370 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off371 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off372 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off373 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off374 arg34) a + S1x16.size a ≤ S256x256.size a) ∧
  (∀ (k3_h18 : k3_cond18 i k3_t9 = 1#1), ∀ (k3_h19 : ¬(k3_cond19 arg16 v163 v170 = 1#1)), ∀ (k3_h21 : k3_cond21 arg34 v191 = 1#1), ∀ a, (k3_off375 arg34) a + S1x16.size a ≤ S256x256.size a)
theorem k3_off360_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off360 arg34) a + S1x16.size a ≤ S256x256.size a := fun i k3_t9 arg16 v163 v170 arg34 v191 k3_hw23 k3_h18 k3_h19 k3_h21 => k3_hw23.1 k3_h18 k3_h19 k3_h21
theorem k3_off361_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off361 arg34) a + S1x16.size a ≤ S256x256.size a := fun i k3_t9 arg16 v163 v170 arg34 v191 k3_hw23 k3_h18 k3_h19 k3_h21 => k3_hw23.2.1 k3_h18 k3_h19 k3_h21
theorem k3_off362_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off362 arg34) a + S1x16.size a ≤ S256x256.size a := fun i k3_t9 arg16 v163 v170 arg34 v191 k3_hw23 k3_h18 k3_h19 k3_h21 => k3_hw23.2.2.1 k3_h18 k3_h19 k3_h21
theorem k3_off363_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off363 arg34) a + S1x16.size a ≤ S256x256.size a := fun i k3_t9 arg16 v163 v170 arg34 v191 k3_hw23 k3_h18 k3_h19 k3_h21 => k3_hw23.2.2.2.1 k3_h18 k3_h19 k3_h21
theorem k3_off364_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off364 arg34) a + S1x16.size a ≤ S256x256.size a := fun i k3_t9 arg16 v163 v170 arg34 v191 k3_hw23 k3_h18 k3_h19 k3_h21 => k3_hw23.2.2.2.2.1 k3_h18 k3_h19 k3_h21
theorem k3_off365_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off365 arg34) a + S1x16.size a ≤ S256x256.size a := fun i k3_t9 arg16 v163 v170 arg34 v191 k3_hw23 k3_h18 k3_h19 k3_h21 => k3_hw23.2.2.2.2.2.1 k3_h18 k3_h19 k3_h21
theorem k3_off366_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off366 arg34) a + S1x16.size a ≤ S256x256.size a := fun i k3_t9 arg16 v163 v170 arg34 v191 k3_hw23 k3_h18 k3_h19 k3_h21 => k3_hw23.2.2.2.2.2.2.1 k3_h18 k3_h19 k3_h21
theorem k3_off367_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off367 arg34) a + S1x16.size a ≤ S256x256.size a := fun i k3_t9 arg16 v163 v170 arg34 v191 k3_hw23 k3_h18 k3_h19 k3_h21 => k3_hw23.2.2.2.2.2.2.2.1 k3_h18 k3_h19 k3_h21
theorem k3_off368_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off368 arg34) a + S1x16.size a ≤ S256x256.size a := fun i k3_t9 arg16 v163 v170 arg34 v191 k3_hw23 k3_h18 k3_h19 k3_h21 => k3_hw23.2.2.2.2.2.2.2.2.1 k3_h18 k3_h19 k3_h21
theorem k3_off369_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off369 arg34) a + S1x16.size a ≤ S256x256.size a := fun i k3_t9 arg16 v163 v170 arg34 v191 k3_hw23 k3_h18 k3_h19 k3_h21 => k3_hw23.2.2.2.2.2.2.2.2.2.1 k3_h18 k3_h19 k3_h21
theorem k3_off370_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off370 arg34) a + S1x16.size a ≤ S256x256.size a := fun i k3_t9 arg16 v163 v170 arg34 v191 k3_hw23 k3_h18 k3_h19 k3_h21 => k3_hw23.2.2.2.2.2.2.2.2.2.2.1 k3_h18 k3_h19 k3_h21
theorem k3_off371_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off371 arg34) a + S1x16.size a ≤ S256x256.size a := fun i k3_t9 arg16 v163 v170 arg34 v191 k3_hw23 k3_h18 k3_h19 k3_h21 => k3_hw23.2.2.2.2.2.2.2.2.2.2.2.1 k3_h18 k3_h19 k3_h21
theorem k3_off372_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off372 arg34) a + S1x16.size a ≤ S256x256.size a := fun i k3_t9 arg16 v163 v170 arg34 v191 k3_hw23 k3_h18 k3_h19 k3_h21 => k3_hw23.2.2.2.2.2.2.2.2.2.2.2.2.1 k3_h18 k3_h19 k3_h21
theorem k3_off373_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off373 arg34) a + S1x16.size a ≤ S256x256.size a := fun i k3_t9 arg16 v163 v170 arg34 v191 k3_hw23 k3_h18 k3_h19 k3_h21 => k3_hw23.2.2.2.2.2.2.2.2.2.2.2.2.2.1 k3_h18 k3_h19 k3_h21
theorem k3_off374_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off374 arg34) a + S1x16.size a ≤ S256x256.size a := fun i k3_t9 arg16 v163 v170 arg34 v191 k3_hw23 k3_h18 k3_h19 k3_h21 => k3_hw23.2.2.2.2.2.2.2.2.2.2.2.2.2.2.1 k3_h18 k3_h19 k3_h21
theorem k3_off375_inb : ∀ (i : grid3.Coords) (k3_t9 : Fin (k3_t9_loop i).trips) (arg16 : BitVec 32) (v163 : BitVec 32) (v170 : BitVec 32) (arg34 : BitVec 32) (v191 : BitVec 32) (k3_hw23 : k3_chk23 i k3_t9 arg16 v163 v170 arg34 v191), ∀ (k3_h18 : k3_cond18 i k3_t9 = 1#1), ∀ (k3_h19 : ¬(k3_cond19 arg16 v163 v170 = 1#1)), ∀ (k3_h21 : k3_cond21 arg34 v191 = 1#1), ∀ a, (k3_off375 arg34) a + S1x16.size a ≤ S256x256.size a := fun i k3_t9 arg16 v163 v170 arg34 v191 k3_hw23 k3_h18 k3_h19 k3_h21 => k3_hw23.2.2.2.2.2.2.2.2.2.2.2.2.2.2.2 k3_h18 k3_h19 k3_h21

def k3_off376 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v196 : Index := Scalar.indexCast arg33
  let c0_67 : Index := 0#32
  ![v196.toNat, 0]
def k3_off377 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v199 : Index := Scalar.indexCast arg33
  let c16_68 : Index := 16#32
  ![v199.toNat, 16]
def k3_off378 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v202 : Index := Scalar.indexCast arg33
  let c32_69 : Index := 32#32
  ![v202.toNat, 32]
def k3_off379 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v205 : Index := Scalar.indexCast arg33
  let c48_70 : Index := 48#32
  ![v205.toNat, 48]
def k3_off380 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v208 : Index := Scalar.indexCast arg33
  let c64_71 : Index := 64#32
  ![v208.toNat, 64]
def k3_off381 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v211 : Index := Scalar.indexCast arg33
  let c80_72 : Index := 80#32
  ![v211.toNat, 80]
def k3_off382 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v214 : Index := Scalar.indexCast arg33
  let c96_73 : Index := 96#32
  ![v214.toNat, 96]
def k3_off383 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v217 : Index := Scalar.indexCast arg33
  let c112_74 : Index := 112#32
  ![v217.toNat, 112]
def k3_off384 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v220 : Index := Scalar.indexCast arg33
  let c128_75 : Index := 128#32
  ![v220.toNat, 128]
def k3_off385 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v223 : Index := Scalar.indexCast arg33
  let c144_76 : Index := 144#32
  ![v223.toNat, 144]
def k3_off386 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v226 : Index := Scalar.indexCast arg33
  let c160_77 : Index := 160#32
  ![v226.toNat, 160]
def k3_off387 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v229 : Index := Scalar.indexCast arg33
  let c176_78 : Index := 176#32
  ![v229.toNat, 176]
def k3_off388 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v232 : Index := Scalar.indexCast arg33
  let c192_79 : Index := 192#32
  ![v232.toNat, 192]
def k3_off389 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v235 : Index := Scalar.indexCast arg33
  let c208_80 : Index := 208#32
  ![v235.toNat, 208]
def k3_off390 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v238 : Index := Scalar.indexCast arg33
  let c224_81 : Index := 224#32
  ![v238.toNat, 224]
def k3_off391 (k3_t13 : Fin k3_t13_loop.trips) (k3_t15 : Fin (k3_t15_loop k3_t13).trips) : Fin 2 → Nat :=
  let c0_i32_34 : BitVec 32 := 0#32
  let c1_i32_35 : BitVec 32 := 1#32
  let arg15 : BitVec 32 := Scf.iv c0_i32_34 c1_i32_35 k3_t13
  let c16_i32 : BitVec 32 := 16#32
  let v155 : BitVec 32 := Scalar.muli arg15 c16_i32
  let c16_i32_60 : BitVec 32 := 16#32
  let v176 : BitVec 32 := Scalar.addi v155 c16_i32_60
  let v177 : BitVec 32 := Scalar.subi v176 v155
  let c1_i32_61 : BitVec 32 := 1#32
  let v179 : BitVec 32 := Scalar.divsi v177 c1_i32_61
  let v180 : BitVec 32 := Scalar.muli v179 c1_i32_61
  let v181 : BitVec 32 := Scalar.addi v155 v180
  let c1_i32_63 : BitVec 32 := 1#32
  let arg33 : BitVec 32 := Scf.iv v181 c1_i32_63 k3_t15
  let v241 : Index := Scalar.indexCast arg33
  let c240_82 : Index := 240#32
  ![v241.toNat, 240]
def k3_off392 (v70_0 : BitVec 32) : Fin 2 → Nat :=
  let v71 : Index := Scalar.indexCast v70_0
  let c0 : Index := 0#32
  ![v71.toNat, 0]

def k3_off393 (v70_0 : BitVec 32) : Fin 2 → Nat :=
  let v76 : Index := Scalar.indexCast v70_0
  let c16 : Index := 16#32
  ![v76.toNat, 16]
def k3_off394 (v70_0 : BitVec 32) : Fin 2 → Nat :=
  let v81 : Index := Scalar.indexCast v70_0
  let c32 : Index := 32#32
  ![v81.toNat, 32]
def k3_off395 (v70_0 : BitVec 32) : Fin 2 → Nat :=
  let v86 : Index := Scalar.indexCast v70_0
  let c48 : Index := 48#32
  ![v86.toNat, 48]
def k3_off396 (v70_0 : BitVec 32) : Fin 2 → Nat :=
  let v91 : Index := Scalar.indexCast v70_0
  let c64 : Index := 64#32
  ![v91.toNat, 64]
def k3_off397 (v70_0 : BitVec 32) : Fin 2 → Nat :=
  let v96 : Index := Scalar.indexCast v70_0
  let c80 : Index := 80#32
  ![v96.toNat, 80]
def k3_off398 (v70_0 : BitVec 32) : Fin 2 → Nat :=
  let v101 : Index := Scalar.indexCast v70_0
  let c96 : Index := 96#32
  ![v101.toNat, 96]
def k3_off399 (v70_0 : BitVec 32) : Fin 2 → Nat :=
  let v106 : Index := Scalar.indexCast v70_0
  let c112 : Index := 112#32
  ![v106.toNat, 112]
def k3_off400 (v70_0 : BitVec 32) : Fin 2 → Nat :=
  let v111 : Index := Scalar.indexCast v70_0
  let c128 : Index := 128#32
  ![v111.toNat, 128]
def k3_off401 (v70_0 : BitVec 32) : Fin 2 → Nat :=
  let v116 : Index := Scalar.indexCast v70_0
  let c144 : Index := 144#32
  ![v116.toNat, 144]
def k3_off402 (v70_0 : BitVec 32) : Fin 2 → Nat :=
  let v121 : Index := Scalar.indexCast v70_0
  let c160 : Index := 160#32
  ![v121.toNat, 160]
def k3_off403 (v70_0 : BitVec 32) : Fin 2 → Nat :=
  let v126 : Index := Scalar.indexCast v70_0
  let c176 : Index := 176#32
  ![v126.toNat, 176]
def k3_off404 (v70_0 : BitVec 32) : Fin 2 → Nat :=
  let v131 : Index := Scalar.indexCast v70_0
  let c192 : Index := 192#32
  ![v131.toNat, 192]
def k3_off405 (v70_0 : BitVec 32) : Fin 2 → Nat :=
  let v136 : Index := Scalar.indexCast v70_0
  let c208 : Index := 208#32
  ![v136.toNat, 208]
def k3_off406 (v70_0 : BitVec 32) : Fin 2 → Nat :=
  let v141 : Index := Scalar.indexCast v70_0
  let c224 : Index := 224#32
  ![v141.toNat, 224]
def k3_off407 (v70_0 : BitVec 32) : Fin 2 → Nat :=
  let v146 : Index := Scalar.indexCast v70_0
  let c240 : Index := 240#32
  ![v146.toNat, 240]

def k3_chk24 (i : grid3.Coords) (k3_t9 : Fin (k3_t9_loop i).trips) (v70_0 : BitVec 32) : Prop :=
  (∀ (k3_h18 : k3_cond18 i k3_t9 = 1#1), ∀ a, (k3_off392 v70_0) a + S1x16.size a ≤ S256x256.size a) ∧
  (∀ (k3_h18 : k3_cond18 i k3_t9 = 1#1), ∀ a, (k3_off393 v70_0) a + S1x16.size a ≤ S256x256.size a) ∧
  (∀ (k3_h18 : k3_cond18 i k3_t9 = 1#1), ∀ a, (k3_off394 v70_0) a + S1x16.size a ≤ S256x256.size a) ∧
  (∀ (k3_h18 : k3_cond18 i k3_t9 = 1#1), ∀ a, (k3_off395 v70_0) a + S1x16.size a ≤ S256x256.size a) ∧
  (∀ (k3_h18 : k3_cond18 i k3_t9 = 1#1), ∀ a, (k3_off396 v70_0) a + S1x16.size a ≤ S256x256.size a) ∧
  (∀ (k3_h18 : k3_cond18 i k3_t9 = 1#1), ∀ a, (k3_off397 v70_0) a + S1x16.size a ≤ S256x256.size a) ∧
  (∀ (k3_h18 : k3_cond18 i k3_t9 = 1#1), ∀ a, (k3_off398 v70_0) a + S1x16.size a ≤ S256x256.size a) ∧
  (∀ (k3_h18 : k3_cond18 i k3_t9 = 1#1), ∀ a, (k3_off399 v70_0) a + S1x16.size a ≤ S256x256.size a) ∧
  (∀ (k3_h18 : k3_cond18 i k3_t9 = 1#1), ∀ a, (k3_off400 v70_0) a + S1x16.size a ≤ S256x256.size a) ∧
  (∀ (k3_h18 : k3_cond18 i k3_t9 = 1#1), ∀ a, (k3_off401 v70_0) a + S1x16.size a ≤ S256x256.size a) ∧
  (∀ (k3_h18 : k3_cond18 i k3_t9 = 1#1), ∀ a, (k3_off402 v70_0) a + S1x16.size a ≤ S256x256.size a) ∧
  (∀ (k3_h18 : k3_cond18 i k3_t9 = 1#1), ∀ a, (k3_off403 v70_0) a + S1x16.size a ≤ S256x256.size a) ∧
  (∀ (k3_h18 : k3_cond18 i k3_t9 = 1#1), ∀ a, (k3_off404 v70_0) a + S1x16.size a ≤ S256x256.size a) ∧
  (∀ (k3_h18 : k3_cond18 i k3_t9 = 1#1), ∀ a, (k3_off405 v70_0) a + S1x16.size a ≤ S256x256.size a) ∧
  (∀ (k3_h18 : k3_cond18 i k3_t9 = 1#1), ∀ a, (k3_off406 v70_0) a + S1x16.size a ≤ S256x256.size a) ∧
  (∀ (k3_h18 : k3_cond18 i k3_t9 = 1#1), ∀ a, (k3_off407 v70_0) a + S1x16.size a ≤ S256x256.size a)
theorem k3_off392_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off392 v70_0) a + S1x16.size a ≤ S256x256.size a := fun i k3_t9 v70_0 k3_hw24 k3_h18 => k3_hw24.1 k3_h18
theorem k3_off393_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off393 v70_0) a + S1x16.size a ≤ S256x256.size a := fun i k3_t9 v70_0 k3_hw24 k3_h18 => k3_hw24.2.1 k3_h18
theorem k3_off394_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off394 v70_0) a + S1x16.size a ≤ S256x256.size a := fun i k3_t9 v70_0 k3_hw24 k3_h18 => k3_hw24.2.2.1 k3_h18
theorem k3_off395_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off395 v70_0) a + S1x16.size a ≤ S256x256.size a := fun i k3_t9 v70_0 k3_hw24 k3_h18 => k3_hw24.2.2.2.1 k3_h18
theorem k3_off396_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off396 v70_0) a + S1x16.size a ≤ S256x256.size a := fun i k3_t9 v70_0 k3_hw24 k3_h18 => k3_hw24.2.2.2.2.1 k3_h18
theorem k3_off397_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off397 v70_0) a + S1x16.size a ≤ S256x256.size a := fun i k3_t9 v70_0 k3_hw24 k3_h18 => k3_hw24.2.2.2.2.2.1 k3_h18
theorem k3_off398_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off398 v70_0) a + S1x16.size a ≤ S256x256.size a := fun i k3_t9 v70_0 k3_hw24 k3_h18 => k3_hw24.2.2.2.2.2.2.1 k3_h18
theorem k3_off399_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off399 v70_0) a + S1x16.size a ≤ S256x256.size a := fun i k3_t9 v70_0 k3_hw24 k3_h18 => k3_hw24.2.2.2.2.2.2.2.1 k3_h18
theorem k3_off400_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off400 v70_0) a + S1x16.size a ≤ S256x256.size a := fun i k3_t9 v70_0 k3_hw24 k3_h18 => k3_hw24.2.2.2.2.2.2.2.2.1 k3_h18
theorem k3_off401_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off401 v70_0) a + S1x16.size a ≤ S256x256.size a := fun i k3_t9 v70_0 k3_hw24 k3_h18 => k3_hw24.2.2.2.2.2.2.2.2.2.1 k3_h18
theorem k3_off402_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off402 v70_0) a + S1x16.size a ≤ S256x256.size a := fun i k3_t9 v70_0 k3_hw24 k3_h18 => k3_hw24.2.2.2.2.2.2.2.2.2.2.1 k3_h18
theorem k3_off403_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off403 v70_0) a + S1x16.size a ≤ S256x256.size a := fun i k3_t9 v70_0 k3_hw24 k3_h18 => k3_hw24.2.2.2.2.2.2.2.2.2.2.2.1 k3_h18
theorem k3_off404_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off404 v70_0) a + S1x16.size a ≤ S256x256.size a := fun i k3_t9 v70_0 k3_hw24 k3_h18 => k3_hw24.2.2.2.2.2.2.2.2.2.2.2.2.1 k3_h18
theorem k3_off405_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off405 v70_0) a + S1x16.size a ≤ S256x256.size a := fun i k3_t9 v70_0 k3_hw24 k3_h18 => k3_hw24.2.2.2.2.2.2.2.2.2.2.2.2.2.1 k3_h18
theorem k3_off406_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off406 v70_0) a + S1x16.size a ≤ S256x256.size a := fun i k3_t9 v70_0 k3_hw24 k3_h18 => k3_hw24.2.2.2.2.2.2.2.2.2.2.2.2.2.2.1 k3_h18
theorem k3_off407_inb : ∀ (i : grid3.Coords) (k3_t9 : Fin (k3_t9_loop i).trips) (v70_0 : BitVec 32) (k3_hw24 : k3_chk24 i k3_t9 v70_0), ∀ (k3_h18 : k3_cond18 i k3_t9 = 1#1), ∀ a, (k3_off407 v70_0) a + S1x16.size a ≤ S256x256.size a := fun i k3_t9 v70_0 k3_hw24 k3_h18 => k3_hw24.2.2.2.2.2.2.2.2.2.2.2.2.2.2.2 k3_h18

def k3_cond22 (i : grid3.Coords) (k3_t9 : Fin (k3_t9_loop i).trips) : BitVec 1 :=
  let c0_i32_16 : BitVec 32 := 0#32
  let arg1 : BitVec 32 := BitVec.ofNat 32 (i 1).val
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_28 : BitVec 32 := 2#32
  let v47 : BitVec 32 := Scalar.muli arg14 c2_i32_28
  let c1_i32_29 : BitVec 32 := 1#32
  let v48 : BitVec 32 := Scalar.addi v47 c1_i32_29
  let c2_i32_53 : BitVec 32 := 2#32
  let v151 : BitVec 32 := Scalar.addi v48 c2_i32_53
  let v152 : BitVec 1 := Scalar.cmpi .slt v151 v2
  let v153 : BitVec 32 := Scalar.extui v152
  let c0_i32_54 : BitVec 32 := 0#32
  let v154 : BitVec 1 := Scalar.cmpi .ne v153 c0_i32_54
  v154

def k3_off408 (i : grid3.Coords) (k3_t9 : Fin (k3_t9_loop i).trips) : Fin 2 → Nat :=
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_28 : BitVec 32 := 2#32
  let v47 : BitVec 32 := Scalar.muli arg14 c2_i32_28
  let c1_i32_29 : BitVec 32 := 1#32
  let v48 : BitVec 32 := Scalar.addi v47 c1_i32_29
  let c2_i32_55 : BitVec 32 := 2#32
  let v155 : BitVec 32 := Scalar.addi v48 c2_i32_55
  let c112_i32_56 : BitVec 32 := 112#32
  let v156 : BitVec 32 := Scalar.muli v155 c112_i32_56
  let v157 : BitVec 32 := Scalar.addi v0 v156
  let arg0 : BitVec 32 := BitVec.ofNat 32 (i 0).val
  let c256_i32 : BitVec 32 := 256#32
  let v5 : BitVec 32 := Scalar.muli arg0 c256_i32
  ![v157.toNat, v5.toNat]
def k3_off409 (i : grid3.Coords) (k3_t9 : Fin (k3_t9_loop i).trips) : Fin 1 → Nat :=
  let c50000_i32_57 : BitVec 32 := 50000#32
  let arg1 : BitVec 32 := BitVec.ofNat 32 (i 1).val
  let c3136_i32 : BitVec 32 := 3136#32
  let v0 : BitVec 32 := Scalar.muli arg1 c3136_i32
  let c0_i32_16 : BitVec 32 := 0#32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c1_i32_8 : BitVec 32 := 1#32
  let v14 : BitVec 32 := Scalar.addi v2 c1_i32_8
  let c0_i32_9 : BitVec 32 := 0#32
  let v16 : BitVec 1 := Scalar.cmpi .sgt v14 c0_i32_9
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi v14 c2_i32
  let c0_i32_13 : BitVec 32 := 0#32
  let v28 : BitVec 1 := Scalar.cmpi .ne v27 c0_i32_13
  let v29 : BitVec 1 := Scalar.andi v26 v28
  let v15 : BitVec 32 := Scalar.divsi v14 c2_i32
  let c1_i32_14 : BitVec 32 := 1#32
  let v30 : BitVec 32 := Scalar.subi v15 c1_i32_14
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg14 : BitVec 32 := Scf.iv v36 c1_i32_19 k3_t9
  let c2_i32_28 : BitVec 32 := 2#32
  let v47 : BitVec 32 := Scalar.muli arg14 c2_i32_28
  let c1_i32_29 : BitVec 32 := 1#32
  let v48 : BitVec 32 := Scalar.addi v47 c1_i32_29
  let c2_i32_55 : BitVec 32 := 2#32
  let v155 : BitVec 32 := Scalar.addi v48 c2_i32_55
  let c112_i32_56 : BitVec 32 := 112#32
  let v156 : BitVec 32 := Scalar.muli v155 c112_i32_56
  let v157 : BitVec 32 := Scalar.addi v0 v156
  let v160 : BitVec 32 := Scalar.addi c50000_i32_57 v157
  ![v160.toNat]
@[reducible] def k3_t16_loop (i : grid3.Coords) : Scf.Loop 32 :=
  let c0_i32_21 : BitVec 32 := 0#32
  let arg1 : BitVec 32 := BitVec.ofNat 32 (i 1).val
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_23 : BitVec 32 := 1#32
  ⟨c0_i32_21, v41, c1_i32_23⟩
def k3_off410 (i : grid3.Coords) (k3_t16 : Fin (k3_t16_loop i).trips) : Fin 2 → Nat :=
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c1_i32_23 : BitVec 32 := 1#32
  let arg14 : BitVec 32 := Scf.iv c0_i32_21 c1_i32_23 k3_t16
  let c8_i32 : BitVec 32 := 8#32
  let v44 : BitVec 32 := Scalar.muli arg14 c8_i32
  let v45 : BitVec 32 := Scalar.addi v43 v44
  let arg0 : BitVec 32 := BitVec.ofNat 32 (i 0).val
  let c256_i32 : BitVec 32 := 256#32
  let v5 : BitVec 32 := Scalar.muli arg0 c256_i32
  ![v45.toNat, v5.toNat]
def k3_off411 (i : grid3.Coords) (k3_t16 : Fin (k3_t16_loop i).trips) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c1_i32_23 : BitVec 32 := 1#32
  let arg14 : BitVec 32 := Scf.iv c0_i32_21 c1_i32_23 k3_t16
  let c8_i32 : BitVec 32 := 8#32
  let v44 : BitVec 32 := Scalar.muli arg14 c8_i32
  let v45 : BitVec 32 := Scalar.addi v43 v44
  let v46 : BitVec 32 := Scalar.addi c50000_i32 v45
  ![v46.toNat]

def k3_chk25 (i : grid3.Coords) (k3_t16 : Fin (k3_t16_loop i).trips) (v47 : IVec S16 32) : Prop :=
  (∀ a x, ((![v47] : Fin 1 → IVec S16 32) a x).toNat < S128.size a)
theorem k3_idx13_inb : ∀ (i : grid3.Coords) (k3_t16 : Fin (k3_t16_loop i).trips) (v47 : IVec S16 32) (k3_hw25 : k3_chk25 i k3_t16 v47), ∀ a x, ((![v47] : Fin 1 → IVec S16 32) a x).toNat < S128.size a := fun i k3_t16 v47 k3_hw25 => k3_hw25
@[reducible] def k3_t17_loop : Scf.Loop 32 :=
  let c0_i32_26 : BitVec 32 := 0#32
  let c8_i32_27 : BitVec 32 := 8#32
  let v55 : BitVec 32 := Scalar.addi c0_i32_26 c8_i32_27
  let c1_i32_28 : BitVec 32 := 1#32
  ⟨c0_i32_26, v55, c1_i32_28⟩

def k3_chk26 (i : grid3.Coords) (k3_t16 : Fin (k3_t16_loop i).trips) (v137 : IVec S16 32) : Prop :=
  (∀ a x, ((![v137] : Fin 1 → IVec S16 32) a x).toNat < S128.size a)
theorem k3_idx14_inb : ∀ (i : grid3.Coords) (k3_t16 : Fin (k3_t16_loop i).trips) (v137 : IVec S16 32) (k3_hw26 : k3_chk26 i k3_t16 v137), ∀ a x, ((![v137] : Fin 1 → IVec S16 32) a x).toNat < S128.size a := fun i k3_t16 v137 k3_hw26 => k3_hw26
def k3_off412 (arg16 : BitVec 32) : Fin 2 → Nat :=
  let v197 : Index := Scalar.indexCast arg16
  let c0_65 : Index := 0#32
  ![v197.toNat, 0]
def k3_cond23 (arg16 : BitVec 32) (v144 : BitVec 32) : BitVec 1 :=
  let v145 : BitVec 1 := Scalar.cmpi .ne v144 arg16
  let v146 : BitVec 32 := Scalar.extui v145
  let c0_i32_48 : BitVec 32 := 0#32
  let v147 : BitVec 1 := Scalar.cmpi .ne v146 c0_i32_48
  v147

def k3_off413 (arg16 : BitVec 32) : Fin 2 → Nat :=
  let v202 : Index := Scalar.indexCast arg16
  let c16_67 : Index := 16#32
  ![v202.toNat, 16]
def k3_off414 (arg16 : BitVec 32) : Fin 2 → Nat :=
  let v207 : Index := Scalar.indexCast arg16
  let c32_69 : Index := 32#32
  ![v207.toNat, 32]
def k3_off415 (arg16 : BitVec 32) : Fin 2 → Nat :=
  let v212 : Index := Scalar.indexCast arg16
  let c48_71 : Index := 48#32
  ![v212.toNat, 48]
def k3_off416 (arg16 : BitVec 32) : Fin 2 → Nat :=
  let v217 : Index := Scalar.indexCast arg16
  let c64_73 : Index := 64#32
  ![v217.toNat, 64]
def k3_off417 (arg16 : BitVec 32) : Fin 2 → Nat :=
  let v222 : Index := Scalar.indexCast arg16
  let c80_75 : Index := 80#32
  ![v222.toNat, 80]
def k3_off418 (arg16 : BitVec 32) : Fin 2 → Nat :=
  let v227 : Index := Scalar.indexCast arg16
  let c96_77 : Index := 96#32
  ![v227.toNat, 96]
def k3_off419 (arg16 : BitVec 32) : Fin 2 → Nat :=
  let v232 : Index := Scalar.indexCast arg16
  let c112_79 : Index := 112#32
  ![v232.toNat, 112]
def k3_off420 (arg16 : BitVec 32) : Fin 2 → Nat :=
  let v237 : Index := Scalar.indexCast arg16
  let c128_81 : Index := 128#32
  ![v237.toNat, 128]
def k3_off421 (arg16 : BitVec 32) : Fin 2 → Nat :=
  let v242 : Index := Scalar.indexCast arg16
  let c144_83 : Index := 144#32
  ![v242.toNat, 144]
def k3_off422 (arg16 : BitVec 32) : Fin 2 → Nat :=
  let v247 : Index := Scalar.indexCast arg16
  let c160_85 : Index := 160#32
  ![v247.toNat, 160]
def k3_off423 (arg16 : BitVec 32) : Fin 2 → Nat :=
  let v252 : Index := Scalar.indexCast arg16
  let c176_87 : Index := 176#32
  ![v252.toNat, 176]
def k3_off424 (arg16 : BitVec 32) : Fin 2 → Nat :=
  let v257 : Index := Scalar.indexCast arg16
  let c192_89 : Index := 192#32
  ![v257.toNat, 192]
def k3_off425 (arg16 : BitVec 32) : Fin 2 → Nat :=
  let v262 : Index := Scalar.indexCast arg16
  let c208_91 : Index := 208#32
  ![v262.toNat, 208]
def k3_off426 (arg16 : BitVec 32) : Fin 2 → Nat :=
  let v267 : Index := Scalar.indexCast arg16
  let c224_93 : Index := 224#32
  ![v267.toNat, 224]
def k3_off427 (arg16 : BitVec 32) : Fin 2 → Nat :=
  let v272 : Index := Scalar.indexCast arg16
  let c240_95 : Index := 240#32
  ![v272.toNat, 240]

def k3_chk27 (i : grid3.Coords) (k3_t16 : Fin (k3_t16_loop i).trips) (arg16 : BitVec 32) (v144 : BitVec 32) : Prop :=
  (∀ (k3_h23 : k3_cond23 arg16 v144 = 1#1), ∀ a, (k3_off412 arg16) a + S1x16.size a ≤ S256x256.size a) ∧
  (∀ (k3_h23 : k3_cond23 arg16 v144 = 1#1), ∀ a, (k3_off413 arg16) a + S1x16.size a ≤ S256x256.size a) ∧
  (∀ (k3_h23 : k3_cond23 arg16 v144 = 1#1), ∀ a, (k3_off414 arg16) a + S1x16.size a ≤ S256x256.size a) ∧
  (∀ (k3_h23 : k3_cond23 arg16 v144 = 1#1), ∀ a, (k3_off415 arg16) a + S1x16.size a ≤ S256x256.size a) ∧
  (∀ (k3_h23 : k3_cond23 arg16 v144 = 1#1), ∀ a, (k3_off416 arg16) a + S1x16.size a ≤ S256x256.size a) ∧
  (∀ (k3_h23 : k3_cond23 arg16 v144 = 1#1), ∀ a, (k3_off417 arg16) a + S1x16.size a ≤ S256x256.size a) ∧
  (∀ (k3_h23 : k3_cond23 arg16 v144 = 1#1), ∀ a, (k3_off418 arg16) a + S1x16.size a ≤ S256x256.size a) ∧
  (∀ (k3_h23 : k3_cond23 arg16 v144 = 1#1), ∀ a, (k3_off419 arg16) a + S1x16.size a ≤ S256x256.size a) ∧
  (∀ (k3_h23 : k3_cond23 arg16 v144 = 1#1), ∀ a, (k3_off420 arg16) a + S1x16.size a ≤ S256x256.size a) ∧
  (∀ (k3_h23 : k3_cond23 arg16 v144 = 1#1), ∀ a, (k3_off421 arg16) a + S1x16.size a ≤ S256x256.size a) ∧
  (∀ (k3_h23 : k3_cond23 arg16 v144 = 1#1), ∀ a, (k3_off422 arg16) a + S1x16.size a ≤ S256x256.size a) ∧
  (∀ (k3_h23 : k3_cond23 arg16 v144 = 1#1), ∀ a, (k3_off423 arg16) a + S1x16.size a ≤ S256x256.size a) ∧
  (∀ (k3_h23 : k3_cond23 arg16 v144 = 1#1), ∀ a, (k3_off424 arg16) a + S1x16.size a ≤ S256x256.size a) ∧
  (∀ (k3_h23 : k3_cond23 arg16 v144 = 1#1), ∀ a, (k3_off425 arg16) a + S1x16.size a ≤ S256x256.size a) ∧
  (∀ (k3_h23 : k3_cond23 arg16 v144 = 1#1), ∀ a, (k3_off426 arg16) a + S1x16.size a ≤ S256x256.size a) ∧
  (∀ (k3_h23 : k3_cond23 arg16 v144 = 1#1), ∀ a, (k3_off427 arg16) a + S1x16.size a ≤ S256x256.size a)
theorem k3_off412_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off412 arg16) a + S1x16.size a ≤ S256x256.size a := fun i k3_t16 arg16 v144 k3_hw27 k3_h23 => k3_hw27.1 k3_h23
theorem k3_off413_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off413 arg16) a + S1x16.size a ≤ S256x256.size a := fun i k3_t16 arg16 v144 k3_hw27 k3_h23 => k3_hw27.2.1 k3_h23
theorem k3_off414_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off414 arg16) a + S1x16.size a ≤ S256x256.size a := fun i k3_t16 arg16 v144 k3_hw27 k3_h23 => k3_hw27.2.2.1 k3_h23
theorem k3_off415_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off415 arg16) a + S1x16.size a ≤ S256x256.size a := fun i k3_t16 arg16 v144 k3_hw27 k3_h23 => k3_hw27.2.2.2.1 k3_h23
theorem k3_off416_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off416 arg16) a + S1x16.size a ≤ S256x256.size a := fun i k3_t16 arg16 v144 k3_hw27 k3_h23 => k3_hw27.2.2.2.2.1 k3_h23
theorem k3_off417_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off417 arg16) a + S1x16.size a ≤ S256x256.size a := fun i k3_t16 arg16 v144 k3_hw27 k3_h23 => k3_hw27.2.2.2.2.2.1 k3_h23
theorem k3_off418_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off418 arg16) a + S1x16.size a ≤ S256x256.size a := fun i k3_t16 arg16 v144 k3_hw27 k3_h23 => k3_hw27.2.2.2.2.2.2.1 k3_h23
theorem k3_off419_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off419 arg16) a + S1x16.size a ≤ S256x256.size a := fun i k3_t16 arg16 v144 k3_hw27 k3_h23 => k3_hw27.2.2.2.2.2.2.2.1 k3_h23
theorem k3_off420_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off420 arg16) a + S1x16.size a ≤ S256x256.size a := fun i k3_t16 arg16 v144 k3_hw27 k3_h23 => k3_hw27.2.2.2.2.2.2.2.2.1 k3_h23
theorem k3_off421_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off421 arg16) a + S1x16.size a ≤ S256x256.size a := fun i k3_t16 arg16 v144 k3_hw27 k3_h23 => k3_hw27.2.2.2.2.2.2.2.2.2.1 k3_h23
theorem k3_off422_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off422 arg16) a + S1x16.size a ≤ S256x256.size a := fun i k3_t16 arg16 v144 k3_hw27 k3_h23 => k3_hw27.2.2.2.2.2.2.2.2.2.2.1 k3_h23
theorem k3_off423_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off423 arg16) a + S1x16.size a ≤ S256x256.size a := fun i k3_t16 arg16 v144 k3_hw27 k3_h23 => k3_hw27.2.2.2.2.2.2.2.2.2.2.2.1 k3_h23
theorem k3_off424_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off424 arg16) a + S1x16.size a ≤ S256x256.size a := fun i k3_t16 arg16 v144 k3_hw27 k3_h23 => k3_hw27.2.2.2.2.2.2.2.2.2.2.2.2.1 k3_h23
theorem k3_off425_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off425 arg16) a + S1x16.size a ≤ S256x256.size a := fun i k3_t16 arg16 v144 k3_hw27 k3_h23 => k3_hw27.2.2.2.2.2.2.2.2.2.2.2.2.2.1 k3_h23
theorem k3_off426_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off426 arg16) a + S1x16.size a ≤ S256x256.size a := fun i k3_t16 arg16 v144 k3_hw27 k3_h23 => k3_hw27.2.2.2.2.2.2.2.2.2.2.2.2.2.2.1 k3_h23
theorem k3_off427_inb : ∀ (i : grid3.Coords) (k3_t16 : Fin (k3_t16_loop i).trips) (arg16 : BitVec 32) (v144 : BitVec 32) (k3_hw27 : k3_chk27 i k3_t16 arg16 v144), ∀ (k3_h23 : k3_cond23 arg16 v144 = 1#1), ∀ a, (k3_off427 arg16) a + S1x16.size a ≤ S256x256.size a := fun i k3_t16 arg16 v144 k3_hw27 k3_h23 => k3_hw27.2.2.2.2.2.2.2.2.2.2.2.2.2.2.2 k3_h23

def k3_off428 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v149 : Index := Scalar.indexCast arg15
  let c0_49 : Index := 0#32
  ![v149.toNat, 0]
def k3_off429 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v152 : Index := Scalar.indexCast arg15
  let c16_50 : Index := 16#32
  ![v152.toNat, 16]
def k3_off430 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v155 : Index := Scalar.indexCast arg15
  let c32_51 : Index := 32#32
  ![v155.toNat, 32]
def k3_off431 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v158 : Index := Scalar.indexCast arg15
  let c48_52 : Index := 48#32
  ![v158.toNat, 48]
def k3_off432 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v161 : Index := Scalar.indexCast arg15
  let c64_53 : Index := 64#32
  ![v161.toNat, 64]
def k3_off433 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v164 : Index := Scalar.indexCast arg15
  let c80_54 : Index := 80#32
  ![v164.toNat, 80]
def k3_off434 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v167 : Index := Scalar.indexCast arg15
  let c96_55 : Index := 96#32
  ![v167.toNat, 96]
def k3_off435 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v170 : Index := Scalar.indexCast arg15
  let c112_56 : Index := 112#32
  ![v170.toNat, 112]
def k3_off436 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v173 : Index := Scalar.indexCast arg15
  let c128_57 : Index := 128#32
  ![v173.toNat, 128]
def k3_off437 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v176 : Index := Scalar.indexCast arg15
  let c144_58 : Index := 144#32
  ![v176.toNat, 144]
def k3_off438 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v179 : Index := Scalar.indexCast arg15
  let c160_59 : Index := 160#32
  ![v179.toNat, 160]
def k3_off439 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v182 : Index := Scalar.indexCast arg15
  let c176_60 : Index := 176#32
  ![v182.toNat, 176]
def k3_off440 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v185 : Index := Scalar.indexCast arg15
  let c192_61 : Index := 192#32
  ![v185.toNat, 192]
def k3_off441 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v188 : Index := Scalar.indexCast arg15
  let c208_62 : Index := 208#32
  ![v188.toNat, 208]
def k3_off442 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v191 : Index := Scalar.indexCast arg15
  let c224_63 : Index := 224#32
  ![v191.toNat, 224]
def k3_off443 (k3_t17 : Fin k3_t17_loop.trips) : Fin 2 → Nat :=
  let c0_i32_26 : BitVec 32 := 0#32
  let c1_i32_28 : BitVec 32 := 1#32
  let arg15 : BitVec 32 := Scf.iv c0_i32_26 c1_i32_28 k3_t17
  let v194 : Index := Scalar.indexCast arg15
  let c240_64 : Index := 240#32
  ![v194.toNat, 240]
def k3_off444 (v56_0 : BitVec 32) : Fin 2 → Nat :=
  let v57 : Index := Scalar.indexCast v56_0
  let c0 : Index := 0#32
  ![v57.toNat, 0]

def k3_off445 (v56_0 : BitVec 32) : Fin 2 → Nat :=
  let v62 : Index := Scalar.indexCast v56_0
  let c16 : Index := 16#32
  ![v62.toNat, 16]
def k3_off446 (v56_0 : BitVec 32) : Fin 2 → Nat :=
  let v67 : Index := Scalar.indexCast v56_0
  let c32 : Index := 32#32
  ![v67.toNat, 32]
def k3_off447 (v56_0 : BitVec 32) : Fin 2 → Nat :=
  let v72 : Index := Scalar.indexCast v56_0
  let c48 : Index := 48#32
  ![v72.toNat, 48]
def k3_off448 (v56_0 : BitVec 32) : Fin 2 → Nat :=
  let v77 : Index := Scalar.indexCast v56_0
  let c64 : Index := 64#32
  ![v77.toNat, 64]
def k3_off449 (v56_0 : BitVec 32) : Fin 2 → Nat :=
  let v82 : Index := Scalar.indexCast v56_0
  let c80 : Index := 80#32
  ![v82.toNat, 80]
def k3_off450 (v56_0 : BitVec 32) : Fin 2 → Nat :=
  let v87 : Index := Scalar.indexCast v56_0
  let c96 : Index := 96#32
  ![v87.toNat, 96]
def k3_off451 (v56_0 : BitVec 32) : Fin 2 → Nat :=
  let v92 : Index := Scalar.indexCast v56_0
  let c112 : Index := 112#32
  ![v92.toNat, 112]
def k3_off452 (v56_0 : BitVec 32) : Fin 2 → Nat :=
  let v97 : Index := Scalar.indexCast v56_0
  let c128 : Index := 128#32
  ![v97.toNat, 128]
def k3_off453 (v56_0 : BitVec 32) : Fin 2 → Nat :=
  let v102 : Index := Scalar.indexCast v56_0
  let c144 : Index := 144#32
  ![v102.toNat, 144]
def k3_off454 (v56_0 : BitVec 32) : Fin 2 → Nat :=
  let v107 : Index := Scalar.indexCast v56_0
  let c160 : Index := 160#32
  ![v107.toNat, 160]
def k3_off455 (v56_0 : BitVec 32) : Fin 2 → Nat :=
  let v112 : Index := Scalar.indexCast v56_0
  let c176 : Index := 176#32
  ![v112.toNat, 176]
def k3_off456 (v56_0 : BitVec 32) : Fin 2 → Nat :=
  let v117 : Index := Scalar.indexCast v56_0
  let c192 : Index := 192#32
  ![v117.toNat, 192]
def k3_off457 (v56_0 : BitVec 32) : Fin 2 → Nat :=
  let v122 : Index := Scalar.indexCast v56_0
  let c208 : Index := 208#32
  ![v122.toNat, 208]
def k3_off458 (v56_0 : BitVec 32) : Fin 2 → Nat :=
  let v127 : Index := Scalar.indexCast v56_0
  let c224 : Index := 224#32
  ![v127.toNat, 224]
def k3_off459 (v56_0 : BitVec 32) : Fin 2 → Nat :=
  let v132 : Index := Scalar.indexCast v56_0
  let c240 : Index := 240#32
  ![v132.toNat, 240]

def k3_chk28 (i : grid3.Coords) (k3_t16 : Fin (k3_t16_loop i).trips) (v56_0 : BitVec 32) : Prop :=
  (∀ a, (k3_off444 v56_0) a + S1x16.size a ≤ S256x256.size a) ∧
  (∀ a, (k3_off445 v56_0) a + S1x16.size a ≤ S256x256.size a) ∧
  (∀ a, (k3_off446 v56_0) a + S1x16.size a ≤ S256x256.size a) ∧
  (∀ a, (k3_off447 v56_0) a + S1x16.size a ≤ S256x256.size a) ∧
  (∀ a, (k3_off448 v56_0) a + S1x16.size a ≤ S256x256.size a) ∧
  (∀ a, (k3_off449 v56_0) a + S1x16.size a ≤ S256x256.size a) ∧
  (∀ a, (k3_off450 v56_0) a + S1x16.size a ≤ S256x256.size a) ∧
  (∀ a, (k3_off451 v56_0) a + S1x16.size a ≤ S256x256.size a) ∧
  (∀ a, (k3_off452 v56_0) a + S1x16.size a ≤ S256x256.size a) ∧
  (∀ a, (k3_off453 v56_0) a + S1x16.size a ≤ S256x256.size a) ∧
  (∀ a, (k3_off454 v56_0) a + S1x16.size a ≤ S256x256.size a) ∧
  (∀ a, (k3_off455 v56_0) a + S1x16.size a ≤ S256x256.size a) ∧
  (∀ a, (k3_off456 v56_0) a + S1x16.size a ≤ S256x256.size a) ∧
  (∀ a, (k3_off457 v56_0) a + S1x16.size a ≤ S256x256.size a) ∧
  (∀ a, (k3_off458 v56_0) a + S1x16.size a ≤ S256x256.size a) ∧
  (∀ a, (k3_off459 v56_0) a + S1x16.size a ≤ S256x256.size a)
theorem k3_off444_inb : ∀ (i : grid3.Coords) (k3_t16 : Fin (k3_t16_loop i).trips) (v56_0 : BitVec 32) (k3_hw28 : k3_chk28 i k3_t16 v56_0), ∀ a, (k3_off444 v56_0) a + S1x16.size a ≤ S256x256.size a := fun i k3_t16 v56_0 k3_hw28 => k3_hw28.1
theorem k3_off445_inb : ∀ (i : grid3.Coords) (k3_t16 : Fin (k3_t16_loop i).trips) (v56_0 : BitVec 32) (k3_hw28 : k3_chk28 i k3_t16 v56_0), ∀ a, (k3_off445 v56_0) a + S1x16.size a ≤ S256x256.size a := fun i k3_t16 v56_0 k3_hw28 => k3_hw28.2.1
theorem k3_off446_inb : ∀ (i : grid3.Coords) (k3_t16 : Fin (k3_t16_loop i).trips) (v56_0 : BitVec 32) (k3_hw28 : k3_chk28 i k3_t16 v56_0), ∀ a, (k3_off446 v56_0) a + S1x16.size a ≤ S256x256.size a := fun i k3_t16 v56_0 k3_hw28 => k3_hw28.2.2.1
theorem k3_off447_inb : ∀ (i : grid3.Coords) (k3_t16 : Fin (k3_t16_loop i).trips) (v56_0 : BitVec 32) (k3_hw28 : k3_chk28 i k3_t16 v56_0), ∀ a, (k3_off447 v56_0) a + S1x16.size a ≤ S256x256.size a := fun i k3_t16 v56_0 k3_hw28 => k3_hw28.2.2.2.1
theorem k3_off448_inb : ∀ (i : grid3.Coords) (k3_t16 : Fin (k3_t16_loop i).trips) (v56_0 : BitVec 32) (k3_hw28 : k3_chk28 i k3_t16 v56_0), ∀ a, (k3_off448 v56_0) a + S1x16.size a ≤ S256x256.size a := fun i k3_t16 v56_0 k3_hw28 => k3_hw28.2.2.2.2.1
theorem k3_off449_inb : ∀ (i : grid3.Coords) (k3_t16 : Fin (k3_t16_loop i).trips) (v56_0 : BitVec 32) (k3_hw28 : k3_chk28 i k3_t16 v56_0), ∀ a, (k3_off449 v56_0) a + S1x16.size a ≤ S256x256.size a := fun i k3_t16 v56_0 k3_hw28 => k3_hw28.2.2.2.2.2.1
theorem k3_off450_inb : ∀ (i : grid3.Coords) (k3_t16 : Fin (k3_t16_loop i).trips) (v56_0 : BitVec 32) (k3_hw28 : k3_chk28 i k3_t16 v56_0), ∀ a, (k3_off450 v56_0) a + S1x16.size a ≤ S256x256.size a := fun i k3_t16 v56_0 k3_hw28 => k3_hw28.2.2.2.2.2.2.1
theorem k3_off451_inb : ∀ (i : grid3.Coords) (k3_t16 : Fin (k3_t16_loop i).trips) (v56_0 : BitVec 32) (k3_hw28 : k3_chk28 i k3_t16 v56_0), ∀ a, (k3_off451 v56_0) a + S1x16.size a ≤ S256x256.size a := fun i k3_t16 v56_0 k3_hw28 => k3_hw28.2.2.2.2.2.2.2.1
theorem k3_off452_inb : ∀ (i : grid3.Coords) (k3_t16 : Fin (k3_t16_loop i).trips) (v56_0 : BitVec 32) (k3_hw28 : k3_chk28 i k3_t16 v56_0), ∀ a, (k3_off452 v56_0) a + S1x16.size a ≤ S256x256.size a := fun i k3_t16 v56_0 k3_hw28 => k3_hw28.2.2.2.2.2.2.2.2.1
theorem k3_off453_inb : ∀ (i : grid3.Coords) (k3_t16 : Fin (k3_t16_loop i).trips) (v56_0 : BitVec 32) (k3_hw28 : k3_chk28 i k3_t16 v56_0), ∀ a, (k3_off453 v56_0) a + S1x16.size a ≤ S256x256.size a := fun i k3_t16 v56_0 k3_hw28 => k3_hw28.2.2.2.2.2.2.2.2.2.1
theorem k3_off454_inb : ∀ (i : grid3.Coords) (k3_t16 : Fin (k3_t16_loop i).trips) (v56_0 : BitVec 32) (k3_hw28 : k3_chk28 i k3_t16 v56_0), ∀ a, (k3_off454 v56_0) a + S1x16.size a ≤ S256x256.size a := fun i k3_t16 v56_0 k3_hw28 => k3_hw28.2.2.2.2.2.2.2.2.2.2.1
theorem k3_off455_inb : ∀ (i : grid3.Coords) (k3_t16 : Fin (k3_t16_loop i).trips) (v56_0 : BitVec 32) (k3_hw28 : k3_chk28 i k3_t16 v56_0), ∀ a, (k3_off455 v56_0) a + S1x16.size a ≤ S256x256.size a := fun i k3_t16 v56_0 k3_hw28 => k3_hw28.2.2.2.2.2.2.2.2.2.2.2.1
theorem k3_off456_inb : ∀ (i : grid3.Coords) (k3_t16 : Fin (k3_t16_loop i).trips) (v56_0 : BitVec 32) (k3_hw28 : k3_chk28 i k3_t16 v56_0), ∀ a, (k3_off456 v56_0) a + S1x16.size a ≤ S256x256.size a := fun i k3_t16 v56_0 k3_hw28 => k3_hw28.2.2.2.2.2.2.2.2.2.2.2.2.1
theorem k3_off457_inb : ∀ (i : grid3.Coords) (k3_t16 : Fin (k3_t16_loop i).trips) (v56_0 : BitVec 32) (k3_hw28 : k3_chk28 i k3_t16 v56_0), ∀ a, (k3_off457 v56_0) a + S1x16.size a ≤ S256x256.size a := fun i k3_t16 v56_0 k3_hw28 => k3_hw28.2.2.2.2.2.2.2.2.2.2.2.2.2.1
theorem k3_off458_inb : ∀ (i : grid3.Coords) (k3_t16 : Fin (k3_t16_loop i).trips) (v56_0 : BitVec 32) (k3_hw28 : k3_chk28 i k3_t16 v56_0), ∀ a, (k3_off458 v56_0) a + S1x16.size a ≤ S256x256.size a := fun i k3_t16 v56_0 k3_hw28 => k3_hw28.2.2.2.2.2.2.2.2.2.2.2.2.2.2.1
theorem k3_off459_inb : ∀ (i : grid3.Coords) (k3_t16 : Fin (k3_t16_loop i).trips) (v56_0 : BitVec 32) (k3_hw28 : k3_chk28 i k3_t16 v56_0), ∀ a, (k3_off459 v56_0) a + S1x16.size a ≤ S256x256.size a := fun i k3_t16 v56_0 k3_hw28 => k3_hw28.2.2.2.2.2.2.2.2.2.2.2.2.2.2.2

@[reducible] def k3_t18_loop (i : grid3.Coords) : Scf.Loop 32 :=
  let c0_i32_21 : BitVec 32 := 0#32
  let arg1 : BitVec 32 := BitVec.ofNat 32 (i 1).val
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let v38 : BitVec 32 := Scalar.addi c0_i32_21 v37
  let c1_i32_24 : BitVec 32 := 1#32
  ⟨v41, v38, c1_i32_24⟩
def k3_off460 (i : grid3.Coords) (k3_t18 : Fin (k3_t18_loop i).trips) : Fin 2 → Nat :=
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg14 : BitVec 32 := Scf.iv v41 c1_i32_24 k3_t18
  let c8_i32 : BitVec 32 := 8#32
  let v44 : BitVec 32 := Scalar.muli arg14 c8_i32
  let v45 : BitVec 32 := Scalar.addi v43 v44
  let arg0 : BitVec 32 := BitVec.ofNat 32 (i 0).val
  let c256_i32 : BitVec 32 := 256#32
  let v5 : BitVec 32 := Scalar.muli arg0 c256_i32
  ![v45.toNat, v5.toNat]
def k3_off461 (i : grid3.Coords) (k3_t18 : Fin (k3_t18_loop i).trips) : Fin 1 → Nat :=
  let c50000_i32 : BitVec 32 := 50000#32
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .eq arg1 c15_i32
  let c26_i32 : BitVec 32 := 26#32
  let c28_i32 : BitVec 32 := 28#32
  let v2 : BitVec 32 := Scalar.select v1 c26_i32 c28_i32
  let c112_i32 : BitVec 32 := 112#32
  let v42 : BitVec 32 := Scalar.muli v2 c112_i32
  let v43 : BitVec 32 := Scalar.addi v0 v42
  let c0_i32_21 : BitVec 32 := 0#32
  let c15_i32_0 : BitVec 32 := 15#32
  let v3 : BitVec 1 := Scalar.cmpi .eq arg1 c15_i32_0
  let c6_i32 : BitVec 32 := 6#32
  let c0_i32 : BitVec 32 := 0#32
  let v4 : BitVec 32 := Scalar.select v3 c6_i32 c0_i32
  let v37 : BitVec 32 := Scalar.subi v4 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg14 : BitVec 32 := Scf.iv v41 c1_i32_24 k3_t18
  let c8_i32 : BitVec 32 := 8#32
  let v44 : BitVec 32 := Scalar.muli arg14 c8_i32
  let v45 : BitVec 32 := Scalar.addi v43 v44
  let v46 : BitVec 32 := Scalar.addi c50000_i32 v45
  ![v46.toNat]

def k3_chk29 (i : grid3.Coords) (k3_t18 : Fin (k3_t18_loop i).trips) (v47 : IVec S16 32) : Prop :=
  (∀ a x, ((![v47] : Fin 1 → IVec S16 32) a x).toNat < S128.size a)
theorem k3_idx15_inb : ∀ (i : grid3.Coords) (k3_t18 : Fin (k3_t18_loop i).trips) (v47 : IVec S16 32) (k3_hw29 : k3_chk29 i k3_t18 v47), ∀ a x, ((![v47] : Fin 1 → IVec S16 32) a x).toNat < S128.size a := fun i k3_t18 v47 k3_hw29 => k3_hw29
@[reducible] def k3_t19_loop : Scf.Loop 32 :=
  let c0_i32_26 : BitVec 32 := 0#32
  let c8_i32_27 : BitVec 32 := 8#32
  let v55 : BitVec 32 := Scalar.addi c0_i32_26 c8_i32_27
  let c1_i32_28 : BitVec 32 := 1#32
  ⟨c0_i32_26, v55, c1_i32_28⟩

def k3_chk30 (i : grid3.Coords) (k3_t18 : Fin (k3_t18_loop i).trips) (v137 : IVec S16 32) : Prop :=
  (∀ a x, ((![v137] : Fin 1 → IVec S16 32) a x).toNat < S128.size a)
theorem k3_idx16_inb : ∀ (i : grid3.Coords) (k3_t18 : Fin (k3_t18_loop i).trips) (v137 : IVec S16 32) (k3_hw30 : k3_chk30 i k3_t18 v137), ∀ a x, ((![v137] : Fin 1 → IVec S16 32) a x).toNat < S128.size a := fun i k3_t18 v137 k3_hw30 => k3_hw30
def k3_off462 (arg16 : BitVec 32) : Fin 2 → Nat :=
  let v197 : Index := Scalar.indexCast arg16
  let c0_65 : Index := 0#32
  ![v197.toNat, 0]
def k3_cond24 (arg16 : BitVec 32) (v144 : BitVec 32) : BitVec 1 :=
  let v145 : BitVec 1 := Scalar.cmpi .ne v144 arg16
  let v146 : BitVec 32 := Scalar.extui v145
  let c0_i32_48 : BitVec 32 := 0#32
  let v147 : BitVec 1 := Scalar.cmpi .ne v146 c0_i32_48
  v147

def k3_off463 (arg16 : BitVec 32) : Fin 2 → Nat :=
  let v202 : Index := Scalar.indexCast arg16
  let c16_67 : Index := 16#32
  ![v202.toNat, 16]
def k3_off464 (arg16 : BitVec 32) : Fin 2 → Nat :=
  let v207 : Index := Scalar.indexCast arg16
  let c32_69 : Index := 32#32
  ![v207.toNat, 32]
def k3_off465 (arg16 : BitVec 32) : Fin 2 → Nat :=
  let v212 : Index := Scalar.indexCast arg16
  let c48_71 : Index := 48#32
  ![v212.toNat, 48]
def k3_off466 (arg16 : BitVec 32) : Fin 2 → Nat :=
  let v217 : Index := Scalar.indexCast arg16
  let c64_73 : Index := 64#32
  ![v217.toNat, 64]
def k3_off467 (arg16 : BitVec 32) : Fin 2 → Nat :=
  let v222 : Index := Scalar.indexCast arg16
  let c80_75 : Index := 80#32
  ![v222.toNat, 80]
def k3_off468 (arg16 : BitVec 32) : Fin 2 → Nat :=
  let v227 : Index := Scalar.indexCast arg16
  let c96_77 : Index := 96#32
  ![v227.toNat, 96]
def k3_off469 (arg16 : BitVec 32) : Fin 2 → Nat :=
  let v232 : Index := Scalar.indexCast arg16
  let c112_79 : Index := 112#32
  ![v232.toNat, 112]
def k3_off470 (arg16 : BitVec 32) : Fin 2 → Nat :=
  let v237 : Index := Scalar.indexCast arg16
  let c128_81 : Index := 128#32
  ![v237.toNat, 128]
def k3_off471 (arg16 : BitVec 32) : Fin 2 → Nat :=
  let v242 : Index := Scalar.indexCast arg16
  let c144_83 : Index := 144#32
  ![v242.toNat, 144]
def k3_off472 (arg16 : BitVec 32) : Fin 2 → Nat :=
  let v247 : Index := Scalar.indexCast arg16
  let c160_85 : Index := 160#32
  ![v247.toNat, 160]
def k3_off473 (arg16 : BitVec 32) : Fin 2 → Nat :=
  let v252 : Index := Scalar.indexCast arg16
  let c176_87 : Index := 176#32
  ![v252.toNat, 176]
def k3_off474 (arg16 : BitVec 32) : Fin 2 → Nat :=
  let v257 : Index := Scalar.indexCast arg16
  let c192_89 : Index := 192#32
  ![v257.toNat, 192]
def k3_off475 (arg16 : BitVec 32) : Fin 2 → Nat :=
  let v262 : Index := Scalar.indexCast arg16
  let c208_91 : Index := 208#32
  ![v262.toNat, 208]
def k3_off476 (arg16 : BitVec 32) : Fin 2 → Nat :=
  let v267 : Index := Scalar.indexCast arg16
  let c224_93 : Index := 224#32
  ![v267.toNat, 224]
def k3_off477 (arg16 : BitVec 32) : Fin 2 → Nat :=
  let v272 : Index := Scalar.indexCast arg16
  let c240_95 : Index := 240#32
  ![v272.toNat, 240]

def k3_chk31 (i : grid3.Coords) (k3_t18 : Fin (k3_t18_loop i).trips) (arg16 : BitVec 32) (v144 : BitVec 32) : Prop :=
  (∀ (k3_h24 : k3_cond24 arg16 v144 = 1#1), ∀ a, (k3_off462 arg16) a + S1x16.size a ≤ S256x256.size a) ∧
  (∀ (k3_h24 : k3_cond24 arg16 v144 = 1#1), ∀ a, (k3_off463 arg16) a + S1x16.size a ≤ S256x256.size a) ∧
  (∀ (k3_h24 : k3_cond24 arg16 v144 = 1#1), ∀ a, (k3_off464 arg16) a + S1x16.size a ≤ S256x256.size a) ∧
  (∀ (k3_h24 : k3_cond24 arg16 v144 = 1#1), ∀ a, (k3_off465 arg16) a + S1x16.size a ≤ S256x256.size a) ∧
  (∀ (k3_h24 : k3_cond24 arg16 v144 = 1#1), ∀ a, (k3_off466 arg16) a + S1x16.size a ≤ S256x256.size a) ∧
  (∀ (k3_h24 : k3_cond24 arg16 v144 = 1#1), ∀ a, (k3_off467 arg16) a + S1x16.size a ≤ S256x256.size a) ∧
  (∀ (k3_h24 : k3_cond24 arg16 v144 = 1#1), ∀ a, (k3_off468 arg16) a + S1x16.size a ≤ S256x256.size a) ∧
  (∀ (k3_h24 : k3_cond24 arg16 v144 = 1#1), ∀ a, (k3_off469 arg16) a + S1x16.size a ≤ S256x256.size a) ∧
  (∀ (k3_h24 : k3_cond24 arg16 v144 = 1#1), ∀ a, (k3_off470 arg16) a + S1x16.size a ≤ S256x256.size a) ∧
  (∀ (k3_h24 : k3_cond24 arg16 v144 = 1#1), ∀ a, (k3_off471 arg16) a + S1x16.size a ≤ S256x256.size a) ∧
  (∀ (k3_h24 : k3_cond24 arg16 v144 = 1#1), ∀ a, (k3_off472 arg16) a + S1x16.size a ≤ S256x256.size a) ∧
  (∀ (k3_h24 : k3_cond24 arg16 v144 = 1#1), ∀ a, (k3_off473 arg16) a + S1x16.size a ≤ S256x256.size a) ∧
  (∀ (k3_h24 : k3_cond24 arg16 v144 = 1#1), ∀ a, (k3_off474 arg16) a + S1x16.size a ≤ S256x256.size a) ∧
  (∀ (k3_h24 : k3_cond24 arg16 v144 = 1#1), ∀ a, (k3_off475 arg16) a + S1x16.size a ≤ S256x256.size a) ∧
  (∀ (k3_h24 : k3_cond24 arg16 v144 = 1#1), ∀ a, (k3_off476 arg16) a + S1x16.size a ≤ S256x256.size a) ∧
  (∀ (k3_h24 : k3_cond24 arg16 v144 = 1#1), ∀ a, (k3_off477 arg16) a + S1x16.size a ≤ S256x256.size a)
theorem k3_off462_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off462 arg16) a + S1x16.size a ≤ S256x256.size a := fun i k3_t18 arg16 v144 k3_hw31 k3_h24 => k3_hw31.1 k3_h24
theorem k3_off463_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off463 arg16) a + S1x16.size a ≤ S256x256.size a := fun i k3_t18 arg16 v144 k3_hw31 k3_h24 => k3_hw31.2.1 k3_h24
theorem k3_off464_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off464 arg16) a + S1x16.size a ≤ S256x256.size a := fun i k3_t18 arg16 v144 k3_hw31 k3_h24 => k3_hw31.2.2.1 k3_h24
theorem k3_off465_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off465 arg16) a + S1x16.size a ≤ S256x256.size a := fun i k3_t18 arg16 v144 k3_hw31 k3_h24 => k3_hw31.2.2.2.1 k3_h24
theorem k3_off466_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off466 arg16) a + S1x16.size a ≤ S256x256.size a := fun i k3_t18 arg16 v144 k3_hw31 k3_h24 => k3_hw31.2.2.2.2.1 k3_h24
theorem k3_off467_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off467 arg16) a + S1x16.size a ≤ S256x256.size a := fun i k3_t18 arg16 v144 k3_hw31 k3_h24 => k3_hw31.2.2.2.2.2.1 k3_h24
theorem k3_off468_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off468 arg16) a + S1x16.size a ≤ S256x256.size a := fun i k3_t18 arg16 v144 k3_hw31 k3_h24 => k3_hw31.2.2.2.2.2.2.1 k3_h24
theorem k3_off469_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off469 arg16) a + S1x16.size a ≤ S256x256.size a := fun i k3_t18 arg16 v144 k3_hw31 k3_h24 => k3_hw31.2.2.2.2.2.2.2.1 k3_h24
theorem k3_off470_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off470 arg16) a + S1x16.size a ≤ S256x256.size a := fun i k3_t18 arg16 v144 k3_hw31 k3_h24 => k3_hw31.2.2.2.2.2.2.2.2.1 k3_h24
theorem k3_off471_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off471 arg16) a + S1x16.size a ≤ S256x256.size a := fun i k3_t18 arg16 v144 k3_hw31 k3_h24 => k3_hw31.2.2.2.2.2.2.2.2.2.1 k3_h24
theorem k3_off472_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off472 arg16) a + S1x16.size a ≤ S256x256.size a := fun i k3_t18 arg16 v144 k3_hw31 k3_h24 => k3_hw31.2.2.2.2.2.2.2.2.2.2.1 k3_h24
theorem k3_off473_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off473 arg16) a + S1x16.size a ≤ S256x256.size a := fun i k3_t18 arg16 v144 k3_hw31 k3_h24 => k3_hw31.2.2.2.2.2.2.2.2.2.2.2.1 k3_h24
theorem k3_off474_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off474 arg16) a + S1x16.size a ≤ S256x256.size a := fun i k3_t18 arg16 v144 k3_hw31 k3_h24 => k3_hw31.2.2.2.2.2.2.2.2.2.2.2.2.1 k3_h24
theorem k3_off475_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off475 arg16) a + S1x16.size a ≤ S256x256.size a := fun i k3_t18 arg16 v144 k3_hw31 k3_h24 => k3_hw31.2.2.2.2.2.2.2.2.2.2.2.2.2.1 k3_h24
theorem k3_off476_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off476 arg16) a + S1x16.size a ≤ S256x256.size a := fun i k3_t18 arg16 v144 k3_hw31 k3_h24 => k3_hw31.2.2.2.2.2.2.2.2.2.2.2.2.2.2.1 k3_h24
theorem k3_off477_inb : ∀ (i : grid3.Coords) (k3_t18 : Fin (k3_t18_loop i).trips) (arg16 : BitVec 32) (v144 : BitVec 32) (k3_hw31 : k3_chk31 i k3_t18 arg16 v144), ∀ (k3_h24 : k3_cond24 arg16 v144 = 1#1), ∀ a, (k3_off477 arg16) a + S1x16.size a ≤ S256x256.size a := fun i k3_t18 arg16 v144 k3_hw31 k3_h24 => k3_hw31.2.2.2.2.2.2.2.2.2.2.2.2.2.2.2 k3_h24

def k3_off478 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v149 : Index := Scalar.indexCast arg15
  let c0_49 : Index := 0#32
  ![v149.toNat, 0]
def k3_off479 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v152 : Index := Scalar.indexCast arg15
  let c16_50 : Index := 16#32
  ![v152.toNat, 16]
def k3_off480 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v155 : Index := Scalar.indexCast arg15
  let c32_51 : Index := 32#32
  ![v155.toNat, 32]
def k3_off481 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v158 : Index := Scalar.indexCast arg15
  let c48_52 : Index := 48#32
  ![v158.toNat, 48]
def k3_off482 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v161 : Index := Scalar.indexCast arg15
  let c64_53 : Index := 64#32
  ![v161.toNat, 64]
def k3_off483 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v164 : Index := Scalar.indexCast arg15
  let c80_54 : Index := 80#32
  ![v164.toNat, 80]
def k3_off484 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v167 : Index := Scalar.indexCast arg15
  let c96_55 : Index := 96#32
  ![v167.toNat, 96]
def k3_off485 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v170 : Index := Scalar.indexCast arg15
  let c112_56 : Index := 112#32
  ![v170.toNat, 112]
def k3_off486 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v173 : Index := Scalar.indexCast arg15
  let c128_57 : Index := 128#32
  ![v173.toNat, 128]
def k3_off487 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v176 : Index := Scalar.indexCast arg15
  let c144_58 : Index := 144#32
  ![v176.toNat, 144]
def k3_off488 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v179 : Index := Scalar.indexCast arg15
  let c160_59 : Index := 160#32
  ![v179.toNat, 160]
def k3_off489 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v182 : Index := Scalar.indexCast arg15
  let c176_60 : Index := 176#32
  ![v182.toNat, 176]
def k3_off490 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v185 : Index := Scalar.indexCast arg15
  let c192_61 : Index := 192#32
  ![v185.toNat, 192]
def k3_off491 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v188 : Index := Scalar.indexCast arg15
  let c208_62 : Index := 208#32
  ![v188.toNat, 208]
def k3_off492 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v191 : Index := Scalar.indexCast arg15
  let c224_63 : Index := 224#32
  ![v191.toNat, 224]
def k3_off493 (k3_t19 : Fin k3_t19_loop.trips) : Fin 2 → Nat :=
  let c0_i32_26 : BitVec 32 := 0#32
  let c1_i32_28 : BitVec 32 := 1#32
  let arg15 : BitVec 32 := Scf.iv c0_i32_26 c1_i32_28 k3_t19
  let v194 : Index := Scalar.indexCast arg15
  let c240_64 : Index := 240#32
  ![v194.toNat, 240]
def k3_off494 (v56_0 : BitVec 32) : Fin 2 → Nat :=
  let v57 : Index := Scalar.indexCast v56_0
  let c0 : Index := 0#32
  ![v57.toNat, 0]

def k3_off495 (v56_0 : BitVec 32) : Fin 2 → Nat :=
  let v62 : Index := Scalar.indexCast v56_0
  let c16 : Index := 16#32
  ![v62.toNat, 16]
def k3_off496 (v56_0 : BitVec 32) : Fin 2 → Nat :=
  let v67 : Index := Scalar.indexCast v56_0
  let c32 : Index := 32#32
  ![v67.toNat, 32]
def k3_off497 (v56_0 : BitVec 32) : Fin 2 → Nat :=
  let v72 : Index := Scalar.indexCast v56_0
  let c48 : Index := 48#32
  ![v72.toNat, 48]
def k3_off498 (v56_0 : BitVec 32) : Fin 2 → Nat :=
  let v77 : Index := Scalar.indexCast v56_0
  let c64 : Index := 64#32
  ![v77.toNat, 64]
def k3_off499 (v56_0 : BitVec 32) : Fin 2 → Nat :=
  let v82 : Index := Scalar.indexCast v56_0
  let c80 : Index := 80#32
  ![v82.toNat, 80]
def k3_off500 (v56_0 : BitVec 32) : Fin 2 → Nat :=
  let v87 : Index := Scalar.indexCast v56_0
  let c96 : Index := 96#32
  ![v87.toNat, 96]
def k3_off501 (v56_0 : BitVec 32) : Fin 2 → Nat :=
  let v92 : Index := Scalar.indexCast v56_0
  let c112 : Index := 112#32
  ![v92.toNat, 112]
def k3_off502 (v56_0 : BitVec 32) : Fin 2 → Nat :=
  let v97 : Index := Scalar.indexCast v56_0
  let c128 : Index := 128#32
  ![v97.toNat, 128]
def k3_off503 (v56_0 : BitVec 32) : Fin 2 → Nat :=
  let v102 : Index := Scalar.indexCast v56_0
  let c144 : Index := 144#32
  ![v102.toNat, 144]
def k3_off504 (v56_0 : BitVec 32) : Fin 2 → Nat :=
  let v107 : Index := Scalar.indexCast v56_0
  let c160 : Index := 160#32
  ![v107.toNat, 160]
def k3_off505 (v56_0 : BitVec 32) : Fin 2 → Nat :=
  let v112 : Index := Scalar.indexCast v56_0
  let c176 : Index := 176#32
  ![v112.toNat, 176]
def k3_off506 (v56_0 : BitVec 32) : Fin 2 → Nat :=
  let v117 : Index := Scalar.indexCast v56_0
  let c192 : Index := 192#32
  ![v117.toNat, 192]
def k3_off507 (v56_0 : BitVec 32) : Fin 2 → Nat :=
  let v122 : Index := Scalar.indexCast v56_0
  let c208 : Index := 208#32
  ![v122.toNat, 208]
def k3_off508 (v56_0 : BitVec 32) : Fin 2 → Nat :=
  let v127 : Index := Scalar.indexCast v56_0
  let c224 : Index := 224#32
  ![v127.toNat, 224]
def k3_off509 (v56_0 : BitVec 32) : Fin 2 → Nat :=
  let v132 : Index := Scalar.indexCast v56_0
  let c240 : Index := 240#32
  ![v132.toNat, 240]

def k3_chk32 (i : grid3.Coords) (k3_t18 : Fin (k3_t18_loop i).trips) (v56_0 : BitVec 32) : Prop :=
  (∀ a, (k3_off494 v56_0) a + S1x16.size a ≤ S256x256.size a) ∧
  (∀ a, (k3_off495 v56_0) a + S1x16.size a ≤ S256x256.size a) ∧
  (∀ a, (k3_off496 v56_0) a + S1x16.size a ≤ S256x256.size a) ∧
  (∀ a, (k3_off497 v56_0) a + S1x16.size a ≤ S256x256.size a) ∧
  (∀ a, (k3_off498 v56_0) a + S1x16.size a ≤ S256x256.size a) ∧
  (∀ a, (k3_off499 v56_0) a + S1x16.size a ≤ S256x256.size a) ∧
  (∀ a, (k3_off500 v56_0) a + S1x16.size a ≤ S256x256.size a) ∧
  (∀ a, (k3_off501 v56_0) a + S1x16.size a ≤ S256x256.size a) ∧
  (∀ a, (k3_off502 v56_0) a + S1x16.size a ≤ S256x256.size a) ∧
  (∀ a, (k3_off503 v56_0) a + S1x16.size a ≤ S256x256.size a) ∧
  (∀ a, (k3_off504 v56_0) a + S1x16.size a ≤ S256x256.size a) ∧
  (∀ a, (k3_off505 v56_0) a + S1x16.size a ≤ S256x256.size a) ∧
  (∀ a, (k3_off506 v56_0) a + S1x16.size a ≤ S256x256.size a) ∧
  (∀ a, (k3_off507 v56_0) a + S1x16.size a ≤ S256x256.size a) ∧
  (∀ a, (k3_off508 v56_0) a + S1x16.size a ≤ S256x256.size a) ∧
  (∀ a, (k3_off509 v56_0) a + S1x16.size a ≤ S256x256.size a)
theorem k3_off494_inb : ∀ (i : grid3.Coords) (k3_t18 : Fin (k3_t18_loop i).trips) (v56_0 : BitVec 32) (k3_hw32 : k3_chk32 i k3_t18 v56_0), ∀ a, (k3_off494 v56_0) a + S1x16.size a ≤ S256x256.size a := fun i k3_t18 v56_0 k3_hw32 => k3_hw32.1
theorem k3_off495_inb : ∀ (i : grid3.Coords) (k3_t18 : Fin (k3_t18_loop i).trips) (v56_0 : BitVec 32) (k3_hw32 : k3_chk32 i k3_t18 v56_0), ∀ a, (k3_off495 v56_0) a + S1x16.size a ≤ S256x256.size a := fun i k3_t18 v56_0 k3_hw32 => k3_hw32.2.1
theorem k3_off496_inb : ∀ (i : grid3.Coords) (k3_t18 : Fin (k3_t18_loop i).trips) (v56_0 : BitVec 32) (k3_hw32 : k3_chk32 i k3_t18 v56_0), ∀ a, (k3_off496 v56_0) a + S1x16.size a ≤ S256x256.size a := fun i k3_t18 v56_0 k3_hw32 => k3_hw32.2.2.1
theorem k3_off497_inb : ∀ (i : grid3.Coords) (k3_t18 : Fin (k3_t18_loop i).trips) (v56_0 : BitVec 32) (k3_hw32 : k3_chk32 i k3_t18 v56_0), ∀ a, (k3_off497 v56_0) a + S1x16.size a ≤ S256x256.size a := fun i k3_t18 v56_0 k3_hw32 => k3_hw32.2.2.2.1
theorem k3_off498_inb : ∀ (i : grid3.Coords) (k3_t18 : Fin (k3_t18_loop i).trips) (v56_0 : BitVec 32) (k3_hw32 : k3_chk32 i k3_t18 v56_0), ∀ a, (k3_off498 v56_0) a + S1x16.size a ≤ S256x256.size a := fun i k3_t18 v56_0 k3_hw32 => k3_hw32.2.2.2.2.1
theorem k3_off499_inb : ∀ (i : grid3.Coords) (k3_t18 : Fin (k3_t18_loop i).trips) (v56_0 : BitVec 32) (k3_hw32 : k3_chk32 i k3_t18 v56_0), ∀ a, (k3_off499 v56_0) a + S1x16.size a ≤ S256x256.size a := fun i k3_t18 v56_0 k3_hw32 => k3_hw32.2.2.2.2.2.1
theorem k3_off500_inb : ∀ (i : grid3.Coords) (k3_t18 : Fin (k3_t18_loop i).trips) (v56_0 : BitVec 32) (k3_hw32 : k3_chk32 i k3_t18 v56_0), ∀ a, (k3_off500 v56_0) a + S1x16.size a ≤ S256x256.size a := fun i k3_t18 v56_0 k3_hw32 => k3_hw32.2.2.2.2.2.2.1
theorem k3_off501_inb : ∀ (i : grid3.Coords) (k3_t18 : Fin (k3_t18_loop i).trips) (v56_0 : BitVec 32) (k3_hw32 : k3_chk32 i k3_t18 v56_0), ∀ a, (k3_off501 v56_0) a + S1x16.size a ≤ S256x256.size a := fun i k3_t18 v56_0 k3_hw32 => k3_hw32.2.2.2.2.2.2.2.1
theorem k3_off502_inb : ∀ (i : grid3.Coords) (k3_t18 : Fin (k3_t18_loop i).trips) (v56_0 : BitVec 32) (k3_hw32 : k3_chk32 i k3_t18 v56_0), ∀ a, (k3_off502 v56_0) a + S1x16.size a ≤ S256x256.size a := fun i k3_t18 v56_0 k3_hw32 => k3_hw32.2.2.2.2.2.2.2.2.1
theorem k3_off503_inb : ∀ (i : grid3.Coords) (k3_t18 : Fin (k3_t18_loop i).trips) (v56_0 : BitVec 32) (k3_hw32 : k3_chk32 i k3_t18 v56_0), ∀ a, (k3_off503 v56_0) a + S1x16.size a ≤ S256x256.size a := fun i k3_t18 v56_0 k3_hw32 => k3_hw32.2.2.2.2.2.2.2.2.2.1
theorem k3_off504_inb : ∀ (i : grid3.Coords) (k3_t18 : Fin (k3_t18_loop i).trips) (v56_0 : BitVec 32) (k3_hw32 : k3_chk32 i k3_t18 v56_0), ∀ a, (k3_off504 v56_0) a + S1x16.size a ≤ S256x256.size a := fun i k3_t18 v56_0 k3_hw32 => k3_hw32.2.2.2.2.2.2.2.2.2.2.1
theorem k3_off505_inb : ∀ (i : grid3.Coords) (k3_t18 : Fin (k3_t18_loop i).trips) (v56_0 : BitVec 32) (k3_hw32 : k3_chk32 i k3_t18 v56_0), ∀ a, (k3_off505 v56_0) a + S1x16.size a ≤ S256x256.size a := fun i k3_t18 v56_0 k3_hw32 => k3_hw32.2.2.2.2.2.2.2.2.2.2.2.1
theorem k3_off506_inb : ∀ (i : grid3.Coords) (k3_t18 : Fin (k3_t18_loop i).trips) (v56_0 : BitVec 32) (k3_hw32 : k3_chk32 i k3_t18 v56_0), ∀ a, (k3_off506 v56_0) a + S1x16.size a ≤ S256x256.size a := fun i k3_t18 v56_0 k3_hw32 => k3_hw32.2.2.2.2.2.2.2.2.2.2.2.2.1
theorem k3_off507_inb : ∀ (i : grid3.Coords) (k3_t18 : Fin (k3_t18_loop i).trips) (v56_0 : BitVec 32) (k3_hw32 : k3_chk32 i k3_t18 v56_0), ∀ a, (k3_off507 v56_0) a + S1x16.size a ≤ S256x256.size a := fun i k3_t18 v56_0 k3_hw32 => k3_hw32.2.2.2.2.2.2.2.2.2.2.2.2.2.1
theorem k3_off508_inb : ∀ (i : grid3.Coords) (k3_t18 : Fin (k3_t18_loop i).trips) (v56_0 : BitVec 32) (k3_hw32 : k3_chk32 i k3_t18 v56_0), ∀ a, (k3_off508 v56_0) a + S1x16.size a ≤ S256x256.size a := fun i k3_t18 v56_0 k3_hw32 => k3_hw32.2.2.2.2.2.2.2.2.2.2.2.2.2.2.1
theorem k3_off509_inb : ∀ (i : grid3.Coords) (k3_t18 : Fin (k3_t18_loop i).trips) (v56_0 : BitVec 32) (k3_hw32 : k3_chk32 i k3_t18 v56_0), ∀ a, (k3_off509 v56_0) a + S1x16.size a ≤ S256x256.size a := fun i k3_t18 v56_0 k3_hw32 => k3_hw32.2.2.2.2.2.2.2.2.2.2.2.2.2.2.2

def k3_off510 (i : grid3.Coords) : Fin 3 → Nat :=
  let arg1 : BitVec 32 := BitVec.ofNat 32 (i 1).val
  let c0_i32_25_r4 : BitVec 32 := 0#32
  let arg0 : BitVec 32 := BitVec.ofNat 32 (i 0).val
  let c256_i32 : BitVec 32 := 256#32
  let v5 : BitVec 32 := Scalar.muli arg0 c256_i32
  ![arg1.toNat, 0, v5.toNat]
abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x256x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100000x256 : Shape := ⟨2, ![100000, 256]⟩
abbrev S1x256 : Shape := ⟨2, ![1, 256]⟩
abbrev S_ : Shape := ⟨0, ![]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩
abbrev S256x512 : Shape := ⟨2, ![256, 512]⟩
abbrev S256x1 : Shape := ⟨2, ![256, 1]⟩

abbrev nBuf : Space → Nat
  | .hbm => 39
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000x256, .f32⟩
  | .hbm, ⟨9, _⟩ => ⟨S1x256, .f32⟩
  | .hbm, ⟨10, _⟩ => ⟨S100000x256, .f32⟩
  | .hbm, ⟨11, _⟩ => ⟨S100000x256, .f32⟩
  | .hbm, ⟨12, _⟩ => ⟨S_, .f32⟩
  | .hbm, ⟨13, _⟩ => ⟨S100000x256, .f32⟩
  | .hbm, ⟨14, _⟩ => ⟨S100000x256, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x1, .f32⟩
  | .hbm, ⟨23, _⟩ => ⟨S1x1, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S100000x512, .f32⟩
  | .hbm, ⟨28, _⟩ => ⟨S100000x512, .f32⟩
  | .hbm, ⟨29, _⟩ => ⟨S_, .f32⟩
  | .hbm, ⟨30, _⟩ => ⟨S256x512, .f32⟩
  | .hbm, ⟨31, _⟩ => ⟨S100000x1, .i32⟩
  | .hbm, ⟨32, _⟩ => ⟨S256x512, .f32⟩
  | .hbm, ⟨33, _⟩ => ⟨S_, .f32⟩
  | .hbm, ⟨34, _⟩ => ⟨S256x1, .f32⟩
  | .hbm, ⟨35, _⟩ => ⟨S100000x1, .i32⟩
  | .hbm, ⟨36, _⟩ => ⟨S256x1, .f32⟩
  | .hbm, ⟨37, _⟩ => ⟨S256x512, .f32⟩
  | .hbm, ⟨38, _⟩ => ⟨S256x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Sc.lean ====
/-
  The program as its launch sees it: the calls, the resource algebra, and one pipeline region of @main entered and left with the
  TensorCore's arrays held whole, what the core owes the SparseCore calls kept beside them.
-/
module
public import proofs.«01_k».proof.KernelIdeal
public import proofs.«01_k».proof.Proof.Gen.KernelIdeal
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Pipeline.Regions
public import Idealize.ShloMosaic.Lib.Pipeline.RegionsLoop
public import Idealize.ShloMosaic.Lib.Tactic
@[expose] public section
noncomputable section
namespace Cert.Proof.Sc
open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type}

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The pipelines' rounds library: the left half of the right factor. -/
def EP : Emb UP (MT nD τ sig (HIx 2) (Elt F) ℕ UU ℕ) :=
  (Emb.inl : Emb UP (UP × Counters)).trans embR
instance EP_landsIn : (EP : Emb UP (MT nD τ sig (HIx 2) (Elt F) ℕ UU ℕ)).LandsIn (upEmb : UEmb _ (MT nD τ sig (HIx 2) (Elt F) ℕ UU ℕ)) := by
  unfold EP; infer_instance

/-- A triple used where more is held: the rest waits for what the program leaves. -/
theorem wp_use {Λ : Labels} {defs : Defs nD τ sig (Elt F) Λ} {𝒱' : Variants} {thr : Thread nD τ} {bd : Option 𝒱'.V} {E : Set ℕ} {α : Type}
    {p : Prog (TpuEff nD τ sig (Elt F) Λ thr.2) α} {A : sProp 𝕄} {Q Q' : α → sProp 𝕄}
    (h : A ⊢ wp frame (wpE defs 𝒱' thr bd) E p Q) :
    iprop(A ∗ ∀ a, Q a -∗ Q' a) ⊢ wp frame (wpE defs 𝒱' thr bd) E p Q' :=
  (sep_mono h .rfl).trans (wp_wand_r frame _ _)

/-- No pipeline prefetches a table: the one admissible choice. -/
abbrev adm : (p : Fin 3) → (pcfgs (F := F) p).Adm := fun p => (cfgs p).toPCfg_adm

abbrev Datp (p : Fin 3) (c : Dev nD) : Type := Dat τ (Elt F) (HIx 2) ℕ UU ℕ (Pipeline.pin (pcfgs (F := F)) adm p) c

/-- Proof data of a pipeline a region does not run. -/
def junk [∀ e, Nonempty (Elt F e)] {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

theorem otc_none (d : Dev nD) (n : ℕ) (g : GSem nD τ sig) : (K (F := F)).Otc d n g none = 0 := by
  by_contra h
  exact absurd ((K (F := F)).lev_of_Otc_pos (Nat.pos_of_ne_zero h)) (Nat.not_succ_le_zero _)

/-- The pairs at or below a level: what the core's waits have recorded between two calls. -/
def low (d : Dev nD) (b : ℕ) : Set (SemLoc sig × HIx 2) := {x | (K (F := F)).lev (T d, x.1) x.2 ≤ b}

variable [FloatOps F] [∀ e, Nonempty (Elt F e)]

/-- The thread state between the steps of @main: the arrays, and what the core owes before call `n`. -/
def st (n b : ℕ) (V : (c : Dev nD) → (b : Ref sig .tc) → Buf (Elt F) ((c : Thread nD τ).loc b)) (c : Dev nD) : sProp 𝕄 :=
  iprop(unscopedBufs c (V c) ∗ ∃ W, ⌜(K (F := F)).WBelow (T c) W b⌝ ∗ owes (T c) ((K (F := F)).Otc c n) W)

set_option backward.isDefEq.respectTransparency.types false in
/-- One region of @main. -/
def reg (p : Fin 3) (pdats : (p : Fin 3) → (c : Dev nD) → Datp (F := F) p c)
    (n b : ℕ) (V Vp : (c : Dev nD) → (b : Ref sig .tc) → Buf (Elt F) ((c : Thread nD τ).loc b))
    (kit : Pipeline.LaunchFacts (nD := nD) (τ := τ) cfgs p)
    (hbody : ∀ c, BodyObligation (pdats p c) (defs₀ (F := F)) 𝒱₀ none Set.univ)
    (howed : ∀ c t, (pdats p c).owed t = (K (F := F)).Otc c n)
    (hrec : ∀ c t, (pdats p c).recorded t = low (F := F) c b)
    (hΦ : ∀ c t, (pdats p c).Φ t = Pipeline.scopedRest (Ix := HIx 2) (Name := ℕ) (U := UU) (Lvl := ℕ) (Val := Elt F) (cfgs p).spec c)
    (hq : ∀ c w, (pdats p c).q w = fullShare)
    (hA : ∀ c w, (pdats p c).A w = V c (Pipeline.arrRef (cfgs p).spec w))
    (hVp : ∀ c w, (pdats p c).arrAt w (cfgs p).N = Vp c (Pipeline.arrRef (cfgs p).spec w))
    (hoff : ∀ c (r : Ref sig .tc), r ∉ Finset.univ.image (Pipeline.arrRef (cfgs p).spec) → Vp c r = V c r) :
    Pipeline.RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_intro (Pipeline.pin (pcfgs (F := F)) adm) pdats none p c fun w s t => by
    rw [howed c t]
    exact (K (F := F)).mayWait_none _ (otc_none c n)
  pre := st n b V
  post := st n b Vp
  X _ := BI.emp
  Y _ := BI.emp
  Z c := Pipeline.unscopedRest (Ix := HIx 2) (Name := ℕ) (U := UU) (Lvl := ℕ) (cfgs p).spec c (V c)
  hentry c := by
    rw [Pipeline.ownSems0_none]
    have hsplit := Pipeline.arrays_of_unscopedBufs (p := p) (pcfgs (F := F)) adm pdats kit.win kit.arr_whole c
      ((pdats p c).share_full (hq c)) (V c) (hA c)
    unfold st
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      iexists W
      isplitr; · ipureintro; exact fun x hx => Or.inl (hW x hx)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := HIx 2) (Name := ℕ) (U := UU) (Lvl := ℕ) kit.win kit.arr_whole c
      pdats ((pdats p c).share_full (hq c)) (V c) (Vp c) ((pdats p c).arrAt · (cfgs p).N) (hVp c) (hoff c)
    unfold st
    iintro ⟨Ha, HO, -, Hrest⟩
    imodintro
    isplitl [Ha Hrest]
    · iapply hjoin; isplitl [Ha] <;> iassumption
    unfold Pipeline.Dat.owesAt Pipeline.owesWithin Pipeline.Dat.bound
    rw [howed c (Fin.last _), hrec c (Fin.last _)]
    icases HO with ⟨%W, %hW, HO⟩; iexists W
    isplitr
    · ipureintro
      intro x hx
      rcases hW hx with h | ⟨w, s, h⟩
      · exact h
      · rw [h]; exact Nat.zero_le _
    iexact HO

end Cert.Proof.Sc
end
-- ==== Proof.Rows.lean ====
/-
  One row block of the segment-sum kernel, apart from any printed program: what the kernel's straight-line
  pieces (a row's sixteen loads, a flush of the sixteen running vectors into one row of the accumulator, a
  segment id fetched by an indexed load) do to the buffers they touch, at any float values `F`.

  Contents are functions of natural-number coordinates (`arr2`, `arr1`), the sixteen running vectors one
  function of the column (`vec`), so that a step of the kernel is a step of a small functional machine (`St`,
  `rstep`).
-/
module

public import Idealize.ShloMosaic.Lib.Memref
public import Idealize.ShloMosaic.Lib.Pipeline
public import Idealize.ShloMosaic.Lib.Pipeline.Value
public import Idealize.ShloMosaic.Lib.Scf
public import Idealize.ShloMosaic.Lib.SparseCore.Ops
public import Idealize.ShloMosaic.Lib.Tactic

@[expose] public section

noncomputable section

namespace Cert.Proof.Rows

open Idealize.ShloMosaic
open Idealize.SL
open Idealize.SL.BI (sProp)
open scoped Idealize.SL.BI
open Idealize.SL.BI.BIBase Idealize.SL.BI.Laws Idealize.SL.Sem Idealize.SL.ProofMode
open Idealize.SL.RA

/-! ## Contents by coordinates -/

abbrev T16 : Shape := ⟨1, ![16]⟩
abbrev T1x16 : Shape := ⟨2, ![1, 16]⟩
abbrev T1 (n : Nat) : Shape := ⟨1, ![n]⟩
abbrev T2 (n w : Nat) : Shape := ⟨2, ![n, w]⟩

def arr1 {α : Type} (n : Nat) (x : Nat → α) : (T1 n).Idx → α := fun i => x (i 0).val
def arr2 {α : Type} (n w : Nat) (x : Nat → Nat → α) : (T2 n w).Idx → α := fun i => x (i 0).val (i 1).val

/-- Lanes `16 j … 16 j + 15` of a row. -/
def vec {α : Type} (x : Nat → α) (j : Nat) : T16.Idx → α := fun l => x (16 * j + (l 0).val)

/-- Any contents are contents by coordinates. -/
theorem exists_arr2 {α : Type} [Nonempty α] {n w : Nat} (f : (T2 n w).Idx → α) : ∃ x, f = arr2 n w x := by
  classical
  refine ⟨fun r c => if h : r < n ∧ c < w then f (fun a => Fin.cases (motive := fun a => Fin ((T2 n w).size a)) ⟨r, h.1⟩ (fun a => by
    obtain rfl : a = 0 := Subsingleton.elim _ _
    exact ⟨c, h.2⟩) a) else Classical.arbitrary α, ?_⟩
  funext i
  have h : (i 0).val < n ∧ (i 1).val < w := ⟨(i 0).isLt, (i 1).isLt⟩
  rw [arr2, dif_pos h]
  congr 1
  funext a
  match a with
  | 0 => rfl
  | 1 => rfl

theorem exists_arr1 {α : Type} [Nonempty α] {n : Nat} (f : (T1 n).Idx → α) : ∃ x, f = arr1 n x := by
  classical
  refine ⟨fun r => if h : r < n then f (fun a => by
    obtain rfl : a = 0 := Subsingleton.elim _ _
    exact ⟨r, h⟩) else Classical.arbitrary α, ?_⟩
  funext i
  have h : (i 0).val < n := (i 0).isLt
  rw [arr1, dif_pos h]
  congr 1
  funext a
  match a with
  | 0 => rfl

theorem cast_row {α : Type} (x : Nat → α) (h : T1x16.ShapeCasts T16) :
    shapeCast T16 (fun j : T1x16.Idx => x (j 1).val) h = fun l => x (l 0).val := by
  funext l
  rw [shapeCast_dropUnit_apply (n := 1) ![16] (fun j : T1x16.Idx => x (j 1).val) h]
  rfl

theorem cast_col {α : Type} (x : Nat → α) (h : T16.ShapeCasts T1x16) :
    shapeCast T1x16 (fun l : T16.Idx => x (l 0).val) h = fun j => x (j 1).val := by
  funext j
  rw [shapeCast_addUnit_apply (n := 1) ![16] (fun l : T16.Idx => x (l 0).val) h]
  rfl

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

variable {cs : CoreSpace} {s : Shape} {e : EltTy}

/-- A load of a rectangle of an owned memref. -/
theorem wp_ld {m : Memref sig c.2.kind cs s e} {r : Rect s} {hl : m.view.LoadsAt r.toLoadRect}
    {k : (r.shape.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) E (k (fun j => X (r.emb j))) Q)
          -∗ wp frame (wpE defs 𝒱 c bd) E (.op (.load m r.toLoadRect hl) k) Q) := by
  iintro H Hk
  ihave H' := (show owns c m q X ⊢ iprop(∃ f, ⌜m.view.read (Elt F) f = X⌝ ∗ (m.view.loc c ↦[m.view.set]{q} f)) from .rfl) $$ H
  icases H' with ⟨%f, %hf, H⟩
  subst hf
  iapply (wp_load (defs := defs) 𝒱 c bd E (Q := Q) (m := m) (r := r.toLoadRect) (hl := hl) (k := k) (q := q) (f := f)
    (View.setOn_subset_set _ _)) $$ H
  iintro H
  iapply Hk
  iapply (show (m.view.loc c ↦[m.view.set]{q} f) ⊢ (owns c m q (m.view.read (Elt F) f) : sProp 𝕄) from owns_intro c m q f) $$ H

/-- A store of a whole rectangle of an owned memref. -/
theorem wp_st {m : Memref sig c.2.kind cs s e} {r : Rect s} {w : r.shape.Idx → Elt F e} {hx : (m.access r).Stores Finset.univ}
    {hm : Finset.univ = Finset.univ ∨ ∀ a, r.stride a = 1}
    {k : PUnit → Prog (TpuEff nD τ sig (Elt F) Λ c.2) α} {X : s.Idx → Elt F e} :
    (owns c m fullShare X : sProp 𝕄)
      ⊢ iprop((owns c m fullShare (r.overlay X w) -∗ wp frame (wpE defs 𝒱 c bd) E (k ⟨⟩) Q)
          -∗ wp frame (wpE defs 𝒱 c bd) E (.op (.store m r w Finset.univ hx hm) k) Q) := by
  iintro H Hk
  ihave H' := (show owns c m fullShare X ⊢ iprop(∃ f, ⌜m.view.read (Elt F) f = X⌝ ∗ (m.view.loc c ↦[m.view.set]{fullShare} f)) from .rfl) $$ H
  icases H' with ⟨%f, %hf, H⟩
  have hS : (m.access r).setOn Finset.univ ⊆ m.view.set := by
    rw [View.setOn_univ]; exact (View.set_slice (v := m.view) r) ▸ Finset.map_subset_map.mpr (Finset.subset_univ _)
  iapply (wp_store (defs := defs) 𝒱 c bd E (Q := Q) (m := m) (r := r) (w := w) (hx := hx) (hm := hm) (k := k) (f := f)
    (S := m.view.set) hS) $$ H
  iintro H
  iapply Hk
  have hr : m.view.read (Elt F) ((m.access r).write (Elt F) f w Finset.univ) = r.overlay X w := by
    funext y
    by_cases hy : y ∈ r.set
    · rw [← Rect.map_emb_univ] at hy
      obtain ⟨x, -, rfl⟩ := Finset.mem_map.mp hy
      rw [Rect.overlay_emb]
      exact View.read_slice_write_emb (v := m.view) r f w (Finset.mem_univ x)
    · rw [Rect.overlay_of_not_mem _ _ _ hy, ← hf]
      exact View.read_slice_write_of_not_mem (v := m.view) r f w Finset.univ (by rw [Rect.map_emb_univ]; exact hy)
  rw [← hr]
  iapply (show (m.view.loc c ↦[m.view.set]{fullShare} (m.access r).write (Elt F) f w Finset.univ)
    ⊢ (owns c m fullShare (m.view.read (Elt F) ((m.access r).write (Elt F) f w Finset.univ)) : sProp 𝕄) from owns_intro c m fullShare _) $$ H

/-! ## A row of loads, a flush -/

abbrev V (F : FTy → Type) : Type := FVec F T16 .f32
/-- An in-bounds corner of a `1 × 16` block of an `n × w` memref. -/
abbrev Off (n w : Nat) : Type := { o : Fin 2 → Nat // ∀ a, o a + T1x16.size a ≤ (T2 n w).size a }

theorem h1x16 : 0 < T1x16.numel := by decide
theorem hc1 : T1x16.ShapeCasts T16 := by decide
theorem hc2 : T16.ShapeCasts T1x16 := by decide

def blk {n w : Nat} (o : Off n w) : Rect (T2 n w) := Rect.unit (s := T2 n w) o.1 T1x16.size o.2

/-- The loads of one row, each added to its running vector. -/
def rowLoads {n w : Nat} (m : Memref sig c.2.kind .vmem (T2 n w) .f32) :
    List (Off n w) → List (V F) → (List (V F) → Prog (TpuEff nD τ sig (Elt F) Λ c.2) α) → Prog (TpuEff nD τ sig (Elt F) Λ c.2) α
  | o :: os, v :: vs, k => .op (.load m (Rect.unit (s := T2 n w) o.1 T1x16.size o.2).toLoadRect (View.loadsAt_vmem h1x16))
      fun ld => rowLoads m os vs fun r => k (addf v (shapeCast T16 ld hc1) :: r)
  | _, _, k => k []

/-- Rows one after another. -/
def rowsLoads {n w : Nat} (m : Memref sig c.2.kind .vmem (T2 n w) .f32) :
    List (List (Off n w)) → List (V F) → (List (V F) → Prog (TpuEff nD τ sig (Elt F) Λ c.2) α) → Prog (TpuEff nD τ sig (Elt F) Λ c.2) α
  | os :: oss, vs, k => rowLoads c m os vs fun vs' => rowsLoads m oss vs' k
  | [], vs, k => k vs

/-- The running vectors added into a row of the accumulator: each block read (twice, the second reading unused),
    the sum stored. -/
def flushP {n w : Nat} (m : Memref sig c.2.kind .vmem (T2 n w) .f32) :
    List (Off n w) → List (V F) → Prog (TpuEff nD τ sig (Elt F) Λ c.2) α → Prog (TpuEff nD τ sig (Elt F) Λ c.2) α
  | o :: os, v :: vs, k =>
      .op (.load m (Rect.unit (s := T2 n w) o.1 T1x16.size o.2).toLoadRect (View.loadsAt_vmem h1x16)) fun ld =>
      .op (.load m (Rect.unit (s := T2 n w) o.1 T1x16.size o.2).toLoadRect (View.loadsAt_vmem h1x16)) fun _ =>
      .op (.store m (Rect.unit (s := T2 n w) o.1 T1x16.size o.2) (shapeCast T1x16 (addf (shapeCast T16 ld hc1) v) hc2) Finset.univ
        (View.stores_vmem_bits_univ h1x16 rfl) (.inl rfl)) fun _ => flushP m os vs k
  | _, _, k => k

/-! ## What they do, by coordinates -/

/-- The running vectors after a row. -/
def addRow (cr : Nat → F .f32) (x : Nat → F .f32) : Nat → F .f32 := fun i => FloatOps.addf (cr i) (x i)
/-- The accumulator after a flush into row `p`. -/
def flushA (p : Nat) (cr : Nat → F .f32) (A : Nat → Nat → F .f32) : Nat → Nat → F .f32 :=
  fun r i => if r = p then FloatOps.addf (A r i) (cr i) else A r i

theorem read_blk {n w : Nat} (X : Nat → Nat → F .f32) {o : Fin 2 → Nat} (h : ∀ a, o a + T1x16.size a ≤ (T2 n w).size a) {r : Nat} {j : Nat}
    (ho : o = ![r, 16 * j]) :
    shapeCast T16 (fun i : T1x16.Idx => arr2 n w X ((Rect.unit (s := T2 n w) o ![1, 16] h).emb i)) hc1 = vec (X r) j := by
  subst ho
  rw [show (fun i : T1x16.Idx => arr2 n w X ((Rect.unit (s := T2 n w) ![r, 16 * j] T1x16.size h).emb i))
      = fun i : T1x16.Idx => X r (16 * j + (i 1).val) from ?_]
  · exact cast_row (fun l => X r (16 * j + l)) hc1
  · funext i
    have h0 : (i 0).val = 0 := by have := (i 0).isLt; simp at this; omega
    simp only [arr2, Rect.emb_apply]
    show X (r + 1 * (i 0).val) (16 * j + 1 * (i 1).val) = _
    rw [h0]; simp

variable {𝒱 c bd E}

/-- A load of a block: what is loaded, as a row of sixteen lanes. -/
theorem wp_ldblk {n w : Nat} {m : Memref sig c.2.kind .vmem (T2 n w) .f32} {q : PosShare TreeShare} {X : Nat → Nat → F .f32}
    {o : Fin 2 → Nat} {h : ∀ a, o a + T1x16.size a ≤ (T2 n w).size a} {r j : Nat} (ho : o = ![r, 16 * j])
    {hl : m.view.LoadsAt (Rect.unit (s := T2 n w) o T1x16.size h).toLoadRect}
    {k : ((Rect.unit (s := T2 n w) o T1x16.size h).shape.Idx → Elt F .f32) → Prog (TpuEff nD τ sig (Elt F) Λ c.2) α} :
    (owns c m q (arr2 n w X) : sProp 𝕄)
      ⊢ iprop((∀ ld : (Rect.unit (s := T2 n w) o T1x16.size h).shape.Idx → Elt F .f32,
            ⌜shapeCast T16 (s := T1x16) ld hc1 = vec (X r) j⌝ -∗ owns c m q (arr2 n w X) -∗ wp frame (wpE defs 𝒱 c bd) E (k ld) Q)
          -∗ wp frame (wpE defs 𝒱 c bd) E (.op (.load m (Rect.unit (s := T2 n w) o T1x16.size h).toLoadRect hl) k) Q) := by
  iintro H Hk
  iapply (wp_ld (defs := defs) 𝒱 c bd E (Q := Q)) $$ H
  iintro H
  iapply Hk $$ %_ [] H
  ipureintro
  exact read_blk X h ho

theorem wp_rowLoads {n w : Nat} {m : Memref sig c.2.kind .vmem (T2 n w) .f32} {q : PosShare TreeShare} {X : Nat → Nat → F .f32}
    {r : Nat} (off : Fin 16 → Off n w) (hoff : ∀ j, (off j).1 = ![r, 16 * j.val]) (cr : Nat → F .f32) (idx : List (Fin 16)) :
    ∀ {k : List (V F) → Prog (TpuEff nD τ sig (Elt F) Λ c.2) α},
    (owns c m q (arr2 n w X) : sProp 𝕄)
      ⊢ iprop((owns c m q (arr2 n w X) -∗ wp frame (wpE defs 𝒱 c bd) E (k (idx.map fun j => vec (addRow cr (X r)) j.val)) Q)
          -∗ wp frame (wpE defs 𝒱 c bd) E (rowLoads c m (idx.map off) (idx.map fun j => vec cr j.val) k) Q) := by
  induction idx with
  | nil => intro k; iintro H Hk; iapply Hk; iexact H
  | cons j js ih =>
    intro k
    iintro H Hk
    simp only [List.map_cons, rowLoads]
    iapply (wp_ldblk (defs := defs) (Q := Q) (hoff j)) $$ H
    iintro %ld %hld H
    rw [hld]
    iapply ih $$ H
    iintro H
    iapply Hk; iexact H

theorem wp_rowsLoads {n w : Nat} {m : Memref sig c.2.kind .vmem (T2 n w) .f32} {q : PosShare TreeShare} {X : Nat → Nat → F .f32}
    {ρ : Type} (val : ρ → Nat) (off : ρ → Fin 16 → Off n w) (b : Nat) (idx : List (Fin 16)) (rows : List ρ)
    (hoff : ∀ r, ∀ j, (off r j).1 = ![b + val r, 16 * j.val]) :
    ∀ (cr : Nat → F .f32) {k : List (V F) → Prog (TpuEff nD τ sig (Elt F) Λ c.2) α},
    (owns c m q (arr2 n w X) : sProp 𝕄)
      ⊢ iprop((owns c m q (arr2 n w X) -∗ wp frame (wpE defs 𝒱 c bd) E (k (idx.map fun j => vec ((rows.map val).foldl (fun cr r => addRow cr (X (b + r))) cr) j.val)) Q)
          -∗ wp frame (wpE defs 𝒱 c bd) E (rowsLoads c m (rows.map fun r => idx.map (off r)) (idx.map fun j => vec cr j.val) k) Q) := by
  induction rows with
  | nil => intro cr k; iintro H Hk; iapply Hk; iexact H
  | cons r rs ih =>
    intro cr k
    iintro H Hk
    simp only [List.map_cons, rowsLoads, List.foldl_cons]
    iapply (wp_rowLoads (defs := defs) (Q := Q) (off r) (hoff r) cr idx) $$ H
    iintro H
    iapply (ih _) $$ H
    iexact Hk

/-- The accumulator with the blocks of `done` of row `p` flushed. -/
def flushB (p : Nat) (cr : Nat → F .f32) (A : Nat → Nat → F .f32) (done : List (Fin 16)) : Nat → Nat → F .f32 :=
  fun r i => if r = p ∧ ∃ j ∈ done, j.val = i / 16 then FloatOps.addf (A r i) (cr i) else A r i

theorem overlay_blk {n w : Nat} (cr : Nat → F .f32) (A : Nat → Nat → F .f32) {o : Fin 2 → Nat} (h : ∀ a, o a + T1x16.size a ≤ (T2 n w).size a) {p : Nat}
    {done : List (Fin 16)} {j : Fin 16} (ho : o = ![p, 16 * j.val]) (hj : j ∉ done) :
    (Rect.unit (s := T2 n w) o ![1, 16] h).overlay (arr2 n w (flushB p cr A done))
        (shapeCast T1x16 (addf (vec (flushB p cr A done p) j.val) (vec cr j.val)) hc2)
      = arr2 n w (flushB p cr A (j :: done)) := by
  subst ho
  rw [show (addf (vec (flushB p cr A done p) j.val) (vec cr j.val) : V F)
      = fun l : T16.Idx => (fun l => FloatOps.addf (flushB p cr A done p (16 * j.val + l)) (cr (16 * j.val + l))) (l 0).val from rfl]
  rw [cast_col (fun l => FloatOps.addf (flushB p cr A done p (16 * j.val + l)) (cr (16 * j.val + l))) hc2]
  funext y
  by_cases hy : y ∈ (Rect.unit (s := T2 n w) ![p, 16 * j.val] T1x16.size h).set
  · rw [← Rect.map_emb_univ] at hy
    obtain ⟨i, -, rfl⟩ := Finset.mem_map.mp hy
    rw [Rect.overlay_emb]
    have h0 : (i 0).val = 0 := by have := (i 0).isLt; simp at this; omega
    have h1 : (i 1).val < 16 := (i 1).isLt
    simp only [arr2, Rect.emb_apply]
    show _ = flushB p cr A (j :: done) (p + 1 * (i 0).val) (16 * j.val + 1 * (i 1).val)
    rw [h0]
    have e : (16 * j.val + (i 1).val) / 16 = j.val := by omega
    have hnd : ¬ ∃ j' ∈ done, j'.val = j.val := fun ⟨j', hm, e'⟩ => hj (Fin.ext e' ▸ hm)
    simp [flushB, e, hnd]
  · rw [Rect.overlay_of_not_mem _ _ _ hy]
    have : ¬ ((y 0).val = p ∧ j.val = (y 1).val / 16) := by
      rintro ⟨e0, e1⟩
      apply hy
      rw [Rect.mem_set_unit]
      intro a
      match a with
      | 0 => exact ⟨by show p ≤ (y 0).val; omega, by show (y 0).val < p + 1; omega⟩
      | 1 => exact ⟨by show 16 * j.val ≤ (y 1).val; omega, by show (y 1).val < 16 * j.val + 16; omega⟩
    simp only [arr2, flushB, List.mem_cons, exists_eq_or_imp]
    congr 1
    apply propext
    constructor
    · rintro ⟨e0, e1⟩; exact ⟨e0, .inr e1⟩
    · rintro ⟨e0, e1 | e1⟩
      · exact absurd ⟨e0, e1⟩ this
      · exact ⟨e0, e1⟩

theorem wp_flushB {n w : Nat} {m : Memref sig c.2.kind .vmem (T2 n w) .f32} {A : Nat → Nat → F .f32}
    {p : Nat} (off : Fin 16 → Off n w) (hoff : ∀ j, (off j).1 = ![p, 16 * j.val]) (cr : Nat → F .f32) (idx : List (Fin 16)) :
    ∀ (done : List (Fin 16)) (_ : (idx ++ done).Nodup) {k : Prog (TpuEff nD τ sig (Elt F) Λ c.2) α},
    (owns c m fullShare (arr2 n w (flushB p cr A done)) : sProp 𝕄)
      ⊢ iprop((owns c m fullShare (arr2 n w (flushB p cr A (idx.reverse ++ done))) -∗ wp frame (wpE defs 𝒱 c bd) E k Q)
          -∗ wp frame (wpE defs 𝒱 c bd) E (flushP c m (idx.map off) (idx.map fun j => vec cr j.val) k) Q) := by
  induction idx with
  | nil => intro done _ k; iintro H Hk; iapply Hk; iexact H
  | cons j js ih =>
    intro done hnd k
    have hj : j ∉ done := fun h => by
      rw [List.cons_append, List.nodup_cons] at hnd
      exact hnd.1 (List.mem_append_right _ h)
    iintro H Hk
    simp only [List.map_cons, flushP]
    iapply (wp_ldblk (defs := defs) (Q := Q) (hoff j)) $$ H
    iintro %ld %hld H
    iapply (wp_ldblk (defs := defs) (Q := Q) (hoff j)) $$ H
    iintro %ld' - H
    rw [hld]
    iapply (wp_st (defs := defs) 𝒱 c bd E (Q := Q)) $$ H
    iintro H
    rw [overlay_blk cr A (off j).2 (hoff j) hj]
    iapply (ih (j :: done) (by
      rw [List.cons_append] at hnd
      exact (List.perm_middle.nodup_iff).mpr hnd)) $$ H
    rw [show js.reverse ++ j :: done = (j :: js).reverse ++ done by simp]
    iexact Hk

/-- The flush of all sixteen running vectors. -/
theorem wp_flush {n : Nat} {m : Memref sig c.2.kind .vmem (T2 n 256) .f32} {A : Nat → Nat → F .f32}
    {p : Nat} (off : Fin 16 → Off n 256) (hoff : ∀ j, (off j).1 = ![p, 16 * j.val]) (cr : Nat → F .f32)
    {k : Prog (TpuEff nD τ sig (Elt F) Λ c.2) α} :
    (owns c m fullShare (arr2 n 256 A) : sProp 𝕄)
      ⊢ iprop((owns c m fullShare (arr2 n 256 (flushA p cr A)) -∗ wp frame (wpE defs 𝒱 c bd) E k Q)
          -∗ wp frame (wpE defs 𝒱 c bd) E (flushP c m ((List.finRange 16).map off) ((List.finRange 16).map fun j => vec cr j.val) k) Q) := by
  have h0 : arr2 n 256 A = arr2 n 256 (flushB p cr A []) := by
    funext y; simp [arr2, flushB]
  have h1 : arr2 n 256 (flushB p cr A ((List.finRange 16).reverse ++ [])) = arr2 n 256 (flushA p cr A) := by
    funext y
    have hy : (y 1).val < 256 := (y 1).isLt
    have : ∃ j ∈ (List.finRange 16).reverse ++ [], j.val = (y 1).val / 16 := ⟨⟨(y 1).val / 16, by omega⟩, by simp, rfl⟩
    simp only [arr2, flushB, flushA, this, and_true]
  rw [h0]
  have h := wp_flushB (defs := defs) (𝒱 := 𝒱) (bd := bd) (E := E) (c := c) (Q := Q) (m := m) (A := A) off hoff cr (List.finRange 16) []
    (by simpa using List.nodup_finRange 16) (k := k)
  rwa [h1] at h

end Rules

/-! ## The segment id of a lane -/

/-- The kernel's scalar reading of a vector of words: the running maximum (unsigned, after flipping the sign bit) at the
    last lane, flipped back. -/
def top (v : IVec T16 32) : BitVec 32 :=
  extractAt ![15] (xori (scan .max (xori v (broadcast T16 2147483648#32))) (broadcast T16 2147483648#32)) (by decide)
def bot (v : IVec T16 32) : BitVec 32 :=
  extractAt ![15] (xori (scan .min (xori v (broadcast T16 2147483648#32))) (broadcast T16 2147483648#32)) (by decide)

theorem T16_eq (i : T16.Idx) : i = Shape.ofLane (d := ![16]) (i 0) := by
  funext a; obtain rfl : a = 0 := Subsingleton.elim _ _; rfl

theorem foldl_const {α β : Type} (f : α → β → α) (a : α) (l : List β) (h : ∀ b ∈ l, f a b = a) : l.foldl f a = a := by
  induction l with
  | nil => rfl
  | cons b l ih => rw [List.foldl_cons, h b (by simp)]; exact ih fun b' hb' => h b' (by simp [hb'])

theorem xor_flip (s b : BitVec 32) : (s ^^^ b) ^^^ b = s := by rw [BitVec.xor_assoc, BitVec.xor_self, BitVec.xor_zero]

theorem top_const (s : BitVec 32) : top (fun _ => s) = s := by
  show ((List.filter _ (List.finRange 16)).foldl (fun r k => IntOp.maxui r (s ^^^ 2147483648#32)) (s ^^^ 2147483648#32)) ^^^ 2147483648#32 = s
  rw [foldl_const _ _ _ (fun b _ => by simp [IntOp.maxui])]
  exact xor_flip _ _

theorem le_foldl_max {ι : Type} (f : ι → BitVec 32) (l : List ι) (a : BitVec 32) :
    a ≤ l.foldl (fun r k => IntOp.maxui r (f k)) a ∧ ∀ k ∈ l, f k ≤ l.foldl (fun r k => IntOp.maxui r (f k)) a := by
  induction l generalizing a with
  | nil => simp
  | cons b l ih =>
    have h1 : a ≤ IntOp.maxui a (f b) := by
      unfold IntOp.maxui; split
      · exact BitVec.le_refl _
      · rename_i h; rw [BitVec.ult_eq_decide] at h; simp only [decide_eq_true_eq, not_lt] at h; exact h
    have h2 : f b ≤ IntOp.maxui a (f b) := by
      unfold IntOp.maxui; split
      · rename_i h; rw [BitVec.ult_eq_decide] at h; simp only [decide_eq_true_eq] at h; exact Nat.le_of_lt h
      · exact BitVec.le_refl _
    obtain ⟨h3, h4⟩ := ih (IntOp.maxui a (f b))
    refine ⟨BitVec.le_trans h1 h3, fun k hk => ?_⟩
    rcases List.mem_cons.mp hk with rfl | hk
    · exact BitVec.le_trans h2 h3
    · exact h4 k hk

theorem foldl_min_le {ι : Type} (f : ι → BitVec 32) (l : List ι) (a : BitVec 32) :
    l.foldl (fun r k => IntOp.minui r (f k)) a ≤ a ∧ ∀ k ∈ l, l.foldl (fun r k => IntOp.minui r (f k)) a ≤ f k := by
  induction l generalizing a with
  | nil => simp
  | cons b l ih =>
    have h1 : IntOp.minui a (f b) ≤ a := by
      unfold IntOp.minui; split
      · exact BitVec.le_refl _
      · rename_i h; rw [BitVec.ult_eq_decide] at h; simp only [decide_eq_true_eq, not_lt] at h; exact h
    have h2 : IntOp.minui a (f b) ≤ f b := by
      unfold IntOp.minui; split
      · rename_i h; rw [BitVec.ult_eq_decide] at h; simp only [decide_eq_true_eq] at h; exact Nat.le_of_lt h
      · exact BitVec.le_refl _
    obtain ⟨h3, h4⟩ := ih (IntOp.minui a (f b))
    refine ⟨BitVec.le_trans h3 h1, fun k hk => ?_⟩
    rcases List.mem_cons.mp hk with rfl | hk
    · exact BitVec.le_trans h3 h2
    · exact h4 k hk

theorem lanes_of_max_min (w : Fin 16 → BitVec 32) (m : BitVec 32) (P : Fin 16 → Bool) (hP : ∀ k, k ≠ 0 → P k = true)
    (ht : ((List.finRange 16).filter P).foldl (fun r k => IntOp.maxui r (w k)) (w 0) = m)
    (hb : ((List.finRange 16).filter P).foldl (fun r k => IntOp.minui r (w k)) (w 0) = m) (k : Fin 16) : w k = m := by
  have hmax := le_foldl_max w ((List.finRange 16).filter P) (w 0)
  have hmin := foldl_min_le w ((List.finRange 16).filter P) (w 0)
  rw [ht] at hmax
  rw [hb] at hmin
  by_cases hk : k = 0
  · subst hk; exact BitVec.le_antisymm hmax.1 hmin.1
  · have hm : k ∈ (List.finRange 16).filter P := List.mem_filter.mpr ⟨List.mem_finRange _, hP k hk⟩
    exact BitVec.le_antisymm (hmax.2 k hm) (hmin.2 k hm)

/-- All lanes agree with the running maximum and minimum when these agree. -/
theorem all_of_top_bot {v : IVec T16 32} {p : BitVec 32} (ht : top v = p) (hb : bot v = p) (l : T16.Idx) : v l = p := by
  have key := lanes_of_max_min (fun k : Fin 16 => v (Shape.ofLane (d := ![16]) k) ^^^ 2147483648#32) (p ^^^ 2147483648#32)
    (fun k : Fin 16 => decide (0 < k.val ∧ k.val ≤ 15))
    (fun k hk => by have : k.val ≠ 0 := fun e => hk (Fin.ext e)
                    have := k.isLt
                    simp only [decide_eq_true_eq]; omega)
    (by rw [← ht]; exact (xor_flip _ _).symm) (by rw [← hb]; exact (xor_flip _ _).symm) (l 0)
  have key2 := congrArg (· ^^^ 2147483648#32) key
  simp only [xor_flip] at key2
  rw [← key2, ← T16_eq l]

def neC (v p : BitVec 32) : BitVec 1 := Scalar.cmpi .ne (Scalar.extui (Scalar.cmpi .ne v p)) 0#32
def eqC (p t b : BitVec 32) : BitVec 1 := Scalar.cmpi .ne (Scalar.extui (Scalar.andi (Scalar.cmpi .eq t p) (Scalar.cmpi .eq b p))) 0#32

theorem neC_iff (v p : BitVec 32) : neC v p = 1#1 ↔ v ≠ p := by
  have e : neC v p = IntOp.cmpi .ne ((BitVec.ofBool (v != p)).setWidth 32) 0#32 := rfl
  rw [e]
  by_cases h : v = p
  · subst h; simp [IntOp.cmpi]
  · have : (v != p) = true := by simpa using h
    simp only [this, h, ne_eq, not_false_eq_true, iff_true]; decide

theorem eqC_imp (p t b : BitVec 32) (h : eqC p t b = 1#1) : t = p ∧ b = p := by
  have e : eqC p t b = IntOp.cmpi .ne ((BitVec.ofBool (t == p) &&& BitVec.ofBool (b == p)).setWidth 32) 0#32 := rfl
  rw [e] at h
  revert h
  rcases h1 : (t == p) <;> rcases h2 : (b == p) <;> intro h
  · exact absurd h (by decide)
  · exact absurd h (by decide)
  · exact absurd h (by decide)
  · exact ⟨eq_of_beq h1, eq_of_beq h2⟩

end Cert.Proof.Rows
-- ==== Proof.Steps.lean ====
/- One row of the segment sums, and one group of sixteen: programs in the shape the kernel's bodies unfold to, and what
   they do to the running vectors and the accumulator. -/
module
public import proofs.«01_k».proof.Proof.Rows
public import Idealize.ShloMosaic.Lib.SparseCore.Ops
@[expose] public section
namespace Cert.Proof.Rows
open Idealize.ShloMosaic
open Idealize.SL
open Idealize.SL.BI (sProp)
open scoped Idealize.SL.BI
open Idealize.SL.BI.BIBase Idealize.SL.BI.Laws Idealize.SL.Sem Idealize.SL.ProofMode
open Idealize.SL.RA

abbrev Tup (F : FTy → Type) : Type := BitVec 32 × V F × V F × V F × V F × V F × V F × V F × V F × V F × V F × V F × V F × V F × V F × V F × V F

/-- What the kernel's loops carry: the running segment id and the sixteen running vectors. -/
def tup {F : FTy → Type} (p : BitVec 32) (cr : Nat → F .f32) : Tup F :=
  (p, vec cr 0, vec cr 1, vec cr 2, vec cr 3, vec cr 4, vec cr 5, vec cr 6, vec cr 7, vec cr 8, vec cr 9, vec cr 10, vec cr 11, vec cr 12, vec cr 13,
    vec cr 14, vec cr 15)

/-- The same of a list. -/
def tupL {F : FTy → Type} (z : F .f32) (p : BitVec 32) (l : List (V F)) : Tup F :=
  let g := fun n => l.getD n fun _ => z
  (p, g 0, g 1, g 2, g 3, g 4, g 5, g 6, g 7, g 8, g 9, g 10, g 11, g 12, g 13, g 14, g 15)

theorem tupL_map {F : FTy → Type} (z : F .f32) (p : BitVec 32) (cr : Nat → F .f32) :
    tupL z p ((List.finRange 16).map fun j => vec cr j.val) = tup p cr := rfl

structure St (F : FTy → Type) where
  p : BitVec 32
  cr : Nat → F .f32
  A : Nat → Nat → F .f32

variable {F : FTy → Type} [FloatOps F]

/-- One row: a new segment id flushes the running vectors. -/
def rstep (z : F .f32) (SG : Nat → BitVec 32) (X : Nat → Nat → F .f32) (s : St F) (r : Nat) : St F :=
  if SG r = s.p then ⟨s.p, addRow s.cr (X r), s.A⟩
  else ⟨SG r, addRow (fun _ => z) (X r), flushA s.p.toNat s.cr s.A⟩

/-- Rows `b`, …, `b + n - 1`. -/
def rsteps (z : F .f32) (SG : Nat → BitVec 32) (X : Nat → Nat → F .f32) (s : St F) (b n : Nat) : St F :=
  (List.range n).foldl (fun s r => rstep z SG X s (b + r)) s

theorem rsteps_succ (z : F .f32) (SG : Nat → BitVec 32) (X : Nat → Nat → F .f32) (s : St F) (b n : Nat) :
    rsteps z SG X s b (n + 1) = rstep z SG X (rsteps z SG X s b n) (b + n) := by
  simp [rsteps, List.range_succ]

theorem rsteps_add (z : F .f32) (SG : Nat → BitVec 32) (X : Nat → Nat → F .f32) (s : St F) (b n m : Nat) :
    rsteps z SG X (rsteps z SG X s b n) (b + n) m = rsteps z SG X s b (n + m) := by
  induction m with
  | zero => rfl
  | succ m ih => rw [rsteps_succ, ih, ← Nat.add_assoc n m 1, rsteps_succ, Nat.add_assoc]

theorem rsteps_p_lt (z : F .f32) (SG : Nat → BitVec 32) (X : Nat → Nat → F .f32) (s : St F) (b n : Nat) {N : Nat} (hp : s.p.toNat < N)
    (hSG : ∀ r, r < n → (SG (b + r)).toNat < N) : (rsteps z SG X s b n).p.toNat < N := by
  induction n with
  | zero => exact hp
  | succ n ih =>
    rw [rsteps_succ, rstep]
    split
    · exact ih fun r hr => hSG r (by omega)
    · exact hSG n (by omega)

theorem rsteps_same (z : F .f32) (SG : Nat → BitVec 32) (X : Nat → Nat → F .f32) (s : St F) (b n : Nat)
    (hSG : ∀ r, r < n → SG (b + r) = s.p) :
    rsteps z SG X s b n = ⟨s.p, (List.range n).foldl (fun cr r => addRow cr (X (b + r))) s.cr, s.A⟩ := by
  induction n with
  | zero => rfl
  | succ n ih =>
    rw [rsteps_succ, ih fun r hr => hSG r (by omega), rstep, if_pos (hSG n (by omega))]
    simp [List.range_succ]

section Body

variable {nD : Nat} {τ : Topo} {sig : RefSig} {Ix : Type} [DecidableEq Ix]
variable {Name : Type} [DecidableEq Name]
variable {U : Type} [URA U] {Lvl : Type} [Preorder Lvl] {Λ : Labels}
variable {defs : Defs nD τ sig (Elt F) Λ} {𝒱 : Variants} {c : Thread nD τ} {bd : Option 𝒱.V} {E : Set Name}

local notation "𝕄" => MT nD τ sig Ix (Elt F) Name U Lvl

/-- The segment id of one row, read by an index gather at a constant index. -/
theorem loadIdx_const (SG : Nat → BitVec 32) (w : BitVec 32) (h : ∀ a x, ((![fun _ => w] : Fin 1 → IVec T16 32) a x).toNat < (T1 128).size a) :
    (loadIdx (F := F) (e := .i32) (arr1 128 SG) ![fun _ => w] h : IVec T16 32) = fun _ => SG w.toNat := rfl

theorem bind_pos2 {ε : Type → Type} {α β γ : Type} {p : Prop} {dp : Decidable p} (hp : p) (A : p → Prog ε α) (B : ¬ p → Prog ε α)
    (k : α → Prog ε β) (K : β → Prog ε γ) : Prog.bind (Prog.bind (dite p A B) k) K = Prog.bind (Prog.bind (A hp) k) K := by rw [dif_pos hp]
theorem bind_neg2 {ε : Type → Type} {α β γ : Type} {p : Prop} {dp : Decidable p} (hp : ¬ p) (A : p → Prog ε α) (B : ¬ p → Prog ε α)
    (k : α → Prog ε β) (K : β → Prog ε γ) : Prog.bind (Prog.bind (dite p A B) k) K = Prog.bind (Prog.bind (B hp) k) K := by rw [dif_neg hp]
theorem bind_pos1 {ε : Type → Type} {α β : Type} {p : Prop} {dp : Decidable p} (hp : p) (A : p → Prog ε α) (B : ¬ p → Prog ε α)
    (k : α → Prog ε β) : Prog.bind (dite p A B) k = Prog.bind (A hp) k := by rw [dif_pos hp]
theorem bind_neg1 {ε : Type → Type} {α β : Type} {p : Prop} {dp : Decidable p} (hp : ¬ p) (A : p → Prog ε α) (B : ¬ p → Prog ε α)
    (k : α → Prog ε β) : Prog.bind (dite p A B) k = Prog.bind (B hp) k := by rw [dif_neg hp]

/-- The segment id the row reads. -/
abbrev segAt {hw : Prop} (w : BitVec 32) (hx : hw → ∀ a x, ((![fun _ => w] : Fin 1 → IVec T16 32) a x).toNat < (T1 128).size a)
    (h : PLift hw) (f : (T1 128).Idx → Elt F .i32) : BitVec 32 := top (loadIdx (F := F) (e := .i32) f ![fun _ => w] (hx h.down))

theorem wp_rbody {α : Type} {Q : α → sProp 𝕄} {xM : Memref sig c.2.kind .vmem (T2 112 256) .f32} {sM : Memref sig c.2.kind .vmem (T1 128) .i32}
    {aM : Memref sig c.2.kind .vmem (T2 256 256) .f32} {qx qs : PosShare TreeShare}
    {z : F .f32} {SG : Nat → BitVec 32} {X : Nat → Nat → F .f32} (s : St F) (w : BitVec 32) (r : Nat) (hw : w.toNat = r)
    {c4 : Prop} {d4 : Decidable c4} (h4 : c4) (hx : c4 → ∀ a x, ((![fun _ => w] : Fin 1 → IVec T16 32) a x).toNat < (T1 128).size a)
    {hl : sM.view.Loads}
    (c5 : BitVec 32 → Prop) {d5 : ∀ v, Decidable (c5 v)} (h5 : ∀ v, c5 v)
    (offA : Fin 16 → Off 256 256) (hoffA : ∀ j, (offA j).1 = ![s.p.toNat, 16 * j.val])
    (offX : Fin 16 → Off 112 256) (hoffX : ∀ j, (offX j).1 = ![r, 16 * j.val])
    {C : (h : PLift c4) → (f : (T1 128).Idx → Elt F .i32) → PLift (c5 (segAt (F := F) w hx h f)) → Prog (TpuEff nD τ sig (Elt F) Λ c.2) α}
    (fin : BitVec 32 → List (V F) → Prog (TpuEff nD τ sig (Elt F) Λ c.2) α)
    {prog : Prog (TpuEff nD τ sig (Elt F) Λ c.2) α}
    (hprog : prog = .op (.assume c4 d4) fun h => .op (.load sM (Rect.whole (T1 128)).toLoadRect (View.loadsAt_whole hl)) fun f =>
              .op (.assume (c5 (segAt (F := F) w hx h f)) (d5 _)) (C h f))
    (hA : ∀ h f h', neC (segAt (F := F) w hx h f) s.p = 1#1 → C h f h' = flushP c aM ((List.finRange 16).map offA) ((List.finRange 16).map fun j => vec s.cr j.val)
      (rowLoads c xM ((List.finRange 16).map offX) ((List.finRange 16).map fun j => vec (fun _ => z) j.val) (fin (segAt (F := F) w hx h f))))
    (hB : ∀ h f h', ¬ neC (segAt (F := F) w hx h f) s.p = 1#1 → C h f h' = rowLoads c xM ((List.finRange 16).map offX) ((List.finRange 16).map fun j => vec s.cr j.val) (fin (segAt (F := F) w hx h f))) :
    (iprop(owns c xM qx (arr2 112 256 X) ∗ owns c sM qs (arr1 128 SG) ∗ owns c aM fullShare (arr2 256 256 s.A)) : sProp 𝕄)
      ⊢ iprop((owns c xM qx (arr2 112 256 X) -∗ owns c sM qs (arr1 128 SG) -∗ owns c aM fullShare (arr2 256 256 (rstep z SG X s r).A)
            -∗ wp frame (wpE defs 𝒱 c bd) E (fin (rstep z SG X s r).p ((List.finRange 16).map fun j => vec (rstep z SG X s r).cr j.val)) Q)
          -∗ wp frame (wpE defs 𝒱 c bd) E
            prog Q) := by
  subst hprog
  iintro ⟨Hx, Hs, Ha⟩ Hk
  iapply (wp_assume (defs := defs) 𝒱 c bd E h4)
  iapply (wp_ld (defs := defs) 𝒱 c bd E (Q := Q)) $$ Hs
  iintro Hs
  iapply (wp_assume (defs := defs) 𝒱 c bd E (h5 _))
  have e : (fun j => arr1 128 SG ((Rect.whole (T1 128)).emb j)) = arr1 128 SG := by
    funext j; simp [arr1, Rect.emb_apply, Rect.whole]
  have hv : ∀ f, f = arr1 128 SG → segAt (F := F) w hx ⟨h4⟩ f = SG r := by
    rintro _ rfl
    rw [segAt, loadIdx_const, hw, top_const]
  have hC : ∀ (h : PLift c4) f h', segAt (F := F) w hx h f = SG r →
     (iprop(owns c xM qx (arr2 112 256 X) ∗ owns c sM qs (arr1 128 SG) ∗ owns c aM fullShare (arr2 256 256 s.A)) : sProp 𝕄)
      ⊢ iprop((owns c xM qx (arr2 112 256 X) -∗ owns c sM qs (arr1 128 SG) -∗ owns c aM fullShare (arr2 256 256 (rstep z SG X s r).A)
            -∗ wp frame (wpE defs 𝒱 c bd) E (fin (rstep z SG X s r).p ((List.finRange 16).map fun j => vec (rstep z SG X s r).cr j.val)) Q)
          -∗ wp frame (wpE defs 𝒱 c bd) E (C h f h') Q) := by
    intro h f h' hv
    by_cases hne : SG r = s.p
    · rw [hB h f h' (by rw [neC_iff, hv]; simpa using hne), rstep, if_pos hne, hv]
      iintro ⟨Hx, Hs, Ha⟩ Hk
      iapply (wp_rowLoads (defs := defs) (Q := Q) offX hoffX s.cr _) $$ Hx
      iintro Hx
      rw [hne]
      iapply Hk $$ Hx Hs Ha
    · rw [hA h f h' (by rw [neC_iff, hv]; exact hne), rstep, if_neg hne, hv]
      iintro ⟨Hx, Hs, Ha⟩ Hk
      iapply (wp_flush (defs := defs) (Q := Q) offA hoffA s.cr) $$ Ha
      iintro Ha
      iapply (wp_rowLoads (defs := defs) (Q := Q) offX hoffX _ _) $$ Hx
      iintro Hx
      iapply Hk $$ Hx Hs Ha
  iapply (hC _ _ _ (hv _ e)) $$ [Hx Hs Ha] Hk
  isplitl [Hx]; · iexact Hx
  isplitl [Hs]; · iexact Hs
  iexact Ha

/-- The tile's three buffers: a chunk of rows, their segment ids, the accumulator. -/
noncomputable abbrev bufs (c : Thread nD τ) (xM : Memref sig c.2.kind .vmem (T2 112 256) .f32) (sM : Memref sig c.2.kind .vmem (T1 128) .i32)
    (aM : Memref sig c.2.kind .vmem (T2 256 256) .f32) (X : Nat → Nat → F .f32) (SG : Nat → BitVec 32) (A : Nat → Nat → F .f32) : sProp 𝕄 :=
  iprop(owns c xM fullShare (arr2 112 256 X) ∗ owns c sM fullShare (arr1 128 SG) ∗ owns c aM fullShare (arr2 256 256 A))

variable {xM : Memref sig c.2.kind .vmem (T2 112 256) .f32} {sM : Memref sig c.2.kind .vmem (T1 128) .i32}
    {aM : Memref sig c.2.kind .vmem (T2 256 256) .f32} {z : F .f32} {SG : Nat → BitVec 32} {X : Nat → Nat → F .f32}

/-- What a step over rows leaves: the carried tuple and the buffers at the new state. -/
noncomputable abbrev after (c : Thread nD τ) (xM : Memref sig c.2.kind .vmem (T2 112 256) .f32) (sM : Memref sig c.2.kind .vmem (T1 128) .i32)
    (aM : Memref sig c.2.kind .vmem (T2 256 256) .f32) (X : Nat → Nat → F .f32) (SG : Nat → BitVec 32) (s : St F) (t : Tup F) : sProp 𝕄 :=
  iprop(⌜t = tup s.p s.cr⌝ ∗ bufs c xM sM aM X SG s.A)

/-- A loop whose iterations each take `R` rows. -/
theorem wp_rows {α : Type} {Q : α → sProp 𝕄} (T R b : Nat) (s : St F) (hp : s.p.toNat < 256) (hSG : ∀ r, r < R * T → (SG (b + r)).toNat < 256)
    {lb ub stp : BitVec 32} {hok : Scf.OK lb ub stp} (hT : Scf.trips lb ub stp = T)
    {body : Fin (Scf.trips lb ub stp) → Tup F → Prog (TpuEff nD τ sig (Elt F) Λ c.2) (Tup F)}
    (hbody : ∀ k (s' : St F), s'.p.toNat < 256 → (bufs c xM sM aM X SG s'.A : sProp 𝕄)
      ⊢ wp frame (wpE defs 𝒱 c bd) E (body k (tup s'.p s'.cr)) (after c xM sM aM X SG (rsteps z SG X s' (b + R * k.val) R)))
    {K : Tup F → Prog (TpuEff nD τ sig (Elt F) Λ c.2) α} :
    (bufs c xM sM aM X SG s.A : sProp 𝕄)
      ⊢ iprop((bufs c xM sM aM X SG (rsteps z SG X s b (R * T)).A
            -∗ wp frame (wpE defs 𝒱 c bd) E (K (tup (rsteps z SG X s b (R * T)).p (rsteps z SG X s b (R * T)).cr)) Q)
          -∗ wp frame (wpE defs 𝒱 c bd) E (Scf.for lb ub stp hok (tup s.p s.cr) body >>= K) Q) := by
  iintro H Hk
  iapply (Scf.wp_for_bind frame (wpE defs 𝒱 c bd) E lb ub stp hok (tup s.p s.cr) body
    (fun k t => after c xM sM aM X SG (rsteps z SG X s b (R * k)) t) (fun k t => by
      iintro ⟨%ht, H⟩
      subst ht
      have hk : k.val < T := hT ▸ k.isLt
      have hlt : R * k.val ≤ R * T := Nat.mul_le_mul_left _ (Nat.le_of_lt hk)
      have e : rsteps z SG X (rsteps z SG X s b (R * k.val)) (b + R * k.val) R = rsteps z SG X s b (R * (k.val + 1)) := by
        rw [rsteps_add, Nat.mul_succ]
      rw [← e]
      iapply (hbody k _ (rsteps_p_lt z SG X s b _ hp fun r hr => hSG r (by omega))) $$ H)) $$ [H]
  · isplitr
    · ipureintro; rfl
    · iexact H
  · rw [hT]
    iintro %t ⟨%ht, H⟩
    subst ht
    iapply Hk $$ H

theorem after_intro {s : St F} : (bufs c xM sM aM X SG s.A : sProp 𝕄) ⊢ after c xM sM aM X SG s (tup s.p s.cr) := by
  iintro H
  isplitr
  · ipureintro; rfl
  · iexact H

/-- A group of sixteen rows: all of the running segment, added row by row; or one row at a time. -/
theorem wp_group (s : St F) (b : Nat)
    {o : Fin 1 → Nat} (ho : o = ![b]) {hin : ∀ a, o a + T16.size a ≤ (T1 128).size a}
    {hl : sM.view.LoadsAt (Rect.unit (s := T1 128) o T16.size hin).toLoadRect}
    {C : IVec T16 32 → Prog (TpuEff nD τ sig (Elt F) Λ c.2) (Tup F)} {prog : Prog (TpuEff nD τ sig (Elt F) Λ c.2) (Tup F)}
    (hprog : prog = .op (.load sM (Rect.unit (s := T1 128) o T16.size hin).toLoadRect hl) C)
    (offX : Fin 16 → Fin 16 → Off 112 256) (hoffX : ∀ r j, (offX r j).1 = ![b + r.val, 16 * j.val])
    (hF : ∀ v, eqC s.p (top v) (bot v) = 1#1 → C v = rowsLoads c xM ((List.finRange 16).map fun r => (List.finRange 16).map (offX r))
      ((List.finRange 16).map fun j => vec s.cr j.val) (fun l => .ret (tupL z s.p l)))
    (hS : ∀ v, ¬ eqC s.p (top v) (bot v) = 1#1 → (bufs c xM sM aM X SG s.A : sProp 𝕄)
      ⊢ wp frame (wpE defs 𝒱 c bd) E (C v) (after c xM sM aM X SG (rsteps z SG X s b 16))) :
    (bufs c xM sM aM X SG s.A : sProp 𝕄) ⊢ wp frame (wpE defs 𝒱 c bd) E prog (after c xM sM aM X SG (rsteps z SG X s b 16)) := by
  subst hprog
  subst ho
  iintro ⟨Hx, Hs, Ha⟩
  iapply (wp_ld (defs := defs) 𝒱 c bd E) $$ Hs
  iintro Hs
  generalize hv : (fun j => arr1 128 SG ((Rect.unit (s := T1 128) ![b] T16.size hin).emb j)) = v
  by_cases hc : eqC s.p (top v) (bot v) = 1#1
  · have hall := fun l => all_of_top_bot (eqC_imp _ _ _ hc).1 (eqC_imp _ _ _ hc).2 l
    have hSG : ∀ r, r < 16 → SG (b + r) = s.p := by
      intro r hr
      have h1 := hall (Shape.ofLane (d := ![16]) (⟨r, hr⟩ : Fin 16))
      rw [← h1, ← hv]
      show SG (b + r) = SG (b + 1 * r)
      rw [Nat.one_mul]
    rw [rsteps_same z SG X s b 16 hSG]
    rw [hF v hc]
    iapply (wp_rowsLoads (defs := defs) (Fin.val : Fin 16 → Nat) offX b (List.finRange 16) (List.finRange 16) hoffX s.cr) $$ Hx
    iintro Hx
    rw [tupL_map, show (List.finRange 16).map Fin.val = List.range 16 from rfl, wp_ret]
    isplitr
    · ipureintro; rfl
    · isplitl [Hx]; · iexact Hx
      isplitl [Hs]; · iexact Hs
      iexact Ha
  · iapply (hS v hc)
    isplitl [Hx]; · iexact Hx
    isplitl [Hs]; · iexact Hs
    iexact Ha

/-- The accumulator after a chunk of `N` rows. -/
def chunkA (z : F .f32) (SG : Nat → BitVec 32) (X : Nat → Nat → F .f32) (A : Nat → Nat → F .f32) (N : Nat) : Nat → Nat → F .f32 :=
  let s := rsteps z SG X ⟨SG 0, fun _ => z, A⟩ 0 N
  flushA s.p.toNat s.cr s.A

/-- A chunk of rows: the first row's segment, the loop, the flush of what is left. -/
theorem wp_chunk {α : Type} {Q : α → sProp 𝕄} (T R : Nat) (A : Nat → Nat → F .f32) (hN : 0 < R * T) (hSG : ∀ r, r < R * T → (SG r).toNat < 256)
    {c1 : Prop} {d1 : Decidable c1} (h1 : c1) {hx : c1 → ∀ a x, ((![fun _ => 0#32] : Fin 1 → IVec T16 32) a x).toNat < (T1 128).size a}
    {hl : sM.view.Loads}
    {lb ub stp : BitVec 32} {hok : Scf.OK lb ub stp} (hT : Scf.trips lb ub stp = T)
    {body : Fin (Scf.trips lb ub stp) → Tup F → Prog (TpuEff nD τ sig (Elt F) Λ c.2) (Tup F)}
    {c6 : BitVec 32 → Prop} {d6 : ∀ p, Decidable (c6 p)} (h6 : ∀ p, p.toNat < 256 → c6 p)
    (offA : ∀ p, c6 p → Fin 16 → Off 256 256) (hoffA : ∀ p h j, (offA p h j).1 = ![p.toNat, 16 * j.val])
    {β : Type} {K : (h : PLift c1) → (f : (T1 128).Idx → Elt F .i32) → Tup F → Prog (TpuEff nD τ sig (Elt F) Λ c.2) β}
    {K' : (h : PLift c1) → (f : (T1 128).Idx → Elt F .i32) → β → Prog (TpuEff nD τ sig (Elt F) Λ c.2) α}
    {K2 : Prog (TpuEff nD τ sig (Elt F) Λ c.2) α}
    {prog : Prog (TpuEff nD τ sig (Elt F) Λ c.2) α}
    (hprog : prog = .op (.assume c1 d1) fun h => .op (.load sM (Rect.whole (T1 128)).toLoadRect (View.loadsAt_whole hl)) fun f =>
      ((Scf.for lb ub stp hok (tup (segAt (F := F) 0#32 hx h f) (fun _ => z)) body >>= K h f) >>= K' h f))
    (hK : ∀ h f p cr, (K h f (tup p cr) >>= K' h f) = .op (.assume (c6 p) (d6 p)) fun h' =>
      flushP c aM ((List.finRange 16).map (offA p h'.down)) ((List.finRange 16).map fun j => vec cr j.val) K2)
    (hbody : ∀ k (s' : St F), s'.p.toNat < 256 → (bufs c xM sM aM X SG s'.A : sProp 𝕄)
      ⊢ wp frame (wpE defs 𝒱 c bd) E (body k (tup s'.p s'.cr)) (after c xM sM aM X SG (rsteps z SG X s' (R * k.val) R))) :
    (bufs c xM sM aM X SG A : sProp 𝕄)
      ⊢ iprop((bufs c xM sM aM X SG (chunkA z SG X A (R * T)) -∗ wp frame (wpE defs 𝒱 c bd) E K2 Q)
          -∗ wp frame (wpE defs 𝒱 c bd) E prog Q) := by
  subst hprog
  iintro ⟨Hx, Hs, Ha⟩ Hk
  iapply (wp_assume (defs := defs) 𝒱 c bd E h1)
  iapply (wp_ld (defs := defs) 𝒱 c bd E (Q := Q)) $$ Hs
  iintro Hs
  have e : (fun j => arr1 128 SG ((Rect.whole (T1 128)).emb j)) = arr1 128 SG := by
    funext j; simp [arr1, Rect.emb_apply, Rect.whole]
  have hv : ∀ f, f = arr1 128 SG → segAt (F := F) 0#32 hx ⟨h1⟩ f = SG 0 := by
    rintro _ rfl
    rw [segAt, loadIdx_const, top_const]; rfl
  have hgo : ∀ f, segAt (F := F) 0#32 hx ⟨h1⟩ f = SG 0 → (bufs c xM sM aM X SG A : sProp 𝕄)
      ⊢ iprop((bufs c xM sM aM X SG (chunkA z SG X A (R * T)) -∗ wp frame (wpE defs 𝒱 c bd) E K2 Q)
          -∗ wp frame (wpE defs 𝒱 c bd) E ((Scf.for lb ub stp hok (tup (segAt (F := F) 0#32 hx ⟨h1⟩ f) (fun _ => z)) body >>= K ⟨h1⟩ f) >>= K' ⟨h1⟩ f) Q) := by
    intro f hf
    rw [hf, show ∀ (p : Prog (TpuEff nD τ sig (Elt F) Λ c.2) (Tup F)), ((p >>= K ⟨h1⟩ f) >>= K' ⟨h1⟩ f) = (p >>= fun t => (K ⟨h1⟩ f t >>= K' ⟨h1⟩ f)) from fun p => bind_assoc _ _ _]
    iintro H Hk
    have h0 : (SG 0).toNat < 256 := hSG 0 hN
    iapply (wp_rows (defs := defs) (z := z) T R 0 ⟨SG 0, fun _ => z, A⟩ h0 (fun r hr => by rw [Nat.zero_add]; exact hSG r hr) hT
      (fun k s' hs' => by rw [Nat.zero_add]; exact hbody k s' hs')) $$ H
    have hpl := rsteps_p_lt z SG X ⟨SG 0, fun _ => z, A⟩ 0 (R * T) h0 (fun r hr => by rw [Nat.zero_add]; exact hSG r hr)
    rw [hK]
    iintro ⟨Hx, Hs, Ha⟩
    iapply (wp_assume (defs := defs) 𝒱 c bd E (h6 _ hpl))
    iapply (wp_flush (defs := defs) (Q := Q) _ (hoffA _ (h6 _ hpl)) _) $$ Ha
    iintro Ha
    iapply Hk
    isplitl [Hx]; · iexact Hx
    isplitl [Hs]; · iexact Hs
    iexact Ha
  iapply (hgo _ (hv _ e)) $$ [Hx Hs Ha] Hk
  isplitl [Hx]; · iexact Hx
  isplitl [Hs]; · iexact Hs
  iexact Ha

theorem wp_eq {α : Type} {Q : α → sProp 𝕄} {R : sProp 𝕄} {p p' : Prog (TpuEff nD τ sig (Elt F) Λ c.2) α} (h : p = p')
    (H : R ⊢ wp frame (wpE defs 𝒱 c bd) E p' Q) : R ⊢ wp frame (wpE defs 𝒱 c bd) E p Q := h ▸ H

/-- The two row loops of a group taken row by row: the second has no trip. -/
theorem wp_slow (T b : Nat) (s : St F) (hp : s.p.toNat < 256) (hSG : ∀ r, r < T → (SG (b + r)).toNat < 256)
    {lb ub stp lb' ub' stp' : BitVec 32} {hok : Scf.OK lb ub stp} {hok' : Scf.OK lb' ub' stp'} (hT : Scf.trips lb ub stp = T) (hT' : Scf.trips lb' ub' stp' = 0)
    {body : Fin (Scf.trips lb ub stp) → Tup F → Prog (TpuEff nD τ sig (Elt F) Λ c.2) (Tup F)}
    {body' : Fin (Scf.trips lb' ub' stp') → Tup F → Prog (TpuEff nD τ sig (Elt F) Λ c.2) (Tup F)}
    {K K1 : Tup F → Prog (TpuEff nD τ sig (Elt F) Λ c.2) (Tup F)}
    {prog : Prog (TpuEff nD τ sig (Elt F) Λ c.2) (Tup F)}
    (hprog : prog = (Scf.for lb ub stp hok (tup s.p s.cr) body >>= K))
    (hK : ∀ p cr, K (tup p cr) = (Scf.for lb' ub' stp' hok' (tup p cr) body' >>= K1))
    (hK1 : ∀ p cr, K1 (tup p cr) = .ret (tup p cr))
    (hbody : ∀ k (s' : St F), s'.p.toNat < 256 → (bufs c xM sM aM X SG s'.A : sProp 𝕄)
      ⊢ wp frame (wpE defs 𝒱 c bd) E (body k (tup s'.p s'.cr)) (after c xM sM aM X SG (rstep z SG X s' (b + k.val)))) :
    (bufs c xM sM aM X SG s.A : sProp 𝕄) ⊢ wp frame (wpE defs 𝒱 c bd) E prog (after c xM sM aM X SG (rsteps z SG X s b T)) := by
  subst hprog
  iintro H
  iapply (wp_rows (defs := defs) (z := z) T 1 b s hp (fun r hr => hSG r (by omega)) hT (fun k s' hs' => by
    rw [Nat.one_mul]; exact hbody k s' hs')) $$ H
  rw [Nat.one_mul, hK]
  iintro H
  iapply (wp_rows (defs := defs) (z := z) 0 1 0 (rsteps z SG X s b T) (rsteps_p_lt z SG X s b T hp hSG) (fun r hr => by omega) hT' (fun k => (hT' ▸ k).elim0)) $$ H
  rw [show rsteps z SG X (rsteps z SG X s b T) 0 (1 * 0) = rsteps z SG X s b T from rfl, hK1]
  iintro H
  rw [wp_ret]
  isplitr
  · ipureintro; rfl
  · iexact H

/-- One row, the carried tuple yielded. -/
theorem wp_row (s : St F) (w : BitVec 32) (r : Nat) (hw : w.toNat = r)
    {c4 : Prop} {d4 : Decidable c4} (h4 : c4) (hx : c4 → ∀ a x, ((![fun _ => w] : Fin 1 → IVec T16 32) a x).toNat < (T1 128).size a)
    {hl : sM.view.Loads}
    (c5 : BitVec 32 → Prop) {d5 : ∀ v, Decidable (c5 v)} (h5 : ∀ v, c5 v)
    (offA : Fin 16 → Off 256 256) (hoffA : ∀ j, (offA j).1 = ![s.p.toNat, 16 * j.val])
    (offX : Fin 16 → Off 112 256) (hoffX : ∀ j, (offX j).1 = ![r, 16 * j.val])
    {C : (h : PLift c4) → (f : (T1 128).Idx → Elt F .i32) → PLift (c5 (segAt (F := F) w hx h f)) → Prog (TpuEff nD τ sig (Elt F) Λ c.2) (Tup F)}
    {prog : Prog (TpuEff nD τ sig (Elt F) Λ c.2) (Tup F)}
    (hprog : prog = .op (.assume c4 d4) fun h => .op (.load sM (Rect.whole (T1 128)).toLoadRect (View.loadsAt_whole hl)) fun f =>
      .op (.assume (c5 (segAt (F := F) w hx h f)) (d5 _)) fun h' => C h f h')
    (hA : ∀ h f h', neC (segAt (F := F) w hx h f) s.p = 1#1 → C h f h' = flushP c aM ((List.finRange 16).map offA) ((List.finRange 16).map fun j => vec s.cr j.val)
      (rowLoads c xM ((List.finRange 16).map offX) ((List.finRange 16).map fun j => vec (fun _ => z) j.val) (fun l => .ret (tupL z (segAt (F := F) w hx h f) l))))
    (hB : ∀ h f h', ¬ neC (segAt (F := F) w hx h f) s.p = 1#1 → C h f h' = rowLoads c xM ((List.finRange 16).map offX) ((List.finRange 16).map fun j => vec s.cr j.val)
      (fun l => .ret (tupL z (segAt (F := F) w hx h f) l))) :
    (bufs c xM sM aM X SG s.A : sProp 𝕄) ⊢ wp frame (wpE defs 𝒱 c bd) E prog (after c xM sM aM X SG (rstep z SG X s r)) := by
  iintro H
  iapply (wp_rbody (defs := defs) (z := z) (hl := hl) s w r hw h4 hx c5 h5 offA hoffA offX hoffX (fun v l => .ret (tupL z v l)) hprog hA hB) $$ H
  iintro Hx Hs Ha
  rw [wp_ret, tupL_map]
  isplitr
  · ipureintro; rfl
  · isplitl [Hx]; · iexact Hx
    isplitl [Hs]; · iexact Hs
    iexact Ha

end Body
end Cert.Proof.Rows
-- ==== Proof.Vals.lean ====
/-
  What the TensorCore kernels compute, one point at a time, as functions of the blocks they read; the rules for a whole buffer read and a whole
  buffer stored.
-/
module
public import proofs.«01_k».proof.KernelIdeal
public import proofs.«01_k».proof.Proof.Gen.KernelIdeal
public import proofs.«01_k».proof.Proof.Steps
@[expose] public section
noncomputable section
namespace Cert.Proof.Vals
open Cert.KernelIdeal Cert.KernelIdeal.Gen Cert.Proof.Rows
open Idealize.ShloMosaic
open Idealize.SL Idealize.SL.RA Idealize.SL.BI
open scoped Idealize.SL.BI
open Idealize.SL.BI.BIBase Idealize.SL.BI.Laws Idealize.SL.ProofMode Idealize.SL.Sem

section Values

variable {F : FTy → Type} [FloatOps F]

/-- The weights of a block of rows: three layers and the exponential. -/
def mlpA (x : FVec F S2000x512 .f32) (w1 : FVec F S512x256 .f32) (b1 : FVec F S1x256 .f32) (w2 : FVec F S256x128 .f32) (b2 : FVec F S1x128 .f32)
    (w3 : FVec F S1x128 .f32) (b3 : FVec F S1x1 .f32) : FVec F S2000x1 .f32 :=
  exp (addf (shapeCast S2000x1 (multiReduction .add [1] S2000 (mulf
    (maximumf (addf (matmul dot_S2000x256_S256x128_S2000x128_1_0_0_1_n_n none
        (maximumf (addf (matmul dot_S2000x512_S512x256_S2000x256_1_0_0_1_n_n none x w1 (constant S2000x256 .f32 0x00000000#32))
          (broadcastTo S2000x256 (shapeCast S1x256 b1 shapeCasts_S1x256_S1x256) broadcasts_S1x256_S2000x256))
          (broadcast S2000x256 (Scalar.ofBits .f32 0x00000000#32))) w2 (constant S2000x128 .f32 0x00000000#32))
        (broadcastTo S2000x128 (shapeCast S1x128 b2 shapeCasts_S1x128_S1x128) broadcasts_S1x128_S2000x128))
      (broadcast S2000x128 (Scalar.ofBits .f32 0x00000000#32)))
    (broadcastTo S2000x128 (shapeCast S1x128 w3 shapeCasts_S1x128_S1x128) broadcasts_S1x128_S2000x128)) 0x00000000#32 reduces_S2000x128_S2000 (.inl rfl) rfl)
      shapeCasts_S2000_S2000x1)
    (broadcastTo S2000x1 (shapeCast S1x1 b3 shapeCasts_S1x1_S1x1) broadcasts_S1x1_S2000x1))

/-- The rows, each times its weight. -/
def mlpY (x : FVec F S2000x512 .f32) (a : FVec F S2000x1 .f32) : FVec F S2000x512 .f32 :=
  mulf x (broadcastTo S2000x512 a broadcasts_S2000x1_S2000x512)

/-- The weights of the block's rows, added by segment to what was there. -/
def mlpD (sg : IVec S1x1x2000 32) (a : FVec F S2000x1 .f32) (acc : FVec F S256x128 .f32) : FVec F S256x128 .f32 :=
  addf (shapeCast S256x128 acc shapeCasts_S256x128_S256x128)
    (matmul dot_S256x2000_S2000x128_S256x128_1_0_0_1_n_n none
      (sitofp .f32 (extui 32 (cmpi .eq (broadcastTo S256x2000 (shapeCast S1x2000 (shapeCast S2000 sg shapeCasts_S1x1x2000_S2000) shapeCasts_S2000_S1x2000) broadcasts_S1x2000_S256x2000)
        (iota .tc S256x2000 32 [0] iota_S256x2000_d0_w32)) natLt_1_32))
      (broadcastTo S2000x128 (shapeCast S2000x1 a shapeCasts_S2000x1_S2000x1) broadcasts_S2000x1_S2000x128) (constant S256x128 .f32 0x00000000#32))

/-- What the weights' sums start from. -/
def zD : FVec F S256x128 .f32 := broadcast S256x128 (Scalar.ofBits .f32 0x00000000#32)

/-- The partial sums of one row of tiles, added to what was there. -/
def finA (p q : FVec F S1x256x512 .f32) (acc : FVec F S256x512 .f32) : FVec F S256x512 .f32 :=
  addf (shapeCast S256x512 acc shapeCasts_S256x512_S256x512)
    (addf (shapeCast S256x512 p shapeCasts_S1x256x512_S256x512) (shapeCast S256x512 q shapeCasts_S1x256x512_S256x512))

def zO : FVec F S256x512 .f32 := broadcast S256x512 (Scalar.ofBits .f32 0x00000000#32)

/-- The first column of a table. -/
def col0 (e : FVec F S256x128 .f32) : FVec F S256x1 .f32 :=
  fun j => e ((Rect.unit (s := S256x128) ![0, 0] S256x1.size inb_S256x128_S256x1_0_0).emb j)

/-- The sums over the weights. -/
def finO (d e : FVec F S256x128 .f32) (acc : FVec F S256x512 .f32) : FVec F S256x512 .f32 :=
  divf (shapeCast S256x512 acc shapeCasts_S256x512_S256x512)
    (broadcastTo S256x512 (addf (shapeCast S256x1 (col0 d) shapeCasts_S256x1_S256x1) (shapeCast S256x1 (col0 e) shapeCasts_S256x1_S256x1)) broadcasts_S256x1_S256x512)

end Values

section Whole

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels} {defs : Defs nD τ sig (Elt F) Λ}
variable (𝒱 : Variants) (c : Thread nD τ) (bd : Option 𝒱.V) {E : Set Name} {α : Type} {Q : α → sProp (MT nD τ sig Ix (Elt F) Name U Lvl)}
variable {cs : CoreSpace} {s : Shape} {e : EltTy}
local notation "𝕄" => MT nD τ sig Ix (Elt F) Name U Lvl

theorem emb_unit0 {s : Shape} {off : Fin s.rank → Nat} (hoff : ∀ a, off a = 0) (inb : ∀ a, off a + s.size a ≤ s.size a)
    (j : (Rect.unit (s := s) off s.size inb).shape.Idx) : (Rect.unit (s := s) off s.size inb).emb j = j := by
  funext a
  apply Fin.ext
  rw [Rect.emb_apply]
  show off a + 1 * (j a).val = (j a).val
  rw [hoff a, Nat.zero_add, Nat.one_mul]

/-- A whole buffer read. -/
theorem wp_ldw {m : Memref sig c.2.kind cs s e} {off : Fin s.rank → Nat} {inb : ∀ a, off a + s.size a ≤ s.size a} (hoff : ∀ a, off a = 0)
    {hl : m.view.LoadsAt (Rect.unit (s := s) off s.size inb).toLoadRect}
    {k : (s.Idx → Elt F e) → Prog (TpuEff nD τ sig (Elt F) Λ c.2) α} {q : PosShare TreeShare} {X : s.Idx → Elt F e}
    {prog : Prog (TpuEff nD τ sig (Elt F) Λ c.2) α}
    (hprog : prog = .op (.load m (Rect.unit (s := s) off s.size inb).toLoadRect hl) k) :
    (owns c m q X : sProp 𝕄)
      ⊢ iprop((owns c m q X -∗ wp frame (wpE defs 𝒱 c bd) E (k X) Q) -∗ wp frame (wpE defs 𝒱 c bd) E prog Q) := by
  subst hprog
  have h := wp_ld (defs := defs) 𝒱 c bd E (Q := Q) (m := m) (r := Rect.unit (s := s) off s.size inb) (hl := hl) (k := k) (q := q) (X := X)
  rwa [show (fun j => X ((Rect.unit (s := s) off s.size inb).emb j)) = X from funext fun j => congrArg X (emb_unit0 hoff inb j)] at h

/-- A whole buffer stored. -/
theorem wp_stw {m : Memref sig c.2.kind cs s e} {off : Fin s.rank → Nat} {inb : ∀ a, off a + s.size a ≤ s.size a} (hoff : ∀ a, off a = 0)
    {w : s.Idx → Elt F e} {hx : (m.access (Rect.unit (s := s) off s.size inb)).Stores Finset.univ}
    {hm : Finset.univ = Finset.univ ∨ ∀ a, (Rect.unit (s := s) off s.size inb).stride a = 1}
    {k : PUnit → Prog (TpuEff nD τ sig (Elt F) Λ c.2) α} {X : s.Idx → Elt F e} {prog : Prog (TpuEff nD τ sig (Elt F) Λ c.2) α}
    (hprog : prog = .op (.store m (Rect.unit (s := s) off s.size inb) w Finset.univ hx hm) k) :
    (owns c m fullShare X : sProp 𝕄)
      ⊢ iprop((owns c m fullShare w -∗ wp frame (wpE defs 𝒱 c bd) E (k ⟨⟩) Q) -∗ wp frame (wpE defs 𝒱 c bd) E prog Q) := by
  subst hprog
  have h := wp_st (defs := defs) 𝒱 c bd E (Q := Q) (m := m) (r := Rect.unit (s := s) off s.size inb) (w := w) (hx := hx) (hm := hm) (k := k) (X := X)
  rwa [show (Rect.unit (s := s) off s.size inb).overlay X w = w from funext fun j => by
    conv_lhs => rw [← emb_unit0 hoff inb j]
    exact Rect.overlay_emb (Rect.unit (s := s) off s.size inb) X w j] at h

/-- Part of a buffer read. -/
theorem wp_ldp {m : Memref sig c.2.kind cs s e} {r : Rect s} {hl : m.view.LoadsAt r.toLoadRect}
    {k : (r.shape.Idx → Elt F e) → Prog (TpuEff nD τ sig (Elt F) Λ c.2) α} {q : PosShare TreeShare} {X : s.Idx → Elt F e}
    {prog : Prog (TpuEff nD τ sig (Elt F) Λ c.2) α} (hprog : prog = .op (.load m r.toLoadRect hl) k) :
    (owns c m q X : sProp 𝕄)
      ⊢ iprop((owns c m q X -∗ wp frame (wpE defs 𝒱 c bd) E (k (fun j => X (r.emb j))) Q) -∗ wp frame (wpE defs 𝒱 c bd) E prog Q) := by
  subst hprog
  exact wp_ld (defs := defs) 𝒱 c bd E (Q := Q)

/-- The end of a body. -/
theorem wp_retu {a : α} {prog : Prog (TpuEff nD τ sig (Elt F) Λ c.2) α} (hprog : prog = .ret a) : (Q a : sProp 𝕄) ⊢ wp frame (wpE defs 𝒱 c bd) E prog Q := by
  subst hprog; rw [wp_ret]; exact fupd_intro

end Whole

end Cert.Proof.Vals
end
-- ==== Proof.Mlp0.lean ====
/-
  The body of pipeline 0: the weights of one block of rows, the rows times their weights, and the sums of the weights by segment.
-/
module
public import proofs.«01_k».proof.Proof.Vals
public import proofs.«01_k».proof.Proof.Gen.KernelIdeal.Launch
public import proofs.«01_k».proof.Proof.Gen.KernelIdeal.Points
@[expose] public section
noncomputable section
namespace Cert.Proof.Mlp0
open Cert.KernelIdeal Cert.KernelIdeal.Gen Cert.Proof.Rows Cert.Proof.Vals
open Idealize.ShloMosaic
open Idealize.SL Idealize.SL.RA Idealize.SL.BI
open scoped Idealize.SL.BI
open Idealize.SL.BI.BIBase Idealize.SL.BI.Laws Idealize.SL.ProofMode Idealize.SL.Sem

section Body

variable {Ix : Type} [DecidableEq Ix]
variable {F : FTy → Type} [FloatOps F] {Name : Type} [DecidableEq Name]
variable {U : Type} [URA U] {Lvl : Type} [Preorder Lvl]
variable (𝒱 : Variants) (d : Dev nD) (bd : Option 𝒱.V)

local notation "𝕄" => MT nD τ sig Ix (Elt F) Name U Lvl

abbrev first (i : grid0.Coords) : BitVec 1 := Scalar.cmpi .ne (Scalar.extui (Scalar.cmpi .eq (BitVec.ofNat 32 (i 0).val) 0#32) : BitVec 32) 0#32

theorem first_iff (i : grid0.Coords) : first i = 1#1 ↔ (i 0).val = 0 := by
  exact (show ∀ n : Fin 25, (Scalar.cmpi .ne (Scalar.extui (Scalar.cmpi .eq (BitVec.ofNat 32 n.val) 0#32) : BitVec 32) 0#32 = 1#1) ↔ n.val = 0 by decide) (i 0)

theorem z2 : ∀ a : Fin 2, (![0, 0] : Fin 2 → Nat) a = 0 := by decide
theorem z3 : ∀ a : Fin 3, (![0, 0, 0] : Fin 3 → Nat) a = 0 := by decide

theorem wp_body (i : grid0.Coords) (arg1 : Memref sig .tc .vmem S2000x512 .f32) (harg1 : arg1.IsWhole) (arg2 : Memref sig .tc .vmem S1x1x2000 .i32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S2000x512 .f32) (harg9 : arg9.IsWhole) (arg10 : Memref sig .tc .vmem S256x128 .f32) (harg10 : arg10.IsWhole)
    {X : FVec F S2000x512 .f32} {SG : IVec S1x1x2000 32} {W1 : FVec F S512x256 .f32} {B1 : FVec F S1x256 .f32} {W2 : FVec F S256x128 .f32}
    {B2 W3 : FVec F S1x128 .f32} {B3 : FVec F S1x1 .f32} {Y0 : FVec F S2000x512 .f32} {D0 : FVec F S256x128 .f32} :
    (iprop(owns (d, .tc) arg1 fullShare X ∗ owns (d, .tc) arg2 fullShare SG ∗ owns (d, .tc) arg3 fullShare W1 ∗ owns (d, .tc) arg4 fullShare B1
      ∗ owns (d, .tc) arg5 fullShare W2 ∗ owns (d, .tc) arg6 fullShare B2 ∗ owns (d, .tc) arg7 fullShare W3 ∗ owns (d, .tc) arg8 fullShare B3
      ∗ owns (d, .tc) arg9 fullShare Y0 ∗ owns (d, .tc) arg10 fullShare D0) : sProp 𝕄)
      ⊢ wp frame (wpE (defs₀ (F := F)) 𝒱 (d, .tc) bd) Set.univ (cc0__mlp_body i arg1 harg1 arg2 harg2 arg3 harg3 arg4 harg4 arg5 harg5 arg6 harg6 arg7 harg7 arg8 harg8 arg9 harg9 arg10 harg10)
          (fun _ => iprop(owns (d, .tc) arg1 fullShare X ∗ owns (d, .tc) arg2 fullShare SG ∗ owns (d, .tc) arg3 fullShare W1 ∗ owns (d, .tc) arg4 fullShare B1
            ∗ owns (d, .tc) arg5 fullShare W2 ∗ owns (d, .tc) arg6 fullShare B2 ∗ owns (d, .tc) arg7 fullShare W3 ∗ owns (d, .tc) arg8 fullShare B3
            ∗ owns (d, .tc) arg9 fullShare (mlpY X (mlpA X W1 B1 W2 B2 W3 B3))
            ∗ owns (d, .tc) arg10 fullShare (mlpD SG (mlpA X W1 B1 W2 B2 W3 B3) (if (i 0).val = 0 then zD else D0)))) := by
  iintro ⟨H1, H2, H3, H4, H5, H6, H7, H8, H9, H10⟩
  iapply (wp_ldw 𝒱 (d, .tc) bd z2 (by rfl)) $$ H1
  iintro H1
  iapply (wp_ldw 𝒱 (d, .tc) bd z2 (by rfl)) $$ H3
  iintro H3
  iapply (wp_ldw 𝒱 (d, .tc) bd z2 (by rfl)) $$ H4
  iintro H4
  iapply (wp_ldw 𝒱 (d, .tc) bd z2 (by rfl)) $$ H5
  iintro H5
  iapply (wp_ldw 𝒱 (d, .tc) bd z2 (by rfl)) $$ H6
  iintro H6
  iapply (wp_ldw 𝒱 (d, .tc) bd z2 (by rfl)) $$ H7
  iintro H7
  iapply (wp_ldw 𝒱 (d, .tc) bd z2 (by rfl)) $$ H8
  iintro H8
  iapply (wp_ldw 𝒱 (d, .tc) bd z2 (by rfl)) $$ H9
  iintro H9
  iapply (wp_stw 𝒱 (d, .tc) bd z2 (by rfl)) $$ H9
  iintro H9
  iapply (wp_ldw 𝒱 (d, .tc) bd z3 (by rfl)) $$ H2
  iintro H2
  by_cases hc : first i = 1#1
  · rw [if_pos ((first_iff i).mp hc)]
    apply wp_eq
    next => simp only [Prog.bind, Bind.bind, Pure.pure, dif_pos hc]; rfl
    iintro ⟨⟨⟨⟨⟨⟨⟨⟨⟨H10, H1⟩, H3⟩, H4⟩, H5⟩, H6⟩, H7⟩, H8⟩, H9⟩, H2⟩
    iapply (wp_ldw 𝒱 (d, .tc) bd z2 (by rfl)) $$ H10
    iintro H10
    iapply (wp_stw 𝒱 (d, .tc) bd z2 (by rfl)) $$ H10
    iintro H10
    iapply (wp_ldw 𝒱 (d, .tc) bd z2 (by rfl)) $$ H10
    iintro H10
    iapply (wp_ldw 𝒱 (d, .tc) bd z2 (by rfl)) $$ H10
    iintro H10
    iapply (wp_stw 𝒱 (d, .tc) bd z2 (by rfl)) $$ H10
    iintro H10
    iapply (wp_retu 𝒱 (d, .tc) bd (by rfl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [if_neg (fun h => hc ((first_iff i).mpr h))]
    apply wp_eq
    next => simp only [Prog.bind, Bind.bind, Pure.pure, dif_neg hc]; rfl
    iintro ⟨⟨⟨⟨⟨⟨⟨⟨⟨H10, H1⟩, H3⟩, H4⟩, H5⟩, H6⟩, H7⟩, H8⟩, H9⟩, H2⟩
    iapply (wp_ldw 𝒱 (d, .tc) bd z2 (by rfl)) $$ H10
    iintro H10
    iapply (wp_ldw 𝒱 (d, .tc) bd z2 (by rfl)) $$ H10
    iintro H10
    iapply (wp_stw 𝒱 (d, .tc) bd z2 (by rfl)) $$ H10
    iintro H10
    iapply (wp_retu 𝒱 (d, .tc) bd (by rfl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Body

end Cert.Proof.Mlp0
end
-- ==== Proof.Reg0.lean ====
/-
  Pipeline 0 of @main: the values its windows hold at each point, its body's obligation, and its region.
-/
module
public import proofs.«01_k».proof.Proof.Sc
public import proofs.«01_k».proof.Proof.Mlp0
public import Idealize.ShloMosaic.Lib.Pipeline.FrameBody
@[expose] public section
noncomputable section
namespace Cert.Proof.Reg0
open Cert.KernelIdeal Cert.KernelIdeal.Gen Cert.Proof.Sc Cert.Proof.Vals
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄" => MT nD τ sig (HIx 2) (Elt F) ℕ UU ℕ

abbrev Vals (F : FTy → Type) : Type := (c : Dev nD) → (b : Ref sig .tc) → Buf (Elt F) ((c : Thread nD τ).loc b)

abbrev xs (V : Vals F) (c : Dev nD) (t : Fin cfg0.N) : FVec F S2000x512 .f32 := ((cfg0.win 0).blk t).view.read (Elt F) (V c main_arg0)
abbrev sg (V : Vals F) (c : Dev nD) (t : Fin cfg0.N) : IVec S1x1x2000 32 := ((cfg0.win 1).blk t).view.read (Elt F) (V c main_v0)
abbrev w1 (V : Vals F) (c : Dev nD) (t : Fin cfg0.N) : FVec F S512x256 .f32 := ((cfg0.win 2).blk t).view.read (Elt F) (V c main_arg2)
abbrev b1 (V : Vals F) (c : Dev nD) (t : Fin cfg0.N) : FVec F S1x256 .f32 := ((cfg0.win 3).blk t).view.read (Elt F) (V c main_v1)
abbrev w2 (V : Vals F) (c : Dev nD) (t : Fin cfg0.N) : FVec F S256x128 .f32 := ((cfg0.win 4).blk t).view.read (Elt F) (V c main_arg4)
abbrev b2 (V : Vals F) (c : Dev nD) (t : Fin cfg0.N) : FVec F S1x128 .f32 := ((cfg0.win 5).blk t).view.read (Elt F) (V c main_v2)
abbrev w3 (V : Vals F) (c : Dev nD) (t : Fin cfg0.N) : FVec F S1x128 .f32 := ((cfg0.win 6).blk t).view.read (Elt F) (V c main_v3)
abbrev b3 (V : Vals F) (c : Dev nD) (t : Fin cfg0.N) : FVec F S1x1 .f32 := ((cfg0.win 7).blk t).view.read (Elt F) (V c main_v4)

/-- The weights of the rows of point `t`. -/
abbrev at' (V : Vals F) (c : Dev nD) (t : Fin cfg0.N) : FVec F S2000x1 .f32 :=
  mlpA (xs V c t) (w1 V c t) (b1 V c t) (w2 V c t) (b2 V c t) (w3 V c t) (b3 V c t)
/-- The sums of the weights by segment, over the points up to `n`. -/
def den (V : Vals F) (c : Dev nD) : (n : ℕ) → n < cfg0.N → FVec F S256x128 .f32
  | 0, h => mlpD (sg V c ⟨0, h⟩) (at' V c ⟨0, h⟩) zD
  | n + 1, h => mlpD (sg V c ⟨n + 1, h⟩) (at' V c ⟨n + 1, h⟩) (den V c n (Nat.lt_of_succ_lt h))

variable (V : Vals F) (n b : ℕ) (c : Dev nD)

/-- The proof data of the region entered at the arrays' contents `V`, before SparseCore call `n`. -/
def dat : Dat τ (Elt F) (HIx 2) ℕ UU ℕ cfg0 c where
  A w := V c (Pipeline.arrRef spec0 w)
  after w t := match w with
    | ⟨0, _⟩ => xs V c t
    | ⟨1, _⟩ => sg V c t
    | ⟨2, _⟩ => w1 V c t
    | ⟨3, _⟩ => b1 V c t
    | ⟨4, _⟩ => w2 V c t
    | ⟨5, _⟩ => b2 V c t
    | ⟨6, _⟩ => w3 V c t
    | ⟨7, _⟩ => b3 V c t
    | ⟨8, _⟩ => mlpY (xs V c t) (at' V c t)
    | ⟨9, _⟩ => den V c t.val t.isLt
  Φ _ := Pipeline.scopedRest (Ix := HIx 2) (Name := ℕ) (U := UU) (Lvl := ℕ) (Val := Elt F) spec0 c
  q _ := fullShare
  owed _ := (K (F := F)).Otc c n
  recorded _ := low (F := F) c b

theorem after_0 (t : Fin cfg0.N) : (dat V n b c).after 0 t = xs V c t := rfl
theorem after_1 (t : Fin cfg0.N) : (dat V n b c).after 1 t = sg V c t := rfl
theorem after_2 (t : Fin cfg0.N) : (dat V n b c).after 2 t = w1 V c t := rfl
theorem after_3 (t : Fin cfg0.N) : (dat V n b c).after 3 t = b1 V c t := rfl
theorem after_4 (t : Fin cfg0.N) : (dat V n b c).after 4 t = w2 V c t := rfl
theorem after_5 (t : Fin cfg0.N) : (dat V n b c).after 5 t = b2 V c t := rfl
theorem after_6 (t : Fin cfg0.N) : (dat V n b c).after 6 t = w3 V c t := rfl
theorem after_7 (t : Fin cfg0.N) : (dat V n b c).after 7 t = b3 V c t := rfl
theorem after_8 (t : Fin cfg0.N) : (dat V n b c).after 8 t = mlpY (xs V c t) (at' V c t) := rfl
theorem after_9 (t : Fin cfg0.N) : (dat V n b c).after 9 t = den V c t.val t.isLt := rfl

theorem before_0 (t : Fin cfg0.N) (d : (cfg0.win 0).block.Idx → Elt F (cfg0.win 0).elt) : (dat V n b c).before 0 t d = xs V c t :=
  (dat V n b c).before_in_eq_fetched 0 rfl (fun _ => rfl) (fun _ _ _ => rfl) (fun _ => rfl) t d
theorem before_1 (t : Fin cfg0.N) (d : (cfg0.win 1).block.Idx → Elt F (cfg0.win 1).elt) : (dat V n b c).before 1 t d = sg V c t :=
  (dat V n b c).before_in_eq_fetched 1 rfl (fun _ => rfl) (fun _ _ _ => rfl) (fun _ => rfl) t d
theorem before_2 (t : Fin cfg0.N) (d : (cfg0.win 2).block.Idx → Elt F (cfg0.win 2).elt) : (dat V n b c).before 2 t d = w1 V c t :=
  (dat V n b c).before_in_eq_fetched 2 rfl (fun _ => rfl) (fun _ _ _ => rfl) (fun _ => rfl) t d
theorem before_3 (t : Fin cfg0.N) (d : (cfg0.win 3).block.Idx → Elt F (cfg0.win 3).elt) : (dat V n b c).before 3 t d = b1 V c t :=
  (dat V n b c).before_in_eq_fetched 3 rfl (fun _ => rfl) (fun _ _ _ => rfl) (fun _ => rfl) t d
theorem before_4 (t : Fin cfg0.N) (d : (cfg0.win 4).block.Idx → Elt F (cfg0.win 4).elt) : (dat V n b c).before 4 t d = w2 V c t :=
  (dat V n b c).before_in_eq_fetched 4 rfl (fun _ => rfl) (fun _ _ _ => rfl) (fun _ => rfl) t d
theorem before_5 (t : Fin cfg0.N) (d : (cfg0.win 5).block.Idx → Elt F (cfg0.win 5).elt) : (dat V n b c).before 5 t d = b2 V c t :=
  (dat V n b c).before_in_eq_fetched 5 rfl (fun _ => rfl) (fun _ _ _ => rfl) (fun _ => rfl) t d
theorem before_6 (t : Fin cfg0.N) (d : (cfg0.win 6).block.Idx → Elt F (cfg0.win 6).elt) : (dat V n b c).before 6 t d = w3 V c t :=
  (dat V n b c).before_in_eq_fetched 6 rfl (fun _ => rfl) (fun _ _ _ => rfl) (fun _ => rfl) t d
theorem before_7 (t : Fin cfg0.N) (d : (cfg0.win 7).block.Idx → Elt F (cfg0.win 7).elt) : (dat V n b c).before 7 t d = b3 V c t :=
  (dat V n b c).before_in_eq_fetched 7 rfl (fun _ => rfl) (fun _ _ _ => rfl) (fun _ => rfl) t d

theorem before_9_zero (t : Fin cfg0.N) (h : t.val = 0) (d : (cfg0.win 9).block.Idx → Elt F (cfg0.win 9).elt) : (dat V n b c).before 9 t d = d :=
  (dat V n b c).before_out_reset 9 rfl t (.inl h) d
theorem before_9_pos (t : Fin cfg0.N) (h : t.val ≠ 0) (d : (cfg0.win 9).block.Idx → Elt F (cfg0.win 9).elt) :
    (dat V n b c).before 9 t d = den V c (t.val - 1) (Nat.lt_of_le_of_lt (Nat.sub_le _ _) t.isLt) :=
  (dat V n b c).before_out_kept 9 rfl t h (by
    have ht : t.val < 25 := t.isLt
    rw [Bool.eq_false_iff]
    intro hf
    have := (flush0_9 _).mp hf
    have h' : (t.val - 1) % 25 = 24 := this
    omega) (fun _ => rfl) (fun _ _ => rfl) d

theorem coord_eq : ∀ t : Fin grid0.N, (grid0.coords t 0).val = t.val := by decide +kernel

theorem den_eq (t : Fin cfg0.N) (d : (cfg0.win 9).block.Idx → Elt F (cfg0.win 9).elt) :
    mlpD (sg V c t) (at' V c t) (if (grid0.coords t 0).val = 0 then zD else (dat V n b c).before 9 t d) = den V c t.val t.isLt := by
  rw [coord_eq t]
  obtain ⟨tv, ht⟩ := t
  cases tv with
  | zero => rw [if_pos rfl]; rfl
  | succ m => rw [if_neg (Nat.succ_ne_zero m), before_9_pos V n b c ⟨m + 1, ht⟩ (Nat.succ_ne_zero m)]; rfl

theorem obligation : BodyObligation (dat V n b c) (defs₀ (F := F)) 𝒱₀ none Set.univ := fun t => by
  rw [bigSep_W0, bigSep_W0]
  rw [show (dat V n b c).Φ t.succ = (dat V n b c).Φ t.castSucc from rfl,
    show (dat V n b c).owesAt none t.succ = (dat V n b c).owesAt none t.castSucc from rfl]
  simp only [before_0, before_1, before_2, before_3, before_4, before_5, before_6, before_7, after_0, after_1, after_2, after_3, after_4, after_5, after_6, after_7, after_8, after_9]
  change _ ⊢ wp frame _ _ (bodyAt0 t) _
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_use (Mlp0.wp_body 𝒱₀ c none (grid0.coords t) _ _ _ _ _ _ _ _ _ _ _ _ _ _ _ _ _ _ _ _))
  isplitl [H0 H1 H2 H3 H4 H5 H6 H7 H8 H9]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [den_eq]
  iintro %_ ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

variable [∀ e, Nonempty (Elt F e)]

/-- The family: this pipeline's data, anything elsewhere. -/
def dats : (p : Fin 3) → (c : Dev nD) → Datp (F := F) p c
  | ⟨0, _⟩ => fun c => dat V n b c
  | ⟨1, _⟩ => fun c => junk c
  | ⟨2, _⟩ => fun c => junk c

/-- The arrays after the region. -/
def Vp (c : Dev nD) : (b : Ref sig .tc) → Buf (Elt F) ((c : Thread nD τ).loc b) :=
  Function.update (Function.update (V c) main_v5_0 ((dat V n b c).arrAt 8 cfg0.N)) main_v5_1 ((dat V n b c).arrAt 9 cfg0.N)

theorem vp_off (r : Ref sig .tc) (h8 : r ≠ main_v5_0) (h9 : r ≠ main_v5_1) : Vp V n b c r = V c r := by
  unfold Vp; rw [Function.update_of_ne h9, Function.update_of_ne h8]
theorem vp_y : Vp V n b c main_v5_0 = (dat V n b c).arrAt 8 cfg0.N := by
  unfold Vp; rw [Function.update_of_ne (by decide), Function.update_self]
theorem vp_d : Vp V n b c main_v5_1 = (dat V n b c).arrAt 9 cfg0.N := by
  unfold Vp; rw [Function.update_self]

set_option backward.isDefEq.respectTransparency.types false in
def region : Pipeline.RegionSeg (pcfgs (F := F)) adm (dats V n b) none defs₀ 𝒱₀ (K (F := F)).L (K (F := F)).lev 0 :=
  reg 0 (dats V n b) n b V (Vp V n b) launch0 (fun c => obligation V n b c) (fun _ _ => rfl) (fun _ _ => rfl) (fun _ _ => rfl)
    (fun _ _ => rfl) (fun _ _ => rfl)
    (fun c w => by
    fin_cases w
    · exact ((dat V n b c).arrAt_in 0 rfl _).trans ((vp_off V n b c main_arg0 (by decide) (by decide)).symm)
    · exact ((dat V n b c).arrAt_in 1 rfl _).trans ((vp_off V n b c main_v0 (by decide) (by decide)).symm)
    · exact ((dat V n b c).arrAt_in 2 rfl _).trans ((vp_off V n b c main_arg2 (by decide) (by decide)).symm)
    · exact ((dat V n b c).arrAt_in 3 rfl _).trans ((vp_off V n b c main_v1 (by decide) (by decide)).symm)
    · exact ((dat V n b c).arrAt_in 4 rfl _).trans ((vp_off V n b c main_arg4 (by decide) (by decide)).symm)
    · exact ((dat V n b c).arrAt_in 5 rfl _).trans ((vp_off V n b c main_v2 (by decide) (by decide)).symm)
    · exact ((dat V n b c).arrAt_in 6 rfl _).trans ((vp_off V n b c main_v3 (by decide) (by decide)).symm)
    · exact ((dat V n b c).arrAt_in 7 rfl _).trans ((vp_off V n b c main_v4 (by decide) (by decide)).symm)
    · exact (vp_y V n b c).symm
    · exact (vp_d V n b c).symm)
    (fun c r hr => vp_off V n b c r (fun h => hr (h ▸ Finset.mem_image.mpr ⟨8, Finset.mem_univ _, rfl⟩)) (fun h => hr (h ▸ Finset.mem_image.mpr ⟨9, Finset.mem_univ _, rfl⟩)))

end Cert.Proof.Reg0
end
-- ==== Proof.Mlp2.lean ====
/-
  The body of pipeline 1: the weights of one block of rows, the rows times their weights, and the sums of the weights by segment.
-/
module
public import proofs.«01_k».proof.Proof.Vals
public import proofs.«01_k».proof.Proof.Gen.KernelIdeal.Launch
public import proofs.«01_k».proof.Proof.Gen.KernelIdeal.Points
@[expose] public section
noncomputable section
namespace Cert.Proof.Mlp2
open Cert.KernelIdeal Cert.KernelIdeal.Gen Cert.Proof.Rows Cert.Proof.Vals
open Idealize.ShloMosaic
open Idealize.SL Idealize.SL.RA Idealize.SL.BI
open scoped Idealize.SL.BI
open Idealize.SL.BI.BIBase Idealize.SL.BI.Laws Idealize.SL.ProofMode Idealize.SL.Sem

section Body

variable {Ix : Type} [DecidableEq Ix]
variable {F : FTy → Type} [FloatOps F] {Name : Type} [DecidableEq Name]
variable {U : Type} [URA U] {Lvl : Type} [Preorder Lvl]
variable (𝒱 : Variants) (d : Dev nD) (bd : Option 𝒱.V)

local notation "𝕄" => MT nD τ sig Ix (Elt F) Name U Lvl

abbrev first (i : grid2.Coords) : BitVec 1 := Scalar.cmpi .ne (Scalar.extui (Scalar.cmpi .eq (BitVec.ofNat 32 (i 0).val) 0#32) : BitVec 32) 0#32

theorem first_iff (i : grid2.Coords) : first i = 1#1 ↔ (i 0).val = 0 := by
  exact (show ∀ n : Fin 25, (Scalar.cmpi .ne (Scalar.extui (Scalar.cmpi .eq (BitVec.ofNat 32 n.val) 0#32) : BitVec 32) 0#32 = 1#1) ↔ n.val = 0 by decide) (i 0)

theorem z2 : ∀ a : Fin 2, (![0, 0] : Fin 2 → Nat) a = 0 := by decide
theorem z3 : ∀ a : Fin 3, (![0, 0, 0] : Fin 3 → Nat) a = 0 := by decide

theorem wp_body (i : grid2.Coords) (arg1 : Memref sig .tc .vmem S2000x512 .f32) (harg1 : arg1.IsWhole) (arg2 : Memref sig .tc .vmem S1x1x2000 .i32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S2000x512 .f32) (harg9 : arg9.IsWhole) (arg10 : Memref sig .tc .vmem S256x128 .f32) (harg10 : arg10.IsWhole)
    {X : FVec F S2000x512 .f32} {SG : IVec S1x1x2000 32} {W1 : FVec F S512x256 .f32} {B1 : FVec F S1x256 .f32} {W2 : FVec F S256x128 .f32}
    {B2 W3 : FVec F S1x128 .f32} {B3 : FVec F S1x1 .f32} {Y0 : FVec F S2000x512 .f32} {D0 : FVec F S256x128 .f32} :
    (iprop(owns (d, .tc) arg1 fullShare X ∗ owns (d, .tc) arg2 fullShare SG ∗ owns (d, .tc) arg3 fullShare W1 ∗ owns (d, .tc) arg4 fullShare B1
      ∗ owns (d, .tc) arg5 fullShare W2 ∗ owns (d, .tc) arg6 fullShare B2 ∗ owns (d, .tc) arg7 fullShare W3 ∗ owns (d, .tc) arg8 fullShare B3
      ∗ owns (d, .tc) arg9 fullShare Y0 ∗ owns (d, .tc) arg10 fullShare D0) : sProp 𝕄)
      ⊢ wp frame (wpE (defs₀ (F := F)) 𝒱 (d, .tc) bd) Set.univ (cc2__mlp_body i arg1 harg1 arg2 harg2 arg3 harg3 arg4 harg4 arg5 harg5 arg6 harg6 arg7 harg7 arg8 harg8 arg9 harg9 arg10 harg10)
          (fun _ => iprop(owns (d, .tc) arg1 fullShare X ∗ owns (d, .tc) arg2 fullShare SG ∗ owns (d, .tc) arg3 fullShare W1 ∗ owns (d, .tc) arg4 fullShare B1
            ∗ owns (d, .tc) arg5 fullShare W2 ∗ owns (d, .tc) arg6 fullShare B2 ∗ owns (d, .tc) arg7 fullShare W3 ∗ owns (d, .tc) arg8 fullShare B3
            ∗ owns (d, .tc) arg9 fullShare (mlpY X (mlpA X W1 B1 W2 B2 W3 B3))
            ∗ owns (d, .tc) arg10 fullShare (mlpD SG (mlpA X W1 B1 W2 B2 W3 B3) (if (i 0).val = 0 then zD else D0)))) := by
  iintro ⟨H1, H2, H3, H4, H5, H6, H7, H8, H9, H10⟩
  iapply (wp_ldw 𝒱 (d, .tc) bd z2 (by rfl)) $$ H1
  iintro H1
  iapply (wp_ldw 𝒱 (d, .tc) bd z2 (by rfl)) $$ H3
  iintro H3
  iapply (wp_ldw 𝒱 (d, .tc) bd z2 (by rfl)) $$ H4
  iintro H4
  iapply (wp_ldw 𝒱 (d, .tc) bd z2 (by rfl)) $$ H5
  iintro H5
  iapply (wp_ldw 𝒱 (d, .tc) bd z2 (by rfl)) $$ H6
  iintro H6
  iapply (wp_ldw 𝒱 (d, .tc) bd z2 (by rfl)) $$ H7
  iintro H7
  iapply (wp_ldw 𝒱 (d, .tc) bd z2 (by rfl)) $$ H8
  iintro H8
  iapply (wp_ldw 𝒱 (d, .tc) bd z2 (by rfl)) $$ H9
  iintro H9
  iapply (wp_stw 𝒱 (d, .tc) bd z2 (by rfl)) $$ H9
  iintro H9
  iapply (wp_ldw 𝒱 (d, .tc) bd z3 (by rfl)) $$ H2
  iintro H2
  by_cases hc : first i = 1#1
  · rw [if_pos ((first_iff i).mp hc)]
    apply wp_eq
    next => simp only [Prog.bind, Bind.bind, Pure.pure, dif_pos hc]; rfl
    iintro ⟨⟨⟨⟨⟨⟨⟨⟨⟨H10, H1⟩, H3⟩, H4⟩, H5⟩, H6⟩, H7⟩, H8⟩, H9⟩, H2⟩
    iapply (wp_ldw 𝒱 (d, .tc) bd z2 (by rfl)) $$ H10
    iintro H10
    iapply (wp_stw 𝒱 (d, .tc) bd z2 (by rfl)) $$ H10
    iintro H10
    iapply (wp_ldw 𝒱 (d, .tc) bd z2 (by rfl)) $$ H10
    iintro H10
    iapply (wp_ldw 𝒱 (d, .tc) bd z2 (by rfl)) $$ H10
    iintro H10
    iapply (wp_stw 𝒱 (d, .tc) bd z2 (by rfl)) $$ H10
    iintro H10
    iapply (wp_retu 𝒱 (d, .tc) bd (by rfl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [if_neg (fun h => hc ((first_iff i).mpr h))]
    apply wp_eq
    next => simp only [Prog.bind, Bind.bind, Pure.pure, dif_neg hc]; rfl
    iintro ⟨⟨⟨⟨⟨⟨⟨⟨⟨H10, H1⟩, H3⟩, H4⟩, H5⟩, H6⟩, H7⟩, H8⟩, H9⟩, H2⟩
    iapply (wp_ldw 𝒱 (d, .tc) bd z2 (by rfl)) $$ H10
    iintro H10
    iapply (wp_ldw 𝒱 (d, .tc) bd z2 (by rfl)) $$ H10
    iintro H10
    iapply (wp_stw 𝒱 (d, .tc) bd z2 (by rfl)) $$ H10
    iintro H10
    iapply (wp_retu 𝒱 (d, .tc) bd (by rfl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Body

end Cert.Proof.Mlp2
end
-- ==== Proof.Reg2.lean ====
/-
  Pipeline 1 of @main: the values its windows hold at each point, its body's obligation, and its region.
-/
module
public import proofs.«01_k».proof.Proof.Sc
public import proofs.«01_k».proof.Proof.Mlp2
public import Idealize.ShloMosaic.Lib.Pipeline.FrameBody
@[expose] public section
noncomputable section
namespace Cert.Proof.Reg2
open Cert.KernelIdeal Cert.KernelIdeal.Gen Cert.Proof.Sc Cert.Proof.Vals
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄" => MT nD τ sig (HIx 2) (Elt F) ℕ UU ℕ

abbrev Vals (F : FTy → Type) : Type := (c : Dev nD) → (b : Ref sig .tc) → Buf (Elt F) ((c : Thread nD τ).loc b)

abbrev xs (V : Vals F) (c : Dev nD) (t : Fin cfg2.N) : FVec F S2000x512 .f32 := ((cfg2.win 0).blk t).view.read (Elt F) (V c main_arg0)
abbrev sg (V : Vals F) (c : Dev nD) (t : Fin cfg2.N) : IVec S1x1x2000 32 := ((cfg2.win 1).blk t).view.read (Elt F) (V c main_v7)
abbrev w1 (V : Vals F) (c : Dev nD) (t : Fin cfg2.N) : FVec F S512x256 .f32 := ((cfg2.win 2).blk t).view.read (Elt F) (V c main_arg2)
abbrev b1 (V : Vals F) (c : Dev nD) (t : Fin cfg2.N) : FVec F S1x256 .f32 := ((cfg2.win 3).blk t).view.read (Elt F) (V c main_v8)
abbrev w2 (V : Vals F) (c : Dev nD) (t : Fin cfg2.N) : FVec F S256x128 .f32 := ((cfg2.win 4).blk t).view.read (Elt F) (V c main_arg4)
abbrev b2 (V : Vals F) (c : Dev nD) (t : Fin cfg2.N) : FVec F S1x128 .f32 := ((cfg2.win 5).blk t).view.read (Elt F) (V c main_v9)
abbrev w3 (V : Vals F) (c : Dev nD) (t : Fin cfg2.N) : FVec F S1x128 .f32 := ((cfg2.win 6).blk t).view.read (Elt F) (V c main_v10)
abbrev b3 (V : Vals F) (c : Dev nD) (t : Fin cfg2.N) : FVec F S1x1 .f32 := ((cfg2.win 7).blk t).view.read (Elt F) (V c main_v11)

/-- The weights of the rows of point `t`. -/
abbrev at' (V : Vals F) (c : Dev nD) (t : Fin cfg2.N) : FVec F S2000x1 .f32 :=
  mlpA (xs V c t) (w1 V c t) (b1 V c t) (w2 V c t) (b2 V c t) (w3 V c t) (b3 V c t)
/-- The sums of the weights by segment, over the points up to `n`. -/
def den (V : Vals F) (c : Dev nD) : (n : ℕ) → n < cfg2.N → FVec F S256x128 .f32
  | 0, h => mlpD (sg V c ⟨0, h⟩) (at' V c ⟨0, h⟩) zD
  | n + 1, h => mlpD (sg V c ⟨n + 1, h⟩) (at' V c ⟨n + 1, h⟩) (den V c n (Nat.lt_of_succ_lt h))

variable (V : Vals F) (n b : ℕ) (c : Dev nD)

/-- The proof data of the region entered at the arrays' contents `V`, before SparseCore call `n`. -/
def dat : Dat τ (Elt F) (HIx 2) ℕ UU ℕ cfg2 c where
  A w := V c (Pipeline.arrRef spec2 w)
  after w t := match w with
    | ⟨0, _⟩ => xs V c t
    | ⟨1, _⟩ => sg V c t
    | ⟨2, _⟩ => w1 V c t
    | ⟨3, _⟩ => b1 V c t
    | ⟨4, _⟩ => w2 V c t
    | ⟨5, _⟩ => b2 V c t
    | ⟨6, _⟩ => w3 V c t
    | ⟨7, _⟩ => b3 V c t
    | ⟨8, _⟩ => mlpY (xs V c t) (at' V c t)
    | ⟨9, _⟩ => den V c t.val t.isLt
  Φ _ := Pipeline.scopedRest (Ix := HIx 2) (Name := ℕ) (U := UU) (Lvl := ℕ) (Val := Elt F) spec2 c
  q _ := fullShare
  owed _ := (K (F := F)).Otc c n
  recorded _ := low (F := F) c b

theorem after_0 (t : Fin cfg2.N) : (dat V n b c).after 0 t = xs V c t := rfl
theorem after_1 (t : Fin cfg2.N) : (dat V n b c).after 1 t = sg V c t := rfl
theorem after_2 (t : Fin cfg2.N) : (dat V n b c).after 2 t = w1 V c t := rfl
theorem after_3 (t : Fin cfg2.N) : (dat V n b c).after 3 t = b1 V c t := rfl
theorem after_4 (t : Fin cfg2.N) : (dat V n b c).after 4 t = w2 V c t := rfl
theorem after_5 (t : Fin cfg2.N) : (dat V n b c).after 5 t = b2 V c t := rfl
theorem after_6 (t : Fin cfg2.N) : (dat V n b c).after 6 t = w3 V c t := rfl
theorem after_7 (t : Fin cfg2.N) : (dat V n b c).after 7 t = b3 V c t := rfl
theorem after_8 (t : Fin cfg2.N) : (dat V n b c).after 8 t = mlpY (xs V c t) (at' V c t) := rfl
theorem after_9 (t : Fin cfg2.N) : (dat V n b c).after 9 t = den V c t.val t.isLt := rfl

theorem before_0 (t : Fin cfg2.N) (d : (cfg2.win 0).block.Idx → Elt F (cfg2.win 0).elt) : (dat V n b c).before 0 t d = xs V c t :=
  (dat V n b c).before_in_eq_fetched 0 rfl (fun _ => rfl) (fun _ _ _ => rfl) (fun _ => rfl) t d
theorem before_1 (t : Fin cfg2.N) (d : (cfg2.win 1).block.Idx → Elt F (cfg2.win 1).elt) : (dat V n b c).before 1 t d = sg V c t :=
  (dat V n b c).before_in_eq_fetched 1 rfl (fun _ => rfl) (fun _ _ _ => rfl) (fun _ => rfl) t d
theorem before_2 (t : Fin cfg2.N) (d : (cfg2.win 2).block.Idx → Elt F (cfg2.win 2).elt) : (dat V n b c).before 2 t d = w1 V c t :=
  (dat V n b c).before_in_eq_fetched 2 rfl (fun _ => rfl) (fun _ _ _ => rfl) (fun _ => rfl) t d
theorem before_3 (t : Fin cfg2.N) (d : (cfg2.win 3).block.Idx → Elt F (cfg2.win 3).elt) : (dat V n b c).before 3 t d = b1 V c t :=
  (dat V n b c).before_in_eq_fetched 3 rfl (fun _ => rfl) (fun _ _ _ => rfl) (fun _ => rfl) t d
theorem before_4 (t : Fin cfg2.N) (d : (cfg2.win 4).block.Idx → Elt F (cfg2.win 4).elt) : (dat V n b c).before 4 t d = w2 V c t :=
  (dat V n b c).before_in_eq_fetched 4 rfl (fun _ => rfl) (fun _ _ _ => rfl) (fun _ => rfl) t d
theorem before_5 (t : Fin cfg2.N) (d : (cfg2.win 5).block.Idx → Elt F (cfg2.win 5).elt) : (dat V n b c).before 5 t d = b2 V c t :=
  (dat V n b c).before_in_eq_fetched 5 rfl (fun _ => rfl) (fun _ _ _ => rfl) (fun _ => rfl) t d
theorem before_6 (t : Fin cfg2.N) (d : (cfg2.win 6).block.Idx → Elt F (cfg2.win 6).elt) : (dat V n b c).before 6 t d = w3 V c t :=
  (dat V n b c).before_in_eq_fetched 6 rfl (fun _ => rfl) (fun _ _ _ => rfl) (fun _ => rfl) t d
theorem before_7 (t : Fin cfg2.N) (d : (cfg2.win 7).block.Idx → Elt F (cfg2.win 7).elt) : (dat V n b c).before 7 t d = b3 V c t :=
  (dat V n b c).before_in_eq_fetched 7 rfl (fun _ => rfl) (fun _ _ _ => rfl) (fun _ => rfl) t d

theorem before_9_zero (t : Fin cfg2.N) (h : t.val = 0) (d : (cfg2.win 9).block.Idx → Elt F (cfg2.win 9).elt) : (dat V n b c).before 9 t d = d :=
  (dat V n b c).before_out_reset 9 rfl t (.inl h) d
theorem before_9_pos (t : Fin cfg2.N) (h : t.val ≠ 0) (d : (cfg2.win 9).block.Idx → Elt F (cfg2.win 9).elt) :
    (dat V n b c).before 9 t d = den V c (t.val - 1) (Nat.lt_of_le_of_lt (Nat.sub_le _ _) t.isLt) :=
  (dat V n b c).before_out_kept 9 rfl t h (by
    have ht : t.val < 25 := t.isLt
    rw [Bool.eq_false_iff]
    intro hf
    have := (flush2_9 _).mp hf
    have h' : (t.val - 1) % 25 = 24 := this
    omega) (fun _ => rfl) (fun _ _ => rfl) d

theorem coord_eq : ∀ t : Fin grid2.N, (grid2.coords t 0).val = t.val := by decide +kernel

theorem den_eq (t : Fin cfg2.N) (d : (cfg2.win 9).block.Idx → Elt F (cfg2.win 9).elt) :
    mlpD (sg V c t) (at' V c t) (if (grid2.coords t 0).val = 0 then zD else (dat V n b c).before 9 t d) = den V c t.val t.isLt := by
  rw [coord_eq t]
  obtain ⟨tv, ht⟩ := t
  cases tv with
  | zero => rw [if_pos rfl]; rfl
  | succ m => rw [if_neg (Nat.succ_ne_zero m), before_9_pos V n b c ⟨m + 1, ht⟩ (Nat.succ_ne_zero m)]; rfl

theorem obligation : BodyObligation (dat V n b c) (defs₀ (F := F)) 𝒱₀ none Set.univ := fun t => by
  rw [bigSep_W2, bigSep_W2]
  rw [show (dat V n b c).Φ t.succ = (dat V n b c).Φ t.castSucc from rfl,
    show (dat V n b c).owesAt none t.succ = (dat V n b c).owesAt none t.castSucc from rfl]
  simp only [before_0, before_1, before_2, before_3, before_4, before_5, before_6, before_7, after_0, after_1, after_2, after_3, after_4, after_5, after_6, after_7, after_8, after_9]
  change _ ⊢ wp frame _ _ (bodyAt2 t) _
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_use (Mlp2.wp_body 𝒱₀ c none (grid2.coords t) _ _ _ _ _ _ _ _ _ _ _ _ _ _ _ _ _ _ _ _))
  isplitl [H0 H1 H2 H3 H4 H5 H6 H7 H8 H9]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [den_eq]
  iintro %_ ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

variable [∀ e, Nonempty (Elt F e)]

/-- The family: this pipeline's data, anything elsewhere. -/
def dats : (p : Fin 3) → (c : Dev nD) → Datp (F := F) p c
  | ⟨0, _⟩ => fun c => junk c
  | ⟨1, _⟩ => fun c => dat V n b c
  | ⟨2, _⟩ => fun c => junk c

/-- The arrays after the region. -/
def Vp (c : Dev nD) : (b : Ref sig .tc) → Buf (Elt F) ((c : Thread nD τ).loc b) :=
  Function.update (Function.update (V c) main_v12_0 ((dat V n b c).arrAt 8 cfg2.N)) main_v12_1 ((dat V n b c).arrAt 9 cfg2.N)

theorem vp_off (r : Ref sig .tc) (h8 : r ≠ main_v12_0) (h9 : r ≠ main_v12_1) : Vp V n b c r = V c r := by
  unfold Vp; rw [Function.update_of_ne h9, Function.update_of_ne h8]
theorem vp_y : Vp V n b c main_v12_0 = (dat V n b c).arrAt 8 cfg2.N := by
  unfold Vp; rw [Function.update_of_ne (by decide), Function.update_self]
theorem vp_d : Vp V n b c main_v12_1 = (dat V n b c).arrAt 9 cfg2.N := by
  unfold Vp; rw [Function.update_self]

set_option backward.isDefEq.respectTransparency.types false in
def region : Pipeline.RegionSeg (pcfgs (F := F)) adm (dats V n b) none defs₀ 𝒱₀ (K (F := F)).L (K (F := F)).lev 1 :=
  reg 1 (dats V n b) n b V (Vp V n b) launch2 (fun c => obligation V n b c) (fun _ _ => rfl) (fun _ _ => rfl) (fun _ _ => rfl)
    (fun _ _ => rfl) (fun _ _ => rfl)
    (fun c w => by
    fin_cases w
    · exact ((dat V n b c).arrAt_in 0 rfl _).trans ((vp_off V n b c main_arg0 (by decide) (by decide)).symm)
    · exact ((dat V n b c).arrAt_in 1 rfl _).trans ((vp_off V n b c main_v7 (by decide) (by decide)).symm)
    · exact ((dat V n b c).arrAt_in 2 rfl _).trans ((vp_off V n b c main_arg2 (by decide) (by decide)).symm)
    · exact ((dat V n b c).arrAt_in 3 rfl _).trans ((vp_off V n b c main_v8 (by decide) (by decide)).symm)
    · exact ((dat V n b c).arrAt_in 4 rfl _).trans ((vp_off V n b c main_arg4 (by decide) (by decide)).symm)
    · exact ((dat V n b c).arrAt_in 5 rfl _).trans ((vp_off V n b c main_v9 (by decide) (by decide)).symm)
    · exact ((dat V n b c).arrAt_in 6 rfl _).trans ((vp_off V n b c main_v10 (by decide) (by decide)).symm)
    · exact ((dat V n b c).arrAt_in 7 rfl _).trans ((vp_off V n b c main_v11 (by decide) (by decide)).symm)
    · exact (vp_y V n b c).symm
    · exact (vp_d V n b c).symm)
    (fun c r hr => vp_off V n b c r (fun h => hr (h ▸ Finset.mem_image.mpr ⟨8, Finset.mem_univ _, rfl⟩)) (fun h => hr (h ▸ Finset.mem_image.mpr ⟨9, Finset.mem_univ _, rfl⟩)))

end Cert.Proof.Reg2
end
-- ==== Proof.Fin4.lean ====
/-
  The body of pipeline 2: one row of tiles' partial sums added to the running sums, and at the last the sums over the weights.
-/
module
public import proofs.«01_k».proof.Proof.Vals
public import proofs.«01_k».proof.Proof.Gen.KernelIdeal.Launch
public import proofs.«01_k».proof.Proof.Gen.KernelIdeal.Points
@[expose] public section
noncomputable section
namespace Cert.Proof.Fin4
open Cert.KernelIdeal Cert.KernelIdeal.Gen Cert.Proof.Rows Cert.Proof.Vals
open Idealize.ShloMosaic
open Idealize.SL Idealize.SL.RA Idealize.SL.BI
open scoped Idealize.SL.BI
open Idealize.SL.BI.BIBase Idealize.SL.BI.Laws Idealize.SL.ProofMode Idealize.SL.Sem

section Body

variable {Ix : Type} [DecidableEq Ix]
variable {F : FTy → Type} [FloatOps F] {Name : Type} [DecidableEq Name]
variable {U : Type} [URA U] {Lvl : Type} [Preorder Lvl]
variable (𝒱 : Variants) (d : Dev nD) (bd : Option 𝒱.V)

local notation "𝕄" => MT nD τ sig Ix (Elt F) Name U Lvl

abbrev first (i : grid4.Coords) : BitVec 1 := Scalar.cmpi .ne (Scalar.extui (Scalar.cmpi .eq (BitVec.ofNat 32 (i 0).val) 0#32) : BitVec 32) 0#32
abbrev last (i : grid4.Coords) : BitVec 1 := Scalar.cmpi .ne (Scalar.extui (Scalar.cmpi .eq (BitVec.ofNat 32 (i 0).val) 15#32) : BitVec 32) 0#32

theorem first_iff (i : grid4.Coords) : first i = 1#1 ↔ (i 0).val = 0 := by
  exact (show ∀ n : Fin 16, (Scalar.cmpi .ne (Scalar.extui (Scalar.cmpi .eq (BitVec.ofNat 32 n.val) 0#32) : BitVec 32) 0#32 = 1#1) ↔ n.val = 0 by decide) (i 0)

theorem last_iff (i : grid4.Coords) : last i = 1#1 ↔ (i 0).val = 15 := by
  exact (show ∀ n : Fin 16, (Scalar.cmpi .ne (Scalar.extui (Scalar.cmpi .eq (BitVec.ofNat 32 n.val) 15#32) : BitVec 32) 0#32 = 1#1) ↔ n.val = 15 by decide) (i 0)

theorem z2 : ∀ a : Fin 2, (![0, 0] : Fin 2 → Nat) a = 0 := by decide
theorem z3 : ∀ a : Fin 3, (![0, 0, 0] : Fin 3 → Nat) a = 0 := by decide

theorem wp_body (i : grid4.Coords) (arg1 : Memref sig .tc .vmem S1x256x512 .f32) (harg1 : arg1.IsWhole) (arg2 : Memref sig .tc .vmem S1x256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x512 .f32) (harg5 : arg5.IsWhole)
    {P R : FVec F S1x256x512 .f32} {DA DB : FVec F S256x128 .f32} {O0 : FVec F S256x512 .f32} :
    (iprop(owns (d, .tc) arg1 fullShare P ∗ owns (d, .tc) arg2 fullShare R ∗ owns (d, .tc) arg3 fullShare DA ∗ owns (d, .tc) arg4 fullShare DB
      ∗ owns (d, .tc) arg5 fullShare O0) : sProp 𝕄)
      ⊢ wp frame (wpE (defs₀ (F := F)) 𝒱 (d, .tc) bd) Set.univ (cc4__fin_body i arg1 harg1 arg2 harg2 arg3 harg3 arg4 harg4 arg5 harg5)
          (fun _ => iprop(owns (d, .tc) arg1 fullShare P ∗ owns (d, .tc) arg2 fullShare R ∗ owns (d, .tc) arg3 fullShare DA ∗ owns (d, .tc) arg4 fullShare DB
      ∗ owns (d, .tc) arg5 fullShare
            (if (i 0).val = 15 then finO DA DB (finA P R (if (i 0).val = 0 then zO else O0)) else finA P R (if (i 0).val = 0 then zO else O0)))) := by
  iintro ⟨H1, H2, H3, H4, H5⟩
  by_cases hc : first i = 1#1
  · rw [if_pos ((first_iff i).mp hc)]
    apply wp_eq
    next => simp only [cc4__fin_body, Prog.bind, Bind.bind, Pure.pure, dif_pos hc]; rfl
    iintro ⟨⟨⟨⟨H1, H2⟩, H3⟩, H4⟩, H5⟩
    iapply (wp_ldw 𝒱 (d, .tc) bd z2 (by rfl)) $$ H5
    iintro H5
    iapply (wp_stw 𝒱 (d, .tc) bd z2 (by rfl)) $$ H5
    iintro H5
    iapply (wp_ldw 𝒱 (d, .tc) bd z2 (by rfl)) $$ H5
    iintro H5
    iapply (wp_ldw 𝒱 (d, .tc) bd z3 (by rfl)) $$ H1
    iintro H1
    iapply (wp_ldw 𝒱 (d, .tc) bd z3 (by rfl)) $$ H2
    iintro H2
    iapply (wp_ldw 𝒱 (d, .tc) bd z2 (by rfl)) $$ H5
    iintro H5
    iapply (wp_stw 𝒱 (d, .tc) bd z2 (by rfl)) $$ H5
    iintro H5
    by_cases hl : last i = 1#1
    · rw [if_pos ((last_iff i).mp hl)]
      apply wp_eq
      next => simp only [cc4__fin_body, Prog.bind, Bind.bind, Pure.pure, dif_pos hl]; rfl
      iintro ⟨⟨⟨⟨H3, H4⟩, H1⟩, H2⟩, H5⟩
      iapply (wp_ldw 𝒱 (d, .tc) bd z2 (by rfl)) $$ H5
      iintro H5
      iapply (wp_ldp 𝒱 (d, .tc) bd (by rfl)) $$ H3
      iintro H3
      iapply (wp_ldp 𝒱 (d, .tc) bd (by rfl)) $$ H4
      iintro H4
      iapply (wp_ldw 𝒱 (d, .tc) bd z2 (by rfl)) $$ H5
      iintro H5
      iapply (wp_stw 𝒱 (d, .tc) bd z2 (by rfl)) $$ H5
      iintro H5
      iapply (wp_retu 𝒱 (d, .tc) bd (by rfl))
      isplitl [H1]; · iexact H1
      isplitl [H2]; · iexact H2
      isplitl [H3]; · iexact H3
      isplitl [H4]; · iexact H4
      iexact H5
    · rw [if_neg (fun h => hl ((last_iff i).mpr h))]
      apply wp_eq
      next => simp only [cc4__fin_body, Prog.bind, Bind.bind, Pure.pure, dif_neg hl]; rfl
      iintro ⟨⟨⟨⟨H3, H4⟩, H1⟩, H2⟩, H5⟩
      iapply (wp_retu 𝒱 (d, .tc) bd (by rfl))
      isplitl [H1]; · iexact H1
      isplitl [H2]; · iexact H2
      isplitl [H3]; · iexact H3
      isplitl [H4]; · iexact H4
      iexact H5
  · rw [if_neg (fun h => hc ((first_iff i).mpr h))]
    apply wp_eq
    next => simp only [cc4__fin_body, Prog.bind, Bind.bind, Pure.pure, dif_neg hc]; rfl
    iintro ⟨⟨⟨⟨H1, H2⟩, H3⟩, H4⟩, H5⟩
    iapply (wp_ldw 𝒱 (d, .tc) bd z2 (by rfl)) $$ H5
    iintro H5
    iapply (wp_ldw 𝒱 (d, .tc) bd z3 (by rfl)) $$ H1
    iintro H1
    iapply (wp_ldw 𝒱 (d, .tc) bd z3 (by rfl)) $$ H2
    iintro H2
    iapply (wp_ldw 𝒱 (d, .tc) bd z2 (by rfl)) $$ H5
    iintro H5
    iapply (wp_stw 𝒱 (d, .tc) bd z2 (by rfl)) $$ H5
    iintro H5
    by_cases hl : last i = 1#1
    · rw [if_pos ((last_iff i).mp hl)]
      apply wp_eq
      next => simp only [cc4__fin_body, Prog.bind, Bind.bind, Pure.pure, dif_pos hl]; rfl
      iintro ⟨⟨⟨⟨H3, H4⟩, H1⟩, H2⟩, H5⟩
      iapply (wp_ldw 𝒱 (d, .tc) bd z2 (by rfl)) $$ H5
      iintro H5
      iapply (wp_ldp 𝒱 (d, .tc) bd (by rfl)) $$ H3
      iintro H3
      iapply (wp_ldp 𝒱 (d, .tc) bd (by rfl)) $$ H4
      iintro H4
      iapply (wp_ldw 𝒱 (d, .tc) bd z2 (by rfl)) $$ H5
      iintro H5
      iapply (wp_stw 𝒱 (d, .tc) bd z2 (by rfl)) $$ H5
      iintro H5
      iapply (wp_retu 𝒱 (d, .tc) bd (by rfl))
      isplitl [H1]; · iexact H1
      isplitl [H2]; · iexact H2
      isplitl [H3]; · iexact H3
      isplitl [H4]; · iexact H4
      iexact H5
    · rw [if_neg (fun h => hl ((last_iff i).mpr h))]
      apply wp_eq
      next => simp only [cc4__fin_body, Prog.bind, Bind.bind, Pure.pure, dif_neg hl]; rfl
      iintro ⟨⟨⟨⟨H3, H4⟩, H1⟩, H2⟩, H5⟩
      iapply (wp_retu 𝒱 (d, .tc) bd (by rfl))
      isplitl [H1]; · iexact H1
      isplitl [H2]; · iexact H2
      isplitl [H3]; · iexact H3
      isplitl [H4]; · iexact H4
      iexact H5

end Body

end Cert.Proof.Fin4
end
-- ==== Proof.Reg4.lean ====
/-
  Pipeline 2 of @main: the values its windows hold at each point, its body's obligation, and its region.
-/
module
public import proofs.«01_k».proof.Proof.Sc
public import proofs.«01_k».proof.Proof.Fin4
public import Idealize.ShloMosaic.Lib.Pipeline.FrameBody
@[expose] public section
noncomputable section
namespace Cert.Proof.Reg4
open Cert.KernelIdeal Cert.KernelIdeal.Gen Cert.Proof.Sc Cert.Proof.Vals
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄" => MT nD τ sig (HIx 2) (Elt F) ℕ UU ℕ

abbrev Vals (F : FTy → Type) : Type := (c : Dev nD) → (b : Ref sig .tc) → Buf (Elt F) ((c : Thread nD τ).loc b)

abbrev ps (V : Vals F) (c : Dev nD) (t : Fin cfg4.N) : FVec F S1x256x512 .f32 := ((cfg4.win 0).blk t).view.read (Elt F) (V c main_v6)
abbrev rs (V : Vals F) (c : Dev nD) (t : Fin cfg4.N) : FVec F S1x256x512 .f32 := ((cfg4.win 1).blk t).view.read (Elt F) (V c main_v13)
abbrev da (V : Vals F) (c : Dev nD) (t : Fin cfg4.N) : FVec F S256x128 .f32 := ((cfg4.win 2).blk t).view.read (Elt F) (V c main_v5_1)
abbrev db (V : Vals F) (c : Dev nD) (t : Fin cfg4.N) : FVec F S256x128 .f32 := ((cfg4.win 3).blk t).view.read (Elt F) (V c main_v12_1)

/-- The running sums after the points up to `n`, before the division. -/
def acc (V : Vals F) (c : Dev nD) : (n : ℕ) → n < cfg4.N → FVec F S256x512 .f32
  | 0, h => finA (ps V c ⟨0, h⟩) (rs V c ⟨0, h⟩) zO
  | n + 1, h => finA (ps V c ⟨n + 1, h⟩) (rs V c ⟨n + 1, h⟩) (acc V c n (Nat.lt_of_succ_lt h))
/-- What the result's block holds after point `t`: the running sums, divided at the last. -/
def outv (V : Vals F) (c : Dev nD) (t : Fin cfg4.N) : FVec F S256x512 .f32 :=
  if t.val = 15 then finO (da V c t) (db V c t) (acc V c t.val t.isLt) else acc V c t.val t.isLt

variable (V : Vals F) (n b : ℕ) (c : Dev nD)

/-- The proof data of the region entered at the arrays' contents `V`, before SparseCore call `n`. -/
def dat : Dat τ (Elt F) (HIx 2) ℕ UU ℕ cfg4 c where
  A w := V c (Pipeline.arrRef spec4 w)
  after w t := match w with
    | ⟨0, _⟩ => ps V c t
    | ⟨1, _⟩ => rs V c t
    | ⟨2, _⟩ => da V c t
    | ⟨3, _⟩ => db V c t
    | ⟨4, _⟩ => outv V c t
  Φ _ := Pipeline.scopedRest (Ix := HIx 2) (Name := ℕ) (U := UU) (Lvl := ℕ) (Val := Elt F) spec4 c
  q _ := fullShare
  owed _ := (K (F := F)).Otc c n
  recorded _ := low (F := F) c b

theorem after_0 (t : Fin cfg4.N) : (dat V n b c).after 0 t = ps V c t := rfl
theorem after_1 (t : Fin cfg4.N) : (dat V n b c).after 1 t = rs V c t := rfl
theorem after_2 (t : Fin cfg4.N) : (dat V n b c).after 2 t = da V c t := rfl
theorem after_3 (t : Fin cfg4.N) : (dat V n b c).after 3 t = db V c t := rfl
theorem after_4 (t : Fin cfg4.N) : (dat V n b c).after 4 t = outv V c t := rfl

theorem before_0 (t : Fin cfg4.N) (d : (cfg4.win 0).block.Idx → Elt F (cfg4.win 0).elt) : (dat V n b c).before 0 t d = ps V c t :=
  (dat V n b c).before_in_eq_fetched 0 rfl (fun _ => rfl) (fun _ _ _ => rfl) (fun _ => rfl) t d
theorem before_1 (t : Fin cfg4.N) (d : (cfg4.win 1).block.Idx → Elt F (cfg4.win 1).elt) : (dat V n b c).before 1 t d = rs V c t :=
  (dat V n b c).before_in_eq_fetched 1 rfl (fun _ => rfl) (fun _ _ _ => rfl) (fun _ => rfl) t d
theorem before_2 (t : Fin cfg4.N) (d : (cfg4.win 2).block.Idx → Elt F (cfg4.win 2).elt) : (dat V n b c).before 2 t d = da V c t :=
  (dat V n b c).before_in_eq_fetched 2 rfl (fun _ => rfl) (fun _ _ _ => rfl) (fun _ => rfl) t d
theorem before_3 (t : Fin cfg4.N) (d : (cfg4.win 3).block.Idx → Elt F (cfg4.win 3).elt) : (dat V n b c).before 3 t d = db V c t :=
  (dat V n b c).before_in_eq_fetched 3 rfl (fun _ => rfl) (fun _ _ _ => rfl) (fun _ => rfl) t d

theorem before_4_pos (t : Fin cfg4.N) (h : t.val ≠ 0) (d : (cfg4.win 4).block.Idx → Elt F (cfg4.win 4).elt) :
    (dat V n b c).before 4 t d = outv V c ⟨t.val - 1, Nat.lt_of_le_of_lt (Nat.sub_le _ _) t.isLt⟩ :=
  (dat V n b c).before_out_kept 4 rfl t h (by
    have ht : t.val < 16 := t.isLt
    rw [Bool.eq_false_iff]
    intro hf
    have := (flush4_4 _).mp hf
    have h' : (t.val - 1) % 16 = 15 := this
    omega) (fun _ => rfl) (fun _ _ => rfl) d

theorem coord_eq : ∀ t : Fin grid4.N, (grid4.coords t 0).val = t.val := by decide +kernel

theorem acc_eq (t : Fin cfg4.N) (d : (cfg4.win 4).block.Idx → Elt F (cfg4.win 4).elt) :
    finA (ps V c t) (rs V c t) (if (grid4.coords t 0).val = 0 then zO else (dat V n b c).before 4 t d) = acc V c t.val t.isLt := by
  rw [coord_eq t]
  obtain ⟨tv, ht⟩ := t
  cases tv with
  | zero => rw [if_pos rfl]; rfl
  | succ m =>
    rw [if_neg (Nat.succ_ne_zero m), before_4_pos V n b c ⟨m + 1, ht⟩ (Nat.succ_ne_zero m)]
    have hm : m + 1 < 16 := ht
    unfold outv
    rw [if_neg (show ¬ m + 1 - 1 = 15 by omega)]
    rfl

theorem out_eq (t : Fin cfg4.N) (d : (cfg4.win 4).block.Idx → Elt F (cfg4.win 4).elt) :
    (if (grid4.coords t 0).val = 15 then finO (da V c t) (db V c t) (finA (ps V c t) (rs V c t) (if (grid4.coords t 0).val = 0 then zO else (dat V n b c).before 4 t d))
      else finA (ps V c t) (rs V c t) (if (grid4.coords t 0).val = 0 then zO else (dat V n b c).before 4 t d)) = outv V c t := by
  rw [acc_eq, coord_eq t]; rfl

theorem obligation : BodyObligation (dat V n b c) (defs₀ (F := F)) 𝒱₀ none Set.univ := fun t => by
  rw [bigSep_W4, bigSep_W4]
  rw [show (dat V n b c).Φ t.succ = (dat V n b c).Φ t.castSucc from rfl,
    show (dat V n b c).owesAt none t.succ = (dat V n b c).owesAt none t.castSucc from rfl]
  simp only [before_0, before_1, before_2, before_3, after_0, after_1, after_2, after_3, after_4]
  change _ ⊢ wp frame _ _ (bodyAt4 t) _
  iintro ⟨HΦ, Howes, ⟨%d0, H0⟩, ⟨%d1, H1⟩, ⟨%d2, H2⟩, ⟨%d3, H3⟩, ⟨%d4, H4⟩⟩
  iapply (wp_use (Fin4.wp_body 𝒱₀ c none (grid4.coords t) _ _ _ _ _ _ _ _ _ _))
  isplitl [H0 H1 H2 H3 H4]
  · skip
    isplitl [H0]; · iexact H0
    isplitl [H1]; · iexact H1
    isplitl [H2]; · iexact H2
    isplitl [H3]; · iexact H3
    iexact H4
  rw [out_eq]
  iintro %_ ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

variable [∀ e, Nonempty (Elt F e)]

/-- The family: this pipeline's data, anything elsewhere. -/
def dats : (p : Fin 3) → (c : Dev nD) → Datp (F := F) p c
  | ⟨0, _⟩ => fun c => junk c
  | ⟨1, _⟩ => fun c => junk c
  | ⟨2, _⟩ => fun c => dat V n b c

/-- The arrays after the region. -/
def Vp (c : Dev nD) : (b : Ref sig .tc) → Buf (Elt F) ((c : Thread nD τ).loc b) :=
  Function.update (V c) main_v14 ((dat V n b c).arrAt 4 cfg4.N)

theorem vp_off (r : Ref sig .tc) (h : r ≠ main_v14) : Vp V n b c r = V c r := by
  unfold Vp; rw [Function.update_of_ne h]
theorem vp_o : Vp V n b c main_v14 = (dat V n b c).arrAt 4 cfg4.N := by
  unfold Vp; rw [Function.update_self]

set_option backward.isDefEq.respectTransparency.types false in
def region : Pipeline.RegionSeg (pcfgs (F := F)) adm (dats V n b) none defs₀ 𝒱₀ (K (F := F)).L (K (F := F)).lev 2 :=
  reg 2 (dats V n b) n b V (Vp V n b) launch4 (fun c => obligation V n b c) (fun _ _ => rfl) (fun _ _ => rfl) (fun _ _ => rfl)
    (fun _ _ => rfl) (fun _ _ => rfl)
    (fun c w => by
    fin_cases w
    · exact ((dat V n b c).arrAt_in 0 rfl _).trans ((vp_off V n b c main_v6 (by decide)).symm)
    · exact ((dat V n b c).arrAt_in 1 rfl _).trans ((vp_off V n b c main_v13 (by decide)).symm)
    · exact ((dat V n b c).arrAt_in 2 rfl _).trans ((vp_off V n b c main_v5_1 (by decide)).symm)
    · exact ((dat V n b c).arrAt_in 3 rfl _).trans ((vp_off V n b c main_v12_1 (by decide)).symm)
    · exact (vp_o V n b c).symm)
    (fun c r hr => vp_off V n b c r (fun h => hr (h ▸ Finset.mem_image.mpr ⟨4, Finset.mem_univ _, rfl⟩)))

end Cert.Proof.Reg4
end
-- ==== Proof.Sizes.lean ====
/-
  How many rows a tile works through.
-/
module
public import proofs.«01_k».proof.Proof.Rows
@[expose] public section
namespace Cert.Proof.Rows
/-- Full chunks and further groups of eight rows of tile `s`. -/
def nFull (s : Nat) : Nat := if s = 15 then 26 else 28
def nTail (s : Nat) : Nat := if s = 15 then 6 else 0

theorem nFull_even (s : Nat) : 2 * (nFull s / 2) = nFull s := by unfold nFull; split <;> rfl
theorem nFull_pos (s : Nat) : 0 < nFull s / 2 := by unfold nFull; split <;> decide
theorem nFull_le {s : Nat} (h : s < 16) : 3136 * s + 112 * nFull s + 8 * nTail s ≤ 50000 := by
  unfold nFull nTail
  split <;> omega
end Cert.Proof.Rows
-- ==== Proof.Facts1.lean ====
/-
  Where a tile of the call reads and writes, and which of its conditions hold, at each core and subcore.
-/
module
public import proofs.«01_k».proof.KernelIdeal
public import proofs.«01_k».proof.Proof.Gen.KernelIdeal
public import proofs.«01_k».proof.Proof.Sizes
@[expose] public section
noncomputable section
namespace Cert.Proof.Facts1
open Cert.KernelIdeal Cert.KernelIdeal.Gen Cert.Proof.Rows
open Idealize.ShloMosaic

def mk (c : Fin 2) (s : Fin 16) : grid1.Coords := fun | 0 => c | 1 => s | ⟨_ + 2, h⟩ => absurd h (Nat.not_lt.2 (Nat.le_add_left _ _))
abbrev col (i : grid1.Coords) : Fin 2 := i 0
abbrev row (i : grid1.Coords) : Fin 16 := i 1
theorem mk_eq (i : grid1.Coords) : mk (col i) (row i) = i := by
  funext a
  match a with
  | 0 => rfl
  | 1 => rfl
theorem lift {P : grid1.Coords → Prop} (h : ∀ c s, P (mk c s)) (i : grid1.Coords) : P i := mk_eq i ▸ h _ _

theorem t1_trips : Scf.trips k1_t1_loop.lb k1_t1_loop.ub k1_t1_loop.st = 4096 := by decide +kernel
theorem t2_trips (i : grid1.Coords) : Scf.trips (k1_t2_loop i).lb (k1_t2_loop i).ub (k1_t2_loop i).st = nFull (row i).val / 2 := by
  revert i; refine lift ?_; decide +kernel
theorem t9_trips (i : grid1.Coords) : Scf.trips (k1_t9_loop i).lb (k1_t9_loop i).ub (k1_t9_loop i).st = 0 := by
  revert i; refine lift ?_; decide +kernel
theorem t16_trips (i : grid1.Coords) : Scf.trips (k1_t16_loop i).lb (k1_t16_loop i).ub (k1_t16_loop i).st = nTail (row i).val := by
  revert i; refine lift ?_; decide +kernel
theorem t18_trips (i : grid1.Coords) : Scf.trips (k1_t18_loop i).lb (k1_t18_loop i).ub (k1_t18_loop i).st = 0 := by
  revert i; refine lift ?_; decide +kernel
theorem off1 (t : Fin k1_t1_loop.trips) : k1_off1 t = ![t.val / 16, 16 * (t.val % 16)] := by
  revert t; decide +kernel
theorem cond1 (i : grid1.Coords) : k1_cond1 i = 1#1 := by
  revert i; refine lift ?_; decide +kernel
theorem cond2 (i : grid1.Coords) : k1_cond2 i = 1#1 := by
  revert i; refine lift ?_; decide +kernel
theorem cond3 (i : grid1.Coords) (t : Fin (k1_t2_loop i).trips) : k1_cond3 i t = 1#1 := by
  revert i; refine lift ?_; decide +kernel
theorem cond8 (i : grid1.Coords) (t : Fin (k1_t2_loop i).trips) : k1_cond8 i t = 1#1 := by
  revert i; refine lift ?_; decide +kernel
theorem cond7 (i : grid1.Coords) (t : Fin (k1_t2_loop i).trips) : k1_cond7 i t = 1#1 ↔ t.val + 1 < nFull (row i).val / 2 := by
  revert i; refine lift ?_; decide +kernel
theorem cond12 (i : grid1.Coords) (t : Fin (k1_t2_loop i).trips) : k1_cond12 i t = 1#1 ↔ t.val + 1 < nFull (row i).val / 2 := by
  revert i; refine lift ?_; decide +kernel
theorem off2 (i : grid1.Coords) : k1_off2 i = ![3136 * (row i).val + 112 * (2 * 0), 256 * (col i).val] := by
  revert i; refine lift ?_; decide +kernel
theorem off3 (i : grid1.Coords) : k1_off3 i = ![0 + (3136 * (row i).val + 112 * (2 * 0))] := by
  revert i; refine lift ?_; decide +kernel
theorem off4 (i : grid1.Coords) : k1_off4 i = ![3136 * (row i).val + 112 * (2 * 0 + 1), 256 * (col i).val] := by
  revert i; refine lift ?_; decide +kernel
theorem off5 (i : grid1.Coords) : k1_off5 i = ![0 + (3136 * (row i).val + 112 * (2 * 0 + 1))] := by
  revert i; refine lift ?_; decide +kernel
theorem off105 (i : grid1.Coords) (t : Fin (k1_t2_loop i).trips) : k1_off105 i t = ![3136 * (row i).val + 112 * (2 * (t.val + 1)), 256 * (col i).val] := by
  revert i; refine lift ?_; decide +kernel
theorem off106 (i : grid1.Coords) (t : Fin (k1_t2_loop i).trips) : k1_off106 i t = ![0 + (3136 * (row i).val + 112 * (2 * (t.val + 1)))] := by
  revert i; refine lift ?_; decide +kernel
theorem off206 (i : grid1.Coords) (t : Fin (k1_t2_loop i).trips) : k1_off206 i t = ![3136 * (row i).val + 112 * (2 * (t.val + 1) + 1), 256 * (col i).val] := by
  revert i; refine lift ?_; decide +kernel
theorem off207 (i : grid1.Coords) (t : Fin (k1_t2_loop i).trips) : k1_off207 i t = ![0 + (3136 * (row i).val + 112 * (2 * (t.val + 1) + 1))] := by
  revert i; refine lift ?_; decide +kernel
theorem off410 (i : grid1.Coords) (t : Fin (k1_t16_loop i).trips) : k1_off410 i t = ![3136 * (row i).val + 112 * nFull (row i).val + 8 * t.val, 256 * (col i).val] := by
  revert i; refine lift ?_; decide +kernel
theorem off411 (i : grid1.Coords) (t : Fin (k1_t16_loop i).trips) : k1_off411 i t = ![0 + (3136 * (row i).val + 112 * nFull (row i).val + 8 * t.val)] := by
  revert i; refine lift ?_; decide +kernel
theorem off510 (i : grid1.Coords) : k1_off510 i = ![(row i).val, 0, 256 * (col i).val] := by
  revert i; refine lift ?_; decide +kernel
end Cert.Proof.Facts1
-- ==== Proof.Chunk.lean ====
module
public import proofs.«01_k».proof.Proof.Steps
public import Idealize.ShloMosaic.Lib.Transfers
@[expose] public section
noncomputable section
namespace Cert.Proof.Rows
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix]
variable {Name : Type} [DecidableEq Name]
variable {U : Type} [URA U] {Lvl : Type} [Preorder Lvl] {Λ : Labels}
local notation "𝕄" => MT nD τ sig Ix (Elt F) Name U Lvl

/-- The sixteen words of row `p` from column `16 j` lie in the accumulator. -/
theorem inbA (p : BitVec 32) (hp : p.toNat < 256) (j : Fin 16) {o : Fin 2 → Nat} (ho : o = ![p.toNat, 16 * j.val]) :
    ∀ a, o a + T1x16.size a ≤ (T2 256 256).size a := by
  subst ho
  intro a
  match a with
  | 0 => show p.toNat + 1 ≤ 256; omega
  | 1 => show 16 * j.val + 16 ≤ 256; omega

/-- The row addresses as the kernel computes them. -/
theorem addr_g (t : Nat) (ht : t < 7) : (Scalar.muli (Scf.iv 0#32 1#32 t) 16#32).toNat = 16 * t :=
  (by decide : ∀ t : Fin 7, (Scalar.muli (Scf.iv 0#32 1#32 t.val) 16#32).toNat = 16 * t.val) ⟨t, ht⟩
theorem addr_f (t r : Nat) (ht : t < 7) (hr : r < 16) :
    (Scalar.addi (Scalar.muli (Scf.iv 0#32 1#32 t) 16#32) (BitVec.ofNat 32 r)).toNat = 16 * t + r :=
  (by decide : ∀ t : Fin 7, ∀ r : Fin 16, (Scalar.addi (Scalar.muli (Scf.iv 0#32 1#32 t.val) 16#32) (BitVec.ofNat 32 r.val)).toNat = 16 * t.val + r.val) ⟨t, ht⟩ ⟨r, hr⟩
theorem addr_s (t r : Nat) (ht : t < 7) (hr : r < 16) :
    (Scf.iv (Scalar.muli (Scf.iv 0#32 1#32 t) 16#32) 1#32 r).toNat = 16 * t + r :=
  (by decide : ∀ t : Fin 7, ∀ r : Fin 16, (Scf.iv (Scalar.muli (Scf.iv 0#32 1#32 t.val) 16#32) 1#32 r.val).toNat = 16 * t.val + r.val) ⟨t, ht⟩ ⟨r, hr⟩
theorem addr_t (r : Nat) (hr : r < 8) : (Scf.iv 0#32 1#32 r).toNat = r :=
  (by decide : ∀ r : Fin 8, (Scf.iv 0#32 1#32 r.val).toNat = r.val) ⟨r, hr⟩

/-- Two waits in a row, for two transfers in flight on two cells. -/
theorem wp_wait2 (EC : UEmb Counters 𝕄) [EC.LandsIn (upEmb : UEmb _ 𝕄)] {defs : Defs nD τ sig (Elt F) Λ} (𝒱 : Variants) (c : Thread nD τ) (bd : Option 𝒱.V)
    {α : Type} {Q : α → sProp 𝕄} (ι : Ix) {N1 N2 : ℕ} {s1 s2 : DmaSem sig}
    {sp1 sp1' sp2 sp2' : Space} {h1 h1' h2 h2' : Shape} {e1 e1' e2 e2' : EltTy}
    {m1 : Memref sig c.2.kind sp1 h1 e1} {m1' : Memref sig c.2.kind sp1' h1' e1'} {m2 : Memref sig c.2.kind sp2 h2 e2} {m2' : Memref sig c.2.kind sp2' h2' e2'}
    {w1 : m1.view.WordExact} {w1' : m1'.view.WordExact} {w2 : m2.view.WordExact} {w2' : m2'.view.WordExact}
    (hN1 : m1'.view.dmaCredit = N1) (hN2 : m2'.view.dmaCredit = N2)
    {O : CellTallies nD τ sig Ix} {W : Waits sig Ix} {D1 D2 R D Y Z : sProp 𝕄}
    (hD : iprop(D1 ∗ D2 ∗ R) ⊢ D)
    {prog K : Prog (TpuEff nD τ sig (Elt F) Λ c.2) α}
    (hprog : prog = .op (.waitDma2 s1 m1 m1' w1 w1') fun _ => .op (.waitDma2 s2 m2 m2' w2 w2') fun _ => K)
    (hK : iprop(D ∗ Y ∗ semVal (c, .dma s1) 0 ∗ semVal (c, .dma s2) 0 ∗ owes c O (insert (SemLoc.dma s2, ι) (insert (SemLoc.dma s1, ι) W)))
      ⊢ iprop(Z -∗ wp frame (wpE defs 𝒱 c bd) Set.univ K Q)) :
    iprop(Transfers.Flight EC c (.dma s1) ι N1 D1 ∗ Transfers.Flight EC c (.dma s2) ι N2 D2 ∗ R ∗ Y ∗ owes c O W ∗ Transfers.MayWaits c ι O)
      ⊢ iprop(Z -∗ wp frame (wpE defs 𝒱 c bd) Set.univ prog Q) := by
  subst hprog
  iintro ⟨H1, H2, HR, HY, HO, #HW⟩ HZ
  ihave HW1 := (Transfers.MayWaits.elim (.dma s1)) $$ HW
  iapply (Transfers.wp_waitLocalO EC 𝒱 c bd ι hN1) $$ [H1 HO HW1]
  · isplitl [H1]; · iexact H1
    isplitl [HO]; · iexact HO
    iexact HW1
  iintro ⟨HD1, Hs1, HO⟩
  ihave HW2 := (Transfers.MayWaits.elim (.dma s2)) $$ HW
  iapply (Transfers.wp_waitLocalO EC 𝒱 c bd ι hN2) $$ [H2 HO HW2]
  · isplitl [H2]; · iexact H2
    isplitl [HO]; · iexact HO
    iexact HW2
  iintro ⟨HD2, Hs2, HO⟩
  iapply hK $$ [HD1 HD2 HR HY Hs1 Hs2 HO] HZ
  isplitl [HD1 HD2 HR]
  · iapply hD
    isplitl [HD1]; · iexact HD1
    isplitl [HD2]; · iexact HD2
    iexact HR
  isplitl [HY]; · iexact HY
  isplitl [Hs1]; · iexact Hs1
  isplitl [Hs2]; · iexact Hs2
  iexact HO

theorem chunk_glue {B1 B2 D' a a' S WP WP2 : sProp 𝕄} (h : iprop(B1 ∗ B2 ∗ a) ⊢ iprop((iprop(B1 ∗ B2 ∗ a') -∗ WP2) -∗ WP)) :
    iprop(iprop(B1 ∗ B2 ∗ D') ∗ a ∗ S) ⊢ iprop((iprop(iprop(B1 ∗ B2 ∗ a') ∗ D' ∗ S) -∗ WP2) -∗ WP) := by
  iintro ⟨⟨H1, H2, HD⟩, Ha, HS⟩ Hk
  iapply h $$ [H1 H2 Ha]
  · isplitl [H1]; · iexact H1
    isplitl [H2]; · iexact H2
    iexact Ha
  iintro H
  iapply Hk
  isplitl [H]; · iexact H
  isplitl [HD]; · iexact HD
  iexact HS
end Cert.Proof.Rows
-- ==== Proof.Copies.lean ====
/-
  The copies a tile makes, by contents: a block of the weighted rows (or of the segment ids) fetched into a
  tile's own buffer, in flight and landed.
-/
module
public import proofs.«01_k».proof.Proof.Chunk
public import Idealize.ShloMosaic.Lib.SparseCore.FromWhole
@[expose] public section
noncomputable section
namespace Cert.Proof.Rows
open Idealize.ShloMosaic
open Idealize.SL Idealize.SL.RA Idealize.SL.BI
open scoped Idealize.SL.BI
open Idealize.SL.BI.BIBase Idealize.SL.BI.Laws Idealize.SL.ProofMode Idealize.SL.Sem

section Pure
variable {α : Type}

theorem numel_pos1 (n : Nat) (h : 0 < n) : 0 < (T1 n).numel := by
  unfold Shape.numel; simpa using h
theorem numel_pos2 (n w : Nat) (h : 0 < n) (h' : 0 < w) : 0 < (T2 n w).numel := by
  unfold Shape.numel; simp [Fin.prod_univ_two, h, h']

/-- A table with its first `n` entries replaced. -/
def pre1 (n : Nat) (g old : Nat → α) : Nat → α := fun r => if r < n then g r else old r

theorem overlay_pre1 {n N : Nat} (inb : ∀ a, (![0] : Fin 1 → Nat) a + (T1 n).size a ≤ (T1 N).size a) (old g : Nat → α) :
    (Rect.unit (s := T1 N) ![0] (T1 n).size inb).overlay (arr1 N old) (arr1 n g) = arr1 N (pre1 n g old) := by
  funext y
  by_cases hy : (y 0).val < n
  · have hx : y = (Rect.unit (s := T1 N) ![0] (T1 n).size inb).emb (fun a => by
        obtain rfl : a = 0 := Subsingleton.elim _ _
        exact (⟨(y 0).val, hy⟩ : Fin n)) := by
      funext a
      obtain rfl : a = 0 := Subsingleton.elim _ _
      refine Fin.ext ?_
      rw [Rect.emb_apply]
      show (y 0).val = 0 + 1 * (y 0).val
      omega
    conv_lhs => rw [hx, Rect.overlay_emb]
    show g (y 0).val = pre1 n g old (y 0).val
    rw [pre1, if_pos hy]
  · rw [Rect.overlay_of_not_mem]
    · show old (y 0).val = pre1 n g old (y 0).val
      rw [pre1, if_neg hy]
    · intro h
      rw [← Rect.map_emb_univ] at h
      obtain ⟨x, -, hx⟩ := Finset.mem_map.mp h
      refine hy ?_
      rw [← hx]
      have : (((Rect.unit (s := T1 N) ![0] (T1 n).size inb).emb x) 0).val = 0 + 1 * (x 0).val := Rect.emb_apply _ _ _
      rw [this]
      have := (x 0).isLt
      have h2 : (x 0).val < n := this
      omega

theorem overlay_pre2 {n N w : Nat} (inb : ∀ a, (![0, 0] : Fin 2 → Nat) a + (T2 n w).size a ≤ (T2 N w).size a) (old g : Nat → Nat → α) :
    (Rect.unit (s := T2 N w) ![0, 0] (T2 n w).size inb).overlay (arr2 N w old) (arr2 n w g) = arr2 N w (pre1 n g old) := by
  funext y
  by_cases hy : (y 0).val < n
  · have hx : y = (Rect.unit (s := T2 N w) ![0, 0] (T2 n w).size inb).emb (fun a => match a with
        | 0 => (⟨(y 0).val, hy⟩ : Fin n)
        | 1 => (⟨(y 1).val, (y 1).isLt⟩ : Fin w)) := by
      funext a
      refine Fin.ext ?_
      rw [Rect.emb_apply]
      match a with
      | 0 => show (y 0).val = 0 + 1 * (y 0).val; omega
      | 1 => show (y 1).val = 0 + 1 * (y 1).val; omega
    conv_lhs => rw [hx, Rect.overlay_emb]
    show g (y 0).val (y 1).val = pre1 n g old (y 0).val (y 1).val
    rw [pre1, if_pos hy]
  · rw [Rect.overlay_of_not_mem]
    · show old (y 0).val (y 1).val = pre1 n g old (y 0).val (y 1).val
      rw [pre1, if_neg hy]
    · intro h
      rw [← Rect.map_emb_univ] at h
      obtain ⟨x, -, hx⟩ := Finset.mem_map.mp h
      refine hy ?_
      rw [← hx]
      have : (((Rect.unit (s := T2 N w) ![0, 0] (T2 n w).size inb).emb x) 0).val = 0 + 1 * (x 0).val := Rect.emb_apply _ _ _
      rw [this]
      have := (x 0).isLt
      have h2 : (x 0).val < n := this
      omega

theorem emb_arr1 {n N ro : Nat} {off : Fin 1 → Nat} (inb : ∀ a, off a + (T1 n).size a ≤ (T1 N).size a) (ho : off = ![ro]) (g : Nat → α) :
    (fun i => arr1 N g ((Rect.unit (s := T1 N) off (T1 n).size inb).emb i)) = arr1 n (fun r => g (ro + r)) := by
  subst ho
  funext i
  have h0 : (((Rect.unit (s := T1 N) ![ro] (T1 n).size inb).emb i) 0).val = ro + 1 * (i 0).val := Rect.emb_apply _ _ _
  exact congrArg g (h0.trans (by rw [one_mul]))

theorem emb_arr2 {n w N M ro co : Nat} {off : Fin 2 → Nat} (inb : ∀ a, off a + (T2 n w).size a ≤ (T2 N M).size a) (ho : off = ![ro, co]) (g : Nat → Nat → α) :
    (fun i => arr2 N M g ((Rect.unit (s := T2 N M) off (T2 n w).size inb).emb i)) = arr2 n w (fun r c => g (ro + r) (co + c)) := by
  subst ho
  funext i
  have h0 : (((Rect.unit (s := T2 N M) ![ro, co] (T2 n w).size inb).emb i) 0).val = ro + 1 * (i 0).val := Rect.emb_apply _ _ _
  have h1 : (((Rect.unit (s := T2 N M) ![ro, co] (T2 n w).size inb).emb i) 1).val = co + 1 * (i 1).val := Rect.emb_apply _ _ _
  exact congrArg₂ g (h0.trans (by rw [one_mul])) (h1.trans (by rw [one_mul]))
end Pure

variable {F : FTy → Type} [FloatOps F]
variable {nD : Nat} {τ : Topo} {sig : RefSig} {Ix : Type} [DecidableEq Ix]
variable {Name : Type} [DecidableEq Name] [Infinite Name]
variable {U : Type} [URA U] {Lvl : Type} [Preorder Lvl] {Λ : Labels}
local notation "𝕄" => MT nD τ sig Ix (Elt F) Name U Lvl

variable (EC : UEmb Counters (MT nD τ sig Ix (Elt F) Name U Lvl)) [EC.LandsIn (upEmb : UEmb _ (MT nD τ sig Ix (Elt F) Name U Lvl))] {defs : Defs nD τ sig (Elt F) Λ} (𝒱 : Variants) (c : Thread nD τ) (bd : Option 𝒱.V)
variable {α : Type} {Q : α → sProp (MT nD τ sig Ix (Elt F) Name U Lvl)}

/-- A copy from a whole array into an owned buffer, begun. -/
theorem wp_enq {sp cs : Space} {s : Shape} {e : EltTy} {src : Memref sig c.2.kind sp s e} {m : Memref sig c.2.kind cs s e} {sm : DmaSem sig}
    {hsrc : src.view.WordExact} {hdst : m.view.WordExact} {hsem : DmaTarget.Typed (nD := nD) sp (.dma sm) (.here m)}
    {k : PUnit → Prog (TpuEff nD τ sig (Elt F) Λ c.2) α} {q : PosShare TreeShare} {fs : Buf (Elt F) (src.view.loc c)}
    (ι : Ix) (N : ℕ) (hN : m.view.dmaCredit = N) (hs : 0 < s.numel) {V : s.Idx → Elt F e} {G : s.Idx → Elt F e} (hG : src.view.read (Elt F) fs = G) :
    iprop((src.view.loc c ↦{q} fs) ∗ owns c m fullShare V ∗ semVal (c, .dma sm) 0)
      ⊢ iprop((Transfers.Flight EC c (.dma sm) ι N iprop(owns c m fullShare G ∗ (src.view.loc c ↦{q} fs)) -∗ wp frame (wpE defs 𝒱 c bd) Set.univ (k ⟨⟩) Q)
          -∗ wp frame (wpE defs 𝒱 c bd) Set.univ (.op (.enqueueDma src (.here m) (.dma sm) hsrc hdst hsem) k) Q) := by
  subst hG
  iintro ⟨Hs, H, Hv⟩ Hk
  ihave H' := (show owns c m fullShare V ⊢ iprop(∃ f, ⌜m.view.read (Elt F) f = V⌝ ∗ (m.view.loc c ↦[m.view.set]{fullShare} f)) from .rfl) $$ H
  icases H' with ⟨%f, %hf, H⟩
  iapply (Transfers.wp_dmaFromWhole EC 𝒱 c bd (sm := .dma sm) (via := .same) ι N hN (by rw [← hN]; exact m.view.dmaCredit_pos hs) (Finset.Subset.refl _)) $$ [Hs H Hv]
  · isplitl [Hs]; · iexact Hs
    isplitl [H]; · iexact H
    iexact Hv
  iintro HF
  iapply Hk
  iapply (Transfers.Flight_mono EC (D := iprop((m.view.loc c ↦[m.view.set]{fullShare} (m.view.write (Elt F) f (src.view.read (Elt F) fs) Finset.univ)) ∗ (src.view.loc c ↦{q} fs))) ?_) $$ HF
  iintro ⟨H, Hs⟩
  isplitl [H]
  · have h : _ ⊢ (owns c m fullShare _ : sProp 𝕄) := owns_intro c m fullShare (m.view.write (Elt F) f (src.view.read (Elt F) fs) Finset.univ)
    rw [View.read_write_univ] at h
    iapply h $$ H
  · iexact Hs

/-- The same into a slice of an owned buffer. -/
theorem wp_enqSlice {sp cs : Space} {s sh : Shape} {e : EltTy} {m : Memref sig c.2.kind cs sh e} {r : Rect sh} {hr : ∀ a, r.stride a = 1}
    {src : Memref sig c.2.kind sp r.shape e} {sm : DmaSem sig}
    {hsrc : src.view.WordExact} {hdst : (m.slice r hr).view.WordExact} {hsem : DmaTarget.Typed (nD := nD) sp (.dma sm) (.here (m.slice r hr))}
    {k : PUnit → Prog (TpuEff nD τ sig (Elt F) Λ c.2) α} {q : PosShare TreeShare} {fs : Buf (Elt F) (src.view.loc c)}
    (ι : Ix) (N : ℕ) (hN : (m.slice r hr).view.dmaCredit = N) (hs : 0 < r.shape.numel) {V : sh.Idx → Elt F e} {G : r.shape.Idx → Elt F e} (hG : src.view.read (Elt F) fs = G) :
    iprop((src.view.loc c ↦{q} fs) ∗ owns c m fullShare V ∗ semVal (c, .dma sm) 0)
      ⊢ iprop((Transfers.Flight EC c (.dma sm) ι N iprop(owns c m fullShare (r.overlay V G) ∗ (src.view.loc c ↦{q} fs)) -∗ wp frame (wpE defs 𝒱 c bd) Set.univ (k ⟨⟩) Q)
          -∗ wp frame (wpE defs 𝒱 c bd) Set.univ (.op (.enqueueDma src (.here (m.slice r hr)) (.dma sm) hsrc hdst hsem) k) Q) := by
  subst hG
  iintro ⟨Hs, H, Hv⟩ Hk
  ihave H' := (show owns c m fullShare V ⊢ iprop(∃ f, ⌜m.view.read (Elt F) f = V⌝ ∗ (m.view.loc c ↦[m.view.set]{fullShare} f)) from .rfl) $$ H
  icases H' with ⟨%f, %hf, H⟩
  have hS : (m.slice r hr).view.set ⊆ m.view.set := by
    exact (View.set_slice (v := m.view) r) ▸ Finset.map_subset_map.mpr (Finset.subset_univ _)
  iapply (Transfers.wp_dmaFromWhole EC 𝒱 c bd (sm := .dma sm) (via := .same) (dst := m.slice r hr) (Sd := m.view.set) (fd := f) ι N hN (by rw [← hN]; exact (m.slice r hr).view.dmaCredit_pos hs) hS) $$ [Hs H Hv]
  · isplitl [Hs]; · iexact Hs
    isplitl [H]; · iexact H
    iexact Hv
  iintro HF
  iapply Hk
  iapply (Transfers.Flight_mono EC (D := iprop(((m.slice r hr).view.loc c ↦[m.view.set]{fullShare} ((m.slice r hr).view.write (Elt F) f (src.view.read (Elt F) fs) Finset.univ)) ∗ (src.view.loc c ↦{q} fs))) ?_) $$ HF
  iintro ⟨H, Hs⟩
  isplitl [H]
  · have h : _ ⊢ (owns c m fullShare _ : sProp 𝕄) := owns_intro c m fullShare ((m.slice r hr).view.write (Elt F) f (src.view.read (Elt F) fs) Finset.univ)
    have hrd : m.view.read (Elt F) ((m.slice r hr).view.write (Elt F) f (src.view.read (Elt F) fs) Finset.univ) = r.overlay V (src.view.read (Elt F) fs) := by
      funext y
      by_cases hy : y ∈ r.set
      · rw [← Rect.map_emb_univ] at hy
        obtain ⟨x, -, rfl⟩ := Finset.mem_map.mp hy
        rw [Rect.overlay_emb]
        exact View.read_slice_write_emb (v := m.view) r f _ (Finset.mem_univ x)
      · rw [Rect.overlay_of_not_mem _ _ _ hy, ← hf]
        exact View.read_slice_write_of_not_mem (v := m.view) r f _ Finset.univ (by rw [Rect.map_emb_univ]; exact hy)
    rw [hrd] at h
    iapply h $$ H
  · iexact Hs

variable {sp : Space} {N2 M2 N3 : Nat}
variable {a2 : Memref sig c.2.kind sp (T2 N2 M2) .f32} {a3 : Memref sig c.2.kind sp (T1 N3) .i32}
variable {xM : Memref sig c.2.kind .vmem (T2 112 256) .f32} {sM : Memref sig c.2.kind .vmem (T1 128) .i32}
variable {f2 : Buf (Elt F) (a2.view.loc c)} {f3 : Buf (Elt F) (a3.view.loc c)} {Y : Nat → Nat → F .f32} {BI : Nat → BitVec 32}

/-- What the copies of one full chunk deliver. -/
def dlvX (q : PosShare TreeShare) (f2 : Buf (Elt F) (a2.view.loc c)) (Y : Nat → Nat → F .f32) (xM : Memref sig c.2.kind .vmem (T2 112 256) .f32) (ro co : Nat) : sProp 𝕄 :=
  iprop(owns c xM fullShare (arr2 112 256 fun r k => Y (ro + r) (co + k)) ∗ (a2.view.loc c ↦{q} f2))
def dlvS (q : PosShare TreeShare) (f3 : Buf (Elt F) (a3.view.loc c)) (BI : Nat → BitVec 32) (sM : Memref sig c.2.kind .vmem (T1 128) .i32) (so : Nat) (SG : Nat → BitVec 32) : sProp 𝕄 :=
  iprop(owns c sM fullShare (arr1 128 (pre1 112 (fun r => BI (so + r)) SG)) ∗ (a3.view.loc c ↦{q} f3))

/-- Both copies of a full chunk begun. -/
theorem wp_start (hf2 : a2.view.read (Elt F) f2 = arr2 N2 M2 Y) (hf3 : a3.view.read (Elt F) f3 = arr1 N3 BI)
    {s2 s3 : DmaSem sig} {off2 : Fin 2 → Nat} {off3 : Fin 1 → Nat} {ro co so : Nat}
    {inb2 : ∀ a, off2 a + (T2 112 256).size a ≤ (T2 N2 M2).size a} {inb3 : ∀ a, off3 a + (T1 112).size a ≤ (T1 N3).size a}
    {inb4 : ∀ a, (![0] : Fin 1 → Nat) a + (T1 112).size a ≤ (T1 128).size a}
    (ho2 : off2 = ![ro, co]) (ho3 : off3 = ![so])
    {q2 q3 : PosShare TreeShare} (ι : Ix) {n2 n3 : ℕ} (hn2 : xM.view.dmaCredit = n2) (hn3 : (sM.slice (Rect.unit (s := T1 128) ![0] (T1 112).size inb4) (fun _ => rfl)).view.dmaCredit = n3)
    {hs2 : (a2.slice (Rect.unit (s := T2 N2 M2) off2 (T2 112 256).size inb2) (fun _ => rfl)).view.WordExact} {hd2 : xM.view.WordExact}
    {ht2 : DmaTarget.Typed (nD := nD) sp (.dma s2) (.here xM)}
    {hs3 : (a3.slice (Rect.unit (s := T1 N3) off3 (T1 112).size inb3) (fun _ => rfl)).view.WordExact} {hd3 : (sM.slice (Rect.unit (s := T1 128) ![0] (T1 112).size inb4) (fun _ => rfl)).view.WordExact}
    {ht3 : DmaTarget.Typed (nD := nD) sp (.dma s3) (.here (sM.slice (Rect.unit (s := T1 128) ![0] (T1 112).size inb4) (fun _ => rfl)))}
    {prog K : Prog (TpuEff nD τ sig (Elt F) Λ c.2) α}
    (hprog : prog = .op (.enqueueDma (a2.slice (Rect.unit (s := T2 N2 M2) off2 (T2 112 256).size inb2) (fun _ => rfl)) (.here xM) (.dma s2) hs2 hd2 ht2)
      fun _ => .op (.enqueueDma (a3.slice (Rect.unit (s := T1 N3) off3 (T1 112).size inb3) (fun _ => rfl)) (.here (sM.slice (Rect.unit (s := T1 128) ![0] (T1 112).size inb4) (fun _ => rfl))) (.dma s3) hs3 hd3 ht3)
      fun _ => K)
    {X : Nat → Nat → F .f32} {SG : Nat → BitVec 32} :
    (iprop((a2.view.loc c ↦{q2} f2) ∗ (a3.view.loc c ↦{q3} f3) ∗ owns c xM fullShare (arr2 112 256 X) ∗ owns c sM fullShare (arr1 128 SG)
        ∗ semVal (c, .dma s2) 0 ∗ semVal (c, .dma s3) 0) : sProp 𝕄)
      ⊢ iprop((iprop(Transfers.Flight EC c (.dma s2) ι n2 (dlvX c (a2 := a2) q2 f2 Y xM ro co)
            ∗ Transfers.Flight EC c (.dma s3) ι n3 (dlvS c (a3 := a3) q3 f3 BI sM so SG)) -∗ wp frame (wpE defs 𝒱 c bd) Set.univ K Q)
          -∗ wp frame (wpE defs 𝒱 c bd) Set.univ prog Q) := by
  subst hprog
  iintro ⟨H2, H3, HX, HS, Hv2, Hv3⟩ Hk
  iapply (wp_enq EC 𝒱 c bd (src := a2.slice (Rect.unit (s := T2 N2 M2) off2 (T2 112 256).size inb2) (fun _ => rfl)) (fs := f2) ι n2 hn2 (numel_pos2 112 256 (by decide) (by decide))
    (G := arr2 112 256 fun r k => Y (ro + r) (co + k)) (by rw [← emb_arr2 inb2 ho2 Y, ← hf2]; rfl)) $$ [H2 HX Hv2]
  · isplitl [H2]; · iexact H2
    isplitl [HX]; · iexact HX
    iexact Hv2
  iintro HF2
  iapply (wp_enqSlice EC 𝒱 c bd (s := T1 112) (m := sM) (src := a3.slice (Rect.unit (s := T1 N3) off3 (T1 112).size inb3) (fun _ => rfl)) (fs := f3) ι n3 hn3 (numel_pos1 112 (by decide))
    (G := arr1 112 fun r => BI (so + r)) (by rw [← emb_arr1 inb3 ho3 BI, ← hf3]; rfl)) $$ [H3 HS Hv3]
  · isplitl [H3]; · iexact H3
    isplitl [HS]; · iexact HS
    iexact Hv3
  iintro HF3
  iapply Hk
  isplitl [HF2]; · iexact HF2
  have h := overlay_pre1 inb4 SG (fun r => BI (so + r))
  unfold dlvS
  rw [← h]
  iexact HF3

/-- The two copies of eight further rows, each awaited at once. -/
theorem wp_short (EC : UEmb Counters (MT nD τ sig Ix (Elt F) Name U Lvl)) [EC.LandsIn (upEmb : UEmb _ (MT nD τ sig Ix (Elt F) Name U Lvl))] (hf2 : a2.view.read (Elt F) f2 = arr2 N2 M2 Y) (hf3 : a3.view.read (Elt F) f3 = arr1 N3 BI)
    {s2 s3 : DmaSem sig} {off2 : Fin 2 → Nat} {off3 : Fin 1 → Nat} {ro co so : Nat}
    {inb2 : ∀ a, off2 a + (T2 8 256).size a ≤ (T2 N2 M2).size a} {inb3 : ∀ a, off3 a + (T1 8).size a ≤ (T1 N3).size a}
    {inb4 : ∀ a, (![0] : Fin 1 → Nat) a + (T1 8).size a ≤ (T1 128).size a}
    {inb5 : ∀ a, (![0, 0] : Fin 2 → Nat) a + (T2 8 256).size a ≤ (T2 112 256).size a}
    (ho2 : off2 = ![ro, co]) (ho3 : off3 = ![so])
    {q2 q3 : PosShare TreeShare} (ι : Ix)
    {hs2 hs2' : (a2.slice (Rect.unit (s := T2 N2 M2) off2 (T2 8 256).size inb2) (fun _ => rfl)).view.WordExact} {hd2 hd2' : (xM.slice (Rect.unit (s := T2 112 256) ![0, 0] (T2 8 256).size inb5) (fun _ => rfl)).view.WordExact}
    {ht2 : DmaTarget.Typed (nD := nD) sp (.dma s2) (.here (xM.slice (Rect.unit (s := T2 112 256) ![0, 0] (T2 8 256).size inb5) (fun _ => rfl)))}
    {hs3 hs3' : (a3.slice (Rect.unit (s := T1 N3) off3 (T1 8).size inb3) (fun _ => rfl)).view.WordExact} {hd3 hd3' : (sM.slice (Rect.unit (s := T1 128) ![0] (T1 8).size inb4) (fun _ => rfl)).view.WordExact}
    {ht3 : DmaTarget.Typed (nD := nD) sp (.dma s3) (.here (sM.slice (Rect.unit (s := T1 128) ![0] (T1 8).size inb4) (fun _ => rfl)))}
    {prog K : Prog (TpuEff nD τ sig (Elt F) Λ c.2) α}
    (hprog : prog = .op (.enqueueDma (a2.slice (Rect.unit (s := T2 N2 M2) off2 (T2 8 256).size inb2) (fun _ => rfl)) (.here (xM.slice (Rect.unit (s := T2 112 256) ![0, 0] (T2 8 256).size inb5) (fun _ => rfl))) (.dma s2) hs2 hd2 ht2)
      fun _ => .op (.waitDma2 s2 (a2.slice (Rect.unit (s := T2 N2 M2) off2 (T2 8 256).size inb2) (fun _ => rfl)) (xM.slice (Rect.unit (s := T2 112 256) ![0, 0] (T2 8 256).size inb5) (fun _ => rfl)) hs2' hd2')
      fun _ => .op (.enqueueDma (a3.slice (Rect.unit (s := T1 N3) off3 (T1 8).size inb3) (fun _ => rfl)) (.here (sM.slice (Rect.unit (s := T1 128) ![0] (T1 8).size inb4) (fun _ => rfl))) (.dma s3) hs3 hd3 ht3)
      fun _ => .op (.waitDma2 s3 (a3.slice (Rect.unit (s := T1 N3) off3 (T1 8).size inb3) (fun _ => rfl)) (sM.slice (Rect.unit (s := T1 128) ![0] (T1 8).size inb4) (fun _ => rfl)) hs3' hd3')
      fun _ => K)
    {X : Nat → Nat → F .f32} {SG : Nat → BitVec 32} {O : CellTallies nD τ sig Ix} {W : Waits sig Ix} :
    (iprop((a2.view.loc c ↦{q2} f2) ∗ (a3.view.loc c ↦{q3} f3) ∗ owns c xM fullShare (arr2 112 256 X) ∗ owns c sM fullShare (arr1 128 SG)
        ∗ semVal (c, .dma s2) 0 ∗ semVal (c, .dma s3) 0 ∗ owes c O W ∗ Transfers.MayWaits c ι O) : sProp 𝕄)
      ⊢ iprop((iprop((a2.view.loc c ↦{q2} f2) ∗ (a3.view.loc c ↦{q3} f3)
            ∗ owns c xM fullShare (arr2 112 256 (pre1 8 (fun r k => Y (ro + r) (co + k)) X)) ∗ owns c sM fullShare (arr1 128 (pre1 8 (fun r => BI (so + r)) SG))
            ∗ semVal (c, .dma s2) 0 ∗ semVal (c, .dma s3) 0 ∗ owes c O (insert (SemLoc.dma s3, ι) (insert (SemLoc.dma s2, ι) W))) -∗ wp frame (wpE defs 𝒱 c bd) Set.univ K Q)
          -∗ wp frame (wpE defs 𝒱 c bd) Set.univ prog Q) := by
  subst hprog
  iintro ⟨H2, H3, HX, HS, Hv2, Hv3, HO, #HW⟩ Hk
  ihave HW2 := (Transfers.MayWaits.elim (.dma s2)) $$ HW
  ihave HW3 := (Transfers.MayWaits.elim (.dma s3)) $$ HW
  iapply (wp_enqSlice EC 𝒱 c bd (s := T2 8 256) (m := xM) (r := Rect.unit (s := T2 112 256) ![0, 0] (T2 8 256).size inb5) (hr := fun _ => rfl) (q := q2) (V := arr2 112 256 X) (src := a2.slice (Rect.unit (s := T2 N2 M2) off2 (T2 8 256).size inb2) (fun _ => rfl)) (fs := f2) ι _ rfl (numel_pos2 8 256 (by decide) (by decide))
    (G := arr2 8 256 fun r k => Y (ro + r) (co + k)) (by rw [← emb_arr2 inb2 ho2 Y, ← hf2]; rfl)) $$ [H2 HX Hv2]
  · isplitl [H2]; · iexact H2
    isplitl [HX]; · iexact HX
    iexact Hv2
  iintro HF2
  iapply (Transfers.wp_waitLocalO EC 𝒱 c bd ι rfl) $$ [HF2 HO HW2]
  · isplitl [HF2]; · iexact HF2
    isplitl [HO]; · iexact HO
    iexact HW2
  iintro ⟨⟨HX, H2⟩, Hv2, HO⟩
  iapply (wp_enqSlice EC 𝒱 c bd (s := T1 8) (m := sM) (r := Rect.unit (s := T1 128) ![0] (T1 8).size inb4) (hr := fun _ => rfl) (q := q3) (V := arr1 128 SG) (src := a3.slice (Rect.unit (s := T1 N3) off3 (T1 8).size inb3) (fun _ => rfl)) (fs := f3) ι _ rfl (numel_pos1 8 (by decide))
    (G := arr1 8 fun r => BI (so + r)) (by rw [← emb_arr1 inb3 ho3 BI, ← hf3]; rfl)) $$ [H3 HS Hv3]
  · isplitl [H3]; · iexact H3
    isplitl [HS]; · iexact HS
    iexact Hv3
  iintro HF3
  iapply (Transfers.wp_waitLocalO EC 𝒱 c bd ι rfl) $$ [HF3 HO HW3]
  · isplitl [HF3]; · iexact HF3
    isplitl [HO]; · iexact HO
    iexact HW3
  iintro ⟨⟨HS, H3⟩, Hv3, HO⟩
  rw [overlay_pre1 inb4 SG (fun r => BI (so + r)), overlay_pre2 inb5 X (fun r k => Y (ro + r) (co + k))]
  iapply Hk
  isplitl [H2]; · iexact H2
  isplitl [H3]; · iexact H3
  isplitl [HX]; · iexact HX
  isplitl [HS]; · iexact HS
  isplitl [Hv2]; · iexact Hv2
  isplitl [Hv3]; · iexact Hv3
  iexact HO

theorem rsteps_congr (z : F .f32) {SG SG' : Nat → BitVec 32} {X X' : Nat → Nat → F .f32} {N : Nat} (hS : ∀ r, r < N → SG r = SG' r) (hX : ∀ r, r < N → X r = X' r)
    (s : St F) (b : Nat) : ∀ n, b + n ≤ N → rsteps z SG X s b n = rsteps z SG' X' s b n := by
  intro n
  induction n with
  | zero => intro _; rfl
  | succ n ih =>
    intro h
    rw [rsteps_succ, rsteps_succ, ih (by omega)]
    unfold rstep
    rw [hS _ (by omega), hX _ (by omega)]

theorem chunkA_congr (z : F .f32) {SG SG' : Nat → BitVec 32} {X X' : Nat → Nat → F .f32} {N : Nat} (hN : 0 < N) (hS : ∀ r, r < N → SG r = SG' r) (hX : ∀ r, r < N → X r = X' r)
    (A : Nat → Nat → F .f32) : chunkA z SG X A N = chunkA z SG' X' A N := by
  unfold chunkA
  rw [hS 0 hN, rsteps_congr z hS hX _ 0 N (by omega)]
end Cert.Proof.Rows
-- ==== Proof.Stage.lean ====
/-
  A tile's two pairs of buffers, each idle or with a chunk in flight; the accumulator zeroed, and the value it
  holds after the chunks of a tile.
-/
module
public import proofs.«01_k».proof.Proof.Copies
public import proofs.«01_k».proof.Proof.Sizes
@[expose] public section
noncomputable section
namespace Cert.Proof.Rows
open Idealize.ShloMosaic
open Idealize.SL Idealize.SL.RA Idealize.SL.BI
open scoped Idealize.SL.BI
open Idealize.SL.BI.BIBase Idealize.SL.BI.Laws Idealize.SL.ProofMode Idealize.SL.Sem

section Value
variable {F : FTy → Type} [FloatOps F]

/-- The accumulator after `n` chunks of `N` rows, chunk `g` with segment ids `S g` and rows `X g`. -/
def accC (z : F .f32) (S : Nat → Nat → BitVec 32) (X : Nat → Nat → Nat → F .f32) (N : Nat) (A : Nat → Nat → F .f32) : Nat → Nat → Nat → F .f32
  | 0 => A
  | n + 1 => chunkA z (S n) (X n) (accC z S X N A n) N

/-- What tile `s` accumulates over the columns from `co` on: the rows `Y`, the segment ids `B`. -/
def tileA (z : F .f32) (Y : Nat → Nat → F .f32) (B : Nat → BitVec 32) (s co : Nat) : Nat → Nat → F .f32 :=
  accC z (fun t r => B (3136 * s + 112 * nFull s + 8 * t + r)) (fun t r k => Y (3136 * s + 112 * nFull s + 8 * t + r) (co + k)) 8
    (accC z (fun g r => B (3136 * s + 112 * g + r)) (fun g r k => Y (3136 * s + 112 * g + r) (co + k)) 112 (fun _ _ => z) (nFull s)) (nTail s)

/-- The accumulator with its first `k` blocks of sixteen words zeroed. -/
def zeroed (z : F .f32) (A : Nat → Nat → F .f32) (k : Nat) : Nat → Nat → F .f32 := fun r i => if 16 * r + i / 16 < k then z else A r i

theorem overlay_zero {A : Nat → Nat → F .f32} {z : F .f32} {k : Nat} {o : Fin 2 → Nat} (h : ∀ a, o a + T1x16.size a ≤ (T2 256 256).size a)
    (ho : o = ![k / 16, 16 * (k % 16)]) :
    (Rect.unit (s := T2 256 256) o ![1, 16] h).overlay (arr2 256 256 (zeroed z A k)) (shapeCast T1x16 (fun _ : T16.Idx => z) hc2)
      = arr2 256 256 (zeroed z A (k + 1)) := by
  subst ho
  rw [show (fun _ : T16.Idx => z) = fun l : T16.Idx => (fun _ => z) (l 0).val from rfl, cast_col (fun _ => z) hc2]
  funext y
  have hy1 : (y 1).val < 256 := (y 1).isLt
  by_cases hy : y ∈ (Rect.unit (s := T2 256 256) ![k / 16, 16 * (k % 16)] T1x16.size h).set
  · have hm := hy
    rw [← Rect.map_emb_univ] at hy
    obtain ⟨i, -, rfl⟩ := Finset.mem_map.mp hy
    rw [Rect.overlay_emb]
    have h0 : (i 0).val = 0 := by have := (i 0).isLt; simp at this; omega
    have h1 : (i 1).val < 16 := (i 1).isLt
    simp only [arr2, Rect.emb_apply]
    show _ = zeroed z A (k + 1) (k / 16 + 1 * (i 0).val) (16 * (k % 16) + 1 * (i 1).val)
    rw [h0, zeroed, if_pos (by omega)]
  · rw [Rect.overlay_of_not_mem _ _ _ hy]
    have : ¬ (16 * (y 0).val + (y 1).val / 16 = k) := by
      intro e
      apply hy
      rw [Rect.mem_set_unit]
      intro a
      match a with
      | 0 => exact ⟨by show k / 16 ≤ (y 0).val; omega, by show (y 0).val < k / 16 + 1; omega⟩
      | 1 => exact ⟨by show 16 * (k % 16) ≤ (y 1).val; omega, by show (y 1).val < 16 * (k % 16) + 16; omega⟩
    simp only [arr2, zeroed]
    by_cases hk : 16 * (y 0).val + (y 1).val / 16 < k
    · rw [if_pos hk, if_pos (by omega)]
    · rw [if_neg hk, if_neg (by omega)]

theorem zeroed_all {A : Nat → Nat → F .f32} {z : F .f32} : arr2 256 256 (zeroed z A 4096) = arr2 256 256 (fun _ _ => z) := by
  funext y
  have hy0 : (y 0).val < 256 := (y 0).isLt
  have hy1 : (y 1).val < 256 := (y 1).isLt
  simp only [arr2, zeroed]
  rw [if_pos (by omega)]
theorem zeroed_none {A : Nat → Nat → F .f32} {z : F .f32} : zeroed z A 0 = A := by
  funext r i; simp [zeroed]
end Value

variable {F : FTy → Type} [FloatOps F]
variable {nD : Nat} {τ : Topo} {sig : RefSig} {Ix : Type} [DecidableEq Ix]
variable {Name : Type} [DecidableEq Name] [Infinite Name]
variable {U : Type} [URA U] {Lvl : Type} [Preorder Lvl] {Λ : Labels}
local notation "𝕄" => MT nD τ sig Ix (Elt F) Name U Lvl

variable (EC : UEmb Counters (MT nD τ sig Ix (Elt F) Name U Lvl)) [EC.LandsIn (upEmb : UEmb _ (MT nD τ sig Ix (Elt F) Name U Lvl))]
  {defs : Defs nD τ sig (Elt F) Λ} (𝒱 : Variants) (c : Thread nD τ) (bd : Option 𝒱.V)

section Skip
variable {α : Type} {Q : α → sProp (MT nD τ sig Ix (Elt F) Name U Lvl)}

theorem wp_ret' {E : Set Name} {a : α} {prog : Prog (TpuEff nD τ sig (Elt F) Λ c.2) α} (hprog : prog = .ret a) :
    (Q a : sProp (MT nD τ sig Ix (Elt F) Name U Lvl)) ⊢ wp frame (wpE defs 𝒱 c bd) E prog Q := by
  subst hprog
  rw [wp_ret]
  iintro H
  imodintro
  iexact H

/-- A loop of no trip. -/
theorem wp_skip {σ : Type} {E : Set Name} {lb ub stp : BitVec 32} {hok : Scf.OK lb ub stp} (hT : Scf.trips lb ub stp = 0) {init : σ}
    {body : Fin (Scf.trips lb ub stp) → σ → Prog (TpuEff nD τ sig (Elt F) Λ c.2) σ} {K : σ → Prog (TpuEff nD τ sig (Elt F) Λ c.2) α}
    {prog : Prog (TpuEff nD τ sig (Elt F) Λ c.2) α} {P : sProp (MT nD τ sig Ix (Elt F) Name U Lvl)} (hprog : prog = (Scf.for lb ub stp hok init body >>= K))
    (H : P ⊢ wp frame (wpE defs 𝒱 c bd) E (K init) Q) : P ⊢ wp frame (wpE defs 𝒱 c bd) E prog Q := by
  subst hprog
  have h := Scf.wp_for_bind frame (wpE defs 𝒱 c bd) E lb ub stp hok init body (fun _ x => iprop(⌜x = init⌝ ∗ P))
    (fun k => absurd k.isLt (by omega)) (kk := K) (Q := Q)
  iintro HP
  iapply h $$ [HP]
  · isplitr
    · ipureintro; rfl
    · iexact HP
  iintro %a ⟨%ha, HP⟩
  subst ha
  iapply H $$ HP

/-- A loop entered with its invariant and left with it. -/
theorem wp_loop {E : Set Name} {lb ub stp : BitVec 32} {hok : Scf.OK lb ub stp} {T : Nat} (hT : Scf.trips lb ub stp = T) {init : PUnit}
    {body : Fin (Scf.trips lb ub stp) → PUnit → Prog (TpuEff nD τ sig (Elt F) Λ c.2) PUnit} {K : PUnit → Prog (TpuEff nD τ sig (Elt F) Λ c.2) α}
    {prog : Prog (TpuEff nD τ sig (Elt F) Λ c.2) α} (hprog : prog = (Scf.for lb ub stp hok init body >>= K))
    (I : Nat → sProp (MT nD τ sig Ix (Elt F) Name U Lvl))
    (hbody : ∀ k : Fin (Scf.trips lb ub stp), I k.val ⊢ wp frame (wpE defs 𝒱 c bd) E (body k ⟨⟩) (fun _ => I (k.val + 1)))
    (H : I T ⊢ wp frame (wpE defs 𝒱 c bd) E (K ⟨⟩) Q) : I 0 ⊢ wp frame (wpE defs 𝒱 c bd) E prog Q := by
  subst hprog hT
  have h := Scf.wp_for_bind frame (wpE defs 𝒱 c bd) E lb ub stp hok init body (fun k _ => I k)
    (fun k _ => hbody k) (kk := K) (Q := Q)
  iintro HP
  iapply h $$ HP
  iintro %a HP
  iapply H $$ HP

theorem wp_loopK {E : Set Name} {lb ub stp : BitVec 32} {hok : Scf.OK lb ub stp} {T : Nat} (hT : Scf.trips lb ub stp = T) {init : PUnit}
    {body : Fin (Scf.trips lb ub stp) → PUnit → Prog (TpuEff nD τ sig (Elt F) Λ c.2) PUnit} {K : PUnit → Prog (TpuEff nD τ sig (Elt F) Λ c.2) α}
    {prog : Prog (TpuEff nD τ sig (Elt F) Λ c.2) α} (hprog : prog = (Scf.for lb ub stp hok init body >>= K))
    (I : Nat → sProp (MT nD τ sig Ix (Elt F) Name U Lvl))
    (hbody : ∀ k : Fin (Scf.trips lb ub stp), I k.val ⊢ wp frame (wpE defs 𝒱 c bd) E (body k ⟨⟩) (fun _ => I (k.val + 1))) :
    I 0 ⊢ iprop((I T -∗ wp frame (wpE defs 𝒱 c bd) E (K ⟨⟩) Q) -∗ wp frame (wpE defs 𝒱 c bd) E prog Q) := by
  subst hprog hT
  have h := Scf.wp_for_bind frame (wpE defs 𝒱 c bd) E lb ub stp hok init body (fun k _ => I k)
    (fun k _ => hbody k) (kk := K) (Q := Q)
  iintro HP Hk
  iapply h $$ HP
  iintro %a HP
  iapply Hk $$ HP

/-- The same where the loop stands at the head of a part. -/
theorem wp_loop' {E : Set Name} {lb ub stp : BitVec 32} {hok : Scf.OK lb ub stp} {T : Nat} (hT : Scf.trips lb ub stp = T) {init : PUnit}
    {body : Fin (Scf.trips lb ub stp) → PUnit → Prog (TpuEff nD τ sig (Elt F) Λ c.2) PUnit} {β : Type} {K : PUnit → Prog (TpuEff nD τ sig (Elt F) Λ c.2) β}
    {K' : β → Prog (TpuEff nD τ sig (Elt F) Λ c.2) α}
    {prog : Prog (TpuEff nD τ sig (Elt F) Λ c.2) α} (hprog : prog = ((Scf.for lb ub stp hok init body >>= K) >>= K'))
    (I : Nat → sProp (MT nD τ sig Ix (Elt F) Name U Lvl))
    (hbody : ∀ k : Fin (Scf.trips lb ub stp), I k.val ⊢ wp frame (wpE defs 𝒱 c bd) E (body k ⟨⟩) (fun _ => I (k.val + 1)))
    (H : I T ⊢ wp frame (wpE defs 𝒱 c bd) E (K ⟨⟩ >>= K') Q) : I 0 ⊢ wp frame (wpE defs 𝒱 c bd) E prog Q := by
  refine wp_loop 𝒱 c bd hT (hok := hok) (init := init) (K := fun x => K x >>= K') (hprog.trans ?_) I hbody H
  exact LawfulMonad.bind_assoc _ _ _

/-- One block of the accumulator zeroed. -/
theorem wp_zero {m : Memref sig c.2.kind .vmem (T2 256 256) .f32} {A : Nat → Nat → F .f32} {z : F .f32} {k : Nat} {o : Fin 2 → Nat}
    {h : ∀ a, o a + T1x16.size a ≤ (T2 256 256).size a} (ho : o = ![k / 16, 16 * (k % 16)]) {E : Set Name}
    {hl : m.view.LoadsAt (Rect.unit (s := T2 256 256) o T1x16.size h).toLoadRect}
    {hx : (m.access (Rect.unit (s := T2 256 256) o T1x16.size h)).Stores Finset.univ}
    {hm : (Finset.univ : Finset (Rect.unit (s := T2 256 256) o T1x16.size h).shape.Idx) = Finset.univ ∨ ∀ a, (Rect.unit (s := T2 256 256) o T1x16.size h).stride a = 1}
    {K : Prog (TpuEff nD τ sig (Elt F) Λ c.2) α} {prog : Prog (TpuEff nD τ sig (Elt F) Λ c.2) α}
    (hprog : prog = .op (.load m (Rect.unit (s := T2 256 256) o T1x16.size h).toLoadRect hl) fun _ =>
      .op (.store m (Rect.unit (s := T2 256 256) o T1x16.size h) (shapeCast T1x16 (fun _ : T16.Idx => z) hc2) Finset.univ hx hm) fun _ => K) :
    (owns c m fullShare (arr2 256 256 (zeroed z A k)) : sProp (MT nD τ sig Ix (Elt F) Name U Lvl))
      ⊢ iprop((owns c m fullShare (arr2 256 256 (zeroed z A (k + 1))) -∗ wp frame (wpE defs 𝒱 c bd) E K Q)
          -∗ wp frame (wpE defs 𝒱 c bd) E prog Q) := by
  subst hprog
  iintro H Hk
  iapply (wp_ld (defs := defs) 𝒱 c bd E (Q := Q)) $$ H
  iintro H
  iapply (wp_st (defs := defs) 𝒱 c bd E (Q := Q)) $$ H
  iintro H
  rw [overlay_zero h ho]
  iapply Hk $$ H
end Skip

variable {sp : Space} {N2 M2 N3 : Nat}
variable {a2 : Memref sig c.2.kind sp (T2 N2 M2) .f32} {a3 : Memref sig c.2.kind sp (T1 N3) .i32}
variable {xM : Memref sig c.2.kind .vmem (T2 112 256) .f32} {sM : Memref sig c.2.kind .vmem (T1 128) .i32}
variable {f2 : Buf (Elt F) (a2.view.loc c)} {f3 : Buf (Elt F) (a3.view.loc c)} {Y : Nat → Nat → F .f32} {BI : Nat → BitVec 32}

/-- A pair of buffers with nothing in flight. -/
def idle (a2 : Memref sig c.2.kind sp (T2 N2 M2) .f32) (a3 : Memref sig c.2.kind sp (T1 N3) .i32) (q2 q3 : PosShare TreeShare)
    (f2 : Buf (Elt F) (a2.view.loc c)) (f3 : Buf (Elt F) (a3.view.loc c))
    (xM : Memref sig c.2.kind .vmem (T2 112 256) .f32) (sM : Memref sig c.2.kind .vmem (T1 128) .i32) (s2 s3 : DmaSem sig) : sProp (MT nD τ sig Ix (Elt F) Name U Lvl) :=
  iprop((a2.view.loc c ↦{q2} f2) ∗ (a3.view.loc c ↦{q3} f3) ∗ (∃ X, owns c xM fullShare (arr2 112 256 X)) ∗ (∃ SG, owns c sM fullShare (arr1 128 SG))
    ∗ semVal (c, .dma s2) 0 ∗ semVal (c, .dma s3) 0)

/-- A pair of buffers with a chunk in flight: the rows from `ro`, the ids from `so`. -/
def busy (a2 : Memref sig c.2.kind sp (T2 N2 M2) .f32) (a3 : Memref sig c.2.kind sp (T1 N3) .i32) (q2 q3 : PosShare TreeShare)
    (f2 : Buf (Elt F) (a2.view.loc c)) (f3 : Buf (Elt F) (a3.view.loc c))
    (xM : Memref sig c.2.kind .vmem (T2 112 256) .f32) (sM : Memref sig c.2.kind .vmem (T1 128) .i32) (s2 s3 : DmaSem sig)
    (ι : Ix) (n2 n3 : ℕ) (Y : Nat → Nat → F .f32) (BI : Nat → BitVec 32) (ro co so : Nat) : sProp (MT nD τ sig Ix (Elt F) Name U Lvl) :=
  iprop(Transfers.Flight EC c (.dma s2) ι n2 (dlvX c (a2 := a2) q2 f2 Y xM ro co)
    ∗ ∃ SG, Transfers.Flight EC c (.dma s3) ι n3 (dlvS c (a3 := a3) q3 f3 BI sM so SG))

variable {α : Type} {Q : α → sProp (MT nD τ sig Ix (Elt F) Name U Lvl)}

theorem wp_begin (hf2 : a2.view.read (Elt F) f2 = arr2 N2 M2 Y) (hf3 : a3.view.read (Elt F) f3 = arr1 N3 BI)
    {s2 s3 : DmaSem sig} {off2 : Fin 2 → Nat} {off3 : Fin 1 → Nat} {ro co so : Nat}
    {inb2 : ∀ a, off2 a + (T2 112 256).size a ≤ (T2 N2 M2).size a} {inb3 : ∀ a, off3 a + (T1 112).size a ≤ (T1 N3).size a}
    {inb4 : ∀ a, (![0] : Fin 1 → Nat) a + (T1 112).size a ≤ (T1 128).size a}
    (ho2 : off2 = ![ro, co]) (ho3 : off3 = ![so])
    {q2 q3 : PosShare TreeShare} (ι : Ix) {n2 n3 : ℕ} (hn2 : xM.view.dmaCredit = n2) (hn3 : (sM.slice (Rect.unit (s := T1 128) ![0] (T1 112).size inb4) (fun _ => rfl)).view.dmaCredit = n3)
    {hs2 : (a2.slice (Rect.unit (s := T2 N2 M2) off2 (T2 112 256).size inb2) (fun _ => rfl)).view.WordExact} {hd2 : xM.view.WordExact}
    {ht2 : DmaTarget.Typed (nD := nD) sp (.dma s2) (.here xM)}
    {hs3 : (a3.slice (Rect.unit (s := T1 N3) off3 (T1 112).size inb3) (fun _ => rfl)).view.WordExact} {hd3 : (sM.slice (Rect.unit (s := T1 128) ![0] (T1 112).size inb4) (fun _ => rfl)).view.WordExact}
    {ht3 : DmaTarget.Typed (nD := nD) sp (.dma s3) (.here (sM.slice (Rect.unit (s := T1 128) ![0] (T1 112).size inb4) (fun _ => rfl)))}
    {prog : Prog (TpuEff nD τ sig (Elt F) Λ c.2) α} {K : PUnit → Prog (TpuEff nD τ sig (Elt F) Λ c.2) α}
    (hprog : prog = .op (.enqueueDma (a2.slice (Rect.unit (s := T2 N2 M2) off2 (T2 112 256).size inb2) (fun _ => rfl)) (.here xM) (.dma s2) hs2 hd2 ht2)
      fun _ => .op (.enqueueDma (a3.slice (Rect.unit (s := T1 N3) off3 (T1 112).size inb3) (fun _ => rfl)) (.here (sM.slice (Rect.unit (s := T1 128) ![0] (T1 112).size inb4) (fun _ => rfl))) (.dma s3) hs3 hd3 ht3)
      K) :
    (idle c a2 a3 q2 q3 f2 f3 xM sM s2 s3 : sProp 𝕄)
      ⊢ iprop((busy EC c a2 a3 q2 q3 f2 f3 xM sM s2 s3 ι n2 n3 Y BI ro co so -∗ wp frame (wpE defs 𝒱 c bd) Set.univ (K ⟨⟩) Q)
          -∗ wp frame (wpE defs 𝒱 c bd) Set.univ prog Q) := by
  unfold idle busy
  iintro ⟨H2, H3, ⟨%X, HX⟩, ⟨%SG, HS⟩, Hv2, Hv3⟩ Hk
  iapply (wp_start EC 𝒱 c bd hf2 hf3 ho2 ho3 ι hn2 hn3 (q2 := q2) (q3 := q3) (K := K ⟨⟩) hprog) $$ [H2 H3 HX HS Hv2 Hv3]
  · isplitl [H2]; · iexact H2
    isplitl [H3]; · iexact H3
    isplitl [HX]; · iexact HX
    isplitl [HS]; · iexact HS
    isplitl [Hv2]; · iexact Hv2
    iexact Hv3
  iintro ⟨HF2, HF3⟩
  iapply Hk
  isplitl [HF2]; · iexact HF2
  iexists SG
  iexact HF3

/-- The next chunk begun where there is one. -/
theorem wp_next (hf2 : a2.view.read (Elt F) f2 = arr2 N2 M2 Y) (hf3 : a3.view.read (Elt F) f3 = arr1 N3 BI)
    {p : Prop} [dp : Decidable p] {b : Prop} [Decidable b] (hpb : p ↔ b)
    {s2 s3 : DmaSem sig} {off2 : Fin 2 → Nat} {off3 : Fin 1 → Nat} {ro co so : Nat}
    {inb2 : p → ∀ a, off2 a + (T2 112 256).size a ≤ (T2 N2 M2).size a} {inb3 : p → ∀ a, off3 a + (T1 112).size a ≤ (T1 N3).size a}
    {inb4 : ∀ a, (![0] : Fin 1 → Nat) a + (T1 112).size a ≤ (T1 128).size a}
    (ho2 : off2 = ![ro, co]) (ho3 : off3 = ![so])
    {q2 q3 : PosShare TreeShare} (ι : Ix) {n2 n3 : ℕ} (hn2 : xM.view.dmaCredit = n2) (hn3 : (sM.slice (Rect.unit (s := T1 128) ![0] (T1 112).size inb4) (fun _ => rfl)).view.dmaCredit = n3)
    {hs2 : ∀ h, (a2.slice (Rect.unit (s := T2 N2 M2) off2 (T2 112 256).size (inb2 h)) (fun _ => rfl)).view.WordExact} {hd2 : xM.view.WordExact}
    {ht2 : DmaTarget.Typed (nD := nD) sp (.dma s2) (.here xM)}
    {hs3 : ∀ h, (a3.slice (Rect.unit (s := T1 N3) off3 (T1 112).size (inb3 h)) (fun _ => rfl)).view.WordExact} {hd3 : (sM.slice (Rect.unit (s := T1 128) ![0] (T1 112).size inb4) (fun _ => rfl)).view.WordExact}
    {ht3 : DmaTarget.Typed (nD := nD) sp (.dma s3) (.here (sM.slice (Rect.unit (s := T1 128) ![0] (T1 112).size inb4) (fun _ => rfl)))}
    {prog : Prog (TpuEff nD τ sig (Elt F) Λ c.2) α} {K : PUnit → Prog (TpuEff nD τ sig (Elt F) Λ c.2) α} {A : p → Prog (TpuEff nD τ sig (Elt F) Λ c.2) α} {B : ¬ p → Prog (TpuEff nD τ sig (Elt F) Λ c.2) α}
    (hprog : prog = dite p A B)
    (hA : ∀ h, A h = .op (.enqueueDma (a2.slice (Rect.unit (s := T2 N2 M2) off2 (T2 112 256).size (inb2 h)) (fun _ => rfl)) (.here xM) (.dma s2) (hs2 h) hd2 ht2)
      fun _ => .op (.enqueueDma (a3.slice (Rect.unit (s := T1 N3) off3 (T1 112).size (inb3 h)) (fun _ => rfl)) (.here (sM.slice (Rect.unit (s := T1 128) ![0] (T1 112).size inb4) (fun _ => rfl))) (.dma s3) (hs3 h) hd3 ht3)
      K)
    (hB : ∀ h, B h = K ⟨⟩) :
    (idle c a2 a3 q2 q3 f2 f3 xM sM s2 s3 : sProp 𝕄)
      ⊢ iprop(((if b then busy EC c a2 a3 q2 q3 f2 f3 xM sM s2 s3 ι n2 n3 Y BI ro co so else idle c a2 a3 q2 q3 f2 f3 xM sM s2 s3) -∗ wp frame (wpE defs 𝒱 c bd) Set.univ (K ⟨⟩) Q)
          -∗ wp frame (wpE defs 𝒱 c bd) Set.univ prog Q) := by
  by_cases h : p
  · rw [if_pos (hpb.mp h)]
    exact wp_begin EC 𝒱 c bd hf2 hf3 ho2 ho3 ι hn2 hn3 (hprog.trans ((dif_pos h).trans (hA h)))
  · rw [if_neg (fun hb => h (hpb.mpr hb)), hprog, dif_neg h, hB h]
    iintro H Hk
    iapply Hk $$ H

/-- What a chunk's two landings hand over. -/
theorem dlv_split {q2 q3 : PosShare TreeShare} {ro co so : Nat} {SG : Nat → BitVec 32} :
    iprop(dlvX c (a2 := a2) q2 f2 Y xM ro co ∗ dlvS c (a3 := a3) q3 f3 BI sM so SG ∗ emp)
      ⊢ (iprop(owns c xM fullShare (arr2 112 256 fun r k => Y (ro + r) (co + k)) ∗ owns c sM fullShare (arr1 128 (pre1 112 (fun r => BI (so + r)) SG))
          ∗ ((a2.view.loc c ↦{q2} f2) ∗ (a3.view.loc c ↦{q3} f3))) : sProp 𝕄) := by
  unfold dlvX dlvS
  iintro ⟨⟨HX, H2⟩, ⟨HS, H3⟩, -⟩
  isplitl [HX]; · iexact HX
  isplitl [HS]; · iexact HS
  isplitl [H2]; · iexact H2
  iexact H3

theorem idle_intro {q2 q3 : PosShare TreeShare} {s2 s3 : DmaSem sig} {X : Nat → Nat → F .f32} {SG : Nat → BitVec 32} :
    iprop((a2.view.loc c ↦{q2} f2) ∗ (a3.view.loc c ↦{q3} f3) ∗ owns c xM fullShare (arr2 112 256 X) ∗ owns c sM fullShare (arr1 128 SG)
      ∗ semVal (c, .dma s2) 0 ∗ semVal (c, .dma s3) 0) ⊢ (idle c a2 a3 q2 q3 f2 f3 xM sM s2 s3 : sProp 𝕄) := by
  unfold idle
  iintro ⟨H2, H3, HX, HS, Hv2, Hv3⟩
  isplitl [H2]; · iexact H2
  isplitl [H3]; · iexact H3
  isplitl [HX]; · iexists X; iexact HX
  isplitl [HS]; · iexists SG; iexact HS
  isplitl [Hv2]; · iexact Hv2
  iexact Hv3

/-- What a thread owes, its waits so far those of `W` and others at `ι`. -/
def owed (ι : Ix) (O : CellTallies nD τ sig Ix) (W : Waits sig Ix) : sProp (MT nD τ sig Ix (Elt F) Name U Lvl) :=
  iprop(∃ W', ⌜∀ p ∈ W', p ∈ W ∨ p.2 = ι⌝ ∗ owes c O W')

theorem owed_elim {ι : Ix} {O : CellTallies nD τ sig Ix} {W : Waits sig Ix} :
    (owed c ι O W : sProp 𝕄) ⊢ iprop(∃ W', ⌜∀ p ∈ W', p ∈ W ∨ p.2 = ι⌝ ∗ owes c O W') := .rfl
theorem busy_elim {q2 q3 : PosShare TreeShare} {s2 s3 : DmaSem sig} {ι : Ix} {n2 n3 ro co so : ℕ} :
    (busy EC c a2 a3 q2 q3 f2 f3 xM sM s2 s3 ι n2 n3 Y BI ro co so : sProp 𝕄)
      ⊢ iprop(Transfers.Flight EC c (.dma s2) ι n2 (dlvX c (a2 := a2) q2 f2 Y xM ro co)
        ∗ ∃ SG, Transfers.Flight EC c (.dma s3) ι n3 (dlvS c (a3 := a3) q3 f3 BI sM so SG)) := .rfl
theorem idle_elim {q2 q3 : PosShare TreeShare} {s2 s3 : DmaSem sig} :
    (idle c a2 a3 q2 q3 f2 f3 xM sM s2 s3 : sProp 𝕄)
      ⊢ iprop((a2.view.loc c ↦{q2} f2) ∗ (a3.view.loc c ↦{q3} f3) ∗ (∃ X, owns c xM fullShare (arr2 112 256 X)) ∗ (∃ SG, owns c sM fullShare (arr1 128 SG))
        ∗ semVal (c, .dma s2) 0 ∗ semVal (c, .dma s3) 0) := .rfl

theorem owed_intro {ι : Ix} {O : CellTallies nD τ sig Ix} {W : Waits sig Ix} : owes c O W ⊢ (owed c ι O W : sProp 𝕄) := by
  unfold owed
  iintro H
  iexists W
  isplitr
  · ipureintro; exact fun p hp => .inl hp
  · iexact H
theorem owed_more {ι : Ix} {O : CellTallies nD τ sig Ix} {W W' : Waits sig Ix} (hW : ∀ p ∈ W', p ∈ W ∨ p.2 = ι) (s₁ s₂ : SemLoc sig) :
    owes c O (insert (s₁, ι) (insert (s₂, ι) W')) ⊢ (owed c ι O W : sProp 𝕄) := by
  unfold owed
  iintro H
  iexists _
  isplitr
  rotate_left
  · iexact H
  ipureintro
  intro p hp
  rcases Finset.mem_insert.mp hp with rfl | hp
  · exact .inr rfl
  rcases Finset.mem_insert.mp hp with rfl | hp
  · exact .inr rfl
  exact hW p hp
theorem owed_more1 {ι : Ix} {O : CellTallies nD τ sig Ix} {W W' : Waits sig Ix} (hW : ∀ p ∈ W', p ∈ W ∨ p.2 = ι) (s₁ : SemLoc sig) :
    owes c O (insert (s₁, ι) W') ⊢ (owed c ι O W : sProp 𝕄) := by
  unfold owed
  iintro H
  iexists _
  isplitr
  rotate_left
  · iexact H
  ipureintro
  intro p hp
  rcases Finset.mem_insert.mp hp with rfl | hp
  · exact .inr rfl
  exact hW p hp
end Cert.Proof.Rows
-- ==== Proof.Blk1A.lean ====
module
public import proofs.«01_k».proof.KernelIdeal
public import proofs.«01_k».proof.Proof.Gen.KernelIdeal
public import proofs.«01_k».proof.Proof.Chunk
@[expose] public section
set_option pp.maxSteps 300
noncomputable section
namespace Cert.Proof.Blk1A
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} {𝒱 : Variants} {bd : Option 𝒱.V}
local notation "𝕄" => MT nD τ sig Ix (Elt F) Name U Lvl

theorem c4_eq (p t b : BitVec 32) : k1_cond4 p t b = eqC p t b := rfl
theorem c5_eq (p v : BitVec 32) : k1_cond5 p v = neC v p := rfl
attribute [local irreducible] k1_cond3 k1_cond4 k1_cond5

/-- One chunk, as printed: the two waits, the rows, the last flush. -/
def prog (i : grid1.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (v7 : FVec F S16 .f32) (k1_t2 : Fin (k1_t2_loop i).trips) (v43 : BitVec 32) (k1_h3 : k1_cond3 i k1_t2 = 1#1)
    (K2 : Prog (TpuEff nD τ sig (Elt F) Λ₀ (.scVector ((i 0).castLE hcore1) ((i 1).castLE hsub1))) PUnit) :
    Prog (TpuEff nD τ sig (Elt F) Λ₀ (.scVector ((i 0).castLE hcore1) ((i 1).castLE hsub1))) PUnit := do
  let ⟨v70_0, v70_4, v70_5, v70_6, v70_7, v70_8, v70_9, v70_10, v70_11, v70_12, v70_13, v70_14, v70_15, v70_16, k1_hw6, v83⟩ : Σ' (v70_0 : BitVec 32) (v70_4 : FVec F S16 .f32) (v70_5 : FVec F S16 .f32) (v70_6 : FVec F S16 .f32) (v70_7 : FVec F S16 .f32) (v70_8 : FVec F S16 .f32) (v70_9 : FVec F S16 .f32) (v70_10 : FVec F S16 .f32) (v70_11 : FVec F S16 .f32) (v70_12 : FVec F S16 .f32) (v70_13 : FVec F S16 .f32) (v70_14 : FVec F S16 .f32) (v70_15 : FVec F S16 .f32) (v70_16 : FVec F S16 .f32) (k1_hw6 : k1_chk6 i k1_t2 v70_0), FVec F S16 .f32 ← k1_part37 i arg2 harg2 arg3 harg3 arg4 harg4 arg5 harg5 arg6 harg6 arg7 harg7 arg8 harg8 arg9 harg9 arg10 arg11 arg12 arg13 v137_r0 v137_r1 v137_r2 v137_r3 v42_r4 v0 v7 k1_t2 v43 k1_h3
  let v113 : FVec F S16 .f32 ← k1_part38 i arg2 harg2 arg3 harg3 arg4 harg4 arg5 harg5 arg6 harg6 arg7 harg7 arg8 harg8 arg9 harg9 arg10 arg11 arg12 arg13 v137_r0 v137_r1 v137_r2 v137_r3 v42_r4 k1_t2 k1_h3 v70_0 v70_4 v70_5 v70_6 v70_7 v70_8 v70_9 k1_hw6 v83
  let v143 : FVec F S16 .f32 ← k1_part39 i arg2 harg2 arg3 harg3 arg4 harg4 arg5 harg5 arg6 harg6 arg7 harg7 arg8 harg8 arg9 harg9 arg10 arg11 arg12 arg13 v137_r0 v137_r1 v137_r2 v137_r3 v42_r4 k1_t2 k1_h3 v70_0 v70_10 v70_11 v70_12 v70_13 v70_14 v70_15 k1_hw6 v113
  let c224_52 : Index := 224#32
  let v145_ld : Vec F S1x16 .f32 ← Prog.lift (.load arg9 (Rect.unit (s := S256x256) (k1_off103 v70_0) S1x16.size (k1_off103_inb i k1_t2 v70_0 k1_hw6 k1_h3)).toLoadRect (View.loadsAt_vmem h_S1x16))
  have v145 : Vec F S16 .f32 := shapeCast S16 v145_ld shapeCasts_S1x16_S16
  Prog.lift (.store arg9 (Rect.unit (s := S256x256) (k1_off103 v70_0) S1x16.size (k1_off103_inb i k1_t2 v70_0 k1_hw6 k1_h3)) (shapeCast S1x16 v143 shapeCasts_S16_S1x16) Finset.univ (View.stores_vmem_bits_univ h_S1x16 rfl) (.inl rfl))
  let v146 : Index := Scalar.indexCast v70_0
  let c240 : Index := 240#32
  let v147_ld : Vec F S1x16 .f32 ← Prog.lift (.load arg9 (Rect.unit (s := S256x256) (k1_off104 v70_0) S1x16.size (k1_off104_inb i k1_t2 v70_0 k1_hw6 k1_h3)).toLoadRect (View.loadsAt_vmem h_S1x16))
  have v147 : Vec F S16 .f32 := shapeCast S16 v147_ld shapeCasts_S1x16_S16
  have v148 : FVec F S16 .f32 := addf v147 v70_16
  let v149 : Index := Scalar.indexCast v70_0
  let c240_53 : Index := 240#32
  let v150_ld : Vec F S1x16 .f32 ← Prog.lift (.load arg9 (Rect.unit (s := S256x256) (k1_off104 v70_0) S1x16.size (k1_off104_inb i k1_t2 v70_0 k1_hw6 k1_h3)).toLoadRect (View.loadsAt_vmem h_S1x16))
  have v150 : Vec F S16 .f32 := shapeCast S16 v150_ld shapeCasts_S1x16_S16
  Prog.lift (.store arg9 (Rect.unit (s := S256x256) (k1_off104 v70_0) S1x16.size (k1_off104_inb i k1_t2 v70_0 k1_hw6 k1_h3)) (shapeCast S1x16 v148 shapeCasts_S16_S1x16) Finset.univ (View.stores_vmem_bits_univ h_S1x16 rfl) (.inl rfl))
  K2

abbrev thr (d : Dev nD) (i : grid1.Coords) : Thread nD τ := (d, .scVector ((i 0).castLE hcore1) ((i 1).castLE hsub1))

set_option maxHeartbeats 1000000 in
theorem wp_prog (EC : UEmb Counters 𝕄) [EC.LandsIn (upEmb : UEmb _ 𝕄)] (d : Dev nD) {Q : PUnit → sProp 𝕄} (i : grid1.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (z : F .f32) (k1_t2 : Fin (k1_t2_loop i).trips) (v43 : BitVec 32) (k1_h3 : k1_cond3 i k1_t2 = 1#1)
    {K2 : Prog (TpuEff nD τ sig (Elt F) Λ₀ (.scVector ((i 0).castLE hcore1) ((i 1).castLE hsub1))) PUnit}
    {SG : Nat → BitVec 32} {X A : Nat → Nat → F .f32} (hSG : ∀ r, r < 112 → (SG r).toNat < 256)
    (ι : Ix) {N1 N2 : ℕ} (hN1 : arg5.view.dmaCredit = N1) (hN2 : (arg7.slice (Rect.unit (s := S128) ![0] S112.size inb_S128_S112_0) (fun _ => rfl)).view.dmaCredit = N2)
    {O : CellTallies nD τ sig Ix} {W : Waits sig Ix} {D1 D2 R D' : sProp 𝕄}
    (hD : iprop(D1 ∗ D2 ∗ R) ⊢ iprop(owns (thr d i) arg5 fullShare (arr2 112 256 X) ∗ owns (thr d i) arg7 fullShare (arr1 128 SG) ∗ D')) :
    iprop(Transfers.Flight EC (thr d i) (.dma arg10.sem) ι N1 D1 ∗ Transfers.Flight EC (thr d i) (.dma arg12.sem) ι N2 D2 ∗ R
        ∗ owns (thr d i) arg9 fullShare (arr2 256 256 A) ∗ owes (thr d i) O W ∗ Transfers.MayWaits (thr d i) ι O)
      ⊢ iprop((iprop(bufs (thr d i) arg5 arg7 arg9 X SG (chunkA z SG X A 112) ∗ D' ∗ semVal (thr d i, .dma arg10.sem) 0 ∗ semVal (thr d i, .dma arg12.sem) 0
            ∗ owes (thr d i) O (insert (SemLoc.dma arg12.sem, ι) (insert (SemLoc.dma arg10.sem, ι) W)))
            -∗ wp frame (wpE defs 𝒱 (thr d i) bd) Set.univ K2 Q)
          -∗ wp frame (wpE defs 𝒱 (thr d i) bd) Set.univ (prog i arg2 harg2 arg3 harg3 arg4 harg4 arg5 harg5 arg6 harg6 arg7 harg7 arg8 harg8 arg9 harg9 arg10 arg11 arg12 arg13 v137_r0 v137_r1 v137_r2 v137_r3 v42_r4 v0 (fun _ => z) k1_t2 v43 k1_h3 K2) Q) := by
  have h1 : k1_chk1 i k1_t2 (fun _ => 0#32) := fun _ a x => by
    obtain rfl : a = 0 := Subsingleton.elim _ _
    show (0#32 : BitVec 32).toNat < 128
    decide
  have h6 : ∀ p : BitVec 32, p.toNat < 256 → k1_chk6 i k1_t2 p := fun p hp => ⟨fun _ => inbA p hp 0 rfl, fun _ => inbA p hp 1 rfl, fun _ => inbA p hp 2 rfl, fun _ => inbA p hp 3 rfl, fun _ => inbA p hp 4 rfl, fun _ => inbA p hp 5 rfl, fun _ => inbA p hp 6 rfl, fun _ => inbA p hp 7 rfl, fun _ => inbA p hp 8 rfl, fun _ => inbA p hp 9 rfl, fun _ => inbA p hp 10 rfl, fun _ => inbA p hp 11 rfl, fun _ => inbA p hp 12 rfl, fun _ => inbA p hp 13 rfl, fun _ => inbA p hp 14 rfl, fun _ => inbA p hp 15 rfl⟩
  refine wp_wait2 EC 𝒱 (thr d i) bd ι hN1 hN2 hD rfl ?_
  refine chunk_glue ?_
  refine wp_chunk (c := thr d i) (defs := defs) (𝒱 := 𝒱) (bd := bd) (xM := arg5) (sM := arg7) (aM := arg9) (z := z) (SG := SG) (X := X) (Q := Q) 7 16 A (by decide) hSG
    (c1 := k1_chk1 i k1_t2 (fun _ => 0#32)) (d1 := k1_chk1.dec i k1_t2 _) h1 (hx := fun h => k1_idx1_inb i k1_t2 _ h k1_h3) (hl := View.loads_vmem h_S128)
    (lb := k1_t3_loop.lb) (ub := k1_t3_loop.ub) (stp := k1_t3_loop.st) (hok := k1_t3_ok i k1_t2 k1_h3) (by decide)
    (c6 := fun p => k1_chk6 i k1_t2 p) (d6 := fun p => k1_chk6.dec i k1_t2 p) h6
    (fun p h => ![⟨k1_off89 p, k1_off89_inb i k1_t2 p h k1_h3⟩, ⟨k1_off90 p, k1_off90_inb i k1_t2 p h k1_h3⟩, ⟨k1_off91 p, k1_off91_inb i k1_t2 p h k1_h3⟩, ⟨k1_off92 p, k1_off92_inb i k1_t2 p h k1_h3⟩, ⟨k1_off93 p, k1_off93_inb i k1_t2 p h k1_h3⟩, ⟨k1_off94 p, k1_off94_inb i k1_t2 p h k1_h3⟩, ⟨k1_off95 p, k1_off95_inb i k1_t2 p h k1_h3⟩, ⟨k1_off96 p, k1_off96_inb i k1_t2 p h k1_h3⟩, ⟨k1_off97 p, k1_off97_inb i k1_t2 p h k1_h3⟩, ⟨k1_off98 p, k1_off98_inb i k1_t2 p h k1_h3⟩, ⟨k1_off99 p, k1_off99_inb i k1_t2 p h k1_h3⟩, ⟨k1_off100 p, k1_off100_inb i k1_t2 p h k1_h3⟩, ⟨k1_off101 p, k1_off101_inb i k1_t2 p h k1_h3⟩, ⟨k1_off102 p, k1_off102_inb i k1_t2 p h k1_h3⟩, ⟨k1_off103 p, k1_off103_inb i k1_t2 p h k1_h3⟩, ⟨k1_off104 p, k1_off104_inb i k1_t2 p h k1_h3⟩]) (fun p h j => by fin_cases j <;> rfl)
    rfl (fun h f p cr => rfl) (fun k1_t3 s hp => ?_)
  have hk3 : k1_t3.val < 7 := lt_of_lt_of_eq k1_t3.isLt (by decide)
  have ht4 : Scf.trips (k1_t4_loop k1_t3).lb (k1_t4_loop k1_t3).ub (k1_t4_loop k1_t3).st = 16 := by
    revert k1_t3; decide
  have ht5 : Scf.trips (k1_t5_loop k1_t3).lb (k1_t5_loop k1_t3).ub (k1_t5_loop k1_t3).st = 0 := by
    revert k1_t3; decide
  refine wp_group (c := thr d i) (defs := defs) (𝒱 := 𝒱) (bd := bd) (xM := arg5) (sM := arg7) (aM := arg9) (z := z) (SG := SG) (X := X) s (16 * k1_t3.val)
    (o := k1_off8 k1_t3) (by rw [← addr_g _ hk3]; rfl) (hin := k1_off8_inb i k1_t2 k1_t3 k1_h3) (hl := View.loadsAt_vmem h_S16) rfl
    (fun r => ![⟨k1_off9 k1_t3 (BitVec.ofNat 32 r.val), k1_off9_inb i k1_t2 k1_t3 k1_h3 r⟩, ⟨k1_off10 k1_t3 (BitVec.ofNat 32 r.val), k1_off10_inb i k1_t2 k1_t3 k1_h3 r⟩, ⟨k1_off11 k1_t3 (BitVec.ofNat 32 r.val), k1_off11_inb i k1_t2 k1_t3 k1_h3 r⟩, ⟨k1_off12 k1_t3 (BitVec.ofNat 32 r.val), k1_off12_inb i k1_t2 k1_t3 k1_h3 r⟩, ⟨k1_off13 k1_t3 (BitVec.ofNat 32 r.val), k1_off13_inb i k1_t2 k1_t3 k1_h3 r⟩, ⟨k1_off14 k1_t3 (BitVec.ofNat 32 r.val), k1_off14_inb i k1_t2 k1_t3 k1_h3 r⟩, ⟨k1_off15 k1_t3 (BitVec.ofNat 32 r.val), k1_off15_inb i k1_t2 k1_t3 k1_h3 r⟩, ⟨k1_off16 k1_t3 (BitVec.ofNat 32 r.val), k1_off16_inb i k1_t2 k1_t3 k1_h3 r⟩, ⟨k1_off17 k1_t3 (BitVec.ofNat 32 r.val), k1_off17_inb i k1_t2 k1_t3 k1_h3 r⟩, ⟨k1_off18 k1_t3 (BitVec.ofNat 32 r.val), k1_off18_inb i k1_t2 k1_t3 k1_h3 r⟩, ⟨k1_off19 k1_t3 (BitVec.ofNat 32 r.val), k1_off19_inb i k1_t2 k1_t3 k1_h3 r⟩, ⟨k1_off20 k1_t3 (BitVec.ofNat 32 r.val), k1_off20_inb i k1_t2 k1_t3 k1_h3 r⟩, ⟨k1_off21 k1_t3 (BitVec.ofNat 32 r.val), k1_off21_inb i k1_t2 k1_t3 k1_h3 r⟩, ⟨k1_off22 k1_t3 (BitVec.ofNat 32 r.val), k1_off22_inb i k1_t2 k1_t3 k1_h3 r⟩, ⟨k1_off23 k1_t3 (BitVec.ofNat 32 r.val), k1_off23_inb i k1_t2 k1_t3 k1_h3 r⟩, ⟨k1_off24 k1_t3 (BitVec.ofNat 32 r.val), k1_off24_inb i k1_t2 k1_t3 k1_h3 r⟩]) (fun r j => by rw [← addr_f _ _ hk3 r.isLt]; fin_cases j <;> rfl) (fun v hc => ?_) (fun v hc => ?_)
  · refine (dif_pos ((c4_eq _ _ _).trans hc)).trans rfl
  · have hc' : ¬ k1_cond4 s.p (top v) (bot v) = 1#1 := fun h => hc ((c4_eq _ _ _).symm.trans h)
    refine wp_eq (dif_neg hc') ?_
    refine wp_slow (c := thr d i) (defs := defs) (𝒱 := 𝒱) (bd := bd) (xM := arg5) (sM := arg7) (aM := arg9) (z := z) (SG := SG) (X := X) 16 (16 * k1_t3.val) s hp (fun r hr => hSG _ (by omega))
      (lb := (k1_t4_loop k1_t3).lb) (ub := (k1_t4_loop k1_t3).ub) (stp := (k1_t4_loop k1_t3).st) (hok := k1_t4_ok i k1_t2 k1_t3 k1_h3)
      (lb' := (k1_t5_loop k1_t3).lb) (ub' := (k1_t5_loop k1_t3).ub) (stp' := (k1_t5_loop k1_t3).st) (hok' := k1_t5_ok i k1_t2 k1_t3 k1_h3) ht4 ht5
      rfl (fun p cr => rfl) (fun p cr => rfl) (fun k1_t4 s hp => ?_)
    have hlt : k1_t4.val < 16 := lt_of_lt_of_eq k1_t4.isLt ht4
    have hrw : (Scf.iv ((k1_t4_loop k1_t3).lb) 1#32 k1_t4).toNat = 16 * k1_t3.val + k1_t4.val := addr_s _ _ hk3 hlt
    refine wp_row (c := thr d i) (defs := defs) (𝒱 := 𝒱) (bd := bd) (xM := arg5) (sM := arg7) (aM := arg9) (z := z) (SG := SG) (X := X) s (Scf.iv ((k1_t4_loop k1_t3).lb) 1#32 k1_t4) (16 * k1_t3.val + k1_t4.val) hrw
      (c4 := k1_chk2 i k1_t2 _ (top v) (bot v) (fun _ => Scf.iv ((k1_t4_loop k1_t3).lb) 1#32 k1_t4)) (d4 := k1_chk2.dec i k1_t2 _ _ _ _) ?_
      (fun h4 => k1_idx2_inb i k1_t2 _ (top v) (bot v) _ h4 k1_h3 hc') (hl := View.loads_vmem h_S128)
      (fun w => k1_chk3 i k1_t2 _ (top v) (bot v) s.p w) (d5 := fun w => k1_chk3.dec i k1_t2 _ (top v) (bot v) s.p w) (fun w => ⟨fun _ _ _ => inbA s.p hp 0 rfl, fun _ _ _ => inbA s.p hp 1 rfl, fun _ _ _ => inbA s.p hp 2 rfl, fun _ _ _ => inbA s.p hp 3 rfl, fun _ _ _ => inbA s.p hp 4 rfl, fun _ _ _ => inbA s.p hp 5 rfl, fun _ _ _ => inbA s.p hp 6 rfl, fun _ _ _ => inbA s.p hp 7 rfl, fun _ _ _ => inbA s.p hp 8 rfl, fun _ _ _ => inbA s.p hp 9 rfl, fun _ _ _ => inbA s.p hp 10 rfl, fun _ _ _ => inbA s.p hp 11 rfl, fun _ _ _ => inbA s.p hp 12 rfl, fun _ _ _ => inbA s.p hp 13 rfl, fun _ _ _ => inbA s.p hp 14 rfl, fun _ _ _ => inbA s.p hp 15 rfl⟩)
      ![⟨k1_off25 s.p, inbA s.p hp 0 rfl⟩, ⟨k1_off26 s.p, inbA s.p hp 1 rfl⟩, ⟨k1_off27 s.p, inbA s.p hp 2 rfl⟩, ⟨k1_off28 s.p, inbA s.p hp 3 rfl⟩, ⟨k1_off29 s.p, inbA s.p hp 4 rfl⟩, ⟨k1_off30 s.p, inbA s.p hp 5 rfl⟩, ⟨k1_off31 s.p, inbA s.p hp 6 rfl⟩, ⟨k1_off32 s.p, inbA s.p hp 7 rfl⟩, ⟨k1_off33 s.p, inbA s.p hp 8 rfl⟩, ⟨k1_off34 s.p, inbA s.p hp 9 rfl⟩, ⟨k1_off35 s.p, inbA s.p hp 10 rfl⟩, ⟨k1_off36 s.p, inbA s.p hp 11 rfl⟩, ⟨k1_off37 s.p, inbA s.p hp 12 rfl⟩, ⟨k1_off38 s.p, inbA s.p hp 13 rfl⟩, ⟨k1_off39 s.p, inbA s.p hp 14 rfl⟩, ⟨k1_off40 s.p, inbA s.p hp 15 rfl⟩] (fun j => by fin_cases j <;> rfl)
      ![⟨k1_off41 k1_t3 k1_t4, k1_off41_inb i k1_t2 k1_t3 k1_t4 k1_h3⟩, ⟨k1_off42 k1_t3 k1_t4, k1_off42_inb i k1_t2 k1_t3 k1_t4 k1_h3⟩, ⟨k1_off43 k1_t3 k1_t4, k1_off43_inb i k1_t2 k1_t3 k1_t4 k1_h3⟩, ⟨k1_off44 k1_t3 k1_t4, k1_off44_inb i k1_t2 k1_t3 k1_t4 k1_h3⟩, ⟨k1_off45 k1_t3 k1_t4, k1_off45_inb i k1_t2 k1_t3 k1_t4 k1_h3⟩, ⟨k1_off46 k1_t3 k1_t4, k1_off46_inb i k1_t2 k1_t3 k1_t4 k1_h3⟩, ⟨k1_off47 k1_t3 k1_t4, k1_off47_inb i k1_t2 k1_t3 k1_t4 k1_h3⟩, ⟨k1_off48 k1_t3 k1_t4, k1_off48_inb i k1_t2 k1_t3 k1_t4 k1_h3⟩, ⟨k1_off49 k1_t3 k1_t4, k1_off49_inb i k1_t2 k1_t3 k1_t4 k1_h3⟩, ⟨k1_off50 k1_t3 k1_t4, k1_off50_inb i k1_t2 k1_t3 k1_t4 k1_h3⟩, ⟨k1_off51 k1_t3 k1_t4, k1_off51_inb i k1_t2 k1_t3 k1_t4 k1_h3⟩, ⟨k1_off52 k1_t3 k1_t4, k1_off52_inb i k1_t2 k1_t3 k1_t4 k1_h3⟩, ⟨k1_off53 k1_t3 k1_t4, k1_off53_inb i k1_t2 k1_t3 k1_t4 k1_h3⟩, ⟨k1_off54 k1_t3 k1_t4, k1_off54_inb i k1_t2 k1_t3 k1_t4 k1_h3⟩, ⟨k1_off55 k1_t3 k1_t4, k1_off55_inb i k1_t2 k1_t3 k1_t4 k1_h3⟩, ⟨k1_off56 k1_t3 k1_t4, k1_off56_inb i k1_t2 k1_t3 k1_t4 k1_h3⟩] (fun j => by rw [← hrw]; fin_cases j <;> rfl)
      rfl (fun h f h' hc => ?_) (fun h f h' hc => ?_)
    · intro _ _ a x
      obtain rfl : a = 0 := Subsingleton.elim _ _
      show (Scf.iv ((k1_t4_loop k1_t3).lb) 1#32 k1_t4).toNat < 128
      omega
    · exact (bind_pos1 ((c5_eq _ _).trans hc) _ _ _).trans rfl
    · exact (bind_neg1 (fun h => hc ((c5_eq _ _).symm.trans h)) _ _ _).trans rfl
end Cert.Proof.Blk1A
-- ==== Proof.Blk1B.lean ====
module
public import proofs.«01_k».proof.KernelIdeal
public import proofs.«01_k».proof.Proof.Gen.KernelIdeal
public import proofs.«01_k».proof.Proof.Chunk
@[expose] public section
set_option pp.maxSteps 300
noncomputable section
namespace Cert.Proof.Blk1B
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} {𝒱 : Variants} {bd : Option 𝒱.V}
local notation "𝕄" => MT nD τ sig Ix (Elt F) Name U Lvl

theorem c4_eq (p t b : BitVec 32) : k1_cond9 p t b = eqC p t b := rfl
theorem c5_eq (p v : BitVec 32) : k1_cond10 p v = neC v p := rfl
attribute [local irreducible] k1_cond8 k1_cond9 k1_cond10

/-- One chunk, as printed: the two waits, the rows, the last flush. -/
def prog (i : grid1.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (v7 : FVec F S16 .f32) (k1_t2 : Fin (k1_t2_loop i).trips) (v48 : BitVec 32) (k1_h8 : k1_cond8 i k1_t2 = 1#1)
    (K2 : Prog (TpuEff nD τ sig (Elt F) Λ₀ (.scVector ((i 0).castLE hcore1) ((i 1).castLE hsub1))) PUnit) :
    Prog (TpuEff nD τ sig (Elt F) Λ₀ (.scVector ((i 0).castLE hcore1) ((i 1).castLE hsub1))) PUnit := do
  let ⟨v70_0, v70_4, v70_5, v70_6, v70_7, v70_8, v70_9, v70_10, v70_11, v70_12, v70_13, v70_14, v70_15, v70_16, k1_hw12, v83⟩ : Σ' (v70_0 : BitVec 32) (v70_4 : FVec F S16 .f32) (v70_5 : FVec F S16 .f32) (v70_6 : FVec F S16 .f32) (v70_7 : FVec F S16 .f32) (v70_8 : FVec F S16 .f32) (v70_9 : FVec F S16 .f32) (v70_10 : FVec F S16 .f32) (v70_11 : FVec F S16 .f32) (v70_12 : FVec F S16 .f32) (v70_13 : FVec F S16 .f32) (v70_14 : FVec F S16 .f32) (v70_15 : FVec F S16 .f32) (v70_16 : FVec F S16 .f32) (k1_hw12 : k1_chk12 i k1_t2 v70_0), FVec F S16 .f32 ← k1_part76 i arg2 harg2 arg3 harg3 arg4 harg4 arg5 harg5 arg6 harg6 arg7 harg7 arg8 harg8 arg9 harg9 arg10 arg11 arg12 arg13 v137_r0 v137_r1 v137_r2 v137_r3 v42_r4 v0 v7 k1_t2 v48 k1_h8
  let v113 : FVec F S16 .f32 ← k1_part77 i arg2 harg2 arg3 harg3 arg4 harg4 arg5 harg5 arg6 harg6 arg7 harg7 arg8 harg8 arg9 harg9 arg10 arg11 arg12 arg13 v137_r0 v137_r1 v137_r2 v137_r3 v42_r4 k1_t2 k1_h8 v70_0 v70_4 v70_5 v70_6 v70_7 v70_8 v70_9 k1_hw12 v83
  let v143 : FVec F S16 .f32 ← k1_part78 i arg2 harg2 arg3 harg3 arg4 harg4 arg5 harg5 arg6 harg6 arg7 harg7 arg8 harg8 arg9 harg9 arg10 arg11 arg12 arg13 v137_r0 v137_r1 v137_r2 v137_r3 v42_r4 k1_t2 k1_h8 v70_0 v70_10 v70_11 v70_12 v70_13 v70_14 v70_15 k1_hw12 v113
  let c224_52 : Index := 224#32
  let v145_ld : Vec F S1x16 .f32 ← Prog.lift (.load arg9 (Rect.unit (s := S256x256) (k1_off204 v70_0) S1x16.size (k1_off204_inb i k1_t2 v70_0 k1_hw12 k1_h8)).toLoadRect (View.loadsAt_vmem h_S1x16))
  have v145 : Vec F S16 .f32 := shapeCast S16 v145_ld shapeCasts_S1x16_S16
  Prog.lift (.store arg9 (Rect.unit (s := S256x256) (k1_off204 v70_0) S1x16.size (k1_off204_inb i k1_t2 v70_0 k1_hw12 k1_h8)) (shapeCast S1x16 v143 shapeCasts_S16_S1x16) Finset.univ (View.stores_vmem_bits_univ h_S1x16 rfl) (.inl rfl))
  let v146 : Index := Scalar.indexCast v70_0
  let c240 : Index := 240#32
  let v147_ld : Vec F S1x16 .f32 ← Prog.lift (.load arg9 (Rect.unit (s := S256x256) (k1_off205 v70_0) S1x16.size (k1_off205_inb i k1_t2 v70_0 k1_hw12 k1_h8)).toLoadRect (View.loadsAt_vmem h_S1x16))
  have v147 : Vec F S16 .f32 := shapeCast S16 v147_ld shapeCasts_S1x16_S16
  have v148 : FVec F S16 .f32 := addf v147 v70_16
  let v149 : Index := Scalar.indexCast v70_0
  let c240_53 : Index := 240#32
  let v150_ld : Vec F S1x16 .f32 ← Prog.lift (.load arg9 (Rect.unit (s := S256x256) (k1_off205 v70_0) S1x16.size (k1_off205_inb i k1_t2 v70_0 k1_hw12 k1_h8)).toLoadRect (View.loadsAt_vmem h_S1x16))
  have v150 : Vec F S16 .f32 := shapeCast S16 v150_ld shapeCasts_S1x16_S16
  Prog.lift (.store arg9 (Rect.unit (s := S256x256) (k1_off205 v70_0) S1x16.size (k1_off205_inb i k1_t2 v70_0 k1_hw12 k1_h8)) (shapeCast S1x16 v148 shapeCasts_S16_S1x16) Finset.univ (View.stores_vmem_bits_univ h_S1x16 rfl) (.inl rfl))
  K2

abbrev thr (d : Dev nD) (i : grid1.Coords) : Thread nD τ := (d, .scVector ((i 0).castLE hcore1) ((i 1).castLE hsub1))

set_option maxHeartbeats 1000000 in
theorem wp_prog (EC : UEmb Counters 𝕄) [EC.LandsIn (upEmb : UEmb _ 𝕄)] (d : Dev nD) {Q : PUnit → sProp 𝕄} (i : grid1.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (z : F .f32) (k1_t2 : Fin (k1_t2_loop i).trips) (v48 : BitVec 32) (k1_h8 : k1_cond8 i k1_t2 = 1#1)
    {K2 : Prog (TpuEff nD τ sig (Elt F) Λ₀ (.scVector ((i 0).castLE hcore1) ((i 1).castLE hsub1))) PUnit}
    {SG : Nat → BitVec 32} {X A : Nat → Nat → F .f32} (hSG : ∀ r, r < 112 → (SG r).toNat < 256)
    (ι : Ix) {N1 N2 : ℕ} (hN1 : arg6.view.dmaCredit = N1) (hN2 : (arg8.slice (Rect.unit (s := S128) ![0] S112.size inb_S128_S112_0) (fun _ => rfl)).view.dmaCredit = N2)
    {O : CellTallies nD τ sig Ix} {W : Waits sig Ix} {D1 D2 R D' : sProp 𝕄}
    (hD : iprop(D1 ∗ D2 ∗ R) ⊢ iprop(owns (thr d i) arg6 fullShare (arr2 112 256 X) ∗ owns (thr d i) arg8 fullShare (arr1 128 SG) ∗ D')) :
    iprop(Transfers.Flight EC (thr d i) (.dma arg11.sem) ι N1 D1 ∗ Transfers.Flight EC (thr d i) (.dma arg13.sem) ι N2 D2 ∗ R
        ∗ owns (thr d i) arg9 fullShare (arr2 256 256 A) ∗ owes (thr d i) O W ∗ Transfers.MayWaits (thr d i) ι O)
      ⊢ iprop((iprop(bufs (thr d i) arg6 arg8 arg9 X SG (chunkA z SG X A 112) ∗ D' ∗ semVal (thr d i, .dma arg11.sem) 0 ∗ semVal (thr d i, .dma arg13.sem) 0
            ∗ owes (thr d i) O (insert (SemLoc.dma arg13.sem, ι) (insert (SemLoc.dma arg11.sem, ι) W)))
            -∗ wp frame (wpE defs 𝒱 (thr d i) bd) Set.univ K2 Q)
          -∗ wp frame (wpE defs 𝒱 (thr d i) bd) Set.univ (prog i arg2 harg2 arg3 harg3 arg4 harg4 arg5 harg5 arg6 harg6 arg7 harg7 arg8 harg8 arg9 harg9 arg10 arg11 arg12 arg13 v137_r0 v137_r1 v137_r2 v137_r3 v42_r4 v0 (fun _ => z) k1_t2 v48 k1_h8 K2) Q) := by
  have h1 : k1_chk7 i k1_t2 (fun _ => 0#32) := fun _ a x => by
    obtain rfl : a = 0 := Subsingleton.elim _ _
    show (0#32 : BitVec 32).toNat < 128
    decide
  have h6 : ∀ p : BitVec 32, p.toNat < 256 → k1_chk12 i k1_t2 p := fun p hp => ⟨fun _ => inbA p hp 0 rfl, fun _ => inbA p hp 1 rfl, fun _ => inbA p hp 2 rfl, fun _ => inbA p hp 3 rfl, fun _ => inbA p hp 4 rfl, fun _ => inbA p hp 5 rfl, fun _ => inbA p hp 6 rfl, fun _ => inbA p hp 7 rfl, fun _ => inbA p hp 8 rfl, fun _ => inbA p hp 9 rfl, fun _ => inbA p hp 10 rfl, fun _ => inbA p hp 11 rfl, fun _ => inbA p hp 12 rfl, fun _ => inbA p hp 13 rfl, fun _ => inbA p hp 14 rfl, fun _ => inbA p hp 15 rfl⟩
  refine wp_wait2 EC 𝒱 (thr d i) bd ι hN1 hN2 hD rfl ?_
  refine chunk_glue ?_
  refine wp_chunk (c := thr d i) (defs := defs) (𝒱 := 𝒱) (bd := bd) (xM := arg6) (sM := arg8) (aM := arg9) (z := z) (SG := SG) (X := X) (Q := Q) 7 16 A (by decide) hSG
    (c1 := k1_chk7 i k1_t2 (fun _ => 0#32)) (d1 := k1_chk7.dec i k1_t2 _) h1 (hx := fun h => k1_idx4_inb i k1_t2 _ h k1_h8) (hl := View.loads_vmem h_S128)
    (lb := k1_t6_loop.lb) (ub := k1_t6_loop.ub) (stp := k1_t6_loop.st) (hok := k1_t6_ok i k1_t2 k1_h8) (by decide)
    (c6 := fun p => k1_chk12 i k1_t2 p) (d6 := fun p => k1_chk12.dec i k1_t2 p) h6
    (fun p h => ![⟨k1_off190 p, k1_off190_inb i k1_t2 p h k1_h8⟩, ⟨k1_off191 p, k1_off191_inb i k1_t2 p h k1_h8⟩, ⟨k1_off192 p, k1_off192_inb i k1_t2 p h k1_h8⟩, ⟨k1_off193 p, k1_off193_inb i k1_t2 p h k1_h8⟩, ⟨k1_off194 p, k1_off194_inb i k1_t2 p h k1_h8⟩, ⟨k1_off195 p, k1_off195_inb i k1_t2 p h k1_h8⟩, ⟨k1_off196 p, k1_off196_inb i k1_t2 p h k1_h8⟩, ⟨k1_off197 p, k1_off197_inb i k1_t2 p h k1_h8⟩, ⟨k1_off198 p, k1_off198_inb i k1_t2 p h k1_h8⟩, ⟨k1_off199 p, k1_off199_inb i k1_t2 p h k1_h8⟩, ⟨k1_off200 p, k1_off200_inb i k1_t2 p h k1_h8⟩, ⟨k1_off201 p, k1_off201_inb i k1_t2 p h k1_h8⟩, ⟨k1_off202 p, k1_off202_inb i k1_t2 p h k1_h8⟩, ⟨k1_off203 p, k1_off203_inb i k1_t2 p h k1_h8⟩, ⟨k1_off204 p, k1_off204_inb i k1_t2 p h k1_h8⟩, ⟨k1_off205 p, k1_off205_inb i k1_t2 p h k1_h8⟩]) (fun p h j => by fin_cases j <;> rfl)
    rfl (fun h f p cr => rfl) (fun k1_t6 s hp => ?_)
  have hk3 : k1_t6.val < 7 := lt_of_lt_of_eq k1_t6.isLt (by decide)
  have ht4 : Scf.trips (k1_t7_loop k1_t6).lb (k1_t7_loop k1_t6).ub (k1_t7_loop k1_t6).st = 16 := by
    revert k1_t6; decide
  have ht5 : Scf.trips (k1_t8_loop k1_t6).lb (k1_t8_loop k1_t6).ub (k1_t8_loop k1_t6).st = 0 := by
    revert k1_t6; decide
  refine wp_group (c := thr d i) (defs := defs) (𝒱 := 𝒱) (bd := bd) (xM := arg6) (sM := arg8) (aM := arg9) (z := z) (SG := SG) (X := X) s (16 * k1_t6.val)
    (o := k1_off109 k1_t6) (by rw [← addr_g _ hk3]; rfl) (hin := k1_off109_inb i k1_t2 k1_t6 k1_h8) (hl := View.loadsAt_vmem h_S16) rfl
    (fun r => ![⟨k1_off110 k1_t6 (BitVec.ofNat 32 r.val), k1_off110_inb i k1_t2 k1_t6 k1_h8 r⟩, ⟨k1_off111 k1_t6 (BitVec.ofNat 32 r.val), k1_off111_inb i k1_t2 k1_t6 k1_h8 r⟩, ⟨k1_off112 k1_t6 (BitVec.ofNat 32 r.val), k1_off112_inb i k1_t2 k1_t6 k1_h8 r⟩, ⟨k1_off113 k1_t6 (BitVec.ofNat 32 r.val), k1_off113_inb i k1_t2 k1_t6 k1_h8 r⟩, ⟨k1_off114 k1_t6 (BitVec.ofNat 32 r.val), k1_off114_inb i k1_t2 k1_t6 k1_h8 r⟩, ⟨k1_off115 k1_t6 (BitVec.ofNat 32 r.val), k1_off115_inb i k1_t2 k1_t6 k1_h8 r⟩, ⟨k1_off116 k1_t6 (BitVec.ofNat 32 r.val), k1_off116_inb i k1_t2 k1_t6 k1_h8 r⟩, ⟨k1_off117 k1_t6 (BitVec.ofNat 32 r.val), k1_off117_inb i k1_t2 k1_t6 k1_h8 r⟩, ⟨k1_off118 k1_t6 (BitVec.ofNat 32 r.val), k1_off118_inb i k1_t2 k1_t6 k1_h8 r⟩, ⟨k1_off119 k1_t6 (BitVec.ofNat 32 r.val), k1_off119_inb i k1_t2 k1_t6 k1_h8 r⟩, ⟨k1_off120 k1_t6 (BitVec.ofNat 32 r.val), k1_off120_inb i k1_t2 k1_t6 k1_h8 r⟩, ⟨k1_off121 k1_t6 (BitVec.ofNat 32 r.val), k1_off121_inb i k1_t2 k1_t6 k1_h8 r⟩, ⟨k1_off122 k1_t6 (BitVec.ofNat 32 r.val), k1_off122_inb i k1_t2 k1_t6 k1_h8 r⟩, ⟨k1_off123 k1_t6 (BitVec.ofNat 32 r.val), k1_off123_inb i k1_t2 k1_t6 k1_h8 r⟩, ⟨k1_off124 k1_t6 (BitVec.ofNat 32 r.val), k1_off124_inb i k1_t2 k1_t6 k1_h8 r⟩, ⟨k1_off125 k1_t6 (BitVec.ofNat 32 r.val), k1_off125_inb i k1_t2 k1_t6 k1_h8 r⟩]) (fun r j => by rw [← addr_f _ _ hk3 r.isLt]; fin_cases j <;> rfl) (fun v hc => ?_) (fun v hc => ?_)
  · refine (dif_pos ((c4_eq _ _ _).trans hc)).trans rfl
  · have hc' : ¬ k1_cond9 s.p (top v) (bot v) = 1#1 := fun h => hc ((c4_eq _ _ _).symm.trans h)
    refine wp_eq (dif_neg hc') ?_
    refine wp_slow (c := thr d i) (defs := defs) (𝒱 := 𝒱) (bd := bd) (xM := arg6) (sM := arg8) (aM := arg9) (z := z) (SG := SG) (X := X) 16 (16 * k1_t6.val) s hp (fun r hr => hSG _ (by omega))
      (lb := (k1_t7_loop k1_t6).lb) (ub := (k1_t7_loop k1_t6).ub) (stp := (k1_t7_loop k1_t6).st) (hok := k1_t7_ok i k1_t2 k1_t6 k1_h8)
      (lb' := (k1_t8_loop k1_t6).lb) (ub' := (k1_t8_loop k1_t6).ub) (stp' := (k1_t8_loop k1_t6).st) (hok' := k1_t8_ok i k1_t2 k1_t6 k1_h8) ht4 ht5
      rfl (fun p cr => rfl) (fun p cr => rfl) (fun k1_t7 s hp => ?_)
    have hlt : k1_t7.val < 16 := lt_of_lt_of_eq k1_t7.isLt ht4
    have hrw : (Scf.iv ((k1_t7_loop k1_t6).lb) 1#32 k1_t7).toNat = 16 * k1_t6.val + k1_t7.val := addr_s _ _ hk3 hlt
    refine wp_row (c := thr d i) (defs := defs) (𝒱 := 𝒱) (bd := bd) (xM := arg6) (sM := arg8) (aM := arg9) (z := z) (SG := SG) (X := X) s (Scf.iv ((k1_t7_loop k1_t6).lb) 1#32 k1_t7) (16 * k1_t6.val + k1_t7.val) hrw
      (c4 := k1_chk8 i k1_t2 _ (top v) (bot v) (fun _ => Scf.iv ((k1_t7_loop k1_t6).lb) 1#32 k1_t7)) (d4 := k1_chk8.dec i k1_t2 _ _ _ _) ?_
      (fun h4 => k1_idx5_inb i k1_t2 _ (top v) (bot v) _ h4 k1_h8 hc') (hl := View.loads_vmem h_S128)
      (fun w => k1_chk9 i k1_t2 _ (top v) (bot v) s.p w) (d5 := fun w => k1_chk9.dec i k1_t2 _ (top v) (bot v) s.p w) (fun w => ⟨fun _ _ _ => inbA s.p hp 0 rfl, fun _ _ _ => inbA s.p hp 1 rfl, fun _ _ _ => inbA s.p hp 2 rfl, fun _ _ _ => inbA s.p hp 3 rfl, fun _ _ _ => inbA s.p hp 4 rfl, fun _ _ _ => inbA s.p hp 5 rfl, fun _ _ _ => inbA s.p hp 6 rfl, fun _ _ _ => inbA s.p hp 7 rfl, fun _ _ _ => inbA s.p hp 8 rfl, fun _ _ _ => inbA s.p hp 9 rfl, fun _ _ _ => inbA s.p hp 10 rfl, fun _ _ _ => inbA s.p hp 11 rfl, fun _ _ _ => inbA s.p hp 12 rfl, fun _ _ _ => inbA s.p hp 13 rfl, fun _ _ _ => inbA s.p hp 14 rfl, fun _ _ _ => inbA s.p hp 15 rfl⟩)
      ![⟨k1_off126 s.p, inbA s.p hp 0 rfl⟩, ⟨k1_off127 s.p, inbA s.p hp 1 rfl⟩, ⟨k1_off128 s.p, inbA s.p hp 2 rfl⟩, ⟨k1_off129 s.p, inbA s.p hp 3 rfl⟩, ⟨k1_off130 s.p, inbA s.p hp 4 rfl⟩, ⟨k1_off131 s.p, inbA s.p hp 5 rfl⟩, ⟨k1_off132 s.p, inbA s.p hp 6 rfl⟩, ⟨k1_off133 s.p, inbA s.p hp 7 rfl⟩, ⟨k1_off134 s.p, inbA s.p hp 8 rfl⟩, ⟨k1_off135 s.p, inbA s.p hp 9 rfl⟩, ⟨k1_off136 s.p, inbA s.p hp 10 rfl⟩, ⟨k1_off137 s.p, inbA s.p hp 11 rfl⟩, ⟨k1_off138 s.p, inbA s.p hp 12 rfl⟩, ⟨k1_off139 s.p, inbA s.p hp 13 rfl⟩, ⟨k1_off140 s.p, inbA s.p hp 14 rfl⟩, ⟨k1_off141 s.p, inbA s.p hp 15 rfl⟩] (fun j => by fin_cases j <;> rfl)
      ![⟨k1_off142 k1_t6 k1_t7, k1_off142_inb i k1_t2 k1_t6 k1_t7 k1_h8⟩, ⟨k1_off143 k1_t6 k1_t7, k1_off143_inb i k1_t2 k1_t6 k1_t7 k1_h8⟩, ⟨k1_off144 k1_t6 k1_t7, k1_off144_inb i k1_t2 k1_t6 k1_t7 k1_h8⟩, ⟨k1_off145 k1_t6 k1_t7, k1_off145_inb i k1_t2 k1_t6 k1_t7 k1_h8⟩, ⟨k1_off146 k1_t6 k1_t7, k1_off146_inb i k1_t2 k1_t6 k1_t7 k1_h8⟩, ⟨k1_off147 k1_t6 k1_t7, k1_off147_inb i k1_t2 k1_t6 k1_t7 k1_h8⟩, ⟨k1_off148 k1_t6 k1_t7, k1_off148_inb i k1_t2 k1_t6 k1_t7 k1_h8⟩, ⟨k1_off149 k1_t6 k1_t7, k1_off149_inb i k1_t2 k1_t6 k1_t7 k1_h8⟩, ⟨k1_off150 k1_t6 k1_t7, k1_off150_inb i k1_t2 k1_t6 k1_t7 k1_h8⟩, ⟨k1_off151 k1_t6 k1_t7, k1_off151_inb i k1_t2 k1_t6 k1_t7 k1_h8⟩, ⟨k1_off152 k1_t6 k1_t7, k1_off152_inb i k1_t2 k1_t6 k1_t7 k1_h8⟩, ⟨k1_off153 k1_t6 k1_t7, k1_off153_inb i k1_t2 k1_t6 k1_t7 k1_h8⟩, ⟨k1_off154 k1_t6 k1_t7, k1_off154_inb i k1_t2 k1_t6 k1_t7 k1_h8⟩, ⟨k1_off155 k1_t6 k1_t7, k1_off155_inb i k1_t2 k1_t6 k1_t7 k1_h8⟩, ⟨k1_off156 k1_t6 k1_t7, k1_off156_inb i k1_t2 k1_t6 k1_t7 k1_h8⟩, ⟨k1_off157 k1_t6 k1_t7, k1_off157_inb i k1_t2 k1_t6 k1_t7 k1_h8⟩] (fun j => by rw [← hrw]; fin_cases j <;> rfl)
      rfl (fun h f h' hc => ?_) (fun h f h' hc => ?_)
    · intro _ _ a x
      obtain rfl : a = 0 := Subsingleton.elim _ _
      show (Scf.iv ((k1_t7_loop k1_t6).lb) 1#32 k1_t7).toNat < 128
      omega
    · exact (bind_pos1 ((c5_eq _ _).trans hc) _ _ _).trans rfl
    · exact (bind_neg1 (fun h => hc ((c5_eq _ _).symm.trans h)) _ _ _).trans rfl
end Cert.Proof.Blk1B
-- ==== Proof.Tail1.lean ====
/-
  The eight further rows of a tile whose rows are not a multiple of a chunk: two copies, each awaited, then the rows.
-/
module
public import proofs.«01_k».proof.KernelIdeal
public import proofs.«01_k».proof.Proof.Gen.KernelIdeal
public import proofs.«01_k».proof.Proof.Copies
@[expose] public section
noncomputable section
namespace Cert.Proof.Tail1
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} {𝒱 : Variants} {bd : Option 𝒱.V}
local notation "𝕄" => MT nD τ sig Ix (Elt F) Name U Lvl

theorem c5_eq (p v : BitVec 32) : k1_cond23 p v = neC v p := rfl
attribute [local irreducible] k1_cond23

/-- Eight rows, as printed. -/
def prog (i : grid1.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 v2 : BitVec 32) (v7 : FVec F S16 .f32) (c0_i32_21 c1_i32_23 : BitVec 32) (k1_t16 : Fin (k1_t16_loop i).trips)
    (K2 : Prog (TpuEff nD τ sig (Elt F) Λ₀ (.scVector ((i 0).castLE hcore1) ((i 1).castLE hsub1))) PUnit) :
    Prog (TpuEff nD τ sig (Elt F) Λ₀ (.scVector ((i 0).castLE hcore1) ((i 1).castLE hsub1))) PUnit := do
  let ⟨v56_0, v56_1, v56_2, v56_3, v56_4, v56_5, v56_6, v56_7, v56_8, v56_9, v56_10, v56_11, v56_12, v56_13, v56_14, v56_15, v56_16, k1_hw28⟩ : Σ' (v56_0 : BitVec 32) (v56_1 : FVec F S16 .f32) (v56_2 : FVec F S16 .f32) (v56_3 : FVec F S16 .f32) (v56_4 : FVec F S16 .f32) (v56_5 : FVec F S16 .f32) (v56_6 : FVec F S16 .f32) (v56_7 : FVec F S16 .f32) (v56_8 : FVec F S16 .f32) (v56_9 : FVec F S16 .f32) (v56_10 : FVec F S16 .f32) (v56_11 : FVec F S16 .f32) (v56_12 : FVec F S16 .f32) (v56_13 : FVec F S16 .f32) (v56_14 : FVec F S16 .f32) (v56_15 : FVec F S16 .f32) (v56_16 : FVec F S16 .f32), k1_chk28 i k1_t16 v56_0 ← k1_part160 i arg2 harg2 arg3 harg3 arg4 harg4 arg5 harg5 arg6 harg6 arg7 harg7 arg8 harg8 arg9 harg9 arg10 arg11 arg12 arg13 v137_r0 v137_r1 v137_r2 v137_r3 v42_r4 v0 v2 v7 c0_i32_21 c1_i32_23 k1_t16
  k1_part161 i arg2 harg2 arg3 harg3 arg4 harg4 arg5 harg5 arg6 harg6 arg7 harg7 arg8 harg8 arg9 harg9 arg10 arg11 arg12 arg13 v137_r0 v137_r1 v137_r2 v137_r3 v42_r4 k1_t16 v56_0 v56_1 v56_2 v56_3 v56_4 v56_5 v56_6 k1_hw28
  k1_part162 i arg2 harg2 arg3 harg3 arg4 harg4 arg5 harg5 arg6 harg6 arg7 harg7 arg8 harg8 arg9 harg9 arg10 arg11 arg12 arg13 v137_r0 v137_r1 v137_r2 v137_r3 v42_r4 k1_t16 v56_0 v56_7 v56_8 v56_9 v56_10 v56_11 v56_12 k1_hw28
  let v117 : Index := Scalar.indexCast v56_0
  let c192 : Index := 192#32
  let v118_ld : Vec F S1x16 .f32 ← Prog.lift (.load arg9 (Rect.unit (s := S256x256) (k1_off456 v56_0) S1x16.size (k1_off456_inb i k1_t16 v56_0 k1_hw28)).toLoadRect (View.loadsAt_vmem h_S1x16))
  have v118 : Vec F S16 .f32 := shapeCast S16 v118_ld shapeCasts_S1x16_S16
  have v119 : FVec F S16 .f32 := addf v118 v56_13
  let v120 : Index := Scalar.indexCast v56_0
  let c192_43 : Index := 192#32
  let v121_ld : Vec F S1x16 .f32 ← Prog.lift (.load arg9 (Rect.unit (s := S256x256) (k1_off456 v56_0) S1x16.size (k1_off456_inb i k1_t16 v56_0 k1_hw28)).toLoadRect (View.loadsAt_vmem h_S1x16))
  have v121 : Vec F S16 .f32 := shapeCast S16 v121_ld shapeCasts_S1x16_S16
  Prog.lift (.store arg9 (Rect.unit (s := S256x256) (k1_off456 v56_0) S1x16.size (k1_off456_inb i k1_t16 v56_0 k1_hw28)) (shapeCast S1x16 v119 shapeCasts_S16_S1x16) Finset.univ (View.stores_vmem_bits_univ h_S1x16 rfl) (.inl rfl))
  let v122 : Index := Scalar.indexCast v56_0
  let c208 : Index := 208#32
  let v123_ld : Vec F S1x16 .f32 ← Prog.lift (.load arg9 (Rect.unit (s := S256x256) (k1_off457 v56_0) S1x16.size (k1_off457_inb i k1_t16 v56_0 k1_hw28)).toLoadRect (View.loadsAt_vmem h_S1x16))
  have v123 : Vec F S16 .f32 := shapeCast S16 v123_ld shapeCasts_S1x16_S16
  have v124 : FVec F S16 .f32 := addf v123 v56_14
  let v125 : Index := Scalar.indexCast v56_0
  let c208_44 : Index := 208#32
  let v126_ld : Vec F S1x16 .f32 ← Prog.lift (.load arg9 (Rect.unit (s := S256x256) (k1_off457 v56_0) S1x16.size (k1_off457_inb i k1_t16 v56_0 k1_hw28)).toLoadRect (View.loadsAt_vmem h_S1x16))
  have v126 : Vec F S16 .f32 := shapeCast S16 v126_ld shapeCasts_S1x16_S16
  Prog.lift (.store arg9 (Rect.unit (s := S256x256) (k1_off457 v56_0) S1x16.size (k1_off457_inb i k1_t16 v56_0 k1_hw28)) (shapeCast S1x16 v124 shapeCasts_S16_S1x16) Finset.univ (View.stores_vmem_bits_univ h_S1x16 rfl) (.inl rfl))
  let v127 : Index := Scalar.indexCast v56_0
  let c224 : Index := 224#32
  let v128_ld : Vec F S1x16 .f32 ← Prog.lift (.load arg9 (Rect.unit (s := S256x256) (k1_off458 v56_0) S1x16.size (k1_off458_inb i k1_t16 v56_0 k1_hw28)).toLoadRect (View.loadsAt_vmem h_S1x16))
  have v128 : Vec F S16 .f32 := shapeCast S16 v128_ld shapeCasts_S1x16_S16
  have v129 : FVec F S16 .f32 := addf v128 v56_15
  let v130 : Index := Scalar.indexCast v56_0
  let c224_45 : Index := 224#32
  let v131_ld : Vec F S1x16 .f32 ← Prog.lift (.load arg9 (Rect.unit (s := S256x256) (k1_off458 v56_0) S1x16.size (k1_off458_inb i k1_t16 v56_0 k1_hw28)).toLoadRect (View.loadsAt_vmem h_S1x16))
  have v131 : Vec F S16 .f32 := shapeCast S16 v131_ld shapeCasts_S1x16_S16
  Prog.lift (.store arg9 (Rect.unit (s := S256x256) (k1_off458 v56_0) S1x16.size (k1_off458_inb i k1_t16 v56_0 k1_hw28)) (shapeCast S1x16 v129 shapeCasts_S16_S1x16) Finset.univ (View.stores_vmem_bits_univ h_S1x16 rfl) (.inl rfl))
  let v132 : Index := Scalar.indexCast v56_0
  let c240 : Index := 240#32
  let v133_ld : Vec F S1x16 .f32 ← Prog.lift (.load arg9 (Rect.unit (s := S256x256) (k1_off459 v56_0) S1x16.size (k1_off459_inb i k1_t16 v56_0 k1_hw28)).toLoadRect (View.loadsAt_vmem h_S1x16))
  have v133 : Vec F S16 .f32 := shapeCast S16 v133_ld shapeCasts_S1x16_S16
  have v134 : FVec F S16 .f32 := addf v133 v56_16
  let v135 : Index := Scalar.indexCast v56_0
  let c240_46 : Index := 240#32
  let v136_ld : Vec F S1x16 .f32 ← Prog.lift (.load arg9 (Rect.unit (s := S256x256) (k1_off459 v56_0) S1x16.size (k1_off459_inb i k1_t16 v56_0 k1_hw28)).toLoadRect (View.loadsAt_vmem h_S1x16))
  have v136 : Vec F S16 .f32 := shapeCast S16 v136_ld shapeCasts_S1x16_S16
  Prog.lift (.store arg9 (Rect.unit (s := S256x256) (k1_off459 v56_0) S1x16.size (k1_off459_inb i k1_t16 v56_0 k1_hw28)) (shapeCast S1x16 v134 shapeCasts_S16_S1x16) Finset.univ (View.stores_vmem_bits_univ h_S1x16 rfl) (.inl rfl))
  K2

abbrev thr (d : Dev nD) (i : grid1.Coords) : Thread nD τ := (d, .scVector ((i 0).castLE hcore1) ((i 1).castLE hsub1))

set_option maxHeartbeats 1000000 in
theorem wp_prog (EC : UEmb Counters 𝕄) [EC.LandsIn (upEmb : UEmb _ 𝕄)] (d : Dev nD) {Q : PUnit → sProp 𝕄} (i : grid1.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 v2 : BitVec 32) (z : F .f32) (c0_i32_21 c1_i32_23 : BitVec 32) (k1_t16 : Fin (k1_t16_loop i).trips)
    {K2 : Prog (TpuEff nD τ sig (Elt F) Λ₀ (.scVector ((i 0).castLE hcore1) ((i 1).castLE hsub1))) PUnit}
    {Y : Nat → Nat → F .f32} {BI SG : Nat → BitVec 32} {X A : Nat → Nat → F .f32}
    {f2 : Buf (Elt F) (arg2.view.loc (thr d i))} {f3 : Buf (Elt F) (arg3.view.loc (thr d i))}
    (hf2 : arg2.view.read (Elt F) f2 = arr2 50000 512 Y) (hf3 : arg3.view.read (Elt F) f3 = arr1 100000 BI)
    {ro co so : Nat} (ho2 : k1_off410 i k1_t16 = ![ro, co]) (ho3 : k1_off411 i k1_t16 = ![so])
    (hSG : ∀ r, r < 8 → (BI (so + r)).toNat < 256)
    (ι : Ix) {q2 q3 : PosShare TreeShare} {O : CellTallies nD τ sig Ix} {W : Waits sig Ix} :
    iprop((arg2.view.loc (thr d i) ↦{q2} f2) ∗ (arg3.view.loc (thr d i) ↦{q3} f3)
        ∗ owns (thr d i) arg5 fullShare (arr2 112 256 X) ∗ owns (thr d i) arg7 fullShare (arr1 128 SG) ∗ owns (thr d i) arg9 fullShare (arr2 256 256 A)
        ∗ semVal (thr d i, .dma v137_r0.sem) 0 ∗ semVal (thr d i, .dma v137_r1.sem) 0 ∗ owes (thr d i) O W ∗ Transfers.MayWaits (thr d i) ι O)
      ⊢ iprop((iprop((arg2.view.loc (thr d i) ↦{q2} f2) ∗ (arg3.view.loc (thr d i) ↦{q3} f3)
            ∗ bufs (thr d i) arg5 arg7 arg9 (pre1 8 (fun r k => Y (ro + r) (co + k)) X) (pre1 8 (fun r => BI (so + r)) SG)
              (chunkA z (fun r => BI (so + r)) (fun r k => Y (ro + r) (co + k)) A 8)
            ∗ semVal (thr d i, .dma v137_r0.sem) 0 ∗ semVal (thr d i, .dma v137_r1.sem) 0
            ∗ owes (thr d i) O (insert (SemLoc.dma v137_r1.sem, ι) (insert (SemLoc.dma v137_r0.sem, ι) W)))
            -∗ wp frame (wpE defs 𝒱 (thr d i) bd) Set.univ K2 Q)
          -∗ wp frame (wpE defs 𝒱 (thr d i) bd) Set.univ (prog i arg2 harg2 arg3 harg3 arg4 harg4 arg5 harg5 arg6 harg6 arg7 harg7 arg8 harg8 arg9 harg9 arg10 arg11 arg12 arg13 v137_r0 v137_r1 v137_r2 v137_r3 v42_r4 v0 v2 (fun _ => z) 0#32 1#32 k1_t16 K2) Q) := by
  have h1 : k1_chk25 i k1_t16 (fun _ => 0#32) := fun a x => by
    obtain rfl : a = 0 := Subsingleton.elim _ _
    show (0#32 : BitVec 32).toNat < 128
    decide
  have h6 : ∀ p : BitVec 32, p.toNat < 256 → k1_chk28 i k1_t16 p := fun p hp => ⟨inbA p hp 0 rfl, inbA p hp 1 rfl, inbA p hp 2 rfl, inbA p hp 3 rfl, inbA p hp 4 rfl, inbA p hp 5 rfl, inbA p hp 6 rfl, inbA p hp 7 rfl, inbA p hp 8 rfl, inbA p hp 9 rfl, inbA p hp 10 rfl, inbA p hp 11 rfl, inbA p hp 12 rfl, inbA p hp 13 rfl, inbA p hp 14 rfl, inbA p hp 15 rfl⟩
  iintro ⟨H2, H3, HX, HS, HA, Hv2, Hv3, HO, #HW⟩ Hk
  iapply (wp_short 𝒱 (thr d i) bd EC hf2 hf3 (xM := arg5) (sM := arg7) (s2 := v137_r0.sem) (s3 := v137_r1.sem) ho2 ho3 (q2 := q2) (q3 := q3) ι
    (inb2 := k1_off410_inb i k1_t16) (inb3 := k1_off411_inb i k1_t16) (inb4 := inb_S128_S8_0) (inb5 := inb_S112x256_S8x256_0_0) rfl) $$ [H2 H3 HX HS Hv2 Hv3 HO]
  · isplitl [H2]; · iexact H2
    isplitl [H3]; · iexact H3
    isplitl [HX]; · iexact HX
    isplitl [HS]; · iexact HS
    isplitl [Hv2]; · iexact Hv2
    isplitl [Hv3]; · iexact Hv3
    isplitl [HO]; · iexact HO
    iexact HW
  iintro ⟨H2, H3, HX, HS, Hv2, Hv3, HO⟩
  have hS : ∀ r, r < 8 → ((pre1 8 (fun r => BI (so + r)) SG) r).toNat < 256 := fun r hr => by
    rw [pre1, if_pos hr]; exact hSG r hr
  iapply (wp_chunk (c := thr d i) (defs := defs) (𝒱 := 𝒱) (bd := bd) (xM := arg5) (sM := arg7) (aM := arg9) (z := z) (SG := pre1 8 (fun r => BI (so + r)) SG) (X := pre1 8 (fun r k => Y (ro + r) (co + k)) X) (Q := Q) 8 1 A (by decide) hS
    (c1 := k1_chk25 i k1_t16 (fun _ => 0#32)) (d1 := k1_chk25.dec i k1_t16 _) h1 (hx := fun h => k1_idx13_inb i k1_t16 _ h) (hl := View.loads_vmem h_S128)
    (lb := k1_t17_loop.lb) (ub := k1_t17_loop.ub) (stp := k1_t17_loop.st) (hok := k1_t17_ok) (by decide)
    (c6 := fun p => k1_chk28 i k1_t16 p) (d6 := fun p => k1_chk28.dec i k1_t16 p) h6
    (fun p h => ![⟨k1_off444 p, k1_off444_inb i k1_t16 p h⟩, ⟨k1_off445 p, k1_off445_inb i k1_t16 p h⟩, ⟨k1_off446 p, k1_off446_inb i k1_t16 p h⟩, ⟨k1_off447 p, k1_off447_inb i k1_t16 p h⟩, ⟨k1_off448 p, k1_off448_inb i k1_t16 p h⟩, ⟨k1_off449 p, k1_off449_inb i k1_t16 p h⟩, ⟨k1_off450 p, k1_off450_inb i k1_t16 p h⟩, ⟨k1_off451 p, k1_off451_inb i k1_t16 p h⟩, ⟨k1_off452 p, k1_off452_inb i k1_t16 p h⟩, ⟨k1_off453 p, k1_off453_inb i k1_t16 p h⟩, ⟨k1_off454 p, k1_off454_inb i k1_t16 p h⟩, ⟨k1_off455 p, k1_off455_inb i k1_t16 p h⟩, ⟨k1_off456 p, k1_off456_inb i k1_t16 p h⟩, ⟨k1_off457 p, k1_off457_inb i k1_t16 p h⟩, ⟨k1_off458 p, k1_off458_inb i k1_t16 p h⟩, ⟨k1_off459 p, k1_off459_inb i k1_t16 p h⟩]) (fun p h j => by fin_cases j <;> rfl)
    (prog := _) rfl (fun h f p cr => rfl) (fun k1_t17 s hp => ?_)) $$ [HX HS HA]
  · have hk : k1_t17.val < 8 := lt_of_lt_of_eq k1_t17.isLt (by decide)
    have hrw : (Scf.iv 0#32 1#32 k1_t17).toNat = 1 * k1_t17.val := by rw [one_mul]; exact addr_t _ hk
    refine wp_row (c := thr d i) (defs := defs) (𝒱 := 𝒱) (bd := bd) (xM := arg5) (sM := arg7) (aM := arg9) (z := z) (SG := pre1 8 (fun r => BI (so + r)) SG) (X := pre1 8 (fun r k => Y (ro + r) (co + k)) X) s (Scf.iv 0#32 1#32 k1_t17) (1 * k1_t17.val) hrw
        (c4 := k1_chk26 i k1_t16 (fun _ => Scf.iv 0#32 1#32 k1_t17)) (d4 := k1_chk26.dec i k1_t16 _) ?_
        (fun h4 => k1_idx14_inb i k1_t16 _ h4) (hl := View.loads_vmem h_S128)
        (fun w => k1_chk27 i k1_t16 s.p w) (d5 := fun w => k1_chk27.dec i k1_t16 s.p w) (fun w => ⟨fun _ => inbA s.p hp 0 rfl, fun _ => inbA s.p hp 1 rfl, fun _ => inbA s.p hp 2 rfl, fun _ => inbA s.p hp 3 rfl, fun _ => inbA s.p hp 4 rfl, fun _ => inbA s.p hp 5 rfl, fun _ => inbA s.p hp 6 rfl, fun _ => inbA s.p hp 7 rfl, fun _ => inbA s.p hp 8 rfl, fun _ => inbA s.p hp 9 rfl, fun _ => inbA s.p hp 10 rfl, fun _ => inbA s.p hp 11 rfl, fun _ => inbA s.p hp 12 rfl, fun _ => inbA s.p hp 13 rfl, fun _ => inbA s.p hp 14 rfl, fun _ => inbA s.p hp 15 rfl⟩)
        ![⟨k1_off412 s.p, inbA s.p hp 0 rfl⟩, ⟨k1_off413 s.p, inbA s.p hp 1 rfl⟩, ⟨k1_off414 s.p, inbA s.p hp 2 rfl⟩, ⟨k1_off415 s.p, inbA s.p hp 3 rfl⟩, ⟨k1_off416 s.p, inbA s.p hp 4 rfl⟩, ⟨k1_off417 s.p, inbA s.p hp 5 rfl⟩, ⟨k1_off418 s.p, inbA s.p hp 6 rfl⟩, ⟨k1_off419 s.p, inbA s.p hp 7 rfl⟩, ⟨k1_off420 s.p, inbA s.p hp 8 rfl⟩, ⟨k1_off421 s.p, inbA s.p hp 9 rfl⟩, ⟨k1_off422 s.p, inbA s.p hp 10 rfl⟩, ⟨k1_off423 s.p, inbA s.p hp 11 rfl⟩, ⟨k1_off424 s.p, inbA s.p hp 12 rfl⟩, ⟨k1_off425 s.p, inbA s.p hp 13 rfl⟩, ⟨k1_off426 s.p, inbA s.p hp 14 rfl⟩, ⟨k1_off427 s.p, inbA s.p hp 15 rfl⟩] (fun j => by fin_cases j <;> rfl)
        ![⟨k1_off428 k1_t17, k1_off428_inb k1_t17⟩, ⟨k1_off429 k1_t17, k1_off429_inb k1_t17⟩, ⟨k1_off430 k1_t17, k1_off430_inb k1_t17⟩, ⟨k1_off431 k1_t17, k1_off431_inb k1_t17⟩, ⟨k1_off432 k1_t17, k1_off432_inb k1_t17⟩, ⟨k1_off433 k1_t17, k1_off433_inb k1_t17⟩, ⟨k1_off434 k1_t17, k1_off434_inb k1_t17⟩, ⟨k1_off435 k1_t17, k1_off435_inb k1_t17⟩, ⟨k1_off436 k1_t17, k1_off436_inb k1_t17⟩, ⟨k1_off437 k1_t17, k1_off437_inb k1_t17⟩, ⟨k1_off438 k1_t17, k1_off438_inb k1_t17⟩, ⟨k1_off439 k1_t17, k1_off439_inb k1_t17⟩, ⟨k1_off440 k1_t17, k1_off440_inb k1_t17⟩, ⟨k1_off441 k1_t17, k1_off441_inb k1_t17⟩, ⟨k1_off442 k1_t17, k1_off442_inb k1_t17⟩, ⟨k1_off443 k1_t17, k1_off443_inb k1_t17⟩] (fun j => by rw [← hrw]; fin_cases j <;> rfl)
        rfl (fun h f h' hc => ?_) (fun h f h' hc => ?_)
    · intro a x
      obtain rfl : a = 0 := Subsingleton.elim _ _
      show (Scf.iv 0#32 1#32 k1_t17).toNat < 128
      omega
    · exact (bind_pos1 ((c5_eq _ _).trans hc) _ _ _).trans rfl
    · exact (bind_neg1 (fun h => hc ((c5_eq _ _).symm.trans h)) _ _ _).trans rfl
  · isplitl [HX]; · iexact HX
    isplitl [HS]; · iexact HS
    iexact HA
  · iintro HB
    iapply Hk
    isplitl [H2]; · iexact H2
    isplitl [H3]; · iexact H3
    isplitl [HB]
    · rw [chunkA_congr z (SG := fun r => BI (so + r)) (SG' := pre1 8 (fun r => BI (so + r)) SG) (X := fun r k => Y (ro + r) (co + k)) (X' := pre1 8 (fun r k => Y (ro + r) (co + k)) X) (N := 8) (by decide)
        (fun r hr => by rw [pre1, if_pos hr]) (fun r hr => by rw [pre1, if_pos hr])]
      iexact HB
    isplitl [Hv2]; · iexact Hv2
    isplitl [Hv3]; · iexact Hv3
    iexact HO
end Cert.Proof.Tail1
-- ==== Proof.Tile1.lean ====
/-
  One tile of the call, whole: the accumulator zeroed, the full chunks two at a time, the further rows, the accumulator written out.
-/
module
public import proofs.«01_k».proof.KernelIdeal
public import proofs.«01_k».proof.Proof.Gen.KernelIdeal
public import proofs.«01_k».proof.Proof.Facts1
public import proofs.«01_k».proof.Proof.Stage
public import proofs.«01_k».proof.Proof.Blk1A
public import proofs.«01_k».proof.Proof.Blk1B
public import proofs.«01_k».proof.Proof.Tail1
@[expose] public section
noncomputable section
namespace Cert.Proof.Tile1
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} {𝒱 : Variants} {bd : Option 𝒱.V}
local notation "𝕄" => MT nD τ sig Ix (Elt F) Name U Lvl

open Cert.Proof.Facts1
attribute [local irreducible] k1_cond1 k1_cond2 k1_cond3 k1_cond7 k1_cond8 k1_cond12

abbrev thr (d : Dev nD) (i : grid1.Coords) : Thread nD τ := (d, .scVector ((i 0).castLE hcore1) ((i 1).castLE hsub1))
abbrev zf : F .f32 := Scalar.ofBits .f32 0x00000000#32

/-- The tile's slab of the result: its row of the partial sums, its half of the columns. -/
abbrev slab (i : grid1.Coords) (arg4 : Memref sig .scVector .hbm S16x256x512 .f32) : Memref sig .scVector .hbm S256x256 .f32 :=
  (arg4.slice (Rect.unit (s := S16x256x512) (k1_off510 i) S1x256x256.size (k1_off510_inb i)) (fun _ => rfl)).squeeze S256x256 squeezes_S1x256x256_S256x256

/-- The accumulator after `n` full chunks. -/
abbrev accN (Y : Nat → Nat → F .f32) (BI : Nat → BitVec 32) (i : grid1.Coords) (n : Nat) : Nat → Nat → F .f32 :=
  accC zf (fun g r => BI (0 + (3136 * (row i).val + 112 * g + r))) (fun g r k => Y (3136 * (row i).val + 112 * g + r) (256 * (col i).val + k)) 112 (fun _ _ => zf) n
/-- And after `t` groups of eight more rows. -/
abbrev accT (Y : Nat → Nat → F .f32) (BI : Nat → BitVec 32) (i : grid1.Coords) (t : Nat) : Nat → Nat → F .f32 :=
  accC zf (fun t r => BI (0 + (3136 * (row i).val + 112 * nFull (row i).val + 8 * t + r)))
    (fun t r k => Y (3136 * (row i).val + 112 * nFull (row i).val + 8 * t + r) (256 * (col i).val + k)) 8 (accN Y BI i (nFull (row i).val)) t

theorem accN_succ {Y : Nat → Nat → F .f32} {BI : Nat → BitVec 32} {i : grid1.Coords} {n : Nat} {SG : Nat → BitVec 32} :
    chunkA zf (pre1 112 (fun r => BI (0 + (3136 * (row i).val + 112 * n) + r)) SG)
      (fun r k => Y (3136 * (row i).val + 112 * n + r) (256 * (col i).val + k)) (accN Y BI i n) 112 = accN Y BI i (n + 1) :=
  chunkA_congr zf (N := 112) (by decide) (fun r hr => by rw [pre1, if_pos hr, Nat.add_assoc]) (fun r hr => rfl) _
theorem accT_succ {Y : Nat → Nat → F .f32} {BI : Nat → BitVec 32} {i : grid1.Coords} {t : Nat} :
    chunkA zf (fun r => BI (0 + (3136 * (row i).val + 112 * nFull (row i).val + 8 * t) + r))
      (fun r k => Y (3136 * (row i).val + 112 * nFull (row i).val + 8 * t + r) (256 * (col i).val + k)) (accT Y BI i t) 8 = accT Y BI i (t + 1) :=
  chunkA_congr zf (N := 8) (by decide) (fun r hr => by rw [Nat.add_assoc]) (fun r hr => rfl) _

set_option maxHeartbeats 4000000 in
theorem wp_tile (EC : UEmb Counters 𝕄) [EC.LandsIn (upEmb : UEmb _ 𝕄)] (d : Dev nD) (i : grid1.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    {Y : Nat → Nat → F .f32} {BI : Nat → BitVec 32} (hBI : ∀ r, r < 100000 → (BI r).toNat < 256)
    {f2 : Buf (Elt F) (arg2.view.loc (thr d i))} {f3 : Buf (Elt F) (arg3.view.loc (thr d i))}
    (hf2 : arg2.view.read (Elt F) f2 = arr2 50000 512 Y) (hf3 : arg3.view.read (Elt F) f3 = arr1 100000 BI)
    (ι : Ix) {qA qB rA rB : PosShare TreeShare} {O : CellTallies nD τ sig Ix} {W : Waits sig Ix} {A0 : Nat → Nat → F .f32} {V0 : S256x256.Idx → Elt F .f32} :
    (iprop(Transfers.MayWaits (thr d i) ι O ∗ idle (thr d i) arg2 arg3 qA rA f2 f3 arg5 arg7 arg10.sem arg12.sem ∗ idle (thr d i) arg2 arg3 qB rB f2 f3 arg6 arg8 arg11.sem arg13.sem
        ∗ owns (thr d i) arg9 fullShare (arr2 256 256 A0) ∗ owns (thr d i) (slab i arg4) fullShare V0
        ∗ semVal (thr d i, .dma v137_r0.sem) 0 ∗ semVal (thr d i, .dma v137_r1.sem) 0 ∗ semVal (thr d i, .dma v42_r4.sem) 0 ∗ owes (thr d i) O W) : sProp 𝕄)
      ⊢ wp frame (wpE defs 𝒱 (thr d i) bd) Set.univ (cc1__seg_body i arg2 harg2 arg3 harg3 arg4 harg4 arg5 harg5 arg6 harg6 arg7 harg7 arg8 harg8 arg9 harg9 arg10 arg11 arg12 arg13 v137_r0 v137_r1 v137_r2 v137_r3 v42_r4)
          (fun _ => iprop(idle (thr d i) arg2 arg3 qA rA f2 f3 arg5 arg7 arg10.sem arg12.sem ∗ idle (thr d i) arg2 arg3 qB rB f2 f3 arg6 arg8 arg11.sem arg13.sem
            ∗ (∃ A1, owns (thr d i) arg9 fullShare (arr2 256 256 A1))
            ∗ owns (thr d i) (slab i arg4) fullShare (arr2 256 256 (accT Y BI i (nTail (row i).val)))
            ∗ semVal (thr d i, .dma v137_r0.sem) 0 ∗ semVal (thr d i, .dma v137_r1.sem) 0 ∗ semVal (thr d i, .dma v42_r4.sem) 0 ∗ owed (thr d i) ι O W)) := by
  have hrow : (row i).val < 16 := (row i).isLt
  -- the accumulator zeroed
  refine BIBase.Entails.trans ?pre1 (wp_loop' 𝒱 (thr d i) bd t1_trips rfl (fun k => (iprop(owns (thr d i) arg9 fullShare (arr2 256 256 (zeroed zf A0 k))
      ∗ Transfers.MayWaits (thr d i) ι O ∗ idle (thr d i) arg2 arg3 qA rA f2 f3 arg5 arg7 arg10.sem arg12.sem ∗ idle (thr d i) arg2 arg3 qB rB f2 f3 arg6 arg8 arg11.sem arg13.sem ∗ owns (thr d i) (slab i arg4) fullShare V0
        ∗ semVal (thr d i, .dma v137_r0.sem) 0 ∗ semVal (thr d i, .dma v137_r1.sem) 0 ∗ semVal (thr d i, .dma v42_r4.sem) 0 ∗ owes (thr d i) O W) : sProp 𝕄)) (fun k => ?body1) ?rest1)
  case pre1 =>
    rw [zeroed_none]
    iintro ⟨#HW, SA, SB, HA, HP, Hv0, Hv1, Hv4, HO⟩
    isplitl [HA]; · iexact HA
    isplitr; · iexact HW
    isplitl [SA]; · iexact SA
    isplitl [SB]; · iexact SB
    isplitl [HP]; · iexact HP
    isplitl [Hv0]; · iexact Hv0
    isplitl [Hv1]; · iexact Hv1
    isplitl [Hv4]; · iexact Hv4
    iexact HO
  case body1 =>
    iintro ⟨HA, HR⟩
    iapply (wp_zero 𝒱 (thr d i) bd (off1 k) rfl) $$ HA
    iintro HA
    iapply (wp_ret' 𝒱 (thr d i) bd rfl)
    isplitl [HA]; · iexact HA
    iexact HR
  rw [zeroed_all]
  -- the first two chunks begun
  iintro ⟨HA, #HW, SA, SB, HP, Hv0, Hv1, Hv4, HO⟩
  iapply (wp_begin EC 𝒱 (thr d i) bd hf2 hf3 (xM := arg5) (sM := arg7) (s2 := arg10.sem) (s3 := arg12.sem) (inb2 := k1_off2_inb i (cond1 i)) (inb3 := k1_off3_inb i (cond1 i)) (off2 i) (off3 i) (q2 := qA) (q3 := rA) ι rfl rfl (inb4 := inb_S128_S112_0) (hd2 := harg5.wordExact) (hd3 := View.wordExact_bits rfl) (hs2 := View.wordExact_bits rfl) (hs3 := View.wordExact_bits rfl) (ht2 := ⟨Or.inl rfl, trivial⟩) (ht3 := ⟨Or.inl rfl, trivial⟩) ((bind_pos1 (cond1 i) _ _ _).trans rfl)) $$ SA
  iintro SA
  iapply (wp_begin EC 𝒱 (thr d i) bd hf2 hf3 (xM := arg6) (sM := arg8) (s2 := arg11.sem) (s3 := arg13.sem) (inb2 := k1_off4_inb i (cond2 i)) (inb3 := k1_off5_inb i (cond2 i)) (off4 i) (off5 i) (q2 := qB) (q3 := rB) ι rfl rfl (inb4 := inb_S128_S112_0) ((bind_pos1 (cond2 i) _ _ _).trans rfl)) $$ SB
  iintro SB
  ihave HO := (owed_intro (thr d i) (ι := ι)) $$ HO
  -- the full chunks, two at a time
  iapply (wp_loopK 𝒱 (thr d i) bd (t2_trips i) rfl (fun k => (iprop(Transfers.MayWaits (thr d i) ι O ∗ owed (thr d i) ι O W
      ∗ owns (thr d i) arg9 fullShare (arr2 256 256 (accN Y BI i (2 * k)))
      ∗ (if k < nFull (row i).val / 2 then busy EC (thr d i) arg2 arg3 qA rA f2 f3 arg5 arg7 arg10.sem arg12.sem ι arg5.view.dmaCredit (arg7.slice (Rect.unit (s := S128) ![0] S112.size inb_S128_S112_0) (fun _ => rfl)).view.dmaCredit Y BI (3136 * (row i).val + 112 * (2 * k)) (256 * (col i).val) (0 + (3136 * (row i).val + 112 * (2 * k))) else idle (thr d i) arg2 arg3 qA rA f2 f3 arg5 arg7 arg10.sem arg12.sem)
      ∗ (if k < nFull (row i).val / 2 then busy EC (thr d i) arg2 arg3 qB rB f2 f3 arg6 arg8 arg11.sem arg13.sem ι arg6.view.dmaCredit (arg8.slice (Rect.unit (s := S128) ![0] S112.size inb_S128_S112_0) (fun _ => rfl)).view.dmaCredit Y BI (3136 * (row i).val + 112 * (2 * k + 1)) (256 * (col i).val) (0 + (3136 * (row i).val + 112 * (2 * k + 1))) else idle (thr d i) arg2 arg3 qB rB f2 f3 arg6 arg8 arg11.sem arg13.sem)) : sProp 𝕄)) (fun k => ?_)) $$ [SA SB HA HO]
  · have hk : k.val < nFull (row i).val / 2 := lt_of_lt_of_eq k.isLt (t2_trips i)
    have hb : 112 * (2 * k.val + 1) + 112 ≤ 112 * nFull (row i).val := by
      have := nFull_even (row i).val
      omega
    have hn := nFull_le hrow
    rw [if_pos hk, if_pos hk]
    iintro ⟨#HW, HO, HA, SA, SB⟩
    ihave HO := (owed_elim (thr d i)) $$ HO
    icases HO with ⟨%W1, %hW1, HO⟩
    ihave SA := (busy_elim EC (thr d i)) $$ SA
    icases SA with ⟨FA, %SGA, GA⟩
    iapply (wp_eq ((dif_pos (cond3 i k)).trans rfl : _ = Blk1A.prog i arg2 harg2 arg3 harg3 arg4 harg4 arg5 harg5 arg6 harg6 arg7 harg7 arg8 harg8 arg9 harg9 arg10 arg11 arg12 arg13 v137_r0 v137_r1 v137_r2 v137_r3 v42_r4 _ (fun _ => zf) k _ (cond3 i k) _) .rfl)
    iapply (Blk1A.wp_prog EC d i arg2 harg2 arg3 harg3 arg4 harg4 arg5 harg5 arg6 harg6 arg7 harg7 arg8 harg8 arg9 harg9 arg10 arg11 arg12 arg13 v137_r0 v137_r1 v137_r2 v137_r3 v42_r4 _ zf k _ (cond3 i k) (SG := pre1 112 (fun r => BI (0 + (3136 * (row i).val + 112 * (2 * k.val)) + r)) SGA) (fun r hr => by
          rw [pre1, if_pos hr]; exact hBI _ (by omega)) ι rfl rfl (dlv_split (thr d i))) $$ [HA HO FA GA]
    · isplitl [FA]; · iexact FA
      isplitl [GA]; · iexact GA
      isplitr; · iempintro
      isplitl [HA]; · iexact HA
      isplitl [HO]; · iexact HO
      iexact HW
    iintro ⟨⟨HX, HS, HA⟩, ⟨H2, H3⟩, Hs, Ht, HO⟩
    rw [accN_succ]
    ihave HO := (owed_more (thr d i) hW1 _ _) $$ HO
    ihave SA := (idle_intro (thr d i)) $$ [H2 H3 HX HS Hs Ht]
    · isplitl [H2]; · iexact H2
      isplitl [H3]; · iexact H3
      isplitl [HX]; · iexact HX
      isplitl [HS]; · iexact HS
      isplitl [Hs]; · iexact Hs
      iexact Ht
    iapply (wp_next EC 𝒱 (thr d i) bd hf2 hf3 (cond7 i k) (xM := arg5) (sM := arg7) (s2 := arg10.sem) (s3 := arg12.sem) (inb2 := k1_off105_inb i k (cond3 i k)) (inb3 := k1_off106_inb i k (cond3 i k))
      (off105 i k) (off106 i k) (q2 := qA) (q3 := rA) ι rfl rfl (inb4 := inb_S128_S112_0) (hd2 := harg5.wordExact) (hd3 := View.wordExact_bits rfl) (hs2 := fun _ => View.wordExact_bits rfl) (hs3 := fun _ => View.wordExact_bits rfl)
      (ht2 := ⟨Or.inl rfl, trivial⟩) (ht3 := ⟨Or.inl rfl, trivial⟩) rfl (fun _ => rfl) (fun _ => rfl)) $$ SA
    iintro SA
    ihave HO := (owed_elim (thr d i)) $$ HO
    icases HO with ⟨%W2, %hW2, HO⟩
    ihave SB := (busy_elim EC (thr d i)) $$ SB
    icases SB with ⟨FB, %SGB, GB⟩
    iapply (wp_eq ((dif_pos (cond8 i k)).trans rfl : _ = Blk1B.prog i arg2 harg2 arg3 harg3 arg4 harg4 arg5 harg5 arg6 harg6 arg7 harg7 arg8 harg8 arg9 harg9 arg10 arg11 arg12 arg13 v137_r0 v137_r1 v137_r2 v137_r3 v42_r4 _ (fun _ => zf) k _ (cond8 i k) _) .rfl)
    iapply (Blk1B.wp_prog EC d i arg2 harg2 arg3 harg3 arg4 harg4 arg5 harg5 arg6 harg6 arg7 harg7 arg8 harg8 arg9 harg9 arg10 arg11 arg12 arg13 v137_r0 v137_r1 v137_r2 v137_r3 v42_r4 _ zf k _ (cond8 i k) (SG := pre1 112 (fun r => BI (0 + (3136 * (row i).val + 112 * (2 * k.val + 1)) + r)) SGB) (fun r hr => by
          rw [pre1, if_pos hr]; exact hBI _ (by omega)) ι rfl rfl (dlv_split (thr d i))) $$ [HA HO FB GB]
    · isplitl [FB]; · iexact FB
      isplitl [GB]; · iexact GB
      isplitr; · iempintro
      isplitl [HA]; · iexact HA
      isplitl [HO]; · iexact HO
      iexact HW
    iintro ⟨⟨HX, HS, HA⟩, ⟨H2, H3⟩, Hs, Ht, HO⟩
    rw [accN_succ]
    ihave HO := (owed_more (thr d i) hW2 _ _) $$ HO
    ihave SB := (idle_intro (thr d i)) $$ [H2 H3 HX HS Hs Ht]
    · isplitl [H2]; · iexact H2
      isplitl [H3]; · iexact H3
      isplitl [HX]; · iexact HX
      isplitl [HS]; · iexact HS
      isplitl [Hs]; · iexact Hs
      iexact Ht
    iapply (wp_next EC 𝒱 (thr d i) bd hf2 hf3 (cond12 i k) (xM := arg6) (sM := arg8) (s2 := arg11.sem) (s3 := arg13.sem) (inb2 := k1_off206_inb i k (cond8 i k)) (inb3 := k1_off207_inb i k (cond8 i k))
      (off206 i k) (off207 i k) (q2 := qB) (q3 := rB) ι rfl rfl (inb4 := inb_S128_S112_0) (hd2 := harg6.wordExact) (hd3 := View.wordExact_bits rfl) (hs2 := fun _ => View.wordExact_bits rfl) (hs3 := fun _ => View.wordExact_bits rfl)
      (ht2 := ⟨Or.inl rfl, trivial⟩) (ht3 := ⟨Or.inl rfl, trivial⟩) rfl (fun _ => rfl) (fun _ => rfl)) $$ SB
    iintro SB
    iapply (wp_ret' 𝒱 (thr d i) bd rfl)
    isplitr; · iexact HW
    isplitl [HO]; · iexact HO
    isplitl [HA]; · iexact HA
    isplitl [SA]; · iexact SA
    iexact SB
  · rw [if_pos (nFull_pos _), if_pos (nFull_pos _)]
    isplitr; · iexact HW
    isplitl [HO]; · iexact HO
    isplitl [HA]; · iexact HA
    isplitl [SA]; · iexact SA
    iexact SB
  rw [if_neg (Nat.lt_irrefl _), if_neg (Nat.lt_irrefl _), nFull_even]
  iintro ⟨-, HO, HA, SA, SB⟩
  -- no chunk is left over
  iapply (wp_skip 𝒱 (thr d i) bd (t9_trips i) rfl .rfl)
  -- the further rows
  iapply (wp_loopK 𝒱 (thr d i) bd (t16_trips i) rfl (fun k => (iprop(Transfers.MayWaits (thr d i) ι O ∗ owed (thr d i) ι O W
      ∗ owns (thr d i) arg9 fullShare (arr2 256 256 (accT Y BI i k))
      ∗ idle (thr d i) arg2 arg3 qA rA f2 f3 arg5 arg7 arg10.sem arg12.sem
      ∗ semVal (thr d i, .dma v137_r0.sem) 0 ∗ semVal (thr d i, .dma v137_r1.sem) 0) : sProp 𝕄)) (fun k => ?_)) $$ [SA HA HO Hv0 Hv1]
  · have hk : k.val < nTail (row i).val := lt_of_lt_of_eq k.isLt (t16_trips i)
    have hn := nFull_le hrow
    iintro ⟨#HW, HO, HA, SA, Hv0, Hv1⟩
    ihave HO := (owed_elim (thr d i)) $$ HO
    icases HO with ⟨%W1, %hW1, HO⟩
    ihave SA := (idle_elim (thr d i)) $$ SA
    icases SA with ⟨H2, H3, ⟨%X, HX⟩, ⟨%SG, HS⟩, Hs, Ht⟩
    iapply (wp_eq (rfl : _ = Tail1.prog i arg2 harg2 arg3 harg3 arg4 harg4 arg5 harg5 arg6 harg6 arg7 harg7 arg8 harg8 arg9 harg9 arg10 arg11 arg12 arg13 v137_r0 v137_r1 v137_r2 v137_r3 v42_r4 _ _ (fun _ => zf) 0#32 1#32 k _) .rfl)
    iapply (Tail1.wp_prog EC d i arg2 harg2 arg3 harg3 arg4 harg4 arg5 harg5 arg6 harg6 arg7 harg7 arg8 harg8 arg9 harg9 arg10 arg11 arg12 arg13 v137_r0 v137_r1 v137_r2 v137_r3 v42_r4 _ _ zf 0#32 1#32 k hf2 hf3 (off410 i k) (off411 i k) (fun r hr => hBI _ (by omega)) ι) $$ [H2 H3 HX HS HA Hv0 Hv1 HO]
    · isplitl [H2]; · iexact H2
      isplitl [H3]; · iexact H3
      isplitl [HX]; · iexact HX
      isplitl [HS]; · iexact HS
      isplitl [HA]; · iexact HA
      isplitl [Hv0]; · iexact Hv0
      isplitl [Hv1]; · iexact Hv1
      isplitl [HO]; · iexact HO
      iexact HW
    iintro ⟨H2, H3, ⟨HX, HS, HA⟩, Hv0, Hv1, HO⟩
    rw [accT_succ]
    ihave HO := (owed_more (thr d i) hW1 _ _) $$ HO
    ihave SA := (idle_intro (thr d i)) $$ [H2 H3 HX HS Hs Ht]
    · isplitl [H2]; · iexact H2
      isplitl [H3]; · iexact H3
      isplitl [HX]; · iexact HX
      isplitl [HS]; · iexact HS
      isplitl [Hs]; · iexact Hs
      iexact Ht
    iapply (wp_ret' 𝒱 (thr d i) bd rfl)
    isplitr; · iexact HW
    isplitl [HO]; · iexact HO
    isplitl [HA]; · iexact HA
    isplitl [SA]; · iexact SA
    isplitl [Hv0]; · iexact Hv0
    iexact Hv1
  · isplitr; · iexact HW
    isplitl [HO]; · iexact HO
    isplitl [HA]; · iexact HA
    isplitl [SA]; · iexact SA
    isplitl [Hv0]; · iexact Hv0
    iexact Hv1
  iintro ⟨-, HO, HA, SA, Hv0, Hv1⟩
  iapply (wp_skip 𝒱 (thr d i) bd (t18_trips i) rfl .rfl)
  -- the accumulator written out
  ihave HO := (owed_elim (thr d i)) $$ HO
  icases HO with ⟨%W1, %hW1, HO⟩
  ihave HA := (show owns (thr d i) arg9 fullShare (arr2 256 256 (accT Y BI i (nTail (row i).val)))
      ⊢ (iprop(∃ f, ⌜arg9.view.read (Elt F) f = arr2 256 256 (accT Y BI i (nTail (row i).val))⌝ ∗ (arg9.view.loc (thr d i) ↦[arg9.view.set]{fullShare} f)) : sProp 𝕄) from .rfl) $$ HA
  icases HA with ⟨%f, %hf, HA⟩
  rw [harg9.set_eq_univ]
  iapply (wp_enq EC 𝒱 (thr d i) bd (src := arg9) (m := slab i arg4) (fs := f) (q := fullShare) (sm := v42_r4.sem) ι _ rfl (numel_pos2 256 256 (by decide) (by decide)) hf) $$ [HA HP Hv4]
  · isplitl [HA]; · iexact HA
    isplitl [HP]; · iexact HP
    iexact Hv4
  iintro HF
  iapply (Transfers.wp_waitLocalO EC 𝒱 (thr d i) bd ι rfl) $$ [HF HO]
  · isplitl [HF]; · iexact HF
    isplitl [HO]; · iexact HO
    iapply (Transfers.MayWaits.elim (.dma v42_r4.sem)) $$ HW
  iintro ⟨⟨HP, HA⟩, Hv4, HO⟩
  iapply (wp_ret' 𝒱 (thr d i) bd rfl)
  ihave HO := (owed_more1 (thr d i) hW1 _) $$ HO
  isplitl [SA]; · iexact SA
  isplitl [SB]; · iexact SB
  isplitl [HA]
  · iexists (accT Y BI i (nTail (row i).val))
    rw [← hf, ← harg9.set_eq_univ]
    iapply (owns_intro (thr d i) arg9 fullShare f) $$ HA
  isplitl [HP]; · iexact HP
  isplitl [Hv0]; · iexact Hv0
  isplitl [Hv1]; · iexact Hv1
  isplitl [Hv4]; · iexact Hv4
  iexact HO
end Cert.Proof.Tile1
-- ==== Proof.Tw1.lean ====
/-
  The tile of SparseCore call 0 as the call dispatches it: from its share of the two arrays it reads and its slab of the result, with its
  own buffers and semaphores, to the slab at its partial sums.
-/
module
public import proofs.«01_k».proof.Proof.Sc
public import proofs.«01_k».proof.Proof.Tile1
@[expose] public section
noncomputable section
namespace Cert.Proof.Tw1
open Cert.KernelIdeal Cert.KernelIdeal.Gen Cert.Proof.Rows Cert.Proof.Facts1 Cert.Proof.Sc
open Cert.Proof.Tile1 (thr slab accT wp_tile)
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The tile's part of the result -/

section Values
variable [FloatOps F] [∀ e, Nonempty (Elt F e)]

/-- The rows by coordinates. -/
def rowsOf (y : S50000x512.Idx → F .f32) : Nat → Nat → F .f32 := haveI : Nonempty (F .f32) := (inferInstance : Nonempty (Elt F .f32)); Classical.choose (exists_arr2 (n := 50000) (w := 512) y)
theorem rowsOf_eq (y : S50000x512.Idx → F .f32) : y = arr2 50000 512 (rowsOf y) :=
  haveI : Nonempty (F .f32) := (inferInstance : Nonempty (Elt F .f32)); Classical.choose_spec (exists_arr2 (n := 50000) (w := 512) y)
/-- The segments by row. -/
def segOf (s : S100000.Idx → BitVec 32) : Nat → BitVec 32 := Classical.choose (exists_arr1 (n := 100000) s)
theorem segOf_eq (s : S100000.Idx → BitVec 32) : s = arr1 100000 (segOf s) := Classical.choose_spec (exists_arr1 (n := 100000) s)

/-- The partial sums of every tile: each row of tiles' by segment, each core its half of the columns. -/
def part (y : S50000x512.Idx → F .f32) (s : S100000.Idx → BitVec 32) : S16x256x512.Idx → F .f32 := fun j =>
  accT (rowsOf y) (segOf s) (mk ⟨(j 2).val / 256, Nat.div_lt_of_lt_mul (j 2).isLt⟩ (j 0)) (nTail (j 0).val) (j 1).val ((j 2).val % 256)
end Values

abbrev aV : Memref sig .scVector .hbm S16x256x512 .f32 := Memref.whole main_v6_scv
/-- The slab's elements. -/
abbrev slabSet (i : grid1.Coords) : Finset S16x256x512.Idx := (slab i aV).view.set

theorem mem_slabSet (i : grid1.Coords) (j : S16x256x512.Idx) :
    j ∈ slabSet i ↔ (j 0).val = (row i).val ∧ 256 * (col i).val ≤ (j 2).val ∧ (j 2).val < 256 * (col i).val + 256 := by
  have h : slabSet i = (Rect.unit (s := S16x256x512) (k1_off510 i) S1x256x256.size (k1_off510_inb i)).set := by
    show (((View.whole (main_v6_scv : Ref sig .scVector)).slice (Rect.unit (s := S16x256x512) (k1_off510 i) S1x256x256.size (k1_off510_inb i))).reshape S256x256 _).set = _
    rw [View.set_reshape, View.set_slice_whole]
  rw [h, Rect.mem_set_unit]
  have e0 : k1_off510 i 0 = (row i).val := by rw [off510]; rfl
  have e1 : k1_off510 i 1 = 0 := by rw [off510]; rfl
  have e2 : k1_off510 i 2 = 256 * (col i).val := by rw [off510]; rfl
  constructor
  · intro h
    have h0 := h 0; have h2 := h 2
    rw [e0] at h0; rw [e2] at h2
    have s0 : S1x256x256.size 0 = 1 := rfl
    have s2 : S1x256x256.size 2 = 256 := rfl
    rw [s0] at h0; rw [s2] at h2
    exact ⟨by omega, h2.1, h2.2⟩
  · rintro ⟨h0, h2, h3⟩ a
    match a with
    | 0 => rw [e0]; exact ⟨by omega, by show _ < _ + 1; omega⟩
    | 1 => rw [e1]; exact ⟨Nat.zero_le _, by show _ < 0 + 256; have := (j 1).isLt; exact (Nat.zero_add 256).symm ▸ this⟩
    | 2 => rw [e2]; exact ⟨h2, h3⟩

theorem slabs_disjoint : ∀ i ∈ (Finset.univ : Finset (Fin 2 × Fin 16)), ∀ j ∈ (Finset.univ : Finset (Fin 2 × Fin 16)), i ≠ j →
    Disjoint (slabSet (mk i.1 i.2)) (slabSet (mk j.1 j.2)) := by
  intro i _ j _ hij
  refine Finset.disjoint_left.mpr fun x hx hy => hij ?_
  rw [mem_slabSet] at hx hy
  have c1 : (col (mk i.1 i.2)) = i.1 := rfl
  have c2 : (col (mk j.1 j.2)) = j.1 := rfl
  have r1 : (row (mk i.1 i.2)) = i.2 := rfl
  have r2 : (row (mk j.1 j.2)) = j.2 := rfl
  rw [c1, r1] at hx; rw [c2, r2] at hy
  exact Prod.ext (Fin.ext (by omega)) (Fin.ext (by omega))

theorem slabs_cover : (Finset.univ : Finset (Fin 2 × Fin 16)).biUnion (fun i => slabSet (mk i.1 i.2)) = Finset.univ := by
  refine Finset.eq_univ_iff_forall.mpr fun j => Finset.mem_biUnion.mpr ⟨(⟨(j 2).val / 256, Nat.div_lt_of_lt_mul (j 2).isLt⟩, j 0), Finset.mem_univ _, ?_⟩
  rw [mem_slabSet]
  refine ⟨rfl, ?_, ?_⟩
  · show 256 * ((j 2).val / 256) ≤ (j 2).val
    omega
  · show (j 2).val < 256 * ((j 2).val / 256) + 256
    omega

local notation "𝕄" => MT nD τ sig (HIx 2) (Elt F) ℕ UU ℕ

abbrev yLoc (d : Dev nD) : Loc nD τ sig := (SparseCore.T d).loc main_v5_0
abbrev sLoc (d : Dev nD) : Loc nD τ sig := (SparseCore.T d).loc main_arg1
abbrev oLoc (d : Dev nD) : Loc nD τ sig := (SparseCore.T d).loc main_v6

theorem out_split (d : Dev nD) (f : Buf (Elt F) (oLoc d)) :
    (oLoc d ↦{fullShare} f : sProp 𝕄) = bigSep Finset.univ fun c : Fin 2 => bigSep Finset.univ fun s : Fin 16 => oLoc d ↦[slabSet (mk c s)]{fullShare} f := by
  rw [← bigSep_univ_prod (fun i : Fin 2 × Fin 16 => (oLoc d ↦[slabSet (mk i.1 i.2)]{fullShare} f : sProp 𝕄)),
    ← pointsTo_biUnion Finset.univ (ℓ := oLoc d) (fun i : Fin 2 × Fin 16 => slabSet (mk i.1 i.2)) slabs_disjoint, slabs_cover]; try rfl

/-! ## The tile's own buffers and semaphores -/

theorem carve {I : Type} [DecidableEq I] {n : ℕ} (s : Finset I) (f : Fin n → I) (hf : Function.Injective f) (hs : ∀ j, f j ∈ s) (Φ : I → sProp 𝕄) :
    bigSep s Φ = iprop((bigSep Finset.univ fun j => Φ (f j)) ∗ bigSep (s \ Finset.univ.map ⟨f, hf⟩) Φ) := by
  rw [SparseCore.bigSep_sdiff_split' (s := s) (t := Finset.univ.map ⟨f, hf⟩) (fun x hx => by
    obtain ⟨j, -, rfl⟩ := Finset.mem_map.mp hx; exact hs j), bigSep_map]; rfl

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} from by decide, bigSep_insert (by decide), bigSep_insert (by decide),
    bigSep_insert (by decide), bigSep_insert (by decide), bigSep_singleton]; try rfl
theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]; try rfl

def sems : Fin 7 → DmaSem sig := ![cc1_scratch5.sem, cc1_scratch6.sem, cc1_scratch7.sem, cc1_scratch8.sem, cc1_scoped0.sem, cc1_scoped1.sem, cc1_scoped4.sem]
theorem sems_inj : Function.Injective sems := by decide
theorem sems_scoped : ∀ j, (SemLoc.dma (sems j) : SemLoc sig).isScoped .scVector = true := by decide
def bufs : Fin 5 → Ref sig .scVector := ![cc1_scratch0, cc1_scratch1, cc1_scratch2, cc1_scratch3, cc1_scratch4]
theorem bufs_inj : Function.Injective bufs := by decide
theorem bufs_own (p : Fin τ.nSC) (s : Fin τ.nSub) : ∀ j, ((Proc.scVector p s).devRef (bufs j)).owner = .proc (.scVector p s) := fun j =>
  match j with | 0 => rfl | 1 => rfl | 2 => rfl | 3 => rfl | 4 => rfl

section Own
variable (d : Dev nD) (i : grid1.Coords)

def restSems : sProp 𝕄 := bigSep (SparseCore.Cfg.ownCells (thr d i) \ Finset.univ.map ⟨fun j : Fin 7 => ((thr d i, SemLoc.dma (sems j)) : GSem nD τ sig),
  fun _ _ e => sems_inj (SemLoc.dma.inj (Prod.mk.inj e).2)⟩) fun g => semVal g 0
theorem ownSems_eq : (SparseCore.Cfg.ownSems0 (thr d i) : sProp 𝕄)
    = iprop((semVal (thr d i, .dma cc1_scratch5.sem) 0 ∗ semVal (thr d i, .dma cc1_scratch6.sem) 0 ∗ semVal (thr d i, .dma cc1_scratch7.sem) 0
      ∗ semVal (thr d i, .dma cc1_scratch8.sem) 0 ∗ semVal (thr d i, .dma cc1_scoped0.sem) 0 ∗ semVal (thr d i, .dma cc1_scoped1.sem) 0
      ∗ semVal (thr d i, .dma cc1_scoped4.sem) 0) ∗ restSems d i) := by
  unfold SparseCore.Cfg.ownSems0
  rw [carve _ (fun j : Fin 7 => ((thr d i, SemLoc.dma (sems j)) : GSem nD τ sig)) (fun _ _ e => sems_inj (SemLoc.dma.inj (Prod.mk.inj e).2))
    (fun j => SparseCore.Cfg.mem_ownCells.mpr ⟨rfl, sems_scoped j⟩), bigSep_seven]
  rfl

def restBufs : sProp 𝕄 := bigSep (SparseCore.Cfg.ownRefs (τ := τ) (sig := sig) (thr d i).2 \ Finset.univ.map ⟨fun j : Fin 5 => (thr d i).2.devRef (bufs j),
  fun _ _ e => bufs_inj (Proc.devRef_injective _ e)⟩) fun b => iprop(∃ f, ((d, b) : Loc nD τ sig) ↦{fullShare} f)
theorem ownBufs_eq : (SparseCore.Cfg.ownBufs (thr d i) : sProp 𝕄)
    = iprop(((∃ f, (thr d i).loc cc1_scratch0 ↦{fullShare} f) ∗ (∃ f, (thr d i).loc cc1_scratch1 ↦{fullShare} f) ∗ (∃ f, (thr d i).loc cc1_scratch2 ↦{fullShare} f)
      ∗ (∃ f, (thr d i).loc cc1_scratch3 ↦{fullShare} f) ∗ (∃ f, (thr d i).loc cc1_scratch4 ↦{fullShare} f)) ∗ restBufs d i) := by
  unfold SparseCore.Cfg.ownBufs
  rw [carve _ (fun j : Fin 5 => (thr d i).2.devRef (bufs j)) (fun _ _ e => bufs_inj (Proc.devRef_injective _ e))
    (fun j => SparseCore.Cfg.mem_ownRefs_of_owner (bufs_own _ _ j)), bigSep_five]
  rfl
end Own

/-! ## The tile -/

variable [FloatOps F] [∀ e, Nonempty (Elt F e)]
variable (d : Dev nD) (i : grid1.Coords)

theorem slab_out (y : S50000x512.Idx → F .f32) (s : S100000.Idx → BitVec 32) :
    (owns (thr d i) (slab i aV) fullShare (arr2 256 256 (accT (rowsOf y) (segOf s) i (nTail (row i).val))) : sProp 𝕄)
      ⊢ (oLoc d ↦[slabSet i]{fullShare} (part y s : Buf (Elt F) (oLoc d)) : sProp 𝕄) := by
  unfold owns
  iintro ⟨%f, %hf, H⟩
  iapply (Entails.of_eq (pointsTo_congr (ℓ := oLoc d) (I := slabSet i) (q := fullShare) (f := f) (g := (part y s : Buf (Elt F) (oLoc d))) ?_))
  · intro x hx
    obtain ⟨z, -, rfl⟩ := Finset.mem_map.mp hx
    have hz := congrFun hf z
    have hz' : f ((slab i aV).view.emb z) = arr2 256 256 (accT (rowsOf y) (segOf s) i (nTail (row i).val)) z := hz
    rw [hz']
    have he : (slab i aV).view.emb z = (Rect.unit (s := S16x256x512) (k1_off510 i) S1x256x256.size (k1_off510_inb i)).emb
        (Shape.reshapeEquiv (squeezes_S1x256x256_S256x256).numel_eq z) := rfl
    have hc := Shape.reshapeEquiv_cons_one (n := 2) (d := ![256, 256]) (squeezes_S1x256x256_S256x256).numel_eq z
    have e0 : ((slab i aV).view.emb z 0).val = (row i).val := by
      rw [he, Rect.emb_apply, hc]
      show k1_off510 i 0 + 1 * 0 = _
      rw [off510]; rfl
    have e1 : ((slab i aV).view.emb z 1).val = (z 0).val := by
      rw [he, Rect.emb_apply, hc]
      show k1_off510 i 1 + 1 * (z 0).val = _
      rw [off510]; show 0 + 1 * (z 0).val = _; omega
    have e2 : ((slab i aV).view.emb z 2).val = 256 * (col i).val + (z 1).val := by
      rw [he, Rect.emb_apply, hc]
      show k1_off510 i 2 + 1 * (z 1).val = _
      rw [off510]; show 256 * (col i).val + 1 * (z 1).val = _; omega
    have hz1 : (z 1).val < 256 := (z 1).isLt
    generalize (slab i aV).view.emb z = x at e0 e1 e2
    unfold part arr2
    have hm : mk ⟨(x 2).val / 256, Nat.div_lt_of_lt_mul (x 2).isLt⟩ (x 0) = i := by
      rw [← mk_eq i]
      exact congrArg₂ Facts1.mk (Fin.ext (by show (x 2).val / 256 = (col i).val; omega)) (Fin.ext e0)
    rw [hm, e0, e1, show (x 2).val % 256 = (z 1).val by omega]
  iexact H

theorem toks (ℓ : Loc nD τ sig) (q : PosShare TreeShare) (f : Buf (Elt F) ℓ) :
    (ℓ ↦{q} f : sProp 𝕄) ⊣⊢ iprop((ℓ ↦{q.left} f) ∗ ℓ ↦{q.right} f) := pointsTo_share (PosShare.mem_left_op_right _)

theorem tile_body (y : Buf (Elt F) (yLoc d)) (s : Buf (Elt F) (sLoc d)) (o : Buf (Elt F) (oLoc d)) (q : PosShare TreeShare)
    (hs : ∀ r, r < 100000 → (segOf (s : S100000.Idx → BitVec 32) r).toNat < 256) (O : CellTallies nD τ sig (HIx 2)) (W : Waits sig (HIx 2)) (hO : ∀ g, O g none = 0) :
    (iprop(levAts (K (F := F)).L (K (F := F)).lev ∗ emp ∗ ((yLoc d ↦{q} y) ∗ (sLoc d ↦{q} s) ∗ oLoc d ↦[slabSet i]{fullShare} o)
        ∗ scopedBufs (thr d i) ∗ scopedSems0 (thr d i) ∗ owes (thr d i) O W) : sProp 𝕄)
      ⊢ wp frame (wpE (defs₀ (F := F)) 𝒱₀ (thr d i) none) Set.univ
          (cc1__seg_body i (Memref.whole main_v5_0_scv) (Memref.isWhole_whole _) (Memref.whole main_arg1_scv) (Memref.isWhole_whole _) (Memref.whole main_v6_scv) (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) cc1_scratch5 cc1_scratch6 cc1_scratch7 cc1_scratch8
            cc1_scoped0 cc1_scoped1 cc1_scoped2 cc1_scoped3 cc1_scoped4)
          fun _ => iprop(((yLoc d ↦{q} y) ∗ (sLoc d ↦{q} s) ∗ oLoc d ↦[slabSet i]{fullShare} (part y s : Buf (Elt F) (oLoc d)))
            ∗ scopedBufs (thr d i) ∗ scopedSems0 (thr d i) ∗ ∃ W', ⌜∀ p ∈ W', p ∈ W ∨ p.2 = none⌝ ∗ owes (thr d i) O W') := by
  haveI : Nonempty (F .f32) := (inferInstance : Nonempty (Elt F .f32))
  rw [(K (F := F)).scopedBufs_V facts d _ _, SparseCore.Cfg.scopedSems0_V (Val := Elt F) d _ _, ownSems_eq, ownBufs_eq]
  iintro ⟨#Hlv, -, ⟨Hy, Hs, Ho⟩, ⟨⟨⟨%f0, H0⟩, ⟨%f1, H1⟩, ⟨%f2, H2⟩, ⟨%f3, H3⟩, ⟨%f4, H4⟩⟩, Hbufs⟩, ⟨⟨V5, V6, V7, V8, VA, VB, VC⟩, Hsems⟩, HO⟩
  ihave #Hmw := ((K (F := F)).mayWaits_none (thr := thr d i) hO) $$ Hlv
  ihave Hy := (toks (F := F) (yLoc d) q y).1 $$ Hy
  icases Hy with ⟨HyA, HyB⟩
  ihave Hs := (toks (F := F) (sLoc d) q s).1 $$ Hs
  icases Hs with ⟨HsA, HsB⟩
  obtain ⟨x0, h0⟩ := exists_arr2 (α := F .f32) (n := 112) (w := 256) f0
  obtain ⟨x1, h1⟩ := exists_arr2 (α := F .f32) (n := 112) (w := 256) f1
  obtain ⟨x2, h2⟩ := exists_arr1 (α := BitVec 32) (n := 128) f2
  obtain ⟨x3, h3⟩ := exists_arr1 (α := BitVec 32) (n := 128) f3
  obtain ⟨x4, h4⟩ := exists_arr2 (α := F .f32) (n := 256) (w := 256) f4
  ihave H0 := (Entails.of_eq (owns_whole (thr d i) cc1_scratch0 fullShare f0).symm) $$ H0
  ihave H1 := (Entails.of_eq (owns_whole (thr d i) cc1_scratch1 fullShare f1).symm) $$ H1
  ihave H2 := (Entails.of_eq (owns_whole (thr d i) cc1_scratch2 fullShare f2).symm) $$ H2
  ihave H3 := (Entails.of_eq (owns_whole (thr d i) cc1_scratch3 fullShare f3).symm) $$ H3
  ihave H4 := (Entails.of_eq (owns_whole (thr d i) cc1_scratch4 fullShare f4).symm) $$ H4
  rw [h0, h1, h2, h3, h4]
  ihave SA := (idle_intro (thr d i) (a2 := Memref.whole main_v5_0_scv) (a3 := Memref.whole main_arg1_scv) (f2 := y) (f3 := s) (q2 := q.left) (q3 := q.left)) $$ [HyA HsA H0 H2 V5 V7]
  · isplitl [HyA]; · iexact HyA
    isplitl [HsA]; · iexact HsA
    isplitl [H0]; · iexact H0
    isplitl [H2]; · iexact H2
    isplitl [V5]; · iexact V5
    iexact V7
  ihave SB := (idle_intro (thr d i) (a2 := Memref.whole main_v5_0_scv) (a3 := Memref.whole main_arg1_scv) (f2 := y) (f3 := s) (q2 := q.right) (q3 := q.right)) $$ [HyB HsB H1 H3 V6 V8]
  · isplitl [HyB]; · iexact HyB
    isplitl [HsB]; · iexact HsB
    isplitl [H1]; · iexact H1
    isplitl [H3]; · iexact H3
    isplitl [V6]; · iexact V6
    iexact V8
  ihave Ho := (owns_intro (thr d i) (slab i aV) fullShare o) $$ Ho
  iapply (wp_use (wp_tile countersEmb d i (Memref.whole main_v5_0_scv) (Memref.isWhole_whole _) (Memref.whole main_arg1_scv) (Memref.isWhole_whole _) (Memref.whole main_v6_scv) (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) cc1_scratch5 cc1_scratch6 cc1_scratch7 cc1_scratch8
            cc1_scoped0 cc1_scoped1 cc1_scoped2 cc1_scoped3 cc1_scoped4 hs (f2 := y) (f3 := s) (rowsOf_eq y) (segOf_eq s) none))
  isplitl [SA SB H4 Ho VA VB VC HO]
  · isplitr; · iexact Hmw
    isplitl [SA]; · iexact SA
    isplitl [SB]; · iexact SB
    isplitl [H4]; · iexact H4
    isplitl [Ho]; · iexact Ho
    isplitl [VA]; · iexact VA
    isplitl [VB]; · iexact VB
    isplitl [VC]; · iexact VC
    iexact HO
  iintro %_ ⟨SA, SB, ⟨%xa, H4⟩, Ho, VA, VB, VC, HO⟩
  ihave SA := (idle_elim (thr d i)) $$ SA
  icases SA with ⟨HyA, HsA, ⟨%xb, H0⟩, ⟨%xc, H2⟩, V5, V7⟩
  ihave SB := (idle_elim (thr d i)) $$ SB
  icases SB with ⟨HyB, HsB, ⟨%xd, H1⟩, ⟨%xe, H3⟩, V6, V8⟩
  ihave HO := (owed_elim (thr d i)) $$ HO
  isplitl [HyA HyB HsA HsB Ho]
  · isplitl [HyA HyB]
    · iapply (toks (F := F) (yLoc d) q y).2
      isplitl [HyA]; · iexact HyA
      iexact HyB
    isplitl [HsA HsB]
    · iapply (toks (F := F) (sLoc d) q s).2
      isplitl [HsA]; · iexact HsA
      iexact HsB
    iapply (slab_out d i y s); iexact Ho
  ihave H0 := (Entails.of_eq (owns_whole (thr d i) cc1_scratch0 fullShare _)) $$ H0
  ihave H1 := (Entails.of_eq (owns_whole (thr d i) cc1_scratch1 fullShare _)) $$ H1
  ihave H2 := (Entails.of_eq (owns_whole (thr d i) cc1_scratch2 fullShare _)) $$ H2
  ihave H3 := (Entails.of_eq (owns_whole (thr d i) cc1_scratch3 fullShare _)) $$ H3
  ihave H4 := (Entails.of_eq (owns_whole (thr d i) cc1_scratch4 fullShare _)) $$ H4
  isplitl [H0 H1 H2 H3 H4 Hbufs]
  · isplitr [Hbufs]
    · isplitl [H0]; · iexists _; iexact H0
      isplitl [H1]; · iexists _; iexact H1
      isplitl [H2]; · iexists _; iexact H2
      isplitl [H3]; · iexists _; iexact H3
      iexists _; iexact H4
    iexact Hbufs
  isplitl [V5 V6 V7 V8 VA VB VC Hsems]
  · isplitr [Hsems]
    · isplitl [V5]; · iexact V5
      isplitl [V6]; · iexact V6
      isplitl [V7]; · iexact V7
      isplitl [V8]; · iexact V8
      isplitl [VA]; · iexact VA
      isplitl [VB]; · iexact VB
      iexact VC
    iexact Hsems
  iexact HO

/-! ## The call's arrays, dealt to the cores and to the tiles -/

section Deal
variable (d : Dev nD) (y : Buf (Elt F) (yLoc d)) (s : Buf (Elt F) (sLoc d)) (o o' : Buf (Elt F) (oLoc d))

/-- What a tile is handed: a share of what it reads, its slab of the result whole. -/
def goT (c : Fin 2) (j : Fin 16) : sProp 𝕄 :=
  iprop((yLoc d ↦{Transfers.shareTok (Transfers.shareTok fullShare 2 c) 16 j} y) ∗ (sLoc d ↦{Transfers.shareTok (Transfers.shareTok fullShare 2 c) 16 j} s)
    ∗ oLoc d ↦[slabSet (mk c j)]{fullShare} o)
/-- What a core is handed. -/
def stT (c : Fin 2) : sProp 𝕄 :=
  iprop((yLoc d ↦{Transfers.shareTok fullShare 2 c} y) ∗ (sLoc d ↦{Transfers.shareTok fullShare 2 c} s)
    ∗ bigSep Finset.univ fun j : Fin 16 => oLoc d ↦[slabSet (mk c j)]{fullShare} o)

instance goT_storable (c : Fin 2) (j : Fin 16) : BI.Storable (upEmb : UEmb _ 𝕄) (goT d y s o c j) := by unfold goT; infer_instance
instance stT_storable (c : Fin 2) : BI.Storable (upEmb : UEmb _ 𝕄) (stT d y s o c) := by unfold stT; infer_instance

theorem core_split (c : Fin 2) : (stT d y s o c : sProp 𝕄) ⊢ iprop((bigSep Finset.univ fun j : Fin 16 => goT d y s o c j)
    ∗ ((bigSep Finset.univ fun j : Fin 16 => goT d y s o' c j) -∗ stT d y s o' c)) := by
  unfold stT goT
  rw [bigSep_sep', bigSep_sep', bigSep_sep', bigSep_sep']
  iintro ⟨Hy, Hs, Ho⟩
  ihave Hy := (Transfers.pointsTo_toks_split (ℓ := yLoc d) (S := Finset.univ) (f := y) (Transfers.shareTok fullShare 2 c) 16) $$ Hy
  icases Hy with ⟨Hy0, Hy⟩
  ihave Hs := (Transfers.pointsTo_toks_split (ℓ := sLoc d) (S := Finset.univ) (f := s) (Transfers.shareTok fullShare 2 c) 16) $$ Hs
  icases Hs with ⟨Hs0, Hs⟩
  isplitl [Hy Hs Ho]
  · isplitl [Hy]; · iexact Hy
    isplitl [Hs]; · iexact Hs
    iexact Ho
  iintro ⟨Hy, Hs, Ho⟩
  isplitl [Hy0 Hy]
  · iapply (Transfers.pointsTo_toks_join (ℓ := yLoc d) (S := Finset.univ) (f := y) (Transfers.shareTok fullShare 2 c) 16)
    isplitl [Hy0]; · iexact Hy0
    iexact Hy
  isplitl [Hs0 Hs]
  · iapply (Transfers.pointsTo_toks_join (ℓ := sLoc d) (S := Finset.univ) (f := s) (Transfers.shareTok fullShare 2 c) 16)
    isplitl [Hs0]; · iexact Hs0
    iexact Hs
  iexact Ho

theorem call_split : (iprop((yLoc d ↦{fullShare} y) ∗ (sLoc d ↦{fullShare} s) ∗ oLoc d ↦{fullShare} o) : sProp 𝕄)
    ⊢ iprop((bigSep Finset.univ fun c : Fin 2 => stT d y s o c)
      ∗ ((bigSep Finset.univ fun c : Fin 2 => stT d y s o' c) -∗ iprop((yLoc d ↦{fullShare} y) ∗ (sLoc d ↦{fullShare} s) ∗ oLoc d ↦{fullShare} o'))) := by
  unfold stT
  rw [bigSep_sep', bigSep_sep', bigSep_sep', bigSep_sep', out_split d o, out_split d o']
  iintro ⟨Hy, Hs, Ho⟩
  ihave Hy := (Transfers.pointsTo_toks_split (ℓ := yLoc d) (S := Finset.univ) (f := y) fullShare 2) $$ Hy
  icases Hy with ⟨Hy0, Hy⟩
  ihave Hs := (Transfers.pointsTo_toks_split (ℓ := sLoc d) (S := Finset.univ) (f := s) fullShare 2) $$ Hs
  icases Hs with ⟨Hs0, Hs⟩
  isplitl [Hy Hs Ho]
  · isplitl [Hy]; · iexact Hy
    isplitl [Hs]; · iexact Hs
    iexact Ho
  iintro ⟨Hy, Hs, Ho⟩
  isplitl [Hy0 Hy]
  · iapply (Transfers.pointsTo_toks_join (ℓ := yLoc d) (S := Finset.univ) (f := y) fullShare 2)
    isplitl [Hy0]; · iexact Hy0
    iexact Hy
  isplitl [Hs0 Hs]
  · iapply (Transfers.pointsTo_toks_join (ℓ := sLoc d) (S := Finset.univ) (f := s) fullShare 2)
    isplitl [Hs0]; · iexact Hs0
    iexact Hs
  iexact Ho
end Deal

theorem seg_lt (s : S100000.Idx → BitVec 32) (h : ∀ j, (s j).toNat < 256) : ∀ r, r < 100000 → (segOf s r).toNat < 256 := fun r hr => by
  have e := congrFun (segOf_eq s) (fun a => match a with | 0 => (⟨r, hr⟩ : Fin 100000))
  have e' : s (fun a => match a with | 0 => (⟨r, hr⟩ : Fin 100000)) = segOf s r := e
  rw [← e']; exact h _

/-- The call's dispatch on a tile of its grid. -/
theorem defs₀_vector (c : Fin τ.nSC) (s : Fin τ.nSub) :
    defs₀ (F := F) (.scVector c s) 1 ()
      = SparseCore.onTile hcore1 hsub1 (fun c s => cc1__seg_body (mk c s) (Memref.whole main_v5_0_scv) (Memref.isWhole_whole _) (Memref.whole main_arg1_scv) (Memref.isWhole_whole _) (Memref.whole main_v6_scv) (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) cc1_scratch5 cc1_scratch6 cc1_scratch7 cc1_scratch8
            cc1_scoped0 cc1_scoped1 cc1_scoped2 cc1_scoped3 cc1_scoped4) ⟨⟩ c s := rfl

end Cert.Proof.Tw1
end
-- ==== Proof.Facts3.lean ====
/-
  Where a tile of the call reads and writes, and which of its conditions hold, at each core and subcore.
-/
module
public import proofs.«01_k».proof.KernelIdeal
public import proofs.«01_k».proof.Proof.Gen.KernelIdeal
public import proofs.«01_k».proof.Proof.Sizes
@[expose] public section
noncomputable section
namespace Cert.Proof.Facts3
open Cert.KernelIdeal Cert.KernelIdeal.Gen Cert.Proof.Rows
open Idealize.ShloMosaic

def mk (c : Fin 2) (s : Fin 16) : grid3.Coords := fun | 0 => c | 1 => s | ⟨_ + 2, h⟩ => absurd h (Nat.not_lt.2 (Nat.le_add_left _ _))
abbrev col (i : grid3.Coords) : Fin 2 := i 0
abbrev row (i : grid3.Coords) : Fin 16 := i 1
theorem mk_eq (i : grid3.Coords) : mk (col i) (row i) = i := by
  funext a
  match a with
  | 0 => rfl
  | 1 => rfl
theorem lift {P : grid3.Coords → Prop} (h : ∀ c s, P (mk c s)) (i : grid3.Coords) : P i := mk_eq i ▸ h _ _

theorem t1_trips : Scf.trips k3_t1_loop.lb k3_t1_loop.ub k3_t1_loop.st = 4096 := by decide +kernel
theorem t2_trips (i : grid3.Coords) : Scf.trips (k3_t2_loop i).lb (k3_t2_loop i).ub (k3_t2_loop i).st = nFull (row i).val / 2 := by
  revert i; refine lift ?_; decide +kernel
theorem t9_trips (i : grid3.Coords) : Scf.trips (k3_t9_loop i).lb (k3_t9_loop i).ub (k3_t9_loop i).st = 0 := by
  revert i; refine lift ?_; decide +kernel
theorem t16_trips (i : grid3.Coords) : Scf.trips (k3_t16_loop i).lb (k3_t16_loop i).ub (k3_t16_loop i).st = nTail (row i).val := by
  revert i; refine lift ?_; decide +kernel
theorem t18_trips (i : grid3.Coords) : Scf.trips (k3_t18_loop i).lb (k3_t18_loop i).ub (k3_t18_loop i).st = 0 := by
  revert i; refine lift ?_; decide +kernel
theorem off1 (t : Fin k3_t1_loop.trips) : k3_off1 t = ![t.val / 16, 16 * (t.val % 16)] := by
  revert t; decide +kernel
theorem cond1 (i : grid3.Coords) : k3_cond1 i = 1#1 := by
  revert i; refine lift ?_; decide +kernel
theorem cond2 (i : grid3.Coords) : k3_cond2 i = 1#1 := by
  revert i; refine lift ?_; decide +kernel
theorem cond3 (i : grid3.Coords) (t : Fin (k3_t2_loop i).trips) : k3_cond3 i t = 1#1 := by
  revert i; refine lift ?_; decide +kernel
theorem cond8 (i : grid3.Coords) (t : Fin (k3_t2_loop i).trips) : k3_cond8 i t = 1#1 := by
  revert i; refine lift ?_; decide +kernel
theorem cond7 (i : grid3.Coords) (t : Fin (k3_t2_loop i).trips) : k3_cond7 i t = 1#1 ↔ t.val + 1 < nFull (row i).val / 2 := by
  revert i; refine lift ?_; decide +kernel
theorem cond12 (i : grid3.Coords) (t : Fin (k3_t2_loop i).trips) : k3_cond12 i t = 1#1 ↔ t.val + 1 < nFull (row i).val / 2 := by
  revert i; refine lift ?_; decide +kernel
theorem off2 (i : grid3.Coords) : k3_off2 i = ![3136 * (row i).val + 112 * (2 * 0), 256 * (col i).val] := by
  revert i; refine lift ?_; decide +kernel
theorem off3 (i : grid3.Coords) : k3_off3 i = ![50000 + (3136 * (row i).val + 112 * (2 * 0))] := by
  revert i; refine lift ?_; decide +kernel
theorem off4 (i : grid3.Coords) : k3_off4 i = ![3136 * (row i).val + 112 * (2 * 0 + 1), 256 * (col i).val] := by
  revert i; refine lift ?_; decide +kernel
theorem off5 (i : grid3.Coords) : k3_off5 i = ![50000 + (3136 * (row i).val + 112 * (2 * 0 + 1))] := by
  revert i; refine lift ?_; decide +kernel
theorem off105 (i : grid3.Coords) (t : Fin (k3_t2_loop i).trips) : k3_off105 i t = ![3136 * (row i).val + 112 * (2 * (t.val + 1)), 256 * (col i).val] := by
  revert i; refine lift ?_; decide +kernel
theorem off106 (i : grid3.Coords) (t : Fin (k3_t2_loop i).trips) : k3_off106 i t = ![50000 + (3136 * (row i).val + 112 * (2 * (t.val + 1)))] := by
  revert i; refine lift ?_; decide +kernel
theorem off206 (i : grid3.Coords) (t : Fin (k3_t2_loop i).trips) : k3_off206 i t = ![3136 * (row i).val + 112 * (2 * (t.val + 1) + 1), 256 * (col i).val] := by
  revert i; refine lift ?_; decide +kernel
theorem off207 (i : grid3.Coords) (t : Fin (k3_t2_loop i).trips) : k3_off207 i t = ![50000 + (3136 * (row i).val + 112 * (2 * (t.val + 1) + 1))] := by
  revert i; refine lift ?_; decide +kernel
theorem off410 (i : grid3.Coords) (t : Fin (k3_t16_loop i).trips) : k3_off410 i t = ![3136 * (row i).val + 112 * nFull (row i).val + 8 * t.val, 256 * (col i).val] := by
  revert i; refine lift ?_; decide +kernel
theorem off411 (i : grid3.Coords) (t : Fin (k3_t16_loop i).trips) : k3_off411 i t = ![50000 + (3136 * (row i).val + 112 * nFull (row i).val + 8 * t.val)] := by
  revert i; refine lift ?_; decide +kernel
theorem off510 (i : grid3.Coords) : k3_off510 i = ![(row i).val, 0, 256 * (col i).val] := by
  revert i; refine lift ?_; decide +kernel
end Cert.Proof.Facts3
-- ==== Proof.Blk3A.lean ====
module
public import proofs.«01_k».proof.KernelIdeal
public import proofs.«01_k».proof.Proof.Gen.KernelIdeal
public import proofs.«01_k».proof.Proof.Chunk
@[expose] public section
set_option pp.maxSteps 300
noncomputable section
namespace Cert.Proof.Blk3A
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} {𝒱 : Variants} {bd : Option 𝒱.V}
local notation "𝕄" => MT nD τ sig Ix (Elt F) Name U Lvl

theorem c4_eq (p t b : BitVec 32) : k3_cond4 p t b = eqC p t b := rfl
theorem c5_eq (p v : BitVec 32) : k3_cond5 p v = neC v p := rfl
attribute [local irreducible] k3_cond3 k3_cond4 k3_cond5

/-- One chunk, as printed: the two waits, the rows, the last flush. -/
def prog (i : grid3.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (v7 : FVec F S16 .f32) (k3_t2 : Fin (k3_t2_loop i).trips) (v43 : BitVec 32) (k3_h3 : k3_cond3 i k3_t2 = 1#1)
    (K2 : Prog (TpuEff nD τ sig (Elt F) Λ₀ (.scVector ((i 0).castLE hcore3) ((i 1).castLE hsub3))) PUnit) :
    Prog (TpuEff nD τ sig (Elt F) Λ₀ (.scVector ((i 0).castLE hcore3) ((i 1).castLE hsub3))) PUnit := do
  let ⟨v70_0, v70_4, v70_5, v70_6, v70_7, v70_8, v70_9, v70_10, v70_11, v70_12, v70_13, v70_14, v70_15, v70_16, k3_hw6, v83⟩ : Σ' (v70_0 : BitVec 32) (v70_4 : FVec F S16 .f32) (v70_5 : FVec F S16 .f32) (v70_6 : FVec F S16 .f32) (v70_7 : FVec F S16 .f32) (v70_8 : FVec F S16 .f32) (v70_9 : FVec F S16 .f32) (v70_10 : FVec F S16 .f32) (v70_11 : FVec F S16 .f32) (v70_12 : FVec F S16 .f32) (v70_13 : FVec F S16 .f32) (v70_14 : FVec F S16 .f32) (v70_15 : FVec F S16 .f32) (v70_16 : FVec F S16 .f32) (k3_hw6 : k3_chk6 i k3_t2 v70_0), FVec F S16 .f32 ← k3_part37 i arg2 harg2 arg3 harg3 arg4 harg4 arg5 harg5 arg6 harg6 arg7 harg7 arg8 harg8 arg9 harg9 arg10 arg11 arg12 arg13 v137_r0 v137_r1 v137_r2 v137_r3 v42_r4 v0 v7 k3_t2 v43 k3_h3
  let v113 : FVec F S16 .f32 ← k3_part38 i arg2 harg2 arg3 harg3 arg4 harg4 arg5 harg5 arg6 harg6 arg7 harg7 arg8 harg8 arg9 harg9 arg10 arg11 arg12 arg13 v137_r0 v137_r1 v137_r2 v137_r3 v42_r4 k3_t2 k3_h3 v70_0 v70_4 v70_5 v70_6 v70_7 v70_8 v70_9 k3_hw6 v83
  let v143 : FVec F S16 .f32 ← k3_part39 i arg2 harg2 arg3 harg3 arg4 harg4 arg5 harg5 arg6 harg6 arg7 harg7 arg8 harg8 arg9 harg9 arg10 arg11 arg12 arg13 v137_r0 v137_r1 v137_r2 v137_r3 v42_r4 k3_t2 k3_h3 v70_0 v70_10 v70_11 v70_12 v70_13 v70_14 v70_15 k3_hw6 v113
  let c224_51 : Index := 224#32
  let v145_ld : Vec F S1x16 .f32 ← Prog.lift (.load arg9 (Rect.unit (s := S256x256) (k3_off103 v70_0) S1x16.size (k3_off103_inb i k3_t2 v70_0 k3_hw6 k3_h3)).toLoadRect (View.loadsAt_vmem h_S1x16))
  have v145 : Vec F S16 .f32 := shapeCast S16 v145_ld shapeCasts_S1x16_S16
  Prog.lift (.store arg9 (Rect.unit (s := S256x256) (k3_off103 v70_0) S1x16.size (k3_off103_inb i k3_t2 v70_0 k3_hw6 k3_h3)) (shapeCast S1x16 v143 shapeCasts_S16_S1x16) Finset.univ (View.stores_vmem_bits_univ h_S1x16 rfl) (.inl rfl))
  let v146 : Index := Scalar.indexCast v70_0
  let c240 : Index := 240#32
  let v147_ld : Vec F S1x16 .f32 ← Prog.lift (.load arg9 (Rect.unit (s := S256x256) (k3_off104 v70_0) S1x16.size (k3_off104_inb i k3_t2 v70_0 k3_hw6 k3_h3)).toLoadRect (View.loadsAt_vmem h_S1x16))
  have v147 : Vec F S16 .f32 := shapeCast S16 v147_ld shapeCasts_S1x16_S16
  have v148 : FVec F S16 .f32 := addf v147 v70_16
  let v149 : Index := Scalar.indexCast v70_0
  let c240_52 : Index := 240#32
  let v150_ld : Vec F S1x16 .f32 ← Prog.lift (.load arg9 (Rect.unit (s := S256x256) (k3_off104 v70_0) S1x16.size (k3_off104_inb i k3_t2 v70_0 k3_hw6 k3_h3)).toLoadRect (View.loadsAt_vmem h_S1x16))
  have v150 : Vec F S16 .f32 := shapeCast S16 v150_ld shapeCasts_S1x16_S16
  Prog.lift (.store arg9 (Rect.unit (s := S256x256) (k3_off104 v70_0) S1x16.size (k3_off104_inb i k3_t2 v70_0 k3_hw6 k3_h3)) (shapeCast S1x16 v148 shapeCasts_S16_S1x16) Finset.univ (View.stores_vmem_bits_univ h_S1x16 rfl) (.inl rfl))
  K2

abbrev thr (d : Dev nD) (i : grid3.Coords) : Thread nD τ := (d, .scVector ((i 0).castLE hcore3) ((i 1).castLE hsub3))

set_option maxHeartbeats 1000000 in
theorem wp_prog (EC : UEmb Counters 𝕄) [EC.LandsIn (upEmb : UEmb _ 𝕄)] (d : Dev nD) {Q : PUnit → sProp 𝕄} (i : grid3.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (z : F .f32) (k3_t2 : Fin (k3_t2_loop i).trips) (v43 : BitVec 32) (k3_h3 : k3_cond3 i k3_t2 = 1#1)
    {K2 : Prog (TpuEff nD τ sig (Elt F) Λ₀ (.scVector ((i 0).castLE hcore3) ((i 1).castLE hsub3))) PUnit}
    {SG : Nat → BitVec 32} {X A : Nat → Nat → F .f32} (hSG : ∀ r, r < 112 → (SG r).toNat < 256)
    (ι : Ix) {N1 N2 : ℕ} (hN1 : arg5.view.dmaCredit = N1) (hN2 : (arg7.slice (Rect.unit (s := S128) ![0] S112.size inb_S128_S112_0) (fun _ => rfl)).view.dmaCredit = N2)
    {O : CellTallies nD τ sig Ix} {W : Waits sig Ix} {D1 D2 R D' : sProp 𝕄}
    (hD : iprop(D1 ∗ D2 ∗ R) ⊢ iprop(owns (thr d i) arg5 fullShare (arr2 112 256 X) ∗ owns (thr d i) arg7 fullShare (arr1 128 SG) ∗ D')) :
    iprop(Transfers.Flight EC (thr d i) (.dma arg10.sem) ι N1 D1 ∗ Transfers.Flight EC (thr d i) (.dma arg12.sem) ι N2 D2 ∗ R
        ∗ owns (thr d i) arg9 fullShare (arr2 256 256 A) ∗ owes (thr d i) O W ∗ Transfers.MayWaits (thr d i) ι O)
      ⊢ iprop((iprop(bufs (thr d i) arg5 arg7 arg9 X SG (chunkA z SG X A 112) ∗ D' ∗ semVal (thr d i, .dma arg10.sem) 0 ∗ semVal (thr d i, .dma arg12.sem) 0
            ∗ owes (thr d i) O (insert (SemLoc.dma arg12.sem, ι) (insert (SemLoc.dma arg10.sem, ι) W)))
            -∗ wp frame (wpE defs 𝒱 (thr d i) bd) Set.univ K2 Q)
          -∗ wp frame (wpE defs 𝒱 (thr d i) bd) Set.univ (prog i arg2 harg2 arg3 harg3 arg4 harg4 arg5 harg5 arg6 harg6 arg7 harg7 arg8 harg8 arg9 harg9 arg10 arg11 arg12 arg13 v137_r0 v137_r1 v137_r2 v137_r3 v42_r4 v0 (fun _ => z) k3_t2 v43 k3_h3 K2) Q) := by
  have h1 : k3_chk1 i k3_t2 (fun _ => 0#32) := fun _ a x => by
    obtain rfl : a = 0 := Subsingleton.elim _ _
    show (0#32 : BitVec 32).toNat < 128
    decide
  have h6 : ∀ p : BitVec 32, p.toNat < 256 → k3_chk6 i k3_t2 p := fun p hp => ⟨fun _ => inbA p hp 0 rfl, fun _ => inbA p hp 1 rfl, fun _ => inbA p hp 2 rfl, fun _ => inbA p hp 3 rfl, fun _ => inbA p hp 4 rfl, fun _ => inbA p hp 5 rfl, fun _ => inbA p hp 6 rfl, fun _ => inbA p hp 7 rfl, fun _ => inbA p hp 8 rfl, fun _ => inbA p hp 9 rfl, fun _ => inbA p hp 10 rfl, fun _ => inbA p hp 11 rfl, fun _ => inbA p hp 12 rfl, fun _ => inbA p hp 13 rfl, fun _ => inbA p hp 14 rfl, fun _ => inbA p hp 15 rfl⟩
  refine wp_wait2 EC 𝒱 (thr d i) bd ι hN1 hN2 hD rfl ?_
  refine chunk_glue ?_
  refine wp_chunk (c := thr d i) (defs := defs) (𝒱 := 𝒱) (bd := bd) (xM := arg5) (sM := arg7) (aM := arg9) (z := z) (SG := SG) (X := X) (Q := Q) 7 16 A (by decide) hSG
    (c1 := k3_chk1 i k3_t2 (fun _ => 0#32)) (d1 := k3_chk1.dec i k3_t2 _) h1 (hx := fun h => k3_idx1_inb i k3_t2 _ h k3_h3) (hl := View.loads_vmem h_S128)
    (lb := k3_t3_loop.lb) (ub := k3_t3_loop.ub) (stp := k3_t3_loop.st) (hok := k3_t3_ok i k3_t2 k3_h3) (by decide)
    (c6 := fun p => k3_chk6 i k3_t2 p) (d6 := fun p => k3_chk6.dec i k3_t2 p) h6
    (fun p h => ![⟨k3_off89 p, k3_off89_inb i k3_t2 p h k3_h3⟩, ⟨k3_off90 p, k3_off90_inb i k3_t2 p h k3_h3⟩, ⟨k3_off91 p, k3_off91_inb i k3_t2 p h k3_h3⟩, ⟨k3_off92 p, k3_off92_inb i k3_t2 p h k3_h3⟩, ⟨k3_off93 p, k3_off93_inb i k3_t2 p h k3_h3⟩, ⟨k3_off94 p, k3_off94_inb i k3_t2 p h k3_h3⟩, ⟨k3_off95 p, k3_off95_inb i k3_t2 p h k3_h3⟩, ⟨k3_off96 p, k3_off96_inb i k3_t2 p h k3_h3⟩, ⟨k3_off97 p, k3_off97_inb i k3_t2 p h k3_h3⟩, ⟨k3_off98 p, k3_off98_inb i k3_t2 p h k3_h3⟩, ⟨k3_off99 p, k3_off99_inb i k3_t2 p h k3_h3⟩, ⟨k3_off100 p, k3_off100_inb i k3_t2 p h k3_h3⟩, ⟨k3_off101 p, k3_off101_inb i k3_t2 p h k3_h3⟩, ⟨k3_off102 p, k3_off102_inb i k3_t2 p h k3_h3⟩, ⟨k3_off103 p, k3_off103_inb i k3_t2 p h k3_h3⟩, ⟨k3_off104 p, k3_off104_inb i k3_t2 p h k3_h3⟩]) (fun p h j => by fin_cases j <;> rfl)
    rfl (fun h f p cr => rfl) (fun k3_t3 s hp => ?_)
  have hk3 : k3_t3.val < 7 := lt_of_lt_of_eq k3_t3.isLt (by decide)
  have ht4 : Scf.trips (k3_t4_loop k3_t3).lb (k3_t4_loop k3_t3).ub (k3_t4_loop k3_t3).st = 16 := by
    revert k3_t3; decide
  have ht5 : Scf.trips (k3_t5_loop k3_t3).lb (k3_t5_loop k3_t3).ub (k3_t5_loop k3_t3).st = 0 := by
    revert k3_t3; decide
  refine wp_group (c := thr d i) (defs := defs) (𝒱 := 𝒱) (bd := bd) (xM := arg5) (sM := arg7) (aM := arg9) (z := z) (SG := SG) (X := X) s (16 * k3_t3.val)
    (o := k3_off8 k3_t3) (by rw [← addr_g _ hk3]; rfl) (hin := k3_off8_inb i k3_t2 k3_t3 k3_h3) (hl := View.loadsAt_vmem h_S16) rfl
    (fun r => ![⟨k3_off9 k3_t3 (BitVec.ofNat 32 r.val), k3_off9_inb i k3_t2 k3_t3 k3_h3 r⟩, ⟨k3_off10 k3_t3 (BitVec.ofNat 32 r.val), k3_off10_inb i k3_t2 k3_t3 k3_h3 r⟩, ⟨k3_off11 k3_t3 (BitVec.ofNat 32 r.val), k3_off11_inb i k3_t2 k3_t3 k3_h3 r⟩, ⟨k3_off12 k3_t3 (BitVec.ofNat 32 r.val), k3_off12_inb i k3_t2 k3_t3 k3_h3 r⟩, ⟨k3_off13 k3_t3 (BitVec.ofNat 32 r.val), k3_off13_inb i k3_t2 k3_t3 k3_h3 r⟩, ⟨k3_off14 k3_t3 (BitVec.ofNat 32 r.val), k3_off14_inb i k3_t2 k3_t3 k3_h3 r⟩, ⟨k3_off15 k3_t3 (BitVec.ofNat 32 r.val), k3_off15_inb i k3_t2 k3_t3 k3_h3 r⟩, ⟨k3_off16 k3_t3 (BitVec.ofNat 32 r.val), k3_off16_inb i k3_t2 k3_t3 k3_h3 r⟩, ⟨k3_off17 k3_t3 (BitVec.ofNat 32 r.val), k3_off17_inb i k3_t2 k3_t3 k3_h3 r⟩, ⟨k3_off18 k3_t3 (BitVec.ofNat 32 r.val), k3_off18_inb i k3_t2 k3_t3 k3_h3 r⟩, ⟨k3_off19 k3_t3 (BitVec.ofNat 32 r.val), k3_off19_inb i k3_t2 k3_t3 k3_h3 r⟩, ⟨k3_off20 k3_t3 (BitVec.ofNat 32 r.val), k3_off20_inb i k3_t2 k3_t3 k3_h3 r⟩, ⟨k3_off21 k3_t3 (BitVec.ofNat 32 r.val), k3_off21_inb i k3_t2 k3_t3 k3_h3 r⟩, ⟨k3_off22 k3_t3 (BitVec.ofNat 32 r.val), k3_off22_inb i k3_t2 k3_t3 k3_h3 r⟩, ⟨k3_off23 k3_t3 (BitVec.ofNat 32 r.val), k3_off23_inb i k3_t2 k3_t3 k3_h3 r⟩, ⟨k3_off24 k3_t3 (BitVec.ofNat 32 r.val), k3_off24_inb i k3_t2 k3_t3 k3_h3 r⟩]) (fun r j => by rw [← addr_f _ _ hk3 r.isLt]; fin_cases j <;> rfl) (fun v hc => ?_) (fun v hc => ?_)
  · refine (dif_pos ((c4_eq _ _ _).trans hc)).trans rfl
  · have hc' : ¬ k3_cond4 s.p (top v) (bot v) = 1#1 := fun h => hc ((c4_eq _ _ _).symm.trans h)
    refine wp_eq (dif_neg hc') ?_
    refine wp_slow (c := thr d i) (defs := defs) (𝒱 := 𝒱) (bd := bd) (xM := arg5) (sM := arg7) (aM := arg9) (z := z) (SG := SG) (X := X) 16 (16 * k3_t3.val) s hp (fun r hr => hSG _ (by omega))
      (lb := (k3_t4_loop k3_t3).lb) (ub := (k3_t4_loop k3_t3).ub) (stp := (k3_t4_loop k3_t3).st) (hok := k3_t4_ok i k3_t2 k3_t3 k3_h3)
      (lb' := (k3_t5_loop k3_t3).lb) (ub' := (k3_t5_loop k3_t3).ub) (stp' := (k3_t5_loop k3_t3).st) (hok' := k3_t5_ok i k3_t2 k3_t3 k3_h3) ht4 ht5
      rfl (fun p cr => rfl) (fun p cr => rfl) (fun k3_t4 s hp => ?_)
    have hlt : k3_t4.val < 16 := lt_of_lt_of_eq k3_t4.isLt ht4
    have hrw : (Scf.iv ((k3_t4_loop k3_t3).lb) 1#32 k3_t4).toNat = 16 * k3_t3.val + k3_t4.val := addr_s _ _ hk3 hlt
    refine wp_row (c := thr d i) (defs := defs) (𝒱 := 𝒱) (bd := bd) (xM := arg5) (sM := arg7) (aM := arg9) (z := z) (SG := SG) (X := X) s (Scf.iv ((k3_t4_loop k3_t3).lb) 1#32 k3_t4) (16 * k3_t3.val + k3_t4.val) hrw
      (c4 := k3_chk2 i k3_t2 _ (top v) (bot v) (fun _ => Scf.iv ((k3_t4_loop k3_t3).lb) 1#32 k3_t4)) (d4 := k3_chk2.dec i k3_t2 _ _ _ _) ?_
      (fun h4 => k3_idx2_inb i k3_t2 _ (top v) (bot v) _ h4 k3_h3 hc') (hl := View.loads_vmem h_S128)
      (fun w => k3_chk3 i k3_t2 _ (top v) (bot v) s.p w) (d5 := fun w => k3_chk3.dec i k3_t2 _ (top v) (bot v) s.p w) (fun w => ⟨fun _ _ _ => inbA s.p hp 0 rfl, fun _ _ _ => inbA s.p hp 1 rfl, fun _ _ _ => inbA s.p hp 2 rfl, fun _ _ _ => inbA s.p hp 3 rfl, fun _ _ _ => inbA s.p hp 4 rfl, fun _ _ _ => inbA s.p hp 5 rfl, fun _ _ _ => inbA s.p hp 6 rfl, fun _ _ _ => inbA s.p hp 7 rfl, fun _ _ _ => inbA s.p hp 8 rfl, fun _ _ _ => inbA s.p hp 9 rfl, fun _ _ _ => inbA s.p hp 10 rfl, fun _ _ _ => inbA s.p hp 11 rfl, fun _ _ _ => inbA s.p hp 12 rfl, fun _ _ _ => inbA s.p hp 13 rfl, fun _ _ _ => inbA s.p hp 14 rfl, fun _ _ _ => inbA s.p hp 15 rfl⟩)
      ![⟨k3_off25 s.p, inbA s.p hp 0 rfl⟩, ⟨k3_off26 s.p, inbA s.p hp 1 rfl⟩, ⟨k3_off27 s.p, inbA s.p hp 2 rfl⟩, ⟨k3_off28 s.p, inbA s.p hp 3 rfl⟩, ⟨k3_off29 s.p, inbA s.p hp 4 rfl⟩, ⟨k3_off30 s.p, inbA s.p hp 5 rfl⟩, ⟨k3_off31 s.p, inbA s.p hp 6 rfl⟩, ⟨k3_off32 s.p, inbA s.p hp 7 rfl⟩, ⟨k3_off33 s.p, inbA s.p hp 8 rfl⟩, ⟨k3_off34 s.p, inbA s.p hp 9 rfl⟩, ⟨k3_off35 s.p, inbA s.p hp 10 rfl⟩, ⟨k3_off36 s.p, inbA s.p hp 11 rfl⟩, ⟨k3_off37 s.p, inbA s.p hp 12 rfl⟩, ⟨k3_off38 s.p, inbA s.p hp 13 rfl⟩, ⟨k3_off39 s.p, inbA s.p hp 14 rfl⟩, ⟨k3_off40 s.p, inbA s.p hp 15 rfl⟩] (fun j => by fin_cases j <;> rfl)
      ![⟨k3_off41 k3_t3 k3_t4, k3_off41_inb i k3_t2 k3_t3 k3_t4 k3_h3⟩, ⟨k3_off42 k3_t3 k3_t4, k3_off42_inb i k3_t2 k3_t3 k3_t4 k3_h3⟩, ⟨k3_off43 k3_t3 k3_t4, k3_off43_inb i k3_t2 k3_t3 k3_t4 k3_h3⟩, ⟨k3_off44 k3_t3 k3_t4, k3_off44_inb i k3_t2 k3_t3 k3_t4 k3_h3⟩, ⟨k3_off45 k3_t3 k3_t4, k3_off45_inb i k3_t2 k3_t3 k3_t4 k3_h3⟩, ⟨k3_off46 k3_t3 k3_t4, k3_off46_inb i k3_t2 k3_t3 k3_t4 k3_h3⟩, ⟨k3_off47 k3_t3 k3_t4, k3_off47_inb i k3_t2 k3_t3 k3_t4 k3_h3⟩, ⟨k3_off48 k3_t3 k3_t4, k3_off48_inb i k3_t2 k3_t3 k3_t4 k3_h3⟩, ⟨k3_off49 k3_t3 k3_t4, k3_off49_inb i k3_t2 k3_t3 k3_t4 k3_h3⟩, ⟨k3_off50 k3_t3 k3_t4, k3_off50_inb i k3_t2 k3_t3 k3_t4 k3_h3⟩, ⟨k3_off51 k3_t3 k3_t4, k3_off51_inb i k3_t2 k3_t3 k3_t4 k3_h3⟩, ⟨k3_off52 k3_t3 k3_t4, k3_off52_inb i k3_t2 k3_t3 k3_t4 k3_h3⟩, ⟨k3_off53 k3_t3 k3_t4, k3_off53_inb i k3_t2 k3_t3 k3_t4 k3_h3⟩, ⟨k3_off54 k3_t3 k3_t4, k3_off54_inb i k3_t2 k3_t3 k3_t4 k3_h3⟩, ⟨k3_off55 k3_t3 k3_t4, k3_off55_inb i k3_t2 k3_t3 k3_t4 k3_h3⟩, ⟨k3_off56 k3_t3 k3_t4, k3_off56_inb i k3_t2 k3_t3 k3_t4 k3_h3⟩] (fun j => by rw [← hrw]; fin_cases j <;> rfl)
      rfl (fun h f h' hc => ?_) (fun h f h' hc => ?_)
    · intro _ _ a x
      obtain rfl : a = 0 := Subsingleton.elim _ _
      show (Scf.iv ((k3_t4_loop k3_t3).lb) 1#32 k3_t4).toNat < 128
      omega
    · exact (bind_pos1 ((c5_eq _ _).trans hc) _ _ _).trans rfl
    · exact (bind_neg1 (fun h => hc ((c5_eq _ _).symm.trans h)) _ _ _).trans rfl
end Cert.Proof.Blk3A
-- ==== Proof.Blk3B.lean ====
module
public import proofs.«01_k».proof.KernelIdeal
public import proofs.«01_k».proof.Proof.Gen.KernelIdeal
public import proofs.«01_k».proof.Proof.Chunk
@[expose] public section
set_option pp.maxSteps 300
noncomputable section
namespace Cert.Proof.Blk3B
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} {𝒱 : Variants} {bd : Option 𝒱.V}
local notation "𝕄" => MT nD τ sig Ix (Elt F) Name U Lvl

theorem c4_eq (p t b : BitVec 32) : k3_cond9 p t b = eqC p t b := rfl
theorem c5_eq (p v : BitVec 32) : k3_cond10 p v = neC v p := rfl
attribute [local irreducible] k3_cond8 k3_cond9 k3_cond10

/-- One chunk, as printed: the two waits, the rows, the last flush. -/
def prog (i : grid3.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (v7 : FVec F S16 .f32) (k3_t2 : Fin (k3_t2_loop i).trips) (v48 : BitVec 32) (k3_h8 : k3_cond8 i k3_t2 = 1#1)
    (K2 : Prog (TpuEff nD τ sig (Elt F) Λ₀ (.scVector ((i 0).castLE hcore3) ((i 1).castLE hsub3))) PUnit) :
    Prog (TpuEff nD τ sig (Elt F) Λ₀ (.scVector ((i 0).castLE hcore3) ((i 1).castLE hsub3))) PUnit := do
  let ⟨v70_0, v70_4, v70_5, v70_6, v70_7, v70_8, v70_9, v70_10, v70_11, v70_12, v70_13, v70_14, v70_15, v70_16, k3_hw12, v83⟩ : Σ' (v70_0 : BitVec 32) (v70_4 : FVec F S16 .f32) (v70_5 : FVec F S16 .f32) (v70_6 : FVec F S16 .f32) (v70_7 : FVec F S16 .f32) (v70_8 : FVec F S16 .f32) (v70_9 : FVec F S16 .f32) (v70_10 : FVec F S16 .f32) (v70_11 : FVec F S16 .f32) (v70_12 : FVec F S16 .f32) (v70_13 : FVec F S16 .f32) (v70_14 : FVec F S16 .f32) (v70_15 : FVec F S16 .f32) (v70_16 : FVec F S16 .f32) (k3_hw12 : k3_chk12 i k3_t2 v70_0), FVec F S16 .f32 ← k3_part76 i arg2 harg2 arg3 harg3 arg4 harg4 arg5 harg5 arg6 harg6 arg7 harg7 arg8 harg8 arg9 harg9 arg10 arg11 arg12 arg13 v137_r0 v137_r1 v137_r2 v137_r3 v42_r4 v0 v7 k3_t2 v48 k3_h8
  let v113 : FVec F S16 .f32 ← k3_part77 i arg2 harg2 arg3 harg3 arg4 harg4 arg5 harg5 arg6 harg6 arg7 harg7 arg8 harg8 arg9 harg9 arg10 arg11 arg12 arg13 v137_r0 v137_r1 v137_r2 v137_r3 v42_r4 k3_t2 k3_h8 v70_0 v70_4 v70_5 v70_6 v70_7 v70_8 v70_9 k3_hw12 v83
  let v143 : FVec F S16 .f32 ← k3_part78 i arg2 harg2 arg3 harg3 arg4 harg4 arg5 harg5 arg6 harg6 arg7 harg7 arg8 harg8 arg9 harg9 arg10 arg11 arg12 arg13 v137_r0 v137_r1 v137_r2 v137_r3 v42_r4 k3_t2 k3_h8 v70_0 v70_10 v70_11 v70_12 v70_13 v70_14 v70_15 k3_hw12 v113
  let c224_51 : Index := 224#32
  let v145_ld : Vec F S1x16 .f32 ← Prog.lift (.load arg9 (Rect.unit (s := S256x256) (k3_off204 v70_0) S1x16.size (k3_off204_inb i k3_t2 v70_0 k3_hw12 k3_h8)).toLoadRect (View.loadsAt_vmem h_S1x16))
  have v145 : Vec F S16 .f32 := shapeCast S16 v145_ld shapeCasts_S1x16_S16
  Prog.lift (.store arg9 (Rect.unit (s := S256x256) (k3_off204 v70_0) S1x16.size (k3_off204_inb i k3_t2 v70_0 k3_hw12 k3_h8)) (shapeCast S1x16 v143 shapeCasts_S16_S1x16) Finset.univ (View.stores_vmem_bits_univ h_S1x16 rfl) (.inl rfl))
  let v146 : Index := Scalar.indexCast v70_0
  let c240 : Index := 240#32
  let v147_ld : Vec F S1x16 .f32 ← Prog.lift (.load arg9 (Rect.unit (s := S256x256) (k3_off205 v70_0) S1x16.size (k3_off205_inb i k3_t2 v70_0 k3_hw12 k3_h8)).toLoadRect (View.loadsAt_vmem h_S1x16))
  have v147 : Vec F S16 .f32 := shapeCast S16 v147_ld shapeCasts_S1x16_S16
  have v148 : FVec F S16 .f32 := addf v147 v70_16
  let v149 : Index := Scalar.indexCast v70_0
  let c240_52 : Index := 240#32
  let v150_ld : Vec F S1x16 .f32 ← Prog.lift (.load arg9 (Rect.unit (s := S256x256) (k3_off205 v70_0) S1x16.size (k3_off205_inb i k3_t2 v70_0 k3_hw12 k3_h8)).toLoadRect (View.loadsAt_vmem h_S1x16))
  have v150 : Vec F S16 .f32 := shapeCast S16 v150_ld shapeCasts_S1x16_S16
  Prog.lift (.store arg9 (Rect.unit (s := S256x256) (k3_off205 v70_0) S1x16.size (k3_off205_inb i k3_t2 v70_0 k3_hw12 k3_h8)) (shapeCast S1x16 v148 shapeCasts_S16_S1x16) Finset.univ (View.stores_vmem_bits_univ h_S1x16 rfl) (.inl rfl))
  K2

abbrev thr (d : Dev nD) (i : grid3.Coords) : Thread nD τ := (d, .scVector ((i 0).castLE hcore3) ((i 1).castLE hsub3))

set_option maxHeartbeats 1000000 in
theorem wp_prog (EC : UEmb Counters 𝕄) [EC.LandsIn (upEmb : UEmb _ 𝕄)] (d : Dev nD) {Q : PUnit → sProp 𝕄} (i : grid3.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 : BitVec 32) (z : F .f32) (k3_t2 : Fin (k3_t2_loop i).trips) (v48 : BitVec 32) (k3_h8 : k3_cond8 i k3_t2 = 1#1)
    {K2 : Prog (TpuEff nD τ sig (Elt F) Λ₀ (.scVector ((i 0).castLE hcore3) ((i 1).castLE hsub3))) PUnit}
    {SG : Nat → BitVec 32} {X A : Nat → Nat → F .f32} (hSG : ∀ r, r < 112 → (SG r).toNat < 256)
    (ι : Ix) {N1 N2 : ℕ} (hN1 : arg6.view.dmaCredit = N1) (hN2 : (arg8.slice (Rect.unit (s := S128) ![0] S112.size inb_S128_S112_0) (fun _ => rfl)).view.dmaCredit = N2)
    {O : CellTallies nD τ sig Ix} {W : Waits sig Ix} {D1 D2 R D' : sProp 𝕄}
    (hD : iprop(D1 ∗ D2 ∗ R) ⊢ iprop(owns (thr d i) arg6 fullShare (arr2 112 256 X) ∗ owns (thr d i) arg8 fullShare (arr1 128 SG) ∗ D')) :
    iprop(Transfers.Flight EC (thr d i) (.dma arg11.sem) ι N1 D1 ∗ Transfers.Flight EC (thr d i) (.dma arg13.sem) ι N2 D2 ∗ R
        ∗ owns (thr d i) arg9 fullShare (arr2 256 256 A) ∗ owes (thr d i) O W ∗ Transfers.MayWaits (thr d i) ι O)
      ⊢ iprop((iprop(bufs (thr d i) arg6 arg8 arg9 X SG (chunkA z SG X A 112) ∗ D' ∗ semVal (thr d i, .dma arg11.sem) 0 ∗ semVal (thr d i, .dma arg13.sem) 0
            ∗ owes (thr d i) O (insert (SemLoc.dma arg13.sem, ι) (insert (SemLoc.dma arg11.sem, ι) W)))
            -∗ wp frame (wpE defs 𝒱 (thr d i) bd) Set.univ K2 Q)
          -∗ wp frame (wpE defs 𝒱 (thr d i) bd) Set.univ (prog i arg2 harg2 arg3 harg3 arg4 harg4 arg5 harg5 arg6 harg6 arg7 harg7 arg8 harg8 arg9 harg9 arg10 arg11 arg12 arg13 v137_r0 v137_r1 v137_r2 v137_r3 v42_r4 v0 (fun _ => z) k3_t2 v48 k3_h8 K2) Q) := by
  have h1 : k3_chk7 i k3_t2 (fun _ => 0#32) := fun _ a x => by
    obtain rfl : a = 0 := Subsingleton.elim _ _
    show (0#32 : BitVec 32).toNat < 128
    decide
  have h6 : ∀ p : BitVec 32, p.toNat < 256 → k3_chk12 i k3_t2 p := fun p hp => ⟨fun _ => inbA p hp 0 rfl, fun _ => inbA p hp 1 rfl, fun _ => inbA p hp 2 rfl, fun _ => inbA p hp 3 rfl, fun _ => inbA p hp 4 rfl, fun _ => inbA p hp 5 rfl, fun _ => inbA p hp 6 rfl, fun _ => inbA p hp 7 rfl, fun _ => inbA p hp 8 rfl, fun _ => inbA p hp 9 rfl, fun _ => inbA p hp 10 rfl, fun _ => inbA p hp 11 rfl, fun _ => inbA p hp 12 rfl, fun _ => inbA p hp 13 rfl, fun _ => inbA p hp 14 rfl, fun _ => inbA p hp 15 rfl⟩
  refine wp_wait2 EC 𝒱 (thr d i) bd ι hN1 hN2 hD rfl ?_
  refine chunk_glue ?_
  refine wp_chunk (c := thr d i) (defs := defs) (𝒱 := 𝒱) (bd := bd) (xM := arg6) (sM := arg8) (aM := arg9) (z := z) (SG := SG) (X := X) (Q := Q) 7 16 A (by decide) hSG
    (c1 := k3_chk7 i k3_t2 (fun _ => 0#32)) (d1 := k3_chk7.dec i k3_t2 _) h1 (hx := fun h => k3_idx4_inb i k3_t2 _ h k3_h8) (hl := View.loads_vmem h_S128)
    (lb := k3_t6_loop.lb) (ub := k3_t6_loop.ub) (stp := k3_t6_loop.st) (hok := k3_t6_ok i k3_t2 k3_h8) (by decide)
    (c6 := fun p => k3_chk12 i k3_t2 p) (d6 := fun p => k3_chk12.dec i k3_t2 p) h6
    (fun p h => ![⟨k3_off190 p, k3_off190_inb i k3_t2 p h k3_h8⟩, ⟨k3_off191 p, k3_off191_inb i k3_t2 p h k3_h8⟩, ⟨k3_off192 p, k3_off192_inb i k3_t2 p h k3_h8⟩, ⟨k3_off193 p, k3_off193_inb i k3_t2 p h k3_h8⟩, ⟨k3_off194 p, k3_off194_inb i k3_t2 p h k3_h8⟩, ⟨k3_off195 p, k3_off195_inb i k3_t2 p h k3_h8⟩, ⟨k3_off196 p, k3_off196_inb i k3_t2 p h k3_h8⟩, ⟨k3_off197 p, k3_off197_inb i k3_t2 p h k3_h8⟩, ⟨k3_off198 p, k3_off198_inb i k3_t2 p h k3_h8⟩, ⟨k3_off199 p, k3_off199_inb i k3_t2 p h k3_h8⟩, ⟨k3_off200 p, k3_off200_inb i k3_t2 p h k3_h8⟩, ⟨k3_off201 p, k3_off201_inb i k3_t2 p h k3_h8⟩, ⟨k3_off202 p, k3_off202_inb i k3_t2 p h k3_h8⟩, ⟨k3_off203 p, k3_off203_inb i k3_t2 p h k3_h8⟩, ⟨k3_off204 p, k3_off204_inb i k3_t2 p h k3_h8⟩, ⟨k3_off205 p, k3_off205_inb i k3_t2 p h k3_h8⟩]) (fun p h j => by fin_cases j <;> rfl)
    rfl (fun h f p cr => rfl) (fun k3_t6 s hp => ?_)
  have hk3 : k3_t6.val < 7 := lt_of_lt_of_eq k3_t6.isLt (by decide)
  have ht4 : Scf.trips (k3_t7_loop k3_t6).lb (k3_t7_loop k3_t6).ub (k3_t7_loop k3_t6).st = 16 := by
    revert k3_t6; decide
  have ht5 : Scf.trips (k3_t8_loop k3_t6).lb (k3_t8_loop k3_t6).ub (k3_t8_loop k3_t6).st = 0 := by
    revert k3_t6; decide
  refine wp_group (c := thr d i) (defs := defs) (𝒱 := 𝒱) (bd := bd) (xM := arg6) (sM := arg8) (aM := arg9) (z := z) (SG := SG) (X := X) s (16 * k3_t6.val)
    (o := k3_off109 k3_t6) (by rw [← addr_g _ hk3]; rfl) (hin := k3_off109_inb i k3_t2 k3_t6 k3_h8) (hl := View.loadsAt_vmem h_S16) rfl
    (fun r => ![⟨k3_off110 k3_t6 (BitVec.ofNat 32 r.val), k3_off110_inb i k3_t2 k3_t6 k3_h8 r⟩, ⟨k3_off111 k3_t6 (BitVec.ofNat 32 r.val), k3_off111_inb i k3_t2 k3_t6 k3_h8 r⟩, ⟨k3_off112 k3_t6 (BitVec.ofNat 32 r.val), k3_off112_inb i k3_t2 k3_t6 k3_h8 r⟩, ⟨k3_off113 k3_t6 (BitVec.ofNat 32 r.val), k3_off113_inb i k3_t2 k3_t6 k3_h8 r⟩, ⟨k3_off114 k3_t6 (BitVec.ofNat 32 r.val), k3_off114_inb i k3_t2 k3_t6 k3_h8 r⟩, ⟨k3_off115 k3_t6 (BitVec.ofNat 32 r.val), k3_off115_inb i k3_t2 k3_t6 k3_h8 r⟩, ⟨k3_off116 k3_t6 (BitVec.ofNat 32 r.val), k3_off116_inb i k3_t2 k3_t6 k3_h8 r⟩, ⟨k3_off117 k3_t6 (BitVec.ofNat 32 r.val), k3_off117_inb i k3_t2 k3_t6 k3_h8 r⟩, ⟨k3_off118 k3_t6 (BitVec.ofNat 32 r.val), k3_off118_inb i k3_t2 k3_t6 k3_h8 r⟩, ⟨k3_off119 k3_t6 (BitVec.ofNat 32 r.val), k3_off119_inb i k3_t2 k3_t6 k3_h8 r⟩, ⟨k3_off120 k3_t6 (BitVec.ofNat 32 r.val), k3_off120_inb i k3_t2 k3_t6 k3_h8 r⟩, ⟨k3_off121 k3_t6 (BitVec.ofNat 32 r.val), k3_off121_inb i k3_t2 k3_t6 k3_h8 r⟩, ⟨k3_off122 k3_t6 (BitVec.ofNat 32 r.val), k3_off122_inb i k3_t2 k3_t6 k3_h8 r⟩, ⟨k3_off123 k3_t6 (BitVec.ofNat 32 r.val), k3_off123_inb i k3_t2 k3_t6 k3_h8 r⟩, ⟨k3_off124 k3_t6 (BitVec.ofNat 32 r.val), k3_off124_inb i k3_t2 k3_t6 k3_h8 r⟩, ⟨k3_off125 k3_t6 (BitVec.ofNat 32 r.val), k3_off125_inb i k3_t2 k3_t6 k3_h8 r⟩]) (fun r j => by rw [← addr_f _ _ hk3 r.isLt]; fin_cases j <;> rfl) (fun v hc => ?_) (fun v hc => ?_)
  · refine (dif_pos ((c4_eq _ _ _).trans hc)).trans rfl
  · have hc' : ¬ k3_cond9 s.p (top v) (bot v) = 1#1 := fun h => hc ((c4_eq _ _ _).symm.trans h)
    refine wp_eq (dif_neg hc') ?_
    refine wp_slow (c := thr d i) (defs := defs) (𝒱 := 𝒱) (bd := bd) (xM := arg6) (sM := arg8) (aM := arg9) (z := z) (SG := SG) (X := X) 16 (16 * k3_t6.val) s hp (fun r hr => hSG _ (by omega))
      (lb := (k3_t7_loop k3_t6).lb) (ub := (k3_t7_loop k3_t6).ub) (stp := (k3_t7_loop k3_t6).st) (hok := k3_t7_ok i k3_t2 k3_t6 k3_h8)
      (lb' := (k3_t8_loop k3_t6).lb) (ub' := (k3_t8_loop k3_t6).ub) (stp' := (k3_t8_loop k3_t6).st) (hok' := k3_t8_ok i k3_t2 k3_t6 k3_h8) ht4 ht5
      rfl (fun p cr => rfl) (fun p cr => rfl) (fun k3_t7 s hp => ?_)
    have hlt : k3_t7.val < 16 := lt_of_lt_of_eq k3_t7.isLt ht4
    have hrw : (Scf.iv ((k3_t7_loop k3_t6).lb) 1#32 k3_t7).toNat = 16 * k3_t6.val + k3_t7.val := addr_s _ _ hk3 hlt
    refine wp_row (c := thr d i) (defs := defs) (𝒱 := 𝒱) (bd := bd) (xM := arg6) (sM := arg8) (aM := arg9) (z := z) (SG := SG) (X := X) s (Scf.iv ((k3_t7_loop k3_t6).lb) 1#32 k3_t7) (16 * k3_t6.val + k3_t7.val) hrw
      (c4 := k3_chk8 i k3_t2 _ (top v) (bot v) (fun _ => Scf.iv ((k3_t7_loop k3_t6).lb) 1#32 k3_t7)) (d4 := k3_chk8.dec i k3_t2 _ _ _ _) ?_
      (fun h4 => k3_idx5_inb i k3_t2 _ (top v) (bot v) _ h4 k3_h8 hc') (hl := View.loads_vmem h_S128)
      (fun w => k3_chk9 i k3_t2 _ (top v) (bot v) s.p w) (d5 := fun w => k3_chk9.dec i k3_t2 _ (top v) (bot v) s.p w) (fun w => ⟨fun _ _ _ => inbA s.p hp 0 rfl, fun _ _ _ => inbA s.p hp 1 rfl, fun _ _ _ => inbA s.p hp 2 rfl, fun _ _ _ => inbA s.p hp 3 rfl, fun _ _ _ => inbA s.p hp 4 rfl, fun _ _ _ => inbA s.p hp 5 rfl, fun _ _ _ => inbA s.p hp 6 rfl, fun _ _ _ => inbA s.p hp 7 rfl, fun _ _ _ => inbA s.p hp 8 rfl, fun _ _ _ => inbA s.p hp 9 rfl, fun _ _ _ => inbA s.p hp 10 rfl, fun _ _ _ => inbA s.p hp 11 rfl, fun _ _ _ => inbA s.p hp 12 rfl, fun _ _ _ => inbA s.p hp 13 rfl, fun _ _ _ => inbA s.p hp 14 rfl, fun _ _ _ => inbA s.p hp 15 rfl⟩)
      ![⟨k3_off126 s.p, inbA s.p hp 0 rfl⟩, ⟨k3_off127 s.p, inbA s.p hp 1 rfl⟩, ⟨k3_off128 s.p, inbA s.p hp 2 rfl⟩, ⟨k3_off129 s.p, inbA s.p hp 3 rfl⟩, ⟨k3_off130 s.p, inbA s.p hp 4 rfl⟩, ⟨k3_off131 s.p, inbA s.p hp 5 rfl⟩, ⟨k3_off132 s.p, inbA s.p hp 6 rfl⟩, ⟨k3_off133 s.p, inbA s.p hp 7 rfl⟩, ⟨k3_off134 s.p, inbA s.p hp 8 rfl⟩, ⟨k3_off135 s.p, inbA s.p hp 9 rfl⟩, ⟨k3_off136 s.p, inbA s.p hp 10 rfl⟩, ⟨k3_off137 s.p, inbA s.p hp 11 rfl⟩, ⟨k3_off138 s.p, inbA s.p hp 12 rfl⟩, ⟨k3_off139 s.p, inbA s.p hp 13 rfl⟩, ⟨k3_off140 s.p, inbA s.p hp 14 rfl⟩, ⟨k3_off141 s.p, inbA s.p hp 15 rfl⟩] (fun j => by fin_cases j <;> rfl)
      ![⟨k3_off142 k3_t6 k3_t7, k3_off142_inb i k3_t2 k3_t6 k3_t7 k3_h8⟩, ⟨k3_off143 k3_t6 k3_t7, k3_off143_inb i k3_t2 k3_t6 k3_t7 k3_h8⟩, ⟨k3_off144 k3_t6 k3_t7, k3_off144_inb i k3_t2 k3_t6 k3_t7 k3_h8⟩, ⟨k3_off145 k3_t6 k3_t7, k3_off145_inb i k3_t2 k3_t6 k3_t7 k3_h8⟩, ⟨k3_off146 k3_t6 k3_t7, k3_off146_inb i k3_t2 k3_t6 k3_t7 k3_h8⟩, ⟨k3_off147 k3_t6 k3_t7, k3_off147_inb i k3_t2 k3_t6 k3_t7 k3_h8⟩, ⟨k3_off148 k3_t6 k3_t7, k3_off148_inb i k3_t2 k3_t6 k3_t7 k3_h8⟩, ⟨k3_off149 k3_t6 k3_t7, k3_off149_inb i k3_t2 k3_t6 k3_t7 k3_h8⟩, ⟨k3_off150 k3_t6 k3_t7, k3_off150_inb i k3_t2 k3_t6 k3_t7 k3_h8⟩, ⟨k3_off151 k3_t6 k3_t7, k3_off151_inb i k3_t2 k3_t6 k3_t7 k3_h8⟩, ⟨k3_off152 k3_t6 k3_t7, k3_off152_inb i k3_t2 k3_t6 k3_t7 k3_h8⟩, ⟨k3_off153 k3_t6 k3_t7, k3_off153_inb i k3_t2 k3_t6 k3_t7 k3_h8⟩, ⟨k3_off154 k3_t6 k3_t7, k3_off154_inb i k3_t2 k3_t6 k3_t7 k3_h8⟩, ⟨k3_off155 k3_t6 k3_t7, k3_off155_inb i k3_t2 k3_t6 k3_t7 k3_h8⟩, ⟨k3_off156 k3_t6 k3_t7, k3_off156_inb i k3_t2 k3_t6 k3_t7 k3_h8⟩, ⟨k3_off157 k3_t6 k3_t7, k3_off157_inb i k3_t2 k3_t6 k3_t7 k3_h8⟩] (fun j => by rw [← hrw]; fin_cases j <;> rfl)
      rfl (fun h f h' hc => ?_) (fun h f h' hc => ?_)
    · intro _ _ a x
      obtain rfl : a = 0 := Subsingleton.elim _ _
      show (Scf.iv ((k3_t7_loop k3_t6).lb) 1#32 k3_t7).toNat < 128
      omega
    · exact (bind_pos1 ((c5_eq _ _).trans hc) _ _ _).trans rfl
    · exact (bind_neg1 (fun h => hc ((c5_eq _ _).symm.trans h)) _ _ _).trans rfl
end Cert.Proof.Blk3B
-- ==== Proof.Tail3.lean ====
/-
  The eight further rows of a tile whose rows are not a multiple of a chunk: two copies, each awaited, then the rows.
-/
module
public import proofs.«01_k».proof.KernelIdeal
public import proofs.«01_k».proof.Proof.Gen.KernelIdeal
public import proofs.«01_k».proof.Proof.Copies
@[expose] public section
noncomputable section
namespace Cert.Proof.Tail3
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} {𝒱 : Variants} {bd : Option 𝒱.V}
local notation "𝕄" => MT nD τ sig Ix (Elt F) Name U Lvl

theorem c5_eq (p v : BitVec 32) : k3_cond23 p v = neC v p := rfl
attribute [local irreducible] k3_cond23

/-- Eight rows, as printed. -/
def prog (i : grid3.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 v2 : BitVec 32) (v7 : FVec F S16 .f32) (c0_i32_21 c1_i32_23 : BitVec 32) (k3_t16 : Fin (k3_t16_loop i).trips)
    (K2 : Prog (TpuEff nD τ sig (Elt F) Λ₀ (.scVector ((i 0).castLE hcore3) ((i 1).castLE hsub3))) PUnit) :
    Prog (TpuEff nD τ sig (Elt F) Λ₀ (.scVector ((i 0).castLE hcore3) ((i 1).castLE hsub3))) PUnit := do
  let ⟨v56_0, v56_1, v56_2, v56_3, v56_4, v56_5, v56_6, v56_7, v56_8, v56_9, v56_10, v56_11, v56_12, v56_13, v56_14, v56_15, v56_16, k3_hw28⟩ : Σ' (v56_0 : BitVec 32) (v56_1 : FVec F S16 .f32) (v56_2 : FVec F S16 .f32) (v56_3 : FVec F S16 .f32) (v56_4 : FVec F S16 .f32) (v56_5 : FVec F S16 .f32) (v56_6 : FVec F S16 .f32) (v56_7 : FVec F S16 .f32) (v56_8 : FVec F S16 .f32) (v56_9 : FVec F S16 .f32) (v56_10 : FVec F S16 .f32) (v56_11 : FVec F S16 .f32) (v56_12 : FVec F S16 .f32) (v56_13 : FVec F S16 .f32) (v56_14 : FVec F S16 .f32) (v56_15 : FVec F S16 .f32) (v56_16 : FVec F S16 .f32), k3_chk28 i k3_t16 v56_0 ← k3_part160 i arg2 harg2 arg3 harg3 arg4 harg4 arg5 harg5 arg6 harg6 arg7 harg7 arg8 harg8 arg9 harg9 arg10 arg11 arg12 arg13 v137_r0 v137_r1 v137_r2 v137_r3 v42_r4 v0 v2 v7 c0_i32_21 c1_i32_23 k3_t16
  k3_part161 i arg2 harg2 arg3 harg3 arg4 harg4 arg5 harg5 arg6 harg6 arg7 harg7 arg8 harg8 arg9 harg9 arg10 arg11 arg12 arg13 v137_r0 v137_r1 v137_r2 v137_r3 v42_r4 k3_t16 v56_0 v56_1 v56_2 v56_3 v56_4 v56_5 v56_6 k3_hw28
  k3_part162 i arg2 harg2 arg3 harg3 arg4 harg4 arg5 harg5 arg6 harg6 arg7 harg7 arg8 harg8 arg9 harg9 arg10 arg11 arg12 arg13 v137_r0 v137_r1 v137_r2 v137_r3 v42_r4 k3_t16 v56_0 v56_7 v56_8 v56_9 v56_10 v56_11 v56_12 k3_hw28
  let v117 : Index := Scalar.indexCast v56_0
  let c192 : Index := 192#32
  let v118_ld : Vec F S1x16 .f32 ← Prog.lift (.load arg9 (Rect.unit (s := S256x256) (k3_off456 v56_0) S1x16.size (k3_off456_inb i k3_t16 v56_0 k3_hw28)).toLoadRect (View.loadsAt_vmem h_S1x16))
  have v118 : Vec F S16 .f32 := shapeCast S16 v118_ld shapeCasts_S1x16_S16
  have v119 : FVec F S16 .f32 := addf v118 v56_13
  let v120 : Index := Scalar.indexCast v56_0
  let c192_42 : Index := 192#32
  let v121_ld : Vec F S1x16 .f32 ← Prog.lift (.load arg9 (Rect.unit (s := S256x256) (k3_off456 v56_0) S1x16.size (k3_off456_inb i k3_t16 v56_0 k3_hw28)).toLoadRect (View.loadsAt_vmem h_S1x16))
  have v121 : Vec F S16 .f32 := shapeCast S16 v121_ld shapeCasts_S1x16_S16
  Prog.lift (.store arg9 (Rect.unit (s := S256x256) (k3_off456 v56_0) S1x16.size (k3_off456_inb i k3_t16 v56_0 k3_hw28)) (shapeCast S1x16 v119 shapeCasts_S16_S1x16) Finset.univ (View.stores_vmem_bits_univ h_S1x16 rfl) (.inl rfl))
  let v122 : Index := Scalar.indexCast v56_0
  let c208 : Index := 208#32
  let v123_ld : Vec F S1x16 .f32 ← Prog.lift (.load arg9 (Rect.unit (s := S256x256) (k3_off457 v56_0) S1x16.size (k3_off457_inb i k3_t16 v56_0 k3_hw28)).toLoadRect (View.loadsAt_vmem h_S1x16))
  have v123 : Vec F S16 .f32 := shapeCast S16 v123_ld shapeCasts_S1x16_S16
  have v124 : FVec F S16 .f32 := addf v123 v56_14
  let v125 : Index := Scalar.indexCast v56_0
  let c208_43 : Index := 208#32
  let v126_ld : Vec F S1x16 .f32 ← Prog.lift (.load arg9 (Rect.unit (s := S256x256) (k3_off457 v56_0) S1x16.size (k3_off457_inb i k3_t16 v56_0 k3_hw28)).toLoadRect (View.loadsAt_vmem h_S1x16))
  have v126 : Vec F S16 .f32 := shapeCast S16 v126_ld shapeCasts_S1x16_S16
  Prog.lift (.store arg9 (Rect.unit (s := S256x256) (k3_off457 v56_0) S1x16.size (k3_off457_inb i k3_t16 v56_0 k3_hw28)) (shapeCast S1x16 v124 shapeCasts_S16_S1x16) Finset.univ (View.stores_vmem_bits_univ h_S1x16 rfl) (.inl rfl))
  let v127 : Index := Scalar.indexCast v56_0
  let c224 : Index := 224#32
  let v128_ld : Vec F S1x16 .f32 ← Prog.lift (.load arg9 (Rect.unit (s := S256x256) (k3_off458 v56_0) S1x16.size (k3_off458_inb i k3_t16 v56_0 k3_hw28)).toLoadRect (View.loadsAt_vmem h_S1x16))
  have v128 : Vec F S16 .f32 := shapeCast S16 v128_ld shapeCasts_S1x16_S16
  have v129 : FVec F S16 .f32 := addf v128 v56_15
  let v130 : Index := Scalar.indexCast v56_0
  let c224_44 : Index := 224#32
  let v131_ld : Vec F S1x16 .f32 ← Prog.lift (.load arg9 (Rect.unit (s := S256x256) (k3_off458 v56_0) S1x16.size (k3_off458_inb i k3_t16 v56_0 k3_hw28)).toLoadRect (View.loadsAt_vmem h_S1x16))
  have v131 : Vec F S16 .f32 := shapeCast S16 v131_ld shapeCasts_S1x16_S16
  Prog.lift (.store arg9 (Rect.unit (s := S256x256) (k3_off458 v56_0) S1x16.size (k3_off458_inb i k3_t16 v56_0 k3_hw28)) (shapeCast S1x16 v129 shapeCasts_S16_S1x16) Finset.univ (View.stores_vmem_bits_univ h_S1x16 rfl) (.inl rfl))
  let v132 : Index := Scalar.indexCast v56_0
  let c240 : Index := 240#32
  let v133_ld : Vec F S1x16 .f32 ← Prog.lift (.load arg9 (Rect.unit (s := S256x256) (k3_off459 v56_0) S1x16.size (k3_off459_inb i k3_t16 v56_0 k3_hw28)).toLoadRect (View.loadsAt_vmem h_S1x16))
  have v133 : Vec F S16 .f32 := shapeCast S16 v133_ld shapeCasts_S1x16_S16
  have v134 : FVec F S16 .f32 := addf v133 v56_16
  let v135 : Index := Scalar.indexCast v56_0
  let c240_45 : Index := 240#32
  let v136_ld : Vec F S1x16 .f32 ← Prog.lift (.load arg9 (Rect.unit (s := S256x256) (k3_off459 v56_0) S1x16.size (k3_off459_inb i k3_t16 v56_0 k3_hw28)).toLoadRect (View.loadsAt_vmem h_S1x16))
  have v136 : Vec F S16 .f32 := shapeCast S16 v136_ld shapeCasts_S1x16_S16
  Prog.lift (.store arg9 (Rect.unit (s := S256x256) (k3_off459 v56_0) S1x16.size (k3_off459_inb i k3_t16 v56_0 k3_hw28)) (shapeCast S1x16 v134 shapeCasts_S16_S1x16) Finset.univ (View.stores_vmem_bits_univ h_S1x16 rfl) (.inl rfl))
  K2

abbrev thr (d : Dev nD) (i : grid3.Coords) : Thread nD τ := (d, .scVector ((i 0).castLE hcore3) ((i 1).castLE hsub3))

set_option maxHeartbeats 1000000 in
theorem wp_prog (EC : UEmb Counters 𝕄) [EC.LandsIn (upEmb : UEmb _ 𝕄)] (d : Dev nD) {Q : PUnit → sProp 𝕄} (i : grid3.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    (v0 v2 : BitVec 32) (z : F .f32) (c0_i32_21 c1_i32_23 : BitVec 32) (k3_t16 : Fin (k3_t16_loop i).trips)
    {K2 : Prog (TpuEff nD τ sig (Elt F) Λ₀ (.scVector ((i 0).castLE hcore3) ((i 1).castLE hsub3))) PUnit}
    {Y : Nat → Nat → F .f32} {BI SG : Nat → BitVec 32} {X A : Nat → Nat → F .f32}
    {f2 : Buf (Elt F) (arg2.view.loc (thr d i))} {f3 : Buf (Elt F) (arg3.view.loc (thr d i))}
    (hf2 : arg2.view.read (Elt F) f2 = arr2 50000 512 Y) (hf3 : arg3.view.read (Elt F) f3 = arr1 100000 BI)
    {ro co so : Nat} (ho2 : k3_off410 i k3_t16 = ![ro, co]) (ho3 : k3_off411 i k3_t16 = ![so])
    (hSG : ∀ r, r < 8 → (BI (so + r)).toNat < 256)
    (ι : Ix) {q2 q3 : PosShare TreeShare} {O : CellTallies nD τ sig Ix} {W : Waits sig Ix} :
    iprop((arg2.view.loc (thr d i) ↦{q2} f2) ∗ (arg3.view.loc (thr d i) ↦{q3} f3)
        ∗ owns (thr d i) arg5 fullShare (arr2 112 256 X) ∗ owns (thr d i) arg7 fullShare (arr1 128 SG) ∗ owns (thr d i) arg9 fullShare (arr2 256 256 A)
        ∗ semVal (thr d i, .dma v137_r0.sem) 0 ∗ semVal (thr d i, .dma v137_r1.sem) 0 ∗ owes (thr d i) O W ∗ Transfers.MayWaits (thr d i) ι O)
      ⊢ iprop((iprop((arg2.view.loc (thr d i) ↦{q2} f2) ∗ (arg3.view.loc (thr d i) ↦{q3} f3)
            ∗ bufs (thr d i) arg5 arg7 arg9 (pre1 8 (fun r k => Y (ro + r) (co + k)) X) (pre1 8 (fun r => BI (so + r)) SG)
              (chunkA z (fun r => BI (so + r)) (fun r k => Y (ro + r) (co + k)) A 8)
            ∗ semVal (thr d i, .dma v137_r0.sem) 0 ∗ semVal (thr d i, .dma v137_r1.sem) 0
            ∗ owes (thr d i) O (insert (SemLoc.dma v137_r1.sem, ι) (insert (SemLoc.dma v137_r0.sem, ι) W)))
            -∗ wp frame (wpE defs 𝒱 (thr d i) bd) Set.univ K2 Q)
          -∗ wp frame (wpE defs 𝒱 (thr d i) bd) Set.univ (prog i arg2 harg2 arg3 harg3 arg4 harg4 arg5 harg5 arg6 harg6 arg7 harg7 arg8 harg8 arg9 harg9 arg10 arg11 arg12 arg13 v137_r0 v137_r1 v137_r2 v137_r3 v42_r4 v0 v2 (fun _ => z) 0#32 1#32 k3_t16 K2) Q) := by
  have h1 : k3_chk25 i k3_t16 (fun _ => 0#32) := fun a x => by
    obtain rfl : a = 0 := Subsingleton.elim _ _
    show (0#32 : BitVec 32).toNat < 128
    decide
  have h6 : ∀ p : BitVec 32, p.toNat < 256 → k3_chk28 i k3_t16 p := fun p hp => ⟨inbA p hp 0 rfl, inbA p hp 1 rfl, inbA p hp 2 rfl, inbA p hp 3 rfl, inbA p hp 4 rfl, inbA p hp 5 rfl, inbA p hp 6 rfl, inbA p hp 7 rfl, inbA p hp 8 rfl, inbA p hp 9 rfl, inbA p hp 10 rfl, inbA p hp 11 rfl, inbA p hp 12 rfl, inbA p hp 13 rfl, inbA p hp 14 rfl, inbA p hp 15 rfl⟩
  iintro ⟨H2, H3, HX, HS, HA, Hv2, Hv3, HO, #HW⟩ Hk
  iapply (wp_short 𝒱 (thr d i) bd EC hf2 hf3 (xM := arg5) (sM := arg7) (s2 := v137_r0.sem) (s3 := v137_r1.sem) ho2 ho3 (q2 := q2) (q3 := q3) ι
    (inb2 := k3_off410_inb i k3_t16) (inb3 := k3_off411_inb i k3_t16) (inb4 := inb_S128_S8_0) (inb5 := inb_S112x256_S8x256_0_0) rfl) $$ [H2 H3 HX HS Hv2 Hv3 HO]
  · isplitl [H2]; · iexact H2
    isplitl [H3]; · iexact H3
    isplitl [HX]; · iexact HX
    isplitl [HS]; · iexact HS
    isplitl [Hv2]; · iexact Hv2
    isplitl [Hv3]; · iexact Hv3
    isplitl [HO]; · iexact HO
    iexact HW
  iintro ⟨H2, H3, HX, HS, Hv2, Hv3, HO⟩
  have hS : ∀ r, r < 8 → ((pre1 8 (fun r => BI (so + r)) SG) r).toNat < 256 := fun r hr => by
    rw [pre1, if_pos hr]; exact hSG r hr
  iapply (wp_chunk (c := thr d i) (defs := defs) (𝒱 := 𝒱) (bd := bd) (xM := arg5) (sM := arg7) (aM := arg9) (z := z) (SG := pre1 8 (fun r => BI (so + r)) SG) (X := pre1 8 (fun r k => Y (ro + r) (co + k)) X) (Q := Q) 8 1 A (by decide) hS
    (c1 := k3_chk25 i k3_t16 (fun _ => 0#32)) (d1 := k3_chk25.dec i k3_t16 _) h1 (hx := fun h => k3_idx13_inb i k3_t16 _ h) (hl := View.loads_vmem h_S128)
    (lb := k3_t17_loop.lb) (ub := k3_t17_loop.ub) (stp := k3_t17_loop.st) (hok := k3_t17_ok) (by decide)
    (c6 := fun p => k3_chk28 i k3_t16 p) (d6 := fun p => k3_chk28.dec i k3_t16 p) h6
    (fun p h => ![⟨k3_off444 p, k3_off444_inb i k3_t16 p h⟩, ⟨k3_off445 p, k3_off445_inb i k3_t16 p h⟩, ⟨k3_off446 p, k3_off446_inb i k3_t16 p h⟩, ⟨k3_off447 p, k3_off447_inb i k3_t16 p h⟩, ⟨k3_off448 p, k3_off448_inb i k3_t16 p h⟩, ⟨k3_off449 p, k3_off449_inb i k3_t16 p h⟩, ⟨k3_off450 p, k3_off450_inb i k3_t16 p h⟩, ⟨k3_off451 p, k3_off451_inb i k3_t16 p h⟩, ⟨k3_off452 p, k3_off452_inb i k3_t16 p h⟩, ⟨k3_off453 p, k3_off453_inb i k3_t16 p h⟩, ⟨k3_off454 p, k3_off454_inb i k3_t16 p h⟩, ⟨k3_off455 p, k3_off455_inb i k3_t16 p h⟩, ⟨k3_off456 p, k3_off456_inb i k3_t16 p h⟩, ⟨k3_off457 p, k3_off457_inb i k3_t16 p h⟩, ⟨k3_off458 p, k3_off458_inb i k3_t16 p h⟩, ⟨k3_off459 p, k3_off459_inb i k3_t16 p h⟩]) (fun p h j => by fin_cases j <;> rfl)
    (prog := _) rfl (fun h f p cr => rfl) (fun k3_t17 s hp => ?_)) $$ [HX HS HA]
  · have hk : k3_t17.val < 8 := lt_of_lt_of_eq k3_t17.isLt (by decide)
    have hrw : (Scf.iv 0#32 1#32 k3_t17).toNat = 1 * k3_t17.val := by rw [one_mul]; exact addr_t _ hk
    refine wp_row (c := thr d i) (defs := defs) (𝒱 := 𝒱) (bd := bd) (xM := arg5) (sM := arg7) (aM := arg9) (z := z) (SG := pre1 8 (fun r => BI (so + r)) SG) (X := pre1 8 (fun r k => Y (ro + r) (co + k)) X) s (Scf.iv 0#32 1#32 k3_t17) (1 * k3_t17.val) hrw
        (c4 := k3_chk26 i k3_t16 (fun _ => Scf.iv 0#32 1#32 k3_t17)) (d4 := k3_chk26.dec i k3_t16 _) ?_
        (fun h4 => k3_idx14_inb i k3_t16 _ h4) (hl := View.loads_vmem h_S128)
        (fun w => k3_chk27 i k3_t16 s.p w) (d5 := fun w => k3_chk27.dec i k3_t16 s.p w) (fun w => ⟨fun _ => inbA s.p hp 0 rfl, fun _ => inbA s.p hp 1 rfl, fun _ => inbA s.p hp 2 rfl, fun _ => inbA s.p hp 3 rfl, fun _ => inbA s.p hp 4 rfl, fun _ => inbA s.p hp 5 rfl, fun _ => inbA s.p hp 6 rfl, fun _ => inbA s.p hp 7 rfl, fun _ => inbA s.p hp 8 rfl, fun _ => inbA s.p hp 9 rfl, fun _ => inbA s.p hp 10 rfl, fun _ => inbA s.p hp 11 rfl, fun _ => inbA s.p hp 12 rfl, fun _ => inbA s.p hp 13 rfl, fun _ => inbA s.p hp 14 rfl, fun _ => inbA s.p hp 15 rfl⟩)
        ![⟨k3_off412 s.p, inbA s.p hp 0 rfl⟩, ⟨k3_off413 s.p, inbA s.p hp 1 rfl⟩, ⟨k3_off414 s.p, inbA s.p hp 2 rfl⟩, ⟨k3_off415 s.p, inbA s.p hp 3 rfl⟩, ⟨k3_off416 s.p, inbA s.p hp 4 rfl⟩, ⟨k3_off417 s.p, inbA s.p hp 5 rfl⟩, ⟨k3_off418 s.p, inbA s.p hp 6 rfl⟩, ⟨k3_off419 s.p, inbA s.p hp 7 rfl⟩, ⟨k3_off420 s.p, inbA s.p hp 8 rfl⟩, ⟨k3_off421 s.p, inbA s.p hp 9 rfl⟩, ⟨k3_off422 s.p, inbA s.p hp 10 rfl⟩, ⟨k3_off423 s.p, inbA s.p hp 11 rfl⟩, ⟨k3_off424 s.p, inbA s.p hp 12 rfl⟩, ⟨k3_off425 s.p, inbA s.p hp 13 rfl⟩, ⟨k3_off426 s.p, inbA s.p hp 14 rfl⟩, ⟨k3_off427 s.p, inbA s.p hp 15 rfl⟩] (fun j => by fin_cases j <;> rfl)
        ![⟨k3_off428 k3_t17, k3_off428_inb k3_t17⟩, ⟨k3_off429 k3_t17, k3_off429_inb k3_t17⟩, ⟨k3_off430 k3_t17, k3_off430_inb k3_t17⟩, ⟨k3_off431 k3_t17, k3_off431_inb k3_t17⟩, ⟨k3_off432 k3_t17, k3_off432_inb k3_t17⟩, ⟨k3_off433 k3_t17, k3_off433_inb k3_t17⟩, ⟨k3_off434 k3_t17, k3_off434_inb k3_t17⟩, ⟨k3_off435 k3_t17, k3_off435_inb k3_t17⟩, ⟨k3_off436 k3_t17, k3_off436_inb k3_t17⟩, ⟨k3_off437 k3_t17, k3_off437_inb k3_t17⟩, ⟨k3_off438 k3_t17, k3_off438_inb k3_t17⟩, ⟨k3_off439 k3_t17, k3_off439_inb k3_t17⟩, ⟨k3_off440 k3_t17, k3_off440_inb k3_t17⟩, ⟨k3_off441 k3_t17, k3_off441_inb k3_t17⟩, ⟨k3_off442 k3_t17, k3_off442_inb k3_t17⟩, ⟨k3_off443 k3_t17, k3_off443_inb k3_t17⟩] (fun j => by rw [← hrw]; fin_cases j <;> rfl)
        rfl (fun h f h' hc => ?_) (fun h f h' hc => ?_)
    · intro a x
      obtain rfl : a = 0 := Subsingleton.elim _ _
      show (Scf.iv 0#32 1#32 k3_t17).toNat < 128
      omega
    · exact (bind_pos1 ((c5_eq _ _).trans hc) _ _ _).trans rfl
    · exact (bind_neg1 (fun h => hc ((c5_eq _ _).symm.trans h)) _ _ _).trans rfl
  · isplitl [HX]; · iexact HX
    isplitl [HS]; · iexact HS
    iexact HA
  · iintro HB
    iapply Hk
    isplitl [H2]; · iexact H2
    isplitl [H3]; · iexact H3
    isplitl [HB]
    · rw [chunkA_congr z (SG := fun r => BI (so + r)) (SG' := pre1 8 (fun r => BI (so + r)) SG) (X := fun r k => Y (ro + r) (co + k)) (X' := pre1 8 (fun r k => Y (ro + r) (co + k)) X) (N := 8) (by decide)
        (fun r hr => by rw [pre1, if_pos hr]) (fun r hr => by rw [pre1, if_pos hr])]
      iexact HB
    isplitl [Hv2]; · iexact Hv2
    isplitl [Hv3]; · iexact Hv3
    iexact HO
end Cert.Proof.Tail3
-- ==== Proof.Tile3.lean ====
/-
  One tile of the call, whole: the accumulator zeroed, the full chunks two at a time, the further rows, the accumulator written out.
-/
module
public import proofs.«01_k».proof.KernelIdeal
public import proofs.«01_k».proof.Proof.Gen.KernelIdeal
public import proofs.«01_k».proof.Proof.Facts3
public import proofs.«01_k».proof.Proof.Stage
public import proofs.«01_k».proof.Proof.Blk3A
public import proofs.«01_k».proof.Proof.Blk3B
public import proofs.«01_k».proof.Proof.Tail3
@[expose] public section
noncomputable section
namespace Cert.Proof.Tile3
open Cert.KernelIdeal Cert.KernelIdeal.Gen Cert.Proof.Rows
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] [Infinite Name] {U : Type} [URA U] {Lvl : Type} [Preorder Lvl]
variable {defs : Defs nD τ sig (Elt F) Λ₀} {𝒱 : Variants} {bd : Option 𝒱.V}
local notation "𝕄" => MT nD τ sig Ix (Elt F) Name U Lvl

open Cert.Proof.Facts3
attribute [local irreducible] k3_cond1 k3_cond2 k3_cond3 k3_cond7 k3_cond8 k3_cond12

abbrev thr (d : Dev nD) (i : grid3.Coords) : Thread nD τ := (d, .scVector ((i 0).castLE hcore3) ((i 1).castLE hsub3))
abbrev zf : F .f32 := Scalar.ofBits .f32 0x00000000#32

/-- The tile's slab of the result: its row of the partial sums, its half of the columns. -/
abbrev slab (i : grid3.Coords) (arg4 : Memref sig .scVector .hbm S16x256x512 .f32) : Memref sig .scVector .hbm S256x256 .f32 :=
  (arg4.slice (Rect.unit (s := S16x256x512) (k3_off510 i) S1x256x256.size (k3_off510_inb i)) (fun _ => rfl)).squeeze S256x256 squeezes_S1x256x256_S256x256

/-- The accumulator after `n` full chunks. -/
abbrev accN (Y : Nat → Nat → F .f32) (BI : Nat → BitVec 32) (i : grid3.Coords) (n : Nat) : Nat → Nat → F .f32 :=
  accC zf (fun g r => BI (50000 + (3136 * (row i).val + 112 * g + r))) (fun g r k => Y (3136 * (row i).val + 112 * g + r) (256 * (col i).val + k)) 112 (fun _ _ => zf) n
/-- And after `t` groups of eight more rows. -/
abbrev accT (Y : Nat → Nat → F .f32) (BI : Nat → BitVec 32) (i : grid3.Coords) (t : Nat) : Nat → Nat → F .f32 :=
  accC zf (fun t r => BI (50000 + (3136 * (row i).val + 112 * nFull (row i).val + 8 * t + r)))
    (fun t r k => Y (3136 * (row i).val + 112 * nFull (row i).val + 8 * t + r) (256 * (col i).val + k)) 8 (accN Y BI i (nFull (row i).val)) t

theorem accN_succ {Y : Nat → Nat → F .f32} {BI : Nat → BitVec 32} {i : grid3.Coords} {n : Nat} {SG : Nat → BitVec 32} :
    chunkA zf (pre1 112 (fun r => BI (50000 + (3136 * (row i).val + 112 * n) + r)) SG)
      (fun r k => Y (3136 * (row i).val + 112 * n + r) (256 * (col i).val + k)) (accN Y BI i n) 112 = accN Y BI i (n + 1) :=
  chunkA_congr zf (N := 112) (by decide) (fun r hr => by rw [pre1, if_pos hr, Nat.add_assoc]) (fun r hr => rfl) _
theorem accT_succ {Y : Nat → Nat → F .f32} {BI : Nat → BitVec 32} {i : grid3.Coords} {t : Nat} :
    chunkA zf (fun r => BI (50000 + (3136 * (row i).val + 112 * nFull (row i).val + 8 * t) + r))
      (fun r k => Y (3136 * (row i).val + 112 * nFull (row i).val + 8 * t + r) (256 * (col i).val + k)) (accT Y BI i t) 8 = accT Y BI i (t + 1) :=
  chunkA_congr zf (N := 8) (by decide) (fun r hr => by rw [Nat.add_assoc]) (fun r hr => rfl) _

set_option maxHeartbeats 4000000 in
theorem wp_tile (EC : UEmb Counters 𝕄) [EC.LandsIn (upEmb : UEmb _ 𝕄)] (d : Dev nD) (i : grid3.Coords) (arg2 : Memref sig .scVector .hbm S50000x512 .f32) (harg2 : arg2.IsWhole) (arg3 : Memref sig .scVector .hbm S100000 .i32) (harg3 : arg3.IsWhole) (arg4 : Memref sig .scVector .hbm S16x256x512 .f32) (harg4 : arg4.IsWhole) (arg5 : Memref sig .scVector .vmem S112x256 .f32) (harg5 : arg5.IsWhole) (arg6 : Memref sig .scVector .vmem S112x256 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S256x256 .f32) (harg9 : arg9.IsWhole) (arg10 : DmaSems sig S_) (arg11 : DmaSems sig S_) (arg12 : DmaSems sig S_) (arg13 : DmaSems sig S_) (v137_r0 : DmaSems sig S_) (v137_r1 : DmaSems sig S_) (v137_r2 : DmaSems sig S_) (v137_r3 : DmaSems sig S_) (v42_r4 : DmaSems sig S_)
    {Y : Nat → Nat → F .f32} {BI : Nat → BitVec 32} (hBI : ∀ r, r < 100000 → (BI r).toNat < 256)
    {f2 : Buf (Elt F) (arg2.view.loc (thr d i))} {f3 : Buf (Elt F) (arg3.view.loc (thr d i))}
    (hf2 : arg2.view.read (Elt F) f2 = arr2 50000 512 Y) (hf3 : arg3.view.read (Elt F) f3 = arr1 100000 BI)
    (ι : Ix) {qA qB rA rB : PosShare TreeShare} {O : CellTallies nD τ sig Ix} {W : Waits sig Ix} {A0 : Nat → Nat → F .f32} {V0 : S256x256.Idx → Elt F .f32} :
    (iprop(Transfers.MayWaits (thr d i) ι O ∗ idle (thr d i) arg2 arg3 qA rA f2 f3 arg5 arg7 arg10.sem arg12.sem ∗ idle (thr d i) arg2 arg3 qB rB f2 f3 arg6 arg8 arg11.sem arg13.sem
        ∗ owns (thr d i) arg9 fullShare (arr2 256 256 A0) ∗ owns (thr d i) (slab i arg4) fullShare V0
        ∗ semVal (thr d i, .dma v137_r0.sem) 0 ∗ semVal (thr d i, .dma v137_r1.sem) 0 ∗ semVal (thr d i, .dma v42_r4.sem) 0 ∗ owes (thr d i) O W) : sProp 𝕄)
      ⊢ wp frame (wpE defs 𝒱 (thr d i) bd) Set.univ (cc3__seg_body i arg2 harg2 arg3 harg3 arg4 harg4 arg5 harg5 arg6 harg6 arg7 harg7 arg8 harg8 arg9 harg9 arg10 arg11 arg12 arg13 v137_r0 v137_r1 v137_r2 v137_r3 v42_r4)
          (fun _ => iprop(idle (thr d i) arg2 arg3 qA rA f2 f3 arg5 arg7 arg10.sem arg12.sem ∗ idle (thr d i) arg2 arg3 qB rB f2 f3 arg6 arg8 arg11.sem arg13.sem
            ∗ (∃ A1, owns (thr d i) arg9 fullShare (arr2 256 256 A1))
            ∗ owns (thr d i) (slab i arg4) fullShare (arr2 256 256 (accT Y BI i (nTail (row i).val)))
            ∗ semVal (thr d i, .dma v137_r0.sem) 0 ∗ semVal (thr d i, .dma v137_r1.sem) 0 ∗ semVal (thr d i, .dma v42_r4.sem) 0 ∗ owed (thr d i) ι O W)) := by
  have hrow : (row i).val < 16 := (row i).isLt
  -- the accumulator zeroed
  refine BIBase.Entails.trans ?pre1 (wp_loop' 𝒱 (thr d i) bd t1_trips rfl (fun k => (iprop(owns (thr d i) arg9 fullShare (arr2 256 256 (zeroed zf A0 k))
      ∗ Transfers.MayWaits (thr d i) ι O ∗ idle (thr d i) arg2 arg3 qA rA f2 f3 arg5 arg7 arg10.sem arg12.sem ∗ idle (thr d i) arg2 arg3 qB rB f2 f3 arg6 arg8 arg11.sem arg13.sem ∗ owns (thr d i) (slab i arg4) fullShare V0
        ∗ semVal (thr d i, .dma v137_r0.sem) 0 ∗ semVal (thr d i, .dma v137_r1.sem) 0 ∗ semVal (thr d i, .dma v42_r4.sem) 0 ∗ owes (thr d i) O W) : sProp 𝕄)) (fun k => ?body1) ?rest1)
  case pre1 =>
    rw [zeroed_none]
    iintro ⟨#HW, SA, SB, HA, HP, Hv0, Hv1, Hv4, HO⟩
    isplitl [HA]; · iexact HA
    isplitr; · iexact HW
    isplitl [SA]; · iexact SA
    isplitl [SB]; · iexact SB
    isplitl [HP]; · iexact HP
    isplitl [Hv0]; · iexact Hv0
    isplitl [Hv1]; · iexact Hv1
    isplitl [Hv4]; · iexact Hv4
    iexact HO
  case body1 =>
    iintro ⟨HA, HR⟩
    iapply (wp_zero 𝒱 (thr d i) bd (off1 k) rfl) $$ HA
    iintro HA
    iapply (wp_ret' 𝒱 (thr d i) bd rfl)
    isplitl [HA]; · iexact HA
    iexact HR
  rw [zeroed_all]
  -- the first two chunks begun
  iintro ⟨HA, #HW, SA, SB, HP, Hv0, Hv1, Hv4, HO⟩
  iapply (wp_begin EC 𝒱 (thr d i) bd hf2 hf3 (xM := arg5) (sM := arg7) (s2 := arg10.sem) (s3 := arg12.sem) (inb2 := k3_off2_inb i (cond1 i)) (inb3 := k3_off3_inb i (cond1 i)) (off2 i) (off3 i) (q2 := qA) (q3 := rA) ι rfl rfl (inb4 := inb_S128_S112_0) (hd2 := harg5.wordExact) (hd3 := View.wordExact_bits rfl) (hs2 := View.wordExact_bits rfl) (hs3 := View.wordExact_bits rfl) (ht2 := ⟨Or.inl rfl, trivial⟩) (ht3 := ⟨Or.inl rfl, trivial⟩) ((bind_pos1 (cond1 i) _ _ _).trans rfl)) $$ SA
  iintro SA
  iapply (wp_begin EC 𝒱 (thr d i) bd hf2 hf3 (xM := arg6) (sM := arg8) (s2 := arg11.sem) (s3 := arg13.sem) (inb2 := k3_off4_inb i (cond2 i)) (inb3 := k3_off5_inb i (cond2 i)) (off4 i) (off5 i) (q2 := qB) (q3 := rB) ι rfl rfl (inb4 := inb_S128_S112_0) ((bind_pos1 (cond2 i) _ _ _).trans rfl)) $$ SB
  iintro SB
  ihave HO := (owed_intro (thr d i) (ι := ι)) $$ HO
  -- the full chunks, two at a time
  iapply (wp_loopK 𝒱 (thr d i) bd (t2_trips i) rfl (fun k => (iprop(Transfers.MayWaits (thr d i) ι O ∗ owed (thr d i) ι O W
      ∗ owns (thr d i) arg9 fullShare (arr2 256 256 (accN Y BI i (2 * k)))
      ∗ (if k < nFull (row i).val / 2 then busy EC (thr d i) arg2 arg3 qA rA f2 f3 arg5 arg7 arg10.sem arg12.sem ι arg5.view.dmaCredit (arg7.slice (Rect.unit (s := S128) ![0] S112.size inb_S128_S112_0) (fun _ => rfl)).view.dmaCredit Y BI (3136 * (row i).val + 112 * (2 * k)) (256 * (col i).val) (50000 + (3136 * (row i).val + 112 * (2 * k))) else idle (thr d i) arg2 arg3 qA rA f2 f3 arg5 arg7 arg10.sem arg12.sem)
      ∗ (if k < nFull (row i).val / 2 then busy EC (thr d i) arg2 arg3 qB rB f2 f3 arg6 arg8 arg11.sem arg13.sem ι arg6.view.dmaCredit (arg8.slice (Rect.unit (s := S128) ![0] S112.size inb_S128_S112_0) (fun _ => rfl)).view.dmaCredit Y BI (3136 * (row i).val + 112 * (2 * k + 1)) (256 * (col i).val) (50000 + (3136 * (row i).val + 112 * (2 * k + 1))) else idle (thr d i) arg2 arg3 qB rB f2 f3 arg6 arg8 arg11.sem arg13.sem)) : sProp 𝕄)) (fun k => ?_)) $$ [SA SB HA HO]
  · have hk : k.val < nFull (row i).val / 2 := lt_of_lt_of_eq k.isLt (t2_trips i)
    have hb : 112 * (2 * k.val + 1) + 112 ≤ 112 * nFull (row i).val := by
      have := nFull_even (row i).val
      omega
    have hn := nFull_le hrow
    rw [if_pos hk, if_pos hk]
    iintro ⟨#HW, HO, HA, SA, SB⟩
    ihave HO := (owed_elim (thr d i)) $$ HO
    icases HO with ⟨%W1, %hW1, HO⟩
    ihave SA := (busy_elim EC (thr d i)) $$ SA
    icases SA with ⟨FA, %SGA, GA⟩
    iapply (wp_eq ((dif_pos (cond3 i k)).trans rfl : _ = Blk3A.prog i arg2 harg2 arg3 harg3 arg4 harg4 arg5 harg5 arg6 harg6 arg7 harg7 arg8 harg8 arg9 harg9 arg10 arg11 arg12 arg13 v137_r0 v137_r1 v137_r2 v137_r3 v42_r4 _ (fun _ => zf) k _ (cond3 i k) _) .rfl)
    iapply (Blk3A.wp_prog EC d i arg2 harg2 arg3 harg3 arg4 harg4 arg5 harg5 arg6 harg6 arg7 harg7 arg8 harg8 arg9 harg9 arg10 arg11 arg12 arg13 v137_r0 v137_r1 v137_r2 v137_r3 v42_r4 _ zf k _ (cond3 i k) (SG := pre1 112 (fun r => BI (50000 + (3136 * (row i).val + 112 * (2 * k.val)) + r)) SGA) (fun r hr => by
          rw [pre1, if_pos hr]; exact hBI _ (by omega)) ι rfl rfl (dlv_split (thr d i))) $$ [HA HO FA GA]
    · isplitl [FA]; · iexact FA
      isplitl [GA]; · iexact GA
      isplitr; · iempintro
      isplitl [HA]; · iexact HA
      isplitl [HO]; · iexact HO
      iexact HW
    iintro ⟨⟨HX, HS, HA⟩, ⟨H2, H3⟩, Hs, Ht, HO⟩
    rw [accN_succ]
    ihave HO := (owed_more (thr d i) hW1 _ _) $$ HO
    ihave SA := (idle_intro (thr d i)) $$ [H2 H3 HX HS Hs Ht]
    · isplitl [H2]; · iexact H2
      isplitl [H3]; · iexact H3
      isplitl [HX]; · iexact HX
      isplitl [HS]; · iexact HS
      isplitl [Hs]; · iexact Hs
      iexact Ht
    iapply (wp_next EC 𝒱 (thr d i) bd hf2 hf3 (cond7 i k) (xM := arg5) (sM := arg7) (s2 := arg10.sem) (s3 := arg12.sem) (inb2 := k3_off105_inb i k (cond3 i k)) (inb3 := k3_off106_inb i k (cond3 i k))
      (off105 i k) (off106 i k) (q2 := qA) (q3 := rA) ι rfl rfl (inb4 := inb_S128_S112_0) (hd2 := harg5.wordExact) (hd3 := View.wordExact_bits rfl) (hs2 := fun _ => View.wordExact_bits rfl) (hs3 := fun _ => View.wordExact_bits rfl)
      (ht2 := ⟨Or.inl rfl, trivial⟩) (ht3 := ⟨Or.inl rfl, trivial⟩) rfl (fun _ => rfl) (fun _ => rfl)) $$ SA
    iintro SA
    ihave HO := (owed_elim (thr d i)) $$ HO
    icases HO with ⟨%W2, %hW2, HO⟩
    ihave SB := (busy_elim EC (thr d i)) $$ SB
    icases SB with ⟨FB, %SGB, GB⟩
    iapply (wp_eq ((dif_pos (cond8 i k)).trans rfl : _ = Blk3B.prog i arg2 harg2 arg3 harg3 arg4 harg4 arg5 harg5 arg6 harg6 arg7 harg7 arg8 harg8 arg9 harg9 arg10 arg11 arg12 arg13 v137_r0 v137_r1 v137_r2 v137_r3 v42_r4 _ (fun _ => zf) k _ (cond8 i k) _) .rfl)
    iapply (Blk3B.wp_prog EC d i arg2 harg2 arg3 harg3 arg4 harg4 arg5 harg5 arg6 harg6 arg7 harg7 arg8 harg8 arg9 harg9 arg10 arg11 arg12 arg13 v137_r0 v137_r1 v137_r2 v137_r3 v42_r4 _ zf k _ (cond8 i k) (SG := pre1 112 (fun r => BI (50000 + (3136 * (row i).val + 112 * (2 * k.val + 1)) + r)) SGB) (fun r hr => by
          rw [pre1, if_pos hr]; exact hBI _ (by omega)) ι rfl rfl (dlv_split (thr d i))) $$ [HA HO FB GB]
    · isplitl [FB]; · iexact FB
      isplitl [GB]; · iexact GB
      isplitr; · iempintro
      isplitl [HA]; · iexact HA
      isplitl [HO]; · iexact HO
      iexact HW
    iintro ⟨⟨HX, HS, HA⟩, ⟨H2, H3⟩, Hs, Ht, HO⟩
    rw [accN_succ]
    ihave HO := (owed_more (thr d i) hW2 _ _) $$ HO
    ihave SB := (idle_intro (thr d i)) $$ [H2 H3 HX HS Hs Ht]
    · isplitl [H2]; · iexact H2
      isplitl [H3]; · iexact H3
      isplitl [HX]; · iexact HX
      isplitl [HS]; · iexact HS
      isplitl [Hs]; · iexact Hs
      iexact Ht
    iapply (wp_next EC 𝒱 (thr d i) bd hf2 hf3 (cond12 i k) (xM := arg6) (sM := arg8) (s2 := arg11.sem) (s3 := arg13.sem) (inb2 := k3_off206_inb i k (cond8 i k)) (inb3 := k3_off207_inb i k (cond8 i k))
      (off206 i k) (off207 i k) (q2 := qB) (q3 := rB) ι rfl rfl (inb4 := inb_S128_S112_0) (hd2 := harg6.wordExact) (hd3 := View.wordExact_bits rfl) (hs2 := fun _ => View.wordExact_bits rfl) (hs3 := fun _ => View.wordExact_bits rfl)
      (ht2 := ⟨Or.inl rfl, trivial⟩) (ht3 := ⟨Or.inl rfl, trivial⟩) rfl (fun _ => rfl) (fun _ => rfl)) $$ SB
    iintro SB
    iapply (wp_ret' 𝒱 (thr d i) bd rfl)
    isplitr; · iexact HW
    isplitl [HO]; · iexact HO
    isplitl [HA]; · iexact HA
    isplitl [SA]; · iexact SA
    iexact SB
  · rw [if_pos (nFull_pos _), if_pos (nFull_pos _)]
    isplitr; · iexact HW
    isplitl [HO]; · iexact HO
    isplitl [HA]; · iexact HA
    isplitl [SA]; · iexact SA
    iexact SB
  rw [if_neg (Nat.lt_irrefl _), if_neg (Nat.lt_irrefl _), nFull_even]
  iintro ⟨-, HO, HA, SA, SB⟩
  -- no chunk is left over
  iapply (wp_skip 𝒱 (thr d i) bd (t9_trips i) rfl .rfl)
  -- the further rows
  iapply (wp_loopK 𝒱 (thr d i) bd (t16_trips i) rfl (fun k => (iprop(Transfers.MayWaits (thr d i) ι O ∗ owed (thr d i) ι O W
      ∗ owns (thr d i) arg9 fullShare (arr2 256 256 (accT Y BI i k))
      ∗ idle (thr d i) arg2 arg3 qA rA f2 f3 arg5 arg7 arg10.sem arg12.sem
      ∗ semVal (thr d i, .dma v137_r0.sem) 0 ∗ semVal (thr d i, .dma v137_r1.sem) 0) : sProp 𝕄)) (fun k => ?_)) $$ [SA HA HO Hv0 Hv1]
  · have hk : k.val < nTail (row i).val := lt_of_lt_of_eq k.isLt (t16_trips i)
    have hn := nFull_le hrow
    iintro ⟨#HW, HO, HA, SA, Hv0, Hv1⟩
    ihave HO := (owed_elim (thr d i)) $$ HO
    icases HO with ⟨%W1, %hW1, HO⟩
    ihave SA := (idle_elim (thr d i)) $$ SA
    icases SA with ⟨H2, H3, ⟨%X, HX⟩, ⟨%SG, HS⟩, Hs, Ht⟩
    iapply (wp_eq (rfl : _ = Tail3.prog i arg2 harg2 arg3 harg3 arg4 harg4 arg5 harg5 arg6 harg6 arg7 harg7 arg8 harg8 arg9 harg9 arg10 arg11 arg12 arg13 v137_r0 v137_r1 v137_r2 v137_r3 v42_r4 _ _ (fun _ => zf) 0#32 1#32 k _) .rfl)
    iapply (Tail3.wp_prog EC d i arg2 harg2 arg3 harg3 arg4 harg4 arg5 harg5 arg6 harg6 arg7 harg7 arg8 harg8 arg9 harg9 arg10 arg11 arg12 arg13 v137_r0 v137_r1 v137_r2 v137_r3 v42_r4 _ _ zf 0#32 1#32 k hf2 hf3 (off410 i k) (off411 i k) (fun r hr => hBI _ (by omega)) ι) $$ [H2 H3 HX HS HA Hv0 Hv1 HO]
    · isplitl [H2]; · iexact H2
      isplitl [H3]; · iexact H3
      isplitl [HX]; · iexact HX
      isplitl [HS]; · iexact HS
      isplitl [HA]; · iexact HA
      isplitl [Hv0]; · iexact Hv0
      isplitl [Hv1]; · iexact Hv1
      isplitl [HO]; · iexact HO
      iexact HW
    iintro ⟨H2, H3, ⟨HX, HS, HA⟩, Hv0, Hv1, HO⟩
    rw [accT_succ]
    ihave HO := (owed_more (thr d i) hW1 _ _) $$ HO
    ihave SA := (idle_intro (thr d i)) $$ [H2 H3 HX HS Hs Ht]
    · isplitl [H2]; · iexact H2
      isplitl [H3]; · iexact H3
      isplitl [HX]; · iexact HX
      isplitl [HS]; · iexact HS
      isplitl [Hs]; · iexact Hs
      iexact Ht
    iapply (wp_ret' 𝒱 (thr d i) bd rfl)
    isplitr; · iexact HW
    isplitl [HO]; · iexact HO
    isplitl [HA]; · iexact HA
    isplitl [SA]; · iexact SA
    isplitl [Hv0]; · iexact Hv0
    iexact Hv1
  · isplitr; · iexact HW
    isplitl [HO]; · iexact HO
    isplitl [HA]; · iexact HA
    isplitl [SA]; · iexact SA
    isplitl [Hv0]; · iexact Hv0
    iexact Hv1
  iintro ⟨-, HO, HA, SA, Hv0, Hv1⟩
  iapply (wp_skip 𝒱 (thr d i) bd (t18_trips i) rfl .rfl)
  -- the accumulator written out
  ihave HO := (owed_elim (thr d i)) $$ HO
  icases HO with ⟨%W1, %hW1, HO⟩
  ihave HA := (show owns (thr d i) arg9 fullShare (arr2 256 256 (accT Y BI i (nTail (row i).val)))
      ⊢ (iprop(∃ f, ⌜arg9.view.read (Elt F) f = arr2 256 256 (accT Y BI i (nTail (row i).val))⌝ ∗ (arg9.view.loc (thr d i) ↦[arg9.view.set]{fullShare} f)) : sProp 𝕄) from .rfl) $$ HA
  icases HA with ⟨%f, %hf, HA⟩
  rw [harg9.set_eq_univ]
  iapply (wp_enq EC 𝒱 (thr d i) bd (src := arg9) (m := slab i arg4) (fs := f) (q := fullShare) (sm := v42_r4.sem) ι _ rfl (numel_pos2 256 256 (by decide) (by decide)) hf) $$ [HA HP Hv4]
  · isplitl [HA]; · iexact HA
    isplitl [HP]; · iexact HP
    iexact Hv4
  iintro HF
  iapply (Transfers.wp_waitLocalO EC 𝒱 (thr d i) bd ι rfl) $$ [HF HO]
  · isplitl [HF]; · iexact HF
    isplitl [HO]; · iexact HO
    iapply (Transfers.MayWaits.elim (.dma v42_r4.sem)) $$ HW
  iintro ⟨⟨HP, HA⟩, Hv4, HO⟩
  iapply (wp_ret' 𝒱 (thr d i) bd rfl)
  ihave HO := (owed_more1 (thr d i) hW1 _) $$ HO
  isplitl [SA]; · iexact SA
  isplitl [SB]; · iexact SB
  isplitl [HA]
  · iexists (accT Y BI i (nTail (row i).val))
    rw [← hf, ← harg9.set_eq_univ]
    iapply (owns_intro (thr d i) arg9 fullShare f) $$ HA
  isplitl [HP]; · iexact HP
  isplitl [Hv0]; · iexact Hv0
  isplitl [Hv1]; · iexact Hv1
  isplitl [Hv4]; · iexact Hv4
  iexact HO
end Cert.Proof.Tile3
-- ==== Proof.Tw3.lean ====
/-
  The tile of SparseCore call 1 as the call dispatches it: from its share of the two arrays it reads and its slab of the result, with its
  own buffers and semaphores, to the slab at its partial sums.
-/
module
public import proofs.«01_k».proof.Proof.Sc
public import proofs.«01_k».proof.Proof.Tile3
@[expose] public section
noncomputable section
namespace Cert.Proof.Tw3
open Cert.KernelIdeal Cert.KernelIdeal.Gen Cert.Proof.Rows Cert.Proof.Facts3 Cert.Proof.Sc
open Cert.Proof.Tile3 (thr slab accT wp_tile)
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The tile's part of the result -/

section Values
variable [FloatOps F] [∀ e, Nonempty (Elt F e)]

/-- The rows by coordinates. -/
def rowsOf (y : S50000x512.Idx → F .f32) : Nat → Nat → F .f32 := haveI : Nonempty (F .f32) := (inferInstance : Nonempty (Elt F .f32)); Classical.choose (exists_arr2 (n := 50000) (w := 512) y)
theorem rowsOf_eq (y : S50000x512.Idx → F .f32) : y = arr2 50000 512 (rowsOf y) :=
  haveI : Nonempty (F .f32) := (inferInstance : Nonempty (Elt F .f32)); Classical.choose_spec (exists_arr2 (n := 50000) (w := 512) y)
/-- The segments by row. -/
def segOf (s : S100000.Idx → BitVec 32) : Nat → BitVec 32 := Classical.choose (exists_arr1 (n := 100000) s)
theorem segOf_eq (s : S100000.Idx → BitVec 32) : s = arr1 100000 (segOf s) := Classical.choose_spec (exists_arr1 (n := 100000) s)

/-- The partial sums of every tile: each row of tiles' by segment, each core its half of the columns. -/
def part (y : S50000x512.Idx → F .f32) (s : S100000.Idx → BitVec 32) : S16x256x512.Idx → F .f32 := fun j =>
  accT (rowsOf y) (segOf s) (mk ⟨(j 2).val / 256, Nat.div_lt_of_lt_mul (j 2).isLt⟩ (j 0)) (nTail (j 0).val) (j 1).val ((j 2).val % 256)
end Values

abbrev aV : Memref sig .scVector .hbm S16x256x512 .f32 := Memref.whole main_v13_scv
/-- The slab's elements. -/
abbrev slabSet (i : grid3.Coords) : Finset S16x256x512.Idx := (slab i aV).view.set

theorem mem_slabSet (i : grid3.Coords) (j : S16x256x512.Idx) :
    j ∈ slabSet i ↔ (j 0).val = (row i).val ∧ 256 * (col i).val ≤ (j 2).val ∧ (j 2).val < 256 * (col i).val + 256 := by
  have h : slabSet i = (Rect.unit (s := S16x256x512) (k3_off510 i) S1x256x256.size (k3_off510_inb i)).set := by
    show (((View.whole (main_v13_scv : Ref sig .scVector)).slice (Rect.unit (s := S16x256x512) (k3_off510 i) S1x256x256.size (k3_off510_inb i))).reshape S256x256 _).set = _
    rw [View.set_reshape, View.set_slice_whole]
  rw [h, Rect.mem_set_unit]
  have e0 : k3_off510 i 0 = (row i).val := by rw [off510]; rfl
  have e1 : k3_off510 i 1 = 0 := by rw [off510]; rfl
  have e2 : k3_off510 i 2 = 256 * (col i).val := by rw [off510]; rfl
  constructor
  · intro h
    have h0 := h 0; have h2 := h 2
    rw [e0] at h0; rw [e2] at h2
    have s0 : S1x256x256.size 0 = 1 := rfl
    have s2 : S1x256x256.size 2 = 256 := rfl
    rw [s0] at h0; rw [s2] at h2
    exact ⟨by omega, h2.1, h2.2⟩
  · rintro ⟨h0, h2, h3⟩ a
    match a with
    | 0 => rw [e0]; exact ⟨by omega, by show _ < _ + 1; omega⟩
    | 1 => rw [e1]; exact ⟨Nat.zero_le _, by show _ < 0 + 256; have := (j 1).isLt; exact (Nat.zero_add 256).symm ▸ this⟩
    | 2 => rw [e2]; exact ⟨h2, h3⟩

theorem slabs_disjoint : ∀ i ∈ (Finset.univ : Finset (Fin 2 × Fin 16)), ∀ j ∈ (Finset.univ : Finset (Fin 2 × Fin 16)), i ≠ j →
    Disjoint (slabSet (mk i.1 i.2)) (slabSet (mk j.1 j.2)) := by
  intro i _ j _ hij
  refine Finset.disjoint_left.mpr fun x hx hy => hij ?_
  rw [mem_slabSet] at hx hy
  have c1 : (col (mk i.1 i.2)) = i.1 := rfl
  have c2 : (col (mk j.1 j.2)) = j.1 := rfl
  have r1 : (row (mk i.1 i.2)) = i.2 := rfl
  have r2 : (row (mk j.1 j.2)) = j.2 := rfl
  rw [c1, r1] at hx; rw [c2, r2] at hy
  exact Prod.ext (Fin.ext (by omega)) (Fin.ext (by omega))

theorem slabs_cover : (Finset.univ : Finset (Fin 2 × Fin 16)).biUnion (fun i => slabSet (mk i.1 i.2)) = Finset.univ := by
  refine Finset.eq_univ_iff_forall.mpr fun j => Finset.mem_biUnion.mpr ⟨(⟨(j 2).val / 256, Nat.div_lt_of_lt_mul (j 2).isLt⟩, j 0), Finset.mem_univ _, ?_⟩
  rw [mem_slabSet]
  refine ⟨rfl, ?_, ?_⟩
  · show 256 * ((j 2).val / 256) ≤ (j 2).val
    omega
  · show (j 2).val < 256 * ((j 2).val / 256) + 256
    omega

local notation "𝕄" => MT nD τ sig (HIx 2) (Elt F) ℕ UU ℕ

abbrev yLoc (d : Dev nD) : Loc nD τ sig := (SparseCore.T d).loc main_v12_0
abbrev sLoc (d : Dev nD) : Loc nD τ sig := (SparseCore.T d).loc main_arg1
abbrev oLoc (d : Dev nD) : Loc nD τ sig := (SparseCore.T d).loc main_v13

theorem out_split (d : Dev nD) (f : Buf (Elt F) (oLoc d)) :
    (oLoc d ↦{fullShare} f : sProp 𝕄) = bigSep Finset.univ fun c : Fin 2 => bigSep Finset.univ fun s : Fin 16 => oLoc d ↦[slabSet (mk c s)]{fullShare} f := by
  rw [← bigSep_univ_prod (fun i : Fin 2 × Fin 16 => (oLoc d ↦[slabSet (mk i.1 i.2)]{fullShare} f : sProp 𝕄)),
    ← pointsTo_biUnion Finset.univ (ℓ := oLoc d) (fun i : Fin 2 × Fin 16 => slabSet (mk i.1 i.2)) slabs_disjoint, slabs_cover]; try rfl

/-! ## The tile's own buffers and semaphores -/

theorem carve {I : Type} [DecidableEq I] {n : ℕ} (s : Finset I) (f : Fin n → I) (hf : Function.Injective f) (hs : ∀ j, f j ∈ s) (Φ : I → sProp 𝕄) :
    bigSep s Φ = iprop((bigSep Finset.univ fun j => Φ (f j)) ∗ bigSep (s \ Finset.univ.map ⟨f, hf⟩) Φ) := by
  rw [SparseCore.bigSep_sdiff_split' (s := s) (t := Finset.univ.map ⟨f, hf⟩) (fun x hx => by
    obtain ⟨j, -, rfl⟩ := Finset.mem_map.mp hx; exact hs j), bigSep_map]; rfl

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} from by decide, bigSep_insert (by decide), bigSep_insert (by decide),
    bigSep_insert (by decide), bigSep_insert (by decide), bigSep_singleton]; try rfl
theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]; try rfl

def sems : Fin 7 → DmaSem sig := ![cc3_scratch5.sem, cc3_scratch6.sem, cc3_scratch7.sem, cc3_scratch8.sem, cc3_scoped0.sem, cc3_scoped1.sem, cc3_scoped4.sem]
theorem sems_inj : Function.Injective sems := by decide
theorem sems_scoped : ∀ j, (SemLoc.dma (sems j) : SemLoc sig).isScoped .scVector = true := by decide
def bufs : Fin 5 → Ref sig .scVector := ![cc3_scratch0, cc3_scratch1, cc3_scratch2, cc3_scratch3, cc3_scratch4]
theorem bufs_inj : Function.Injective bufs := by decide
theorem bufs_own (p : Fin τ.nSC) (s : Fin τ.nSub) : ∀ j, ((Proc.scVector p s).devRef (bufs j)).owner = .proc (.scVector p s) := fun j =>
  match j with | 0 => rfl | 1 => rfl | 2 => rfl | 3 => rfl | 4 => rfl

section Own
variable (d : Dev nD) (i : grid3.Coords)

def restSems : sProp 𝕄 := bigSep (SparseCore.Cfg.ownCells (thr d i) \ Finset.univ.map ⟨fun j : Fin 7 => ((thr d i, SemLoc.dma (sems j)) : GSem nD τ sig),
  fun _ _ e => sems_inj (SemLoc.dma.inj (Prod.mk.inj e).2)⟩) fun g => semVal g 0
theorem ownSems_eq : (SparseCore.Cfg.ownSems0 (thr d i) : sProp 𝕄)
    = iprop((semVal (thr d i, .dma cc3_scratch5.sem) 0 ∗ semVal (thr d i, .dma cc3_scratch6.sem) 0 ∗ semVal (thr d i, .dma cc3_scratch7.sem) 0
      ∗ semVal (thr d i, .dma cc3_scratch8.sem) 0 ∗ semVal (thr d i, .dma cc3_scoped0.sem) 0 ∗ semVal (thr d i, .dma cc3_scoped1.sem) 0
      ∗ semVal (thr d i, .dma cc3_scoped4.sem) 0) ∗ restSems d i) := by
  unfold SparseCore.Cfg.ownSems0
  rw [carve _ (fun j : Fin 7 => ((thr d i, SemLoc.dma (sems j)) : GSem nD τ sig)) (fun _ _ e => sems_inj (SemLoc.dma.inj (Prod.mk.inj e).2))
    (fun j => SparseCore.Cfg.mem_ownCells.mpr ⟨rfl, sems_scoped j⟩), bigSep_seven]
  rfl

def restBufs : sProp 𝕄 := bigSep (SparseCore.Cfg.ownRefs (τ := τ) (sig := sig) (thr d i).2 \ Finset.univ.map ⟨fun j : Fin 5 => (thr d i).2.devRef (bufs j),
  fun _ _ e => bufs_inj (Proc.devRef_injective _ e)⟩) fun b => iprop(∃ f, ((d, b) : Loc nD τ sig) ↦{fullShare} f)
theorem ownBufs_eq : (SparseCore.Cfg.ownBufs (thr d i) : sProp 𝕄)
    = iprop(((∃ f, (thr d i).loc cc3_scratch0 ↦{fullShare} f) ∗ (∃ f, (thr d i).loc cc3_scratch1 ↦{fullShare} f) ∗ (∃ f, (thr d i).loc cc3_scratch2 ↦{fullShare} f)
      ∗ (∃ f, (thr d i).loc cc3_scratch3 ↦{fullShare} f) ∗ (∃ f, (thr d i).loc cc3_scratch4 ↦{fullShare} f)) ∗ restBufs d i) := by
  unfold SparseCore.Cfg.ownBufs
  rw [carve _ (fun j : Fin 5 => (thr d i).2.devRef (bufs j)) (fun _ _ e => bufs_inj (Proc.devRef_injective _ e))
    (fun j => SparseCore.Cfg.mem_ownRefs_of_owner (bufs_own _ _ j)), bigSep_five]
  rfl
end Own

/-! ## The tile -/

variable [FloatOps F] [∀ e, Nonempty (Elt F e)]
variable (d : Dev nD) (i : grid3.Coords)

theorem slab_out (y : S50000x512.Idx → F .f32) (s : S100000.Idx → BitVec 32) :
    (owns (thr d i) (slab i aV) fullShare (arr2 256 256 (accT (rowsOf y) (segOf s) i (nTail (row i).val))) : sProp 𝕄)
      ⊢ (oLoc d ↦[slabSet i]{fullShare} (part y s : Buf (Elt F) (oLoc d)) : sProp 𝕄) := by
  unfold owns
  iintro ⟨%f, %hf, H⟩
  iapply (Entails.of_eq (pointsTo_congr (ℓ := oLoc d) (I := slabSet i) (q := fullShare) (f := f) (g := (part y s : Buf (Elt F) (oLoc d))) ?_))
  · intro x hx
    obtain ⟨z, -, rfl⟩ := Finset.mem_map.mp hx
    have hz := congrFun hf z
    have hz' : f ((slab i aV).view.emb z) = arr2 256 256 (accT (rowsOf y) (segOf s) i (nTail (row i).val)) z := hz
    rw [hz']
    have he : (slab i aV).view.emb z = (Rect.unit (s := S16x256x512) (k3_off510 i) S1x256x256.size (k3_off510_inb i)).emb
        (Shape.reshapeEquiv (squeezes_S1x256x256_S256x256).numel_eq z) := rfl
    have hc := Shape.reshapeEquiv_cons_one (n := 2) (d := ![256, 256]) (squeezes_S1x256x256_S256x256).numel_eq z
    have e0 : ((slab i aV).view.emb z 0).val = (row i).val := by
      rw [he, Rect.emb_apply, hc]
      show k3_off510 i 0 + 1 * 0 = _
      rw [off510]; rfl
    have e1 : ((slab i aV).view.emb z 1).val = (z 0).val := by
      rw [he, Rect.emb_apply, hc]
      show k3_off510 i 1 + 1 * (z 0).val = _
      rw [off510]; show 0 + 1 * (z 0).val = _; omega
    have e2 : ((slab i aV).view.emb z 2).val = 256 * (col i).val + (z 1).val := by
      rw [he, Rect.emb_apply, hc]
      show k3_off510 i 2 + 1 * (z 1).val = _
      rw [off510]; show 256 * (col i).val + 1 * (z 1).val = _; omega
    have hz1 : (z 1).val < 256 := (z 1).isLt
    generalize (slab i aV).view.emb z = x at e0 e1 e2
    unfold part arr2
    have hm : mk ⟨(x 2).val / 256, Nat.div_lt_of_lt_mul (x 2).isLt⟩ (x 0) = i := by
      rw [← mk_eq i]
      exact congrArg₂ Facts3.mk (Fin.ext (by show (x 2).val / 256 = (col i).val; omega)) (Fin.ext e0)
    rw [hm, e0, e1, show (x 2).val % 256 = (z 1).val by omega]
  iexact H

theorem toks (ℓ : Loc nD τ sig) (q : PosShare TreeShare) (f : Buf (Elt F) ℓ) :
    (ℓ ↦{q} f : sProp 𝕄) ⊣⊢ iprop((ℓ ↦{q.left} f) ∗ ℓ ↦{q.right} f) := pointsTo_share (PosShare.mem_left_op_right _)

theorem tile_body (y : Buf (Elt F) (yLoc d)) (s : Buf (Elt F) (sLoc d)) (o : Buf (Elt F) (oLoc d)) (q : PosShare TreeShare)
    (hs : ∀ r, r < 100000 → (segOf (s : S100000.Idx → BitVec 32) r).toNat < 256) (O : CellTallies nD τ sig (HIx 2)) (W : Waits sig (HIx 2)) (hO : ∀ g, O g none = 0) :
    (iprop(levAts (K (F := F)).L (K (F := F)).lev ∗ emp ∗ ((yLoc d ↦{q} y) ∗ (sLoc d ↦{q} s) ∗ oLoc d ↦[slabSet i]{fullShare} o)
        ∗ scopedBufs (thr d i) ∗ scopedSems0 (thr d i) ∗ owes (thr d i) O W) : sProp 𝕄)
      ⊢ wp frame (wpE (defs₀ (F := F)) 𝒱₀ (thr d i) none) Set.univ
          (cc3__seg_body i (Memref.whole main_v12_0_scv) (Memref.isWhole_whole _) (Memref.whole main_arg1_scv) (Memref.isWhole_whole _) (Memref.whole main_v13_scv) (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scratch6 cc3_scratch7 cc3_scratch8
            cc3_scoped0 cc3_scoped1 cc3_scoped2 cc3_scoped3 cc3_scoped4)
          fun _ => iprop(((yLoc d ↦{q} y) ∗ (sLoc d ↦{q} s) ∗ oLoc d ↦[slabSet i]{fullShare} (part y s : Buf (Elt F) (oLoc d)))
            ∗ scopedBufs (thr d i) ∗ scopedSems0 (thr d i) ∗ ∃ W', ⌜∀ p ∈ W', p ∈ W ∨ p.2 = none⌝ ∗ owes (thr d i) O W') := by
  haveI : Nonempty (F .f32) := (inferInstance : Nonempty (Elt F .f32))
  rw [(K (F := F)).scopedBufs_V facts d _ _, SparseCore.Cfg.scopedSems0_V (Val := Elt F) d _ _, ownSems_eq, ownBufs_eq]
  iintro ⟨#Hlv, -, ⟨Hy, Hs, Ho⟩, ⟨⟨⟨%f0, H0⟩, ⟨%f1, H1⟩, ⟨%f2, H2⟩, ⟨%f3, H3⟩, ⟨%f4, H4⟩⟩, Hbufs⟩, ⟨⟨V5, V6, V7, V8, VA, VB, VC⟩, Hsems⟩, HO⟩
  ihave #Hmw := ((K (F := F)).mayWaits_none (thr := thr d i) hO) $$ Hlv
  ihave Hy := (toks (F := F) (yLoc d) q y).1 $$ Hy
  icases Hy with ⟨HyA, HyB⟩
  ihave Hs := (toks (F := F) (sLoc d) q s).1 $$ Hs
  icases Hs with ⟨HsA, HsB⟩
  obtain ⟨x0, h0⟩ := exists_arr2 (α := F .f32) (n := 112) (w := 256) f0
  obtain ⟨x1, h1⟩ := exists_arr2 (α := F .f32) (n := 112) (w := 256) f1
  obtain ⟨x2, h2⟩ := exists_arr1 (α := BitVec 32) (n := 128) f2
  obtain ⟨x3, h3⟩ := exists_arr1 (α := BitVec 32) (n := 128) f3
  obtain ⟨x4, h4⟩ := exists_arr2 (α := F .f32) (n := 256) (w := 256) f4
  ihave H0 := (Entails.of_eq (owns_whole (thr d i) cc3_scratch0 fullShare f0).symm) $$ H0
  ihave H1 := (Entails.of_eq (owns_whole (thr d i) cc3_scratch1 fullShare f1).symm) $$ H1
  ihave H2 := (Entails.of_eq (owns_whole (thr d i) cc3_scratch2 fullShare f2).symm) $$ H2
  ihave H3 := (Entails.of_eq (owns_whole (thr d i) cc3_scratch3 fullShare f3).symm) $$ H3
  ihave H4 := (Entails.of_eq (owns_whole (thr d i) cc3_scratch4 fullShare f4).symm) $$ H4
  rw [h0, h1, h2, h3, h4]
  ihave SA := (idle_intro (thr d i) (a2 := Memref.whole main_v12_0_scv) (a3 := Memref.whole main_arg1_scv) (f2 := y) (f3 := s) (q2 := q.left) (q3 := q.left)) $$ [HyA HsA H0 H2 V5 V7]
  · isplitl [HyA]; · iexact HyA
    isplitl [HsA]; · iexact HsA
    isplitl [H0]; · iexact H0
    isplitl [H2]; · iexact H2
    isplitl [V5]; · iexact V5
    iexact V7
  ihave SB := (idle_intro (thr d i) (a2 := Memref.whole main_v12_0_scv) (a3 := Memref.whole main_arg1_scv) (f2 := y) (f3 := s) (q2 := q.right) (q3 := q.right)) $$ [HyB HsB H1 H3 V6 V8]
  · isplitl [HyB]; · iexact HyB
    isplitl [HsB]; · iexact HsB
    isplitl [H1]; · iexact H1
    isplitl [H3]; · iexact H3
    isplitl [V6]; · iexact V6
    iexact V8
  ihave Ho := (owns_intro (thr d i) (slab i aV) fullShare o) $$ Ho
  iapply (wp_use (wp_tile countersEmb d i (Memref.whole main_v12_0_scv) (Memref.isWhole_whole _) (Memref.whole main_arg1_scv) (Memref.isWhole_whole _) (Memref.whole main_v13_scv) (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scratch6 cc3_scratch7 cc3_scratch8
            cc3_scoped0 cc3_scoped1 cc3_scoped2 cc3_scoped3 cc3_scoped4 hs (f2 := y) (f3 := s) (rowsOf_eq y) (segOf_eq s) none))
  isplitl [SA SB H4 Ho VA VB VC HO]
  · isplitr; · iexact Hmw
    isplitl [SA]; · iexact SA
    isplitl [SB]; · iexact SB
    isplitl [H4]; · iexact H4
    isplitl [Ho]; · iexact Ho
    isplitl [VA]; · iexact VA
    isplitl [VB]; · iexact VB
    isplitl [VC]; · iexact VC
    iexact HO
  iintro %_ ⟨SA, SB, ⟨%xa, H4⟩, Ho, VA, VB, VC, HO⟩
  ihave SA := (idle_elim (thr d i)) $$ SA
  icases SA with ⟨HyA, HsA, ⟨%xb, H0⟩, ⟨%xc, H2⟩, V5, V7⟩
  ihave SB := (idle_elim (thr d i)) $$ SB
  icases SB with ⟨HyB, HsB, ⟨%xd, H1⟩, ⟨%xe, H3⟩, V6, V8⟩
  ihave HO := (owed_elim (thr d i)) $$ HO
  isplitl [HyA HyB HsA HsB Ho]
  · isplitl [HyA HyB]
    · iapply (toks (F := F) (yLoc d) q y).2
      isplitl [HyA]; · iexact HyA
      iexact HyB
    isplitl [HsA HsB]
    · iapply (toks (F := F) (sLoc d) q s).2
      isplitl [HsA]; · iexact HsA
      iexact HsB
    iapply (slab_out d i y s); iexact Ho
  ihave H0 := (Entails.of_eq (owns_whole (thr d i) cc3_scratch0 fullShare _)) $$ H0
  ihave H1 := (Entails.of_eq (owns_whole (thr d i) cc3_scratch1 fullShare _)) $$ H1
  ihave H2 := (Entails.of_eq (owns_whole (thr d i) cc3_scratch2 fullShare _)) $$ H2
  ihave H3 := (Entails.of_eq (owns_whole (thr d i) cc3_scratch3 fullShare _)) $$ H3
  ihave H4 := (Entails.of_eq (owns_whole (thr d i) cc3_scratch4 fullShare _)) $$ H4
  isplitl [H0 H1 H2 H3 H4 Hbufs]
  · isplitr [Hbufs]
    · isplitl [H0]; · iexists _; iexact H0
      isplitl [H1]; · iexists _; iexact H1
      isplitl [H2]; · iexists _; iexact H2
      isplitl [H3]; · iexists _; iexact H3
      iexists _; iexact H4
    iexact Hbufs
  isplitl [V5 V6 V7 V8 VA VB VC Hsems]
  · isplitr [Hsems]
    · isplitl [V5]; · iexact V5
      isplitl [V6]; · iexact V6
      isplitl [V7]; · iexact V7
      isplitl [V8]; · iexact V8
      isplitl [VA]; · iexact VA
      isplitl [VB]; · iexact VB
      iexact VC
    iexact Hsems
  iexact HO

/-! ## The call's arrays, dealt to the cores and to the tiles -/

section Deal
variable (d : Dev nD) (y : Buf (Elt F) (yLoc d)) (s : Buf (Elt F) (sLoc d)) (o o' : Buf (Elt F) (oLoc d))

/-- What a tile is handed: a share of what it reads, its slab of the result whole. -/
def goT (c : Fin 2) (j : Fin 16) : sProp 𝕄 :=
  iprop((yLoc d ↦{Transfers.shareTok (Transfers.shareTok fullShare 2 c) 16 j} y) ∗ (sLoc d ↦{Transfers.shareTok (Transfers.shareTok fullShare 2 c) 16 j} s)
    ∗ oLoc d ↦[slabSet (mk c j)]{fullShare} o)
/-- What a core is handed. -/
def stT (c : Fin 2) : sProp 𝕄 :=
  iprop((yLoc d ↦{Transfers.shareTok fullShare 2 c} y) ∗ (sLoc d ↦{Transfers.shareTok fullShare 2 c} s)
    ∗ bigSep Finset.univ fun j : Fin 16 => oLoc d ↦[slabSet (mk c j)]{fullShare} o)

instance goT_storable (c : Fin 2) (j : Fin 16) : BI.Storable (upEmb : UEmb _ 𝕄) (goT d y s o c j) := by unfold goT; infer_instance
instance stT_storable (c : Fin 2) : BI.Storable (upEmb : UEmb _ 𝕄) (stT d y s o c) := by unfold stT; infer_instance

theorem core_split (c : Fin 2) : (stT d y s o c : sProp 𝕄) ⊢ iprop((bigSep Finset.univ fun j : Fin 16 => goT d y s o c j)
    ∗ ((bigSep Finset.univ fun j : Fin 16 => goT d y s o' c j) -∗ stT d y s o' c)) := by
  unfold stT goT
  rw [bigSep_sep', bigSep_sep', bigSep_sep', bigSep_sep']
  iintro ⟨Hy, Hs, Ho⟩
  ihave Hy := (Transfers.pointsTo_toks_split (ℓ := yLoc d) (S := Finset.univ) (f := y) (Transfers.shareTok fullShare 2 c) 16) $$ Hy
  icases Hy with ⟨Hy0, Hy⟩
  ihave Hs := (Transfers.pointsTo_toks_split (ℓ := sLoc d) (S := Finset.univ) (f := s) (Transfers.shareTok fullShare 2 c) 16) $$ Hs
  icases Hs with ⟨Hs0, Hs⟩
  isplitl [Hy Hs Ho]
  · isplitl [Hy]; · iexact Hy
    isplitl [Hs]; · iexact Hs
    iexact Ho
  iintro ⟨Hy, Hs, Ho⟩
  isplitl [Hy0 Hy]
  · iapply (Transfers.pointsTo_toks_join (ℓ := yLoc d) (S := Finset.univ) (f := y) (Transfers.shareTok fullShare 2 c) 16)
    isplitl [Hy0]; · iexact Hy0
    iexact Hy
  isplitl [Hs0 Hs]
  · iapply (Transfers.pointsTo_toks_join (ℓ := sLoc d) (S := Finset.univ) (f := s) (Transfers.shareTok fullShare 2 c) 16)
    isplitl [Hs0]; · iexact Hs0
    iexact Hs
  iexact Ho

theorem call_split : (iprop((yLoc d ↦{fullShare} y) ∗ (sLoc d ↦{fullShare} s) ∗ oLoc d ↦{fullShare} o) : sProp 𝕄)
    ⊢ iprop((bigSep Finset.univ fun c : Fin 2 => stT d y s o c)
      ∗ ((bigSep Finset.univ fun c : Fin 2 => stT d y s o' c) -∗ iprop((yLoc d ↦{fullShare} y) ∗ (sLoc d ↦{fullShare} s) ∗ oLoc d ↦{fullShare} o'))) := by
  unfold stT
  rw [bigSep_sep', bigSep_sep', bigSep_sep', bigSep_sep', out_split d o, out_split d o']
  iintro ⟨Hy, Hs, Ho⟩
  ihave Hy := (Transfers.pointsTo_toks_split (ℓ := yLoc d) (S := Finset.univ) (f := y) fullShare 2) $$ Hy
  icases Hy with ⟨Hy0, Hy⟩
  ihave Hs := (Transfers.pointsTo_toks_split (ℓ := sLoc d) (S := Finset.univ) (f := s) fullShare 2) $$ Hs
  icases Hs with ⟨Hs0, Hs⟩
  isplitl [Hy Hs Ho]
  · isplitl [Hy]; · iexact Hy
    isplitl [Hs]; · iexact Hs
    iexact Ho
  iintro ⟨Hy, Hs, Ho⟩
  isplitl [Hy0 Hy]
  · iapply (Transfers.pointsTo_toks_join (ℓ := yLoc d) (S := Finset.univ) (f := y) fullShare 2)
    isplitl [Hy0]; · iexact Hy0
    iexact Hy
  isplitl [Hs0 Hs]
  · iapply (Transfers.pointsTo_toks_join (ℓ := sLoc d) (S := Finset.univ) (f := s) fullShare 2)
    isplitl [Hs0]; · iexact Hs0
    iexact Hs
  iexact Ho
end Deal

theorem seg_lt (s : S100000.Idx → BitVec 32) (h : ∀ j, (s j).toNat < 256) : ∀ r, r < 100000 → (segOf s r).toNat < 256 := fun r hr => by
  have e := congrFun (segOf_eq s) (fun a => match a with | 0 => (⟨r, hr⟩ : Fin 100000))
  have e' : s (fun a => match a with | 0 => (⟨r, hr⟩ : Fin 100000)) = segOf s r := e
  rw [← e']; exact h _

/-- The call's dispatch on a tile of its grid. -/
theorem defs₀_vector (c : Fin τ.nSC) (s : Fin τ.nSub) :
    defs₀ (F := F) (.scVector c s) 3 ()
      = SparseCore.onTile hcore3 hsub3 (fun c s => cc3__seg_body (mk c s) (Memref.whole main_v12_0_scv) (Memref.isWhole_whole _) (Memref.whole main_arg1_scv) (Memref.isWhole_whole _) (Memref.whole main_v13_scv) (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scratch6 cc3_scratch7 cc3_scratch8
            cc3_scoped0 cc3_scoped1 cc3_scoped2 cc3_scoped3 cc3_scoped4) ⟨⟩ c s := rfl

end Cert.Proof.Tw3
end
-- ==== Proof.Mem.lean ====
/-
  The arrays of @main from step to step: what the program's device holds after the reshapes, the pipelines and the SparseCore calls.
-/
module
public import proofs.«01_k».proof.Proof.Reg0
public import proofs.«01_k».proof.Proof.Reg2
public import proofs.«01_k».proof.Proof.Reg4
public import proofs.«01_k».proof.Proof.Tw1
public import proofs.«01_k».proof.Proof.Tw3
@[expose] public section
noncomputable section
namespace Cert.Proof.Mem
open Cert.KernelIdeal Cert.KernelIdeal.Gen Cert.Proof.Sc
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-- A valuation with one reference's contents replaced. -/
def upd (W : Valuation τ sig (Elt F)) (r : Ref sig .tc) (v : r.ty.Contents (Elt F)) : Valuation τ sig (Elt F) :=
  Function.update W (Proc.devRef .tc r) v
theorem upd_self (W : Valuation τ sig (Elt F)) (r : Ref sig .tc) (v : r.ty.Contents (Elt F)) : upd W r v (Proc.devRef .tc r) = v :=
  Function.update_self ..
theorem upd_ne (W : Valuation τ sig (Elt F)) (r : Ref sig .tc) (v : r.ty.Contents (Elt F)) {x : Ref sig .tc} (h : x ≠ r) :
    upd W r v (Proc.devRef .tc x) = W (Proc.devRef .tc x) :=
  Function.update_of_ne (StableHlo.devRef_ne_of_ne h) ..

/-- The bound on the levels the core's waits have recorded before call `n`. -/
abbrev lo (n : ℕ) : ℕ := 8 * SparseCore.Cfg.Blocks.fst (Q := 2) (N := 2) n

/-! ## The reshapes -/

variable [FloatOps F]

abbrev op0 : HloOp τ sig (Elt F) := StableHlo.reshape main_arg1 main_v0 (rfl : (.i32 : EltTy) = .i32) shapeCasts_S100000_S50x1x2000
abbrev op1 : HloOp τ sig (Elt F) := StableHlo.reshape main_arg3 main_v1 (rfl : (.f32 : EltTy) = .f32) shapeCasts_S256_S1x256
abbrev op2 : HloOp τ sig (Elt F) := StableHlo.reshape main_arg5 main_v2 (rfl : (.f32 : EltTy) = .f32) shapeCasts_S128_S1x128
abbrev op3 : HloOp τ sig (Elt F) := StableHlo.reshape main_arg6 main_v3 (rfl : (.f32 : EltTy) = .f32) shapeCasts_S128x1_S1x128
abbrev op4 : HloOp τ sig (Elt F) := StableHlo.reshape main_arg7 main_v4 (rfl : (.f32 : EltTy) = .f32) shapeCasts_S1_S1x1
abbrev op7 : HloOp τ sig (Elt F) := StableHlo.reshape main_arg1 main_v7 (rfl : (.i32 : EltTy) = .i32) shapeCasts_S100000_S50x1x2000
abbrev op8 : HloOp τ sig (Elt F) := StableHlo.reshape main_arg3 main_v8 (rfl : (.f32 : EltTy) = .f32) shapeCasts_S256_S1x256
abbrev op9 : HloOp τ sig (Elt F) := StableHlo.reshape main_arg5 main_v9 (rfl : (.f32 : EltTy) = .f32) shapeCasts_S128_S1x128
abbrev op10 : HloOp τ sig (Elt F) := StableHlo.reshape main_arg6 main_v10 (rfl : (.f32 : EltTy) = .f32) shapeCasts_S128x1_S1x128
abbrev op11 : HloOp τ sig (Elt F) := StableHlo.reshape main_arg7 main_v11 (rfl : (.f32 : EltTy) = .f32) shapeCasts_S1_S1x1

/-- After the first five. -/
def host1 (W : Valuation τ sig (Elt F)) : Valuation τ sig (Elt F) := op4.result (op3.result (op2.result (op1.result (op0.result W))))
/-- After the second five. -/
def host2 (W : Valuation τ sig (Elt F)) : Valuation τ sig (Elt F) := op11.result (op10.result (op9.result (op8.result (op7.result W))))

theorem host1_ne (W : Valuation τ sig (Elt F)) {r : Ref sig .tc} (h0 : r ≠ main_v0) (h1 : r ≠ main_v1) (h2 : r ≠ main_v2) (h3 : r ≠ main_v3) (h4 : r ≠ main_v4) :
    host1 W (Proc.devRef .tc r) = W (Proc.devRef .tc r) := by
  unfold host1
  rw [StableHlo.reshape_result_ne (h := h4), StableHlo.reshape_result_ne (h := h3), StableHlo.reshape_result_ne (h := h2),
    StableHlo.reshape_result_ne (h := h1), StableHlo.reshape_result_ne (h := h0)]
theorem host2_ne (W : Valuation τ sig (Elt F)) {r : Ref sig .tc} (h0 : r ≠ main_v7) (h1 : r ≠ main_v8) (h2 : r ≠ main_v9) (h3 : r ≠ main_v10) (h4 : r ≠ main_v11) :
    host2 W (Proc.devRef .tc r) = W (Proc.devRef .tc r) := by
  unfold host2
  rw [StableHlo.reshape_result_ne (h := h4), StableHlo.reshape_result_ne (h := h3), StableHlo.reshape_result_ne (h := h2),
    StableHlo.reshape_result_ne (h := h1), StableHlo.reshape_result_ne (h := h0)]

/-! ## The states -/

variable [∀ e, Nonempty (Elt F e)]
variable (m : (ℓ : Loc nD τ sig) → Buf (Elt F) ℓ)

def W0 (d : Dev nD) : Valuation τ sig (Elt F) := fun b => m (d, b)
def W1 (d : Dev nD) : Valuation τ sig (Elt F) := host1 (W0 m d)
/-- The references' contents at a family of valuations. -/
abbrev refs (W : Dev nD → Valuation τ sig (Elt F)) : (c : Dev nD) → (b : Ref sig .tc) → Buf (Elt F) ((c : Thread nD τ).loc b) := fun c b => W c (Proc.devRef .tc b)

def W2 (d : Dev nD) : Valuation τ sig (Elt F) :=
  upd (upd (W1 m d) main_v5_0 ((Reg0.dat (refs (W1 m)) 0 (lo 0) d).arrAt 8 cfg0.N)) main_v5_1 ((Reg0.dat (refs (W1 m)) 0 (lo 0) d).arrAt 9 cfg0.N)
def W3 (d : Dev nD) : Valuation τ sig (Elt F) :=
  upd (W2 m d) main_v6 (Tw1.part (W2 m d (Proc.devRef .tc main_v5_0)) (W2 m d (Proc.devRef .tc main_arg1)))
def W4 (d : Dev nD) : Valuation τ sig (Elt F) := host2 (W3 m d)
def W5 (d : Dev nD) : Valuation τ sig (Elt F) :=
  upd (upd (W4 m d) main_v12_0 ((Reg2.dat (refs (W4 m)) 1 (lo 1) d).arrAt 8 cfg2.N)) main_v12_1 ((Reg2.dat (refs (W4 m)) 1 (lo 1) d).arrAt 9 cfg2.N)
def W6 (d : Dev nD) : Valuation τ sig (Elt F) :=
  upd (W5 m d) main_v13 (Tw3.part (W5 m d (Proc.devRef .tc main_v12_0)) (W5 m d (Proc.devRef .tc main_arg1)))
def W7 (d : Dev nD) : Valuation τ sig (Elt F) :=
  upd (W6 m d) main_v14 ((Reg4.dat (refs (W6 m)) 2 (lo 2) d).arrAt 4 cfg4.N)

theorem vp0 (d : Dev nD) : Reg0.Vp (refs (W1 m)) 0 (lo 0) d = refs (W2 m) d := by
  funext r
  by_cases h9 : r = main_v5_1
  · subst h9; rw [Reg0.vp_d]; exact (upd_self ..).symm
  by_cases h8 : r = main_v5_0
  · subst h8; rw [Reg0.vp_y]; exact ((upd_ne _ _ _ h9).trans (upd_self ..)).symm
  rw [Reg0.vp_off _ _ _ _ _ h8 h9]; exact ((upd_ne _ _ _ h9).trans (upd_ne _ _ _ h8)).symm
theorem vp2 (d : Dev nD) : Reg2.Vp (refs (W4 m)) 1 (lo 1) d = refs (W5 m) d := by
  funext r
  by_cases h9 : r = main_v12_1
  · subst h9; rw [Reg2.vp_d]; exact (upd_self ..).symm
  by_cases h8 : r = main_v12_0
  · subst h8; rw [Reg2.vp_y]; exact ((upd_ne _ _ _ h9).trans (upd_self ..)).symm
  rw [Reg2.vp_off _ _ _ _ _ h8 h9]; exact ((upd_ne _ _ _ h9).trans (upd_ne _ _ _ h8)).symm
theorem vp4 (d : Dev nD) : Reg4.Vp (refs (W6 m)) 2 (lo 2) d = refs (W7 m) d := by
  funext r
  by_cases h : r = main_v14
  · subst h; rw [Reg4.vp_o]; exact (upd_self ..).symm
  rw [Reg4.vp_off _ _ _ _ _ h]; exact (upd_ne _ _ _ h).symm

/-- A reference no step before the first call writes. -/
theorem W2_ne (d : Dev nD) {r : Ref sig .tc} (h : ∀ x ∈ [main_v0, main_v1, main_v2, main_v3, main_v4, main_v5_0, main_v5_1], r ≠ x) :
    W2 m d (Proc.devRef .tc r) = m (d, Proc.devRef .tc r) := by
  unfold W2 W1
  rw [upd_ne _ _ _ (h _ (by simp)), upd_ne _ _ _ (h _ (by simp)), host1_ne _ (h _ (by simp)) (h _ (by simp)) (h _ (by simp)) (h _ (by simp)) (h _ (by simp))]; rfl
/-- A reference no step before the last pipeline writes. -/
theorem W5_ne (d : Dev nD) {r : Ref sig .tc} (h : ∀ x ∈ [main_v0, main_v1, main_v2, main_v3, main_v4, main_v5_0, main_v5_1, main_v6, main_v7, main_v8, main_v9, main_v10, main_v11, main_v12_0, main_v12_1], r ≠ x) :
    W5 m d (Proc.devRef .tc r) = m (d, Proc.devRef .tc r) := by
  unfold W5 W4
  rw [upd_ne _ _ _ (h _ (by simp)), upd_ne _ _ _ (h _ (by simp)), host2_ne _ (h _ (by simp)) (h _ (by simp)) (h _ (by simp)) (h _ (by simp)) (h _ (by simp))]
  unfold W3
  rw [upd_ne _ _ _ (h _ (by simp))]
  exact W2_ne m d fun x hx => h x (by simp only [List.mem_cons, List.not_mem_nil, or_false] at hx ⊢; tauto)
/-- A reference no step writes. -/
theorem W7_ne (d : Dev nD) {r : Ref sig .tc} (h : ∀ x ∈ [main_v0, main_v1, main_v2, main_v3, main_v4, main_v5_0, main_v5_1, main_v6, main_v7, main_v8, main_v9, main_v10, main_v11, main_v12_0, main_v12_1, main_v13, main_v14], r ≠ x) :
    W7 m d (Proc.devRef .tc r) = m (d, Proc.devRef .tc r) := by
  unfold W7 W6
  rw [upd_ne _ _ _ (h _ (by simp)), upd_ne _ _ _ (h _ (by simp))]
  exact W5_ne m d fun x hx => h x (by simp only [List.mem_cons, List.not_mem_nil, or_false] at hx ⊢; tauto)

end Cert.Proof.Mem
end
-- ==== Proof.Main.lean ====
/-
  The launch: what each SparseCore call hands its tiles and gets back, @main on the TensorCore, and the program's run.
-/
module
public import proofs.«01_k».proof.Proof.Mem
public import Idealize.ShloMosaic.Lib.Pipeline.FrameTail
@[expose] public section
noncomputable section
namespace Cert.Proof.Main
open Cert.KernelIdeal Cert.KernelIdeal.Gen Cert.Proof.Sc Cert.Proof.Mem
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]
local notation "𝕄" => MT nD τ sig (HIx 2) (Elt F) ℕ UU ℕ

variable (m : (ℓ : Loc nD τ sig) → Buf (Elt F) ℓ) (ρ : Dev nD → PrngReg)

/-- What the proof asks of the launch memory: every word of the index array is a segment. -/
def PreOK : Prop := ∀ (d : Dev nD) (j : S100000.Idx), ((m (Tw1.sLoc d) : S100000.Idx → BitVec 32) j).toNat < 256

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

/-! ## What the calls hand over -/

/-- The arrays of call 0 and of call 1, as the calls find them, and the partial sums they leave. -/
abbrev y0 (d : Dev nD) : Buf (Elt F) (Tw1.yLoc d) := W2 m d (Proc.devRef .tc main_v5_0)
abbrev s0 (d : Dev nD) : Buf (Elt F) (Tw1.sLoc d) := W2 m d (Proc.devRef .tc main_arg1)
abbrev o0 (d : Dev nD) : Buf (Elt F) (Tw1.oLoc d) := W2 m d (Proc.devRef .tc main_v6)
abbrev r0 (d : Dev nD) : Buf (Elt F) (Tw1.oLoc d) := Tw1.part (y0 m d) (s0 m d)
abbrev y1 (d : Dev nD) : Buf (Elt F) (Tw3.yLoc d) := W5 m d (Proc.devRef .tc main_v12_0)
abbrev s1 (d : Dev nD) : Buf (Elt F) (Tw3.sLoc d) := W5 m d (Proc.devRef .tc main_arg1)
abbrev o1 (d : Dev nD) : Buf (Elt F) (Tw3.oLoc d) := W5 m d (Proc.devRef .tc main_v13)
abbrev r1 (d : Dev nD) : Buf (Elt F) (Tw3.oLoc d) := Tw3.part (y1 m d) (s1 m d)

def P : (K (F := F)).Pay (nD := nD) (Val := Elt F) (Name := ℕ) (U := UU) where
  st q d c := match q with
    | 0 => Tw1.stT d (y0 m d) (s0 m d) (o0 m d) (Fin.cast nCore_0 c)
    | 1 => Tw3.stT d (y1 m d) (s1 m d) (o1 m d) (Fin.cast nCore_1 c)
  dn q d c := match q with
    | 0 => Tw1.stT d (y0 m d) (s0 m d) (r0 m d) (Fin.cast nCore_0 c)
    | 1 => Tw3.stT d (y1 m d) (s1 m d) (r1 m d) (Fin.cast nCore_1 c)
  go q d c i := match q with
    | 0 => Tw1.goT d (y0 m d) (s0 m d) (o0 m d) (Fin.cast nCore_0 c) (Fin.cast nSub_0 i)
    | 1 => Tw3.goT d (y1 m d) (s1 m d) (o1 m d) (Fin.cast nCore_1 c) (Fin.cast nSub_1 i)
  td q d c i := match q with
    | 0 => Tw1.goT d (y0 m d) (s0 m d) (r0 m d) (Fin.cast nCore_0 c) (Fin.cast nSub_0 i)
    | 1 => Tw3.goT d (y1 m d) (s1 m d) (r1 m d) (Fin.cast nCore_1 c) (Fin.cast nSub_1 i)
  x := fun _ _ => iprop(emp)

instance P_storable : (P m).IsStorable where
  st q d c := match q with
    | 0 => Tw1.stT_storable d (y0 m d) (s0 m d) (o0 m d) (Fin.cast nCore_0 c)
    | 1 => Tw3.stT_storable d (y1 m d) (s1 m d) (o1 m d) (Fin.cast nCore_1 c)
  dn q d c := match q with
    | 0 => Tw1.stT_storable d (y0 m d) (s0 m d) (r0 m d) (Fin.cast nCore_0 c)
    | 1 => Tw3.stT_storable d (y1 m d) (s1 m d) (r1 m d) (Fin.cast nCore_1 c)
  go q d c i := match q with
    | 0 => Tw1.goT_storable d (y0 m d) (s0 m d) (o0 m d) (Fin.cast nCore_0 c) (Fin.cast nSub_0 i)
    | 1 => Tw3.goT_storable d (y1 m d) (s1 m d) (o1 m d) (Fin.cast nCore_1 c) (Fin.cast nSub_1 i)
  td q d c i := match q with
    | 0 => Tw1.goT_storable d (y0 m d) (s0 m d) (r0 m d) (Fin.cast nCore_0 c) (Fin.cast nSub_0 i)
    | 1 => Tw3.goT_storable d (y1 m d) (s1 m d) (r1 m d) (Fin.cast nCore_1 c) (Fin.cast nSub_1 i)

theorem s0_lt (hpre : PreOK m) (d : Dev nD) : ∀ r, r < 100000 → (Tw1.segOf (s0 m d : S100000.Idx → BitVec 32) r).toNat < 256 :=
  Tw1.seg_lt _ fun j => by
    have e : s0 m d = m (Tw1.sLoc d) := W2_ne m d (by decide)
    rw [show (s0 m d : S100000.Idx → BitVec 32) j = (m (Tw1.sLoc d) : S100000.Idx → BitVec 32) j from congrFun e j]; exact hpre d j
theorem s1_lt (hpre : PreOK m) (d : Dev nD) : ∀ r, r < 100000 → (Tw3.segOf (s1 m d : S100000.Idx → BitVec 32) r).toNat < 256 :=
  Tw3.seg_lt _ fun j => by
    have e : s1 m d = m (Tw1.sLoc d) := W5_ne m d (by decide)
    rw [show (s1 m d : S100000.Idx → BitVec 32) j = (m (Tw1.sLoc d) : S100000.Idx → BitVec 32) j from congrFun e j]; exact hpre d j

omit [FloatOps F] [∀ e, Nonempty (Elt F e)] in
theorem obl_post {thr : Thread nD τ} {A B C : sProp 𝕄} {O : CellTallies nD τ sig (HIx 2)} {W : Waits sig (HIx 2)} {R : HIx 2 → Prop} :
    (iprop(A ∗ B ∗ C ∗ ∃ W', ⌜∀ p ∈ W', p ∈ W ∨ p.2 = none⌝ ∗ owes thr O W') : sProp 𝕄)
      ⊢ iprop(A ∗ B ∗ C ∗ ∃ W', ⌜∀ p ∈ W', p ∈ W ∨ p.2 = none ∨ R p.2⌝ ∗ owes thr O W') := by
  iintro ⟨HA, HB, HC, %W', %h, HO⟩
  isplitl [HA]; · iexact HA
  isplitl [HB]; · iexact HB
  isplitl [HC]; · iexact HC
  iexists W'
  isplitr; · ipureintro; exact fun p hp => (h p hp).imp_right Or.inl
  iexact HO

theorem tileObl0 (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [Tw1.defs₀_vector]; simp only [SparseCore.onTile, hc, and_self, ↓reduceDIte]
  exact (Tw1.tile_body d (Facts1.mk ⟨_, hc.1⟩ ⟨_, hc.2⟩) (y0 m d) (s0 m d) (o0 m d) (Transfers.shareTok (Transfers.shareTok fullShare 2 (Fin.cast nCore_0 c)) 16 (Fin.cast nSub_0 i))
    (s0_lt m hpre d) O W hO).trans (wp_mono frame _ _ fun _ => obl_post)

theorem tileObl1 (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [Tw3.defs₀_vector]; simp only [SparseCore.onTile, hc, and_self, ↓reduceDIte]
  exact (Tw3.tile_body d (Facts3.mk ⟨_, hc.1⟩ ⟨_, hc.2⟩) (y1 m d) (s1 m d) (o1 m d) (Transfers.shareTok (Transfers.shareTok fullShare 2 (Fin.cast nCore_1 c)) 16 (Fin.cast nSub_1 i))
    (s1_lt m hpre d) O W hO).trans (wp_mono frame _ _ fun _ => obl_post)

theorem vecSplit0 : (K (F := F)).VecSplit' (P m) 0 := by
  intro d c
  exact (Tw1.core_split d (y0 m d) (s0 m d) (o0 m d) (r0 m d) (Fin.cast nCore_0 c)).trans BI.fupd_intro
theorem vecSplit1 : (K (F := F)).VecSplit' (P m) 1 := by
  intro d c
  exact (Tw3.core_split d (y1 m d) (s1 m d) (o1 m d) (r1 m d) (Fin.cast nCore_1 c)).trans BI.fupd_intro

/-! ## The launch's ghost state -/

abbrev pcs : Fin 3 → Pipeline.Cfg sig Λ₀ := Pipeline.pin (pcfgs (F := F)) adm
theorem pinj : Function.Injective (Pipeline.cellOf (nD := nD) (τ := τ) (pcs (F := F))) := cellOf_inj

def u₀ : UU := (initOf (K (F := F)).hsCells (K (F := F)).hsToks,
  (initOf (Pipeline.cells (pcs (F := F)) pinj) (Pipeline.launchToks (pcs (F := F)) pinj), 1))

/-- The pipelines' share of it, on a device. -/
def G (d : Dev nD) : sProp 𝕄 :=
  iprop((bigSep Finset.univ fun p : Fin 3 => Pipeline.cellsGhost (pcs (F := F)) EP p d) ∗ bigSep Finset.univ fun p : Fin 3 => Pipeline.toksInit (pcs (F := F)) EP p d)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 2 => (P m).x q thr) := by
  unfold u₀
  iintro Hu
  ihave H := (ownU_pair _ _) $$ Hu
  icases H with ⟨HH, HK⟩
  ihave HK := (own_pair_emb _ _ _) $$ HK
  icases HK with ⟨HK, -⟩
  ihave HK := (show (BI.own (((Emb.inl : Emb UP (UP × Counters)).trans (embR : Emb (UP × Counters) 𝕄)) (initOf (Pipeline.cells (pcs (F := F)) pinj) (Pipeline.launchToks (pcs (F := F)) pinj))) : sProp 𝕄)
    ⊢ BI.own (EP (initOf (Pipeline.cells (pcs (F := F)) pinj) (Pipeline.launchToks (pcs (F := F)) pinj))) from .rfl) $$ HK
  imod (Pipeline.fund_ghost (pcs (F := F)) EP pinj) $$ HK with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 2 => (P m).x q thr) = (iprop(emp) : sProp 𝕄) from
    (bigSep_congr fun _ _ => bigSep_emp_const _).trans (bigSep_emp_const _)]
  iempintro

/-! ## The steps of @main -/

omit [∀ e, Nonempty (Elt F e)] in
/-- A reshape. -/
theorem host_step (d : Dev nD) (op : HloOp τ sig (Elt F)) (hs : op.bufs ⊆ StableHlo.tcRefs τ sig) (hf : op.fresh = ∅) (W : Valuation τ sig (Elt F)) :
    (iprop(boundary (SparseCore.T d) ∗ StableHlo.held (SparseCore.T d) (Pipeline.ucRefs τ sig) W) : sProp 𝕄)
      ⊢ wp frame (wpE ((K (F := F)).defs (D (F := F))) 𝒱 (SparseCore.T d) none) Set.univ (hlo rfl op fun _ => (Prog.ret PUnit.unit : Prog _ PUnit))
          fun _ => iprop(boundary (SparseCore.T d) ∗ StableHlo.held (SparseCore.T d) (Pipeline.ucRefs τ sig) (op.result W)) := by
  iintro H
  iapply (StableHlo.wp_hlo_within 𝒱 (SparseCore.T d) none Set.univ (Pipeline.sub_ucRefs op hs) (hf := hf)) $$ H
  iintro H
  rw [wp_ret]; imodintro
  iexact H

set_option backward.isDefEq.respectTransparency.types false in
/-- A pipeline. -/
theorem tc_step (d : Dev nD) {p : Fin 3} {pdats : (p : Fin 3) → (c : Dev nD) → Datp (F := F) p c}
    (R : Pipeline.RegionSeg (pcfgs (F := F)) adm pdats none defs₀ 𝒱₀ (K (F := F)).L (K (F := F)).lev p) (n : ℕ) (Wa Wb : Valuation τ sig (Elt F))
    (hpre : R.pre d = iprop(unscopedBufs d (fun b => Wa (Proc.devRef .tc b)) ∗ ∃ W, ⌜(K (F := F)).WBelow (SparseCore.T d) W (lo n)⌝ ∗ owes (SparseCore.T d) ((K (F := F)).Otc d n) W))
    (hpost : R.post d = iprop(unscopedBufs d (fun b => Wb (Proc.devRef .tc b)) ∗ ∃ W, ⌜(K (F := F)).WBelow (SparseCore.T d) W (lo n)⌝ ∗ owes (SparseCore.T d) ((K (F := F)).Otc d n) W)) :
    (iprop(levAts (K (F := F)).L (K (F := F)).lev ∗ (K (F := F)).tcSt EH d n ∗ boundary (SparseCore.T d) ∗ StableHlo.held (SparseCore.T d) (Pipeline.ucRefs τ sig) Wa
        ∗ Pipeline.cellsGhost (pcs (F := F)) EP p d ∗ Pipeline.toksInit (pcs (F := F)) EP p d) : sProp 𝕄)
      ⊢ wp frame (wpE ((K (F := F)).defs (D (F := F))) 𝒱 (SparseCore.T d) none) Set.univ (Prog.lift (.customCall (SparseCore.inner (Pipeline.entry p)) ()))
          fun _ => iprop((K (F := F)).tcSt EH d n ∗ boundary (SparseCore.T d) ∗ StableHlo.held (SparseCore.T d) (Pipeline.ucRefs τ sig) Wb) := by
  rw [← Pipeline.unscopedBufs_held d Wa, ← Pipeline.unscopedBufs_held d Wb]
  change _ ⊢ wp _ _ _ (SparseCore.liftProg (.op (.customCall (Pipeline.entry p) ()) .ret)) _
  unfold SparseCore.Cfg.tcSt
  iintro ⟨#Hl, ⟨HO, Hst⟩, Hb, Hu, Hg, Ht⟩
  iapply ((K (F := F)).wp_liftProg (D (F := F)) 𝒱 (SparseCore.T d) Set.univ none _ _) $$ [HO Hst Hb Hu Hg Ht]
  iapply (Pipeline.RegionSeg.wp (pcfgs (F := F)) adm pdats none pinj EP defs₀ 𝒱₀ (K (F := F)).L (K (F := F)).lev R d none (fun u hu => nomatch hu) .ret _) $$ [HO Hst Hb Hu Hg Ht]
  rw [hpre, hpost]
  isplitl [Hst]
  · iintro ⟨Hb, Hu, HO⟩
    rw [wp_ret]; imodintro
    isplitl [HO Hst]
    · isplitl [HO]; · iexact HO
      iexact Hst
    isplitl [Hb] <;> iassumption
  isplitl [Hb]; · iexact Hb
  isplitl [Hu HO]
  · isplitl [Hu]; · iexact Hu
    iexact HO
  isplitr; · iexact Hl
  isplitl [Hg] <;> iassumption

omit [FloatOps F] [∀ e, Nonempty (Elt F e)] in
/-- Three arrays out of those the core holds, the third to come back changed. -/
theorem held3 (d : Dev nD) (y s o : Ref sig .tc) (hys : y ≠ s) (hyo : y ≠ o) (hso : s ≠ o)
    (hy : y.isScoped = false) (hs : s.isScoped = false) (ho : o.isScoped = false) (W : Valuation τ sig (Elt F)) (v : o.ty.Contents (Elt F)) :
    (StableHlo.held (SparseCore.T d) (Pipeline.ucRefs τ sig) W : sProp 𝕄)
      ⊢ iprop((((SparseCore.T d).loc y ↦{fullShare} W (Proc.devRef .tc y)) ∗ ((SparseCore.T d).loc s ↦{fullShare} W (Proc.devRef .tc s)) ∗ (SparseCore.T d).loc o ↦{fullShare} W (Proc.devRef .tc o))
        ∗ ((((SparseCore.T d).loc y ↦{fullShare} W (Proc.devRef .tc y)) ∗ ((SparseCore.T d).loc s ↦{fullShare} W (Proc.devRef .tc s)) ∗ (SparseCore.T d).loc o ↦{fullShare} v)
          -∗ StableHlo.held (SparseCore.T d) (Pipeline.ucRefs τ sig) (upd W o v))) := by
  let f : Fin 3 → DevRef τ sig := ![Proc.devRef .tc y, Proc.devRef .tc s, Proc.devRef .tc o]
  have hf : Function.Injective f := by
    intro i j e
    have a := StableHlo.devRef_ne_of_ne (τ := τ) hys; have b := StableHlo.devRef_ne_of_ne (τ := τ) hyo; have c := StableHlo.devRef_ne_of_ne (τ := τ) hso
    fin_cases i <;> fin_cases j <;> first | rfl | exact absurd e a | exact absurd e.symm a | exact absurd e b | exact absurd e.symm b | exact absurd e c | exact absurd e.symm c
  have hin : ∀ j, f j ∈ Pipeline.ucRefs τ sig := by
    intro j
    fin_cases j
    · exact Pipeline.devRef_mem_ucRefs hy
    · exact Pipeline.devRef_mem_ucRefs hs
    · exact Pipeline.devRef_mem_ucRefs ho
  have three (Φ : Fin 3 → sProp 𝕄) : bigSep Finset.univ Φ = iprop(Φ 0 ∗ Φ 1 ∗ Φ 2) :=
    bigSep_univ_eq_bigSepL [(0 : Fin 3), (1 : Fin 3), (2 : Fin 3)] (by decide) (by decide) Φ
  unfold StableHlo.held
  rw [Tw1.carve _ f hf hin, Tw1.carve _ f hf hin, three, three,
    show (bigSep (Pipeline.ucRefs τ sig \ Finset.univ.map ⟨f, hf⟩) fun b => ((SparseCore.T d).1, b) ↦{fullShare} upd W o v b : sProp 𝕄)
      = bigSep (Pipeline.ucRefs τ sig \ Finset.univ.map ⟨f, hf⟩) fun b => ((SparseCore.T d).1, b) ↦{fullShare} W b from
    bigSep_congr fun b hb => by
      have hne : b ≠ Proc.devRef .tc o := fun e => (Finset.mem_sdiff.mp hb).2 (Finset.mem_map.mpr ⟨2, Finset.mem_univ _, e.symm⟩)
      rw [show upd W o v b = W b from Function.update_of_ne hne ..]]
  rw [show f 0 = Proc.devRef .tc y from rfl, show f 1 = Proc.devRef .tc s from rfl, show f 2 = Proc.devRef .tc o from rfl, upd_ne W o v hyo, upd_ne W o v hso, upd_self]
  iintro ⟨H, Hr⟩
  isplitl [H]; · iexact H
  iintro H
  isplitl [H]; · iexact H
  iexact Hr

theorem st0_eq (d : Dev nD) : (bigSep Finset.univ fun c : Fin ((K (F := F)).nCore 0) => (P m).st 0 d c) = bigSep Finset.univ fun c : Fin 2 => Tw1.stT d (y0 m d) (s0 m d) (o0 m d) c := rfl
theorem dn0_eq (d : Dev nD) : (bigSep Finset.univ fun c : Fin ((K (F := F)).nCore 0) => (P m).dn 0 d c) = bigSep Finset.univ fun c : Fin 2 => Tw1.stT d (y0 m d) (s0 m d) (r0 m d) c := rfl
theorem st1_eq (d : Dev nD) : (bigSep Finset.univ fun c : Fin ((K (F := F)).nCore 1) => (P m).st 1 d c) = bigSep Finset.univ fun c : Fin 2 => Tw3.stT d (y1 m d) (s1 m d) (o1 m d) c := rfl
theorem dn1_eq (d : Dev nD) : (bigSep Finset.univ fun c : Fin ((K (F := F)).nCore 1) => (P m).dn 1 d c) = bigSep Finset.univ fun c : Fin 2 => Tw3.stT d (y1 m d) (s1 m d) (r1 m d) c := rfl

/-- SparseCore call 0. -/
theorem sc_step0 (κ : GSem nD τ sig → ℕ) (d : Dev nD) :
    (iprop((K (F := F)).ctx EH (P m) κ ∗ (K (F := F)).tcSt EH d 0 ∗ StableHlo.held (SparseCore.T d) (Pipeline.ucRefs τ sig) (W2 m d)) : sProp 𝕄)
      ⊢ wp frame (wpE ((K (F := F)).defs (D (F := F))) 𝒱 (SparseCore.T d) none) Set.univ ((K (F := F)).run d 0)
          fun _ => iprop((K (F := F)).tcSt EH d 1 ∗ StableHlo.held (SparseCore.T d) (Pipeline.ucRefs τ sig) (W3 m d)) := by
  iintro ⟨#Hctx, Hst, Hh⟩
  ihave H := (held3 d main_v5_0 main_arg1 main_v6 (by decide) (by decide) (by decide) (by decide) (by decide) (by decide) (W2 m d) (r0 m d)) $$ Hh
  icases H with ⟨H, Hback⟩
  ihave H := (Tw1.call_split d (y0 m d) (s0 m d) (o0 m d) (r0 m d)) $$ H
  icases H with ⟨H, Hjoin⟩
  iapply ((K (F := F)).wp_run (D (F := F)) 𝒱 (EH := EH) (P := P m) κ d 0) $$ [Hst H Hback Hjoin]
  isplitr; · iexact Hctx
  isplitl [Hst]; · iexact Hst
  isplitl [H]; · rw [st0_eq]; iexact H
  iintro ⟨Hst, Hdn⟩
  isplitl [Hst]; · iexact Hst
  ihave Hdn := (Entails.of_eq (dn0_eq m d)) $$ Hdn
  ihave H := Hjoin $$ Hdn
  iapply Hback; iexact H

/-- SparseCore call 1. -/
theorem sc_step1 (κ : GSem nD τ sig → ℕ) (d : Dev nD) :
    (iprop((K (F := F)).ctx EH (P m) κ ∗ (K (F := F)).tcSt EH d 1 ∗ StableHlo.held (SparseCore.T d) (Pipeline.ucRefs τ sig) (W5 m d)) : sProp 𝕄)
      ⊢ wp frame (wpE ((K (F := F)).defs (D (F := F))) 𝒱 (SparseCore.T d) none) Set.univ ((K (F := F)).run d 1)
          fun _ => iprop((K (F := F)).tcSt EH d 2 ∗ StableHlo.held (SparseCore.T d) (Pipeline.ucRefs τ sig) (W6 m d)) := by
  iintro ⟨#Hctx, Hst, Hh⟩
  ihave H := (held3 d main_v12_0 main_arg1 main_v13 (by decide) (by decide) (by decide) (by decide) (by decide) (by decide) (W5 m d) (r1 m d)) $$ Hh
  icases H with ⟨H, Hback⟩
  ihave H := (Tw3.call_split d (y1 m d) (s1 m d) (o1 m d) (r1 m d)) $$ H
  icases H with ⟨H, Hjoin⟩
  iapply ((K (F := F)).wp_run (D (F := F)) 𝒱 (EH := EH) (P := P m) κ d 1) $$ [Hst H Hback Hjoin]
  isplitr; · iexact Hctx
  isplitl [Hst]; · iexact Hst
  isplitl [H]; · rw [st1_eq]; iexact H
  iintro ⟨Hst, Hdn⟩
  isplitl [Hst]; · iexact Hst
  ihave Hdn := (Entails.of_eq (dn1_eq m d)) $$ Hdn
  ihave H := Hjoin $$ Hdn
  iapply Hback; iexact H

/-! ## @main -/

abbrev FIN (d : Dev nD) : sProp 𝕄 := StableHlo.held (SparseCore.T d) (Pipeline.ucRefs τ sig) (W7 m d)

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  have three (Φ : Fin 3 → sProp 𝕄) : bigSep Finset.univ Φ = iprop(Φ 0 ∗ Φ 1 ∗ Φ 2) :=
    bigSep_univ_eq_bigSepL [(0 : Fin 3), (1 : Fin 3), (2 : Fin 3)] (by decide) (by decide) Φ
  unfold SparseCore.Cfg.tcRes SparseCore.Cfg.tcEnd G
  rw [three, three, show (unscopedBufs d (fun b => m ((SparseCore.T d).loc b)) : sProp 𝕄) = _ from Pipeline.unscopedBufs_held d (W0 m d)]
  simp only [main, wp_bind, wp_pure]
  iintro ⟨#Hctx, Hst, ⟨Hb, Hh, Hts, -⟩, ⟨Hg0, Hg1, Hg2⟩, Ht0, Ht1, Ht2⟩
  ihave #Hl := (SparseCore.Cfg.ctx_levAts κ) $$ Hctx
  iapply (wp_use (host_step d op0 (StableHlo.reshape_bufs_sub ..) rfl _)) $$ [Hb Hh Hst Hts Hg0 Hg1 Hg2 Ht0 Ht1 Ht2]
  isplitl [Hb Hh]; · isplitl [Hb] <;> iassumption
  iintro %_ ⟨Hb, Hh⟩
  iapply (wp_use (host_step d op1 (StableHlo.reshape_bufs_sub ..) rfl _)) $$ [Hb Hh Hst Hts Hg0 Hg1 Hg2 Ht0 Ht1 Ht2]
  isplitl [Hb Hh]; · isplitl [Hb] <;> iassumption
  iintro %_ ⟨Hb, Hh⟩
  iapply (wp_use (host_step d op2 (StableHlo.reshape_bufs_sub ..) rfl _)) $$ [Hb Hh Hst Hts Hg0 Hg1 Hg2 Ht0 Ht1 Ht2]
  isplitl [Hb Hh]; · isplitl [Hb] <;> iassumption
  iintro %_ ⟨Hb, Hh⟩
  iapply (wp_use (host_step d op3 (StableHlo.reshape_bufs_sub ..) rfl _)) $$ [Hb Hh Hst Hts Hg0 Hg1 Hg2 Ht0 Ht1 Ht2]
  isplitl [Hb Hh]; · isplitl [Hb] <;> iassumption
  iintro %_ ⟨Hb, Hh⟩
  iapply (wp_use (host_step d op4 (StableHlo.reshape_bufs_sub ..) rfl _)) $$ [Hb Hh Hst Hts Hg0 Hg1 Hg2 Ht0 Ht1 Ht2]
  isplitl [Hb Hh]; · isplitl [Hb] <;> iassumption
  iintro %_ ⟨Hb, Hh⟩
  iapply (wp_use (tc_step d (Reg0.region (refs (W1 m)) 0 (lo 0)) 0 (W1 m d) (W2 m d) rfl
    (by show iprop(unscopedBufs d (Reg0.Vp (refs (W1 m)) 0 (lo 0) d) ∗ _) = _; rw [vp0]))) $$ [Hb Hh Hst Hts Hg0 Hg1 Hg2 Ht0 Ht1 Ht2]
  isplitl [Hb Hh Hst Hg0 Ht0]
  · isplitr; · iexact Hl
    isplitl [Hst]; · iexact Hst
    isplitl [Hb]; · iexact Hb
    isplitl [Hh]; · iexact Hh
    isplitl [Hg0] <;> iassumption
  iintro %_ ⟨Hst, Hb, Hh⟩
  iapply (wp_use (sc_step0 m κ d)) $$ [Hb Hh Hst Hts Hg1 Hg2 Ht1 Ht2]
  isplitl [Hh Hst]
  · isplitr; · iexact Hctx
    isplitl [Hst] <;> iassumption
  iintro %_ ⟨Hst, Hh⟩
  iapply (wp_use (host_step d op7 (StableHlo.reshape_bufs_sub ..) rfl _)) $$ [Hb Hh Hst Hts Hg1 Hg2 Ht1 Ht2]
  isplitl [Hb Hh]; · isplitl [Hb] <;> iassumption
  iintro %_ ⟨Hb, Hh⟩
  iapply (wp_use (host_step d op8 (StableHlo.reshape_bufs_sub ..) rfl _)) $$ [Hb Hh Hst Hts Hg1 Hg2 Ht1 Ht2]
  isplitl [Hb Hh]; · isplitl [Hb] <;> iassumption
  iintro %_ ⟨Hb, Hh⟩
  iapply (wp_use (host_step d op9 (StableHlo.reshape_bufs_sub ..) rfl _)) $$ [Hb Hh Hst Hts Hg1 Hg2 Ht1 Ht2]
  isplitl [Hb Hh]; · isplitl [Hb] <;> iassumption
  iintro %_ ⟨Hb, Hh⟩
  iapply (wp_use (host_step d op10 (StableHlo.reshape_bufs_sub ..) rfl _)) $$ [Hb Hh Hst Hts Hg1 Hg2 Ht1 Ht2]
  isplitl [Hb Hh]; · isplitl [Hb] <;> iassumption
  iintro %_ ⟨Hb, Hh⟩
  iapply (wp_use (host_step d op11 (StableHlo.reshape_bufs_sub ..) rfl _)) $$ [Hb Hh Hst Hts Hg1 Hg2 Ht1 Ht2]
  isplitl [Hb Hh]; · isplitl [Hb] <;> iassumption
  iintro %_ ⟨Hb, Hh⟩
  iapply (wp_use (tc_step d (Reg2.region (refs (W4 m)) 1 (lo 1)) 1 (W4 m d) (W5 m d) rfl
    (by show iprop(unscopedBufs d (Reg2.Vp (refs (W4 m)) 1 (lo 1) d) ∗ _) = _; rw [vp2]))) $$ [Hb Hh Hst Hts Hg1 Hg2 Ht1 Ht2]
  isplitl [Hb Hh Hst Hg1 Ht1]
  · isplitr; · iexact Hl
    isplitl [Hst]; · iexact Hst
    isplitl [Hb]; · iexact Hb
    isplitl [Hh]; · iexact Hh
    isplitl [Hg1] <;> iassumption
  iintro %_ ⟨Hst, Hb, Hh⟩
  iapply (wp_use (sc_step1 m κ d)) $$ [Hb Hh Hst Hts Hg2 Ht2]
  isplitl [Hh Hst]
  · isplitr; · iexact Hctx
    isplitl [Hst] <;> iassumption
  iintro %_ ⟨Hst, Hh⟩
  iapply (wp_use (tc_step d (Reg4.region (refs (W6 m)) 2 (lo 2)) 2 (W6 m d) (W7 m d) rfl
    (by show iprop(unscopedBufs d (Reg4.Vp (refs (W6 m)) 2 (lo 2) d) ∗ _) = _; rw [vp4]))) $$ [Hb Hh Hst Hts Hg2 Ht2]
  isplitl [Hb Hh Hst Hg2 Ht2]
  · isplitr; · iexact Hl
    isplitl [Hst]; · iexact Hst
    isplitl [Hb]; · iexact Hb
    isplitl [Hh]; · iexact Hh
    isplitl [Hg2] <;> iassumption
  iintro %_ ⟨Hst, Hb, Hh⟩
  imodintro
  isplitl [Hst]; · iexact Hst
  isplitl [Hh]; · iexact Hh
  isplitl [Hb] <;> iassumption

/-! ## The run -/

def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- How the program ends: every unscoped array of the device at its last value, no semaphore raised. -/
def QC : PUnit × MemSt nD τ sig (Elt F) → Prop := fun r => (∀ d : Dev nD, ∀ b ∈ Pipeline.ucRefs τ sig, r.2.mem (d, b) = W7 m d b) ∧ r.2.sem = fun _ => 0

theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => match q with | 0 => SparseCore.Cfg.VecSplit.of_plain (vecSplit0 m) | 1 => SparseCore.Cfg.VecSplit.of_plain (vecSplit1 m))
    m ρ main G (FIN m) (u₀ (F := F)) (sep_elim_left.trans (hu₀ m)) (hmain m ρ) (fq m) (hfin m) (QC m) (fun _ h hz => ⟨h, hz⟩)

end Cert.Proof.Main
end
-- ==== Proof.Frames.lean ====
/-
  The programs' frames: the run of the launch and of the reference, read at the arguments.
-/
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_index_in_range
public import proofs.«01_k».proof.Proof.Main
public import Idealize.ShloMosaic.Lib.ReduceAll
@[expose] public section
noncomputable section
namespace Cert.Proof.Frames
open Cert.KernelIdeal Cert.KernelIdeal.Gen Cert.Proof.Rows Cert.Proof.Mem Cert.Proof.Main
open Idealize.ShloMosaic Idealize.ShloMosaic.TcCoe Idealize.SL.Sem

theorem key_range (v : BitVec 32) (e : IntOp.andi (IntOp.cmpi .sge v 0#32) (IntOp.cmpi .slt v 256#32) = 1#1) : v.toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The precondition read at one index of the segments. -/
theorem seg_range {F : FTy → Type} [FloatOps F] (a0 : FVec F S100000x512 .f32) (a1 : IVec S100000 32) (a2 : FVec F S512x256 .f32) (a3 : FVec F S256 .f32) (a4 : FVec F S256x128 .f32)
    (a5 : FVec F S128 .f32) (a6 : FVec F S128x1 .f32) (a7 : FVec F S1 .f32)
    (h : Pre_index_in_range.fn a0 a1 a2 a3 a4 a5 a6 a7 = fun _ => 1#1) (j : S100000.Idx) : (a1 j).toNat < 256 := by
  have e := congrFun h (fun a => nomatch a)
  simp only [Pre_index_in_range.fn] at e
  have e' := Host.reduce_andi_all _ _ _ _ _ e j
  simp only [andi, cmpi, broadcastInDim, constantI] at e'
  exact key_range _ e'

theorem ok_bits (m : (ℓ : Loc nD τ sig) → Buf (Elt Bits) ℓ) (h : Pre_Kernel m) : PreOK m :=
  fun d j => seg_range _ _ _ _ _ _ _ _ (h d) j

theorem ok_ideal (m : (ℓ : Loc nD τ sig) → Buf (Elt Ideal) ℓ) (h : Pre_KernelIdeal m) : PreOK m :=
  fun d j => seg_range _ _ _ _ _ _ _ _ (h d) j

section
variable {F : FTy → Type} [FloatOps F] [∀ e, Nonempty (Elt F e)]

theorem unscoped : ∀ b ∈ [main_arg0, main_arg1, main_arg2, main_arg3, main_arg4, main_arg5, main_arg6, main_arg7, main_v14], b.isScoped = false := by decide
theorem notRes : ∀ b ∈ [main_arg0, main_arg1, main_arg2, main_arg3, main_arg4, main_arg5, main_arg6, main_arg7], ∀ x ∈ [main_v0, main_v1, main_v2, main_v3, main_v4, main_v5_0, main_v5_1, main_v6, main_v7, main_v8, main_v9, main_v10, main_v11, main_v12_0, main_v12_1, main_v13, main_v14], b ≠ x := by decide

/-- An argument after the run. -/
theorem arg_of (m : (ℓ : Loc nD τ sig) → Buf (Elt F) ℓ) {r} (h : QC m r) (d : Dev nD) (b : Ref sig .tc)
    (hb : b ∈ [main_arg0, main_arg1, main_arg2, main_arg3, main_arg4, main_arg5, main_arg6, main_arg7]) :
    r.2.mem (d, Proc.devRef .tc b) = m (d, Proc.devRef .tc b) :=
  (h.1 d _ (Pipeline.devRef_mem_ucRefs (unscoped b (List.mem_append_left [main_v14] hb)))).trans (W7_ne m d (notRes b hb))

/-- The run, read at the arguments, the result and the counters. -/
theorem run_args (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_v14) = W7 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) := by
  refine (θ_run Cert.KernelIdeal.defs _ _).mono (fun r h => ?_) (run_main m ρ hpre)
  refine ⟨fun c => ⟨h.1 c _ (Pipeline.devRef_mem_ucRefs (unscoped main_v14 (by decide))), ?_⟩, h.2⟩
  exact ⟨arg_of m h c main_arg0 (by decide), arg_of m h c main_arg1 (by decide), arg_of m h c main_arg2 (by decide), arg_of m h c main_arg3 (by decide),
    arg_of m h c main_arg4 (by decide), arg_of m h c main_arg5 (by decide), arg_of m h c main_arg6 (by decide), arg_of m h c main_arg7 (by decide)⟩

/-- The run, read at the arguments and the counters. -/
theorem run_frame (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run Cert.KernelIdeal.defs _ _).mono (fun _ h => ⟨fun c => (h.1 c).2, h.2⟩) (run_args m ρ hpre)

end

set_option maxHeartbeats 4000000

theorem frame_kernelIdeal : Cert.quiescent_KernelIdeal := fun m ρ hpre => run_frame (F := Ideal) m ρ (ok_ideal m hpre)

/-- The reference's run, read at its arguments and the counters. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof.Frames
end
-- ==== Proof.FrameK.lean ====
/-
  The printed program's frame: its text is the idealized program's, so its run is that run at bit-exact values.
-/
module
public import proofs.«01_k».proof.Proof.Frames
@[expose] public section
set_option maxHeartbeats 4000000
noncomputable section
namespace Cert.Proof.FrameK
open Cert.Proof.Main Cert.Proof.Frames
open Idealize.ShloMosaic Idealize.ShloMosaic.TcCoe Idealize.SL.Sem

section
variable {F : FTy → Type} [FloatOps F]

/-- The two programs' bodies are the same, processor by processor and label by label. -/
theorem defs₀_eq : Cert.Kernel.defs₀ (F := F) = Cert.KernelIdeal.defs₀ (F := F) := by
  funext p ℓ a
  cases p with
  | tc =>
    match ℓ, a with
    | 0, (t, s) => rfl
    | 1, a => rfl
    | 2, (t, s) => rfl
    | 3, a => rfl
    | 4, (t, s) => rfl
  | scScalar c =>
    match ℓ, a with
    | 0, (t, s) => rfl
    | 1, a => rfl
    | 2, (t, s) => rfl
    | 3, a => rfl
    | 4, (t, s) => rfl
  | scVector c s' =>
    match ℓ, a with
    | 0, (t, s) => rfl
    | 1, a => rfl
    | 2, (t, s) => rfl
    | 3, a => rfl
    | 4, (t, s) => rfl

theorem defs_eq : Cert.Kernel.defs (F := F) = Cert.KernelIdeal.defs (F := F) := by
  unfold Cert.Kernel.defs
  rw [defs₀_eq]
  rfl

end

theorem frame_kernel : Cert.quiescent_Kernel := by
  intro m ρ hpre
  rw [defs_eq]
  exact run_frame (F := Bits) m ρ (ok_bits m hpre)

end Cert.Proof.FrameK
end
-- ==== Proof.RowW.lean ====
/-
  The weight of one row, by itself; the kernel's block of weights and the reference's column of weights read at a row.
-/
module
public import proofs.«01_k».proof.Proof.Vals
public import proofs.«01_k».proof.ReferenceIdeal
public import proofs.«01_k».proof.Proof.Gen.ReferenceIdeal
public import Idealize.ShloMosaic.Lib.Pointwise.Tactic
public import Idealize.ShloMosaic.Lib.Pointwise
@[expose] public section
noncomputable section
namespace Cert.Proof.RowW
open Cert.KernelIdeal Cert.KernelIdeal.Gen Cert.Proof.Vals
open Idealize.ShloMosaic

/-- The weight of a row `x`. -/
def rowW (x : Fin 512 → EReal) (W1 : Fin 512 → Fin 256 → EReal) (B1 : Fin 256 → EReal) (W2 : Fin 256 → Fin 128 → EReal) (B2 : Fin 128 → EReal)
    (W3 : Fin 128 → EReal) (B3 : EReal) : EReal :=
  Ideal.exp ((∑ k : Fin 128, max ((∑ l : Fin 256, max ((∑ i : Fin 512, x i * W1 i l) + B1 l) 0 * W2 l k) + B2 k) 0 * W3 k) + B3)

theorem mlpA_row (x : FVec Ideal S2000x512 .f32) (w1 : FVec Ideal S512x256 .f32) (b1 : FVec Ideal S1x256 .f32) (w2 : FVec Ideal S256x128 .f32) (b2 : FVec Ideal S1x128 .f32)
    (w3 : FVec Ideal S1x128 .f32) (b3 : FVec Ideal S1x1 .f32) (r : Fin 2000) (o : Fin 1) :
    mlpA x w1 b1 w2 b2 w3 b3 (ix2 r o) = rowW (fun i => x (ix2 r i)) (fun i l => w1 (ix2 i l)) (fun l => b1 (ix2 0 l)) (fun l k => w2 (ix2 l k)) (fun k => b2 (ix2 0 k))
      (fun k => w3 (ix2 0 k)) (b3 (ix2 0 0)) := by
  unfold mlpA rowW
  pointwise

theorem mlpY_row (x : FVec Ideal S2000x512 .f32) (a : FVec Ideal S2000x1 .f32) (r : Fin 2000) (l : Fin 512) :
    mlpY x a (ix2 r l) = (x (ix2 r l) : EReal) * a (ix2 r 0) := by
  unfold mlpY
  pointwise

/-- The comparison of two words, widened and taken as a number. -/
theorem onehot_word (a b : BitVec 32) : (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · subst h; simp [IntOp.cmpi]
  · have e : (a == b) = false := beq_eq_false_iff_ne.mpr h
    simp [IntOp.cmpi, h, e]

theorem mlpD_row (sg : IVec S1x1x2000 32) (a : FVec Ideal S2000x1 .f32) (acc : FVec Ideal S256x128 .f32) (r : Fin 256) (l : Fin 128) :
    mlpD sg a acc (ix2 r l) = (acc (ix2 r l) : EReal) + ∑ q : Fin 2000, (if r.val = (sg (ix3 0 0 q)).toNat then (a (ix2 q 0) : EReal) else 0) := by
  unfold mlpD
  pointwise
  congr 1
  refine Finset.sum_congr rfl fun q _ => ?_
  rw [onehot_word, ite_mul, one_mul, zero_mul]
  have hr := r.isLt
  have e : (sg (ix3 0 0 q) = BitVec.ofNat 32 r.val) = (r.val = (sg (ix3 0 0 q)).toNat) := propext
    ⟨fun h => by rw [h, BitVec.toNat_ofNat, Nat.mod_eq_of_lt (by omega)], fun h => by rw [h, BitVec.ofNat_toNat, BitVec.setWidth_eq]⟩
  simp only [e]

end Cert.Proof.RowW
namespace Cert.Proof.RowW
open Cert.ReferenceIdeal Cert.ReferenceIdeal.Gen
open Idealize.ShloMosaic

/-- The reference's column of weights. -/
def refA (x : FVec Ideal S100000x512 .f32) (w1 : FVec Ideal S512x256 .f32) (b1 : FVec Ideal S256 .f32) (w2 : FVec Ideal S256x128 .f32) (b2 : FVec Ideal S128 .f32)
    (w3 : FVec Ideal S128x1 .f32) (b3 : FVec Ideal S1 .f32) : FVec Ideal S100000x1 .f32 :=
  Host.exp (addf (Host.dotGeneral dot_S100000x128_S128x1_S100000x1_1_0_0_1_n_n none (maximumf (addf (Host.dotGeneral dot_S100000x256_S256x128_S100000x128_1_0_0_1_n_n none (maximumf (addf (Host.dotGeneral dot_S100000x512_S512x256_S100000x256_1_0_0_1_n_n none x w1) (broadcastInDim S100000x256 ![0, 1] bcast_S1x256_S100000x256_0_1 (broadcastInDim S1x256 ![1] bcast_S256_S1x256_1 b1))) (broadcastInDim S100000x256 ![] bcast_S_S100000x256 (constant S_ .f32 0x00000000#32))) w2) (broadcastInDim S100000x128 ![0, 1] bcast_S1x128_S100000x128_0_1 (broadcastInDim S1x128 ![1] bcast_S128_S1x128_1 b2))) (broadcastInDim S100000x128 ![] bcast_S_S100000x128 (constant S_ .f32 0x00000000#32))) w3) (broadcastInDim S100000x1 ![0, 1] bcast_S1x1_S100000x1_0_1 (broadcastInDim S1x1 ![1] bcast_S1_S1x1_1 b3)))

theorem refA_row (x : FVec Ideal S100000x512 .f32) (w1 : FVec Ideal S512x256 .f32) (b1 : FVec Ideal S256 .f32) (w2 : FVec Ideal S256x128 .f32) (b2 : FVec Ideal S128 .f32)
    (w3 : FVec Ideal S128x1 .f32) (b3 : FVec Ideal S1 .f32) (r : Fin 100000) (o : Fin 1) :
    refA x w1 b1 w2 b2 w3 b3 (ix2 r o) = rowW (fun i => x (ix2 r i)) (fun i l => w1 (ix2 i l)) (fun l => b1 (ix1 l)) (fun l k => w2 (ix2 l k)) (fun k => b2 (ix1 k))
      (fun k => w3 (ix2 k 0)) (b3 (ix1 0)) := by
  obtain rfl : o = 0 := Subsingleton.elim _ _
  unfold refA rowW
  pointwise

/-- The reference's result. -/
def refOut (x : FVec Ideal S100000x512 .f32) (sg : IVec S100000 32) (a : FVec Ideal S100000x1 .f32) : FVec Ideal S256x512 .f32 :=
  Host.divf (Host.scatterAdd scatter_S256x512_S100000x1_S100000x512_1_0_0_1 (broadcastInDim S256x512 ![] bcast_S_S256x512 (constant S_ .f32 0x00000000#32))
      (broadcastInDim S100000x1 ![0] bcast_S100000_S100000x1_0 sg) (mulf x (broadcastInDim S100000x512 ![0, 1] bcast_S100000x1_S100000x512_0_1 a)))
    (broadcastInDim S256x512 ![0, 1] bcast_S256x1_S256x512_0_1
      (Host.scatterAdd scatter_S256x1_S100000x1_S100000x1_1_0_0_1 (broadcastInDim S256x1 ![] bcast_S_S256x1 (constant S_ .f32 0x00000000#32))
        (broadcastInDim S100000x1 ![0] bcast_S100000_S100000x1_0 sg) a))

end Cert.Proof.RowW
end
-- ==== Proof.SumA.lean ====
/-
  What the tiles add, over the extended reals: the accumulator's rows are sums over the tile's rows, and the sixteen tiles' sums are one sum.
-/
module
public import proofs.«01_k».proof.Proof.Tw1
public import proofs.«01_k».proof.Proof.Tw3
public import Idealize.ShloMosaic.Lib.Pointwise.Tactic
@[expose] public section
noncomputable section
namespace Cert.Proof.SumA
open Cert.KernelIdeal Cert.KernelIdeal.Gen Cert.Proof.Rows
open Idealize.ShloMosaic
open Finset (range)

/-- What row `i` holds once the running vectors are added in. -/
def tot (s : St Ideal) (i k : Nat) : EReal := s.A i k + (if i = s.p.toNat then s.cr k else 0)

theorem tot_step (z : Ideal .f32) (hz : z = (0 : EReal)) (SG : Nat → BitVec 32) (X : Nat → Nat → Ideal .f32) (s : St Ideal) (r i k : Nat) :
    tot (rstep z SG X s r) i k = tot s i k + (if i = (SG r).toNat then (X r k : EReal) else 0) := by
  unfold rstep
  by_cases h : SG r = s.p
  · rw [if_pos h, h]
    simp only [tot, addRow, Ideal.addf_def]
    by_cases hi : i = s.p.toNat
    · simp only [if_pos hi, add_assoc]
    · simp only [if_neg hi, add_zero]
  · rw [if_neg h]
    simp only [tot, addRow, flushA, Ideal.addf_def, hz, zero_add]
    by_cases hi : i = s.p.toNat
    · simp only [if_pos hi]
    · simp only [if_neg hi, add_zero]

theorem tot_steps (z : Ideal .f32) (hz : z = (0 : EReal)) (SG : Nat → BitVec 32) (X : Nat → Nat → Ideal .f32) (s : St Ideal) (i k n : Nat) :
    tot (rsteps z SG X s 0 n) i k = tot s i k + ∑ q ∈ range n, (if i = (SG q).toNat then (X q k : EReal) else 0) := by
  induction n with
  | zero => simp [rsteps]
  | succ n ih => rw [rsteps_succ, tot_step z hz, ih, Finset.sum_range_succ, Nat.zero_add, add_assoc]

theorem chunkA_sum (z : Ideal .f32) (hz : z = (0 : EReal)) (SG : Nat → BitVec 32) (X : Nat → Nat → Ideal .f32) (A : Nat → Nat → Ideal .f32) (N i k : Nat) :
    (chunkA z SG X A N i k : EReal) = A i k + ∑ q ∈ range N, (if i = (SG q).toNat then (X q k : EReal) else 0) := by
  have e : (chunkA z SG X A N i k : EReal) = tot (rsteps z SG X ⟨SG 0, fun _ => z, A⟩ 0 N) i k := by
    simp only [chunkA, flushA, tot, Ideal.addf_def]
    split <;> simp
  rw [e, tot_steps z hz]
  congr 1
  simp only [tot, hz, ite_self, add_zero]

theorem accC_sum (z : Ideal .f32) (hz : z = (0 : EReal)) (SG : Nat → Nat → BitVec 32) (X : Nat → Nat → Nat → Ideal .f32) (A : Nat → Nat → Ideal .f32) (N n i k : Nat) :
    (accC z SG X N A n i k : EReal) = A i k + ∑ g ∈ range n, ∑ q ∈ range N, (if i = (SG g q).toNat then (X g q k : EReal) else 0) := by
  induction n with
  | zero => simp [accC]
  | succ n ih => rw [accC, chunkA_sum z hz, ih, Finset.sum_range_succ, add_assoc]

theorem sum_range_add' (f : Nat → EReal) (n m : Nat) : ∑ q ∈ range (n + m), f q = (∑ q ∈ range n, f q) + ∑ q ∈ range m, f (n + q) := by
  induction m with
  | zero => simp
  | succ m ih => rw [← Nat.add_assoc, Finset.sum_range_succ, ih, Finset.sum_range_succ, add_assoc]

theorem sum_blocks (f : Nat → EReal) (N n : Nat) : ∑ g ∈ range n, ∑ q ∈ range N, f (N * g + q) = ∑ q ∈ range (N * n), f q := by
  induction n with
  | zero => simp
  | succ n ih => rw [Finset.sum_range_succ, ih, Nat.mul_succ, sum_range_add']

/-- How many rows tile `s` adds. -/
def len (s : Nat) : Nat := 112 * nFull s + 8 * nTail s

theorem tile_sum (z : Ideal .f32) (hz : z = (0 : EReal)) (BI : Nat → BitVec 32) (Y : Nat → Nat → Ideal .f32) (o s co i k : Nat) :
    (accC z (fun t r => BI (o + (3136 * s + 112 * nFull s + 8 * t + r))) (fun t r k => Y (3136 * s + 112 * nFull s + 8 * t + r) (co + k)) 8
      (accC z (fun g r => BI (o + (3136 * s + 112 * g + r))) (fun g r k => Y (3136 * s + 112 * g + r) (co + k)) 112 (fun _ _ => z) (nFull s)) (nTail s) i k : EReal)
      = ∑ q ∈ range (len s), (if i = (BI (o + (3136 * s + q))).toNat then (Y (3136 * s + q) (co + k) : EReal) else 0) := by
  rw [accC_sum z hz, accC_sum z hz, hz, zero_add, len, sum_range_add', ← sum_blocks _ 112, ← sum_blocks _ 8]
  simp only [Nat.add_assoc]

/-- The sixteen tiles' sums are the sum over the half's rows. -/
theorem tiles_sum (f : Nat → EReal) : ∑ s ∈ range 16, ∑ q ∈ range (len s), f (3136 * s + q) = ∑ q ∈ range 50000, f q := by
  have h15 : len 15 = 2960 := rfl
  have hs : ∀ s ∈ range 15, ∑ q ∈ range (len s), f (3136 * s + q) = ∑ q ∈ range 3136, f (3136 * s + q) := fun s hs => by
    have h : s ≠ 15 := by have := Finset.mem_range.mp hs; omega
    rw [show len s = 3136 by simp [len, nFull, nTail, h]]
  have e := sum_range_add' f 47040 2960
  have eb := sum_blocks f 3136 15
  have e16 := Finset.sum_range_succ (fun s => ∑ q ∈ range (len s), f (3136 * s + q)) 15
  rw [Finset.sum_congr rfl hs, eb, h15] at e16
  exact e16.trans e.symm

theorem zf_eq : (Scalar.ofBits .f32 0x00000000#32 : Ideal .f32) = (0 : EReal) := Ideal.ofBits_zero_f32

theorem part1_sum (y : S50000x512.Idx → Ideal .f32) (s : S100000.Idx → BitVec 32) (j : S16x256x512.Idx) :
    (Tw1.part y s j : EReal) = ∑ q ∈ range (len (j 0).val), (if (j 1).val = (Tw1.segOf s (0 + (3136 * (j 0).val + q))).toNat
      then (Tw1.rowsOf y (3136 * (j 0).val + q) (j 2).val : EReal) else 0) := by
  have h := tile_sum (Scalar.ofBits .f32 0x00000000#32) zf_eq (Tw1.segOf s) (Tw1.rowsOf y) 0 (j 0).val (256 * ((j 2).val / 256)) (j 1).val ((j 2).val % 256)
  rw [Nat.div_add_mod] at h
  exact h

theorem part3_sum (y : S50000x512.Idx → Ideal .f32) (s : S100000.Idx → BitVec 32) (j : S16x256x512.Idx) :
    (Tw3.part y s j : EReal) = ∑ q ∈ range (len (j 0).val), (if (j 1).val = (Tw3.segOf s (50000 + (3136 * (j 0).val + q))).toNat
      then (Tw3.rowsOf y (3136 * (j 0).val + q) (j 2).val : EReal) else 0) := by
  have h := tile_sum (Scalar.ofBits .f32 0x00000000#32) zf_eq (Tw3.segOf s) (Tw3.rowsOf y) 50000 (j 0).val (256 * ((j 2).val / 256)) (j 1).val ((j 2).val % 256)
  rw [Nat.div_add_mod] at h
  exact h

end Cert.Proof.SumA
end
-- ==== Proof.ABlk0.lean ====
/-
  Pipeline 0's blocks, read in the arrays; its two results as functions of the arrays.
-/
module
public import proofs.«01_k».proof.Proof.Reg0
public import proofs.«01_k».proof.Proof.RowW
public import proofs.«01_k».proof.Proof.SumA
public import Idealize.ShloMosaic.Lib.Pipeline.ValueKit
@[expose] public section
noncomputable section
namespace Cert.Proof.ABlk0
open Cert.KernelIdeal Cert.KernelIdeal.Gen Cert.Proof.Sc Cert.Proof.Vals Cert.Proof.Reg0 Cert.Proof.RowW
open Idealize.ShloMosaic Idealize.ShloMosaic.TcCoe
open Finset (range)

variable (V : Vals Ideal) (n b : ℕ) (c : Dev nD)

theorem ix : ∀ t : Fin grid0.N, win0_0.index t = ![t.val, 0] ∧ win0_1.index t = ![t.val, 0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![0, 0] := by decide +kernel

theorem xs_at (t : Fin cfg0.N) (r : Fin 2000) (i : Fin 512) (h : t.val * 2000 + r.val < 100000) : xs V c t (ix2 r i) = V c main_arg0 (ix2 ⟨t.val * 2000 + r.val, h⟩ i) := by
  blk_ext! [xs, ix t]
theorem sg_at (t : Fin cfg0.N) (q : Fin 2000) (h : t.val < 50) : sg V c t (ix3 0 0 q) = V c main_v0 (ix3 ⟨t.val, h⟩ 0 q) := by
  blk_ext! [sg, ix t]
theorem w1_eq (t : Fin cfg0.N) : w1 V c t = V c main_arg2 := by blk_ext! [w1, ix t]
theorem b1_eq (t : Fin cfg0.N) : b1 V c t = V c main_v1 := by blk_ext! [b1, ix t]
theorem w2_eq (t : Fin cfg0.N) : w2 V c t = V c main_arg4 := by blk_ext! [w2, ix t]
theorem b2_eq (t : Fin cfg0.N) : b2 V c t = V c main_v2 := by blk_ext! [b2, ix t]
theorem w3_eq (t : Fin cfg0.N) : w3 V c t = V c main_v3 := by blk_ext! [w3, ix t]
theorem b3_eq (t : Fin cfg0.N) : b3 V c t = V c main_v4 := by blk_ext! [b3, ix t]

/-- The weight of row `k` of the arrays. -/
def wt (k : Fin 100000) : EReal :=
  rowW (fun i => V c main_arg0 (ix2 k i)) (fun i l => V c main_arg2 (ix2 i l)) (fun l => V c main_v1 (ix2 0 l)) (fun l k => V c main_arg4 (ix2 l k)) (fun k => V c main_v2 (ix2 0 k))
    (fun k => V c main_v3 (ix2 0 k)) (V c main_v4 (ix2 0 0))

theorem at_at (t : Fin cfg0.N) (r : Fin 2000) (h : t.val * 2000 + r.val < 100000) : (at' V c t (ix2 r 0) : EReal) = wt V c ⟨t.val * 2000 + r.val, h⟩ := by
  unfold at'
  rw [mlpA_row, w1_eq, b1_eq, w2_eq, b2_eq, w3_eq, b3_eq, wt]
  congr 1
  funext i
  exact xs_at V c t r i h

variable (X : ℕ → ℕ → EReal) (W : ℕ → EReal) (S : ℕ → ℕ)

theorem y_at (hX : ∀ (k : Fin 100000) (i : Fin 512), V c main_arg0 (ix2 k i) = X k.val i.val) (hW : ∀ k, wt V c k = W k.val) (t : Fin cfg0.N) (y : S2000x512.Idx) :
    (mlpY (xs V c t) (at' V c t) y : EReal) = X (t.val * 2000 + (y 0).val) (y 1).val * W (t.val * 2000 + (y 0).val) := by
  have ht : t.val < 25 := t.isLt
  obtain ⟨r, l, rfl⟩ : ∃ (r : Fin 2000) (l : Fin 512), y = ix2 r l := ⟨y 0, y 1, eq_ix2 y⟩
  have hr : r.val < 2000 := r.isLt
  have h : t.val * 2000 + r.val < 100000 := by omega
  have h1 := xs_at V c t r l h
  have h2 := at_at V c t r h
  rw [hX] at h1
  rw [hW] at h2
  rw [mlpY_row, h1, h2]; rfl

theorem y_eq (hX : ∀ (k : Fin 100000) (i : Fin 512), V c main_arg0 (ix2 k i) = X k.val i.val) (hW : ∀ k, wt V c k = W k.val) :
    (dat V n b c).arrAt 8 cfg0.N = fun j => X ((j 0).val) (j 1).val * W ((j 0).val) := by
  refine (dat V n b c).arrAt_eq_of_covers 8 _ (by decide +kernel) fun t hf y => ?_
  rw [after_8]
  refine (show _ = (mlpY (xs V c t) (at' V c t) y : EReal) from rfl).trans ((y_at V c X W hX hW t y).trans ?_)
  have h0 : (((cfg0.win 8).blk t).view.emb y 0).val = t.val * 2000 + (y 0).val := by
    blk_simp [ix t]
  have h1 : (((cfg0.win 8).blk t).view.emb y 1).val = (y 1).val := by
    blk_simp [ix t]
  show _ = X ((((cfg0.win 8).blk t).view.emb y 0).val) (((cfg0.win 8).blk t).view.emb y 1).val * W ((((cfg0.win 8).blk t).view.emb y 0).val)
  have e : t.val * 2000 + (y 0).val = (t.val * 2000 + (y 0).val) := by omega
  rw [h0, h1, ← e]

theorem den_at (hW : ∀ k, wt V c k = W k.val) (hS : ∀ (t : Fin 50) (q : Fin 2000), (V c main_v0 (ix3 t 0 q)).toNat = S (t.val * 2000 + q.val)) (r : Fin 256) (l : Fin 128) :
    ∀ (k : ℕ) (hk : k < cfg0.N), (den V c k hk (ix2 r l) : EReal) = ∑ q ∈ range (2000 * (k + 1)), (if r.val = S (q) then W (q) else 0) := by
  have step : ∀ (t : Fin cfg0.N) (acc : FVec Ideal S256x128 .f32), (mlpD (sg V c t) (at' V c t) acc (ix2 r l) : EReal)
      = acc (ix2 r l) + ∑ q ∈ range 2000, (if r.val = S ((2000 * t.val + q)) then W ((2000 * t.val + q)) else 0) := fun t acc => by
    have ht : t.val < 25 := t.isLt
    rw [mlpD_row, ← Fin.sum_univ_eq_sum_range (fun q => if r.val = S ((2000 * t.val + q)) then W ((2000 * t.val + q)) else 0)]
    congr 1
    refine Finset.sum_congr rfl fun q _ => ?_
    have hq : q.val < 2000 := q.isLt
    have h : t.val * 2000 + q.val < 100000 := by omega
    have e : t.val * 2000 + q.val = (2000 * t.val + q.val) := by omega
    have h1 := at_at V c t q h
    have h2 := sg_at V c t q (by omega)
    rw [hW] at h1
    have h3 := hS ⟨t.val, by omega⟩ q
    rw [h1, h2, h3]
    show (if r.val = S (t.val * 2000 + q.val) then W (t.val * 2000 + q.val) else 0) = _
    rw [e]
  intro k
  induction k with
  | zero =>
    intro hk
    have h := step ⟨0, hk⟩ zD
    have hz : (zD (F := Ideal) (ix2 r l) : EReal) = 0 := Ideal.ofBits_zero_f32
    rw [hz, zero_add] at h
    simp only [Nat.mul_zero, Nat.zero_add] at h
    exact h
  | succ k ih =>
    intro hk
    have h := step ⟨k + 1, hk⟩ (den V c k (Nat.lt_of_succ_lt hk))
    rw [ih] at h
    rw [Nat.mul_succ 2000 (k + 1), SumA.sum_range_add']
    exact h

theorem d_eq (hW : ∀ k, wt V c k = W k.val) (hS : ∀ (t : Fin 50) (q : Fin 2000), (V c main_v0 (ix3 t 0 q)).toNat = S (t.val * 2000 + q.val)) :
    (dat V n b c).arrAt 9 cfg0.N = fun j => ∑ q ∈ range 50000, (if (j 0).val = S (q) then W (q) else 0) := by
  refine (dat V n b c).arrAt_eq_of_after_last 9 ⟨24, by decide⟩ (by decide +kernel) _ fun j => ?_
  have e := den_at V c W S hW hS (j 0) (j 1) 24 (by decide)
  rw [after_9]
  exact (show _ = (den V c 24 (by decide) (ix2 (j 0) (j 1)) : EReal) from congrArg (den V c 24 (by decide)) (eq_ix2 j)).trans e

end Cert.Proof.ABlk0
end
-- ==== Proof.ABlk2.lean ====
/-
  Pipeline 1's blocks, read in the arrays; its two results as functions of the arrays.
-/
module
public import proofs.«01_k».proof.Proof.Reg2
public import proofs.«01_k».proof.Proof.RowW
public import proofs.«01_k».proof.Proof.SumA
public import Idealize.ShloMosaic.Lib.Pipeline.ValueKit
@[expose] public section
noncomputable section
namespace Cert.Proof.ABlk2
open Cert.KernelIdeal Cert.KernelIdeal.Gen Cert.Proof.Sc Cert.Proof.Vals Cert.Proof.Reg2 Cert.Proof.RowW
open Idealize.ShloMosaic Idealize.ShloMosaic.TcCoe
open Finset (range)

variable (V : Vals Ideal) (n b : ℕ) (c : Dev nD)

theorem ix : ∀ t : Fin grid2.N, win2_0.index t = ![t.val + 25, 0] ∧ win2_1.index t = ![t.val + 25, 0, 0] ∧ win2_2.index t = ![0, 0] ∧ win2_3.index t = ![0, 0] ∧ win2_4.index t = ![0, 0]
    ∧ win2_5.index t = ![0, 0] ∧ win2_6.index t = ![0, 0] ∧ win2_7.index t = ![0, 0] ∧ win2_8.index t = ![t.val, 0] ∧ win2_9.index t = ![0, 0] := by decide +kernel

theorem xs_at (t : Fin cfg2.N) (r : Fin 2000) (i : Fin 512) (h : (t.val + 25) * 2000 + r.val < 100000) : xs V c t (ix2 r i) = V c main_arg0 (ix2 ⟨(t.val + 25) * 2000 + r.val, h⟩ i) := by
  blk_ext! [xs, ix t]
theorem sg_at (t : Fin cfg2.N) (q : Fin 2000) (h : t.val + 25 < 50) : sg V c t (ix3 0 0 q) = V c main_v7 (ix3 ⟨t.val + 25, h⟩ 0 q) := by
  blk_ext! [sg, ix t]
theorem w1_eq (t : Fin cfg2.N) : w1 V c t = V c main_arg2 := by blk_ext! [w1, ix t]
theorem b1_eq (t : Fin cfg2.N) : b1 V c t = V c main_v8 := by blk_ext! [b1, ix t]
theorem w2_eq (t : Fin cfg2.N) : w2 V c t = V c main_arg4 := by blk_ext! [w2, ix t]
theorem b2_eq (t : Fin cfg2.N) : b2 V c t = V c main_v9 := by blk_ext! [b2, ix t]
theorem w3_eq (t : Fin cfg2.N) : w3 V c t = V c main_v10 := by blk_ext! [w3, ix t]
theorem b3_eq (t : Fin cfg2.N) : b3 V c t = V c main_v11 := by blk_ext! [b3, ix t]

/-- The weight of row `k` of the arrays. -/
def wt (k : Fin 100000) : EReal :=
  rowW (fun i => V c main_arg0 (ix2 k i)) (fun i l => V c main_arg2 (ix2 i l)) (fun l => V c main_v8 (ix2 0 l)) (fun l k => V c main_arg4 (ix2 l k)) (fun k => V c main_v9 (ix2 0 k))
    (fun k => V c main_v10 (ix2 0 k)) (V c main_v11 (ix2 0 0))

theorem at_at (t : Fin cfg2.N) (r : Fin 2000) (h : (t.val + 25) * 2000 + r.val < 100000) : (at' V c t (ix2 r 0) : EReal) = wt V c ⟨(t.val + 25) * 2000 + r.val, h⟩ := by
  unfold at'
  rw [mlpA_row, w1_eq, b1_eq, w2_eq, b2_eq, w3_eq, b3_eq, wt]
  congr 1
  funext i
  exact xs_at V c t r i h

variable (X : ℕ → ℕ → EReal) (W : ℕ → EReal) (S : ℕ → ℕ)

theorem y_at (hX : ∀ (k : Fin 100000) (i : Fin 512), V c main_arg0 (ix2 k i) = X k.val i.val) (hW : ∀ k, wt V c k = W k.val) (t : Fin cfg2.N) (y : S2000x512.Idx) :
    (mlpY (xs V c t) (at' V c t) y : EReal) = X ((t.val + 25) * 2000 + (y 0).val) (y 1).val * W ((t.val + 25) * 2000 + (y 0).val) := by
  have ht : t.val < 25 := t.isLt
  obtain ⟨r, l, rfl⟩ : ∃ (r : Fin 2000) (l : Fin 512), y = ix2 r l := ⟨y 0, y 1, eq_ix2 y⟩
  have hr : r.val < 2000 := r.isLt
  have h : (t.val + 25) * 2000 + r.val < 100000 := by omega
  have h1 := xs_at V c t r l h
  have h2 := at_at V c t r h
  rw [hX] at h1
  rw [hW] at h2
  rw [mlpY_row, h1, h2]; rfl

theorem y_eq (hX : ∀ (k : Fin 100000) (i : Fin 512), V c main_arg0 (ix2 k i) = X k.val i.val) (hW : ∀ k, wt V c k = W k.val) :
    (dat V n b c).arrAt 8 cfg2.N = fun j => X (50000 + (j 0).val) (j 1).val * W (50000 + (j 0).val) := by
  refine (dat V n b c).arrAt_eq_of_covers 8 _ (by decide +kernel) fun t hf y => ?_
  rw [after_8]
  refine (show _ = (mlpY (xs V c t) (at' V c t) y : EReal) from rfl).trans ((y_at V c X W hX hW t y).trans ?_)
  have h0 : (((cfg2.win 8).blk t).view.emb y 0).val = t.val * 2000 + (y 0).val := by
    blk_simp [ix t]
  have h1 : (((cfg2.win 8).blk t).view.emb y 1).val = (y 1).val := by
    blk_simp [ix t]
  show _ = X (50000 + (((cfg2.win 8).blk t).view.emb y 0).val) (((cfg2.win 8).blk t).view.emb y 1).val * W (50000 + (((cfg2.win 8).blk t).view.emb y 0).val)
  have e : (t.val + 25) * 2000 + (y 0).val = 50000 + (t.val * 2000 + (y 0).val) := by omega
  rw [h0, h1, ← e]

theorem den_at (hW : ∀ k, wt V c k = W k.val) (hS : ∀ (t : Fin 50) (q : Fin 2000), (V c main_v7 (ix3 t 0 q)).toNat = S (t.val * 2000 + q.val)) (r : Fin 256) (l : Fin 128) :
    ∀ (k : ℕ) (hk : k < cfg2.N), (den V c k hk (ix2 r l) : EReal) = ∑ q ∈ range (2000 * (k + 1)), (if r.val = S (50000 + q) then W (50000 + q) else 0) := by
  have step : ∀ (t : Fin cfg2.N) (acc : FVec Ideal S256x128 .f32), (mlpD (sg V c t) (at' V c t) acc (ix2 r l) : EReal)
      = acc (ix2 r l) + ∑ q ∈ range 2000, (if r.val = S (50000 + (2000 * t.val + q)) then W (50000 + (2000 * t.val + q)) else 0) := fun t acc => by
    have ht : t.val < 25 := t.isLt
    rw [mlpD_row, ← Fin.sum_univ_eq_sum_range (fun q => if r.val = S (50000 + (2000 * t.val + q)) then W (50000 + (2000 * t.val + q)) else 0)]
    congr 1
    refine Finset.sum_congr rfl fun q _ => ?_
    have hq : q.val < 2000 := q.isLt
    have h : (t.val + 25) * 2000 + q.val < 100000 := by omega
    have e : (t.val + 25) * 2000 + q.val = 50000 + (2000 * t.val + q.val) := by omega
    have h1 := at_at V c t q h
    have h2 := sg_at V c t q (by omega)
    rw [hW] at h1
    have h3 := hS ⟨t.val + 25, by omega⟩ q
    rw [h1, h2, h3]
    show (if r.val = S ((t.val + 25) * 2000 + q.val) then W ((t.val + 25) * 2000 + q.val) else 0) = _
    rw [e]
  intro k
  induction k with
  | zero =>
    intro hk
    have h := step ⟨0, hk⟩ zD
    have hz : (zD (F := Ideal) (ix2 r l) : EReal) = 0 := Ideal.ofBits_zero_f32
    rw [hz, zero_add] at h
    simp only [Nat.mul_zero, Nat.zero_add] at h
    exact h
  | succ k ih =>
    intro hk
    have h := step ⟨k + 1, hk⟩ (den V c k (Nat.lt_of_succ_lt hk))
    rw [ih] at h
    rw [Nat.mul_succ 2000 (k + 1), SumA.sum_range_add']
    exact h

theorem d_eq (hW : ∀ k, wt V c k = W k.val) (hS : ∀ (t : Fin 50) (q : Fin 2000), (V c main_v7 (ix3 t 0 q)).toNat = S (t.val * 2000 + q.val)) :
    (dat V n b c).arrAt 9 cfg2.N = fun j => ∑ q ∈ range 50000, (if (j 0).val = S (50000 + q) then W (50000 + q) else 0) := by
  refine (dat V n b c).arrAt_eq_of_after_last 9 ⟨24, by decide⟩ (by decide +kernel) _ fun j => ?_
  have e := den_at V c W S hW hS (j 0) (j 1) 24 (by decide)
  rw [after_9]
  exact (show _ = (den V c 24 (by decide) (ix2 (j 0) (j 1)) : EReal) from congrArg (den V c 24 (by decide)) (eq_ix2 j)).trans e

end Cert.Proof.ABlk2
end
-- ==== Proof.ABlk4.lean ====
/-
  The last pipeline's blocks, read in the arrays; its result as a function of the arrays.
-/
module
public import proofs.«01_k».proof.Proof.Reg4
public import proofs.«01_k».proof.Proof.SumA
public import Idealize.ShloMosaic.Lib.Pointwise
public import Idealize.ShloMosaic.Lib.Pipeline.ValueKit
@[expose] public section
noncomputable section
namespace Cert.Proof.ABlk4
open Cert.KernelIdeal Cert.KernelIdeal.Gen Cert.Proof.Sc Cert.Proof.Vals Cert.Proof.Reg4
open Idealize.ShloMosaic Idealize.ShloMosaic.TcCoe
open Finset (range)

theorem finA_at (p q : FVec Ideal S1x256x512 .f32) (acc : FVec Ideal S256x512 .f32) (r : Fin 256) (l : Fin 512) :
    (finA p q acc (ix2 r l) : EReal) = acc (ix2 r l) + (p (ix3 0 r l) + q (ix3 0 r l)) := by
  unfold finA
  pointwise

theorem col0_at (d : FVec Ideal S256x128 .f32) (r : Fin 256) (o : Fin 1) : col0 d (ix2 r o) = d (ix2 r 0) := by
  unfold col0
  refine congrArg d (funext fun a => Fin.ext ?_)
  rw [Rect.emb_apply]
  match a with
  | ⟨0, _⟩ => show 0 + 1 * r.val = r.val; omega
  | ⟨1, _⟩ => show 0 + 1 * o.val = 0; omega

theorem finO_at (d e : FVec Ideal S256x128 .f32) (acc : FVec Ideal S256x512 .f32) (r : Fin 256) (l : Fin 512) :
    (finO d e acc (ix2 r l) : EReal) = Ideal.div (acc (ix2 r l)) ((d (ix2 r 0) : EReal) + e (ix2 r 0)) := by
  unfold finO
  pointwise
  rw [col0_at, col0_at]

variable (V : Vals Ideal) (n b : ℕ) (c : Dev nD)

theorem ix : ∀ t : Fin grid4.N, win4_0.index t = ![t.val, 0, 0] ∧ win4_1.index t = ![t.val, 0, 0] ∧ win4_2.index t = ![0, 0] ∧ win4_3.index t = ![0, 0] ∧ win4_4.index t = ![0, 0] := by
  decide +kernel

theorem ps_at (t : Fin cfg4.N) (r : Fin 256) (l : Fin 512) (h : t.val < 16) : ps V c t (ix3 0 r l) = V c main_v6 (ix3 ⟨t.val, h⟩ r l) := by
  blk_ext! [ps, ix t]
theorem rs_at (t : Fin cfg4.N) (r : Fin 256) (l : Fin 512) (h : t.val < 16) : rs V c t (ix3 0 r l) = V c main_v13 (ix3 ⟨t.val, h⟩ r l) := by
  blk_ext! [rs, ix t]
theorem da_eq (t : Fin cfg4.N) : da V c t = V c main_v5_1 := by blk_ext! [da, ix t]
theorem db_eq (t : Fin cfg4.N) : db V c t = V c main_v12_1 := by blk_ext! [db, ix t]

variable (P Q : ℕ → ℕ → ℕ → EReal)

theorem acc_at (hP : ∀ (s : Fin 16) (r : Fin 256) (l : Fin 512), V c main_v6 (ix3 s r l) = P s.val r.val l.val)
    (hQ : ∀ (s : Fin 16) (r : Fin 256) (l : Fin 512), V c main_v13 (ix3 s r l) = Q s.val r.val l.val) (r : Fin 256) (l : Fin 512) :
    ∀ (k : ℕ) (hk : k < cfg4.N), (acc V c k hk (ix2 r l) : EReal) = ∑ s ∈ range (k + 1), (P s r.val l.val + Q s r.val l.val) := by
  have step : ∀ (t : Fin cfg4.N) (a : FVec Ideal S256x512 .f32), (finA (ps V c t) (rs V c t) a (ix2 r l) : EReal) = a (ix2 r l) + (P t.val r.val l.val + Q t.val r.val l.val) := fun t a => by
    have ht : t.val < 16 := t.isLt
    have h1 := ps_at V c t r l ht
    have h2 := rs_at V c t r l ht
    rw [hP] at h1
    rw [hQ] at h2
    rw [finA_at, h1, h2]
  intro k
  induction k with
  | zero =>
    intro hk
    have h := step ⟨0, hk⟩ zO
    have hz : (zO (F := Ideal) (ix2 r l) : EReal) = 0 := Ideal.ofBits_zero_f32
    rw [hz, zero_add] at h
    rw [Finset.sum_range_one]
    exact h
  | succ k ih =>
    intro hk
    have h := step ⟨k + 1, hk⟩ (acc V c k (Nat.lt_of_succ_lt hk))
    rw [ih] at h
    rw [Finset.sum_range_succ _ (k + 1)]
    exact h

theorem fin_at (hP : ∀ (s : Fin 16) (r : Fin 256) (l : Fin 512), V c main_v6 (ix3 s r l) = P s.val r.val l.val)
    (hQ : ∀ (s : Fin 16) (r : Fin 256) (l : Fin 512), V c main_v13 (ix3 s r l) = Q s.val r.val l.val)
    (D E : ℕ → EReal) (hD : ∀ r : Fin 256, V c main_v5_1 (ix2 r 0) = D r.val) (hE : ∀ r : Fin 256, V c main_v12_1 (ix2 r 0) = E r.val)
    (t : Fin cfg4.N) (hk : 15 < cfg4.N) (r : Fin 256) (l : Fin 512) :
    (finO (da V c t) (db V c t) (acc V c 15 hk) (ix2 r l) : EReal) = Ideal.div (∑ s ∈ range 16, (P s r.val l.val + Q s r.val l.val)) (D r.val + E r.val) := by
  rw [finO_at, acc_at V c P Q hP hQ r l 15, da_eq, db_eq]
  have h1 := hD r
  have h2 := hE r
  rw [h1, h2]

theorem o_eq (hP : ∀ (s : Fin 16) (r : Fin 256) (l : Fin 512), V c main_v6 (ix3 s r l) = P s.val r.val l.val)
    (hQ : ∀ (s : Fin 16) (r : Fin 256) (l : Fin 512), V c main_v13 (ix3 s r l) = Q s.val r.val l.val)
    (D E : ℕ → EReal) (hD : ∀ r : Fin 256, V c main_v5_1 (ix2 r 0) = D r.val) (hE : ∀ r : Fin 256, V c main_v12_1 (ix2 r 0) = E r.val) :
    (dat V n b c).arrAt 4 cfg4.N = fun j => Ideal.div (∑ s ∈ range 16, (P s (j 0).val (j 1).val + Q s (j 0).val (j 1).val)) (D (j 0).val + E (j 0).val) := by
  refine (dat V n b c).arrAt_eq_of_after_last 4 ⟨15, by decide⟩ (by decide +kernel) _ fun j => ?_
  have e := fin_at V c P Q hP hQ D E hD hE ⟨15, by decide⟩ (by decide) (j 0) (j 1)
  rw [after_4]
  exact (show _ = (finO (da V c ⟨15, by decide⟩) (db V c ⟨15, by decide⟩) (acc V c 15 (by decide)) (ix2 (j 0) (j 1)) : EReal) from
    congrArg (finO (da V c ⟨15, by decide⟩) (db V c ⟨15, by decide⟩) (acc V c 15 (by decide))) (eq_ix2 j)).trans e

end Cert.Proof.ABlk4
end
-- ==== Proof.ARef.lean ====
/-
  The reference's sums by segment, read at an index.
-/
module
public import proofs.«01_k».proof.Proof.RowW
public import Idealize.ShloMosaic.Lib.Routing.OpsPair
@[expose] public section
noncomputable section
namespace Cert.Proof.ARef
open Idealize.ShloMosaic Idealize.ShloMosaic.Routing

/-- Row `n` of the updates, column `b`, lands at row `r`, column `c`, when the index word is `r` and the columns are one. -/
theorem lands_row {R N W : Nat} (d : ScatterDims (shape2 R W) (shape2 N 1) (shape2 N W)) (huw : d.updateWindowDims = [1]) (hiw : d.insertedWindowDims = [0])
    (hsd : d.scatterDimsToOperandDims = [0]) (hivd : d.indexVectorDim = 1) (idx : IVec (shape2 N 1) 32) (n : Fin N) (b : Fin W) (r : Fin R) (c : Fin W) :
    d.resultIdx? (ix2 n b) idx = some (ix2 r c) ↔ (idx (ix2 n (0 : Fin 1))).toInt = (r.val : Int) ∧ b = c := by
  have hm : (0 : Fin 2) ∈ d.scatterDimsToOperandDims := by rw [hsd]; exact List.mem_singleton.2 rfl
  have hkept : d.sKept = [1] := by
    show (shape2 R W).kept d.insertedWindowDims = _
    rw [hiw]; rfl
  have hk : d.siKept = [0] := by
    show (List.finRange 2).filter (fun x => decide (x.val ≠ d.indexVectorDim)) = _
    rw [hivd]; rfl
  have hu : d.uScatter = [0] := by
    show (shape2 N W).kept d.updateWindowDims = _
    rw [huw]; rfl
  have e : ∀ (l : List (Fin 2)) (n : ℕ) (h : n < l.length) (m : Fin 2), l = [m] → l[n]'h = m := by
    intro l n h m hl
    subst hl
    have : n = 0 := Nat.lt_one_iff.mp h
    subst this; rfl
  have hwin0 : d.window (ix2 n b) 0 = 0 := by
    unfold ScatterDims.window
    rw [dif_neg fun h => (of_decide_eq_true (List.mem_filter.1 h).2) (by rw [hiw]; exact List.mem_singleton.2 rfl)]
  have hwin1 : d.window (ix2 n b) 1 = b.val := by
    unfold ScatterDims.window
    rw [dif_pos (by rw [hkept]; exact List.mem_singleton.2 rfl), e _ _ _ 1 huw]
    rfl
  have hstart1 : d.start (ix2 n b) idx 1 = 0 := by
    unfold ScatterDims.start
    rw [dif_neg fun h => by rw [hsd] at h; exact absurd (List.mem_singleton.1 h) (by decide : (1 : Fin 2) ≠ 0)]
  have hstart0 : d.start (ix2 n b) idx 0 = (idx (ix2 n (0 : Fin 1))).toInt := by
    unfold ScatterDims.start
    rw [dif_pos hm]
    have hsi : d.siIdx (ix2 n b) ⟨d.scatterDimsToOperandDims.idxOf 0, List.idxOf_lt_length_iff.2 hm⟩ = ix2 n (0 : Fin 1) := by
      funext b'
      match b' with
      | ⟨0, _⟩ =>
        apply Fin.ext
        unfold ScatterDims.siIdx
        rw [dif_neg (by rw [hivd]; exact Nat.zero_ne_one)]
        unfold ScatterDims.siCoord
        simp only [Fin.val_cast]
        rw [e _ _ _ 0 hu]
        rfl
      | ⟨1, _⟩ => exact Subsingleton.elim (α := Fin 1) _ _
    rw [hsi]
  have key : d.resultIdx? (ix2 n b) idx = some (ix2 r c)
      ↔ d.start (ix2 n b) idx 0 + (d.window (ix2 n b) 0 : Int) = (r.val : Int) ∧ d.start (ix2 n b) idx 1 + (d.window (ix2 n b) 1 : Int) = (c.val : Int) := by
    rw [resultIdx?_eq_some]
    exact ⟨fun h => ⟨h 0, h 1⟩, fun h a => match a with
      | ⟨0, _⟩ => h.1
      | ⟨1, _⟩ => h.2⟩
  rw [key, hstart0, hwin0, hstart1, hwin1, Fin.ext_iff]
  omega

theorem scatter_row {R N W : Nat} (d : ScatterDims (shape2 R W) (shape2 N 1) (shape2 N W)) (huw : d.updateWindowDims = [1]) (hiw : d.insertedWindowDims = [0])
    (hsd : d.scatterDimsToOperandDims = [0]) (hivd : d.indexVectorDim = 1) (x : FVec Ideal (shape2 R W) .f32) (idx : IVec (shape2 N 1) 32) (upd : FVec Ideal (shape2 N W) .f32)
    (r : Fin R) (c : Fin W) :
    (Ideal.hostScatterAdd d x idx upd (ix2 r c) : EReal) = x (ix2 r c) + ∑ n : Fin N, (if (idx (ix2 n (0 : Fin 1))).toInt = (r.val : Int) then (upd (ix2 n c) : EReal) else 0) := by
  show (x (ix2 r c) : EReal) + ∑ j ∈ Finset.univ.filter (fun j => d.resultIdx? j idx = some (ix2 r c)), upd j = _
  congr 1
  rw [Finset.sum_filter, sum_idx2]
  refine Finset.sum_congr rfl fun n _ => ?_
  simp only [lands_row d huw hiw hsd hivd]
  by_cases h : (idx (ix2 n (0 : Fin 1))).toInt = (r.val : Int)
  · simp only [h, true_and, if_true]
    rw [Finset.sum_ite_eq']
    simp
  · simp only [h, false_and, if_false, Finset.sum_const_zero]

open Cert.ReferenceIdeal Cert.ReferenceIdeal.Gen RowW in
theorem refOut_at (x : FVec Ideal S100000x512 .f32) (sg : IVec S100000 32) (hs : ∀ n : Fin 100000, (sg (ix1 n)).toNat < 256) (a : FVec Ideal S100000x1 .f32) (r : Fin 256) (c : Fin 512) :
    refOut x sg a (ix2 r c) = Ideal.div (∑ n : Fin 100000, (if r.val = (sg (ix1 n)).toNat then (x (ix2 n c) * a (ix2 n 0) : EReal) else 0))
      (∑ n : Fin 100000, (if r.val = (sg (ix1 n)).toNat then (a (ix2 n 0) : EReal) else 0)) := by
  have hi : ∀ n : Fin 100000, ((sg (ix1 n)).toInt = (r.val : Int)) = (r.val = (sg (ix1 n)).toNat) := fun n => by
    have h := hs n
    rw [BitVec.toInt_eq_toNat_of_lt (by omega)]
    exact propext ⟨fun h => by omega, fun h => by omega⟩
  unfold refOut
  pointwise
  simp only [Host.scatterAdd, Ideal.hostScatterAdd_def]
  rw [scatter_row scatter_S256x512_S100000x1_S100000x512_1_0_0_1 rfl rfl rfl rfl, scatter_row scatter_S256x1_S100000x1_S100000x1_1_0_0_1 rfl rfl rfl rfl]
  pointwise
  simp only [hi]
end Cert.Proof.ARef
end
-- ==== Proof.Algebra.lean ====
/-
  The kernel's result and the reference's over the extended reals: both are the sums of the weighted rows by segment over the sums of the weights.
-/
module
public import proofs.«01_k».proof.Proof.Mem
public import proofs.«01_k».proof.Proof.ABlk0
public import proofs.«01_k».proof.Proof.ABlk2
public import proofs.«01_k».proof.Proof.ABlk4
public import proofs.«01_k».proof.Proof.ARef
@[expose] public section
noncomputable section
namespace Cert.Proof.Algebra
open Cert.KernelIdeal Cert.KernelIdeal.Gen Cert.Proof.Rows Cert.Proof.Sc Cert.Proof.Mem Cert.Proof.RowW Cert.Proof.SumA
open Idealize.ShloMosaic Idealize.ShloMosaic.TcCoe
open Finset (range)

/-! ## The reshapes, read at an index -/

section Host
variable (W : Valuation τ sig (Elt Ideal))

theorem h1_0 (t : Fin 50) (q : Fin 2000) (h : t.val * 2000 + q.val < 100000) :
    (host1 W (Proc.devRef .tc main_v0) : IVec S50x1x2000 32) (ix3 t 0 q) = (W (Proc.devRef .tc main_arg1) : IVec S100000 32) (ix1 ⟨t.val * 2000 + q.val, h⟩) := by
  unfold host1
  rw [StableHlo.reshape_result_ne (h := (by decide : main_v0 ≠ main_v4)), StableHlo.reshape_result_ne (h := (by decide : main_v0 ≠ main_v3)),
    StableHlo.reshape_result_ne (h := (by decide : main_v0 ≠ main_v2)), StableHlo.reshape_result_ne (h := (by decide : main_v0 ≠ main_v1)), StableHlo.reshape_result]
  show shapeCast S50x1x2000 (W (Proc.devRef .tc main_arg1) : IVec S100000 32) shapeCasts_S100000_S50x1x2000 (ix3 t 0 q) = _
  pointwise
theorem h1_1 (l : Fin 256) : (host1 W (Proc.devRef .tc main_v1) : FVec Ideal S1x256 .f32) (ix2 0 l) = (W (Proc.devRef .tc main_arg3) : FVec Ideal S256 .f32) (ix1 l) := by
  unfold host1
  rw [StableHlo.reshape_result_ne (h := (by decide : main_v1 ≠ main_v4)), StableHlo.reshape_result_ne (h := (by decide : main_v1 ≠ main_v3)),
    StableHlo.reshape_result_ne (h := (by decide : main_v1 ≠ main_v2)), StableHlo.reshape_result, StableHlo.reshape_result_ne (h := (by decide : main_arg3 ≠ main_v0))]
  show shapeCast S1x256 (W (Proc.devRef .tc main_arg3) : FVec Ideal S256 .f32) shapeCasts_S256_S1x256 (ix2 0 l) = _
  pointwise
theorem h1_2 (l : Fin 128) : (host1 W (Proc.devRef .tc main_v2) : FVec Ideal S1x128 .f32) (ix2 0 l) = (W (Proc.devRef .tc main_arg5) : FVec Ideal S128 .f32) (ix1 l) := by
  unfold host1
  rw [StableHlo.reshape_result_ne (h := (by decide : main_v2 ≠ main_v4)), StableHlo.reshape_result_ne (h := (by decide : main_v2 ≠ main_v3)),
    StableHlo.reshape_result, StableHlo.reshape_result_ne (h := (by decide : main_arg5 ≠ main_v1)), StableHlo.reshape_result_ne (h := (by decide : main_arg5 ≠ main_v0))]
  show shapeCast S1x128 (W (Proc.devRef .tc main_arg5) : FVec Ideal S128 .f32) shapeCasts_S128_S1x128 (ix2 0 l) = _
  pointwise
theorem h1_3 (l : Fin 128) : (host1 W (Proc.devRef .tc main_v3) : FVec Ideal S1x128 .f32) (ix2 0 l) = (W (Proc.devRef .tc main_arg6) : FVec Ideal S128x1 .f32) (ix2 l 0) := by
  unfold host1
  rw [StableHlo.reshape_result_ne (h := (by decide : main_v3 ≠ main_v4)),
    StableHlo.reshape_result, StableHlo.reshape_result_ne (h := (by decide : main_arg6 ≠ main_v2)), StableHlo.reshape_result_ne (h := (by decide : main_arg6 ≠ main_v1)),
    StableHlo.reshape_result_ne (h := (by decide : main_arg6 ≠ main_v0))]
  show shapeCast S1x128 (W (Proc.devRef .tc main_arg6) : FVec Ideal S128x1 .f32) shapeCasts_S128x1_S1x128 (ix2 0 l) = _
  pointwise
theorem h1_4 : (host1 W (Proc.devRef .tc main_v4) : FVec Ideal S1x1 .f32) (ix2 0 0) = (W (Proc.devRef .tc main_arg7) : FVec Ideal S1 .f32) (ix1 0) := by
  unfold host1
  rw [StableHlo.reshape_result, StableHlo.reshape_result_ne (h := (by decide : main_arg7 ≠ main_v3)), StableHlo.reshape_result_ne (h := (by decide : main_arg7 ≠ main_v2)),
    StableHlo.reshape_result_ne (h := (by decide : main_arg7 ≠ main_v1)), StableHlo.reshape_result_ne (h := (by decide : main_arg7 ≠ main_v0))]
  show shapeCast S1x1 (W (Proc.devRef .tc main_arg7) : FVec Ideal S1 .f32) shapeCasts_S1_S1x1 (ix2 0 0) = _
  pointwise

theorem h2_0 (t : Fin 50) (q : Fin 2000) (h : t.val * 2000 + q.val < 100000) :
    (host2 W (Proc.devRef .tc main_v7) : IVec S50x1x2000 32) (ix3 t 0 q) = (W (Proc.devRef .tc main_arg1) : IVec S100000 32) (ix1 ⟨t.val * 2000 + q.val, h⟩) := by
  unfold host2
  rw [StableHlo.reshape_result_ne (h := (by decide : main_v7 ≠ main_v11)), StableHlo.reshape_result_ne (h := (by decide : main_v7 ≠ main_v10)),
    StableHlo.reshape_result_ne (h := (by decide : main_v7 ≠ main_v9)), StableHlo.reshape_result_ne (h := (by decide : main_v7 ≠ main_v8)), StableHlo.reshape_result]
  show shapeCast S50x1x2000 (W (Proc.devRef .tc main_arg1) : IVec S100000 32) shapeCasts_S100000_S50x1x2000 (ix3 t 0 q) = _
  pointwise
theorem h2_1 (l : Fin 256) : (host2 W (Proc.devRef .tc main_v8) : FVec Ideal S1x256 .f32) (ix2 0 l) = (W (Proc.devRef .tc main_arg3) : FVec Ideal S256 .f32) (ix1 l) := by
  unfold host2
  rw [StableHlo.reshape_result_ne (h := (by decide : main_v8 ≠ main_v11)), StableHlo.reshape_result_ne (h := (by decide : main_v8 ≠ main_v10)),
    StableHlo.reshape_result_ne (h := (by decide : main_v8 ≠ main_v9)), StableHlo.reshape_result, StableHlo.reshape_result_ne (h := (by decide : main_arg3 ≠ main_v7))]
  show shapeCast S1x256 (W (Proc.devRef .tc main_arg3) : FVec Ideal S256 .f32) shapeCasts_S256_S1x256 (ix2 0 l) = _
  pointwise
theorem h2_2 (l : Fin 128) : (host2 W (Proc.devRef .tc main_v9) : FVec Ideal S1x128 .f32) (ix2 0 l) = (W (Proc.devRef .tc main_arg5) : FVec Ideal S128 .f32) (ix1 l) := by
  unfold host2
  rw [StableHlo.reshape_result_ne (h := (by decide : main_v9 ≠ main_v11)), StableHlo.reshape_result_ne (h := (by decide : main_v9 ≠ main_v10)),
    StableHlo.reshape_result, StableHlo.reshape_result_ne (h := (by decide : main_arg5 ≠ main_v8)), StableHlo.reshape_result_ne (h := (by decide : main_arg5 ≠ main_v7))]
  show shapeCast S1x128 (W (Proc.devRef .tc main_arg5) : FVec Ideal S128 .f32) shapeCasts_S128_S1x128 (ix2 0 l) = _
  pointwise
theorem h2_3 (l : Fin 128) : (host2 W (Proc.devRef .tc main_v10) : FVec Ideal S1x128 .f32) (ix2 0 l) = (W (Proc.devRef .tc main_arg6) : FVec Ideal S128x1 .f32) (ix2 l 0) := by
  unfold host2
  rw [StableHlo.reshape_result_ne (h := (by decide : main_v10 ≠ main_v11)),
    StableHlo.reshape_result, StableHlo.reshape_result_ne (h := (by decide : main_arg6 ≠ main_v9)), StableHlo.reshape_result_ne (h := (by decide : main_arg6 ≠ main_v8)),
    StableHlo.reshape_result_ne (h := (by decide : main_arg6 ≠ main_v7))]
  show shapeCast S1x128 (W (Proc.devRef .tc main_arg6) : FVec Ideal S128x1 .f32) shapeCasts_S128x1_S1x128 (ix2 0 l) = _
  pointwise
theorem h2_4 : (host2 W (Proc.devRef .tc main_v11) : FVec Ideal S1x1 .f32) (ix2 0 0) = (W (Proc.devRef .tc main_arg7) : FVec Ideal S1 .f32) (ix1 0) := by
  unfold host2
  rw [StableHlo.reshape_result, StableHlo.reshape_result_ne (h := (by decide : main_arg7 ≠ main_v10)), StableHlo.reshape_result_ne (h := (by decide : main_arg7 ≠ main_v9)),
    StableHlo.reshape_result_ne (h := (by decide : main_arg7 ≠ main_v8)), StableHlo.reshape_result_ne (h := (by decide : main_arg7 ≠ main_v7))]
  show shapeCast S1x1 (W (Proc.devRef .tc main_arg7) : FVec Ideal S1 .f32) shapeCasts_S1_S1x1 (ix2 0 0) = _
  pointwise
end Host

/-! ## The arguments by row -/

variable (m : (ℓ : Loc nD τ sig) → Buf (Elt Ideal) ℓ) (d : Dev nD)

abbrev ax : FVec Ideal S100000x512 .f32 := m (d, Proc.devRef .tc main_arg0)
abbrev asg : IVec S100000 32 := m (d, Proc.devRef .tc main_arg1)
abbrev aw1 : FVec Ideal S512x256 .f32 := m (d, Proc.devRef .tc main_arg2)
abbrev ab1 : FVec Ideal S256 .f32 := m (d, Proc.devRef .tc main_arg3)
abbrev aw2 : FVec Ideal S256x128 .f32 := m (d, Proc.devRef .tc main_arg4)
abbrev ab2 : FVec Ideal S128 .f32 := m (d, Proc.devRef .tc main_arg5)
abbrev aw3 : FVec Ideal S128x1 .f32 := m (d, Proc.devRef .tc main_arg6)
abbrev ab3 : FVec Ideal S1 .f32 := m (d, Proc.devRef .tc main_arg7)

/-- The weight of row `k`. -/
def wRow (k : Fin 100000) : EReal :=
  rowW (fun i => ax m d (ix2 k i)) (fun i l => aw1 m d (ix2 i l)) (fun l => ab1 m d (ix1 l)) (fun l k => aw2 m d (ix2 l k)) (fun k => ab2 m d (ix1 k))
    (fun k => aw3 m d (ix2 k 0)) (ab3 m d (ix1 0))
/-- The rows, their weights and their segments, by number. -/
def XN (n i : ℕ) : EReal := if h : n < 100000 ∧ i < 512 then ax m d (ix2 ⟨n, h.1⟩ ⟨i, h.2⟩) else 0
def WN (n : ℕ) : EReal := if h : n < 100000 then wRow m d ⟨n, h⟩ else 0
def SN (n : ℕ) : ℕ := if h : n < 100000 then (asg m d (ix1 ⟨n, h⟩)).toNat else 0

theorem XN_at (k : Fin 100000) (i : Fin 512) : XN m d k.val i.val = ax m d (ix2 k i) := dif_pos ⟨k.isLt, i.isLt⟩
theorem WN_at (k : Fin 100000) : WN m d k.val = wRow m d k := dif_pos k.isLt
theorem SN_at (k : Fin 100000) : SN m d k.val = (asg m d (ix1 k)).toNat := dif_pos k.isLt

/-- What row `q` adds to segment `r`'s sum in column `l`. -/
def num (r l q : ℕ) : EReal := if r = SN m d q then XN m d q l * WN m d q else 0
/-- What row `q` adds to segment `r`'s weight. -/
def wei (r q : ℕ) : EReal := if r = SN m d q then WN m d q else 0

/-! ## The first half -/

theorem arg1 {r : Ref sig .tc} (h : ∀ x ∈ [main_v0, main_v1, main_v2, main_v3, main_v4], r ≠ x) : W1 m d (Proc.devRef .tc r) = m (d, Proc.devRef .tc r) :=
  host1_ne _ (h _ (by simp)) (h _ (by simp)) (h _ (by simp)) (h _ (by simp)) (h _ (by simp))

theorem wt1 (k : Fin 100000) : ABlk0.wt (refs (W1 m)) d k = WN m d k.val := by
  rw [WN_at]
  have e0 : (refs (W1 m) d main_arg0) = ax m d := arg1 m d (by decide)
  have e2 : (refs (W1 m) d main_arg2) = aw1 m d := arg1 m d (by decide)
  have e4 : (refs (W1 m) d main_arg4) = aw2 m d := arg1 m d (by decide)
  have e1 : ∀ l : Fin 256, (refs (W1 m) d main_v1 : FVec Ideal S1x256 .f32) (ix2 0 l) = ab1 m d (ix1 l) := fun l => h1_1 (W0 m d) l
  have e3 : ∀ l : Fin 128, (refs (W1 m) d main_v2 : FVec Ideal S1x128 .f32) (ix2 0 l) = ab2 m d (ix1 l) := fun l => h1_2 (W0 m d) l
  have e5 : ∀ l : Fin 128, (refs (W1 m) d main_v3 : FVec Ideal S1x128 .f32) (ix2 0 l) = aw3 m d (ix2 l 0) := fun l => h1_3 (W0 m d) l
  have e6 : (refs (W1 m) d main_v4 : FVec Ideal S1x1 .f32) (ix2 0 0) = ab3 m d (ix1 0) := h1_4 (W0 m d)
  unfold ABlk0.wt wRow
  rw [e0, e2, e4, e6, funext e1, funext e3, funext e5]

theorem seg1 (t : Fin 50) (q : Fin 2000) : ((refs (W1 m) d main_v0 : IVec S50x1x2000 32) (ix3 t 0 q)).toNat = SN m d (t.val * 2000 + q.val) := by
  have ht := t.isLt
  have hq := q.isLt
  have h : t.val * 2000 + q.val < 100000 := by omega
  have e : (refs (W1 m) d main_v0 : IVec S50x1x2000 32) (ix3 t 0 q) = asg m d (ix1 ⟨t.val * 2000 + q.val, h⟩) := h1_0 (W0 m d) t q h
  rw [e]
  exact (SN_at m d ⟨t.val * 2000 + q.val, h⟩).symm

theorem y1 : W2 m d (Proc.devRef .tc main_v5_0) = fun j : S50000x512.Idx => XN m d (j 0).val (j 1).val * WN m d (j 0).val := by
  have h : W2 m d (Proc.devRef .tc main_v5_0) = (Reg0.dat (refs (W1 m)) 0 (lo 0) d).arrAt 8 cfg0.N := (upd_ne _ _ _ (by decide)).trans (upd_self ..)
  rw [h]
  refine ABlk0.y_eq (refs (W1 m)) 0 (lo 0) d (XN m d) (WN m d) (fun k i => ?_) (wt1 m d)
  rw [XN_at]
  exact congrFun (arg1 m d (r := main_arg0) (by decide)) (ix2 k i)

theorem d1 : W2 m d (Proc.devRef .tc main_v5_1) = fun j : S256x128.Idx => ∑ q ∈ range 50000, wei m d (j 0).val q := by
  have h : W2 m d (Proc.devRef .tc main_v5_1) = (Reg0.dat (refs (W1 m)) 0 (lo 0) d).arrAt 9 cfg0.N := upd_self ..
  rw [h]
  exact ABlk0.d_eq (refs (W1 m)) 0 (lo 0) d (WN m d) (SN m d) (wt1 m d) (seg1 m d)

theorem len_le {s q : ℕ} (hs : s < 16) (hq : q < len s) : 3136 * s + q < 50000 := by
  unfold len nFull nTail at hq
  split at hq <;> omega

theorem seg_at1 (s : S100000.Idx → BitVec 32) (k : ℕ) (h : k < 100000) : Tw1.segOf s k = s (ix1 ⟨k, h⟩) := (congrFun (Tw1.segOf_eq s) (ix1 ⟨k, h⟩)).symm
theorem row_at1 (y : S50000x512.Idx → Ideal .f32) (k l : ℕ) (h : k < 50000) (hl : l < 512) : Tw1.rowsOf y k l = y (ix2 ⟨k, h⟩ ⟨l, hl⟩) :=
  (congrFun (Tw1.rowsOf_eq y) (ix2 ⟨k, h⟩ ⟨l, hl⟩)).symm

theorem p1 (s : Fin 16) (r : Fin 256) (l : Fin 512) :
    (W3 m d (Proc.devRef .tc main_v6) : FVec Ideal S16x256x512 .f32) (ix3 s r l) = ∑ q ∈ range (len s.val), num m d r.val l.val (3136 * s.val + q) := by
  have h : W3 m d (Proc.devRef .tc main_v6) = Tw1.part (F := Ideal) (W2 m d (Proc.devRef .tc main_v5_0)) (W2 m d (Proc.devRef .tc main_arg1)) := upd_self ..
  have es : W2 m d (Proc.devRef .tc main_arg1) = asg m d := W2_ne m d (by decide)
  rw [h, es, y1]
  refine (part1_sum _ _ (ix3 s r l)).trans (Finset.sum_congr rfl fun q hq => ?_)
  have hb := len_le s.isLt (Finset.mem_range.mp hq)
  have e1 : (Tw1.segOf (asg m d) (0 + (3136 * s.val + q))).toNat = SN m d (3136 * s.val + q) := by
    rw [Nat.zero_add, seg_at1 _ _ (by omega)]
    exact (SN_at m d ⟨3136 * s.val + q, by omega⟩).symm
  have e2 := row_at1 (fun j : S50000x512.Idx => XN m d (j 0).val (j 1).val * WN m d (j 0).val) (3136 * s.val + q) l.val hb l.isLt
  unfold num
  rw [← e1]
  exact congrArg (fun v : EReal => if r.val = (Tw1.segOf (asg m d) (0 + (3136 * s.val + q))).toNat then v else 0) e2

/-! ## The second half -/

theorem arg4 {r : Ref sig .tc} (h : ∀ x ∈ [main_v0, main_v1, main_v2, main_v3, main_v4, main_v5_0, main_v5_1, main_v6, main_v7, main_v8, main_v9, main_v10, main_v11], r ≠ x) :
    W3 m d (Proc.devRef .tc r) = m (d, Proc.devRef .tc r) :=
  (upd_ne _ _ _ (h _ (by simp))).trans (W2_ne m d fun x hx => h x (by simp only [List.mem_cons, List.not_mem_nil, or_false] at hx ⊢; tauto))
theorem arg4' {r : Ref sig .tc} (h : ∀ x ∈ [main_v0, main_v1, main_v2, main_v3, main_v4, main_v5_0, main_v5_1, main_v6, main_v7, main_v8, main_v9, main_v10, main_v11], r ≠ x) :
    W4 m d (Proc.devRef .tc r) = m (d, Proc.devRef .tc r) :=
  (host2_ne _ (h _ (by simp)) (h _ (by simp)) (h _ (by simp)) (h _ (by simp)) (h _ (by simp))).trans (arg4 m d h)

theorem wt2 (k : Fin 100000) : ABlk2.wt (refs (W4 m)) d k = WN m d k.val := by
  rw [WN_at]
  have e0 : (refs (W4 m) d main_arg0) = ax m d := arg4' m d (by decide)
  have e2 : (refs (W4 m) d main_arg2) = aw1 m d := arg4' m d (by decide)
  have e4 : (refs (W4 m) d main_arg4) = aw2 m d := arg4' m d (by decide)
  have e1 : ∀ l : Fin 256, (refs (W4 m) d main_v8 : FVec Ideal S1x256 .f32) (ix2 0 l) = ab1 m d (ix1 l) := fun l => (h2_1 (W3 m d) l).trans (congrFun (arg4 m d (r := main_arg3) (by decide)) _)
  have e3 : ∀ l : Fin 128, (refs (W4 m) d main_v9 : FVec Ideal S1x128 .f32) (ix2 0 l) = ab2 m d (ix1 l) := fun l => (h2_2 (W3 m d) l).trans (congrFun (arg4 m d (r := main_arg5) (by decide)) _)
  have e5 : ∀ l : Fin 128, (refs (W4 m) d main_v10 : FVec Ideal S1x128 .f32) (ix2 0 l) = aw3 m d (ix2 l 0) := fun l => (h2_3 (W3 m d) l).trans (congrFun (arg4 m d (r := main_arg6) (by decide)) _)
  have e6 : (refs (W4 m) d main_v11 : FVec Ideal S1x1 .f32) (ix2 0 0) = ab3 m d (ix1 0) := (h2_4 (W3 m d)).trans (congrFun (arg4 m d (r := main_arg7) (by decide)) _)
  unfold ABlk2.wt wRow
  rw [e0, e2, e4, e6, funext e1, funext e3, funext e5]

theorem seg2 (t : Fin 50) (q : Fin 2000) : ((refs (W4 m) d main_v7 : IVec S50x1x2000 32) (ix3 t 0 q)).toNat = SN m d (t.val * 2000 + q.val) := by
  have ht := t.isLt
  have hq := q.isLt
  have h : t.val * 2000 + q.val < 100000 := by omega
  have e : (refs (W4 m) d main_v7 : IVec S50x1x2000 32) (ix3 t 0 q) = asg m d (ix1 ⟨t.val * 2000 + q.val, h⟩) := (h2_0 (W3 m d) t q h).trans (congrFun (arg4 m d (r := main_arg1) (by decide)) _)
  rw [e]
  exact (SN_at m d ⟨t.val * 2000 + q.val, h⟩).symm

theorem y2 : W5 m d (Proc.devRef .tc main_v12_0) = fun j : S50000x512.Idx => XN m d (50000 + (j 0).val) (j 1).val * WN m d (50000 + (j 0).val) := by
  have h : W5 m d (Proc.devRef .tc main_v12_0) = (Reg2.dat (refs (W4 m)) 1 (lo 1) d).arrAt 8 cfg2.N := (upd_ne _ _ _ (by decide)).trans (upd_self ..)
  rw [h]
  refine ABlk2.y_eq (refs (W4 m)) 1 (lo 1) d (XN m d) (WN m d) (fun k i => ?_) (wt2 m d)
  rw [XN_at]
  exact congrFun (arg4' m d (r := main_arg0) (by decide)) (ix2 k i)

theorem d2 : W5 m d (Proc.devRef .tc main_v12_1) = fun j : S256x128.Idx => ∑ q ∈ range 50000, wei m d (j 0).val (50000 + q) := by
  have h : W5 m d (Proc.devRef .tc main_v12_1) = (Reg2.dat (refs (W4 m)) 1 (lo 1) d).arrAt 9 cfg2.N := upd_self ..
  rw [h]
  exact ABlk2.d_eq (refs (W4 m)) 1 (lo 1) d (WN m d) (SN m d) (wt2 m d) (seg2 m d)

theorem seg_at3 (s : S100000.Idx → BitVec 32) (k : ℕ) (h : k < 100000) : Tw3.segOf s k = s (ix1 ⟨k, h⟩) := (congrFun (Tw3.segOf_eq s) (ix1 ⟨k, h⟩)).symm
theorem row_at3 (y : S50000x512.Idx → Ideal .f32) (k l : ℕ) (h : k < 50000) (hl : l < 512) : Tw3.rowsOf y k l = y (ix2 ⟨k, h⟩ ⟨l, hl⟩) :=
  (congrFun (Tw3.rowsOf_eq y) (ix2 ⟨k, h⟩ ⟨l, hl⟩)).symm

theorem p2 (s : Fin 16) (r : Fin 256) (l : Fin 512) :
    (W6 m d (Proc.devRef .tc main_v13) : FVec Ideal S16x256x512 .f32) (ix3 s r l) = ∑ q ∈ range (len s.val), num m d r.val l.val (50000 + (3136 * s.val + q)) := by
  have h : W6 m d (Proc.devRef .tc main_v13) = Tw3.part (F := Ideal) (W5 m d (Proc.devRef .tc main_v12_0)) (W5 m d (Proc.devRef .tc main_arg1)) := upd_self ..
  have es : W5 m d (Proc.devRef .tc main_arg1) = asg m d := W5_ne m d (by decide)
  rw [h, es, y2]
  refine (part3_sum _ _ (ix3 s r l)).trans (Finset.sum_congr rfl fun q hq => ?_)
  have hb := len_le s.isLt (Finset.mem_range.mp hq)
  have e1 : (Tw3.segOf (asg m d) (50000 + (3136 * s.val + q))).toNat = SN m d (50000 + (3136 * s.val + q)) := by
    rw [seg_at3 _ _ (by omega)]
    exact (SN_at m d ⟨50000 + (3136 * s.val + q), by omega⟩).symm
  have e2 := row_at3 (fun j : S50000x512.Idx => XN m d (50000 + (j 0).val) (j 1).val * WN m d (50000 + (j 0).val)) (3136 * s.val + q) l.val hb l.isLt
  unfold num
  rw [← e1]
  exact congrArg (fun v : EReal => if r.val = (Tw3.segOf (asg m d) (50000 + (3136 * s.val + q))).toNat then v else 0) e2

/-! ## The result -/

theorem halves (f : ℕ → EReal) : (∑ q ∈ range 50000, f q) + ∑ q ∈ range 50000, f (50000 + q) = ∑ n : Fin 100000, f n.val :=
  (sum_range_add' f 50000 50000).symm.trans (Fin.sum_univ_eq_sum_range f 100000).symm

theorem result (r : Fin 256) (l : Fin 512) : (W7 m d (Proc.devRef .tc main_v14) : FVec Ideal S256x512 .f32) (ix2 r l)
    = Ideal.div (∑ n : Fin 100000, num m d r.val l.val n.val) (∑ n : Fin 100000, wei m d r.val n.val) := by
  have h : W7 m d (Proc.devRef .tc main_v14) = (Reg4.dat (refs (W6 m)) 2 (lo 2) d).arrAt 4 cfg4.N := upd_self ..
  have e6 : ∀ (s : Fin 16) (r : Fin 256) (l : Fin 512), (refs (W6 m) d main_v6 : FVec Ideal S16x256x512 .f32) (ix3 s r l) = ∑ q ∈ range (len s.val), num m d r.val l.val (3136 * s.val + q) := fun s r l => by
    have e : refs (W6 m) d main_v6 = W3 m d (Proc.devRef .tc main_v6) :=
      (upd_ne _ _ _ (by decide)).trans ((upd_ne _ _ _ (by decide)).trans ((upd_ne _ _ _ (by decide)).trans (host2_ne _ (by decide) (by decide) (by decide) (by decide) (by decide))))
    rw [e]; exact p1 m d s r l
  have e13 : ∀ (s : Fin 16) (r : Fin 256) (l : Fin 512), (refs (W6 m) d main_v13 : FVec Ideal S16x256x512 .f32) (ix3 s r l) = ∑ q ∈ range (len s.val), num m d r.val l.val (50000 + (3136 * s.val + q)) := fun s r l => p2 m d s r l
  have e5 : refs (W6 m) d main_v5_1 = W2 m d (Proc.devRef .tc main_v5_1) :=
    (upd_ne _ _ _ (by decide)).trans ((upd_ne _ _ _ (by decide)).trans ((upd_ne _ _ _ (by decide)).trans
      ((host2_ne _ (by decide) (by decide) (by decide) (by decide) (by decide)).trans (upd_ne _ _ _ (by decide)))))
  have e12 : refs (W6 m) d main_v12_1 = W5 m d (Proc.devRef .tc main_v12_1) := upd_ne _ _ _ (by decide)
  have ho := ABlk4.o_eq (refs (W6 m)) 2 (lo 2) d (fun s r l => ∑ q ∈ range (len s), num m d r l (3136 * s + q)) (fun s r l => ∑ q ∈ range (len s), num m d r l (50000 + (3136 * s + q)))
    e6 e13 (fun r => ∑ q ∈ range 50000, wei m d r q) (fun r => ∑ q ∈ range 50000, wei m d r (50000 + q))
    (fun r => congrFun (e5.trans (d1 m d)) (ix2 r 0)) (fun r => congrFun (e12.trans (d2 m d)) (ix2 r 0))
  rw [h, ho]
  show Ideal.div (∑ s ∈ range 16, ((∑ q ∈ range (len s), num m d r.val l.val (3136 * s + q)) + ∑ q ∈ range (len s), num m d r.val l.val (50000 + (3136 * s + q))))
    ((∑ q ∈ range 50000, wei m d r.val q) + ∑ q ∈ range 50000, wei m d r.val (50000 + q)) = _
  rw [Finset.sum_add_distrib, tiles_sum (fun q => num m d r.val l.val q), tiles_sum (fun q => num m d r.val l.val (50000 + q)),
    halves (fun q => num m d r.val l.val q), halves (fun q => wei m d r.val q)]

/-- The kernel's result is the reference's. -/
theorem result_eq (hs : ∀ j, (asg m d j).toNat < 256) :
    W7 m d (Proc.devRef .tc main_v14) = refOut (ax m d) (asg m d) (refA (ax m d) (aw1 m d) (ab1 m d) (aw2 m d) (ab2 m d) (aw3 m d) (ab3 m d)) := by
  funext j
  obtain ⟨r, l, rfl⟩ : ∃ (r : Fin 256) (l : Fin 512), j = ix2 r l := ⟨j 0, j 1, eq_ix2 j⟩
  refine (result m d r l).trans ((ARef.refOut_at _ _ (fun n => hs (ix1 n)) _ r l).trans ?_).symm
  have ha : ∀ n : Fin 100000, (refA (ax m d) (aw1 m d) (ab1 m d) (aw2 m d) (ab2 m d) (aw3 m d) (ab3 m d) (ix2 n 0) : EReal) = wRow m d n := fun n => refA_row _ _ _ _ _ _ _ n 0
  simp only [ha, num, wei, XN_at, WN_at, SN_at]

end Cert.Proof.Algebra
end
-- ==== Proof.Claims.lean ====
/-
  The kernel and the reference, run on the same arguments, leave the same result.
-/
module
public import proofs.«01_k».proof.Proof.Frames
public import proofs.«01_k».proof.Proof.Algebra
@[expose] public section
noncomputable section
namespace Cert.Proof.Claims
open Cert.KernelIdeal Cert.KernelIdeal.Gen Cert.Proof.Mem Cert.Proof.Algebra
open Idealize.ShloMosaic Idealize.ShloMosaic.TcCoe Idealize.SL.Sem

set_option maxHeartbeats 4000000

/-- The reference's run under the precondition, read at its arguments and the counters. -/
theorem frame_reference_pre : Cert.quiescent_ReferenceIdeal_pre_index_in_range := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m g m' g' hpre hargs
  refine ⟨fun c => W7 m c (Proc.devRef .tc main_v14), ?_, ?_⟩
  · exact (θ_run Cert.KernelIdeal.defs _ _).mono (fun r h => h.1) (Frames.run_args (F := Ideal) m g (Frames.ok_ideal m hpre))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7⟩ := hargs c
    rw [h0, h1, h2, h3, h4, h5, h6, h7]
    exact (result_eq m c (fun j => Frames.ok_ideal m hpre c j)).symm

end Cert.Proof.Claims
end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_index_in_range
public import proofs.«01_k».proof.Proof.Frames
public import proofs.«01_k».proof.Proof.FrameK
public import proofs.«01_k».proof.Proof.Claims
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_index_in_range.Gen.facts,
  FrameK.frame_kernel, Frames.frame_kernelIdeal, Frames.frame_reference, Claims.frame_reference_pre, trivial, Claims.algebraic⟩

end Cert.Proof

end
